-- ==== Defs.lean ====
def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_ScanBwdRefIdeal (m : (ℓ : Loc Cert.ScanBwdRefIdeal.nD Cert.ScanBwdRefIdeal.τ Cert.ScanBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_finite_inproj [hPre_finite_inproj : Cert.Pre_finite_inproj.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.2.2 = (fun _ => 1#1)

def Pre_InprojBwdRefIdeal (m : (ℓ : Loc Cert.InprojBwdRefIdeal.nD Cert.InprojBwdRefIdeal.τ Cert.InprojBwdRefIdeal.sig) → Buf (Elt Ideal) ℓ) : Prop :=
  True

def Pre_InprojBwdRefIdeal_finite_inproj [hPre_finite_inproj : Cert.Pre_finite_inproj.Facts] (m : (ℓ : Loc Cert.InprojBwdRefIdeal.nD Cert.InprojBwdRefIdeal.τ Cert.InprojBwdRefIdeal.sig) → Buf (Elt Ideal) ℓ) : Prop :=
  ∀ c : Dev Cert.InprojBwdRefIdeal.nD,
    (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4))).1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4))).2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4))).2.2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4))).2.2.2 = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_finite_fox [hPre_finite_fox : Cert.Pre_finite_fox.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.1 = (fun _ => 1#1)
    ∧ (Cert.Pre_finite_fox.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.2 = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_finite_fox [hPre_finite_fox : Cert.Pre_finite_fox.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.1 = (fun _ => 1#1)
    ∧ (Cert.Pre_finite_fox.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.2 = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_finite_mla [hPre_finite_mla : Cert.Pre_finite_mla.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_finite_mla.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))).1 = (fun _ => 1#1)
    ∧ (Cert.Pre_finite_mla.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))).2.1 = (fun _ => 1#1)
    ∧ (Cert.Pre_finite_mla.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))).2.2.1 = (fun _ => 1#1)
    ∧ (Cert.Pre_finite_mla.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))).2.2.2 = (fun _ => 1#1)

def Pre_MlaBwdRefIdeal (m : (ℓ : Loc Cert.MlaBwdRefIdeal.nD Cert.MlaBwdRefIdeal.τ Cert.MlaBwdRefIdeal.sig) → Buf (Elt Ideal) ℓ) : Prop :=
  True

def Pre_MlaBwdRefIdeal_finite_mla [hPre_finite_mla : Cert.Pre_finite_mla.Facts] (m : (ℓ : Loc Cert.MlaBwdRefIdeal.nD Cert.MlaBwdRefIdeal.τ Cert.MlaBwdRefIdeal.sig) → Buf (Elt Ideal) ℓ) : Prop :=
  ∀ c : Dev Cert.MlaBwdRefIdeal.nD,
    (Cert.Pre_finite_mla.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3))).1 = (fun _ => 1#1)
    ∧ (Cert.Pre_finite_mla.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3))).2.1 = (fun _ => 1#1)
    ∧ (Cert.Pre_finite_mla.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3))).2.2.1 = (fun _ => 1#1)
    ∧ (Cert.Pre_finite_mla.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3))).2.2.2 = (fun _ => 1#1)

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_mlaf [hPre_finite_mlaf : Cert.Pre_finite_mlaf.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_mlaf.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))).1 = (fun _ => 1#1)
    ∧ (Cert.Pre_finite_mlaf.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))).2.1 = (fun _ => 1#1)
    ∧ (Cert.Pre_finite_mlaf.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))).2.2 = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_mlaf [hPre_finite_mlaf : Cert.Pre_finite_mlaf.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_mlaf.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))).1 = (fun _ => 1#1)
    ∧ (Cert.Pre_finite_mlaf.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))).2.1 = (fun _ => 1#1)
    ∧ (Cert.Pre_finite_mlaf.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))).2.2 = (fun _ => 1#1)

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_foxf [hPre_finite_foxf : Cert.Pre_finite_foxf.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_foxf.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).1 = (fun _ => 1#1)
    ∧ (Cert.Pre_finite_foxf.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.1 = (fun _ => 1#1)
    ∧ (Cert.Pre_finite_foxf.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.1 = (fun _ => 1#1)
    ∧ (Cert.Pre_finite_foxf.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.2 = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_finite_foxf [hPre_finite_foxf : Cert.Pre_finite_foxf.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_finite_foxf.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).1 = (fun _ => 1#1)
    ∧ (Cert.Pre_finite_foxf.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.1 = (fun _ => 1#1)
    ∧ (Cert.Pre_finite_foxf.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.1 = (fun _ => 1#1)
    ∧ (Cert.Pre_finite_foxf.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.2 = (fun _ => 1#1)

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_ScanFwd (m : (ℓ : Loc Cert.ScanFwd.nD Cert.ScanFwd.τ Cert.ScanFwd.sig) → Buf (Elt Bits) ℓ) : Prop :=
  True

def Pre_ScanFwdIdeal (m : (ℓ : Loc Cert.ScanFwdIdeal.nD Cert.ScanFwdIdeal.τ Cert.ScanFwdIdeal.sig) → Buf (Elt Ideal) ℓ) : Prop :=
  True

def Pre_ScanFwdRefIdeal (m : (ℓ : Loc Cert.ScanFwdRefIdeal.nD Cert.ScanFwdRefIdeal.τ Cert.ScanFwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdIdeal_finite_prepf [hPre_finite_prepf : Cert.Pre_finite_prepf.Facts] (m : (ℓ : Loc Cert.PrepFwdIdeal.nD Cert.PrepFwdIdeal.τ Cert.PrepFwdIdeal.sig) → Buf (Elt Ideal) ℓ) : Prop :=
  ∀ c : Dev Cert.PrepFwdIdeal.nD,
    (Cert.Pre_finite_prepf.fn (F := Ideal) (m ((c.tc : Thread Cert.PrepFwdIdeal.nD Cert.PrepFwdIdeal.τ).loc Cert.PrepFwdIdeal.main_arg0)) (m ((c.tc : Thread Cert.PrepFwdIdeal.nD Cert.PrepFwdIdeal.τ).loc Cert.PrepFwdIdeal.main_arg1)) (m ((c.tc : Thread Cert.PrepFwdIdeal.nD Cert.PrepFwdIdeal.τ).loc Cert.PrepFwdIdeal.main_arg2)) (m ((c.tc : Thread Cert.PrepFwdIdeal.nD Cert.PrepFwdIdeal.τ).loc Cert.PrepFwdIdeal.main_arg3)) (m ((c.tc : Thread Cert.PrepFwdIdeal.nD Cert.PrepFwdIdeal.τ).loc Cert.PrepFwdIdeal.main_arg4)) (m ((c.tc : Thread Cert.PrepFwdIdeal.nD Cert.PrepFwdIdeal.τ).loc Cert.PrepFwdIdeal.main_arg5)) (m ((c.tc : Thread Cert.PrepFwdIdeal.nD Cert.PrepFwdIdeal.τ).loc Cert.PrepFwdIdeal.main_arg6)) (m ((c.tc : Thread Cert.PrepFwdIdeal.nD Cert.PrepFwdIdeal.τ).loc Cert.PrepFwdIdeal.main_arg7)) (m ((c.tc : Thread Cert.PrepFwdIdeal.nD Cert.PrepFwdIdeal.τ).loc Cert.PrepFwdIdeal.main_arg8)) (m ((c.tc : Thread Cert.PrepFwdIdeal.nD Cert.PrepFwdIdeal.τ).loc Cert.PrepFwdIdeal.main_arg9))) = (fun _ => 1#1)

def Pre_PrepFwdRefIdeal (m : (ℓ : Loc Cert.PrepFwdRefIdeal.nD Cert.PrepFwdRefIdeal.τ Cert.PrepFwdRefIdeal.sig) → Buf (Elt Ideal) ℓ) : Prop :=
  True

def Pre_PrepFwdRefIdeal_finite_prepf [hPre_finite_prepf : Cert.Pre_finite_prepf.Facts] (m : (ℓ : Loc Cert.PrepFwdRefIdeal.nD Cert.PrepFwdRefIdeal.τ Cert.PrepFwdRefIdeal.sig) → Buf (Elt Ideal) ℓ) : Prop :=
  ∀ c : Dev Cert.PrepFwdRefIdeal.nD,
    (Cert.Pre_finite_prepf.fn (F := Ideal) (m ((c.tc : Thread Cert.PrepFwdRefIdeal.nD Cert.PrepFwdRefIdeal.τ).loc Cert.PrepFwdRefIdeal.main_arg0)) (m ((c.tc : Thread Cert.PrepFwdRefIdeal.nD Cert.PrepFwdRefIdeal.τ).loc Cert.PrepFwdRefIdeal.main_arg1)) (m ((c.tc : Thread Cert.PrepFwdRefIdeal.nD Cert.PrepFwdRefIdeal.τ).loc Cert.PrepFwdRefIdeal.main_arg2)) (m ((c.tc : Thread Cert.PrepFwdRefIdeal.nD Cert.PrepFwdRefIdeal.τ).loc Cert.PrepFwdRefIdeal.main_arg3)) (m ((c.tc : Thread Cert.PrepFwdRefIdeal.nD Cert.PrepFwdRefIdeal.τ).loc Cert.PrepFwdRefIdeal.main_arg4)) (m ((c.tc : Thread Cert.PrepFwdRefIdeal.nD Cert.PrepFwdRefIdeal.τ).loc Cert.PrepFwdRefIdeal.main_arg5)) (m ((c.tc : Thread Cert.PrepFwdRefIdeal.nD Cert.PrepFwdRefIdeal.τ).loc Cert.PrepFwdRefIdeal.main_arg6)) (m ((c.tc : Thread Cert.PrepFwdRefIdeal.nD Cert.PrepFwdRefIdeal.τ).loc Cert.PrepFwdRefIdeal.main_arg7)) (m ((c.tc : Thread Cert.PrepFwdRefIdeal.nD Cert.PrepFwdRefIdeal.τ).loc Cert.PrepFwdRefIdeal.main_arg8)) (m ((c.tc : Thread Cert.PrepFwdRefIdeal.nD Cert.PrepFwdRefIdeal.τ).loc Cert.PrepFwdRefIdeal.main_arg9))) = (fun _ => 1#1)

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0))
      ∧ r.2.sem = fun _ => 0)

def quiescent_ScanBwdRefIdeal [hScanBwdRefIdeal : Cert.ScanBwdRefIdeal.Facts] : Prop :=
  ∀ (m : (ℓ : Loc Cert.ScanBwdRefIdeal.nD Cert.ScanBwdRefIdeal.τ Cert.ScanBwdRefIdeal.sig) → Buf (Elt Ideal) ℓ) (g : Dev Cert.ScanBwdRefIdeal.nD → PrngReg), Pre_ScanBwdRefIdeal m →
    θ_run (Cert.ScanBwdRefIdeal.defs (F := Ideal)) (onTc (τ := Cert.ScanBwdRefIdeal.τ) (Cert.ScanBwdRefIdeal.main (F := Ideal))) ⟨m, fun _ => 0, g⟩ (fun r => (∀ c : Dev Cert.ScanBwdRefIdeal.nD,
      r.2.mem ((c.tc : Thread Cert.ScanBwdRefIdeal.nD Cert.ScanBwdRefIdeal.τ).loc Cert.ScanBwdRefIdeal.main_arg0) = m ((c.tc : Thread Cert.ScanBwdRefIdeal.nD Cert.ScanBwdRefIdeal.τ).loc Cert.ScanBwdRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6)
      ∧ r.2.mem ((c.tc : Thread Cert.PostBwd.nD Cert.PostBwd.τ).loc Cert.PostBwd.main_arg7) = m ((c.tc : Thread Cert.PostBwd.nD Cert.PostBwd.τ).loc Cert.PostBwd.main_arg7))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4)
      ∧ r.2.mem ((c.tc : Thread Cert.PostBwdRefIdeal.nD Cert.PostBwdRefIdeal.τ).loc Cert.PostBwdRefIdeal.main_arg5) = m ((c.tc : Thread Cert.PostBwdRefIdeal.nD Cert.PostBwdRefIdeal.τ).loc Cert.PostBwdRefIdeal.main_arg5)
      ∧ r.2.mem ((c.tc : Thread Cert.PostBwdRefIdeal.nD Cert.PostBwdRefIdeal.τ).loc Cert.PostBwdRefIdeal.main_arg6) = m ((c.tc : Thread Cert.PostBwdRefIdeal.nD Cert.PostBwdRefIdeal.τ).loc Cert.PostBwdRefIdeal.main_arg6)
      ∧ r.2.mem ((c.tc : Thread Cert.PostBwdRefIdeal.nD Cert.PostBwdRefIdeal.τ).loc Cert.PostBwdRefIdeal.main_arg7) = m ((c.tc : Thread Cert.PostBwdRefIdeal.nD Cert.PostBwdRefIdeal.τ).loc Cert.PostBwdRefIdeal.main_arg7))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojBwdIdeal_pre_finite_inproj [hInprojBwdIdeal : Cert.InprojBwdIdeal.Facts] [hPre_finite_inproj : Cert.Pre_finite_inproj.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_finite_inproj m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojBwdRefIdeal [hInprojBwdRefIdeal : Cert.InprojBwdRefIdeal.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4))
      ∧ r.2.sem = fun _ => 0)

def quiescent_InprojBwdRefIdeal_pre_finite_inproj [hInprojBwdRefIdeal : Cert.InprojBwdRefIdeal.Facts] [hPre_finite_inproj : Cert.Pre_finite_inproj.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal_finite_inproj m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_finite_fox [hFoxBwdIdeal : Cert.FoxBwdIdeal.Facts] [hPre_finite_fox : Cert.Pre_finite_fox.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_finite_fox m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_FoxBwdRefIdeal_pre_finite_fox [hFoxBwdRefIdeal : Cert.FoxBwdRefIdeal.Facts] [hPre_finite_fox : Cert.Pre_finite_fox.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_finite_fox m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaBwdIdeal_pre_finite_mla [hMlaBwdIdeal : Cert.MlaBwdIdeal.Facts] [hPre_finite_mla : Cert.Pre_finite_mla.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_finite_mla m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaBwdRefIdeal [hMlaBwdRefIdeal : Cert.MlaBwdRefIdeal.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3))
      ∧ r.2.sem = fun _ => 0)

def quiescent_MlaBwdRefIdeal_pre_finite_mla [hMlaBwdRefIdeal : Cert.MlaBwdRefIdeal.Facts] [hPre_finite_mla : Cert.Pre_finite_mla.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal_finite_mla m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_finite_mlaf [hMlaFwdIdeal : Cert.MlaFwdIdeal.Facts] [hPre_finite_mlaf : Cert.Pre_finite_mlaf.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_mlaf m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_finite_mlaf [hMlaFwdRefIdeal : Cert.MlaFwdRefIdeal.Facts] [hPre_finite_mlaf : Cert.Pre_finite_mlaf.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_mlaf m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_finite_foxf [hFoxFwdIdeal : Cert.FoxFwdIdeal.Facts] [hPre_finite_foxf : Cert.Pre_finite_foxf.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_foxf m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_finite_foxf [hFoxFwdRefIdeal : Cert.FoxFwdRefIdeal.Facts] [hPre_finite_foxf : Cert.Pre_finite_foxf.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_finite_foxf m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3)
      ∧ r.2.mem ((c.tc : Thread Cert.PostFwd.nD Cert.PostFwd.τ).loc Cert.PostFwd.main_arg4) = m ((c.tc : Thread Cert.PostFwd.nD Cert.PostFwd.τ).loc Cert.PostFwd.main_arg4)
      ∧ r.2.mem ((c.tc : Thread Cert.PostFwd.nD Cert.PostFwd.τ).loc Cert.PostFwd.main_arg5) = m ((c.tc : Thread Cert.PostFwd.nD Cert.PostFwd.τ).loc Cert.PostFwd.main_arg5)
      ∧ r.2.mem ((c.tc : Thread Cert.PostFwd.nD Cert.PostFwd.τ).loc Cert.PostFwd.main_arg6) = m ((c.tc : Thread Cert.PostFwd.nD Cert.PostFwd.τ).loc Cert.PostFwd.main_arg6)
      ∧ r.2.mem ((c.tc : Thread Cert.PostFwd.nD Cert.PostFwd.τ).loc Cert.PostFwd.main_arg7) = m ((c.tc : Thread Cert.PostFwd.nD Cert.PostFwd.τ).loc Cert.PostFwd.main_arg7))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
      ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4)
      ∧ r.2.mem ((c.tc : Thread Cert.PostFwdIdeal.nD Cert.PostFwdIdeal.τ).loc Cert.PostFwdIdeal.main_arg5) = m ((c.tc : Thread Cert.PostFwdIdeal.nD Cert.PostFwdIdeal.τ).loc Cert.PostFwdIdeal.main_arg5)
      ∧ r.2.mem ((c.tc : Thread Cert.PostFwdIdeal.nD Cert.PostFwdIdeal.τ).loc Cert.PostFwdIdeal.main_arg6) = m ((c.tc : Thread Cert.PostFwdIdeal.nD Cert.PostFwdIdeal.τ).loc Cert.PostFwdIdeal.main_arg6)
      ∧ r.2.mem ((c.tc : Thread Cert.PostFwdIdeal.nD Cert.PostFwdIdeal.τ).loc Cert.PostFwdIdeal.main_arg7) = m ((c.tc : Thread Cert.PostFwdIdeal.nD Cert.PostFwdIdeal.τ).loc Cert.PostFwdIdeal.main_arg7))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2)
      ∧ r.2.mem ((c.tc : Thread Cert.PostFwdRefIdeal.nD Cert.PostFwdRefIdeal.τ).loc Cert.PostFwdRefIdeal.main_arg3) = m ((c.tc : Thread Cert.PostFwdRefIdeal.nD Cert.PostFwdRefIdeal.τ).loc Cert.PostFwdRefIdeal.main_arg3)
      ∧ r.2.mem ((c.tc : Thread Cert.PostFwdRefIdeal.nD Cert.PostFwdRefIdeal.τ).loc Cert.PostFwdRefIdeal.main_arg4) = m ((c.tc : Thread Cert.PostFwdRefIdeal.nD Cert.PostFwdRefIdeal.τ).loc Cert.PostFwdRefIdeal.main_arg4)
      ∧ r.2.mem ((c.tc : Thread Cert.PostFwdRefIdeal.nD Cert.PostFwdRefIdeal.τ).loc Cert.PostFwdRefIdeal.main_arg5) = m ((c.tc : Thread Cert.PostFwdRefIdeal.nD Cert.PostFwdRefIdeal.τ).loc Cert.PostFwdRefIdeal.main_arg5)
      ∧ r.2.mem ((c.tc : Thread Cert.PostFwdRefIdeal.nD Cert.PostFwdRefIdeal.τ).loc Cert.PostFwdRefIdeal.main_arg6) = m ((c.tc : Thread Cert.PostFwdRefIdeal.nD Cert.PostFwdRefIdeal.τ).loc Cert.PostFwdRefIdeal.main_arg6)
      ∧ r.2.mem ((c.tc : Thread Cert.PostFwdRefIdeal.nD Cert.PostFwdRefIdeal.τ).loc Cert.PostFwdRefIdeal.main_arg7) = m ((c.tc : Thread Cert.PostFwdRefIdeal.nD Cert.PostFwdRefIdeal.τ).loc Cert.PostFwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_ScanFwd [hScanFwd : Cert.ScanFwd.Facts] : Prop :=
  ∀ (m : (ℓ : Loc Cert.ScanFwd.nD Cert.ScanFwd.τ Cert.ScanFwd.sig) → Buf (Elt Bits) ℓ) (g : Dev Cert.ScanFwd.nD → PrngReg), Pre_ScanFwd m →
    θ_run (Cert.ScanFwd.defs (F := Bits)) (onTc (τ := Cert.ScanFwd.τ) (Cert.ScanFwd.main (F := Bits))) ⟨m, fun _ => 0, g⟩ (fun r => (∀ c : Dev Cert.ScanFwd.nD,
      r.2.mem ((c.tc : Thread Cert.ScanFwd.nD Cert.ScanFwd.τ).loc Cert.ScanFwd.main_arg0) = m ((c.tc : Thread Cert.ScanFwd.nD Cert.ScanFwd.τ).loc Cert.ScanFwd.main_arg0))
      ∧ r.2.sem = fun _ => 0)

def quiescent_ScanFwdIdeal [hScanFwdIdeal : Cert.ScanFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg), Pre_ScanFwdIdeal m →
    θ_run (Cert.ScanFwdIdeal.defs (F := Ideal)) (onTc (τ := Cert.ScanFwdIdeal.τ) (Cert.ScanFwdIdeal.main (F := Ideal))) ⟨m, fun _ => 0, g⟩ (fun r => (∀ c : Dev Cert.ScanFwdIdeal.nD,
      r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0))
      ∧ r.2.sem = fun _ => 0)

def quiescent_ScanFwdRefIdeal [hScanFwdRefIdeal : Cert.ScanFwdRefIdeal.Facts] : Prop :=
  ∀ (m : (ℓ : Loc Cert.ScanFwdRefIdeal.nD Cert.ScanFwdRefIdeal.τ Cert.ScanFwdRefIdeal.sig) → Buf (Elt Ideal) ℓ) (g : Dev Cert.ScanFwdRefIdeal.nD → PrngReg), Pre_ScanFwdRefIdeal m →
    θ_run (Cert.ScanFwdRefIdeal.defs (F := Ideal)) (onTc (τ := Cert.ScanFwdRefIdeal.τ) (Cert.ScanFwdRefIdeal.main (F := Ideal))) ⟨m, fun _ => 0, g⟩ (fun r => (∀ c : Dev Cert.ScanFwdRefIdeal.nD,
      r.2.mem ((c.tc : Thread Cert.ScanFwdRefIdeal.nD Cert.ScanFwdRefIdeal.τ).loc Cert.ScanFwdRefIdeal.main_arg0) = m ((c.tc : Thread Cert.ScanFwdRefIdeal.nD Cert.ScanFwdRefIdeal.τ).loc Cert.ScanFwdRefIdeal.main_arg0))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4)
      ∧ r.2.mem ((c.tc : Thread Cert.PrepFwd.nD Cert.PrepFwd.τ).loc Cert.PrepFwd.main_arg5) = m ((c.tc : Thread Cert.PrepFwd.nD Cert.PrepFwd.τ).loc Cert.PrepFwd.main_arg5)
      ∧ r.2.mem ((c.tc : Thread Cert.PrepFwd.nD Cert.PrepFwd.τ).loc Cert.PrepFwd.main_arg6) = m ((c.tc : Thread Cert.PrepFwd.nD Cert.PrepFwd.τ).loc Cert.PrepFwd.main_arg6)
      ∧ r.2.mem ((c.tc : Thread Cert.PrepFwd.nD Cert.PrepFwd.τ).loc Cert.PrepFwd.main_arg7) = m ((c.tc : Thread Cert.PrepFwd.nD Cert.PrepFwd.τ).loc Cert.PrepFwd.main_arg7)
      ∧ r.2.mem ((c.tc : Thread Cert.PrepFwd.nD Cert.PrepFwd.τ).loc Cert.PrepFwd.main_arg8) = m ((c.tc : Thread Cert.PrepFwd.nD Cert.PrepFwd.τ).loc Cert.PrepFwd.main_arg8)
      ∧ r.2.mem ((c.tc : Thread Cert.PrepFwd.nD Cert.PrepFwd.τ).loc Cert.PrepFwd.main_arg9) = m ((c.tc : Thread Cert.PrepFwd.nD Cert.PrepFwd.τ).loc Cert.PrepFwd.main_arg9))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
      ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
      ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
      ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ r.2.sem = fun _ => 0)

def quiescent_PrepFwdIdeal_pre_finite_prepf [hPrepFwdIdeal : Cert.PrepFwdIdeal.Facts] [hPre_finite_prepf : Cert.Pre_finite_prepf.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal_finite_prepf m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
      ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
      ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
      ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6)
      ∧ r.2.mem ((c.tc : Thread Cert.PrepFwdRefIdeal.nD Cert.PrepFwdRefIdeal.τ).loc Cert.PrepFwdRefIdeal.main_arg7) = m ((c.tc : Thread Cert.PrepFwdRefIdeal.nD Cert.PrepFwdRefIdeal.τ).loc Cert.PrepFwdRefIdeal.main_arg7)
      ∧ r.2.mem ((c.tc : Thread Cert.PrepFwdRefIdeal.nD Cert.PrepFwdRefIdeal.τ).loc Cert.PrepFwdRefIdeal.main_arg8) = m ((c.tc : Thread Cert.PrepFwdRefIdeal.nD Cert.PrepFwdRefIdeal.τ).loc Cert.PrepFwdRefIdeal.main_arg8)
      ∧ r.2.mem ((c.tc : Thread Cert.PrepFwdRefIdeal.nD Cert.PrepFwdRefIdeal.τ).loc Cert.PrepFwdRefIdeal.main_arg9) = m ((c.tc : Thread Cert.PrepFwdRefIdeal.nD Cert.PrepFwdRefIdeal.τ).loc Cert.PrepFwdRefIdeal.main_arg9))
      ∧ r.2.sem = fun _ => 0)

def quiescent_PrepFwdRefIdeal_pre_finite_prepf [hPrepFwdRefIdeal : Cert.PrepFwdRefIdeal.Facts] [hPre_finite_prepf : Cert.Pre_finite_prepf.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal_finite_prepf m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6)
      ∧ r.2.mem ((c.tc : Thread Cert.PrepFwdRefIdeal.nD Cert.PrepFwdRefIdeal.τ).loc Cert.PrepFwdRefIdeal.main_arg7) = m ((c.tc : Thread Cert.PrepFwdRefIdeal.nD Cert.PrepFwdRefIdeal.τ).loc Cert.PrepFwdRefIdeal.main_arg7)
      ∧ r.2.mem ((c.tc : Thread Cert.PrepFwdRefIdeal.nD Cert.PrepFwdRefIdeal.τ).loc Cert.PrepFwdRefIdeal.main_arg8) = m ((c.tc : Thread Cert.PrepFwdRefIdeal.nD Cert.PrepFwdRefIdeal.τ).loc Cert.PrepFwdRefIdeal.main_arg8)
      ∧ r.2.mem ((c.tc : Thread Cert.PrepFwdRefIdeal.nD Cert.PrepFwdRefIdeal.τ).loc Cert.PrepFwdRefIdeal.main_arg9) = m ((c.tc : Thread Cert.PrepFwdRefIdeal.nD Cert.PrepFwdRefIdeal.τ).loc Cert.PrepFwdRefIdeal.main_arg9))
      ∧ r.2.sem = fun _ => 0)

def preserves_ScanBwd_ScanBwdIdeal : Prop :=
  True

def algebraic_ScanBwdIdeal_ScanBwdRefIdeal [hScanBwdIdeal : Cert.ScanBwdIdeal.Facts] [hScanBwdRefIdeal : Cert.ScanBwdRefIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg)
    (m' : (ℓ : Loc Cert.ScanBwdRefIdeal.nD Cert.ScanBwdRefIdeal.τ Cert.ScanBwdRefIdeal.sig) → Buf (Elt Ideal) ℓ) (g' : Dev Cert.ScanBwdRefIdeal.nD → PrngReg), Pre_ScanBwdIdeal m →
    (∀ c : Dev Cert.ScanBwdIdeal.nD,
      m' ((c.tc : Thread Cert.ScanBwdRefIdeal.nD Cert.ScanBwdRefIdeal.τ).loc Cert.ScanBwdRefIdeal.main_arg0) = m ((c.tc : Thread Cert.ScanBwdIdeal.nD Cert.ScanBwdIdeal.τ).loc Cert.ScanBwdIdeal.main_arg0)) →
    ∃ (v0 : (c : Dev Cert.ScanBwdIdeal.nD) → Buf (Elt Ideal) ((c.tc : Thread Cert.ScanBwdIdeal.nD Cert.ScanBwdIdeal.τ).loc Cert.ScanBwdIdeal.main_v5)),
      θ_run (Cert.ScanBwdIdeal.defs (F := Ideal)) (onTc (τ := Cert.ScanBwdIdeal.τ) (Cert.ScanBwdIdeal.main (F := Ideal))) ⟨m, fun _ => 0, g⟩ (fun r => ∀ c : Dev Cert.ScanBwdIdeal.nD,
          r.2.mem ((c.tc : Thread Cert.ScanBwdIdeal.nD Cert.ScanBwdIdeal.τ).loc Cert.ScanBwdIdeal.main_v5) = v0 c
          ∧ r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0))
      ∧ θ_run (Cert.ScanBwdRefIdeal.defs (F := Ideal)) (onTc (τ := Cert.ScanBwdRefIdeal.τ) (Cert.ScanBwdRefIdeal.main (F := Ideal))) ⟨m', fun _ => 0, g'⟩ (fun r => ∀ c : Dev Cert.ScanBwdRefIdeal.nD,
          r.2.mem ((c.tc : Thread Cert.ScanBwdRefIdeal.nD Cert.ScanBwdRefIdeal.τ).loc Cert.ScanBwdRefIdeal.main_v7) = v0 c
          ∧ r.2.mem ((c.tc : Thread Cert.ScanBwdRefIdeal.nD Cert.ScanBwdRefIdeal.τ).loc Cert.ScanBwdRefIdeal.main_arg0) = m' ((c.tc : Thread Cert.ScanBwdRefIdeal.nD Cert.ScanBwdRefIdeal.τ).loc Cert.ScanBwdRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v5_0)) (v1 : (c : Dev Cert.LossHeadIdeal.nD) → Buf (Elt Ideal) ((c.tc : Thread Cert.LossHeadIdeal.nD Cert.LossHeadIdeal.τ).loc Cert.LossHeadIdeal.main_v5_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v5_0) = v0 c
          ∧ r.2.mem ((c.tc : Thread Cert.LossHeadIdeal.nD Cert.LossHeadIdeal.τ).loc Cert.LossHeadIdeal.main_v5_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v21) = v0 c
          ∧ r.2.mem ((c.tc : Thread Cert.LossHeadRefIdeal.nD Cert.LossHeadRefIdeal.τ).loc Cert.LossHeadRefIdeal.main_v30) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)
      ∧ m' ((c.tc : Thread Cert.PostBwdRefIdeal.nD Cert.PostBwdRefIdeal.τ).loc Cert.PostBwdRefIdeal.main_arg4) = m ((c.tc : Thread Cert.PostBwdIdeal.nD Cert.PostBwdIdeal.τ).loc Cert.PostBwdIdeal.main_arg4)
      ∧ m' ((c.tc : Thread Cert.PostBwdRefIdeal.nD Cert.PostBwdRefIdeal.τ).loc Cert.PostBwdRefIdeal.main_arg5) = m ((c.tc : Thread Cert.PostBwdIdeal.nD Cert.PostBwdIdeal.τ).loc Cert.PostBwdIdeal.main_arg5)
      ∧ m' ((c.tc : Thread Cert.PostBwdRefIdeal.nD Cert.PostBwdRefIdeal.τ).loc Cert.PostBwdRefIdeal.main_arg6) = m ((c.tc : Thread Cert.PostBwdIdeal.nD Cert.PostBwdIdeal.τ).loc Cert.PostBwdIdeal.main_arg6)
      ∧ m' ((c.tc : Thread Cert.PostBwdRefIdeal.nD Cert.PostBwdRefIdeal.τ).loc Cert.PostBwdRefIdeal.main_arg7) = m ((c.tc : Thread Cert.PostBwdIdeal.nD Cert.PostBwdIdeal.τ).loc Cert.PostBwdIdeal.main_arg7)) →
    ∃ (v0 : (c : Dev Cert.PostBwdIdeal.nD) → Buf (Elt Ideal) ((c.tc : Thread Cert.PostBwdIdeal.nD Cert.PostBwdIdeal.τ).loc Cert.PostBwdIdeal.main_v7_0)) (v1 : (c : Dev Cert.PostBwdIdeal.nD) → Buf (Elt Ideal) ((c.tc : Thread Cert.PostBwdIdeal.nD Cert.PostBwdIdeal.τ).loc Cert.PostBwdIdeal.main_v7_1)) (v2 : (c : Dev Cert.PostBwdIdeal.nD) → Buf (Elt Ideal) ((c.tc : Thread Cert.PostBwdIdeal.nD Cert.PostBwdIdeal.τ).loc Cert.PostBwdIdeal.main_v7_2)) (v3 : (c : Dev Cert.PostBwdIdeal.nD) → Buf (Elt Ideal) ((c.tc : Thread Cert.PostBwdIdeal.nD Cert.PostBwdIdeal.τ).loc Cert.PostBwdIdeal.main_v7_3)) (v4 : (c : Dev Cert.PostBwdIdeal.nD) → Buf (Elt Ideal) ((c.tc : Thread Cert.PostBwdIdeal.nD Cert.PostBwdIdeal.τ).loc Cert.PostBwdIdeal.main_v7_4)) (v5 : (c : Dev Cert.PostBwdIdeal.nD) → Buf (Elt Ideal) ((c.tc : Thread Cert.PostBwdIdeal.nD Cert.PostBwdIdeal.τ).loc Cert.PostBwdIdeal.main_v7_5)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v7_0) = v0 c
          ∧ r.2.mem ((c.tc : Thread Cert.PostBwdIdeal.nD Cert.PostBwdIdeal.τ).loc Cert.PostBwdIdeal.main_v7_1) = v1 c
          ∧ r.2.mem ((c.tc : Thread Cert.PostBwdIdeal.nD Cert.PostBwdIdeal.τ).loc Cert.PostBwdIdeal.main_v7_2) = v2 c
          ∧ r.2.mem ((c.tc : Thread Cert.PostBwdIdeal.nD Cert.PostBwdIdeal.τ).loc Cert.PostBwdIdeal.main_v7_3) = v3 c
          ∧ r.2.mem ((c.tc : Thread Cert.PostBwdIdeal.nD Cert.PostBwdIdeal.τ).loc Cert.PostBwdIdeal.main_v7_4) = v4 c
          ∧ r.2.mem ((c.tc : Thread Cert.PostBwdIdeal.nD Cert.PostBwdIdeal.τ).loc Cert.PostBwdIdeal.main_v7_5) = v5 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
          ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v30) = v0 c
          ∧ r.2.mem ((c.tc : Thread Cert.PostBwdRefIdeal.nD Cert.PostBwdRefIdeal.τ).loc Cert.PostBwdRefIdeal.main_v31) = v1 c
          ∧ r.2.mem ((c.tc : Thread Cert.PostBwdRefIdeal.nD Cert.PostBwdRefIdeal.τ).loc Cert.PostBwdRefIdeal.main_v32) = v2 c
          ∧ r.2.mem ((c.tc : Thread Cert.PostBwdRefIdeal.nD Cert.PostBwdRefIdeal.τ).loc Cert.PostBwdRefIdeal.main_v33) = v3 c
          ∧ r.2.mem ((c.tc : Thread Cert.PostBwdRefIdeal.nD Cert.PostBwdRefIdeal.τ).loc Cert.PostBwdRefIdeal.main_v34) = v4 c
          ∧ r.2.mem ((c.tc : Thread Cert.PostBwdRefIdeal.nD Cert.PostBwdRefIdeal.τ).loc Cert.PostBwdRefIdeal.main_v27) = v5 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3)
          ∧ r.2.mem ((c.tc : Thread Cert.PostBwdRefIdeal.nD Cert.PostBwdRefIdeal.τ).loc Cert.PostBwdRefIdeal.main_arg4) = m' ((c.tc : Thread Cert.PostBwdRefIdeal.nD Cert.PostBwdRefIdeal.τ).loc Cert.PostBwdRefIdeal.main_arg4)
          ∧ r.2.mem ((c.tc : Thread Cert.PostBwdRefIdeal.nD Cert.PostBwdRefIdeal.τ).loc Cert.PostBwdRefIdeal.main_arg5) = m' ((c.tc : Thread Cert.PostBwdRefIdeal.nD Cert.PostBwdRefIdeal.τ).loc Cert.PostBwdRefIdeal.main_arg5)
          ∧ r.2.mem ((c.tc : Thread Cert.PostBwdRefIdeal.nD Cert.PostBwdRefIdeal.τ).loc Cert.PostBwdRefIdeal.main_arg6) = m' ((c.tc : Thread Cert.PostBwdRefIdeal.nD Cert.PostBwdRefIdeal.τ).loc Cert.PostBwdRefIdeal.main_arg6)
          ∧ r.2.mem ((c.tc : Thread Cert.PostBwdRefIdeal.nD Cert.PostBwdRefIdeal.τ).loc Cert.PostBwdRefIdeal.main_arg7) = m' ((c.tc : Thread Cert.PostBwdRefIdeal.nD Cert.PostBwdRefIdeal.τ).loc Cert.PostBwdRefIdeal.main_arg7))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v2_0)) (v1 : (c : Dev Cert.FfnBwdIdeal.nD) → Buf (Elt Ideal) ((c.tc : Thread Cert.FfnBwdIdeal.nD Cert.FfnBwdIdeal.τ).loc Cert.FfnBwdIdeal.main_v2_1)) (v2 : (c : Dev Cert.FfnBwdIdeal.nD) → Buf (Elt Ideal) ((c.tc : Thread Cert.FfnBwdIdeal.nD Cert.FfnBwdIdeal.τ).loc Cert.FfnBwdIdeal.main_v2_2)) (v3 : (c : Dev Cert.FfnBwdIdeal.nD) → Buf (Elt Ideal) ((c.tc : Thread Cert.FfnBwdIdeal.nD Cert.FfnBwdIdeal.τ).loc Cert.FfnBwdIdeal.main_v2_3)) (v4 : (c : Dev Cert.FfnBwdIdeal.nD) → Buf (Elt Ideal) ((c.tc : Thread Cert.FfnBwdIdeal.nD Cert.FfnBwdIdeal.τ).loc Cert.FfnBwdIdeal.main_v2_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v2_0) = v0 c
          ∧ r.2.mem ((c.tc : Thread Cert.FfnBwdIdeal.nD Cert.FfnBwdIdeal.τ).loc Cert.FfnBwdIdeal.main_v2_1) = v1 c
          ∧ r.2.mem ((c.tc : Thread Cert.FfnBwdIdeal.nD Cert.FfnBwdIdeal.τ).loc Cert.FfnBwdIdeal.main_v2_2) = v2 c
          ∧ r.2.mem ((c.tc : Thread Cert.FfnBwdIdeal.nD Cert.FfnBwdIdeal.τ).loc Cert.FfnBwdIdeal.main_v2_3) = v3 c
          ∧ r.2.mem ((c.tc : Thread Cert.FfnBwdIdeal.nD Cert.FfnBwdIdeal.τ).loc Cert.FfnBwdIdeal.main_v2_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v50) = v0 c
          ∧ r.2.mem ((c.tc : Thread Cert.FfnBwdRefIdeal.nD Cert.FfnBwdRefIdeal.τ).loc Cert.FfnBwdRefIdeal.main_v51) = v1 c
          ∧ r.2.mem ((c.tc : Thread Cert.FfnBwdRefIdeal.nD Cert.FfnBwdRefIdeal.τ).loc Cert.FfnBwdRefIdeal.main_v52) = v2 c
          ∧ r.2.mem ((c.tc : Thread Cert.FfnBwdRefIdeal.nD Cert.FfnBwdRefIdeal.τ).loc Cert.FfnBwdRefIdeal.main_v53) = v3 c
          ∧ r.2.mem ((c.tc : Thread Cert.FfnBwdRefIdeal.nD Cert.FfnBwdRefIdeal.τ).loc Cert.FfnBwdRefIdeal.main_v33) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_InprojBwd_InprojBwdIdeal : Prop :=
  True

def algebraic_InprojBwdIdeal_InprojBwdRefIdeal_pre_finite_inproj [hInprojBwdIdeal : Cert.InprojBwdIdeal.Facts] [hInprojBwdRefIdeal : Cert.InprojBwdRefIdeal.Facts] [hPre_finite_inproj : Cert.Pre_finite_inproj.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdRefIdeal.nD Cert.InprojBwdRefIdeal.τ Cert.InprojBwdRefIdeal.sig) → Buf (Elt Ideal) ℓ) (g' : Dev Cert.InprojBwdRefIdeal.nD → PrngReg), Pre_InprojBwdIdeal_finite_inproj m →
    (∀ c : Dev Cert.InprojBwdIdeal.nD,
      m' ((c.tc : Thread Cert.InprojBwdRefIdeal.nD Cert.InprojBwdRefIdeal.τ).loc Cert.InprojBwdRefIdeal.main_arg0) = m ((c.tc : Thread Cert.InprojBwdIdeal.nD Cert.InprojBwdIdeal.τ).loc Cert.InprojBwdIdeal.main_arg0)
      ∧ m' ((c.tc : Thread Cert.InprojBwdRefIdeal.nD Cert.InprojBwdRefIdeal.τ).loc Cert.InprojBwdRefIdeal.main_arg1) = m ((c.tc : Thread Cert.InprojBwdIdeal.nD Cert.InprojBwdIdeal.τ).loc Cert.InprojBwdIdeal.main_arg1)
      ∧ m' ((c.tc : Thread Cert.InprojBwdRefIdeal.nD Cert.InprojBwdRefIdeal.τ).loc Cert.InprojBwdRefIdeal.main_arg2) = m ((c.tc : Thread Cert.InprojBwdIdeal.nD Cert.InprojBwdIdeal.τ).loc Cert.InprojBwdIdeal.main_arg2)
      ∧ m' ((c.tc : Thread Cert.InprojBwdRefIdeal.nD Cert.InprojBwdRefIdeal.τ).loc Cert.InprojBwdRefIdeal.main_arg3) = m ((c.tc : Thread Cert.InprojBwdIdeal.nD Cert.InprojBwdIdeal.τ).loc Cert.InprojBwdIdeal.main_arg3)
      ∧ m' ((c.tc : Thread Cert.InprojBwdRefIdeal.nD Cert.InprojBwdRefIdeal.τ).loc Cert.InprojBwdRefIdeal.main_arg4) = m ((c.tc : Thread Cert.InprojBwdIdeal.nD Cert.InprojBwdIdeal.τ).loc Cert.InprojBwdIdeal.main_arg4)) →
    ∃ (v0 : (c : Dev Cert.InprojBwdIdeal.nD) → Buf (Elt Ideal) ((c.tc : Thread Cert.InprojBwdIdeal.nD Cert.InprojBwdIdeal.τ).loc Cert.InprojBwdIdeal.main_v25_0)) (v1 : (c : Dev Cert.InprojBwdIdeal.nD) → Buf (Elt Ideal) ((c.tc : Thread Cert.InprojBwdIdeal.nD Cert.InprojBwdIdeal.τ).loc Cert.InprojBwdIdeal.main_v25_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v25_0) = v0 c
          ∧ r.2.mem ((c.tc : Thread Cert.InprojBwdIdeal.nD Cert.InprojBwdIdeal.τ).loc Cert.InprojBwdIdeal.main_v25_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ θ_run (Cert.InprojBwdRefIdeal.defs (F := Ideal)) (onTc (τ := Cert.InprojBwdRefIdeal.τ) (Cert.InprojBwdRefIdeal.main (F := Ideal))) ⟨m', fun _ => 0, g'⟩ (fun r => ∀ c : Dev Cert.InprojBwdRefIdeal.nD,
          r.2.mem ((c.tc : Thread Cert.InprojBwdRefIdeal.nD Cert.InprojBwdRefIdeal.τ).loc Cert.InprojBwdRefIdeal.main_v36) = v0 c
          ∧ r.2.mem ((c.tc : Thread Cert.InprojBwdRefIdeal.nD Cert.InprojBwdRefIdeal.τ).loc Cert.InprojBwdRefIdeal.main_v19) = v1 c
          ∧ r.2.mem ((c.tc : Thread Cert.InprojBwdRefIdeal.nD Cert.InprojBwdRefIdeal.τ).loc Cert.InprojBwdRefIdeal.main_arg0) = m' ((c.tc : Thread Cert.InprojBwdRefIdeal.nD Cert.InprojBwdRefIdeal.τ).loc Cert.InprojBwdRefIdeal.main_arg0)
          ∧ r.2.mem ((c.tc : Thread Cert.InprojBwdRefIdeal.nD Cert.InprojBwdRefIdeal.τ).loc Cert.InprojBwdRefIdeal.main_arg1) = m' ((c.tc : Thread Cert.InprojBwdRefIdeal.nD Cert.InprojBwdRefIdeal.τ).loc Cert.InprojBwdRefIdeal.main_arg1)
          ∧ r.2.mem ((c.tc : Thread Cert.InprojBwdRefIdeal.nD Cert.InprojBwdRefIdeal.τ).loc Cert.InprojBwdRefIdeal.main_arg2) = m' ((c.tc : Thread Cert.InprojBwdRefIdeal.nD Cert.InprojBwdRefIdeal.τ).loc Cert.InprojBwdRefIdeal.main_arg2)
          ∧ r.2.mem ((c.tc : Thread Cert.InprojBwdRefIdeal.nD Cert.InprojBwdRefIdeal.τ).loc Cert.InprojBwdRefIdeal.main_arg3) = m' ((c.tc : Thread Cert.InprojBwdRefIdeal.nD Cert.InprojBwdRefIdeal.τ).loc Cert.InprojBwdRefIdeal.main_arg3)
          ∧ r.2.mem ((c.tc : Thread Cert.InprojBwdRefIdeal.nD Cert.InprojBwdRefIdeal.τ).loc Cert.InprojBwdRefIdeal.main_arg4) = m' ((c.tc : Thread Cert.InprojBwdRefIdeal.nD Cert.InprojBwdRefIdeal.τ).loc Cert.InprojBwdRefIdeal.main_arg4))

def preserves_FoxBwd_FoxBwdIdeal : Prop :=
  IdealRules.named_const.Statement Cert.FoxBwdIdeal.κ "mask" .f32 0xF149F2CA#32 ⊥

def algebraic_FoxBwdIdeal_FoxBwdRefIdeal_pre_finite_fox [hFoxBwdIdeal : Cert.FoxBwdIdeal.Facts] [hFoxBwdRefIdeal : Cert.FoxBwdRefIdeal.Facts] [hPre_finite_fox : Cert.Pre_finite_fox.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_finite_fox m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v41_0)) (v1 : (c : Dev Cert.FoxBwdIdeal.nD) → Buf (Elt Ideal) ((c.tc : Thread Cert.FoxBwdIdeal.nD Cert.FoxBwdIdeal.τ).loc Cert.FoxBwdIdeal.main_v41_1)) (v2 : (c : Dev Cert.FoxBwdIdeal.nD) → Buf (Elt Ideal) ((c.tc : Thread Cert.FoxBwdIdeal.nD Cert.FoxBwdIdeal.τ).loc Cert.FoxBwdIdeal.main_v41_2)) (v3 : (c : Dev Cert.FoxBwdIdeal.nD) → Buf (Elt Ideal) ((c.tc : Thread Cert.FoxBwdIdeal.nD Cert.FoxBwdIdeal.τ).loc Cert.FoxBwdIdeal.main_v41_3)) (v4 : (c : Dev Cert.FoxBwdIdeal.nD) → Buf (Elt Ideal) ((c.tc : Thread Cert.FoxBwdIdeal.nD Cert.FoxBwdIdeal.τ).loc Cert.FoxBwdIdeal.main_v41_4)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v41_0) = v0 c
          ∧ r.2.mem ((c.tc : Thread Cert.FoxBwdIdeal.nD Cert.FoxBwdIdeal.τ).loc Cert.FoxBwdIdeal.main_v41_1) = v1 c
          ∧ r.2.mem ((c.tc : Thread Cert.FoxBwdIdeal.nD Cert.FoxBwdIdeal.τ).loc Cert.FoxBwdIdeal.main_v41_2) = v2 c
          ∧ r.2.mem ((c.tc : Thread Cert.FoxBwdIdeal.nD Cert.FoxBwdIdeal.τ).loc Cert.FoxBwdIdeal.main_v41_3) = v3 c
          ∧ r.2.mem ((c.tc : Thread Cert.FoxBwdIdeal.nD Cert.FoxBwdIdeal.τ).loc Cert.FoxBwdIdeal.main_v41_4) = v4 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v85) = v0 c
          ∧ r.2.mem ((c.tc : Thread Cert.FoxBwdRefIdeal.nD Cert.FoxBwdRefIdeal.τ).loc Cert.FoxBwdRefIdeal.main_v92) = v1 c
          ∧ r.2.mem ((c.tc : Thread Cert.FoxBwdRefIdeal.nD Cert.FoxBwdRefIdeal.τ).loc Cert.FoxBwdRefIdeal.main_v99) = v2 c
          ∧ r.2.mem ((c.tc : Thread Cert.FoxBwdRefIdeal.nD Cert.FoxBwdRefIdeal.τ).loc Cert.FoxBwdRefIdeal.main_v100) = v3 c
          ∧ r.2.mem ((c.tc : Thread Cert.FoxBwdRefIdeal.nD Cert.FoxBwdRefIdeal.τ).loc Cert.FoxBwdRefIdeal.main_v101) = v4 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4))

def preserves_MlaBwd_MlaBwdIdeal : Prop :=
  IdealRules.named_const.Statement Cert.MlaBwdIdeal.κ "s" .f32 0x3DD105EC#32 (((Real.sqrt 96)⁻¹ : ℝ) : EReal)
  ∧ IdealRules.named_const.Statement Cert.MlaBwdIdeal.κ "mask" .f32 0xF149F2CA#32 ⊥

def algebraic_MlaBwdIdeal_MlaBwdRefIdeal_pre_finite_mla [hMlaBwdIdeal : Cert.MlaBwdIdeal.Facts] [hMlaBwdRefIdeal : Cert.MlaBwdRefIdeal.Facts] [hPre_finite_mla : Cert.Pre_finite_mla.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdRefIdeal.nD Cert.MlaBwdRefIdeal.τ Cert.MlaBwdRefIdeal.sig) → Buf (Elt Ideal) ℓ) (g' : Dev Cert.MlaBwdRefIdeal.nD → PrngReg), Pre_MlaBwdIdeal_finite_mla m →
    (∀ c : Dev Cert.MlaBwdIdeal.nD,
      m' ((c.tc : Thread Cert.MlaBwdRefIdeal.nD Cert.MlaBwdRefIdeal.τ).loc Cert.MlaBwdRefIdeal.main_arg0) = m ((c.tc : Thread Cert.MlaBwdIdeal.nD Cert.MlaBwdIdeal.τ).loc Cert.MlaBwdIdeal.main_arg0)
      ∧ m' ((c.tc : Thread Cert.MlaBwdRefIdeal.nD Cert.MlaBwdRefIdeal.τ).loc Cert.MlaBwdRefIdeal.main_arg1) = m ((c.tc : Thread Cert.MlaBwdIdeal.nD Cert.MlaBwdIdeal.τ).loc Cert.MlaBwdIdeal.main_arg1)
      ∧ m' ((c.tc : Thread Cert.MlaBwdRefIdeal.nD Cert.MlaBwdRefIdeal.τ).loc Cert.MlaBwdRefIdeal.main_arg2) = m ((c.tc : Thread Cert.MlaBwdIdeal.nD Cert.MlaBwdIdeal.τ).loc Cert.MlaBwdIdeal.main_arg2)
      ∧ m' ((c.tc : Thread Cert.MlaBwdRefIdeal.nD Cert.MlaBwdRefIdeal.τ).loc Cert.MlaBwdRefIdeal.main_arg3) = m ((c.tc : Thread Cert.MlaBwdIdeal.nD Cert.MlaBwdIdeal.τ).loc Cert.MlaBwdIdeal.main_arg3)) →
    ∃ (v0 : (c : Dev Cert.MlaBwdIdeal.nD) → Buf (Elt Ideal) ((c.tc : Thread Cert.MlaBwdIdeal.nD Cert.MlaBwdIdeal.τ).loc Cert.MlaBwdIdeal.main_v36_0)) (v1 : (c : Dev Cert.MlaBwdIdeal.nD) → Buf (Elt Ideal) ((c.tc : Thread Cert.MlaBwdIdeal.nD Cert.MlaBwdIdeal.τ).loc Cert.MlaBwdIdeal.main_v36_1)) (v2 : (c : Dev Cert.MlaBwdIdeal.nD) → Buf (Elt Ideal) ((c.tc : Thread Cert.MlaBwdIdeal.nD Cert.MlaBwdIdeal.τ).loc Cert.MlaBwdIdeal.main_v36_2)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v36_0) = v0 c
          ∧ r.2.mem ((c.tc : Thread Cert.MlaBwdIdeal.nD Cert.MlaBwdIdeal.τ).loc Cert.MlaBwdIdeal.main_v36_1) = v1 c
          ∧ r.2.mem ((c.tc : Thread Cert.MlaBwdIdeal.nD Cert.MlaBwdIdeal.τ).loc Cert.MlaBwdIdeal.main_v36_2) = v2 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ θ_run (Cert.MlaBwdRefIdeal.defs (F := Ideal)) (onTc (τ := Cert.MlaBwdRefIdeal.τ) (Cert.MlaBwdRefIdeal.main (F := Ideal))) ⟨m', fun _ => 0, g'⟩ (fun r => ∀ c : Dev Cert.MlaBwdRefIdeal.nD,
          r.2.mem ((c.tc : Thread Cert.MlaBwdRefIdeal.nD Cert.MlaBwdRefIdeal.τ).loc Cert.MlaBwdRefIdeal.main_v68) = v0 c
          ∧ r.2.mem ((c.tc : Thread Cert.MlaBwdRefIdeal.nD Cert.MlaBwdRefIdeal.τ).loc Cert.MlaBwdRefIdeal.main_v76) = v1 c
          ∧ r.2.mem ((c.tc : Thread Cert.MlaBwdRefIdeal.nD Cert.MlaBwdRefIdeal.τ).loc Cert.MlaBwdRefIdeal.main_v84) = v2 c
          ∧ r.2.mem ((c.tc : Thread Cert.MlaBwdRefIdeal.nD Cert.MlaBwdRefIdeal.τ).loc Cert.MlaBwdRefIdeal.main_arg0) = m' ((c.tc : Thread Cert.MlaBwdRefIdeal.nD Cert.MlaBwdRefIdeal.τ).loc Cert.MlaBwdRefIdeal.main_arg0)
          ∧ r.2.mem ((c.tc : Thread Cert.MlaBwdRefIdeal.nD Cert.MlaBwdRefIdeal.τ).loc Cert.MlaBwdRefIdeal.main_arg1) = m' ((c.tc : Thread Cert.MlaBwdRefIdeal.nD Cert.MlaBwdRefIdeal.τ).loc Cert.MlaBwdRefIdeal.main_arg1)
          ∧ r.2.mem ((c.tc : Thread Cert.MlaBwdRefIdeal.nD Cert.MlaBwdRefIdeal.τ).loc Cert.MlaBwdRefIdeal.main_arg2) = m' ((c.tc : Thread Cert.MlaBwdRefIdeal.nD Cert.MlaBwdRefIdeal.τ).loc Cert.MlaBwdRefIdeal.main_arg2)
          ∧ r.2.mem ((c.tc : Thread Cert.MlaBwdRefIdeal.nD Cert.MlaBwdRefIdeal.τ).loc Cert.MlaBwdRefIdeal.main_arg3) = m' ((c.tc : Thread Cert.MlaBwdRefIdeal.nD Cert.MlaBwdRefIdeal.τ).loc Cert.MlaBwdRefIdeal.main_arg3))

def preserves_MlaFwd_MlaFwdIdeal : Prop :=
  IdealRules.named_const.Statement Cert.MlaFwdIdeal.κ "s" .f32 0x3DD105EC#32 (((Real.sqrt 96)⁻¹ : ℝ) : EReal)
  ∧ IdealRules.named_const.Statement Cert.MlaFwdIdeal.κ "mask" .f32 0xF149F2CA#32 ⊥

def algebraic_MlaFwdIdeal_MlaFwdRefIdeal_pre_finite_mlaf [hMlaFwdIdeal : Cert.MlaFwdIdeal.Facts] [hMlaFwdRefIdeal : Cert.MlaFwdRefIdeal.Facts] [hPre_finite_mlaf : Cert.Pre_finite_mlaf.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_mlaf m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v31)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v31) = v0 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v26) = v0 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_FoxFwd_FoxFwdIdeal : Prop :=
  IdealRules.named_const.Statement Cert.FoxFwdIdeal.κ "mask" .f32 0xF149F2CA#32 ⊥

def algebraic_FoxFwdIdeal_FoxFwdRefIdeal_pre_finite_foxf [hFoxFwdIdeal : Cert.FoxFwdIdeal.Facts] [hFoxFwdRefIdeal : Cert.FoxFwdRefIdeal.Facts] [hPre_finite_foxf : Cert.Pre_finite_foxf.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_finite_foxf m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v37)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v37) = v0 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v31) = v0 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)
      ∧ m' ((c.tc : Thread Cert.PostFwdRefIdeal.nD Cert.PostFwdRefIdeal.τ).loc Cert.PostFwdRefIdeal.main_arg3) = m ((c.tc : Thread Cert.PostFwdIdeal.nD Cert.PostFwdIdeal.τ).loc Cert.PostFwdIdeal.main_arg3)
      ∧ m' ((c.tc : Thread Cert.PostFwdRefIdeal.nD Cert.PostFwdRefIdeal.τ).loc Cert.PostFwdRefIdeal.main_arg4) = m ((c.tc : Thread Cert.PostFwdIdeal.nD Cert.PostFwdIdeal.τ).loc Cert.PostFwdIdeal.main_arg4)
      ∧ m' ((c.tc : Thread Cert.PostFwdRefIdeal.nD Cert.PostFwdRefIdeal.τ).loc Cert.PostFwdRefIdeal.main_arg5) = m ((c.tc : Thread Cert.PostFwdIdeal.nD Cert.PostFwdIdeal.τ).loc Cert.PostFwdIdeal.main_arg5)
      ∧ m' ((c.tc : Thread Cert.PostFwdRefIdeal.nD Cert.PostFwdRefIdeal.τ).loc Cert.PostFwdRefIdeal.main_arg6) = m ((c.tc : Thread Cert.PostFwdIdeal.nD Cert.PostFwdIdeal.τ).loc Cert.PostFwdIdeal.main_arg6)
      ∧ m' ((c.tc : Thread Cert.PostFwdRefIdeal.nD Cert.PostFwdRefIdeal.τ).loc Cert.PostFwdRefIdeal.main_arg7) = m ((c.tc : Thread Cert.PostFwdIdeal.nD Cert.PostFwdIdeal.τ).loc Cert.PostFwdIdeal.main_arg7)) →
    ∃ (v0 : (c : Dev Cert.PostFwdIdeal.nD) → Buf (Elt Ideal) ((c.tc : Thread Cert.PostFwdIdeal.nD Cert.PostFwdIdeal.τ).loc Cert.PostFwdIdeal.main_v7_0)) (v1 : (c : Dev Cert.PostFwdIdeal.nD) → Buf (Elt Ideal) ((c.tc : Thread Cert.PostFwdIdeal.nD Cert.PostFwdIdeal.τ).loc Cert.PostFwdIdeal.main_v7_1)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v7_0) = v0 c
          ∧ r.2.mem ((c.tc : Thread Cert.PostFwdIdeal.nD Cert.PostFwdIdeal.τ).loc Cert.PostFwdIdeal.main_v7_1) = v1 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
          ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4)
          ∧ r.2.mem ((c.tc : Thread Cert.PostFwdIdeal.nD Cert.PostFwdIdeal.τ).loc Cert.PostFwdIdeal.main_arg5) = m ((c.tc : Thread Cert.PostFwdIdeal.nD Cert.PostFwdIdeal.τ).loc Cert.PostFwdIdeal.main_arg5)
          ∧ r.2.mem ((c.tc : Thread Cert.PostFwdIdeal.nD Cert.PostFwdIdeal.τ).loc Cert.PostFwdIdeal.main_arg6) = m ((c.tc : Thread Cert.PostFwdIdeal.nD Cert.PostFwdIdeal.τ).loc Cert.PostFwdIdeal.main_arg6)
          ∧ r.2.mem ((c.tc : Thread Cert.PostFwdIdeal.nD Cert.PostFwdIdeal.τ).loc Cert.PostFwdIdeal.main_arg7) = m ((c.tc : Thread Cert.PostFwdIdeal.nD Cert.PostFwdIdeal.τ).loc Cert.PostFwdIdeal.main_arg7))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v16) = v0 c
          ∧ r.2.mem ((c.tc : Thread Cert.PostFwdRefIdeal.nD Cert.PostFwdRefIdeal.τ).loc Cert.PostFwdRefIdeal.main_v17) = v1 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2)
          ∧ r.2.mem ((c.tc : Thread Cert.PostFwdRefIdeal.nD Cert.PostFwdRefIdeal.τ).loc Cert.PostFwdRefIdeal.main_arg3) = m' ((c.tc : Thread Cert.PostFwdRefIdeal.nD Cert.PostFwdRefIdeal.τ).loc Cert.PostFwdRefIdeal.main_arg3)
          ∧ r.2.mem ((c.tc : Thread Cert.PostFwdRefIdeal.nD Cert.PostFwdRefIdeal.τ).loc Cert.PostFwdRefIdeal.main_arg4) = m' ((c.tc : Thread Cert.PostFwdRefIdeal.nD Cert.PostFwdRefIdeal.τ).loc Cert.PostFwdRefIdeal.main_arg4)
          ∧ r.2.mem ((c.tc : Thread Cert.PostFwdRefIdeal.nD Cert.PostFwdRefIdeal.τ).loc Cert.PostFwdRefIdeal.main_arg5) = m' ((c.tc : Thread Cert.PostFwdRefIdeal.nD Cert.PostFwdRefIdeal.τ).loc Cert.PostFwdRefIdeal.main_arg5)
          ∧ r.2.mem ((c.tc : Thread Cert.PostFwdRefIdeal.nD Cert.PostFwdRefIdeal.τ).loc Cert.PostFwdRefIdeal.main_arg6) = m' ((c.tc : Thread Cert.PostFwdRefIdeal.nD Cert.PostFwdRefIdeal.τ).loc Cert.PostFwdRefIdeal.main_arg6)
          ∧ r.2.mem ((c.tc : Thread Cert.PostFwdRefIdeal.nD Cert.PostFwdRefIdeal.τ).loc Cert.PostFwdRefIdeal.main_arg7) = m' ((c.tc : Thread Cert.PostFwdRefIdeal.nD Cert.PostFwdRefIdeal.τ).loc Cert.PostFwdRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v2) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v11_0)) (v1 : (c : Dev Cert.InprojFwdIdeal.nD) → Buf (Elt Ideal) ((c.tc : Thread Cert.InprojFwdIdeal.nD Cert.InprojFwdIdeal.τ).loc Cert.InprojFwdIdeal.main_v11_1)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v11_0) = v0 c
          ∧ r.2.mem ((c.tc : Thread Cert.InprojFwdIdeal.nD Cert.InprojFwdIdeal.τ).loc Cert.InprojFwdIdeal.main_v11_1) = v1 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v22) = v0 c
          ∧ r.2.mem ((c.tc : Thread Cert.InprojFwdRefIdeal.nD Cert.InprojFwdRefIdeal.τ).loc Cert.InprojFwdRefIdeal.main_v23) = v1 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_ScanFwd_ScanFwdIdeal : Prop :=
  True

def algebraic_ScanFwdIdeal_ScanFwdRefIdeal [hScanFwdIdeal : Cert.ScanFwdIdeal.Facts] [hScanFwdRefIdeal : Cert.ScanFwdRefIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg)
    (m' : (ℓ : Loc Cert.ScanFwdRefIdeal.nD Cert.ScanFwdRefIdeal.τ Cert.ScanFwdRefIdeal.sig) → Buf (Elt Ideal) ℓ) (g' : Dev Cert.ScanFwdRefIdeal.nD → PrngReg), Pre_ScanFwdIdeal m →
    (∀ c : Dev Cert.ScanFwdIdeal.nD,
      m' ((c.tc : Thread Cert.ScanFwdRefIdeal.nD Cert.ScanFwdRefIdeal.τ).loc Cert.ScanFwdRefIdeal.main_arg0) = m ((c.tc : Thread Cert.ScanFwdIdeal.nD Cert.ScanFwdIdeal.τ).loc Cert.ScanFwdIdeal.main_arg0)) →
    ∃ (v0 : (c : Dev Cert.ScanFwdIdeal.nD) → Buf (Elt Ideal) ((c.tc : Thread Cert.ScanFwdIdeal.nD Cert.ScanFwdIdeal.τ).loc Cert.ScanFwdIdeal.main_v5)),
      θ_run (Cert.ScanFwdIdeal.defs (F := Ideal)) (onTc (τ := Cert.ScanFwdIdeal.τ) (Cert.ScanFwdIdeal.main (F := Ideal))) ⟨m, fun _ => 0, g⟩ (fun r => ∀ c : Dev Cert.ScanFwdIdeal.nD,
          r.2.mem ((c.tc : Thread Cert.ScanFwdIdeal.nD Cert.ScanFwdIdeal.τ).loc Cert.ScanFwdIdeal.main_v5) = v0 c
          ∧ r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0))
      ∧ θ_run (Cert.ScanFwdRefIdeal.defs (F := Ideal)) (onTc (τ := Cert.ScanFwdRefIdeal.τ) (Cert.ScanFwdRefIdeal.main (F := Ideal))) ⟨m', fun _ => 0, g'⟩ (fun r => ∀ c : Dev Cert.ScanFwdRefIdeal.nD,
          r.2.mem ((c.tc : Thread Cert.ScanFwdRefIdeal.nD Cert.ScanFwdRefIdeal.τ).loc Cert.ScanFwdRefIdeal.main_v5) = v0 c
          ∧ r.2.mem ((c.tc : Thread Cert.ScanFwdRefIdeal.nD Cert.ScanFwdRefIdeal.τ).loc Cert.ScanFwdRefIdeal.main_arg0) = m' ((c.tc : Thread Cert.ScanFwdRefIdeal.nD Cert.ScanFwdRefIdeal.τ).loc Cert.ScanFwdRefIdeal.main_arg0))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_PrepFwd_PrepFwdIdeal : Prop :=
  True

def algebraic_PrepFwdIdeal_PrepFwdRefIdeal_pre_finite_prepf [hPrepFwdIdeal : Cert.PrepFwdIdeal.Facts] [hPrepFwdRefIdeal : Cert.PrepFwdRefIdeal.Facts] [hPre_finite_prepf : Cert.Pre_finite_prepf.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal_finite_prepf m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)
      ∧ m' ((c.tc : Thread Cert.PrepFwdRefIdeal.nD Cert.PrepFwdRefIdeal.τ).loc Cert.PrepFwdRefIdeal.main_arg5) = m ((c.tc : Thread Cert.PrepFwdIdeal.nD Cert.PrepFwdIdeal.τ).loc Cert.PrepFwdIdeal.main_arg5)
      ∧ m' ((c.tc : Thread Cert.PrepFwdRefIdeal.nD Cert.PrepFwdRefIdeal.τ).loc Cert.PrepFwdRefIdeal.main_arg6) = m ((c.tc : Thread Cert.PrepFwdIdeal.nD Cert.PrepFwdIdeal.τ).loc Cert.PrepFwdIdeal.main_arg6)
      ∧ m' ((c.tc : Thread Cert.PrepFwdRefIdeal.nD Cert.PrepFwdRefIdeal.τ).loc Cert.PrepFwdRefIdeal.main_arg7) = m ((c.tc : Thread Cert.PrepFwdIdeal.nD Cert.PrepFwdIdeal.τ).loc Cert.PrepFwdIdeal.main_arg7)
      ∧ m' ((c.tc : Thread Cert.PrepFwdRefIdeal.nD Cert.PrepFwdRefIdeal.τ).loc Cert.PrepFwdRefIdeal.main_arg8) = m ((c.tc : Thread Cert.PrepFwdIdeal.nD Cert.PrepFwdIdeal.τ).loc Cert.PrepFwdIdeal.main_arg8)
      ∧ m' ((c.tc : Thread Cert.PrepFwdRefIdeal.nD Cert.PrepFwdRefIdeal.τ).loc Cert.PrepFwdRefIdeal.main_arg9) = m ((c.tc : Thread Cert.PrepFwdIdeal.nD Cert.PrepFwdIdeal.τ).loc Cert.PrepFwdIdeal.main_arg9)) →
    ∃ (v0 : (c : Dev Cert.PrepFwdIdeal.nD) → Buf (Elt Ideal) ((c.tc : Thread Cert.PrepFwdIdeal.nD Cert.PrepFwdIdeal.τ).loc Cert.PrepFwdIdeal.main_v75_0)) (v1 : (c : Dev Cert.PrepFwdIdeal.nD) → Buf (Elt Ideal) ((c.tc : Thread Cert.PrepFwdIdeal.nD Cert.PrepFwdIdeal.τ).loc Cert.PrepFwdIdeal.main_v75_1)) (v2 : (c : Dev Cert.PrepFwdIdeal.nD) → Buf (Elt Ideal) ((c.tc : Thread Cert.PrepFwdIdeal.nD Cert.PrepFwdIdeal.τ).loc Cert.PrepFwdIdeal.main_v75_2)) (v3 : (c : Dev Cert.PrepFwdIdeal.nD) → Buf (Elt Ideal) ((c.tc : Thread Cert.PrepFwdIdeal.nD Cert.PrepFwdIdeal.τ).loc Cert.PrepFwdIdeal.main_v75_5)) (v4 : (c : Dev Cert.PrepFwdIdeal.nD) → Buf (Elt Ideal) ((c.tc : Thread Cert.PrepFwdIdeal.nD Cert.PrepFwdIdeal.τ).loc Cert.PrepFwdIdeal.main_v75_6)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v75_0) = v0 c
          ∧ r.2.mem ((c.tc : Thread Cert.PrepFwdIdeal.nD Cert.PrepFwdIdeal.τ).loc Cert.PrepFwdIdeal.main_v75_1) = v1 c
          ∧ r.2.mem ((c.tc : Thread Cert.PrepFwdIdeal.nD Cert.PrepFwdIdeal.τ).loc Cert.PrepFwdIdeal.main_v75_2) = v2 c
          ∧ r.2.mem ((c.tc : Thread Cert.PrepFwdIdeal.nD Cert.PrepFwdIdeal.τ).loc Cert.PrepFwdIdeal.main_v75_5) = v3 c
          ∧ r.2.mem ((c.tc : Thread Cert.PrepFwdIdeal.nD Cert.PrepFwdIdeal.τ).loc Cert.PrepFwdIdeal.main_v75_6) = v4 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
          ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
          ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
          ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
          ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
          ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v75) = v0 c
          ∧ r.2.mem ((c.tc : Thread Cert.PrepFwdRefIdeal.nD Cert.PrepFwdRefIdeal.τ).loc Cert.PrepFwdRefIdeal.main_v83) = v1 c
          ∧ r.2.mem ((c.tc : Thread Cert.PrepFwdRefIdeal.nD Cert.PrepFwdRefIdeal.τ).loc Cert.PrepFwdRefIdeal.main_v93) = v2 c
          ∧ r.2.mem ((c.tc : Thread Cert.PrepFwdRefIdeal.nD Cert.PrepFwdRefIdeal.τ).loc Cert.PrepFwdRefIdeal.main_v101) = v3 c
          ∧ r.2.mem ((c.tc : Thread Cert.PrepFwdRefIdeal.nD Cert.PrepFwdRefIdeal.τ).loc Cert.PrepFwdRefIdeal.main_v50) = v4 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4)
          ∧ r.2.mem ((c.tc : Thread Cert.PrepFwdRefIdeal.nD Cert.PrepFwdRefIdeal.τ).loc Cert.PrepFwdRefIdeal.main_arg5) = m' ((c.tc : Thread Cert.PrepFwdRefIdeal.nD Cert.PrepFwdRefIdeal.τ).loc Cert.PrepFwdRefIdeal.main_arg5)
          ∧ r.2.mem ((c.tc : Thread Cert.PrepFwdRefIdeal.nD Cert.PrepFwdRefIdeal.τ).loc Cert.PrepFwdRefIdeal.main_arg6) = m' ((c.tc : Thread Cert.PrepFwdRefIdeal.nD Cert.PrepFwdRefIdeal.τ).loc Cert.PrepFwdRefIdeal.main_arg6)
          ∧ r.2.mem ((c.tc : Thread Cert.PrepFwdRefIdeal.nD Cert.PrepFwdRefIdeal.τ).loc Cert.PrepFwdRefIdeal.main_arg7) = m' ((c.tc : Thread Cert.PrepFwdRefIdeal.nD Cert.PrepFwdRefIdeal.τ).loc Cert.PrepFwdRefIdeal.main_arg7)
          ∧ r.2.mem ((c.tc : Thread Cert.PrepFwdRefIdeal.nD Cert.PrepFwdRefIdeal.τ).loc Cert.PrepFwdRefIdeal.main_arg8) = m' ((c.tc : Thread Cert.PrepFwdRefIdeal.nD Cert.PrepFwdRefIdeal.τ).loc Cert.PrepFwdRefIdeal.main_arg8)
          ∧ r.2.mem ((c.tc : Thread Cert.PrepFwdRefIdeal.nD Cert.PrepFwdRefIdeal.τ).loc Cert.PrepFwdRefIdeal.main_arg9) = m' ((c.tc : Thread Cert.PrepFwdRefIdeal.nD Cert.PrepFwdRefIdeal.τ).loc Cert.PrepFwdRefIdeal.main_arg9))

def Claim : Prop :=
  ∃ (hScanBwd : Cert.ScanBwd.Facts) (hScanBwdIdeal : Cert.ScanBwdIdeal.Facts) (hScanBwdRefIdeal : Cert.ScanBwdRefIdeal.Facts) (hLossHead : Cert.LossHead.Facts) (hLossHeadIdeal : Cert.LossHeadIdeal.Facts) (hLossHeadRefIdeal : Cert.LossHeadRefIdeal.Facts) (hPostBwd : Cert.PostBwd.Facts) (hPostBwdIdeal : Cert.PostBwdIdeal.Facts) (hPostBwdRefIdeal : Cert.PostBwdRefIdeal.Facts) (hFfnBwd : Cert.FfnBwd.Facts) (hFfnBwdIdeal : Cert.FfnBwdIdeal.Facts) (hFfnBwdRefIdeal : Cert.FfnBwdRefIdeal.Facts) (hInprojBwd : Cert.InprojBwd.Facts) (hInprojBwdIdeal : Cert.InprojBwdIdeal.Facts) (hInprojBwdRefIdeal : Cert.InprojBwdRefIdeal.Facts) (hFoxBwd : Cert.FoxBwd.Facts) (hFoxBwdIdeal : Cert.FoxBwdIdeal.Facts) (hFoxBwdRefIdeal : Cert.FoxBwdRefIdeal.Facts) (hMlaBwd : Cert.MlaBwd.Facts) (hMlaBwdIdeal : Cert.MlaBwdIdeal.Facts) (hMlaBwdRefIdeal : Cert.MlaBwdRefIdeal.Facts) (hMlaFwd : Cert.MlaFwd.Facts) (hMlaFwdIdeal : Cert.MlaFwdIdeal.Facts) (hMlaFwdRefIdeal : Cert.MlaFwdRefIdeal.Facts) (hFoxFwd : Cert.FoxFwd.Facts) (hFoxFwdIdeal : Cert.FoxFwdIdeal.Facts) (hFoxFwdRefIdeal : Cert.FoxFwdRefIdeal.Facts) (hPostFwd : Cert.PostFwd.Facts) (hPostFwdIdeal : Cert.PostFwdIdeal.Facts) (hPostFwdRefIdeal : Cert.PostFwdRefIdeal.Facts) (hFfnFwd : Cert.FfnFwd.Facts) (hFfnFwdIdeal : Cert.FfnFwdIdeal.Facts) (hFfnFwdRefIdeal : Cert.FfnFwdRefIdeal.Facts) (hInprojFwd : Cert.InprojFwd.Facts) (hInprojFwdIdeal : Cert.InprojFwdIdeal.Facts) (hInprojFwdRefIdeal : Cert.InprojFwdRefIdeal.Facts) (hScanFwd : Cert.ScanFwd.Facts) (hScanFwdIdeal : Cert.ScanFwdIdeal.Facts) (hScanFwdRefIdeal : Cert.ScanFwdRefIdeal.Facts) (hWgrad : Cert.Wgrad.Facts) (hWgradIdeal : Cert.WgradIdeal.Facts) (hWgradRefIdeal : Cert.WgradRefIdeal.Facts) (hPrepFwd : Cert.PrepFwd.Facts) (hPrepFwdIdeal : Cert.PrepFwdIdeal.Facts) (hPrepFwdRefIdeal : Cert.PrepFwdRefIdeal.Facts) (hPre_finite_ffn : Cert.Pre_finite_ffn.Facts) (hPre_finite_inproj : Cert.Pre_finite_inproj.Facts) (hPre_finite_fox : Cert.Pre_finite_fox.Facts) (hPre_finite_mla : Cert.Pre_finite_mla.Facts) (hPre_finite_mlaf : Cert.Pre_finite_mlaf.Facts) (hPre_finite_foxf : Cert.Pre_finite_foxf.Facts) (hPre_finite_prepf : Cert.Pre_finite_prepf.Facts),
    quiescent_ScanBwd (hScanBwd := hScanBwd)
    ∧ quiescent_ScanBwdIdeal (hScanBwdIdeal := hScanBwdIdeal)
    ∧ quiescent_ScanBwdRefIdeal (hScanBwdRefIdeal := hScanBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_InprojBwd (hInprojBwd := hInprojBwd)
    ∧ quiescent_InprojBwdIdeal (hInprojBwdIdeal := hInprojBwdIdeal)
    ∧ quiescent_InprojBwdIdeal_pre_finite_inproj (hInprojBwdIdeal := hInprojBwdIdeal) (hPre_finite_inproj := hPre_finite_inproj)
    ∧ quiescent_InprojBwdRefIdeal (hInprojBwdRefIdeal := hInprojBwdRefIdeal)
    ∧ quiescent_InprojBwdRefIdeal_pre_finite_inproj (hInprojBwdRefIdeal := hInprojBwdRefIdeal) (hPre_finite_inproj := hPre_finite_inproj)
    ∧ quiescent_FoxBwd (hFoxBwd := hFoxBwd)
    ∧ quiescent_FoxBwdIdeal (hFoxBwdIdeal := hFoxBwdIdeal)
    ∧ quiescent_FoxBwdIdeal_pre_finite_fox (hFoxBwdIdeal := hFoxBwdIdeal) (hPre_finite_fox := hPre_finite_fox)
    ∧ quiescent_FoxBwdRefIdeal (hFoxBwdRefIdeal := hFoxBwdRefIdeal)
    ∧ quiescent_FoxBwdRefIdeal_pre_finite_fox (hFoxBwdRefIdeal := hFoxBwdRefIdeal) (hPre_finite_fox := hPre_finite_fox)
    ∧ quiescent_MlaBwd (hMlaBwd := hMlaBwd)
    ∧ quiescent_MlaBwdIdeal (hMlaBwdIdeal := hMlaBwdIdeal)
    ∧ quiescent_MlaBwdIdeal_pre_finite_mla (hMlaBwdIdeal := hMlaBwdIdeal) (hPre_finite_mla := hPre_finite_mla)
    ∧ quiescent_MlaBwdRefIdeal (hMlaBwdRefIdeal := hMlaBwdRefIdeal)
    ∧ quiescent_MlaBwdRefIdeal_pre_finite_mla (hMlaBwdRefIdeal := hMlaBwdRefIdeal) (hPre_finite_mla := hPre_finite_mla)
    ∧ quiescent_MlaFwd (hMlaFwd := hMlaFwd)
    ∧ quiescent_MlaFwdIdeal (hMlaFwdIdeal := hMlaFwdIdeal)
    ∧ quiescent_MlaFwdIdeal_pre_finite_mlaf (hMlaFwdIdeal := hMlaFwdIdeal) (hPre_finite_mlaf := hPre_finite_mlaf)
    ∧ quiescent_MlaFwdRefIdeal (hMlaFwdRefIdeal := hMlaFwdRefIdeal)
    ∧ quiescent_MlaFwdRefIdeal_pre_finite_mlaf (hMlaFwdRefIdeal := hMlaFwdRefIdeal) (hPre_finite_mlaf := hPre_finite_mlaf)
    ∧ quiescent_FoxFwd (hFoxFwd := hFoxFwd)
    ∧ quiescent_FoxFwdIdeal (hFoxFwdIdeal := hFoxFwdIdeal)
    ∧ quiescent_FoxFwdIdeal_pre_finite_foxf (hFoxFwdIdeal := hFoxFwdIdeal) (hPre_finite_foxf := hPre_finite_foxf)
    ∧ quiescent_FoxFwdRefIdeal (hFoxFwdRefIdeal := hFoxFwdRefIdeal)
    ∧ quiescent_FoxFwdRefIdeal_pre_finite_foxf (hFoxFwdRefIdeal := hFoxFwdRefIdeal) (hPre_finite_foxf := hPre_finite_foxf)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_ScanFwd (hScanFwd := hScanFwd)
    ∧ quiescent_ScanFwdIdeal (hScanFwdIdeal := hScanFwdIdeal)
    ∧ quiescent_ScanFwdRefIdeal (hScanFwdRefIdeal := hScanFwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_PrepFwd (hPrepFwd := hPrepFwd)
    ∧ quiescent_PrepFwdIdeal (hPrepFwdIdeal := hPrepFwdIdeal)
    ∧ quiescent_PrepFwdIdeal_pre_finite_prepf (hPrepFwdIdeal := hPrepFwdIdeal) (hPre_finite_prepf := hPre_finite_prepf)
    ∧ quiescent_PrepFwdRefIdeal (hPrepFwdRefIdeal := hPrepFwdRefIdeal)
    ∧ quiescent_PrepFwdRefIdeal_pre_finite_prepf (hPrepFwdRefIdeal := hPrepFwdRefIdeal) (hPre_finite_prepf := hPre_finite_prepf)
    ∧ preserves_ScanBwd_ScanBwdIdeal
    ∧ algebraic_ScanBwdIdeal_ScanBwdRefIdeal (hScanBwdIdeal := hScanBwdIdeal) (hScanBwdRefIdeal := hScanBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_PostBwd_PostBwdIdeal
    ∧ algebraic_PostBwdIdeal_PostBwdRefIdeal (hPostBwdIdeal := hPostBwdIdeal) (hPostBwdRefIdeal := hPostBwdRefIdeal)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_InprojBwd_InprojBwdIdeal
    ∧ algebraic_InprojBwdIdeal_InprojBwdRefIdeal_pre_finite_inproj (hInprojBwdIdeal := hInprojBwdIdeal) (hInprojBwdRefIdeal := hInprojBwdRefIdeal) (hPre_finite_inproj := hPre_finite_inproj)
    ∧ preserves_FoxBwd_FoxBwdIdeal
    ∧ algebraic_FoxBwdIdeal_FoxBwdRefIdeal_pre_finite_fox (hFoxBwdIdeal := hFoxBwdIdeal) (hFoxBwdRefIdeal := hFoxBwdRefIdeal) (hPre_finite_fox := hPre_finite_fox)
    ∧ preserves_MlaBwd_MlaBwdIdeal
    ∧ algebraic_MlaBwdIdeal_MlaBwdRefIdeal_pre_finite_mla (hMlaBwdIdeal := hMlaBwdIdeal) (hMlaBwdRefIdeal := hMlaBwdRefIdeal) (hPre_finite_mla := hPre_finite_mla)
    ∧ preserves_MlaFwd_MlaFwdIdeal
    ∧ algebraic_MlaFwdIdeal_MlaFwdRefIdeal_pre_finite_mlaf (hMlaFwdIdeal := hMlaFwdIdeal) (hMlaFwdRefIdeal := hMlaFwdRefIdeal) (hPre_finite_mlaf := hPre_finite_mlaf)
    ∧ preserves_FoxFwd_FoxFwdIdeal
    ∧ algebraic_FoxFwdIdeal_FoxFwdRefIdeal_pre_finite_foxf (hFoxFwdIdeal := hFoxFwdIdeal) (hFoxFwdRefIdeal := hFoxFwdRefIdeal) (hPre_finite_foxf := hPre_finite_foxf)
    ∧ preserves_PostFwd_PostFwdIdeal
    ∧ algebraic_PostFwdIdeal_PostFwdRefIdeal (hPostFwdIdeal := hPostFwdIdeal) (hPostFwdRefIdeal := hPostFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_ScanFwd_ScanFwdIdeal
    ∧ algebraic_ScanFwdIdeal_ScanFwdRefIdeal (hScanFwdIdeal := hScanFwdIdeal) (hScanFwdRefIdeal := hScanFwdRefIdeal)
    ∧ preserves_Wgrad_WgradIdeal
    ∧ algebraic_WgradIdeal_WgradRefIdeal (hWgradIdeal := hWgradIdeal) (hWgradRefIdeal := hWgradRefIdeal)
    ∧ preserves_PrepFwd_PrepFwdIdeal
    ∧ algebraic_PrepFwdIdeal_PrepFwdRefIdeal_pre_finite_prepf (hPrepFwdIdeal := hPrepFwdIdeal) (hPrepFwdRefIdeal := hPrepFwdRefIdeal) (hPre_finite_prepf := hPre_finite_prepf)
-- ==== Pre_finite_ffn.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8704x1024 : S_.BroadcastsInDim S8704x1024 (![] : Fin 0 → Fin S8704x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8704x1024 .f32) (main_arg1 : FVec F S8704x1024 .f32) (main_arg2 : FVec F S1x1024 .f32) (main_arg3 : FVec F S1024x5632 .f32) (main_arg4 : FVec F S2816x1024 .f32) : IVec S8704x1024 1 × IVec S8704x1024 1 × IVec S1x1024 1 × IVec S1024x5632 1 × IVec S2816x1024 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_v3 : FVec F S8704x1024 .f32 := Host.absf main_arg1
  let main_cst_0 : FVec F S_ .f32 := constant S_ .f32 0x7F800000#32
  let main_v4 : FVec F S8704x1024 .f32 := broadcastInDim S8704x1024 ![] bcast_S_S8704x1024 main_cst_0
  let main_v5 : IVec S8704x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite_fox.lean ====
abbrev S4x8x2064x64 : Shape := ⟨4, ![4, 8, 2064, 64]⟩
abbrev S4x8x2064 : Shape := ⟨3, ![4, 8, 2064]⟩
abbrev S_ : Shape := ⟨0, ![]⟩

class Facts : Prop where
  bcast_S_S4x8x2064x64 : S_.BroadcastsInDim S4x8x2064x64 (![] : Fin 0 → Fin S4x8x2064x64.rank)
  bcast_S_S4x8x2064 : S_.BroadcastsInDim S4x8x2064 (![] : Fin 0 → Fin S4x8x2064.rank)

variable [Facts]

def fn {F : FTy → Type} [FloatOps F] (main_arg0 : FVec F S4x8x2064x64 .f32) (main_arg1 : FVec F S4x8x2064x64 .f32) (main_arg2 : FVec F S4x8x2064x64 .f32) (main_arg3 : FVec F S4x8x2064 .f32) (main_arg4 : FVec F S4x8x2064x64 .f32) : IVec S4x8x2064x64 1 × IVec S4x8x2064x64 1 × IVec S4x8x2064x64 1 × IVec S4x8x2064 1 × IVec S4x8x2064x64 1 :=
  let main_v0 : FVec F S4x8x2064x64 .f32 := Host.absf main_arg0
  let main_cst : FVec F S_ .f32 := constant S_ .f32 0x7F800000#32
  let main_v1 : FVec F S4x8x2064x64 .f32 := broadcastInDim S4x8x2064x64 ![] bcast_S_S4x8x2064x64 main_cst
  let main_v2 : IVec S4x8x2064x64 1 := cmpf .olt main_v0 main_v1
  let main_v3 : FVec F S4x8x2064x64 .f32 := Host.absf main_arg1
  let main_cst_0 : FVec F S_ .f32 := constant S_ .f32 0x7F800000#32
  let main_v4 : FVec F S4x8x2064x64 .f32 := broadcastInDim S4x8x2064x64 ![] bcast_S_S4x8x2064x64 main_cst_0
  let main_v5 : IVec S4x8x2064x64 1 := cmpf .olt main_v3 main_v4
  let main_v6 : FVec F S4x8x2064x64 .f32 := Host.absf main_arg2
  let main_cst_1 : FVec F S_ .f32 := constant S_ .f32 0x7F800000#32
  let main_v7 : FVec F S4x8x2064x64 .f32 := broadcastInDim S4x8x2064x64 ![] bcast_S_S4x8x2064x64 main_cst_1
  let main_v8 : IVec S4x8x2064x64 1 := cmpf .olt main_v6 main_v7
  let main_v9 : FVec F S4x8x2064 .f32 := Host.absf main_arg3
  let main_cst_2 : FVec F S_ .f32 := constant S_ .f32 0x7F800000#32
  let main_v10 : FVec F S4x8x2064 .f32 := broadcastInDim S4x8x2064 ![] bcast_S_S4x8x2064 main_cst_2
  let main_v11 : IVec S4x8x2064 1 := cmpf .olt main_v9 main_v10
  let main_v12 : FVec F S4x8x2064x64 .f32 := Host.absf main_arg4
  let main_cst_3 : FVec F S_ .f32 := constant S_ .f32 0x7F800000#32
  let main_v13 : FVec F S4x8x2064x64 .f32 := broadcastInDim S4x8x2064x64 ![] bcast_S_S4x8x2064x64 main_cst_3
  let main_v14 : IVec S4x8x2064x64 1 := cmpf .olt main_v12 main_v13
  (main_v2, main_v5, main_v8, main_v11, main_v14)
-- ==== Pre_finite_foxf.lean ====
abbrev S4x8x2064x64 : Shape := ⟨4, ![4, 8, 2064, 64]⟩
abbrev S4x8x2064 : Shape := ⟨3, ![4, 8, 2064]⟩
abbrev S_ : Shape := ⟨0, ![]⟩

class Facts : Prop where
  bcast_S_S4x8x2064x64 : S_.BroadcastsInDim S4x8x2064x64 (![] : Fin 0 → Fin S4x8x2064x64.rank)
  bcast_S_S4x8x2064 : S_.BroadcastsInDim S4x8x2064 (![] : Fin 0 → Fin S4x8x2064.rank)

variable [Facts]

def fn {F : FTy → Type} [FloatOps F] (main_arg0 : FVec F S4x8x2064x64 .f32) (main_arg1 : FVec F S4x8x2064x64 .f32) (main_arg2 : FVec F S4x8x2064x64 .f32) (main_arg3 : FVec F S4x8x2064 .f32) : IVec S4x8x2064x64 1 × IVec S4x8x2064x64 1 × IVec S4x8x2064x64 1 × IVec S4x8x2064 1 :=
  let main_v0 : FVec F S4x8x2064x64 .f32 := Host.absf main_arg0
  let main_cst : FVec F S_ .f32 := constant S_ .f32 0x7F800000#32
  let main_v1 : FVec F S4x8x2064x64 .f32 := broadcastInDim S4x8x2064x64 ![] bcast_S_S4x8x2064x64 main_cst
  let main_v2 : IVec S4x8x2064x64 1 := cmpf .olt main_v0 main_v1
  let main_v3 : FVec F S4x8x2064x64 .f32 := Host.absf main_arg1
  let main_cst_0 : FVec F S_ .f32 := constant S_ .f32 0x7F800000#32
  let main_v4 : FVec F S4x8x2064x64 .f32 := broadcastInDim S4x8x2064x64 ![] bcast_S_S4x8x2064x64 main_cst_0
  let main_v5 : IVec S4x8x2064x64 1 := cmpf .olt main_v3 main_v4
  let main_v6 : FVec F S4x8x2064x64 .f32 := Host.absf main_arg2
  let main_cst_1 : FVec F S_ .f32 := constant S_ .f32 0x7F800000#32
  let main_v7 : FVec F S4x8x2064x64 .f32 := broadcastInDim S4x8x2064x64 ![] bcast_S_S4x8x2064x64 main_cst_1
  let main_v8 : IVec S4x8x2064x64 1 := cmpf .olt main_v6 main_v7
  let main_v9 : FVec F S4x8x2064 .f32 := Host.absf main_arg3
  let main_cst_2 : FVec F S_ .f32 := constant S_ .f32 0x7F800000#32
  let main_v10 : FVec F S4x8x2064 .f32 := broadcastInDim S4x8x2064 ![] bcast_S_S4x8x2064 main_cst_2
  let main_v11 : IVec S4x8x2064 1 := cmpf .olt main_v9 main_v10
  (main_v2, main_v5, main_v8, main_v11)
-- ==== Pre_finite_inproj.lean ====
abbrev S8704x1024 : Shape := ⟨2, ![8704, 1024]⟩
abbrev S8704x4008 : Shape := ⟨2, ![8704, 4008]⟩
abbrev S1x1024 : Shape := ⟨2, ![1, 1024]⟩
abbrev S1024x4008 : Shape := ⟨2, ![1024, 4008]⟩
abbrev S_ : Shape := ⟨0, ![]⟩

class Facts : Prop where
  bcast_S_S8704x1024 : S_.BroadcastsInDim S8704x1024 (![] : Fin 0 → Fin S8704x1024.rank)
  bcast_S_S8704x4008 : S_.BroadcastsInDim S8704x4008 (![] : Fin 0 → Fin S8704x4008.rank)
  bcast_S_S1x1024 : S_.BroadcastsInDim S1x1024 (![] : Fin 0 → Fin S1x1024.rank)
  bcast_S_S1024x4008 : S_.BroadcastsInDim S1024x4008 (![] : Fin 0 → Fin S1024x4008.rank)

variable [Facts]

def fn {F : FTy → Type} [FloatOps F] (main_arg0 : FVec F S8704x1024 .f32) (main_arg1 : FVec F S8704x1024 .f32) (main_arg2 : FVec F S8704x4008 .f32) (main_arg3 : FVec F S1x1024 .f32) (main_arg4 : FVec F S1024x4008 .f32) : IVec S8704x1024 1 × IVec S8704x4008 1 × IVec S1x1024 1 × IVec S1024x4008 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_v3 : FVec F S8704x4008 .f32 := Host.absf main_arg2
  let main_cst_0 : FVec F S_ .f32 := constant S_ .f32 0x7F800000#32
  let main_v4 : FVec F S8704x4008 .f32 := broadcastInDim S8704x4008 ![] bcast_S_S8704x4008 main_cst_0
  let main_v5 : IVec S8704x4008 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x4008 .f32 := Host.absf main_arg4
  let main_cst_2 : FVec F S_ .f32 := constant S_ .f32 0x7F800000#32
  let main_v10 : FVec F S1024x4008 .f32 := broadcastInDim S1024x4008 ![] bcast_S_S1024x4008 main_cst_2
  let main_v11 : IVec S1024x4008 1 := cmpf .olt main_v9 main_v10
  (main_v2, main_v5, main_v8, main_v11)
-- ==== Pre_finite_mla.lean ====
abbrev S4x8x2064x96 : Shape := ⟨4, ![4, 8, 2064, 96]⟩
abbrev S4x8x2064x64 : Shape := ⟨4, ![4, 8, 2064, 64]⟩
abbrev S_ : Shape := ⟨0, ![]⟩

class Facts : Prop where
  bcast_S_S4x8x2064x96 : S_.BroadcastsInDim S4x8x2064x96 (![] : Fin 0 → Fin S4x8x2064x96.rank)
  bcast_S_S4x8x2064x64 : S_.BroadcastsInDim S4x8x2064x64 (![] : Fin 0 → Fin S4x8x2064x64.rank)

variable [Facts]

def fn {F : FTy → Type} [FloatOps F] (main_arg0 : FVec F S4x8x2064x96 .f32) (main_arg1 : FVec F S4x8x2064x96 .f32) (main_arg2 : FVec F S4x8x2064x64 .f32) (main_arg3 : FVec F S4x8x2064x64 .f32) : IVec S4x8x2064x96 1 × IVec S4x8x2064x96 1 × IVec S4x8x2064x64 1 × IVec S4x8x2064x64 1 :=
  let main_v0 : FVec F S4x8x2064x96 .f32 := Host.absf main_arg0
  let main_cst : FVec F S_ .f32 := constant S_ .f32 0x7F800000#32
  let main_v1 : FVec F S4x8x2064x96 .f32 := broadcastInDim S4x8x2064x96 ![] bcast_S_S4x8x2064x96 main_cst
  let main_v2 : IVec S4x8x2064x96 1 := cmpf .olt main_v0 main_v1
  let main_v3 : FVec F S4x8x2064x96 .f32 := Host.absf main_arg1
  let main_cst_0 : FVec F S_ .f32 := constant S_ .f32 0x7F800000#32
  let main_v4 : FVec F S4x8x2064x96 .f32 := broadcastInDim S4x8x2064x96 ![] bcast_S_S4x8x2064x96 main_cst_0
  let main_v5 : IVec S4x8x2064x96 1 := cmpf .olt main_v3 main_v4
  let main_v6 : FVec F S4x8x2064x64 .f32 := Host.absf main_arg2
  let main_cst_1 : FVec F S_ .f32 := constant S_ .f32 0x7F800000#32
  let main_v7 : FVec F S4x8x2064x64 .f32 := broadcastInDim S4x8x2064x64 ![] bcast_S_S4x8x2064x64 main_cst_1
  let main_v8 : IVec S4x8x2064x64 1 := cmpf .olt main_v6 main_v7
  let main_v9 : FVec F S4x8x2064x64 .f32 := Host.absf main_arg3
  let main_cst_2 : FVec F S_ .f32 := constant S_ .f32 0x7F800000#32
  let main_v10 : FVec F S4x8x2064x64 .f32 := broadcastInDim S4x8x2064x64 ![] bcast_S_S4x8x2064x64 main_cst_2
  let main_v11 : IVec S4x8x2064x64 1 := cmpf .olt main_v9 main_v10
  (main_v2, main_v5, main_v8, main_v11)
-- ==== Pre_finite_mlaf.lean ====
abbrev S4x8x2064x96 : Shape := ⟨4, ![4, 8, 2064, 96]⟩
abbrev S4x8x2064x64 : Shape := ⟨4, ![4, 8, 2064, 64]⟩
abbrev S_ : Shape := ⟨0, ![]⟩

class Facts : Prop where
  bcast_S_S4x8x2064x96 : S_.BroadcastsInDim S4x8x2064x96 (![] : Fin 0 → Fin S4x8x2064x96.rank)
  bcast_S_S4x8x2064x64 : S_.BroadcastsInDim S4x8x2064x64 (![] : Fin 0 → Fin S4x8x2064x64.rank)

variable [Facts]

def fn {F : FTy → Type} [FloatOps F] (main_arg0 : FVec F S4x8x2064x96 .f32) (main_arg1 : FVec F S4x8x2064x96 .f32) (main_arg2 : FVec F S4x8x2064x64 .f32) : IVec S4x8x2064x96 1 × IVec S4x8x2064x96 1 × IVec S4x8x2064x64 1 :=
  let main_v0 : FVec F S4x8x2064x96 .f32 := Host.absf main_arg0
  let main_cst : FVec F S_ .f32 := constant S_ .f32 0x7F800000#32
  let main_v1 : FVec F S4x8x2064x96 .f32 := broadcastInDim S4x8x2064x96 ![] bcast_S_S4x8x2064x96 main_cst
  let main_v2 : IVec S4x8x2064x96 1 := cmpf .olt main_v0 main_v1
  let main_v3 : FVec F S4x8x2064x96 .f32 := Host.absf main_arg1
  let main_cst_0 : FVec F S_ .f32 := constant S_ .f32 0x7F800000#32
  let main_v4 : FVec F S4x8x2064x96 .f32 := broadcastInDim S4x8x2064x96 ![] bcast_S_S4x8x2064x96 main_cst_0
  let main_v5 : IVec S4x8x2064x96 1 := cmpf .olt main_v3 main_v4
  let main_v6 : FVec F S4x8x2064x64 .f32 := Host.absf main_arg2
  let main_cst_1 : FVec F S_ .f32 := constant S_ .f32 0x7F800000#32
  let main_v7 : FVec F S4x8x2064x64 .f32 := broadcastInDim S4x8x2064x64 ![] bcast_S_S4x8x2064x64 main_cst_1
  let main_v8 : IVec S4x8x2064x64 1 := cmpf .olt main_v6 main_v7
  (main_v2, main_v5, main_v8)
-- ==== Pre_finite_prepf.lean ====
abbrev S4x2064x1960 : Shape := ⟨3, ![4, 2064, 1960]⟩
abbrev S1x8 : Shape := ⟨2, ![1, 8]⟩
abbrev S1x64 : Shape := ⟨2, ![1, 64]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x96 : Shape := ⟨2, ![1, 96]⟩
abbrev S_ : Shape := ⟨0, ![]⟩

class Facts : Prop where
  bcast_S_S4x2064x1960 : S_.BroadcastsInDim S4x2064x1960 (![] : Fin 0 → Fin S4x2064x1960.rank)

variable [Facts]

def fn {F : FTy → Type} [FloatOps F] (main_arg0 : FVec F S4x2064x1960 .f32) (main_arg1 : FVec F S1x8 .f32) (main_arg2 : FVec F S1x64 .f32) (main_arg3 : FVec F S1x64 .f32) (main_arg4 : FVec F S1x256 .f32) (main_arg5 : FVec F S256x768 .f32) (main_arg6 : FVec F S1x128 .f32) (main_arg7 : FVec F S128x1024 .f32) (main_arg8 : FVec F S1x96 .f32) (main_arg9 : FVec F S1x96 .f32) : IVec S4x2064x1960 1 :=
  let main_v0 : FVec F S4x2064x1960 .f32 := Host.absf main_arg0
  let main_cst : FVec F S_ .f32 := constant S_ .f32 0x7F800000#32
  let main_v1 : FVec F S4x2064x1960 .f32 := broadcastInDim S4x2064x1960 ![] bcast_S_S4x2064x1960 main_cst
  let main_v2 : IVec S4x2064x1960 1 := cmpf .olt main_v0 main_v1
  main_v2
-- ==== ScanBwd.lean ====
abbrev S4x8x2064 : Shape := ⟨3, ![4, 8, 2064]⟩
abbrev S32x2064 : Shape := ⟨2, ![32, 2064]⟩
abbrev S32x16 : Shape := ⟨2, ![32, 16]⟩
abbrev S_ : Shape := ⟨0, ![]⟩
abbrev S32x112 : Shape := ⟨2, ![32, 112]⟩
abbrev S32x2048 : Shape := ⟨2, ![32, 2048]⟩
abbrev S32x2176 : Shape := ⟨2, ![32, 2176]⟩

abbrev nBuf : Space → Nat
  | .hbm => 8
  | .vmem => 2
  | .smem => 0
  | _ => 0

abbrev bufTy : (tb : Table) → Fin (tcTables nBuf tb) → BufTy
  | .hbm, ⟨0, _⟩ => ⟨S4x8x2064, .f32⟩
  | .hbm, ⟨1, _⟩ => ⟨S32x2064, .f32⟩
  | .hbm, ⟨2, _⟩ => ⟨S32x16, .f32⟩
  | .hbm, ⟨3, _⟩ => ⟨S_, .f32⟩
  | .hbm, ⟨4, _⟩ => ⟨S32x112, .f32⟩
  | .hbm, ⟨5, _⟩ => ⟨S32x2048, .f32⟩
  | .hbm, ⟨6, _⟩ => ⟨S32x2176, .f32⟩
  | .hbm, ⟨7, _⟩ => ⟨S32x2176, .f32⟩
  | .local _ .vmem, ⟨0, _⟩ => ⟨S32x2176, .f32⟩
  | .local _ .vmem, ⟨1, _⟩ => ⟨S32x2176, .f32⟩
  | _, _ => ⟨S4x8x2064, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ScanBwdRefIdeal.lean ====
abbrev S4x8x2064 : Shape := ⟨3, ![4, 8, 2064]⟩
abbrev S_ : Shape := ⟨0, ![]⟩
abbrev S32x2064 : Shape := ⟨2, ![32, 2064]⟩
abbrev S32x16 : Shape := ⟨2, ![32, 16]⟩
abbrev S32x112 : Shape := ⟨2, ![32, 112]⟩
abbrev S32x2048 : Shape := ⟨2, ![32, 2048]⟩
abbrev S32x2176 : Shape := ⟨2, ![32, 2176]⟩

abbrev nBuf : Space → Nat
  | .hbm => 15
  | .vmem => 0
  | .smem => 0
  | _ => 0

abbrev bufTy : (tb : Table) → Fin (tcTables nBuf tb) → BufTy
  | .hbm, ⟨0, _⟩ => ⟨S4x8x2064, .f32⟩
  | .hbm, ⟨1, _⟩ => ⟨S_, .f32⟩
  | .hbm, ⟨2, _⟩ => ⟨S4x8x2064, .f32⟩
  | .hbm, ⟨3, _⟩ => ⟨S_, .f32⟩
  | .hbm, ⟨4, _⟩ => ⟨S_, .f32⟩
  | .hbm, ⟨5, _⟩ => ⟨S4x8x2064, .f32⟩
  | .hbm, ⟨6, _⟩ => ⟨S_, .f32⟩
  | .hbm, ⟨7, _⟩ => ⟨S_, .f32⟩
  | .hbm, ⟨8, _⟩ => ⟨S4x8x2064, .f32⟩
  | .hbm, ⟨9, _⟩ => ⟨S32x2064, .f32⟩
  | .hbm, ⟨10, _⟩ => ⟨S32x16, .f32⟩
  | .hbm, ⟨11, _⟩ => ⟨S_, .f32⟩
  | .hbm, ⟨12, _⟩ => ⟨S32x112, .f32⟩
  | .hbm, ⟨13, _⟩ => ⟨S32x2048, .f32⟩
  | .hbm, ⟨14, _⟩ => ⟨S32x2176, .f32⟩
  | _, _ => ⟨S4x8x2064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_call1_call0_cst : Ref sig .tc := ⟨.hbm, 6, rfl⟩
abbrev main_call1_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== LossHead.lean ====
abbrev S4x2064x1024 : Shape := ⟨3, ![4, 2064, 1024]⟩
abbrev S4x2048x1024 : Shape := ⟨3, ![4, 2048, 1024]⟩
abbrev S4x16x1024 : Shape := ⟨3, ![4, 16, 1024]⟩
abbrev S_ : Shape := ⟨0, ![]⟩
abbrev S4x112x1024 : Shape := ⟨3, ![4, 112, 1024]⟩
abbrev S4x2176x1024 : Shape := ⟨3, ![4, 2176, 1024]⟩
abbrev S8704x1024 : Shape := ⟨2, ![8704, 1024]⟩
abbrev S1x1024 : Shape := ⟨2, ![1, 1024]⟩
abbrev S1088x1024 : Shape := ⟨2, ![1088, 1024]⟩
abbrev S1x2048x1024 : Shape := ⟨3, ![1, 2048, 1024]⟩
abbrev S960x1024 : Shape := ⟨2, ![960, 1024]⟩
abbrev S1x960x1024 : Shape := ⟨3, ![1, 960, 1024]⟩
abbrev S128x1024 : Shape := ⟨2, ![128, 1024]⟩
abbrev S1024 : Shape := ⟨1, ![1024]⟩
abbrev S1x1088x1024 : Shape := ⟨3, ![1, 1088, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2064x1024, .f32⟩
  | .hbm, ⟨1, _⟩ => ⟨S4x2048x1024, .f32⟩
  | .hbm, ⟨2, _⟩ => ⟨S4x16x1024, .f32⟩
  | .hbm, ⟨3, _⟩ => ⟨S_, .f32⟩
  | .hbm, ⟨4, _⟩ => ⟨S4x112x1024, .f32⟩
  | .hbm, ⟨5, _⟩ => ⟨S4x2048x1024, .f32⟩
  | .hbm, ⟨6, _⟩ => ⟨S4x2176x1024, .f32⟩
  | .hbm, ⟨7, _⟩ => ⟨S8704x1024, .f32⟩
  | .hbm, ⟨8, _⟩ => ⟨S8704x1024, .f32⟩
  | .hbm, ⟨9, _⟩ => ⟨S1x1024, .f32⟩
  | .local _ .vmem, ⟨0, _⟩ => ⟨S1088x1024, .f32⟩
  | .local _ .vmem, ⟨1, _⟩ => ⟨S1088x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== LossHeadRefIdeal.lean ====
abbrev S4x2064x1024 : Shape := ⟨3, ![4, 2064, 1024]⟩
abbrev S4x2048x1024 : Shape := ⟨3, ![4, 2048, 1024]⟩
abbrev S_ : Shape := ⟨0, ![]⟩
abbrev S4x2048 : Shape := ⟨2, ![4, 2048]⟩
abbrev S4x16x1024 : Shape := ⟨3, ![4, 16, 1024]⟩
abbrev S4x112x1024 : Shape := ⟨3, ![4, 112, 1024]⟩
abbrev S4x2176x1024 : Shape := ⟨3, ![4, 2176, 1024]⟩
abbrev S8704x1024 : Shape := ⟨2, ![8704, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2064x1024, .f32⟩
  | .hbm, ⟨28, _⟩ => ⟨S4x16x1024, .f32⟩
  | .hbm, ⟨29, _⟩ => ⟨S_, .f32⟩
  | .hbm, ⟨30, _⟩ => ⟨S4x112x1024, .f32⟩
  | .hbm, ⟨31, _⟩ => ⟨S4x2048x1024, .f32⟩
  | .hbm, ⟨32, _⟩ => ⟨S4x2176x1024, .f32⟩
  | .hbm, ⟨33, _⟩ => ⟨S8704x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== PostBwd.lean ====
abbrev S8704x1024 : Shape := ⟨2, ![8704, 1024]⟩
abbrev S8704x512 : Shape := ⟨2, ![8704, 512]⟩
abbrev S8704x2048 : Shape := ⟨2, ![8704, 2048]⟩
abbrev S1x2048 : Shape := ⟨2, ![1, 2048]⟩
abbrev S512x1024 : Shape := ⟨2, ![512, 1024]⟩
abbrev S1024x1024 : Shape := ⟨2, ![1024, 1024]⟩
abbrev S_ : Shape := ⟨0, ![]⟩
abbrev S8704x4096 : Shape := ⟨2, ![8704, 4096]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 22
  | .vmem => 23
  | .smem => 0
  | _ => 0

abbrev bufTy : (tb : Table) → Fin (tcTables nBuf tb) → BufTy
  | .hbm, ⟨0, _⟩ => ⟨S8704x1024, .f32⟩
  | .hbm, ⟨1, _⟩ => ⟨S8704x512, .f32⟩
  | .hbm, ⟨2, _⟩ => ⟨S8704x512, .f32⟩
  | .hbm, ⟨3, _⟩ => ⟨S8704x2048, .f32⟩
  | .hbm, ⟨4, _⟩ => ⟨S1x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S_, .f32⟩
  | .hbm, ⟨9, _⟩ => ⟨S8704x2048, .f32⟩
  | .hbm, ⟨10, _⟩ => ⟨S8704x4096, .f32⟩
  | .hbm, ⟨11, _⟩ => ⟨S8704x512, .bf16⟩
  | .hbm, ⟨12, _⟩ => ⟨S8704x512, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S8704x2048, .bf16⟩
  | .hbm, ⟨17, _⟩ => ⟨S8704x1024, .bf16⟩
  | .hbm, ⟨18, _⟩ => ⟨S8704x1024, .bf16⟩
  | .hbm, ⟨19, _⟩ => ⟨S8704x512, .bf16⟩
  | .hbm, ⟨20, _⟩ => ⟨S8704x512, .bf16⟩
  | .hbm, ⟨21, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x2048, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PostBwdRefIdeal.lean ====
abbrev S8704x1024 : Shape := ⟨2, ![8704, 1024]⟩
abbrev S8704x512 : Shape := ⟨2, ![8704, 512]⟩
abbrev S8704x2048 : Shape := ⟨2, ![8704, 2048]⟩
abbrev S1x2048 : Shape := ⟨2, ![1, 2048]⟩
abbrev S512x1024 : Shape := ⟨2, ![512, 1024]⟩
abbrev S1024x1024 : Shape := ⟨2, ![1024, 1024]⟩
abbrev S_ : Shape := ⟨0, ![]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x512, .f32⟩
  | .hbm, ⟨2, _⟩ => ⟨S8704x512, .f32⟩
  | .hbm, ⟨3, _⟩ => ⟨S8704x2048, .f32⟩
  | .hbm, ⟨4, _⟩ => ⟨S1x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8704x1024, .f32⟩
  | .hbm, ⟨9, _⟩ => ⟨S8704x1024, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S_, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704x2048, .f32⟩
  | .hbm, ⟨22, _⟩ => ⟨S8704x2048, .f32⟩
  | .hbm, ⟨23, _⟩ => ⟨S8704x2048, .f32⟩
  | .hbm, ⟨24, _⟩ => ⟨S8704x1024, .f32⟩
  | .hbm, ⟨25, _⟩ => ⟨S8704x1024, .f32⟩
  | .hbm, ⟨26, _⟩ => ⟨S8704x1024, .f32⟩
  | .hbm, ⟨27, _⟩ => ⟨S8704x1024, .f32⟩
  | .hbm, ⟨28, _⟩ => ⟨S8704x1024, .f32⟩
  | .hbm, ⟨29, _⟩ => ⟨S8704x1024, .f32⟩
  | .hbm, ⟨30, _⟩ => ⟨S8704x1024, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x2048, .f32⟩
  | .hbm, ⟨36, _⟩ => ⟨S8704x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8704x512, .f32⟩
  | .hbm, ⟨41, _⟩ => ⟨S8704x512, .f32⟩
  | .hbm, ⟨42, _⟩ => ⟨S8704x2048, .bf16⟩
  | .hbm, ⟨43, _⟩ => ⟨S8704x1024, .bf16⟩
  | .hbm, ⟨44, _⟩ => ⟨S8704x1024, .bf16⟩
  | .hbm, ⟨45, _⟩ => ⟨S8704x512, .bf16⟩
  | .hbm, ⟨46, _⟩ => ⟨S8704x512, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FfnBwd.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S8704x2816 : Shape := ⟨2, ![8704, 2816]⟩
abbrev S8704x5632 : Shape := ⟨2, ![8704, 5632]⟩
abbrev S256x1024 : Shape := ⟨2, ![256, 1024]⟩
abbrev S1024x2816 : Shape := ⟨2, ![1024, 2816]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S8704x1024, .f32⟩
  | .hbm, ⟨8, _⟩ => ⟨S8704x1024, .bf16⟩
  | .hbm, ⟨9, _⟩ => ⟨S8704x2816, .bf16⟩
  | .hbm, ⟨10, _⟩ => ⟨S8704x5632, .bf16⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnBwdRefIdeal.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8704 : Shape := ⟨1, ![8704]⟩
abbrev S8704x1 : Shape := ⟨2, ![8704, 1]⟩
abbrev S8704x5632 : Shape := ⟨2, ![8704, 5632]⟩
abbrev S8704x2816 : Shape := ⟨2, ![8704, 2816]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S8704x1024, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S_, .f32⟩
  | .hbm, ⟨18, _⟩ => ⟨S8704x1, .f32⟩
  | .hbm, ⟨19, _⟩ => ⟨S8704x1, .f32⟩
  | .hbm, ⟨20, _⟩ => ⟨S8704x1024, .f32⟩
  | .hbm, ⟨21, _⟩ => ⟨S8704x1024, .f32⟩
  | .hbm, ⟨22, _⟩ => ⟨S8704x1024, .f32⟩
  | .hbm, ⟨23, _⟩ => ⟨S8704x1024, .f32⟩
  | .hbm, ⟨24, _⟩ => ⟨S8704x5632, .f32⟩
  | .hbm, ⟨25, _⟩ => ⟨S8704x2816, .f32⟩
  | .hbm, ⟨26, _⟩ => ⟨S8704x2816, .f32⟩
  | .hbm, ⟨27, _⟩ => ⟨S8704x2816, .f32⟩
  | .hbm, ⟨28, _⟩ => ⟨S8704x2816, .f32⟩
  | .hbm, ⟨29, _⟩ => ⟨S_, .f32⟩
  | .hbm, ⟨30, _⟩ => ⟨S8704x2816, .f32⟩
  | .hbm, ⟨31, _⟩ => ⟨S8704x2816, .f32⟩
  | .hbm, ⟨32, _⟩ => ⟨S_, .f32⟩
  | .hbm, ⟨33, _⟩ => ⟨S8704x2816, .f32⟩
  | .hbm, ⟨34, _⟩ => ⟨S8704x2816, .f32⟩
  | .hbm, ⟨35, _⟩ => ⟨S_, .f32⟩
  | .hbm, ⟨36, _⟩ => ⟨S8704x2816, .f32⟩
  | .hbm, ⟨37, _⟩ => ⟨S8704x2816, .f32⟩
  | .hbm, ⟨38, _⟩ => ⟨S8704x2816, .f32⟩
  | .hbm, ⟨39, _⟩ => ⟨S8704x2816, .f32⟩
  | .hbm, ⟨40, _⟩ => ⟨S8704x2816, .f32⟩
  | .hbm, ⟨41, _⟩ => ⟨S8704x1024, .f32⟩
  | .hbm, ⟨42, _⟩ => ⟨S_, .f32⟩
  | .hbm, ⟨43, _⟩ => ⟨S8704x1024, .f32⟩
  | .hbm, ⟨44, _⟩ => ⟨S8704x1024, .f32⟩
  | .hbm, ⟨45, _⟩ => ⟨S_, .f32⟩
  | .hbm, ⟨46, _⟩ => ⟨S8704x1024, .f32⟩
  | .hbm, ⟨47, _⟩ => ⟨S8704x1024, .f32⟩
  | .hbm, ⟨48, _⟩ => ⟨S8704x2816, .f32⟩
  | .hbm, ⟨49, _⟩ => ⟨S8704x2816, .f32⟩
  | .hbm, ⟨50, _⟩ => ⟨S8704x2816, .f32⟩
  | .hbm, ⟨51, _⟩ => ⟨S8704x2816, .f32⟩
  | .hbm, ⟨52, _⟩ => ⟨S8704x2816, .f32⟩
  | .hbm, ⟨53, _⟩ => ⟨S8704x2816, .f32⟩
  | .hbm, ⟨54, _⟩ => ⟨S8704x2816, .f32⟩
  | .hbm, ⟨55, _⟩ => ⟨S8704x5632, .f32⟩
  | .hbm, ⟨56, _⟩ => ⟨S8704x1024, .f32⟩
  | .hbm, ⟨57, _⟩ => ⟨S8704x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8704x1024, .f32⟩
  | .hbm, ⟨62, _⟩ => ⟨S8704x1024, .f32⟩
  | .hbm, ⟨63, _⟩ => ⟨S8704x1024, .f32⟩
  | .hbm, ⟨64, _⟩ => ⟨S_, .f32⟩
  | .hbm, ⟨65, _⟩ => ⟨S8704, .f32⟩
  | .hbm, ⟨66, _⟩ => ⟨S8704x1, .f32⟩
  | .hbm, ⟨67, _⟩ => ⟨S8704x1024, .f32⟩
  | .hbm, ⟨68, _⟩ => ⟨S8704x1024, .f32⟩
  | .hbm, ⟨69, _⟩ => ⟨S8704x1, .f32⟩
  | .hbm, ⟨70, _⟩ => ⟨S_, .f32⟩
  | .hbm, ⟨71, _⟩ => ⟨S8704x1, .f32⟩
  | .hbm, ⟨72, _⟩ => ⟨S8704x1, .f32⟩
  | .hbm, ⟨73, _⟩ => ⟨S_, .f32⟩
  | .hbm, ⟨74, _⟩ => ⟨S8704, .f32⟩
  | .hbm, ⟨75, _⟩ => ⟨S8704x1024, .f32⟩
  | .hbm, ⟨76, _⟩ => ⟨S8704x1024, .f32⟩
  | .hbm, ⟨77, _⟩ => ⟨S8704x1024, .f32⟩
  | .hbm, ⟨78, _⟩ => ⟨S8704x1024, .f32⟩
  | .hbm, ⟨79, _⟩ => ⟨S8704x1024, .f32⟩
  | .hbm, ⟨80, _⟩ => ⟨S8704x1024, .f32⟩
  | .hbm, ⟨81, _⟩ => ⟨S8704x1024, .bf16⟩
  | .hbm, ⟨82, _⟩ => ⟨S8704x2816, .bf16⟩
  | .hbm, ⟨83, _⟩ => ⟨S8704x5632, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== InprojBwd.lean ====
abbrev S8704x1024 : Shape := ⟨2, ![8704, 1024]⟩
abbrev S8704x4008 : Shape := ⟨2, ![8704, 4008]⟩
abbrev S1x1024 : Shape := ⟨2, ![1, 1024]⟩
abbrev S1024x4008 : Shape := ⟨2, ![1024, 4008]⟩
abbrev S1024x8 : Shape := ⟨2, ![1024, 8]⟩
abbrev S1024x256 : Shape := ⟨2, ![1024, 256]⟩
abbrev S1024x128 : Shape := ⟨2, ![1024, 128]⟩
abbrev S1024x32 : Shape := ⟨2, ![1024, 32]⟩
abbrev S1024x2048 : Shape := ⟨2, ![1024, 2048]⟩
abbrev S_ : Shape := ⟨0, ![]⟩
abbrev S1024x64 : Shape := ⟨2, ![1024, 64]⟩
abbrev S1024x24 : Shape := ⟨2, ![1024, 24]⟩
abbrev S1024x1536 : Shape := ⟨2, ![1024, 1536]⟩
abbrev S1024x4096 : Shape := ⟨2, ![1024, 4096]⟩
abbrev S8704x8 : Shape := ⟨2, ![8704, 8]⟩
abbrev S8704x256 : Shape := ⟨2, ![8704, 256]⟩
abbrev S8704x128 : Shape := ⟨2, ![8704, 128]⟩
abbrev S8704x32 : Shape := ⟨2, ![8704, 32]⟩
abbrev S8704x2048 : Shape := ⟨2, ![8704, 2048]⟩
abbrev S8704x64 : Shape := ⟨2, ![8704, 64]⟩
abbrev S8704x24 : Shape := ⟨2, ![8704, 24]⟩
abbrev S8704x1536 : Shape := ⟨2, ![8704, 1536]⟩
abbrev S8704x4096 : Shape := ⟨2, ![8704, 4096]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 36
  | .vmem => 14
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x4008, .f32⟩
  | .hbm, ⟨3, _⟩ => ⟨S1x1024, .f32⟩
  | .hbm, ⟨4, _⟩ => ⟨S1024x4008, .f32⟩
  | .hbm, ⟨5, _⟩ => ⟨S1024x4008, .bf16⟩
  | .hbm, ⟨6, _⟩ => ⟨S1024x8, .bf16⟩
  | .hbm, ⟨7, _⟩ => ⟨S1024x256, .bf16⟩
  | .hbm, ⟨8, _⟩ => ⟨S1024x128, .bf16⟩
  | .hbm, ⟨9, _⟩ => ⟨S1024x32, .bf16⟩
  | .hbm, ⟨10, _⟩ => ⟨S1024x2048, .bf16⟩
  | .hbm, ⟨11, _⟩ => ⟨S_, .bf16⟩
  | .hbm, ⟨12, _⟩ => ⟨S1024x64, .bf16⟩
  | .hbm, ⟨13, _⟩ => ⟨S_, .bf16⟩
  | .hbm, ⟨14, _⟩ => ⟨S1024x24, .bf16⟩
  | .hbm, ⟨15, _⟩ => ⟨S1024x128, .bf16⟩
  | .hbm, ⟨16, _⟩ => ⟨S1024x1536, .bf16⟩
  | .hbm, ⟨17, _⟩ => ⟨S1024x4096, .bf16⟩
  | .hbm, ⟨18, _⟩ => ⟨S8704x8, .f32⟩
  | .hbm, ⟨19, _⟩ => ⟨S8704x256, .f32⟩
  | .hbm, ⟨20, _⟩ => ⟨S8704x128, .f32⟩
  | .hbm, ⟨21, _⟩ => ⟨S8704x32, .f32⟩
  | .hbm, ⟨22, _⟩ => ⟨S8704x2048, .f32⟩
  | .hbm, ⟨23, _⟩ => ⟨S_, .f32⟩
  | .hbm, ⟨24, _⟩ => ⟨S8704x64, .f32⟩
  | .hbm, ⟨25, _⟩ => ⟨S_, .f32⟩
  | .hbm, ⟨26, _⟩ => ⟨S8704x24, .f32⟩
  | .hbm, ⟨27, _⟩ => ⟨S8704x128, .f32⟩
  | .hbm, ⟨28, _⟩ => ⟨S8704x1536, .f32⟩
  | .hbm, ⟨29, _⟩ => ⟨S8704x4096, .f32⟩
  | .hbm, ⟨30, _⟩ => ⟨S8704x2048, .f32⟩
  | .hbm, ⟨31, _⟩ => ⟨S8704x2048, .bf16⟩
  | .hbm, ⟨32, _⟩ => ⟨S8704x2048, .f32⟩
  | .hbm, ⟨33, _⟩ => ⟨S8704x2048, .bf16⟩
  | .hbm, ⟨34, _⟩ => ⟨S8704x1024, .f32⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InprojBwdRefIdeal.lean ====
abbrev S8704x1024 : Shape := ⟨2, ![8704, 1024]⟩
abbrev S8704x4008 : Shape := ⟨2, ![8704, 4008]⟩
abbrev S1x1024 : Shape := ⟨2, ![1, 1024]⟩
abbrev S1024x4008 : Shape := ⟨2, ![1024, 4008]⟩
abbrev S_ : Shape := ⟨0, ![]⟩
abbrev S8704 : Shape := ⟨1, ![8704]⟩
abbrev S8704x1 : Shape := ⟨2, ![8704, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x4008, .f32⟩
  | .hbm, ⟨3, _⟩ => ⟨S1x1024, .f32⟩
  | .hbm, ⟨4, _⟩ => ⟨S1024x4008, .f32⟩
  | .hbm, ⟨5, _⟩ => ⟨S8704x1024, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S_, .f32⟩
  | .hbm, ⟨18, _⟩ => ⟨S8704x1, .f32⟩
  | .hbm, ⟨19, _⟩ => ⟨S8704x1, .f32⟩
  | .hbm, ⟨20, _⟩ => ⟨S8704x1024, .f32⟩
  | .hbm, ⟨21, _⟩ => ⟨S8704x1024, .f32⟩
  | .hbm, ⟨22, _⟩ => ⟨S8704x1024, .f32⟩
  | .hbm, ⟨23, _⟩ => ⟨S8704x1024, .f32⟩
  | .hbm, ⟨24, _⟩ => ⟨S8704x4008, .f32⟩
  | .hbm, ⟨25, _⟩ => ⟨S8704x1024, .f32⟩
  | .hbm, ⟨26, _⟩ => ⟨S8704x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8704x1024, .f32⟩
  | .hbm, ⟨31, _⟩ => ⟨S8704x1024, .f32⟩
  | .hbm, ⟨32, _⟩ => ⟨S8704x1024, .f32⟩
  | .hbm, ⟨33, _⟩ => ⟨S_, .f32⟩
  | .hbm, ⟨34, _⟩ => ⟨S8704, .f32⟩
  | .hbm, ⟨35, _⟩ => ⟨S8704x1, .f32⟩
  | .hbm, ⟨36, _⟩ => ⟨S8704x1024, .f32⟩
  | .hbm, ⟨37, _⟩ => ⟨S8704x1024, .f32⟩
  | .hbm, ⟨38, _⟩ => ⟨S8704x1, .f32⟩
  | .hbm, ⟨39, _⟩ => ⟨S_, .f32⟩
  | .hbm, ⟨40, _⟩ => ⟨S8704x1, .f32⟩
  | .hbm, ⟨41, _⟩ => ⟨S8704x1, .f32⟩
  | .hbm, ⟨42, _⟩ => ⟨S_, .f32⟩
  | .hbm, ⟨43, _⟩ => ⟨S8704, .f32⟩
  | .hbm, ⟨44, _⟩ => ⟨S8704x1024, .f32⟩
  | .hbm, ⟨45, _⟩ => ⟨S8704x1024, .f32⟩
  | .hbm, ⟨46, _⟩ => ⟨S8704x1024, .f32⟩
  | .hbm, ⟨47, _⟩ => ⟨S8704x1024, .f32⟩
  | .hbm, ⟨48, _⟩ => ⟨S8704x1024, .f32⟩
  | .hbm, ⟨49, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== FoxBwd.lean ====
abbrev S4x8x2064x64 : Shape := ⟨4, ![4, 8, 2064, 64]⟩
abbrev S4x8x2064 : Shape := ⟨3, ![4, 8, 2064]⟩
abbrev S4x8x16 : Shape := ⟨3, ![4, 8, 16]⟩
abbrev S_ : Shape := ⟨0, ![]⟩
abbrev S4x8x112 : Shape := ⟨3, ![4, 8, 112]⟩
abbrev S4x8x2048 : Shape := ⟨3, ![4, 8, 2048]⟩
abbrev S4x8x2176 : Shape := ⟨3, ![4, 8, 2176]⟩
abbrev S32x2176 : Shape := ⟨2, ![32, 2176]⟩
abbrev S4x4x2x2176 : Shape := ⟨4, ![4, 4, 2, 2176]⟩
abbrev S4x4x2176x2 : Shape := ⟨4, ![4, 4, 2176, 2]⟩
abbrev S16x2176x2 : Shape := ⟨3, ![16, 2176, 2]⟩
abbrev S32x1x2176 : Shape := ⟨3, ![32, 1, 2176]⟩
abbrev S4x2064x8x64 : Shape := ⟨4, ![4, 2064, 8, 64]⟩
abbrev S4x2064x512 : Shape := ⟨3, ![4, 2064, 512]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩
abbrev S16x1x2176 : Shape := ⟨3, ![16, 1, 2176]⟩
abbrev S2176x128 : Shape := ⟨2, ![2176, 128]⟩
abbrev S1x2176x2 : Shape := ⟨3, ![1, 2176, 2]⟩
abbrev S1x1x2176 : Shape := ⟨3, ![1, 1, 2176]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩
abbrev S256x128 : Shape := ⟨2, ![256, 128]⟩
abbrev S384x128 : Shape := ⟨2, ![384, 128]⟩
abbrev S256x384 : Shape := ⟨2, ![256, 384]⟩
abbrev S1x256x1 : Shape := ⟨3, ![1, 256, 1]⟩
abbrev S256x1 : Shape := ⟨2, ![256, 1]⟩
abbrev S1x1x384 : Shape := ⟨3, ![1, 1, 384]⟩
abbrev S1x384 : Shape := ⟨2, ![1, 384]⟩
abbrev S256x256 : Shape := ⟨2, ![256, 256]⟩
abbrev S256 : Shape := ⟨1, ![256]⟩
abbrev S384 : Shape := ⟨1, ![384]⟩
abbrev S640x128 : Shape := ⟨2, ![640, 128]⟩
abbrev S256x640 : Shape := ⟨2, ![256, 640]⟩
abbrev S1x1x640 : Shape := ⟨3, ![1, 1, 640]⟩
abbrev S1x640 : Shape := ⟨2, ![1, 640]⟩
abbrev S640 : Shape := ⟨1, ![640]⟩
abbrev S896x128 : Shape := ⟨2, ![896, 128]⟩
abbrev S256x896 : Shape := ⟨2, ![256, 896]⟩
abbrev S1x1x896 : Shape := ⟨3, ![1, 1, 896]⟩
abbrev S1x896 : Shape := ⟨2, ![1, 896]⟩
abbrev S256x512 : Shape := ⟨2, ![256, 512]⟩
abbrev S896 : Shape := ⟨1, ![896]⟩
abbrev S1152x128 : Shape := ⟨2, ![1152, 128]⟩
abbrev S256x1152 : Shape := ⟨2, ![256, 1152]⟩
abbrev S1x1x1152 : Shape := ⟨3, ![1, 1, 1152]⟩
abbrev S1x1152 : Shape := ⟨2, ![1, 1152]⟩
abbrev S256x768 : Shape := ⟨2, ![256, 768]⟩
abbrev S1152 : Shape := ⟨1, ![1152]⟩
abbrev S1408x128 : Shape := ⟨2, ![1408, 128]⟩
abbrev S256x1408 : Shape := ⟨2, ![256, 1408]⟩
abbrev S1x1x1408 : Shape := ⟨3, ![1, 1, 1408]⟩
abbrev S1x1408 : Shape := ⟨2, ![1, 1408]⟩
abbrev S256x1024 : Shape := ⟨2, ![256, 1024]⟩
abbrev S1408 : Shape := ⟨1, ![1408]⟩
abbrev S1664x128 : Shape := ⟨2, ![1664, 128]⟩
abbrev S256x1664 : Shape := ⟨2, ![256, 1664]⟩
abbrev S1x1x1664 : Shape := ⟨3, ![1, 1, 1664]⟩
abbrev S1x1664 : Shape := ⟨2, ![1, 1664]⟩
abbrev S256x1280 : Shape := ⟨2, ![256, 1280]⟩
abbrev S1664 : Shape := ⟨1, ![1664]⟩
abbrev S1920x128 : Shape := ⟨2, ![1920, 128]⟩
abbrev S256x1920 : Shape := ⟨2, ![256, 1920]⟩
abbrev S1x1x1920 : Shape := ⟨3, ![1, 1, 1920]⟩
abbrev S1x1920 : Shape := ⟨2, ![1, 1920]⟩
abbrev S256x1536 : Shape := ⟨2, ![256, 1536]⟩
abbrev S1920 : Shape := ⟨1, ![1920]⟩
abbrev S256x2176 : Shape := ⟨2, ![256, 2176]⟩
abbrev S1x2176 : Shape := ⟨2, ![1, 2176]⟩
abbrev S256x1792 : Shape := ⟨2, ![256, 1792]⟩
abbrev S2176 : Shape := ⟨1, ![2176]⟩

abbrev nBuf : Space → Nat
  | .hbm => 56
  | .vmem => 24
  | .smem => 0
  | _ => 0

abbrev bufTy : (tb : Table) → Fin (tcTables nBuf tb) → BufTy
  | .hbm, ⟨0, _⟩ => ⟨S4x8x2064x64, .f32⟩
  | .hbm, ⟨1, _⟩ => ⟨S4x8x2064x64, .f32⟩
  | .hbm, ⟨2, _⟩ => ⟨S4x8x2064x64, .f32⟩
  | .hbm, ⟨3, _⟩ => ⟨S4x8x2064, .f32⟩
  | .hbm, ⟨4, _⟩ => ⟨S4x8x2064x64, .f32⟩
  | .hbm, ⟨5, _⟩ => ⟨S4x8x16, .f32⟩
  | .hbm, ⟨6, _⟩ => ⟨S_, .f32⟩
  | .hbm, ⟨7, _⟩ => ⟨S4x8x112, .f32⟩
  | .hbm, ⟨8, _⟩ => ⟨S4x8x2048, .f32⟩
  | .hbm, ⟨9, _⟩ => ⟨S4x8x2176, .f32⟩
  | .hbm, ⟨10, _⟩ => ⟨S32x2176, .f32⟩
  | .hbm, ⟨11, _⟩ => ⟨S4x4x2x2176, .f32⟩
  | .hbm, ⟨12, _⟩ => ⟨S4x4x2176x2, .f32⟩
  | .hbm, ⟨13, _⟩ => ⟨S16x2176x2, .f32⟩
  | .hbm, ⟨14, _⟩ => ⟨S32x1x2176, .f32⟩
  | .hbm, ⟨15, _⟩ => ⟨S4x2064x8x64, .f32⟩
  | .hbm, ⟨16, _⟩ => ⟨S4x2064x512, .f32⟩
  | .hbm, ⟨17, _⟩ => ⟨S4x16x512, .f32⟩
  | .hbm, ⟨18, _⟩ => ⟨S_, .f32⟩
  | .hbm, ⟨19, _⟩ => ⟨S4x112x512, .f32⟩
  | .hbm, ⟨20, _⟩ => ⟨S4x2048x512, .f32⟩
  | .hbm, ⟨21, _⟩ => ⟨S4x2176x512, .f32⟩
  | .hbm, ⟨22, _⟩ => ⟨S8704x512, .f32⟩
  | .hbm, ⟨23, _⟩ => ⟨S8704x512, .bf16⟩
  | .hbm, ⟨24, _⟩ => ⟨S4x2064x8x64, .f32⟩
  | .hbm, ⟨25, _⟩ => ⟨S4x2064x512, .f32⟩
  | .hbm, ⟨26, _⟩ => ⟨S4x16x512, .f32⟩
  | .hbm, ⟨27, _⟩ => ⟨S_, .f32⟩
  | .hbm, ⟨28, _⟩ => ⟨S4x112x512, .f32⟩
  | .hbm, ⟨29, _⟩ => ⟨S4x2048x512, .f32⟩
  | .hbm, ⟨30, _⟩ => ⟨S4x2176x512, .f32⟩
  | .hbm, ⟨31, _⟩ => ⟨S8704x512, .f32⟩
  | .hbm, ⟨32, _⟩ => ⟨S8704x512, .bf16⟩
  | .hbm, ⟨33, _⟩ => ⟨S4x2064x8x64, .f32⟩
  | .hbm, ⟨34, _⟩ => ⟨S4x2064x512, .f32⟩
  | .hbm, ⟨35, _⟩ => ⟨S4x16x512, .f32⟩
  | .hbm, ⟨36, _⟩ => ⟨S_, .f32⟩
  | .hbm, ⟨37, _⟩ => ⟨S4x112x512, .f32⟩
  | .hbm, ⟨38, _⟩ => ⟨S4x2048x512, .f32⟩
  | .hbm, ⟨39, _⟩ => ⟨S4x2176x512, .f32⟩
  | .hbm, ⟨40, _⟩ => ⟨S8704x512, .f32⟩
  | .hbm, ⟨41, _⟩ => ⟨S8704x512, .bf16⟩
  | .hbm, ⟨42, _⟩ => ⟨S4x2064x8x64, .f32⟩
  | .hbm, ⟨43, _⟩ => ⟨S4x2064x512, .f32⟩
  | .hbm, ⟨44, _⟩ => ⟨S4x16x512, .f32⟩
  | .hbm, ⟨45, _⟩ => ⟨S_, .f32⟩
  | .hbm, ⟨46, _⟩ => ⟨S4x112x512, .f32⟩
  | .hbm, ⟨47, _⟩ => ⟨S4x2048x512, .f32⟩
  | .hbm, ⟨48, _⟩ => ⟨S4x2176x512, .f32⟩
  | .hbm, ⟨49, _⟩ => ⟨S8704x512, .f32⟩
  | .hbm, ⟨50, _⟩ => ⟨S8704x512, .bf16⟩
  | .hbm, ⟨51, _⟩ => ⟨S8704x512, .f32⟩
  | .hbm, ⟨52, _⟩ => ⟨S8704x512, .f32⟩
  | .hbm, ⟨53, _⟩ => ⟨S8704x512, .f32⟩
  | .hbm, ⟨54, _⟩ => ⟨S16x1x2176, .f32⟩
  | .hbm, ⟨55, _⟩ => ⟨S16x1x2176, .f32⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S1x2176x2, .f32⟩
  | .local _ .vmem, ⟨9, _⟩ => ⟨S1x2176x2, .f32⟩
  | .local _ .vmem, ⟨10, _⟩ => ⟨S1x1x2176, .f32⟩
  | .local _ .vmem, ⟨11, _⟩ => ⟨S1x1x2176, .f32⟩
  | .local _ .vmem, ⟨12, _⟩ => ⟨S1x1x2176, .f32⟩
  | .local _ .vmem, ⟨13, _⟩ => ⟨S1x1x2176, .f32⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S2176x128, .f32⟩
  | .local _ .vmem, ⟨18, _⟩ => ⟨S2176x128, .f32⟩
  | .local _ .vmem, ⟨19, _⟩ => ⟨S2176x128, .f32⟩
  | .local _ .vmem, ⟨20, _⟩ => ⟨S1x1x2176, .f32⟩
  | .local _ .vmem, ⟨21, _⟩ => ⟨S1x1x2176, .f32⟩
  | .local _ .vmem, ⟨22, _⟩ => ⟨S1x1x2176, .f32⟩
  | .local _ .vmem, ⟨23, _⟩ => ⟨S1x1x2176, .f32⟩
  | _, _ => ⟨S4x8x2064x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev main_v41_3 : Ref sig .tc := ⟨.hbm, 54, rfl⟩
abbrev main_v41_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.muli c2_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.muli c2_i32 arg1
  let v2 : BitVec 32 := Scalar.addi v0 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2176x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2176 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FoxBwdIdeal.lean ====
variable {F : FTy → Type} [FloatOps F] [Named F]
def κ : String → Option EReal := fun
  | "mask" => some ⊥
  | _ => none
-- ==== FoxBwdRefIdeal.lean ====
abbrev S4x8x2064x64 : Shape := ⟨4, ![4, 8, 2064, 64]⟩
abbrev S4x8x2064 : Shape := ⟨3, ![4, 8, 2064]⟩
abbrev S4x8x2064x2064 : Shape := ⟨4, ![4, 8, 2064, 2064]⟩
abbrev S_ : Shape := ⟨0, ![]⟩
abbrev S4x8x2064x1 : Shape := ⟨4, ![4, 8, 2064, 1]⟩
abbrev S4x8x1x2064 : Shape := ⟨4, ![4, 8, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S4x8x64x2064 : Shape := ⟨4, ![4, 8, 64, 2064]⟩
abbrev S4x8x16 : Shape := ⟨3, ![4, 8, 16]⟩
abbrev S4x8x112 : Shape := ⟨3, ![4, 8, 112]⟩
abbrev S4x8x2048 : Shape := ⟨3, ![4, 8, 2048]⟩
abbrev S4x8x2176 : Shape := ⟨3, ![4, 8, 2176]⟩
abbrev S16x2x2176 : Shape := ⟨3, ![16, 2, 2176]⟩
abbrev S4x2064x8x64 : Shape := ⟨4, ![4, 2064, 8, 64]⟩
abbrev S4x2064x512 : Shape := ⟨3, ![4, 2064, 512]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩
abbrev S16x1x2176 : Shape := ⟨3, ![16, 1, 2176]⟩

abbrev nBuf : Space → Nat
  | .hbm => 137
  | .vmem => 0
  | .smem => 0
  | _ => 0

abbrev hbmTy0_0 (i : Nat) : BufTy := match i % 128 with
  | 0 => ⟨S4x8x2064x64, .f32⟩
  | 1 => ⟨S4x8x2064x64, .f32⟩
  | 2 => ⟨S4x8x2064x64, .f32⟩
  | 3 => ⟨S4x8x2064, .f32⟩
  | 4 => ⟨S4x8x2064x64, .f32⟩
  | 5 => ⟨S4x8x2064x2064, .f32⟩
  | 6 => ⟨S_, .f32⟩
  | 7 => ⟨S4x8x2064x2064, .f32⟩
  | 8 => ⟨S4x8x2064x2064, .f32⟩
  | 9 => ⟨S4x8x2064x1, .f32⟩
  | 10 => ⟨S4x8x2064x2064, .f32⟩
  | 11 => ⟨S4x8x2064x2064, .f32⟩
  | 12 => ⟨S4x8x1x2064, .f32⟩
  | 13 => ⟨S4x8x2064x2064, .f32⟩
  | 14 => ⟨S4x8x2064x2064, .f32⟩
  | 15 => ⟨S2064, .i32⟩
  | 16 => ⟨S2064x1, .i32⟩
  | 17 => ⟨S2064, .i32⟩
  | 18 => ⟨S1x2064, .i32⟩
  | 19 => ⟨S2064x2064, .i32⟩
  | 20 => ⟨S2064x2064, .i32⟩
  | 21 => ⟨S2064x2064, .i1⟩
  | 22 => ⟨S_, .f32⟩
  | 23 => ⟨S_, .f32⟩
  | 24 => ⟨S4x8x2064x2064, .i1⟩
  | 25 => ⟨S4x8x2064x2064, .f32⟩
  | 26 => ⟨S4x8x2064x2064, .f32⟩
  | 27 => ⟨S_, .f32⟩
  | 28 => ⟨S4x8x2064x2064, .f32⟩
  | 29 => ⟨S_, .f32⟩
  | 30 => ⟨S4x8x2064, .f32⟩
  | 31 => ⟨S4x8x2064x1, .f32⟩
  | 32 => ⟨S4x8x2064x2064, .f32⟩
  | 33 => ⟨S4x8x2064x2064, .i1⟩
  | 34 => ⟨S4x8x2064x2064, .f32⟩
  | 35 => ⟨S_, .f32⟩
  | 36 => ⟨S4x8x2064, .f32⟩
  | 37 => ⟨S_, .f32⟩
  | 38 => ⟨S4x8x2064, .f32⟩
  | 39 => ⟨S4x8x2064, .f32⟩
  | 40 => ⟨S_, .f32⟩
  | 41 => ⟨S4x8x2064, .f32⟩
  | 42 => ⟨S4x8x2064, .i1⟩
  | 43 => ⟨S_, .f32⟩
  | 44 => ⟨S4x8x2064, .f32⟩
  | 45 => ⟨S4x8x2064, .i1⟩
  | 46 => ⟨S_, .f32⟩
  | 47 => ⟨S4x8x2064, .f32⟩
  | 48 => ⟨S_, .f32⟩
  | 49 => ⟨S4x8x2064, .f32⟩
  | 50 => ⟨S_, .f32⟩
  | 51 => ⟨S4x8x2064, .f32⟩
  | 52 => ⟨S4x8x2064, .f32⟩
  | 53 => ⟨S4x8x2064, .f32⟩
  | 54 => ⟨S4x8x2064x1, .f32⟩
  | 55 => ⟨S4x8x2064x2064, .f32⟩
  | 56 => ⟨S4x8x2064x2064, .f32⟩
  | 57 => ⟨S4x8x2064x2064, .f32⟩
  | 58 => ⟨S_, .f32⟩
  | 59 => ⟨S4x8x2064, .f32⟩
  | 60 => ⟨S4x8x2064x1, .f32⟩
  | 61 => ⟨S4x8x2064x2064, .f32⟩
  | 62 => ⟨S4x8x2064x2064, .f32⟩
  | 63 => ⟨S4x8x2064x1, .f32⟩
  | 64 => ⟨S_, .f32⟩
  | 65 => ⟨S4x8x2064x1, .f32⟩
  | 66 => ⟨S4x8x2064x1, .f32⟩
  | 67 => ⟨S4x8x2064x64, .f32⟩
  | 68 => ⟨S4x8x64x2064, .f32⟩
  | 69 => ⟨S4x8x2064x64, .f32⟩
  | 70 => ⟨S4x8x2064x2064, .f32⟩
  | 71 => ⟨S4x8x2064x2064, .f32⟩
  | 72 => ⟨S4x8x2064x2064, .f32⟩
  | 73 => ⟨S4x8x2064x2064, .f32⟩
  | 74 => ⟨S_, .f32⟩
  | 75 => ⟨S4x8x2064, .f32⟩
  | 76 => ⟨S4x8x2064x1, .f32⟩
  | 77 => ⟨S4x8x2064x1, .f32⟩
  | 78 => ⟨S4x8x2064x2064, .f32⟩
  | 79 => ⟨S4x8x2064x2064, .f32⟩
  | 80 => ⟨S_, .f32⟩
  | 81 => ⟨S4x8x2064, .f32⟩
  | 82 => ⟨S4x8x2064x2064, .f32⟩
  | 83 => ⟨S4x8x2064x2064, .f32⟩
  | 84 => ⟨S4x8x2064x2064, .f32⟩
  | 85 => ⟨S_, .f32⟩
  | 86 => ⟨S4x8x2064x2064, .f32⟩
  | 87 => ⟨S4x8x2064x2064, .f32⟩
  | 88 => ⟨S4x8x2064x2064, .f32⟩
  | 89 => ⟨S_, .f32⟩
  | 90 => ⟨S4x8x2064, .f32⟩
  | 91 => ⟨S4x8x1x2064, .f32⟩
  | 92 => ⟨S_, .f32⟩
  | 93 => ⟨S4x8x2064, .f32⟩
  | 94 => ⟨S_, .f32⟩
  | 95 => ⟨S4x8x2064, .f32⟩
  | 96 => ⟨S4x8x2064x1, .f32⟩
  | 97 => ⟨S_, .f32⟩
  | 98 => ⟨S4x8x2064, .f32⟩
  | 99 => ⟨S4x8x2064, .f32⟩
  | 100 => ⟨S_, .f32⟩
  | 101 => ⟨S4x8x2064x2064, .f32⟩
  | 102 => ⟨S4x8x2064x2064, .f32⟩
  | 103 => ⟨S4x8x2064x64, .f32⟩
  | 104 => ⟨S4x8x2064x64, .f32⟩
  | 105 => ⟨S4x8x16, .f32⟩
  | 106 => ⟨S_, .f32⟩
  | 107 => ⟨S4x8x112, .f32⟩
  | 108 => ⟨S4x8x2048, .f32⟩
  | 109 => ⟨S4x8x2176, .f32⟩
  | 110 => ⟨S16x2x2176, .f32⟩
  | 111 => ⟨S4x2064x8x64, .f32⟩
  | 112 => ⟨S4x2064x512, .f32⟩
  | 113 => ⟨S4x16x512, .f32⟩
  | 114 => ⟨S_, .f32⟩
  | 115 => ⟨S4x112x512, .f32⟩
  | 116 => ⟨S4x2048x512, .f32⟩
  | 117 => ⟨S4x2176x512, .f32⟩
  | 118 => ⟨S8704x512, .f32⟩
  | 119 => ⟨S4x2064x8x64, .f32⟩
  | 120 => ⟨S4x2064x512, .f32⟩
  | 121 => ⟨S4x16x512, .f32⟩
  | 122 => ⟨S_, .f32⟩
  | 123 => ⟨S4x112x512, .f32⟩
  | 124 => ⟨S4x2048x512, .f32⟩
  | 125 => ⟨S4x2176x512, .f32⟩
  | 126 => ⟨S8704x512, .f32⟩
  | 127 => ⟨S4x2064x8x64, .f32⟩
  | _ => ⟨S4x8x2064x64, .f32⟩

abbrev hbmTy0_1 (i : Nat) : BufTy := match i % 128 with
  | 0 => ⟨S4x2064x512, .f32⟩
  | 1 => ⟨S4x16x512, .f32⟩
  | 2 => ⟨S_, .f32⟩
  | 3 => ⟨S4x112x512, .f32⟩
  | 4 => ⟨S4x2048x512, .f32⟩
  | 5 => ⟨S4x2176x512, .f32⟩
  | 6 => ⟨S8704x512, .f32⟩
  | 7 => ⟨S16x1x2176, .f32⟩
  | 8 => ⟨S16x1x2176, .f32⟩
  | _ => ⟨S4x8x2064x64, .f32⟩

abbrev hbmTy (i : Nat) : BufTy := match i / 128 with
  | 0 => hbmTy0_0 i
  | 1 => hbmTy0_1 i
  | _ => ⟨S4x8x2064x64, .f32⟩

abbrev bufTy : (tb : Table) → Fin (tcTables nBuf tb) → BufTy
  | .hbm, ⟨i, _⟩ => hbmTy i
  | _, _ => ⟨S4x8x2064x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩

abbrev nD : Nat := 1
abbrev τ : Topo := Topo.v7x

variable {F : FTy → Type} [FloatOps F]
-- ==== MlaBwd.lean ====
abbrev S4x8x2064x96 : Shape := ⟨4, ![4, 8, 2064, 96]⟩
abbrev S4x8x2064x64 : Shape := ⟨4, ![4, 8, 2064, 64]⟩
abbrev S_ : Shape := ⟨0, ![]⟩
abbrev S4x8x2064x128 : Shape := ⟨4, ![4, 8, 2064, 128]⟩
abbrev S4x2064x8x128 : Shape := ⟨4, ![4, 2064, 8, 128]⟩
abbrev S4x2064x1024 : Shape := ⟨3, ![4, 2064, 1024]⟩
abbrev S4x16x1024 : Shape := ⟨3, ![4, 16, 1024]⟩
abbrev S4x112x1024 : Shape := ⟨3, ![4, 112, 1024]⟩
abbrev S4x2048x1024 : Shape := ⟨3, ![4, 2048, 1024]⟩
abbrev S4x2176x1024 : Shape := ⟨3, ![4, 2176, 1024]⟩
abbrev S8704x1024 : Shape := ⟨2, ![8704, 1024]⟩
abbrev S4x2064x8x64 : Shape := ⟨4, ![4, 2064, 8, 64]⟩
abbrev S4x2064x512 : Shape := ⟨3, ![4, 2064, 512]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩
abbrev S2176x256 : Shape := ⟨2, ![2176, 256]⟩
abbrev S2176x128 : Shape := ⟨2, ![2176, 128]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S384x128 : Shape := ⟨2, ![384, 128]⟩
abbrev S256x384 : Shape := ⟨2, ![256, 384]⟩
abbrev S256x256 : Shape := ⟨2, ![256, 256]⟩
abbrev S256 : Shape := ⟨1, ![256]⟩
abbrev S256x1 : Shape := ⟨2, ![256, 1]⟩
abbrev S640x128 : Shape := ⟨2, ![640, 128]⟩
abbrev S256x640 : Shape := ⟨2, ![256, 640]⟩
abbrev S896x128 : Shape := ⟨2, ![896, 128]⟩
abbrev S256x896 : Shape := ⟨2, ![256, 896]⟩
abbrev S256x512 : Shape := ⟨2, ![256, 512]⟩
abbrev S1152x128 : Shape := ⟨2, ![1152, 128]⟩
abbrev S256x1152 : Shape := ⟨2, ![256, 1152]⟩
abbrev S256x768 : Shape := ⟨2, ![256, 768]⟩
abbrev S1408x128 : Shape := ⟨2, ![1408, 128]⟩
abbrev S256x1408 : Shape := ⟨2, ![256, 1408]⟩
abbrev S256x1024 : Shape := ⟨2, ![256, 1024]⟩
abbrev S1664x128 : Shape := ⟨2, ![1664, 128]⟩
abbrev S256x1664 : Shape := ⟨2, ![256, 1664]⟩
abbrev S256x1280 : Shape := ⟨2, ![256, 1280]⟩
abbrev S1920x128 : Shape := ⟨2, ![1920, 128]⟩
abbrev S256x1920 : Shape := ⟨2, ![256, 1920]⟩
abbrev S256x1536 : Shape := ⟨2, ![256, 1536]⟩
abbrev S256x2176 : Shape := ⟨2, ![256, 2176]⟩
abbrev S256x1792 : Shape := ⟨2, ![256, 1792]⟩

abbrev nBuf : Space → Nat
  | .hbm => 55
  | .vmem => 14
  | .smem => 0
  | _ => 0

abbrev bufTy : (tb : Table) → Fin (tcTables nBuf tb) → BufTy
  | .hbm, ⟨0, _⟩ => ⟨S4x8x2064x96, .f32⟩
  | .hbm, ⟨1, _⟩ => ⟨S4x8x2064x96, .f32⟩
  | .hbm, ⟨2, _⟩ => ⟨S4x8x2064x64, .f32⟩
  | .hbm, ⟨3, _⟩ => ⟨S4x8x2064x64, .f32⟩
  | .hbm, ⟨4, _⟩ => ⟨S_, .i32⟩
  | .hbm, ⟨5, _⟩ => ⟨S_, .f32⟩
  | .hbm, ⟨6, _⟩ => ⟨S4x8x2064x128, .f32⟩
  | .hbm, ⟨7, _⟩ => ⟨S4x2064x8x128, .f32⟩
  | .hbm, ⟨8, _⟩ => ⟨S4x2064x1024, .f32⟩
  | .hbm, ⟨9, _⟩ => ⟨S4x16x1024, .f32⟩
  | .hbm, ⟨10, _⟩ => ⟨S_, .f32⟩
  | .hbm, ⟨11, _⟩ => ⟨S4x112x1024, .f32⟩
  | .hbm, ⟨12, _⟩ => ⟨S4x2048x1024, .f32⟩
  | .hbm, ⟨13, _⟩ => ⟨S4x2176x1024, .f32⟩
  | .hbm, ⟨14, _⟩ => ⟨S8704x1024, .f32⟩
  | .hbm, ⟨15, _⟩ => ⟨S8704x1024, .bf16⟩
  | .hbm, ⟨16, _⟩ => ⟨S_, .i32⟩
  | .hbm, ⟨17, _⟩ => ⟨S_, .f32⟩
  | .hbm, ⟨18, _⟩ => ⟨S4x8x2064x128, .f32⟩
  | .hbm, ⟨19, _⟩ => ⟨S4x2064x8x128, .f32⟩
  | .hbm, ⟨20, _⟩ => ⟨S4x2064x1024, .f32⟩
  | .hbm, ⟨21, _⟩ => ⟨S4x16x1024, .f32⟩
  | .hbm, ⟨22, _⟩ => ⟨S_, .f32⟩
  | .hbm, ⟨23, _⟩ => ⟨S4x112x1024, .f32⟩
  | .hbm, ⟨24, _⟩ => ⟨S4x2048x1024, .f32⟩
  | .hbm, ⟨25, _⟩ => ⟨S4x2176x1024, .f32⟩
  | .hbm, ⟨26, _⟩ => ⟨S8704x1024, .f32⟩
  | .hbm, ⟨27, _⟩ => ⟨S8704x1024, .bf16⟩
  | .hbm, ⟨28, _⟩ => ⟨S_, .i32⟩
  | .hbm, ⟨29, _⟩ => ⟨S_, .f32⟩
  | .hbm, ⟨30, _⟩ => ⟨S4x8x2064x64, .f32⟩
  | .hbm, ⟨31, _⟩ => ⟨S4x2064x8x64, .f32⟩
  | .hbm, ⟨32, _⟩ => ⟨S4x2064x512, .f32⟩
  | .hbm, ⟨33, _⟩ => ⟨S4x16x512, .f32⟩
  | .hbm, ⟨34, _⟩ => ⟨S_, .f32⟩
  | .hbm, ⟨35, _⟩ => ⟨S4x112x512, .f32⟩
  | .hbm, ⟨36, _⟩ => ⟨S4x2048x512, .f32⟩
  | .hbm, ⟨37, _⟩ => ⟨S4x2176x512, .f32⟩
  | .hbm, ⟨38, _⟩ => ⟨S8704x512, .f32⟩
  | .hbm, ⟨39, _⟩ => ⟨S8704x512, .bf16⟩
  | .hbm, ⟨40, _⟩ => ⟨S_, .i32⟩
  | .hbm, ⟨41, _⟩ => ⟨S_, .f32⟩
  | .hbm, ⟨42, _⟩ => ⟨S4x8x2064x64, .f32⟩
  | .hbm, ⟨43, _⟩ => ⟨S4x2064x8x64, .f32⟩
  | .hbm, ⟨44, _⟩ => ⟨S4x2064x512, .f32⟩
  | .hbm, ⟨45, _⟩ => ⟨S4x16x512, .f32⟩
  | .hbm, ⟨46, _⟩ => ⟨S_, .f32⟩
  | .hbm, ⟨47, _⟩ => ⟨S4x112x512, .f32⟩
  | .hbm, ⟨48, _⟩ => ⟨S4x2048x512, .f32⟩
  | .hbm, ⟨49, _⟩ => ⟨S4x2176x512, .f32⟩
  | .hbm, ⟨50, _⟩ => ⟨S8704x512, .f32⟩
  | .hbm, ⟨51, _⟩ => ⟨S8704x512, .bf16⟩
  | .hbm, ⟨52, _⟩ => ⟨S8704x1024, .f32⟩
  | .hbm, ⟨53, _⟩ => ⟨S8704x1024, .f32⟩
  | .hbm, ⟨54, _⟩ => ⟨S8704x512, .f32⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S2176x256, .f32⟩
  | .local _ .vmem, ⟨9, _⟩ => ⟨S2176x256, .f32⟩
  | .local _ .vmem, ⟨10, _⟩ => ⟨S2176x256, .f32⟩
  | .local _ .vmem, ⟨11, _⟩ => ⟨S2176x256, .f32⟩
  | .local _ .vmem, ⟨12, _⟩ => ⟨S2176x128, .f32⟩
  | .local _ .vmem, ⟨13, _⟩ => ⟨S2176x128, .f32⟩
  | _, _ => ⟨S4x8x2064x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_call3_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v36_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlaBwdIdeal.lean ====
variable {F : FTy → Type} [FloatOps F] [Named F]
def κ : String → Option EReal := fun
  | "mask" => some ⊥
  | "s" => some (((Real.sqrt 96)⁻¹ : ℝ) : EReal)
  | _ => none
-- ==== MlaBwdRefIdeal.lean ====
abbrev S4x8x2064x96 : Shape := ⟨4, ![4, 8, 2064, 96]⟩
abbrev S4x8x2064x64 : Shape := ⟨4, ![4, 8, 2064, 64]⟩
abbrev S4x8x2064x2064 : Shape := ⟨4, ![4, 8, 2064, 2064]⟩
abbrev S_ : Shape := ⟨0, ![]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S4x8x2064 : Shape := ⟨3, ![4, 8, 2064]⟩
abbrev S4x8x2064x1 : Shape := ⟨4, ![4, 8, 2064, 1]⟩
abbrev S4x8x64x2064 : Shape := ⟨4, ![4, 8, 64, 2064]⟩
abbrev S4x8x2064x128 : Shape := ⟨4, ![4, 8, 2064, 128]⟩
abbrev S4x2064x8x128 : Shape := ⟨4, ![4, 2064, 8, 128]⟩
abbrev S4x2064x1024 : Shape := ⟨3, ![4, 2064, 1024]⟩
abbrev S4x16x1024 : Shape := ⟨3, ![4, 16, 1024]⟩
abbrev S4x112x1024 : Shape := ⟨3, ![4, 112, 1024]⟩
abbrev S4x2048x1024 : Shape := ⟨3, ![4, 2048, 1024]⟩
abbrev S4x2176x1024 : Shape := ⟨3, ![4, 2176, 1024]⟩
abbrev S8704x1024 : Shape := ⟨2, ![8704, 1024]⟩
abbrev S4x2064x8x64 : Shape := ⟨4, ![4, 2064, 8, 64]⟩
abbrev S4x2064x512 : Shape := ⟨3, ![4, 2064, 512]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩

abbrev nBuf : Space → Nat
  | .hbm => 119
  | .vmem => 0
  | .smem => 0
  | _ => 0

abbrev bufTy : (tb : Table) → Fin (tcTables nBuf tb) → BufTy
  | .hbm, ⟨0, _⟩ => ⟨S4x8x2064x96, .f32⟩
  | .hbm, ⟨1, _⟩ => ⟨S4x8x2064x96, .f32⟩
  | .hbm, ⟨2, _⟩ => ⟨S4x8x2064x64, .f32⟩
  | .hbm, ⟨3, _⟩ => ⟨S4x8x2064x64, .f32⟩
  | .hbm, ⟨4, _⟩ => ⟨S4x8x2064x2064, .f32⟩
  | .hbm, ⟨5, _⟩ => ⟨S_, .f32⟩
  | .hbm, ⟨6, _⟩ => ⟨S_, .f32⟩
  | .hbm, ⟨7, _⟩ => ⟨S4x8x2064x2064, .f32⟩
  | .hbm, ⟨8, _⟩ => ⟨S4x8x2064x2064, .f32⟩
  | .hbm, ⟨9, _⟩ => ⟨S2064, .i32⟩
  | .hbm, ⟨10, _⟩ => ⟨S2064x1, .i32⟩
  | .hbm, ⟨11, _⟩ => ⟨S2064, .i32⟩
  | .hbm, ⟨12, _⟩ => ⟨S1x2064, .i32⟩
  | .hbm, ⟨13, _⟩ => ⟨S2064x2064, .i32⟩
  | .hbm, ⟨14, _⟩ => ⟨S2064x2064, .i32⟩
  | .hbm, ⟨15, _⟩ => ⟨S2064x2064, .i1⟩
  | .hbm, ⟨16, _⟩ => ⟨S_, .f32⟩
  | .hbm, ⟨17, _⟩ => ⟨S_, .f32⟩
  | .hbm, ⟨18, _⟩ => ⟨S4x8x2064x2064, .i1⟩
  | .hbm, ⟨19, _⟩ => ⟨S4x8x2064x2064, .f32⟩
  | .hbm, ⟨20, _⟩ => ⟨S4x8x2064x2064, .f32⟩
  | .hbm, ⟨21, _⟩ => ⟨S_, .f32⟩
  | .hbm, ⟨22, _⟩ => ⟨S4x8x2064x2064, .f32⟩
  | .hbm, ⟨23, _⟩ => ⟨S_, .f32⟩
  | .hbm, ⟨24, _⟩ => ⟨S4x8x2064, .f32⟩
  | .hbm, ⟨25, _⟩ => ⟨S4x8x2064x1, .f32⟩
  | .hbm, ⟨26, _⟩ => ⟨S4x8x2064x2064, .f32⟩
  | .hbm, ⟨27, _⟩ => ⟨S4x8x2064x2064, .i1⟩
  | .hbm, ⟨28, _⟩ => ⟨S4x8x2064x2064, .f32⟩
  | .hbm, ⟨29, _⟩ => ⟨S_, .f32⟩
  | .hbm, ⟨30, _⟩ => ⟨S4x8x2064, .f32⟩
  | .hbm, ⟨31, _⟩ => ⟨S_, .f32⟩
  | .hbm, ⟨32, _⟩ => ⟨S4x8x2064, .f32⟩
  | .hbm, ⟨33, _⟩ => ⟨S4x8x2064, .f32⟩
  | .hbm, ⟨34, _⟩ => ⟨S_, .f32⟩
  | .hbm, ⟨35, _⟩ => ⟨S4x8x2064, .f32⟩
  | .hbm, ⟨36, _⟩ => ⟨S4x8x2064, .i1⟩
  | .hbm, ⟨37, _⟩ => ⟨S_, .f32⟩
  | .hbm, ⟨38, _⟩ => ⟨S4x8x2064, .f32⟩
  | .hbm, ⟨39, _⟩ => ⟨S4x8x2064, .i1⟩
  | .hbm, ⟨40, _⟩ => ⟨S_, .f32⟩
  | .hbm, ⟨41, _⟩ => ⟨S4x8x2064, .f32⟩
  | .hbm, ⟨42, _⟩ => ⟨S_, .f32⟩
  | .hbm, ⟨43, _⟩ => ⟨S4x8x2064, .f32⟩
  | .hbm, ⟨44, _⟩ => ⟨S_, .f32⟩
  | .hbm, ⟨45, _⟩ => ⟨S4x8x2064, .f32⟩
  | .hbm, ⟨46, _⟩ => ⟨S4x8x2064, .f32⟩
  | .hbm, ⟨47, _⟩ => ⟨S4x8x2064, .f32⟩
  | .hbm, ⟨48, _⟩ => ⟨S4x8x2064x1, .f32⟩
  | .hbm, ⟨49, _⟩ => ⟨S4x8x2064x2064, .f32⟩
  | .hbm, ⟨50, _⟩ => ⟨S4x8x2064x2064, .f32⟩
  | .hbm, ⟨51, _⟩ => ⟨S4x8x2064x2064, .f32⟩
  | .hbm, ⟨52, _⟩ => ⟨S_, .f32⟩
  | .hbm, ⟨53, _⟩ => ⟨S4x8x2064, .f32⟩
  | .hbm, ⟨54, _⟩ => ⟨S4x8x2064x1, .f32⟩
  | .hbm, ⟨55, _⟩ => ⟨S4x8x2064x2064, .f32⟩
  | .hbm, ⟨56, _⟩ => ⟨S4x8x2064x2064, .f32⟩
  | .hbm, ⟨57, _⟩ => ⟨S4x8x2064x1, .f32⟩
  | .hbm, ⟨58, _⟩ => ⟨S_, .f32⟩
  | .hbm, ⟨59, _⟩ => ⟨S4x8x2064x1, .f32⟩
  | .hbm, ⟨60, _⟩ => ⟨S4x8x2064x1, .f32⟩
  | .hbm, ⟨61, _⟩ => ⟨S4x8x2064x64, .f32⟩
  | .hbm, ⟨62, _⟩ => ⟨S4x8x64x2064, .f32⟩
  | .hbm, ⟨63, _⟩ => ⟨S4x8x2064x64, .f32⟩
  | .hbm, ⟨64, _⟩ => ⟨S4x8x2064x2064, .f32⟩
  | .hbm, ⟨65, _⟩ => ⟨S4x8x2064x2064, .f32⟩
  | .hbm, ⟨66, _⟩ => ⟨S4x8x2064x2064, .f32⟩
  | .hbm, ⟨67, _⟩ => ⟨S4x8x2064x2064, .f32⟩
  | .hbm, ⟨68, _⟩ => ⟨S_, .f32⟩
  | .hbm, ⟨69, _⟩ => ⟨S4x8x2064, .f32⟩
  | .hbm, ⟨70, _⟩ => ⟨S4x8x2064x1, .f32⟩
  | .hbm, ⟨71, _⟩ => ⟨S4x8x2064x1, .f32⟩
  | .hbm, ⟨72, _⟩ => ⟨S4x8x2064x2064, .f32⟩
  | .hbm, ⟨73, _⟩ => ⟨S4x8x2064x2064, .f32⟩
  | .hbm, ⟨74, _⟩ => ⟨S_, .f32⟩
  | .hbm, ⟨75, _⟩ => ⟨S4x8x2064, .f32⟩
  | .hbm, ⟨76, _⟩ => ⟨S4x8x2064x2064, .f32⟩
  | .hbm, ⟨77, _⟩ => ⟨S4x8x2064x2064, .f32⟩
  | .hbm, ⟨78, _⟩ => ⟨S4x8x2064x2064, .f32⟩
  | .hbm, ⟨79, _⟩ => ⟨S_, .f32⟩
  | .hbm, ⟨80, _⟩ => ⟨S4x8x2064x2064, .f32⟩
  | .hbm, ⟨81, _⟩ => ⟨S4x8x2064x2064, .f32⟩
  | .hbm, ⟨82, _⟩ => ⟨S4x8x2064x2064, .f32⟩
  | .hbm, ⟨83, _⟩ => ⟨S4x8x2064x2064, .f32⟩
  | .hbm, ⟨84, _⟩ => ⟨S4x8x2064x96, .f32⟩
  | .hbm, ⟨85, _⟩ => ⟨S4x8x2064x96, .f32⟩
  | .hbm, ⟨86, _⟩ => ⟨S_, .i32⟩
  | .hbm, ⟨87, _⟩ => ⟨S_, .f32⟩
  | .hbm, ⟨88, _⟩ => ⟨S4x8x2064x128, .f32⟩
  | .hbm, ⟨89, _⟩ => ⟨S4x2064x8x128, .f32⟩
  | .hbm, ⟨90, _⟩ => ⟨S4x2064x1024, .f32⟩
  | .hbm, ⟨91, _⟩ => ⟨S4x16x1024, .f32⟩
  | .hbm, ⟨92, _⟩ => ⟨S_, .f32⟩
  | .hbm, ⟨93, _⟩ => ⟨S4x112x1024, .f32⟩
  | .hbm, ⟨94, _⟩ => ⟨S4x2048x1024, .f32⟩
  | .hbm, ⟨95, _⟩ => ⟨S4x2176x1024, .f32⟩
  | .hbm, ⟨96, _⟩ => ⟨S8704x1024, .f32⟩
  | .hbm, ⟨97, _⟩ => ⟨S_, .i32⟩
  | .hbm, ⟨98, _⟩ => ⟨S_, .f32⟩
  | .hbm, ⟨99, _⟩ => ⟨S4x8x2064x128, .f32⟩
  | .hbm, ⟨100, _⟩ => ⟨S4x2064x8x128, .f32⟩
  | .hbm, ⟨101, _⟩ => ⟨S4x2064x1024, .f32⟩
  | .hbm, ⟨102, _⟩ => ⟨S4x16x1024, .f32⟩
  | .hbm, ⟨103, _⟩ => ⟨S_, .f32⟩
  | .hbm, ⟨104, _⟩ => ⟨S4x112x1024, .f32⟩
  | .hbm, ⟨105, _⟩ => ⟨S4x2048x1024, .f32⟩
  | .hbm, ⟨106, _⟩ => ⟨S4x2176x1024, .f32⟩
  | .hbm, ⟨107, _⟩ => ⟨S8704x1024, .f32⟩
  | .hbm, ⟨108, _⟩ => ⟨S_, .i32⟩
  | .hbm, ⟨109, _⟩ => ⟨S_, .f32⟩
  | .hbm, ⟨110, _⟩ => ⟨S4x8x2064x64, .f32⟩
  | .hbm, ⟨111, _⟩ => ⟨S4x2064x8x64, .f32⟩
  | .hbm, ⟨112, _⟩ => ⟨S4x2064x512, .f32⟩
  | .hbm, ⟨113, _⟩ => ⟨S4x16x512, .f32⟩
  | .hbm, ⟨114, _⟩ => ⟨S_, .f32⟩
  | .hbm, ⟨115, _⟩ => ⟨S4x112x512, .f32⟩
  | .hbm, ⟨116, _⟩ => ⟨S4x2048x512, .f32⟩
  | .hbm, ⟨117, _⟩ => ⟨S4x2176x512, .f32⟩
  | .hbm, ⟨118, _⟩ => ⟨S8704x512, .f32⟩
  | _, _ => ⟨S4x8x2064x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_call2_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_call4_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== MlaFwd.lean ====
abbrev S4x8x2064x96 : Shape := ⟨4, ![4, 8, 2064, 96]⟩
abbrev S4x8x2064x64 : Shape := ⟨4, ![4, 8, 2064, 64]⟩
abbrev S_ : Shape := ⟨0, ![]⟩
abbrev S4x8x2064x128 : Shape := ⟨4, ![4, 8, 2064, 128]⟩
abbrev S4x2064x8x128 : Shape := ⟨4, ![4, 2064, 8, 128]⟩
abbrev S4x2064x1024 : Shape := ⟨3, ![4, 2064, 1024]⟩
abbrev S4x16x1024 : Shape := ⟨3, ![4, 16, 1024]⟩
abbrev S4x112x1024 : Shape := ⟨3, ![4, 112, 1024]⟩
abbrev S4x2048x1024 : Shape := ⟨3, ![4, 2048, 1024]⟩
abbrev S4x2176x1024 : Shape := ⟨3, ![4, 2176, 1024]⟩
abbrev S8704x1024 : Shape := ⟨2, ![8704, 1024]⟩
abbrev S4x2064x8x64 : Shape := ⟨4, ![4, 2064, 8, 64]⟩
abbrev S4x2064x512 : Shape := ⟨3, ![4, 2064, 512]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩
abbrev S2176x256 : Shape := ⟨2, ![2176, 256]⟩
abbrev S2176x128 : Shape := ⟨2, ![2176, 128]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S384x128 : Shape := ⟨2, ![384, 128]⟩
abbrev S256x384 : Shape := ⟨2, ![256, 384]⟩
abbrev S256x256 : Shape := ⟨2, ![256, 256]⟩
abbrev S256 : Shape := ⟨1, ![256]⟩
abbrev S256x1 : Shape := ⟨2, ![256, 1]⟩
abbrev S640x128 : Shape := ⟨2, ![640, 128]⟩
abbrev S256x640 : Shape := ⟨2, ![256, 640]⟩
abbrev S896x128 : Shape := ⟨2, ![896, 128]⟩
abbrev S256x896 : Shape := ⟨2, ![256, 896]⟩
abbrev S256x512 : Shape := ⟨2, ![256, 512]⟩
abbrev S1152x128 : Shape := ⟨2, ![1152, 128]⟩
abbrev S256x1152 : Shape := ⟨2, ![256, 1152]⟩
abbrev S256x768 : Shape := ⟨2, ![256, 768]⟩
abbrev S1408x128 : Shape := ⟨2, ![1408, 128]⟩
abbrev S256x1408 : Shape := ⟨2, ![256, 1408]⟩
abbrev S256x1024 : Shape := ⟨2, ![256, 1024]⟩
abbrev S1664x128 : Shape := ⟨2, ![1664, 128]⟩
abbrev S256x1664 : Shape := ⟨2, ![256, 1664]⟩
abbrev S256x1280 : Shape := ⟨2, ![256, 1280]⟩
abbrev S1920x128 : Shape := ⟨2, ![1920, 128]⟩
abbrev S256x1920 : Shape := ⟨2, ![256, 1920]⟩
abbrev S256x1536 : Shape := ⟨2, ![256, 1536]⟩
abbrev S256x2176 : Shape := ⟨2, ![256, 2176]⟩
abbrev S256x1792 : Shape := ⟨2, ![256, 1792]⟩

abbrev nBuf : Space → Nat
  | .hbm => 44
  | .vmem => 8
  | .smem => 0
  | _ => 0

abbrev bufTy : (tb : Table) → Fin (tcTables nBuf tb) → BufTy
  | .hbm, ⟨0, _⟩ => ⟨S4x8x2064x96, .f32⟩
  | .hbm, ⟨1, _⟩ => ⟨S4x8x2064x96, .f32⟩
  | .hbm, ⟨2, _⟩ => ⟨S4x8x2064x64, .f32⟩
  | .hbm, ⟨3, _⟩ => ⟨S_, .i32⟩
  | .hbm, ⟨4, _⟩ => ⟨S_, .f32⟩
  | .hbm, ⟨5, _⟩ => ⟨S4x8x2064x128, .f32⟩
  | .hbm, ⟨6, _⟩ => ⟨S4x2064x8x128, .f32⟩
  | .hbm, ⟨7, _⟩ => ⟨S4x2064x1024, .f32⟩
  | .hbm, ⟨8, _⟩ => ⟨S4x16x1024, .f32⟩
  | .hbm, ⟨9, _⟩ => ⟨S_, .f32⟩
  | .hbm, ⟨10, _⟩ => ⟨S4x112x1024, .f32⟩
  | .hbm, ⟨11, _⟩ => ⟨S4x2048x1024, .f32⟩
  | .hbm, ⟨12, _⟩ => ⟨S4x2176x1024, .f32⟩
  | .hbm, ⟨13, _⟩ => ⟨S8704x1024, .f32⟩
  | .hbm, ⟨14, _⟩ => ⟨S8704x1024, .bf16⟩
  | .hbm, ⟨15, _⟩ => ⟨S_, .i32⟩
  | .hbm, ⟨16, _⟩ => ⟨S_, .f32⟩
  | .hbm, ⟨17, _⟩ => ⟨S4x8x2064x128, .f32⟩
  | .hbm, ⟨18, _⟩ => ⟨S4x2064x8x128, .f32⟩
  | .hbm, ⟨19, _⟩ => ⟨S4x2064x1024, .f32⟩
  | .hbm, ⟨20, _⟩ => ⟨S4x16x1024, .f32⟩
  | .hbm, ⟨21, _⟩ => ⟨S_, .f32⟩
  | .hbm, ⟨22, _⟩ => ⟨S4x112x1024, .f32⟩
  | .hbm, ⟨23, _⟩ => ⟨S4x2048x1024, .f32⟩
  | .hbm, ⟨24, _⟩ => ⟨S4x2176x1024, .f32⟩
  | .hbm, ⟨25, _⟩ => ⟨S8704x1024, .f32⟩
  | .hbm, ⟨26, _⟩ => ⟨S8704x1024, .bf16⟩
  | .hbm, ⟨27, _⟩ => ⟨S_, .i32⟩
  | .hbm, ⟨28, _⟩ => ⟨S_, .f32⟩
  | .hbm, ⟨29, _⟩ => ⟨S4x8x2064x64, .f32⟩
  | .hbm, ⟨30, _⟩ => ⟨S4x2064x8x64, .f32⟩
  | .hbm, ⟨31, _⟩ => ⟨S4x2064x512, .f32⟩
  | .hbm, ⟨32, _⟩ => ⟨S4x16x512, .f32⟩
  | .hbm, ⟨33, _⟩ => ⟨S_, .f32⟩
  | .hbm, ⟨34, _⟩ => ⟨S4x112x512, .f32⟩
  | .hbm, ⟨35, _⟩ => ⟨S4x2048x512, .f32⟩
  | .hbm, ⟨36, _⟩ => ⟨S4x2176x512, .f32⟩
  | .hbm, ⟨37, _⟩ => ⟨S8704x512, .f32⟩
  | .hbm, ⟨38, _⟩ => ⟨S8704x512, .bf16⟩
  | .hbm, ⟨39, _⟩ => ⟨S8704x512, .bf16⟩
  | .hbm, ⟨40, _⟩ => ⟨S4x2176x512, .bf16⟩
  | .hbm, ⟨41, _⟩ => ⟨S4x16x512, .bf16⟩
  | .hbm, ⟨42, _⟩ => ⟨S4x2048x512, .bf16⟩
  | .hbm, ⟨43, _⟩ => ⟨S4x2064x512, .bf16⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | _, _ => ⟨S4x8x2064x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call2_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaFwdIdeal.lean ====
variable {F : FTy → Type} [FloatOps F] [Named F]
def κ : String → Option EReal := fun
  | "mask" => some ⊥
  | "s" => some (((Real.sqrt 96)⁻¹ : ℝ) : EReal)
  | _ => none
-- ==== MlaFwdRefIdeal.lean ====
abbrev S4x8x2064x96 : Shape := ⟨4, ![4, 8, 2064, 96]⟩
abbrev S4x8x2064x64 : Shape := ⟨4, ![4, 8, 2064, 64]⟩
abbrev S4x8x2064x2064 : Shape := ⟨4, ![4, 8, 2064, 2064]⟩
abbrev S_ : Shape := ⟨0, ![]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S4x8x2064 : Shape := ⟨3, ![4, 8, 2064]⟩
abbrev S4x8x2064x1 : Shape := ⟨4, ![4, 8, 2064, 1]⟩
abbrev S4x2064x8x64 : Shape := ⟨4, ![4, 2064, 8, 64]⟩
abbrev S4x2064x512 : Shape := ⟨3, ![4, 2064, 512]⟩

abbrev nBuf : Space → Nat
  | .hbm => 38
  | .vmem => 0
  | .smem => 0
  | _ => 0

abbrev bufTy : (tb : Table) → Fin (tcTables nBuf tb) → BufTy
  | .hbm, ⟨0, _⟩ => ⟨S4x8x2064x96, .f32⟩
  | .hbm, ⟨1, _⟩ => ⟨S4x8x2064x96, .f32⟩
  | .hbm, ⟨2, _⟩ => ⟨S4x8x2064x64, .f32⟩
  | .hbm, ⟨3, _⟩ => ⟨S4x8x2064x2064, .f32⟩
  | .hbm, ⟨4, _⟩ => ⟨S_, .f32⟩
  | .hbm, ⟨5, _⟩ => ⟨S_, .f32⟩
  | .hbm, ⟨6, _⟩ => ⟨S4x8x2064x2064, .f32⟩
  | .hbm, ⟨7, _⟩ => ⟨S4x8x2064x2064, .f32⟩
  | .hbm, ⟨8, _⟩ => ⟨S2064, .i32⟩
  | .hbm, ⟨9, _⟩ => ⟨S2064x1, .i32⟩
  | .hbm, ⟨10, _⟩ => ⟨S2064, .i32⟩
  | .hbm, ⟨11, _⟩ => ⟨S1x2064, .i32⟩
  | .hbm, ⟨12, _⟩ => ⟨S2064x2064, .i32⟩
  | .hbm, ⟨13, _⟩ => ⟨S2064x2064, .i32⟩
  | .hbm, ⟨14, _⟩ => ⟨S2064x2064, .i1⟩
  | .hbm, ⟨15, _⟩ => ⟨S_, .f32⟩
  | .hbm, ⟨16, _⟩ => ⟨S_, .f32⟩
  | .hbm, ⟨17, _⟩ => ⟨S4x8x2064x2064, .i1⟩
  | .hbm, ⟨18, _⟩ => ⟨S4x8x2064x2064, .f32⟩
  | .hbm, ⟨19, _⟩ => ⟨S4x8x2064x2064, .f32⟩
  | .hbm, ⟨20, _⟩ => ⟨S_, .f32⟩
  | .hbm, ⟨21, _⟩ => ⟨S4x8x2064, .f32⟩
  | .hbm, ⟨22, _⟩ => ⟨S_, .f32⟩
  | .hbm, ⟨23, _⟩ => ⟨S4x8x2064, .f32⟩
  | .hbm, ⟨24, _⟩ => ⟨S4x8x2064, .f32⟩
  | .hbm, ⟨25, _⟩ => ⟨S4x8x2064x1, .f32⟩
  | .hbm, ⟨26, _⟩ => ⟨S4x8x2064x2064, .f32⟩
  | .hbm, ⟨27, _⟩ => ⟨S4x8x2064x2064, .f32⟩
  | .hbm, ⟨28, _⟩ => ⟨S4x8x2064x2064, .f32⟩
  | .hbm, ⟨29, _⟩ => ⟨S_, .f32⟩
  | .hbm, ⟨30, _⟩ => ⟨S4x8x2064, .f32⟩
  | .hbm, ⟨31, _⟩ => ⟨S4x8x2064x1, .f32⟩
  | .hbm, ⟨32, _⟩ => ⟨S4x8x2064x2064, .f32⟩
  | .hbm, ⟨33, _⟩ => ⟨S4x8x2064x2064, .f32⟩
  | .hbm, ⟨34, _⟩ => ⟨S4x8x2064x64, .f32⟩
  | .hbm, ⟨35, _⟩ => ⟨S4x2064x8x64, .f32⟩
  | .hbm, ⟨36, _⟩ => ⟨S4x2064x512, .f32⟩
  | .hbm, ⟨37, _⟩ => ⟨S4x2064x512, .bf16⟩
  | _, _ => ⟨S4x8x2064x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== FoxFwd.lean ====
abbrev S4x8x2064x64 : Shape := ⟨4, ![4, 8, 2064, 64]⟩
abbrev S4x8x2064 : Shape := ⟨3, ![4, 8, 2064]⟩
abbrev S4x8x16 : Shape := ⟨3, ![4, 8, 16]⟩
abbrev S_ : Shape := ⟨0, ![]⟩
abbrev S4x8x112 : Shape := ⟨3, ![4, 8, 112]⟩
abbrev S4x8x2048 : Shape := ⟨3, ![4, 8, 2048]⟩
abbrev S4x8x2176 : Shape := ⟨3, ![4, 8, 2176]⟩
abbrev S32x2176 : Shape := ⟨2, ![32, 2176]⟩
abbrev S4x4x2x2176 : Shape := ⟨4, ![4, 4, 2, 2176]⟩
abbrev S4x4x2176x2 : Shape := ⟨4, ![4, 4, 2176, 2]⟩
abbrev S16x2176x2 : Shape := ⟨3, ![16, 2176, 2]⟩
abbrev S32x1x2176 : Shape := ⟨3, ![32, 1, 2176]⟩
abbrev S4x2064x8x64 : Shape := ⟨4, ![4, 2064, 8, 64]⟩
abbrev S4x2064x512 : Shape := ⟨3, ![4, 2064, 512]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩
abbrev S2176x128 : Shape := ⟨2, ![2176, 128]⟩
abbrev S1x2176x2 : Shape := ⟨3, ![1, 2176, 2]⟩
abbrev S1x1x2176 : Shape := ⟨3, ![1, 1, 2176]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩
abbrev S256x128 : Shape := ⟨2, ![256, 128]⟩
abbrev S384x128 : Shape := ⟨2, ![384, 128]⟩
abbrev S256x384 : Shape := ⟨2, ![256, 384]⟩
abbrev S1x256x1 : Shape := ⟨3, ![1, 256, 1]⟩
abbrev S256x1 : Shape := ⟨2, ![256, 1]⟩
abbrev S1x1x384 : Shape := ⟨3, ![1, 1, 384]⟩
abbrev S1x384 : Shape := ⟨2, ![1, 384]⟩
abbrev S256x256 : Shape := ⟨2, ![256, 256]⟩
abbrev S256 : Shape := ⟨1, ![256]⟩
abbrev S640x128 : Shape := ⟨2, ![640, 128]⟩
abbrev S256x640 : Shape := ⟨2, ![256, 640]⟩
abbrev S1x1x640 : Shape := ⟨3, ![1, 1, 640]⟩
abbrev S1x640 : Shape := ⟨2, ![1, 640]⟩
abbrev S896x128 : Shape := ⟨2, ![896, 128]⟩
abbrev S256x896 : Shape := ⟨2, ![256, 896]⟩
abbrev S1x1x896 : Shape := ⟨3, ![1, 1, 896]⟩
abbrev S1x896 : Shape := ⟨2, ![1, 896]⟩
abbrev S256x512 : Shape := ⟨2, ![256, 512]⟩
abbrev S1152x128 : Shape := ⟨2, ![1152, 128]⟩
abbrev S256x1152 : Shape := ⟨2, ![256, 1152]⟩
abbrev S1x1x1152 : Shape := ⟨3, ![1, 1, 1152]⟩
abbrev S1x1152 : Shape := ⟨2, ![1, 1152]⟩
abbrev S256x768 : Shape := ⟨2, ![256, 768]⟩
abbrev S1408x128 : Shape := ⟨2, ![1408, 128]⟩
abbrev S256x1408 : Shape := ⟨2, ![256, 1408]⟩
abbrev S1x1x1408 : Shape := ⟨3, ![1, 1, 1408]⟩
abbrev S1x1408 : Shape := ⟨2, ![1, 1408]⟩
abbrev S256x1024 : Shape := ⟨2, ![256, 1024]⟩
abbrev S1664x128 : Shape := ⟨2, ![1664, 128]⟩
abbrev S256x1664 : Shape := ⟨2, ![256, 1664]⟩
abbrev S1x1x1664 : Shape := ⟨3, ![1, 1, 1664]⟩
abbrev S1x1664 : Shape := ⟨2, ![1, 1664]⟩
abbrev S256x1280 : Shape := ⟨2, ![256, 1280]⟩
abbrev S1920x128 : Shape := ⟨2, ![1920, 128]⟩
abbrev S256x1920 : Shape := ⟨2, ![256, 1920]⟩
abbrev S1x1x1920 : Shape := ⟨3, ![1, 1, 1920]⟩
abbrev S1x1920 : Shape := ⟨2, ![1, 1920]⟩
abbrev S256x1536 : Shape := ⟨2, ![256, 1536]⟩
abbrev S256x2176 : Shape := ⟨2, ![256, 2176]⟩
abbrev S1x2176 : Shape := ⟨2, ![1, 2176]⟩
abbrev S256x1792 : Shape := ⟨2, ![256, 1792]⟩

abbrev nBuf : Space → Nat
  | .hbm => 46
  | .vmem => 14
  | .smem => 0
  | _ => 0

abbrev bufTy : (tb : Table) → Fin (tcTables nBuf tb) → BufTy
  | .hbm, ⟨0, _⟩ => ⟨S4x8x2064x64, .f32⟩
  | .hbm, ⟨1, _⟩ => ⟨S4x8x2064x64, .f32⟩
  | .hbm, ⟨2, _⟩ => ⟨S4x8x2064x64, .f32⟩
  | .hbm, ⟨3, _⟩ => ⟨S4x8x2064, .f32⟩
  | .hbm, ⟨4, _⟩ => ⟨S4x8x16, .f32⟩
  | .hbm, ⟨5, _⟩ => ⟨S_, .f32⟩
  | .hbm, ⟨6, _⟩ => ⟨S4x8x112, .f32⟩
  | .hbm, ⟨7, _⟩ => ⟨S4x8x2048, .f32⟩
  | .hbm, ⟨8, _⟩ => ⟨S4x8x2176, .f32⟩
  | .hbm, ⟨9, _⟩ => ⟨S32x2176, .f32⟩
  | .hbm, ⟨10, _⟩ => ⟨S4x4x2x2176, .f32⟩
  | .hbm, ⟨11, _⟩ => ⟨S4x4x2176x2, .f32⟩
  | .hbm, ⟨12, _⟩ => ⟨S16x2176x2, .f32⟩
  | .hbm, ⟨13, _⟩ => ⟨S32x1x2176, .f32⟩
  | .hbm, ⟨14, _⟩ => ⟨S4x2064x8x64, .f32⟩
  | .hbm, ⟨15, _⟩ => ⟨S4x2064x512, .f32⟩
  | .hbm, ⟨16, _⟩ => ⟨S4x16x512, .f32⟩
  | .hbm, ⟨17, _⟩ => ⟨S_, .f32⟩
  | .hbm, ⟨18, _⟩ => ⟨S4x112x512, .f32⟩
  | .hbm, ⟨19, _⟩ => ⟨S4x2048x512, .f32⟩
  | .hbm, ⟨20, _⟩ => ⟨S4x2176x512, .f32⟩
  | .hbm, ⟨21, _⟩ => ⟨S8704x512, .f32⟩
  | .hbm, ⟨22, _⟩ => ⟨S8704x512, .bf16⟩
  | .hbm, ⟨23, _⟩ => ⟨S4x2064x8x64, .f32⟩
  | .hbm, ⟨24, _⟩ => ⟨S4x2064x512, .f32⟩
  | .hbm, ⟨25, _⟩ => ⟨S4x16x512, .f32⟩
  | .hbm, ⟨26, _⟩ => ⟨S_, .f32⟩
  | .hbm, ⟨27, _⟩ => ⟨S4x112x512, .f32⟩
  | .hbm, ⟨28, _⟩ => ⟨S4x2048x512, .f32⟩
  | .hbm, ⟨29, _⟩ => ⟨S4x2176x512, .f32⟩
  | .hbm, ⟨30, _⟩ => ⟨S8704x512, .f32⟩
  | .hbm, ⟨31, _⟩ => ⟨S8704x512, .bf16⟩
  | .hbm, ⟨32, _⟩ => ⟨S4x2064x8x64, .f32⟩
  | .hbm, ⟨33, _⟩ => ⟨S4x2064x512, .f32⟩
  | .hbm, ⟨34, _⟩ => ⟨S4x16x512, .f32⟩
  | .hbm, ⟨35, _⟩ => ⟨S_, .f32⟩
  | .hbm, ⟨36, _⟩ => ⟨S4x112x512, .f32⟩
  | .hbm, ⟨37, _⟩ => ⟨S4x2048x512, .f32⟩
  | .hbm, ⟨38, _⟩ => ⟨S4x2176x512, .f32⟩
  | .hbm, ⟨39, _⟩ => ⟨S8704x512, .f32⟩
  | .hbm, ⟨40, _⟩ => ⟨S8704x512, .bf16⟩
  | .hbm, ⟨41, _⟩ => ⟨S8704x512, .bf16⟩
  | .hbm, ⟨42, _⟩ => ⟨S4x2176x512, .bf16⟩
  | .hbm, ⟨43, _⟩ => ⟨S4x16x512, .bf16⟩
  | .hbm, ⟨44, _⟩ => ⟨S4x2048x512, .bf16⟩
  | .hbm, ⟨45, _⟩ => ⟨S4x2064x512, .bf16⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S1x2176x2, .f32⟩
  | .local _ .vmem, ⟨7, _⟩ => ⟨S1x2176x2, .f32⟩
  | .local _ .vmem, ⟨8, _⟩ => ⟨S1x1x2176, .f32⟩
  | .local _ .vmem, ⟨9, _⟩ => ⟨S1x1x2176, .f32⟩
  | .local _ .vmem, ⟨10, _⟩ => ⟨S1x1x2176, .f32⟩
  | .local _ .vmem, ⟨11, _⟩ => ⟨S1x1x2176, .f32⟩
  | .local _ .vmem, ⟨12, _⟩ => ⟨S2176x128, .bf16⟩
  | .local _ .vmem, ⟨13, _⟩ => ⟨S2176x128, .bf16⟩
  | _, _ => ⟨S4x8x2064x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.muli c2_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.muli c2_i32 arg1
  let v2 : BitVec 32 := Scalar.addi v0 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2176x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxFwdIdeal.lean ====
variable {F : FTy → Type} [FloatOps F] [Named F]
def κ : String → Option EReal := fun
  | "mask" => some ⊥
  | _ => none
-- ==== FoxFwdRefIdeal.lean ====
abbrev S4x8x2064x64 : Shape := ⟨4, ![4, 8, 2064, 64]⟩
abbrev S4x8x2064 : Shape := ⟨3, ![4, 8, 2064]⟩
abbrev S4x8x2064x2064 : Shape := ⟨4, ![4, 8, 2064, 2064]⟩
abbrev S_ : Shape := ⟨0, ![]⟩
abbrev S4x8x2064x1 : Shape := ⟨4, ![4, 8, 2064, 1]⟩
abbrev S4x8x1x2064 : Shape := ⟨4, ![4, 8, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S4x2064x8x64 : Shape := ⟨4, ![4, 2064, 8, 64]⟩
abbrev S4x2064x512 : Shape := ⟨3, ![4, 2064, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x8x2064x64, .f32⟩
  | .hbm, ⟨1, _⟩ => ⟨S4x8x2064x64, .f32⟩
  | .hbm, ⟨2, _⟩ => ⟨S4x8x2064x64, .f32⟩
  | .hbm, ⟨3, _⟩ => ⟨S4x8x2064, .f32⟩
  | .hbm, ⟨4, _⟩ => ⟨S4x8x2064x2064, .f32⟩
  | .hbm, ⟨5, _⟩ => ⟨S_, .f32⟩
  | .hbm, ⟨6, _⟩ => ⟨S4x8x2064x2064, .f32⟩
  | .hbm, ⟨7, _⟩ => ⟨S4x8x2064x2064, .f32⟩
  | .hbm, ⟨8, _⟩ => ⟨S4x8x2064x1, .f32⟩
  | .hbm, ⟨9, _⟩ => ⟨S4x8x2064x2064, .f32⟩
  | .hbm, ⟨10, _⟩ => ⟨S4x8x2064x2064, .f32⟩
  | .hbm, ⟨11, _⟩ => ⟨S4x8x1x2064, .f32⟩
  | .hbm, ⟨12, _⟩ => ⟨S4x8x2064x2064, .f32⟩
  | .hbm, ⟨13, _⟩ => ⟨S4x8x2064x2064, .f32⟩
  | .hbm, ⟨14, _⟩ => ⟨S2064, .i32⟩
  | .hbm, ⟨15, _⟩ => ⟨S2064x1, .i32⟩
  | .hbm, ⟨16, _⟩ => ⟨S2064, .i32⟩
  | .hbm, ⟨17, _⟩ => ⟨S1x2064, .i32⟩
  | .hbm, ⟨18, _⟩ => ⟨S2064x2064, .i32⟩
  | .hbm, ⟨19, _⟩ => ⟨S2064x2064, .i32⟩
  | .hbm, ⟨20, _⟩ => ⟨S2064x2064, .i1⟩
  | .hbm, ⟨21, _⟩ => ⟨S_, .f32⟩
  | .hbm, ⟨22, _⟩ => ⟨S_, .f32⟩
  | .hbm, ⟨23, _⟩ => ⟨S4x8x2064x2064, .i1⟩
  | .hbm, ⟨24, _⟩ => ⟨S4x8x2064x2064, .f32⟩
  | .hbm, ⟨25, _⟩ => ⟨S4x8x2064x2064, .f32⟩
  | .hbm, ⟨26, _⟩ => ⟨S_, .f32⟩
  | .hbm, ⟨27, _⟩ => ⟨S4x8x2064, .f32⟩
  | .hbm, ⟨28, _⟩ => ⟨S_, .f32⟩
  | .hbm, ⟨29, _⟩ => ⟨S4x8x2064, .f32⟩
  | .hbm, ⟨30, _⟩ => ⟨S4x8x2064, .f32⟩
  | .hbm, ⟨31, _⟩ => ⟨S4x8x2064x1, .f32⟩
  | .hbm, ⟨32, _⟩ => ⟨S4x8x2064x2064, .f32⟩
  | .hbm, ⟨33, _⟩ => ⟨S4x8x2064x2064, .f32⟩
  | .hbm, ⟨34, _⟩ => ⟨S4x8x2064x2064, .f32⟩
  | .hbm, ⟨35, _⟩ => ⟨S_, .f32⟩
  | .hbm, ⟨36, _⟩ => ⟨S4x8x2064, .f32⟩
  | .hbm, ⟨37, _⟩ => ⟨S4x8x2064x1, .f32⟩
  | .hbm, ⟨38, _⟩ => ⟨S4x8x2064x2064, .f32⟩
  | .hbm, ⟨39, _⟩ => ⟨S4x8x2064x2064, .f32⟩
  | .hbm, ⟨40, _⟩ => ⟨S4x8x2064x64, .f32⟩
  | .hbm, ⟨41, _⟩ => ⟨S4x2064x8x64, .f32⟩
  | .hbm, ⟨42, _⟩ => ⟨S4x2064x512, .f32⟩
  | .hbm, ⟨43, _⟩ => ⟨S4x2064x512, .bf16⟩
  | _, _ => ⟨S4x8x2064x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== PostFwd.lean ====
abbrev S8704x1024 : Shape := ⟨2, ![8704, 1024]⟩
abbrev S8704x512 : Shape := ⟨2, ![8704, 512]⟩
abbrev S8704x2048 : Shape := ⟨2, ![8704, 2048]⟩
abbrev S1x2048 : Shape := ⟨2, ![1, 2048]⟩
abbrev S512x1024 : Shape := ⟨2, ![512, 1024]⟩
abbrev S1024x1024 : Shape := ⟨2, ![1024, 1024]⟩
abbrev S_ : Shape := ⟨0, ![]⟩
abbrev S8704x4096 : Shape := ⟨2, ![8704, 4096]⟩
abbrev S512x512 : Shape := ⟨2, ![512, 512]⟩
abbrev S512x2048 : Shape := ⟨2, ![512, 2048]⟩

abbrev nBuf : Space → Nat
  | .hbm => 18
  | .vmem => 16
  | .smem => 0
  | _ => 0

abbrev bufTy : (tb : Table) → Fin (tcTables nBuf tb) → BufTy
  | .hbm, ⟨0, _⟩ => ⟨S8704x1024, .f32⟩
  | .hbm, ⟨1, _⟩ => ⟨S8704x512, .f32⟩
  | .hbm, ⟨2, _⟩ => ⟨S8704x512, .f32⟩
  | .hbm, ⟨3, _⟩ => ⟨S8704x2048, .f32⟩
  | .hbm, ⟨4, _⟩ => ⟨S1x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S_, .f32⟩
  | .hbm, ⟨9, _⟩ => ⟨S8704x2048, .f32⟩
  | .hbm, ⟨10, _⟩ => ⟨S8704x4096, .f32⟩
  | .hbm, ⟨11, _⟩ => ⟨S8704x512, .bf16⟩
  | .hbm, ⟨12, _⟩ => ⟨S8704x512, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S8704x1024, .f32⟩
  | .hbm, ⟨17, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostFwdRefIdeal.lean ====
abbrev S8704x1024 : Shape := ⟨2, ![8704, 1024]⟩
abbrev S8704x512 : Shape := ⟨2, ![8704, 512]⟩
abbrev S8704x2048 : Shape := ⟨2, ![8704, 2048]⟩
abbrev S1x2048 : Shape := ⟨2, ![1, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x512, .f32⟩
  | .hbm, ⟨2, _⟩ => ⟨S8704x512, .f32⟩
  | .hbm, ⟨3, _⟩ => ⟨S8704x2048, .f32⟩
  | .hbm, ⟨4, _⟩ => ⟨S1x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704x2048, .f32⟩
  | .hbm, ⟨14, _⟩ => ⟨S8704x2048, .f32⟩
  | .hbm, ⟨15, _⟩ => ⟨S_, .f32⟩
  | .hbm, ⟨16, _⟩ => ⟨S8704x2048, .f32⟩
  | .hbm, ⟨17, _⟩ => ⟨S8704x2048, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S8704x1024, .f32⟩
  | .hbm, ⟨22, _⟩ => ⟨S8704x1024, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x1024, .f32⟩
  | .hbm, ⟨27, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== FfnFwd.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 7
  | .vmem => 8
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S8704x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFwdRefIdeal.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8704 : Shape := ⟨1, ![8704]⟩
abbrev S8704x1 : Shape := ⟨2, ![8704, 1]⟩
abbrev S8704x5632 : Shape := ⟨2, ![8704, 5632]⟩
abbrev S8704x2816 : Shape := ⟨2, ![8704, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8704x1024, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S8704x1024, .f32⟩
  | .hbm, ⟨19, _⟩ => ⟨S8704x5632, .f32⟩
  | .hbm, ⟨20, _⟩ => ⟨S8704x2816, .f32⟩
  | .hbm, ⟨21, _⟩ => ⟨S8704x2816, .f32⟩
  | .hbm, ⟨22, _⟩ => ⟨S8704x2816, .f32⟩
  | .hbm, ⟨23, _⟩ => ⟨S8704x2816, .f32⟩
  | .hbm, ⟨24, _⟩ => ⟨S_, .f32⟩
  | .hbm, ⟨25, _⟩ => ⟨S8704x2816, .f32⟩
  | .hbm, ⟨26, _⟩ => ⟨S8704x2816, .f32⟩
  | .hbm, ⟨27, _⟩ => ⟨S_, .f32⟩
  | .hbm, ⟨28, _⟩ => ⟨S8704x2816, .f32⟩
  | .hbm, ⟨29, _⟩ => ⟨S8704x2816, .f32⟩
  | .hbm, ⟨30, _⟩ => ⟨S8704x2816, .f32⟩
  | .hbm, ⟨31, _⟩ => ⟨S8704x2816, .f32⟩
  | .hbm, ⟨32, _⟩ => ⟨S8704x1024, .f32⟩
  | .hbm, ⟨33, _⟩ => ⟨S_, .f32⟩
  | .hbm, ⟨34, _⟩ => ⟨S8704x1024, .f32⟩
  | .hbm, ⟨35, _⟩ => ⟨S8704x1024, .f32⟩
  | .hbm, ⟨36, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== InprojFwd.lean ====
abbrev S8704x1024 : Shape := ⟨2, ![8704, 1024]⟩
abbrev S1x1024 : Shape := ⟨2, ![1, 1024]⟩
abbrev S1024x4008 : Shape := ⟨2, ![1024, 4008]⟩
abbrev S1024x8 : Shape := ⟨2, ![1024, 8]⟩
abbrev S1024x256 : Shape := ⟨2, ![1024, 256]⟩
abbrev S1024x128 : Shape := ⟨2, ![1024, 128]⟩
abbrev S1024x32 : Shape := ⟨2, ![1024, 32]⟩
abbrev S1024x2048 : Shape := ⟨2, ![1024, 2048]⟩
abbrev S_ : Shape := ⟨0, ![]⟩
abbrev S1024x64 : Shape := ⟨2, ![1024, 64]⟩
abbrev S1024x24 : Shape := ⟨2, ![1024, 24]⟩
abbrev S1024x1536 : Shape := ⟨2, ![1024, 1536]⟩
abbrev S1024x4096 : Shape := ⟨2, ![1024, 4096]⟩
abbrev S8704x4096 : Shape := ⟨2, ![8704, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 18
  | .vmem => 8
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x4008, .f32⟩
  | .hbm, ⟨3, _⟩ => ⟨S1024x4008, .bf16⟩
  | .hbm, ⟨4, _⟩ => ⟨S1024x8, .bf16⟩
  | .hbm, ⟨5, _⟩ => ⟨S1024x256, .bf16⟩
  | .hbm, ⟨6, _⟩ => ⟨S1024x128, .bf16⟩
  | .hbm, ⟨7, _⟩ => ⟨S1024x32, .bf16⟩
  | .hbm, ⟨8, _⟩ => ⟨S1024x2048, .bf16⟩
  | .hbm, ⟨9, _⟩ => ⟨S_, .bf16⟩
  | .hbm, ⟨10, _⟩ => ⟨S1024x64, .bf16⟩
  | .hbm, ⟨11, _⟩ => ⟨S_, .bf16⟩
  | .hbm, ⟨12, _⟩ => ⟨S1024x24, .bf16⟩
  | .hbm, ⟨13, _⟩ => ⟨S1024x128, .bf16⟩
  | .hbm, ⟨14, _⟩ => ⟨S1024x1536, .bf16⟩
  | .hbm, ⟨15, _⟩ => ⟨S1024x4096, .bf16⟩
  | .hbm, ⟨16, _⟩ => ⟨S8704x4096, .f32⟩
  | .hbm, ⟨17, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | .local _ .vmem, ⟨6, _⟩ => ⟨S512x1024, .bf16⟩
  | .local _ .vmem, ⟨7, _⟩ => ⟨S512x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojFwdRefIdeal.lean ====
abbrev S8704x1024 : Shape := ⟨2, ![8704, 1024]⟩
abbrev S1x1024 : Shape := ⟨2, ![1, 1024]⟩
abbrev S1024x4008 : Shape := ⟨2, ![1024, 4008]⟩
abbrev S_ : Shape := ⟨0, ![]⟩
abbrev S8704 : Shape := ⟨1, ![8704]⟩
abbrev S8704x1 : Shape := ⟨2, ![8704, 1]⟩
abbrev S8704x4008 : Shape := ⟨2, ![8704, 4008]⟩
abbrev S8704x1536 : Shape := ⟨2, ![8704, 1536]⟩
abbrev S8704x8 : Shape := ⟨2, ![8704, 8]⟩
abbrev S8704x256 : Shape := ⟨2, ![8704, 256]⟩
abbrev S8704x128 : Shape := ⟨2, ![8704, 128]⟩
abbrev S8704x32 : Shape := ⟨2, ![8704, 32]⟩
abbrev S8704x2048 : Shape := ⟨2, ![8704, 2048]⟩
abbrev S8704x64 : Shape := ⟨2, ![8704, 64]⟩
abbrev S8704x24 : Shape := ⟨2, ![8704, 24]⟩
abbrev S8704x4096 : Shape := ⟨2, ![8704, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x4008, .f32⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S8704x4008, .f32⟩
  | .hbm, ⟨19, _⟩ => ⟨S8704x1536, .f32⟩
  | .hbm, ⟨20, _⟩ => ⟨S8704x8, .f32⟩
  | .hbm, ⟨21, _⟩ => ⟨S8704x256, .f32⟩
  | .hbm, ⟨22, _⟩ => ⟨S8704x128, .f32⟩
  | .hbm, ⟨23, _⟩ => ⟨S8704x32, .f32⟩
  | .hbm, ⟨24, _⟩ => ⟨S8704x2048, .f32⟩
  | .hbm, ⟨25, _⟩ => ⟨S_, .f32⟩
  | .hbm, ⟨26, _⟩ => ⟨S8704x64, .f32⟩
  | .hbm, ⟨27, _⟩ => ⟨S_, .f32⟩
  | .hbm, ⟨28, _⟩ => ⟨S8704x24, .f32⟩
  | .hbm, ⟨29, _⟩ => ⟨S8704x128, .f32⟩
  | .hbm, ⟨30, _⟩ => ⟨S8704x4096, .f32⟩
  | .hbm, ⟨31, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== ScanFwd.lean ====
abbrev S4x8x2064 : Shape := ⟨3, ![4, 8, 2064]⟩
abbrev S32x2064 : Shape := ⟨2, ![32, 2064]⟩
abbrev S32x16 : Shape := ⟨2, ![32, 16]⟩
abbrev S_ : Shape := ⟨0, ![]⟩
abbrev S32x112 : Shape := ⟨2, ![32, 112]⟩
abbrev S32x2048 : Shape := ⟨2, ![32, 2048]⟩
abbrev S32x2176 : Shape := ⟨2, ![32, 2176]⟩

abbrev nBuf : Space → Nat
  | .hbm => 8
  | .vmem => 2
  | .smem => 0
  | _ => 0

abbrev bufTy : (tb : Table) → Fin (tcTables nBuf tb) → BufTy
  | .hbm, ⟨0, _⟩ => ⟨S4x8x2064, .f32⟩
  | .hbm, ⟨1, _⟩ => ⟨S32x2064, .f32⟩
  | .hbm, ⟨2, _⟩ => ⟨S32x16, .f32⟩
  | .hbm, ⟨3, _⟩ => ⟨S_, .f32⟩
  | .hbm, ⟨4, _⟩ => ⟨S32x112, .f32⟩
  | .hbm, ⟨5, _⟩ => ⟨S32x2048, .f32⟩
  | .hbm, ⟨6, _⟩ => ⟨S32x2176, .f32⟩
  | .hbm, ⟨7, _⟩ => ⟨S32x2176, .f32⟩
  | .local _ .vmem, ⟨0, _⟩ => ⟨S32x2176, .f32⟩
  | .local _ .vmem, ⟨1, _⟩ => ⟨S32x2176, .f32⟩
  | _, _ => ⟨S4x8x2064, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ScanFwdRefIdeal.lean ====
abbrev S4x8x2064 : Shape := ⟨3, ![4, 8, 2064]⟩
abbrev S_ : Shape := ⟨0, ![]⟩
abbrev S32x2064 : Shape := ⟨2, ![32, 2064]⟩
abbrev S32x16 : Shape := ⟨2, ![32, 16]⟩
abbrev S32x112 : Shape := ⟨2, ![32, 112]⟩
abbrev S32x2048 : Shape := ⟨2, ![32, 2048]⟩
abbrev S32x2176 : Shape := ⟨2, ![32, 2176]⟩

abbrev nBuf : Space → Nat
  | .hbm => 10
  | .vmem => 0
  | .smem => 0
  | _ => 0

abbrev bufTy : (tb : Table) → Fin (tcTables nBuf tb) → BufTy
  | .hbm, ⟨0, _⟩ => ⟨S4x8x2064, .f32⟩
  | .hbm, ⟨1, _⟩ => ⟨S_, .f32⟩
  | .hbm, ⟨2, _⟩ => ⟨S_, .f32⟩
  | .hbm, ⟨3, _⟩ => ⟨S4x8x2064, .f32⟩
  | .hbm, ⟨4, _⟩ => ⟨S32x2064, .f32⟩
  | .hbm, ⟨5, _⟩ => ⟨S32x16, .f32⟩
  | .hbm, ⟨6, _⟩ => ⟨S_, .f32⟩
  | .hbm, ⟨7, _⟩ => ⟨S32x112, .f32⟩
  | .hbm, ⟨8, _⟩ => ⟨S32x2048, .f32⟩
  | .hbm, ⟨9, _⟩ => ⟨S32x2176, .f32⟩
  | _, _ => ⟨S4x8x2064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Wgrad.lean ====
abbrev S8704x1024 : Shape := ⟨2, ![8704, 1024]⟩
abbrev S8704x5632 : Shape := ⟨2, ![8704, 5632]⟩
abbrev S4x1024x1408 : Shape := ⟨3, ![4, 1024, 1408]⟩
abbrev S512x1024 : Shape := ⟨2, ![512, 1024]⟩
abbrev S512x2816 : Shape := ⟨2, ![512, 2816]⟩
abbrev S2x1024x1408 : Shape := ⟨3, ![2, 1024, 1408]⟩
abbrev S1024x2816 : Shape := ⟨2, ![1024, 2816]⟩
abbrev S1024x1408 : Shape := ⟨2, ![1024, 1408]⟩
abbrev S1x1024x1408 : Shape := ⟨3, ![1, 1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8704x1024, .f32⟩
  | .hbm, ⟨1, _⟩ => ⟨S8704x5632, .f32⟩
  | .hbm, ⟨2, _⟩ => ⟨S8704x1024, .bf16⟩
  | .hbm, ⟨3, _⟩ => ⟨S8704x5632, .bf16⟩
  | .hbm, ⟨4, _⟩ => ⟨S4x1024x1408, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x2816, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 17], ![false, false, false]⟩

def k0_cond2 (i : grid0.Coords) : BitVec 1 :=
  let arg2 : BitVec 32 := BitVec.ofNat 32 (i 2).val
  let c16_i32 : BitVec 32 := 16#32
  let v13 : BitVec 1 := Scalar.cmpi .eq arg2 c16_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x5632, .f32⟩
  | .hbm, ⟨2, _⟩ => ⟨S_, .f32⟩
  | .hbm, ⟨3, _⟩ => ⟨S1024x5632, .f32⟩
  | .hbm, ⟨4, _⟩ => ⟨S8704x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PrepFwd.lean ====
abbrev S4x2064x1960 : Shape := ⟨3, ![4, 2064, 1960]⟩
abbrev S1x8 : Shape := ⟨2, ![1, 8]⟩
abbrev S1x64 : Shape := ⟨2, ![1, 64]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x96 : Shape := ⟨2, ![1, 96]⟩
abbrev S4x2064x8 : Shape := ⟨3, ![4, 2064, 8]⟩
abbrev S4x2064x256 : Shape := ⟨3, ![4, 2064, 256]⟩
abbrev S4x2064x128 : Shape := ⟨3, ![4, 2064, 128]⟩
abbrev S4x2064x32 : Shape := ⟨3, ![4, 2064, 32]⟩
abbrev S_ : Shape := ⟨0, ![]⟩
abbrev S4x2064x64 : Shape := ⟨3, ![4, 2064, 64]⟩
abbrev S4x2064x24 : Shape := ⟨3, ![4, 2064, 24]⟩
abbrev S4x2064x1536 : Shape := ⟨3, ![4, 2064, 1536]⟩
abbrev S4x2064x2048 : Shape := ⟨3, ![4, 2064, 2048]⟩
abbrev S4x16x2048 : Shape := ⟨3, ![4, 16, 2048]⟩
abbrev S4x112x2048 : Shape := ⟨3, ![4, 112, 2048]⟩
abbrev S4x2048x2048 : Shape := ⟨3, ![4, 2048, 2048]⟩
abbrev S4x2176x2048 : Shape := ⟨3, ![4, 2176, 2048]⟩
abbrev S8704x2048 : Shape := ⟨2, ![8704, 2048]⟩
abbrev S128 : Shape := ⟨1, ![128]⟩
abbrev S2048 : Shape := ⟨1, ![2048]⟩
abbrev S2176 : Shape := ⟨1, ![2176]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S2176x32 : Shape := ⟨2, ![2176, 32]⟩
abbrev S2176x64 : Shape := ⟨2, ![2176, 64]⟩
abbrev S2176x128 : Shape := ⟨2, ![2176, 128]⟩
abbrev S1x2176x1x128 : Shape := ⟨4, ![1, 2176, 1, 128]⟩
abbrev S4x2176x1x128 : Shape := ⟨4, ![4, 2176, 1, 128]⟩
abbrev S8704x128 : Shape := ⟨2, ![8704, 128]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S1x1x1x64 : Shape := ⟨4, ![1, 1, 1, 64]⟩
abbrev S1x1x2x64 : Shape := ⟨4, ![1, 1, 2, 64]⟩
abbrev S1x0 : Shape := ⟨2, ![1, 0]⟩
abbrev S1x32 : Shape := ⟨2, ![1, 32]⟩
abbrev S1x24 : Shape := ⟨2, ![1, 24]⟩
abbrev S8704x512 : Shape := ⟨2, ![8704, 512]⟩
abbrev S8704x1024 : Shape := ⟨2, ![8704, 1024]⟩
abbrev S256x2048 : Shape := ⟨2, ![256, 2048]⟩
abbrev S256x128 : Shape := ⟨2, ![256, 128]⟩
abbrev S256x512 : Shape := ⟨2, ![256, 512]⟩
abbrev S128x128 : Shape := ⟨2, ![128, 128]⟩
abbrev S256x256 : Shape := ⟨2, ![256, 256]⟩

abbrev nBuf : Space → Nat
  | .hbm => 113
  | .vmem => 30
  | .smem => 0
  | _ => 0

abbrev bufTy : (tb : Table) → Fin (tcTables nBuf tb) → BufTy
  | .hbm, ⟨0, _⟩ => ⟨S4x2064x1960, .f32⟩
  | .hbm, ⟨1, _⟩ => ⟨S1x8, .f32⟩
  | .hbm, ⟨2, _⟩ => ⟨S1x64, .f32⟩
  | .hbm, ⟨3, _⟩ => ⟨S1x64, .f32⟩
  | .hbm, ⟨4, _⟩ => ⟨S1x256, .f32⟩
  | .hbm, ⟨5, _⟩ => ⟨S256x768, .f32⟩
  | .hbm, ⟨6, _⟩ => ⟨S1x128, .f32⟩
  | .hbm, ⟨7, _⟩ => ⟨S128x1024, .f32⟩
  | .hbm, ⟨8, _⟩ => ⟨S1x96, .f32⟩
  | .hbm, ⟨9, _⟩ => ⟨S1x96, .f32⟩
  | .hbm, ⟨10, _⟩ => ⟨S4x2064x8, .f32⟩
  | .hbm, ⟨11, _⟩ => ⟨S4x2064x256, .f32⟩
  | .hbm, ⟨12, _⟩ => ⟨S4x2064x128, .f32⟩
  | .hbm, ⟨13, _⟩ => ⟨S4x2064x32, .f32⟩
  | .hbm, ⟨14, _⟩ => ⟨S_, .f32⟩
  | .hbm, ⟨15, _⟩ => ⟨S4x2064x64, .f32⟩
  | .hbm, ⟨16, _⟩ => ⟨S_, .f32⟩
  | .hbm, ⟨17, _⟩ => ⟨S4x2064x24, .f32⟩
  | .hbm, ⟨18, _⟩ => ⟨S4x2064x128, .f32⟩
  | .hbm, ⟨19, _⟩ => ⟨S4x2064x1536, .f32⟩
  | .hbm, ⟨20, _⟩ => ⟨S4x2064x2048, .f32⟩
  | .hbm, ⟨21, _⟩ => ⟨S4x16x2048, .f32⟩
  | .hbm, ⟨22, _⟩ => ⟨S_, .f32⟩
  | .hbm, ⟨23, _⟩ => ⟨S4x112x2048, .f32⟩
  | .hbm, ⟨24, _⟩ => ⟨S4x2048x2048, .f32⟩
  | .hbm, ⟨25, _⟩ => ⟨S4x2176x2048, .f32⟩
  | .hbm, ⟨26, _⟩ => ⟨S8704x2048, .f32⟩
  | .hbm, ⟨27, _⟩ => ⟨S128, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2176, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S2176x1, .f32⟩
  | .hbm, ⟨48, _⟩ => ⟨S1x16, .f32⟩
  | .hbm, ⟨49, _⟩ => ⟨S2176x16, .f32⟩
  | .hbm, ⟨50, _⟩ => ⟨S2176x16, .f32⟩
  | .hbm, ⟨51, _⟩ => ⟨S2176x16, .f32⟩
  | .hbm, ⟨52, _⟩ => ⟨S2176x16, .f32⟩
  | .hbm, ⟨53, _⟩ => ⟨S2176x16, .f32⟩
  | .hbm, ⟨54, _⟩ => ⟨S_, .f32⟩
  | .hbm, ⟨55, _⟩ => ⟨S2176x32, .f32⟩
  | .hbm, ⟨56, _⟩ => ⟨S_, .f32⟩
  | .hbm, ⟨57, _⟩ => ⟨S2176x64, .f32⟩
  | .hbm, ⟨58, _⟩ => ⟨S2176x128, .f32⟩
  | .hbm, ⟨59, _⟩ => ⟨S_, .f32⟩
  | .hbm, ⟨60, _⟩ => ⟨S2176x64, .f32⟩
  | .hbm, ⟨61, _⟩ => ⟨S2176x16, .f32⟩
  | .hbm, ⟨62, _⟩ => ⟨S2176x128, .f32⟩
  | .hbm, ⟨63, _⟩ => ⟨S1x2176x1x128, .f32⟩
  | .hbm, ⟨64, _⟩ => ⟨S4x2176x1x128, .f32⟩
  | .hbm, ⟨65, _⟩ => ⟨S8704x128, .f32⟩
  | .hbm, ⟨66, _⟩ => ⟨S1x2176x1x128, .f32⟩
  | .hbm, ⟨67, _⟩ => ⟨S4x2176x1x128, .f32⟩
  | .hbm, ⟨68, _⟩ => ⟨S8704x128, .f32⟩
  | .hbm, ⟨69, _⟩ => ⟨S256x8x96, .f32⟩
  | .hbm, ⟨70, _⟩ => ⟨S_, .i32⟩
  | .hbm, ⟨71, _⟩ => ⟨S_, .f32⟩
  | .hbm, ⟨72, _⟩ => ⟨S256x8x128, .f32⟩
  | .hbm, ⟨73, _⟩ => ⟨S256x1024, .f32⟩
  | .hbm, ⟨74, _⟩ => ⟨S128x8x128, .f32⟩
  | .hbm, ⟨75, _⟩ => ⟨S128x8x64, .f32⟩
  | .hbm, ⟨76, _⟩ => ⟨S_, .i32⟩
  | .hbm, ⟨77, _⟩ => ⟨S_, .f32⟩
  | .hbm, ⟨78, _⟩ => ⟨S128x8x128, .f32⟩
  | .hbm, ⟨79, _⟩ => ⟨S128x1024, .f32⟩
  | .hbm, ⟨80, _⟩ => ⟨S128x8x64, .f32⟩
  | .hbm, ⟨81, _⟩ => ⟨S128x512, .f32⟩
  | .hbm, ⟨82, _⟩ => ⟨S1x1x1x64, .f32⟩
  | .hbm, ⟨83, _⟩ => ⟨S1x1x2x64, .f32⟩
  | .hbm, ⟨84, _⟩ => ⟨S1x128, .f32⟩
  | .hbm, ⟨85, _⟩ => ⟨S1x1x1x64, .f32⟩
  | .hbm, ⟨86, _⟩ => ⟨S1x1x2x64, .f32⟩
  | .hbm, ⟨87, _⟩ => ⟨S1x128, .f32⟩
  | .hbm, ⟨88, _⟩ => ⟨S_, .f32⟩
  | .hbm, ⟨89, _⟩ => ⟨S1x0, .f32⟩
  | .hbm, ⟨90, _⟩ => ⟨S_, .f32⟩
  | .hbm, ⟨91, _⟩ => ⟨S1x32, .f32⟩
  | .hbm, ⟨92, _⟩ => ⟨S1x128, .f32⟩
  | .hbm, ⟨93, _⟩ => ⟨S_, .f32⟩
  | .hbm, ⟨94, _⟩ => ⟨S1x0, .f32⟩
  | .hbm, ⟨95, _⟩ => ⟨S_, .f32⟩
  | .hbm, ⟨96, _⟩ => ⟨S1x32, .f32⟩
  | .hbm, ⟨97, _⟩ => ⟨S1x128, .f32⟩
  | .hbm, ⟨98, _⟩ => ⟨S_, .f32⟩
  | .hbm, ⟨99, _⟩ => ⟨S1x96, .f32⟩
  | .hbm, ⟨100, _⟩ => ⟨S_, .f32⟩
  | .hbm, ⟨101, _⟩ => ⟨S1x24, .f32⟩
  | .hbm, ⟨102, _⟩ => ⟨S1x128, .f32⟩
  | .hbm, ⟨103, _⟩ => ⟨S256x1024, .bf16⟩
  | .hbm, ⟨104, _⟩ => ⟨S128x1024, .bf16⟩
  | .hbm, ⟨105, _⟩ => ⟨S128x512, .bf16⟩
  | .hbm, ⟨106, _⟩ => ⟨S8704x512, .bf16⟩
  | .hbm, ⟨107, _⟩ => ⟨S8704x512, .bf16⟩
  | .hbm, ⟨108, _⟩ => ⟨S8704x512, .bf16⟩
  | .hbm, ⟨109, _⟩ => ⟨S8704x1024, .bf16⟩
  | .hbm, ⟨110, _⟩ => ⟨S8704x1024, .bf16⟩
  | .hbm, ⟨111, _⟩ => ⟨S8704x512, .bf16⟩
  | .hbm, ⟨112, _⟩ => ⟨S8704x128, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S256x1024, .bf16⟩
  | .local _ .vmem, ⟨14, _⟩ => ⟨S128x1024, .bf16⟩
  | .local _ .vmem, ⟨15, _⟩ => ⟨S128x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S256x128, .f32⟩
  | .local _ .vmem, ⟨29, _⟩ => ⟨S256x128, .f32⟩
  | _, _ => ⟨S4x2064x1960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75_0 : Ref sig .tc := ⟨.hbm, 106, rfl⟩
abbrev main_v75_1 : Ref sig .tc := ⟨.hbm, 107, rfl⟩
abbrev main_v75_2 : Ref sig .tc := ⟨.hbm, 108, rfl⟩
abbrev main_v75_3 : Ref sig .tc := ⟨.hbm, 109, rfl⟩
abbrev main_v75_4 : Ref sig .tc := ⟨.hbm, 110, rfl⟩
abbrev main_v75_5 : Ref sig .tc := ⟨.hbm, 111, rfl⟩
abbrev main_v75_6 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PrepFwdRefIdeal.lean ====
abbrev S4x2064x1960 : Shape := ⟨3, ![4, 2064, 1960]⟩
abbrev S1x8 : Shape := ⟨2, ![1, 8]⟩
abbrev S1x64 : Shape := ⟨2, ![1, 64]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x96 : Shape := ⟨2, ![1, 96]⟩
abbrev S4x2064x512 : Shape := ⟨3, ![4, 2064, 512]⟩
abbrev S4x2064x8 : Shape := ⟨3, ![4, 2064, 8]⟩
abbrev S4x2064x256 : Shape := ⟨3, ![4, 2064, 256]⟩
abbrev S4x2064x128 : Shape := ⟨3, ![4, 2064, 128]⟩
abbrev S4x2064x32 : Shape := ⟨3, ![4, 2064, 32]⟩
abbrev S4x2064x8x64 : Shape := ⟨4, ![4, 2064, 8, 64]⟩
abbrev S4x8x2064x64 : Shape := ⟨4, ![4, 8, 2064, 64]⟩
abbrev S_ : Shape := ⟨0, ![]⟩
abbrev S4x8x2064 : Shape := ⟨3, ![4, 8, 2064]⟩
abbrev S4x8x2064x1 : Shape := ⟨4, ![4, 8, 2064, 1]⟩
abbrev S1x1x1x64 : Shape := ⟨4, ![1, 1, 1, 64]⟩
abbrev S4x2064x64 : Shape := ⟨3, ![4, 2064, 64]⟩
abbrev S4x2064x24 : Shape := ⟨3, ![4, 2064, 24]⟩
abbrev S4x16x128 : Shape := ⟨3, ![4, 16, 128]⟩
abbrev S4x112x128 : Shape := ⟨3, ![4, 112, 128]⟩
abbrev S4x2048x128 : Shape := ⟨3, ![4, 2048, 128]⟩
abbrev S4x2176x128 : Shape := ⟨3, ![4, 2176, 128]⟩
abbrev S8704x128 : Shape := ⟨2, ![8704, 128]⟩
abbrev S1x24 : Shape := ⟨2, ![1, 24]⟩
abbrev S4x2064 : Shape := ⟨2, ![4, 2064]⟩
abbrev S4x2064x1 : Shape := ⟨3, ![4, 2064, 1]⟩
abbrev S1x1x128 : Shape := ⟨3, ![1, 1, 128]⟩
abbrev S4x2064x1024 : Shape := ⟨3, ![4, 2064, 1024]⟩
abbrev S4x2064x8x128 : Shape := ⟨4, ![4, 2064, 8, 128]⟩
abbrev S4x8x2064x128 : Shape := ⟨4, ![4, 8, 2064, 128]⟩
abbrev S4x16x512 : Shape := ⟨3, ![4, 16, 512]⟩
abbrev S4x112x512 : Shape := ⟨3, ![4, 112, 512]⟩
abbrev S4x2048x512 : Shape := ⟨3, ![4, 2048, 512]⟩
abbrev S4x2176x512 : Shape := ⟨3, ![4, 2176, 512]⟩
abbrev S8704x512 : Shape := ⟨2, ![8704, 512]⟩

abbrev nBuf : Space → Nat
  | .hbm => 144
  | .vmem => 0
  | .smem => 0
  | _ => 0

abbrev hbmTy0_0 (i : Nat) : BufTy := match i % 128 with
  | 0 => ⟨S4x2064x1960, .f32⟩
  | 1 => ⟨S1x8, .f32⟩
  | 2 => ⟨S1x64, .f32⟩
  | 3 => ⟨S1x64, .f32⟩
  | 4 => ⟨S1x256, .f32⟩
  | 5 => ⟨S256x768, .f32⟩
  | 6 => ⟨S1x128, .f32⟩
  | 7 => ⟨S128x1024, .f32⟩
  | 8 => ⟨S1x96, .f32⟩
  | 9 => ⟨S1x96, .f32⟩
  | 10 => ⟨S4x2064x512, .f32⟩
  | 11 => ⟨S4x2064x512, .f32⟩
  | 12 => ⟨S4x2064x512, .f32⟩
  | 13 => ⟨S4x2064x8, .f32⟩
  | 14 => ⟨S4x2064x256, .f32⟩
  | 15 => ⟨S4x2064x128, .f32⟩
  | 16 => ⟨S4x2064x32, .f32⟩
  | 17 => ⟨S4x2064x8x64, .f32⟩
  | 18 => ⟨S4x8x2064x64, .f32⟩
  | 19 => ⟨S4x8x2064x64, .f32⟩
  | 20 => ⟨S_, .f32⟩
  | 21 => ⟨S4x8x2064, .f32⟩
  | 22 => ⟨S4x8x2064x1, .f32⟩
  | 23 => ⟨S_, .f32⟩
  | 24 => ⟨S4x8x2064x1, .f32⟩
  | 25 => ⟨S4x8x2064x1, .f32⟩
  | 26 => ⟨S_, .f32⟩
  | 27 => ⟨S4x8x2064x1, .f32⟩
  | 28 => ⟨S4x8x2064x1, .f32⟩
  | 29 => ⟨S4x8x2064x1, .f32⟩
  | 30 => ⟨S4x8x2064x64, .f32⟩
  | 31 => ⟨S4x8x2064x64, .f32⟩
  | 32 => ⟨S1x1x1x64, .f32⟩
  | 33 => ⟨S4x8x2064x64, .f32⟩
  | 34 => ⟨S4x8x2064x64, .f32⟩
  | 35 => ⟨S4x2064x8x64, .f32⟩
  | 36 => ⟨S4x8x2064x64, .f32⟩
  | 37 => ⟨S4x8x2064x64, .f32⟩
  | 38 => ⟨S_, .f32⟩
  | 39 => ⟨S4x8x2064, .f32⟩
  | 40 => ⟨S4x8x2064x1, .f32⟩
  | 41 => ⟨S_, .f32⟩
  | 42 => ⟨S4x8x2064x1, .f32⟩
  | 43 => ⟨S4x8x2064x1, .f32⟩
  | 44 => ⟨S_, .f32⟩
  | 45 => ⟨S4x8x2064x1, .f32⟩
  | 46 => ⟨S4x8x2064x1, .f32⟩
  | 47 => ⟨S4x8x2064x1, .f32⟩
  | 48 => ⟨S4x8x2064x64, .f32⟩
  | 49 => ⟨S4x8x2064x64, .f32⟩
  | 50 => ⟨S1x1x1x64, .f32⟩
  | 51 => ⟨S4x8x2064x64, .f32⟩
  | 52 => ⟨S4x8x2064x64, .f32⟩
  | 53 => ⟨S_, .f32⟩
  | 54 => ⟨S4x2064x64, .f32⟩
  | 55 => ⟨S4x2064x24, .f32⟩
  | 56 => ⟨S4x2064x128, .f32⟩
  | 57 => ⟨S4x16x128, .f32⟩
  | 58 => ⟨S_, .f32⟩
  | 59 => ⟨S4x112x128, .f32⟩
  | 60 => ⟨S4x2048x128, .f32⟩
  | 61 => ⟨S4x2176x128, .f32⟩
  | 62 => ⟨S8704x128, .f32⟩
  | 63 => ⟨S_, .f32⟩
  | 64 => ⟨S1x96, .f32⟩
  | 65 => ⟨S_, .f32⟩
  | 66 => ⟨S1x24, .f32⟩
  | 67 => ⟨S1x128, .f32⟩
  | 68 => ⟨S8704x128, .f32⟩
  | 69 => ⟨S8704x128, .f32⟩
  | 70 => ⟨S8704x128, .f32⟩
  | 71 => ⟨S_, .f32⟩
  | 72 => ⟨S8704x128, .f32⟩
  | 73 => ⟨S8704x128, .f32⟩
  | 74 => ⟨S8704x128, .f32⟩
  | 75 => ⟨S8704x128, .f32⟩
  | 76 => ⟨S8704x128, .i1⟩
  | 77 => ⟨S8704x128, .f32⟩
  | 78 => ⟨S8704x128, .f32⟩
  | 79 => ⟨S8704x128, .f32⟩
  | 80 => ⟨S8704x128, .f32⟩
  | 81 => ⟨S8704x128, .f32⟩
  | 82 => ⟨S8704x128, .f32⟩
  | 83 => ⟨S8704x128, .f32⟩
  | 84 => ⟨S8704x128, .f32⟩
  | 85 => ⟨S8704x128, .f32⟩
  | 86 => ⟨S4x2064x128, .f32⟩
  | 87 => ⟨S_, .f32⟩
  | 88 => ⟨S4x2064, .f32⟩
  | 89 => ⟨S4x2064x1, .f32⟩
  | 90 => ⟨S_, .f32⟩
  | 91 => ⟨S4x2064x1, .f32⟩
  | 92 => ⟨S4x2064x1, .f32⟩
  | 93 => ⟨S_, .f32⟩
  | 94 => ⟨S4x2064x1, .f32⟩
  | 95 => ⟨S4x2064x1, .f32⟩
  | 96 => ⟨S4x2064x1, .f32⟩
  | 97 => ⟨S4x2064x128, .f32⟩
  | 98 => ⟨S4x2064x128, .f32⟩
  | 99 => ⟨S1x1x128, .f32⟩
  | 100 => ⟨S4x2064x128, .f32⟩
  | 101 => ⟨S4x2064x128, .f32⟩
  | 102 => ⟨S4x2064x1024, .f32⟩
  | 103 => ⟨S4x2064x8x128, .f32⟩
  | 104 => ⟨S4x8x2064x128, .f32⟩
  | 105 => ⟨S4x8x2064x64, .f32⟩
  | 106 => ⟨S4x2064x8x64, .f32⟩
  | 107 => ⟨S4x2064x512, .f32⟩
  | 108 => ⟨S4x16x512, .f32⟩
  | 109 => ⟨S_, .f32⟩
  | 110 => ⟨S4x112x512, .f32⟩
  | 111 => ⟨S4x2048x512, .f32⟩
  | 112 => ⟨S4x2176x512, .f32⟩
  | 113 => ⟨S8704x512, .f32⟩
  | 114 => ⟨S8704x512, .bf16⟩
  | 115 => ⟨S4x2064x8x64, .f32⟩
  | 116 => ⟨S4x2064x512, .f32⟩
  | 117 => ⟨S4x16x512, .f32⟩
  | 118 => ⟨S_, .f32⟩
  | 119 => ⟨S4x112x512, .f32⟩
  | 120 => ⟨S4x2048x512, .f32⟩
  | 121 => ⟨S4x2176x512, .f32⟩
  | 122 => ⟨S8704x512, .f32⟩
  | 123 => ⟨S8704x512, .bf16⟩
  | 124 => ⟨S4x2064x8x64, .f32⟩
  | 125 => ⟨S4x8x2064x64, .f32⟩
  | 126 => ⟨S4x2064x8x64, .f32⟩
  | 127 => ⟨S4x2064x512, .f32⟩
  | _ => ⟨S4x2064x1960, .f32⟩

abbrev hbmTy0_1 (i : Nat) : BufTy := match i % 128 with
  | 0 => ⟨S4x16x512, .f32⟩
  | 1 => ⟨S_, .f32⟩
  | 2 => ⟨S4x112x512, .f32⟩
  | 3 => ⟨S4x2048x512, .f32⟩
  | 4 => ⟨S4x2176x512, .f32⟩
  | 5 => ⟨S8704x512, .f32⟩
  | 6 => ⟨S8704x512, .bf16⟩
  | 7 => ⟨S4x2064x8x64, .f32⟩
  | 8 => ⟨S4x2064x512, .f32⟩
  | 9 => ⟨S4x16x512, .f32⟩
  | 10 => ⟨S_, .f32⟩
  | 11 => ⟨S4x112x512, .f32⟩
  | 12 => ⟨S4x2048x512, .f32⟩
  | 13 => ⟨S4x2176x512, .f32⟩
  | 14 => ⟨S8704x512, .f32⟩
  | 15 => ⟨S8704x512, .bf16⟩
  | _ => ⟨S4x2064x1960, .f32⟩

abbrev hbmTy (i : Nat) : BufTy := match i / 128 with
  | 0 => hbmTy0_0 i
  | 1 => hbmTy0_1 i
  | _ => ⟨S4x2064x1960, .f32⟩

abbrev bufTy : (tb : Table) → Fin (tcTables nBuf tb) → BufTy
  | .hbm, ⟨i, _⟩ => hbmTy i
  | _, _ => ⟨S4x2064x1960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_12 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_14 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]
-- ==== Proof.Scan.lean ====
/- Running sums along the last axis: what the host's float `reduce_window` of a cumulative sum and the kernel's
   roll-and-add steps compute, both as sums over the lanes. -/
module

public import Idealize.ShloMosaic.Lib.Pointwise
public import Idealize.ShloMosaic.Lib.Pipeline.Value

@[expose] public section

set_option maxRecDepth 16384

noncomputable section

namespace Cert.Scan

open Idealize.ShloMosaic

/-- A left fold of addition over the positions `0 … n-1` is the start plus the sum. -/
theorem foldl_add_finRange {M : Type} [AddCommMonoid M] (n : ℕ) (v : M) (f : Fin n → M) :
    (List.finRange n).foldl (fun r k => r + f k) v = v + ∑ k, f k := by
  rw [← List.sum_ofFn, List.ofFn_eq_map]
  generalize List.finRange n = L
  induction L generalizing v with
  | nil => simp
  | cons a L ih => simp [ih, add_assoc]

/-- One position of the window: inside the array it reads the array, outside the initial value. -/
theorem window_term {A B N P : ℕ} (x : (⟨3, ![A, B, N]⟩ : Shape).Idx → EReal) (v : EReal) (a : Fin A) (b : Fin B) (l : Fin N)
    (p : Fin 3 → ℕ) (k : ℕ) (h0 : p 0 = a.val) (h1 : p 1 = b.val) (h2 : p 2 = l.val + k)
    {inst : Decidable (∀ c : Fin 3, (![0, 0, P] : Fin 3 → ℕ) c ≤ p c ∧ p c - (![0, 0, P] : Fin 3 → ℕ) c < (⟨3, ![A, B, N]⟩ : Shape).size c)} :
    (if hin : ∀ c : Fin 3, (![0, 0, P] : Fin 3 → ℕ) c ≤ p c ∧ p c - (![0, 0, P] : Fin 3 → ℕ) c < (⟨3, ![A, B, N]⟩ : Shape).size c
      then x (fun c => ⟨p c - (![0, 0, P] : Fin 3 → ℕ) c, (hin c).2⟩) else v)
      = if hk : P ≤ l.val + k ∧ l.val + k - P < N then x (ix3 a b ⟨l.val + k - P, hk.2⟩) else v := by
  by_cases hk : P ≤ l.val + k ∧ l.val + k - P < N
  · rw [dif_pos hk, dif_pos]
    · congr 1; funext c
      match c with
      | ⟨0, _⟩ => exact Fin.ext (by show p 0 - 0 = a.val; omega)
      | ⟨1, _⟩ => exact Fin.ext (by show p 1 - 0 = b.val; omega)
      | ⟨2, _⟩ => exact Fin.ext (by show p 2 - P = l.val + k - P; omega)
    · intro c
      match c with
      | ⟨0, _⟩ => exact ⟨Nat.zero_le _, by show p 0 - 0 < A; have := a.isLt; omega⟩
      | ⟨1, _⟩ => exact ⟨Nat.zero_le _, by show p 1 - 0 < B; have := b.isLt; omega⟩
      | ⟨2, _⟩ => exact ⟨by show P ≤ p 2; omega, by show p 2 - P < N; omega⟩
  · rw [dif_neg hk, dif_neg]
    intro hin
    have h := hin 2
    exact hk ⟨by have : P ≤ p 2 := h.1; omega, by have : p 2 - P < N := h.2; omega⟩

/-- The host's window sum over the last axis of a rank-3 array, the window as long as the axis and padding `P` in
    front: element `(a, b, l)` is the initial value plus the sum over the window's positions. -/
theorem window_apply {A B N P Q : ℕ} (x : (⟨3, ![A, B, N]⟩ : Shape).Idx → EReal) (v : EReal)
    (h : (⟨3, ![A, B, N]⟩ : Shape).ReduceWindows ![1, 1, N] ![1, 1, 1] ![0, 0, P] ![0, 0, Q] ⟨3, ![A, B, N]⟩)
    (a : Fin A) (b : Fin B) (l : Fin N) :
    Ideal.hostReduceWindowAdd ![1, 1, N] ![1, 1, 1] ![0, 0, P] ![0, 0, Q] h x v (ix3 a b l)
      = v + ∑ k : Fin N, if hk : P ≤ l.val + k.val ∧ l.val + k.val - P < N then x (ix3 a b ⟨l.val + k.val - P, hk.2⟩) else v := by
  unfold Ideal.hostReduceWindowAdd Host.reduceWindow
  dsimp only
  rw [foldl_add_finRange]
  congr 1
  rw [Fintype.sum_equiv ((⟨3, ![1, 1, N]⟩ : Shape).rowMajor.symm) _
    (fun w : (⟨3, ![1, 1, N]⟩ : Shape).Idx => if hk : P ≤ l.val + (w 2).val ∧ l.val + (w 2).val - P < N
      then x (ix3 a b ⟨l.val + (w 2).val - P, hk.2⟩) else v)]
  · rw [sum_idx3, Fin.sum_univ_one, Fin.sum_univ_one]; rfl
  · intro n
    have w0 : ((⟨3, ![1, 1, N]⟩ : Shape).rowMajor.symm n 0).val = 0 := by
      have h : ((⟨3, ![1, 1, N]⟩ : Shape).rowMajor.symm n 0).val < 1 := ((⟨3, ![1, 1, N]⟩ : Shape).rowMajor.symm n 0).isLt
      omega
    have w1 : ((⟨3, ![1, 1, N]⟩ : Shape).rowMajor.symm n 1).val = 0 := by
      have h : ((⟨3, ![1, 1, N]⟩ : Shape).rowMajor.symm n 1).val < 1 := ((⟨3, ![1, 1, N]⟩ : Shape).rowMajor.symm n 1).isLt
      omega
    exact window_term (P := P) x v a b l (fun c => (ix3 a b l (c.cast h.1.symm)).val * (![1, 1, 1] : Fin 3 → ℕ) c
        + ((⟨3, ![1, 1, N]⟩ : Shape).rowMajor.symm n c).val)
      ((⟨3, ![1, 1, N]⟩ : Shape).rowMajor.symm n 2).val (by show a.val * 1 + _ = _; omega) (by show b.val * 1 + _ = _; omega) (by show l.val * 1 + _ = _; omega)

/-- A doubling step of a running sum from the right: sums of `k` lanes become sums of `2 k`. -/
theorem double {M : Type} [AddCommMonoid M] (g : ℕ → M) (l k : ℕ) :
    ∑ j ∈ Finset.Ico l (l + k), g j + ∑ j ∈ Finset.Ico (l + k) (l + k + k), g j = ∑ j ∈ Finset.Ico l (l + 2 * k), g j := by
  rw [Finset.sum_Ico_consecutive _ (by omega) (by omega), show l + k + k = l + 2 * k by omega]

end Cert.Scan

end
-- ==== Proof.ScanValue.lean ====
/- The gradient of the running sum of the log forget gates: what the call's launch leaves, what the reference computes,
   and that the two agree. -/
module

public import proofs.«01_k».proof.Proof.Scan
public import proofs.«01_k».proof.Proof.Gen.ScanBwdIdeal.Value
public import proofs.«01_k».proof.Proof.Gen.ScanBwdRefIdeal.Read
public import Idealize.ShloMosaic.Lib.Pipeline.ValueKit

@[expose] public section

set_option maxRecDepth 16384

noncomputable section

namespace Cert.ScanValue

open Idealize.ShloMosaic Idealize.ShloMosaic.TcCoe Idealize.SL.Sem
open Idealize.ShloMosaic.Pipeline (Dat)
open Cert.ScanBwdIdeal Cert.ScanBwdIdeal.Gen

/-- A row of the kernel's lanes as a function of all naturals, the pad lanes and what lies past the end at zero. -/
def lane (x : Vec Ideal S32x2176 .f32) (r : Fin 32) (j : ℕ) : EReal :=
  if h : j < 2176 then if 16 ≤ j ∧ j < 128 then 0 else x (ix2 r ⟨j, h⟩) else 0

/-- One roll-and-add step of the kernel. -/
def step (w : BitVec 32) (x : FVec Ideal S32x2176 .f32) : FVec Ideal S32x2176 .f32 :=
  addf x (select (cmpi .slt (iota .tc S32x2176 32 [1] iota_S32x2176_d1_w32) (broadcast S32x2176 w))
        (dynamicRotate 1 w none x rotates_S32x2176_d1) (broadcast S32x2176 (Scalar.ofBits .f32 0x00000000#32)))

/-- `x` holds, from each lane on, the sum of `k` lanes of `g`. -/
def Holds (g : Fin 32 → ℕ → EReal) (k : ℕ) (x : FVec Ideal S32x2176 .f32) : Prop :=
  ∀ (r : Fin 32) (l : Fin 2176), x (ix2 r l) = ∑ j ∈ Finset.Ico l.val (l.val + k), g r j

/-- One roll-and-add step: where `x` holds the sums of `k` lanes from each lane on, the step holds those of `2 k`. -/
theorem Holds.step {x : FVec Ideal S32x2176 .f32} {g : Fin 32 → ℕ → EReal} {k : ℕ} (hx : Holds g k x) (w : BitVec 32)
    (hg : ∀ r j, 2176 ≤ j → g r j = 0)
    (hw : w.toNat = 2176 - k) (hk0 : 0 < k) (hk : k < 2176) :
    Holds g (2 * k) (step w x) := by
  intro r l
  unfold ScanValue.step
  pointwise
  have hl := l.isLt
  have hwi : w.toInt = (w.toNat : Int) := BitVec.toInt_eq_toNat_of_lt (by omega)
  have hli : (BitVec.ofNat 32 l.val).toNat = l.val := by rw [BitVec.toNat_ofNat]; omega
  have hlti : (BitVec.ofNat 32 l.val).toInt = ((BitVec.ofNat 32 l.val).toNat : Int) := BitVec.toInt_eq_toNat_of_lt (by omega)
  rw [hx r l, ← Cert.Scan.double]
  congr 1
  show (if (BitVec.ofBool ((BitVec.ofNat 32 l.val).slt w)) = 1 then _ else _) = _
  by_cases hc : l.val < 2176 - k
  · have : (BitVec.ofNat 32 l.val).slt w = true := by
      rw [BitVec.slt, hlti, hwi, hli, hw]; simpa using by exact_mod_cast hc
    have e : (l.val + 2176 - w.toNat % 2176) % 2176 = l.val + k := by rw [hw]; omega
    rw [this]
    exact (if_pos (by decide)).trans ((congrArg (fun i => x (ix2 r i)) (Fin.ext e)).trans (hx r ⟨l.val + k, by omega⟩))
  · have : (BitVec.ofNat 32 l.val).slt w = false := by
      rw [BitVec.slt, hlti, hwi, hli, hw]; simp; omega
    rw [this]
    refine (if_neg (by decide)).trans (Finset.sum_eq_zero fun j hj => hg r j ?_).symm
    have := (Finset.mem_Ico.mp hj).1
    omega

/-- The pad lanes (16 to 127) of a block set to zero. -/
def clear (x : FVec Ideal S32x2176 .f32) : FVec Ideal S32x2176 .f32 :=
  select (k0_pay2) (broadcast S32x2176 (Scalar.ofBits .f32 0x00000000#32)) x

/-- What clearing leaves in a lane. -/
theorem clear_apply (x : FVec Ideal S32x2176 .f32) (r : Fin 32) (l : Fin 2176) :
    clear x (ix2 r l) = if 16 ≤ l.val ∧ l.val < 128 then 0 else x (ix2 r l) := by
  unfold clear k0_pay2
  pointwise
  have hl := l.isLt
  have hli : (BitVec.ofNat 32 l.val).toNat = l.val := by rw [BitVec.toNat_ofNat]; omega
  have hlti : (BitVec.ofNat 32 l.val).toInt = (l.val : Int) := by
    rw [BitVec.toInt_eq_toNat_of_lt (by omega), hli]
  have h16 : (16#32 : BitVec 32).toInt = 16 := rfl
  have h128 : (128#32 : BitVec 32).toInt = 128 := rfl
  show (if (BitVec.ofBool ((16#32 : BitVec 32).sle (BitVec.ofNat 32 l.val)) &&& BitVec.ofBool ((BitVec.ofNat 32 l.val).slt 128#32)) = 1 then _ else _) = _
  rw [BitVec.sle, BitVec.slt, hlti, h16, h128]
  by_cases h1 : 16 ≤ l.val <;> by_cases h2 : l.val < 128 <;>
    simp [h1, h2, show ((16 : Int) ≤ (l.val : Int)) ↔ 16 ≤ l.val by omega, show ((l.val : Int) < 128) ↔ l.val < 128 by omega]

/-- The lane numbers. -/
def lanes : IVec S32x2176 32 := iota .tc S32x2176 32 [1] iota_S32x2176_d1_w32

/-- The call's body: clear, twelve doubling steps, clear. -/
theorem body_eq (x : Vec Ideal S32x2176 .f32) :
    k0_pay1 k0_pay2 (k0_pay5 lanes (k0_pay3 x) (k0_pay4 x)) (k0_pay6 lanes) (k0_pay7 lanes (k0_pay3 x) (k0_pay4 x))
      = clear (step 128#32 (step 1152#32 (step 1664#32 (step 1920#32 (step 2048#32 (step 2112#32 (step 2144#32
          (step 2160#32 (step 2168#32 (step 2172#32 (step 2174#32 (step 2175#32 (clear (shapeCast S32x2176 x shapeCasts_S32x2176_S32x2176)))))))))))))) := by
  rfl

/-- What the body leaves, at an index: the pad lanes zero, elsewhere the sum of the lanes from there to the end. -/
theorem body_apply (x : Vec Ideal S32x2176 .f32) (r : Fin 32) (l : Fin 2176) :
    k0_pay1 k0_pay2 (k0_pay5 lanes (k0_pay3 x) (k0_pay4 x)) (k0_pay6 lanes) (k0_pay7 lanes (k0_pay3 x) (k0_pay4 x)) (ix2 r l)
      = if 16 ≤ l.val ∧ l.val < 128 then 0 else ∑ j ∈ Finset.Ico l.val (l.val + 4096), lane x r j := by
  rw [body_eq, clear_apply]
  have hg : ∀ r j, 2176 ≤ j → lane x r j = 0 := fun r j hj => dif_neg (by omega)
  have h0 : Holds (lane x) 1 (clear (shapeCast S32x2176 x shapeCasts_S32x2176_S32x2176)) := by
    intro r l
    rw [clear_apply, shapeCast_self, Nat.Ico_succ_singleton, Finset.sum_singleton]
    unfold lane
    rw [dif_pos l.isLt]
  congr 1
  exact ((((((((((((h0.step 2175#32 hg rfl (by omega) (by omega)).step 2174#32 hg rfl (by omega) (by omega)).step 2172#32 hg rfl
    (by omega) (by omega)).step 2168#32 hg rfl (by omega) (by omega)).step 2160#32 hg rfl (by omega) (by omega)).step 2144#32 hg
    rfl (by omega) (by omega)).step 2112#32 hg rfl (by omega) (by omega)).step 2048#32 hg rfl (by omega) (by omega)).step 1920#32
    hg rfl (by omega) (by omega)).step 1664#32 hg rfl (by omega) (by omega)).step 1152#32 hg rfl (by omega) (by omega)).step
    128#32 hg rfl (by omega) (by omega)) r l

variable (m : (ℓ : Loc nD τ sig) → Buf (Elt Ideal) ℓ)

/-- The cotangent of row `r` (sequence `r / 8`, head `r % 8`) at a position, zero past the end. -/
def cot (ct : Vec Ideal S4x8x2064 .f32) (r : Fin 32) (j : ℕ) : EReal :=
  if h : j < 2064 then ct (ix3 ⟨r.val / 8, by omega⟩ ⟨r.val % 8, by omega⟩ ⟨j, h⟩) else 0

/-- The result: the pad lanes zero, elsewhere the sum of the cotangents from the lane's position to the end. -/
def G (ct : Vec Ideal S4x8x2064 .f32) : Vec Ideal S32x2176 .f32 := fun y =>
  if 16 ≤ (y 1).val ∧ (y 1).val < 128 then 0
  else ∑ j ∈ Finset.Ico (if (y 1).val < 16 then (y 1).val else (y 1).val - 112) 2064, cot ct (y 0) j

/-- The host's packing of rows of 2064 positions into rows of 2176 lanes: 16 positions, 112 zero lanes, 2048 positions. -/
def packRow (x : Vec Ideal S32x2064 .f32) : Vec Ideal S32x2176 .f32 :=
  concatenate S32x2176 1 [⟨S32x16, extractStridedSlice S32x16 ![0, 0] x slices_S32x2064_S32x16_0_0⟩,
    ⟨S32x112, broadcastInDim S32x112 ![] bcast_S_S32x112 (constant (F := Ideal) S_ .f32 0x00000000#32)⟩,
    ⟨S32x2048, extractStridedSlice S32x2048 ![0, 16] x slices_S32x2064_S32x2048_0_16⟩] concatenates_S32x16_S32x112_S32x2048_S32x2176_d1

/-- A row's value at a position, zero past the end. -/
def pos (x : Vec Ideal S32x2064 .f32) (r : Fin 32) (n : ℕ) : EReal := if h : n < 2064 then x (ix2 r ⟨n, h⟩) else 0

/-- A packed row at a lane. -/
theorem packRow_apply (x : Vec Ideal S32x2064 .f32) (r : Fin 32) (l : Fin 2176) :
    packRow x (ix2 r l) = if 16 ≤ l.val ∧ l.val < 128 then 0 else pos x r (if l.val < 16 then l.val else l.val - 112) := by
  unfold packRow pos
  pointwise
  have hl : l.val < 2176 := l.isLt
  by_cases h1 : l.val < 16
  · rw [if_neg (show ¬(16 ≤ l.val ∧ l.val < 128) by omega), if_pos h1, dif_pos (show l.val < 2064 by omega)]
    exact dif_pos h1
  · refine (dif_neg h1).trans ?_
    by_cases h2 : l.val - 16 < 112
    · rw [if_pos (show 16 ≤ l.val ∧ l.val < 128 by omega)]
      exact dif_pos h2
    · rw [if_neg (show ¬(16 ≤ l.val ∧ l.val < 128) by omega), if_neg h1, dif_pos (show l.val - 112 < 2064 by omega)]
      exact (dif_neg h2).trans (congrArg (fun i => x (ix2 r i)) (Fin.ext (show 16 + (l.val - 16 - 112) = l.val - 112 by omega)))

/-- The array the launch reads. -/
theorem entry (c : Dev nD) : V m c main_v4
    = packRow (shapeCast S32x2064 (m ((c : Thread nD τ).loc main_arg0) : Vec Ideal S4x8x2064 .f32) shapeCasts_S4x8x2064_S32x2064) := by
  show StableHlo.after hostOps0 _ _ = _
  simp only [hostOps0]
  after_results <;> rfl

/-- A row of the cotangent reshaped to 32 rows. -/
theorem rows_apply (x : Vec Ideal S4x8x2064 .f32) (r : Fin 32) (l : Fin 2064) :
    shapeCast S32x2064 x shapeCasts_S4x8x2064_S32x2064 (ix2 r l) = x (ix3 ⟨r.val / 8, by omega⟩ ⟨r.val % 8, by omega⟩ l) := by
  pointwise

/-- A row of the reshaped cotangent at a position. -/
theorem pos_rows (ct : Vec Ideal S4x8x2064 .f32) (r : Fin 32) (n : ℕ) :
    pos (shapeCast S32x2064 ct shapeCasts_S4x8x2064_S32x2064) r n = cot ct r n := by
  unfold pos cot
  by_cases h : n < 2064
  · rw [dif_pos h, dif_pos h, rows_apply]
  · rw [dif_neg h, dif_neg h]

/-- A packed lane of the cotangent, as a function of all naturals. -/
theorem lane_pack (ct : Vec Ideal S4x8x2064 .f32) (r : Fin 32) (j : ℕ) :
    lane (packRow (shapeCast S32x2064 ct shapeCasts_S4x8x2064_S32x2064)) r j
      = if j < 16 then cot ct r j else if j < 128 then 0 else cot ct r (j - 112) := by
  unfold lane
  by_cases h0 : j < 2176
  · rw [dif_pos h0]
    by_cases h1 : 16 ≤ j ∧ j < 128
    · rw [if_pos h1, if_neg (by omega), if_pos (by omega)]
    · rw [if_neg h1, packRow_apply, if_neg h1, pos_rows]
      by_cases h2 : j < 16
      · rw [if_pos h2, if_pos h2]
      · rw [if_neg h2, if_neg h2, if_neg (by omega)]
  · rw [dif_neg h0, if_neg (by omega), if_neg (by omega)]
    unfold cot
    rw [dif_neg (by omega)]

/-- The sum of the packed lanes from a lane to the end is the sum of the cotangents from the lane's position. -/
theorem sum_pack (g : ℕ → EReal) (hg : ∀ j, 2064 ≤ j → g j = 0) (l : ℕ) (hl : l < 2176) (hp : ¬(16 ≤ l ∧ l < 128)) :
    ∑ j ∈ Finset.Ico l (l + 4096), (if j < 16 then g j else if j < 128 then 0 else g (j - 112))
      = ∑ j ∈ Finset.Ico (if l < 16 then l else l - 112) 2064, g j := by
  have tail : ∀ a b, 128 ≤ a → a ≤ 2176 → 2176 ≤ b →
      ∑ j ∈ Finset.Ico a b, (if j < 16 then g j else if j < 128 then 0 else g (j - 112)) = ∑ j ∈ Finset.Ico (a - 112) 2064, g j := by
    intro a b ha hab hb
    rw [← Finset.sum_Ico_consecutive _ hab hb, show ∑ j ∈ Finset.Ico 2176 b, (if j < 16 then g j else if j < 128 then 0 else g (j - 112)) = 0 from
      Finset.sum_eq_zero fun j hj => by
        have := (Finset.mem_Ico.mp hj).1
        rw [if_neg (by omega), if_neg (by omega), hg _ (by omega)], add_zero]
    rw [show a = a - 112 + 112 by omega, show 2176 = 2064 + 112 from rfl, ← Finset.sum_Ico_add']
    refine Finset.sum_congr (by simp) fun j hj => ?_
    have := (Finset.mem_Ico.mp hj).1
    rw [if_neg (by omega), if_neg (by omega), Nat.add_sub_cancel]
  by_cases h1 : l < 16
  · rw [if_pos h1, ← Finset.sum_Ico_consecutive _ (show l ≤ 16 by omega) (show 16 ≤ l + 4096 by omega),
      ← Finset.sum_Ico_consecutive _ (show 16 ≤ 128 by omega) (show 128 ≤ l + 4096 by omega), tail 128 _ (by omega) (by omega) (by omega),
      ← Finset.sum_Ico_consecutive g (show l ≤ 16 by omega) (show 16 ≤ 2064 by omega)]
    congr 1
    · exact Finset.sum_congr rfl fun j hj => if_pos (Finset.mem_Ico.mp hj).2
    · rw [show ∑ j ∈ Finset.Ico 16 128, (if j < 16 then g j else if j < 128 then 0 else g (j - 112)) = 0 from
        Finset.sum_eq_zero fun j hj => by
          have := Finset.mem_Ico.mp hj
          rw [if_neg (by omega), if_pos (by omega)], zero_add]
  · rw [if_neg h1, tail l _ (by omega) (by omega) (by omega)]

/-- The input window's one block starts at the array's origin. -/
theorem idx : win0_0.index t0_0 = ![0, 0] := by decide +kernel

/-- The one block the launch reads is its whole array. -/
theorem block (c : Dev nD) : iblk m c 0 t0_0 = V m c main_v4 := by
  blk_ext! [iblk, idx]

/-- The result array after the launch. -/
theorem final (c : Dev nD) : (dats m 0 c).arrAt 1 cfg0.N = G (m ((c : Thread nD τ).loc main_arg0)) := by
  refine (dats m 0 c).arrAt_eq_of_after_last 1 t0_0 (by decide +kernel) _ fun y => ?_
  blk_simp
  rw [after0_1]
  frame_out
  unfold k0_pay8 k0_pay9 k0_pay10
  frame_out
  rw [block m c, entry m c]
  obtain ⟨r, l, rfl⟩ : ∃ (r : Fin 32) (l : Fin 2176), y = ix2 r l := ⟨y 0, y 1, funext fun a => by fin_cases a <;> rfl⟩
  refine (body_apply _ r l).trans ?_
  show _ = if 16 ≤ l.val ∧ l.val < 128 then 0 else _
  by_cases hp : 16 ≤ l.val ∧ l.val < 128
  · rw [if_pos hp, if_pos hp]
  · rw [if_neg hp, if_neg hp]
    refine (Finset.sum_congr rfl fun j _ => lane_pack _ r j).trans ?_
    exact sum_pack _ (fun j hj => dif_neg (by omega)) l.val l.isLt hp

/-- The reference's reversed running sum at an index. -/
theorem ref_sum (ct : Vec Ideal S4x8x2064 .f32) (a : Fin 4) (b : Fin 8) (l : Fin 2064) :
    Cert.ScanBwdRefIdeal.Read.val_main_v2 (F := Ideal) ct (ix3 a b l)
      = ∑ k : Fin 2064, if hk : 0 ≤ l.val + k.val ∧ l.val + k.val - 0 < 2064 then ct (ix3 a b ⟨l.val + k.val - 0, hk.2⟩) else 0 := by
  have hv : Cert.ScanBwdRefIdeal.Read.val_main_call1_call0_v0 (F := Ideal) (Shape.Idx.first Cert.ScanBwdRefIdeal.Gen.h_S_) = (0 : EReal) := by
    rw [Cert.ScanBwdRefIdeal.Read.val_main_call1_call0_v0_apply, Cert.ScanBwdRefIdeal.Read.val_main_call1_call0_cst_apply]
    pointwise
  have h := Cert.Scan.window_apply (P := 0) (Q := 2063) ct
    (Cert.ScanBwdRefIdeal.Read.val_main_call1_call0_v0 (F := Ideal) (Shape.Idx.first Cert.ScanBwdRefIdeal.Gen.h_S_))
    Cert.ScanBwdRefIdeal.Gen.reduceWindows_S4x8x2064_S4x8x2064_w1s1p0_0_w1s1p0_0_w2064s1p0_2063 a b l
  unfold Cert.ScanBwdRefIdeal.Read.val_main_v2 Host.reduceWindowAdd
  refine Eq.trans ?_ (h.trans ?_)
  · with_reducible_and_instances rfl
  rw [hv, zero_add]

/-- What the reference computes is the same function of the cotangent. -/
theorem ref_eq (ct : Vec Ideal S4x8x2064 .f32) : Cert.ScanBwdRefIdeal.Read.val_main_v7 (F := Ideal) ct = G ct := by
  have e : Cert.ScanBwdRefIdeal.Read.val_main_v7 (F := Ideal) ct
      = packRow (shapeCast S32x2064 (Cert.ScanBwdRefIdeal.Read.val_main_v2 (F := Ideal) ct) shapeCasts_S4x8x2064_S32x2064) := rfl
  rw [e]
  funext y
  obtain ⟨r, l, rfl⟩ : ∃ (r : Fin 32) (l : Fin 2176), y = ix2 r l := ⟨y 0, y 1, funext fun a => by fin_cases a <;> rfl⟩
  rw [packRow_apply]
  show _ = if 16 ≤ l.val ∧ l.val < 128 then 0 else _
  by_cases hp : 16 ≤ l.val ∧ l.val < 128
  · rw [if_pos hp, if_pos hp]
  · rw [if_neg hp, if_neg hp, pos_rows]
    have hl := l.isLt
    show _ = ∑ j ∈ Finset.Ico (if l.val < 16 then l.val else l.val - 112) 2064, cot ct r j
    generalize hq : (if l.val < 16 then l.val else l.val - 112) = q
    have hq' : q < 2064 := by rw [← hq]; split <;> omega
    refine (dif_pos hq').trans ((ref_sum ct _ _ ⟨q, hq'⟩).trans ?_)
    rw [Finset.sum_Ico_eq_sum_range]
    have e : ∀ k : Fin 2064, (if hk : 0 ≤ q + k.val ∧ q + k.val - 0 < 2064 then ct (ix3 ⟨r.val / 8, by omega⟩ ⟨r.val % 8, by omega⟩ ⟨q + k.val - 0, hk.2⟩) else (0 : EReal))
        = cot ct r (q + k.val) := by
      intro k
      unfold cot
      by_cases hk : q + k.val < 2064
      · rw [dif_pos ⟨Nat.zero_le _, hk⟩, dif_pos hk]; rfl
      · rw [dif_neg (fun h => hk h.2), dif_neg hk]
    refine (Finset.sum_congr rfl fun k _ => e k).trans ?_
    rw [Fin.sum_univ_eq_sum_range (fun k => cot ct r (q + k)) 2064]
    refine (Finset.sum_subset (Finset.range_mono (by omega)) fun k _ hk => dif_neg ?_).symm
    rw [Finset.mem_range] at hk
    omega

end Cert.ScanValue

end
-- ==== Proof.ScanClaim.lean ====
/- The value claim of the running sum's gradient. -/
module

public import proofs.«01_k».proof.Defs
public import proofs.«01_k».proof.Proof.ScanValue
public import proofs.«01_k».proof.Proof.Gen.ScanBwdRefIdeal.Run
public import Idealize.ShloMosaic.Lib.Claim

@[expose] public section

noncomputable section

namespace Cert.ScanClaim

open Idealize.ShloMosaic Idealize.SL.Sem

/-- Over the extended reals the call's result and the reference's are one function of the cotangent. -/
theorem algebraic : Cert.algebraic_ScanBwdIdeal_ScanBwdRefIdeal (hScanBwdIdeal := Cert.ScanBwdIdeal.Gen.facts)
    (hScanBwdRefIdeal := Cert.ScanBwdRefIdeal.Gen.facts) := by
  intro m g m' g' _ hag
  refine ⟨fun c => ScanValue.G (m ((c.tc : Thread Cert.ScanBwdIdeal.nD Cert.ScanBwdIdeal.τ).loc Cert.ScanBwdIdeal.main_arg0)),
    (θ_run _ _ _).mono (fun _ h c => ⟨(h c).1.trans (ScanValue.final m c), (h c).2⟩) (Cert.ScanBwdIdeal.Value.run_blocks m g),
    (θ_run _ _ _).mono (fun _ h c => ⟨(h c).1.trans ((ScanValue.ref_eq _).trans (congrArg ScanValue.G (hag c))), (h c).2⟩)
      (Cert.ScanBwdRefIdeal.Value.run m' g')⟩

end Cert.ScanClaim

end
-- ==== Proof.LossValue.lean ====
/- The loss's call: what its blocks hold and what each grid point leaves, as functions of the arguments. -/
module

public import proofs.«01_k».proof.Proof.Gen.LossHeadIdeal.Value
public import Idealize.ShloMosaic.Lib.Pipeline.ValueKit
public import Idealize.ShloMosaic.Lib.StableHlo.RunRead
public import Idealize.ShloMosaic.Lib.Claim

@[expose] public section

set_option maxRecDepth 16384

noncomputable section

namespace Cert.LossValue

open Idealize.ShloMosaic Idealize.ShloMosaic.TcCoe Idealize.SL.Sem Cert.LossHeadIdeal Cert.LossHeadIdeal.Gen

abbrev Hid := FVec Ideal S4x2064x1024 .f32
abbrev Tgt := FVec Ideal S4x2048x1024 .f32

/-- The error of a token: its hidden row, after the 16 meta rows, less its target. -/
def err (h : Hid) (g : Tgt) (b : Fin 4) (s : Fin 2048) (l : Fin 1024) : EReal := h (ix3 b ⟨16 + s.val, by omega⟩ l) - g (ix3 b s l)

/-- The cotangent of the padded rows: zero before each sequence's tokens, the error's mean share after. -/
def dy (h : Hid) (g : Tgt) (r : Fin 8704) (l : Fin 1024) : EReal :=
  if r.val % 2176 < 128 then 0 else err h g ⟨r.val / 2176, by omega⟩ ⟨r.val % 2176 - 128, by omega⟩ l * ((1 / 1024 : ℝ) : EReal)

/-- The hidden rows with 112 zero rows between the meta rows and the tokens. -/
def padded (h : Hid) : FVec Ideal S8704x1024 .f32 :=
  shapeCast S8704x1024 (concatenate S4x2176x1024 1 [⟨S4x16x1024, extractStridedSlice S4x16x1024 ![0, 0, 0] h slices_S4x2064x1024_S4x16x1024_0_0_0⟩,
    ⟨S4x112x1024, broadcastInDim S4x112x1024 ![] bcast_S_S4x112x1024 (constant (F := Ideal) S_ .f32 0x00000000#32)⟩,
    ⟨S4x2048x1024, extractStridedSlice S4x2048x1024 ![0, 16, 0] h slices_S4x2064x1024_S4x2048x1024_0_16_0⟩] concatenates_S4x16x1024_S4x112x1024_S4x2048x1024_S4x2176x1024_d1)
    shapeCasts_S4x2176x1024_S8704x1024

theorem padded_apply (h : Hid) (r : Fin 8704) (l : Fin 1024) (hr : 128 ≤ r.val % 2176) :
    padded h (ix2 r l) = h (ix3 ⟨r.val / 2176, by omega⟩ ⟨16 + (r.val % 2176 - 128), by omega⟩ l) := by
  pointwise [padded]
  rw [dif_neg (by omega), dif_neg (by omega)]
  congr 3

/-! ## The blocks at a grid point -/

variable (m : (ℓ : Loc nD τ sig) → Buf (Elt Ideal) ℓ)

/-- The two arguments. -/
abbrev a0 (c : Dev nD) : Hid := m ((c : Thread nD τ).loc main_arg0)
abbrev a1 (c : Dev nD) : Tgt := m ((c : Thread nD τ).loc main_arg1)

theorem entry_h (c : Dev nD) : V m c main_v4 = padded (a0 m c) := by
  show StableHlo.after hostOps0 _ _ = _
  simp only [hostOps0]
  after_results <;> rfl

theorem idx : ∀ t : Fin cfg0.N, t.val < 8 ∧ win0_0.index t = ![t.val, 0] ∧ win0_1.index t = ![t.val / 2, 0, 0] ∧ win0_2.index t = ![t.val, 0] ∧ win0_3.index t = ![0, 0] :=
  (by decide +kernel : ∀ t : Fin grid0.N, _)

/-- The array's row at row `p` of block `t`, and the block's sequence. -/
def row (t : Fin cfg0.N) (p : Fin 1088) : Fin 8704 := ⟨t.val * 1088 + p.val, by have := (idx t).1; omega⟩
def seq (t : Fin cfg0.N) : Fin 4 := ⟨t.val / 2, by have := (idx t).1; omega⟩

theorem row_seq {t : Fin cfg0.N} {p : Fin 1088} : (row t p).val / 2176 = (seq t).val := by
  show (t.val * 1088 + p.val) / 2176 = t.val / 2
  omega
theorem row_pos {t : Fin cfg0.N} {p : Fin 1088} : (row t p).val % 2176 = t.val % 2 * 1088 + p.val := by
  show (t.val * 1088 + p.val) % 2176 = _
  omega

section Blocks
variable (c : Dev nD) (t : Fin cfg0.N)

theorem blk0 (p : Fin 1088) (l : Fin 1024) {s : Fin 2048} (hs : t.val % 2 * 1088 + p.val = 128 + s.val) :
    iblk m c 0 t (ix2 p l) = a0 m c (ix3 (seq t) ⟨16 + s.val, by omega⟩ l) := by
  have e : iblk m c 0 t (ix2 p l) = V m c main_v4 (ix2 (row t p) l) := by rw [row]; blk_ext [iblk, idx t]
  rw [e, entry_h]
  refine (padded_apply _ _ _ (by rw [row_pos]; omega)).trans ?_
  simp only [row_pos, row_seq, hs, Nat.add_sub_cancel_left, Fin.eta]
theorem blk1 (s : Fin 2048) (l : Fin 1024) : iblk m c 1 t (ix3 0 s l) = a1 m c (ix3 (seq t) s l) := by
  rw [seq]; blk_ext [iblk, idx t]

/-- An entry of the cotangent at a token's row. -/
theorem dy_row (h : Hid) (g : Tgt) (p : Fin 1088) (l : Fin 1024) {s : Fin 2048} (hs : t.val % 2 * 1088 + p.val = 128 + s.val) :
    dy h g (row t p) l = err h g (seq t) s l * ((1 / 1024 : ℝ) : EReal) := by
  rw [dy, if_neg (by rw [row_pos]; omega)]
  simp only [row_pos, row_seq, hs, Nat.add_sub_cancel_left, Fin.eta]

end Blocks

/-! ## What each grid point leaves -/

theorem mean_lit : Ideal.ofBits .f32 0x3A800000#32 = ((1 / 1024 : ℝ) : EReal) := by
  simp [Ideal.ofBits, Ideal.ieee, -EReal.coe_mul]; norm_num
theorem half_lit : Ideal.ofBits .f32 0x3A000000#32 = ((1 / 2048 : ℝ) : EReal) := by
  simp [Ideal.ofBits, Ideal.ieee, -EReal.coe_mul]; norm_num

/-- A rectangle of whole rows. -/
theorem rows_emb {n k o : ℕ} {inb : ∀ a, (![o, 0] : Fin 2 → ℕ) a + (![k, 1024] : Fin 2 → ℕ) a ≤ (![n, 1024] : Fin 2 → ℕ) a} (p : Fin n) (q : Fin k) (l : Fin 1024)
    (h : p.val = o + q.val) : (ix2 p l : (⟨2, ![n, 1024]⟩ : Shape).Idx) = (Rect.unit ![o, 0] ![k, 1024] inb : Rect (⟨2, ![n, 1024]⟩ : Shape)).emb (ix2 q l) := by
  funext b; apply Fin.ext
  match b with
  | ⟨0, _⟩ => show (p : ℕ) = o + 1 * (q : ℕ); omega
  | ⟨1, _⟩ => show (l : ℕ) = 0 + 1 * (l : ℕ); omega

/-- The targets' rows a point reads. -/
theorem tgt_ld {k o : ℕ} {inb : ∀ a, (![0, o, 0] : Fin 3 → ℕ) a + (![1, k, 1024] : Fin 3 → ℕ) a ≤ (![1, 2048, 1024] : Fin 3 → ℕ) a}
    (x : S1x2048x1024.Idx → Elt Ideal .f32) (q : Fin k) (l : Fin 1024) {s : Fin 2048} (h : s.val = o + q.val) :
    View.ld (Val := Elt Ideal) (e' := .f32) x (Rect.unit ![0, o, 0] ![1, k, 1024] inb : Rect S1x2048x1024) (ix3 0 q l) = x (ix3 0 s l) := by
  refine congrArg x ?_
  funext b; apply Fin.ext
  match b with
  | ⟨0, _⟩ => rfl
  | ⟨1, _⟩ => show o + 1 * (q : ℕ) = (s : ℕ); omega
  | ⟨2, _⟩ => show 0 + 1 * (l : ℕ) = (l : ℕ); omega

section Left
variable (c : Dev nD) (t : Fin cfg0.N)

/-- The rows of the first and of the second half of a sequence the body reads: hidden rows and targets. -/
abbrev hidA : Vec Ideal S960x1024 .f32 := View.ld (iblk m c 0 t) (Rect.unit ![128, 0] ![960, 1024] inb_S1088x1024_S960x1024_128_0)
abbrev tgtA : Vec Ideal S1x960x1024 .f32 := View.ld (iblk m c 1 t) (Rect.unit ![0, 0, 0] ![1, 960, 1024] inb_S1x2048x1024_S1x960x1024_0_0_0)
abbrev tgtB : Vec Ideal S1x1088x1024 .f32 := View.ld (iblk m c 1 t) (Rect.unit ![0, 960, 0] ![1, 1088, 1024] inb_S1x2048x1024_S1x1088x1024_0_960_0)

theorem err_A (h : t.val % 2 = 0) (p : Fin 960) (l : Fin 1024) :
    k0_pay2 (hidA m c t) (tgtA m c t) (ix2 p l) = err (a0 m c) (a1 m c) (seq t) ⟨p.val, by omega⟩ l := by
  pointwise [k0_pay2, err]
  refine congrArg₂ (· - ·) ?_ ?_
  · refine (congrArg (iblk m c 0 t) (rows_emb (⟨128 + p.val, by omega⟩ : Fin 1088) p l rfl).symm).trans (blk0 m c t _ l (s := ⟨p.val, by omega⟩) ?_)
    rw [h, Nat.zero_mul, Nat.zero_add]
  · exact (tgt_ld _ p l (s := ⟨p.val, by omega⟩) (by simp)).trans (blk1 m c t _ l)
theorem err_B (h : ¬ t.val % 2 = 0) (p : Fin 1088) (l : Fin 1024) :
    k0_pay6 (iblk m c 0 t) (tgtB m c t) (ix2 p l) = err (a0 m c) (a1 m c) (seq t) ⟨960 + p.val, by omega⟩ l := by
  pointwise [k0_pay6, err]
  refine congrArg₂ (· - ·) (blk0 m c t _ l (s := ⟨960 + p.val, by omega⟩) ?_) ?_
  · show t.val % 2 * 1088 + p.val = 128 + (960 + p.val)
    omega
  · exact (tgt_ld _ p l (s := ⟨960 + p.val, by omega⟩) rfl).trans (blk1 m c t _ l)

/-- The block of the cotangent. -/
theorem left_dy (p : Fin 1088) (l : Fin 1024) : (outsAt0 m c t.val t.isLt).1 (ix2 p l) = dy (a0 m c) (a1 m c) (row t p) l := by
  have e : t.val % 2 = 0 → View.canon (Val := Elt Ideal) (e := .f32) [⟨Rect.unit ![128, 0] ![960, 1024] inb_S1088x1024_S960x1024_128_0, k0_pay4 (hidA m c t) (tgtA m c t)⟩,
      ⟨Rect.unit ![0, 0] ![128, 1024] inb_S1088x1024_S128x1024_0_0, k0_pay3 (F := Ideal)⟩] (ix2 p l) = dy (a0 m c) (a1 m c) (row t p) l := by
    intro h
    by_cases hp : p.val < 128
    · rw [dy, if_pos (by rw [row_pos]; omega)]
      refine (View.canon_cons_of_not_mem _ _ fun hm => ?_).trans ((congrArg (View.canon _) (rows_emb p (⟨p.val, hp⟩ : Fin 128) l (Nat.zero_add _).symm)).trans
        ((View.canon_cons_emb _ _ _ _).trans ?_))
      · obtain ⟨i', hi', he'⟩ := (LoadRect.mem_set _).mp hm (0 : Fin 2)
        have he' : (p : ℕ) = 128 + 1 * i' := he'
        omega
      · pointwise [k0_pay3]
    · refine (congrArg (View.canon _) (rows_emb p (⟨p.val - 128, by omega⟩ : Fin 960) l (by show p.val = 128 + (p.val - 128); omega))).trans
        ((View.canon_cons_emb _ _ _ _).trans ?_)
      rw [dy_row t (a0 m c) (a1 m c) p l (s := ⟨p.val - 128, by omega⟩) (by show _ = 128 + (p.val - 128); omega), ← mean_lit]
      exact congrArg (· * _) (err_A m c t h _ l)
  by_cases h : t.val % 2 = 0
  · by_cases h' : t.val % 8 = 0
    · rw [outsAt0_A m c t h' h (by omega)]
      frame_out
      exact e h
    · rw [outsAt0_C m c t h' h (by omega)]
      frame_out
      exact e h
  · rw [outsAt0_B m c t (by omega) h (by omega)]
    frame_out
    rw [dy_row t (a0 m c) (a1 m c) p l (s := ⟨960 + p.val, by omega⟩) (by show _ = 128 + (960 + p.val); omega), ← mean_lit]
    exact congrArg (· * _) (err_B m c t h p l)

/-- One grid point's part of the loss of a feature. -/
def part (l : Fin 1024) : EReal :=
  (if t.val % 2 = 0 then ∑ p : Fin 960, err (a0 m c) (a1 m c) (seq t) ⟨p.val, by omega⟩ l * err (a0 m c) (a1 m c) (seq t) ⟨p.val, by omega⟩ l
   else ∑ p : Fin 1088, err (a0 m c) (a1 m c) (seq t) ⟨960 + p.val, by omega⟩ l * err (a0 m c) (a1 m c) (seq t) ⟨960 + p.val, by omega⟩ l) * ((1 / 2048 : ℝ) : EReal)

theorem part_A (h : t.val % 2 = 0) (x : Vec Ideal S1x1024 .f32) (l : Fin 1024) : k0_pay5 (hidA m c t) (tgtA m c t) x (ix2 0 l) = x (ix2 0 l) + part m c t l := by
  rw [part, if_pos h]
  pointwise [k0_pay5]
  simp only [err_A m c t h, half_lit]
theorem part_B (h : ¬ t.val % 2 = 0) (x : Vec Ideal S1x1024 .f32) (l : Fin 1024) : k0_pay8 (iblk m c 0 t) (tgtB m c t) x (ix2 0 l) = x (ix2 0 l) + part m c t l := by
  rw [part, if_neg h]
  pointwise [k0_pay8]
  simp only [err_B m c t h, half_lit]

theorem loss_first (h : t.val % 8 = 0) (l : Fin 1024) : (outsAt0 m c t.val t.isLt).2 (ix2 0 l) = 0 + part m c t l := by
  rw [outsAt0_A m c t h (by omega) (by omega)]
  frame_out
  refine (part_A m c t (by omega) _ l).trans (congrArg (· + _) ?_)
  pointwise [k0_pay1]
theorem loss_next (h : ¬ t.val % 8 = 0) (l : Fin 1024) : (outsAt0 m c t.val t.isLt).2 (ix2 0 l)
    = (outsAt0 m c (t.val - 1) (Nat.lt_of_le_of_lt (Nat.sub_le _ _) t.isLt)).2 (ix2 0 l) + part m c t l := by
  by_cases h' : t.val % 2 = 0
  · rw [outsAt0_C m c t h h' (by omega)]
    frame_out
    exact part_A m c t h' _ l
  · rw [outsAt0_B m c t h h' (by omega)]
    frame_out
    exact part_B m c t h' _ l

end Left

end Cert.LossValue

end
-- ==== Proof.LossFinal.lean ====
/- The loss's call: its two result arrays, and the reference's. -/
module

public import proofs.«01_k».proof.Proof.LossValue
public import proofs.«01_k».proof.Proof.Gen.LossHeadRefIdeal.Read

@[expose] public section

set_option maxRecDepth 16384

noncomputable section

namespace Cert.LossFinal

open Idealize.ShloMosaic Idealize.ShloMosaic.TcCoe Idealize.SL.Sem Cert.LossHeadIdeal Cert.LossHeadIdeal.Gen Cert.LossValue

/-- The cotangent and the loss of each feature, as arrays. -/
def cotangent (h : Hid) (g : Tgt) : FVec Ideal S8704x1024 .f32 := fun y => dy h g (y 0) (y 1)
/-- A feature's squared errors, summed over all tokens and halved, over the number of features. -/
def loss (h : Hid) (g : Tgt) (l : Fin 1024) : EReal := (∑ b, ∑ s, err h g b s l * err h g b s l) * ((1 / 2048 : ℝ) : EReal)
def losses (h : Hid) (g : Tgt) : FVec Ideal S1x1024 .f32 := fun y => loss h g (y 1)

theorem ix2_of {n w : ℕ} (y : (⟨2, ![n, w]⟩ : Shape).Idx) : ∃ (p : Fin n) (l : Fin w), y = ix2 p l :=
  ⟨y 0, y 1, funext fun a => by fin_cases a <;> rfl⟩

/-- A positive finite factor may be taken out of a sum. -/
theorem scaled (x y : EReal) : x * ((1 / 2048 : ℝ) : EReal) + y * ((1 / 2048 : ℝ) : EReal) = (x + y) * ((1 / 2048 : ℝ) : EReal) :=
  (EReal.right_distrib_of_nonneg_of_ne_top (EReal.coe_nonneg.mpr (by norm_num)) (EReal.coe_ne_top _) x y).symm

variable (m : (ℓ : Loc nD τ sig) → Buf (Elt Ideal) ℓ) (c : Dev nD)

theorem final_dy : (dats m 0 c).arrAt 2 cfg0.N = cotangent (a0 m c) (a1 m c) := by
  refine (dats m 0 c).arrAt_eq_of_covers 2 _ (by decide +kernel) fun t hf y => ?_
  blk_simp
  rw [after0_2]
  obtain ⟨p, l, rfl⟩ := ix2_of (n := 1088) (w := 1024) y
  have he : ((cfg0.win 2).blk t).view.emb (ix2 p l) = ix2 (row t p) l := by rw [row]; blk_ext [idx t]
  rw [he]
  exact left_dy m c t p l

/-- The two points of a sequence add its squared errors. -/
theorem pair (t t' : Fin cfg0.N) (b : Fin 4) (ht : t.val = 2 * b.val) (ht' : t'.val = 2 * b.val + 1) (l : Fin 1024) :
    part m c t l + part m c t' l = (∑ s, err (a0 m c) (a1 m c) b s l * err (a0 m c) (a1 m c) b s l) * ((1 / 2048 : ℝ) : EReal) := by
  have e : seq t = b := Fin.ext (by show t.val / 2 = _; omega)
  have e' : seq t' = b := Fin.ext (by show t'.val / 2 = _; omega)
  rw [part, part, if_pos (by omega), if_neg (by omega), e, e', scaled]
  exact congrArg (· * _) (Fin.sum_univ_add (a := 960) (b := 1088) fun s => err (a0 m c) (a1 m c) b s l * err (a0 m c) (a1 m c) b s l).symm

theorem final_loss : (dats m 0 c).arrAt 3 cfg0.N = losses (a0 m c) (a1 m c) := by
  refine (dats m 0 c).arrAt_eq_of_covers 3 _ (by decide +kernel) fun t hf y => ?_
  blk_simp
  rw [after0_3]
  obtain ⟨p, l, rfl⟩ := ix2_of (n := 1) (w := 1024) y
  obtain rfl : p = 0 := Subsingleton.elim _ _
  have he : ((cfg0.win 3).blk t).view.emb (ix2 0 l) = ix2 0 l := by blk_ext [idx t]
  rw [he]
  have hs := Pipeline.eq_sum_fin_of_reset_step_apply_of_flush (M := EReal) (fun n h l => (outsAt0 m c n h).2 (ix2 0 l)) 8 (fun _ => 0) (part m c)
    (loss_first m c) (loss_next m c) t ((flush0_3 t).mp hf) l
  refine hs.trans ((zero_add _).trans ?_)
  have ht : t.val / 8 = 0 := by have := (idx t).1; omega
  have hp := fun (i j : Fin 8) (b : Fin 4) (hi : i.val = 2 * b.val) (hj : j.val = 2 * b.val + 1) =>
    pair m c ⟨8 * (t.val / 8) + i.val, Pipeline.run_point_lt_of_flush t ((flush0_3 t).mp hf) i⟩ ⟨8 * (t.val / 8) + j.val, Pipeline.run_point_lt_of_flush t ((flush0_3 t).mp hf) j⟩ b
      (by show 8 * (t.val / 8) + i.val = _; omega) (by show 8 * (t.val / 8) + j.val = _; omega) l
  show _ = loss _ _ l
  rw [loss, Fin.sum_univ_four, ← scaled, ← scaled, ← scaled, ← hp 0 1 0 rfl rfl, ← hp 2 3 1 rfl rfl, ← hp 4 5 2 rfl rfl, ← hp 6 7 3 rfl rfl, Fin.sum_univ_eight]
  simp only [add_assoc]

/-! ## The reference -/

open Cert.LossHeadRefIdeal.Read

theorem lit_half : Ideal.ofBits .f32 1056964608#32 = ((1 / 2 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_count : Ideal.ofBits .f32 1149239296#32 = ((1024 : ℝ) : EReal) := by
  simp [Ideal.ofBits, Ideal.ieee, -EReal.coe_mul]; norm_num

theorem share (x : EReal) : Ideal.div (Ideal.ofBits .f32 1056964608#32) (Ideal.ofBits .f32 1149239296#32) * (Ideal.ofBits .f32 1073741824#32 * x)
    = x * ((1 / 1024 : ℝ) : EReal) := by
  rw [lit_half, lit_two, lit_count, Ideal.div_coe (by norm_num), ← EReal.coe_mul, ← mul_assoc, ← EReal.coe_mul, mul_comm]
  norm_num

theorem ref_dy (x0 : Hid) (x1 : Tgt) : val_main_v21 (F := Ideal) x0 x1 = cotangent x0 x1 := by
  rw [← val_main_v21_eq]
  funext y
  obtain ⟨p, l, rfl⟩ := ix2_of (n := 8704) (w := 1024) y
  show _ = dy x0 x1 p l
  have e : dy x0 x1 p l = if p.val % 2176 < 128 then 0 else err x0 x1 ⟨p.val / 2176, by omega⟩ ⟨p.val % 2176 - 128, by omega⟩ l * ((1 / 1024 : ℝ) : EReal) := rfl
  generalize dy x0 x1 p l = D at e
  pointwise
  have hs : ∀ n : ℕ, n - 16 - 112 = n - 128 := fun n => by omega
  simp only [share, hs]
  by_cases h' : p.val % 2176 < 128
  · refine Eq.trans ?_ (e.trans (if_pos h')).symm
    by_cases h : p.val % 2176 < 16
    · exact (dif_pos h).trans (dif_neg (by omega))
    · exact (dif_neg h).trans (dif_pos (by omega))
  · refine Eq.trans ?_ (e.trans (if_neg h')).symm
    exact (dif_neg (by omega)).trans ((dif_neg (by omega)).trans (dif_pos (by omega)))

/-- The indices a sum over the first two of three axes takes in. -/
theorem two_axes {a b n : ℕ} (h : (⟨3, ![a, b, n]⟩ : Shape).ReducesTo [0, 1] (⟨1, ![n]⟩ : Shape)) (l : Fin n) (i : (⟨3, ![a, b, n]⟩ : Shape).Idx) :
    h.drop i = ix1 l ↔ ∃ k : Fin a × Fin b, ix3 k.1 k.2 l = i := by
  constructor
  · intro e
    refine ⟨(i 0, i 1), ?_⟩
    have e2 : (i 2).val = l.val := congrArg (fun z : (⟨1, ![n]⟩ : Shape).Idx => (z 0).val) e
    funext q; apply Fin.ext
    match q with
    | ⟨0, _⟩ => rfl
    | ⟨1, _⟩ => rfl
    | ⟨2, _⟩ => exact e2.symm
  · rintro ⟨k, rfl⟩
    funext q; apply Fin.ext
    match q with
    | ⟨0, _⟩ => rfl
theorem sum_two {a b n : ℕ} (h : (⟨3, ![a, b, n]⟩ : Shape).ReducesTo [0, 1] (⟨1, ![n]⟩ : Shape)) (v : (⟨3, ![a, b, n]⟩ : Shape).Idx → EReal) (init : EReal) (l : Fin n) :
    Ideal.hostReduceAdd h v init (ix1 l) = init + ∑ i, ∑ j, v (ix3 i j l) := by
  have e : ∑ i ∈ Finset.univ.filter (fun i => h.drop i = ix1 l), v i = ∑ k : Fin a × Fin b, v (ix3 k.1 k.2 l) :=
    Finset.sum_filter_eq_sum_of_fiber _ (fun k : Fin a × Fin b => ix3 k.1 k.2 l) (fun _ _ e => Prod.ext (congrFun e 0) (congrFun e 1)) (two_axes h l) v
  refine (congrArg (init + ·) e).trans ?_
  simp only [Fintype.sum_prod_type]

theorem ref_loss (x0 : Hid) (x1 : Tgt) : val_main_v30 (F := Ideal) x0 x1 = losses x0 x1 := by
  rw [← val_main_v30_eq]
  funext y
  obtain ⟨p, l, rfl⟩ := ix2_of (n := 1) (w := 1024) y
  obtain rfl : p = 0 := Subsingleton.elim _ _
  show _ = loss x0 x1 l
  pointwise
  refine (congrArg (fun z => Ideal.div (_ * z) _) (sum_two _ _ 0 l)).trans ?_
  rw [lit_half, lit_count, Ideal.div_coe (by norm_num), zero_add, mul_assoc, mul_comm, mul_assoc, ← EReal.coe_mul, loss]
  refine congrArg₂ (· * ·) ?_ (by norm_num)
  refine Finset.sum_congr rfl fun b _ => Finset.sum_congr rfl fun s _ => ?_
  pointwise [err]

end Cert.LossFinal

end
-- ==== Proof.LossClaim.lean ====
/- The value claim of the loss's call. -/
module

public import proofs.«01_k».proof.Defs
public import proofs.«01_k».proof.Proof.LossFinal

@[expose] public section

noncomputable section

namespace Cert.LossClaim

open Idealize.ShloMosaic Idealize.SL.Sem Cert.LossValue Cert.LossFinal

/-- Over the extended reals the call's cotangent and losses and the reference's are the same functions of the hidden rows and the targets, whatever they hold. -/
theorem algebraic : Cert.algebraic_LossHeadIdeal_LossHeadRefIdeal (hLossHeadIdeal := Cert.LossHeadIdeal.Gen.facts)
    (hLossHeadRefIdeal := Cert.LossHeadRefIdeal.Gen.facts) := by
  intro m g m' g' _ hag
  refine ⟨fun c => cotangent (a0 m c) (a1 m c), fun c => losses (a0 m c) (a1 m c), ?_, ?_⟩
  · refine (θ_run _ _ _).mono (fun _ h c => ?_) (Cert.LossHeadIdeal.Value.run_blocks m g)
    obtain ⟨e0, e1, e⟩ := h c
    exact ⟨e0.trans (final_dy m c), e1.trans (final_loss m c), e⟩
  · refine (θ_run _ _ _).mono (fun _ h c => ?_) (Cert.LossHeadRefIdeal.Value.run m' g')
    obtain ⟨e0, e1, e⟩ := h c
    obtain ⟨q0, q1⟩ := hag c
    rw [Cert.LossHeadRefIdeal.Read.val_main_v21_eq, q0, q1] at e0
    rw [Cert.LossHeadRefIdeal.Read.val_main_v30_eq, q0, q1] at e1
    exact ⟨e0.trans (ref_dy ..), e1.trans (ref_loss ..), e⟩

end Cert.LossClaim

end
-- ==== Proof.Halves.lean ====
/- Arrays of two axes given by their entries, and buffers written, and read back, some columns at a time. -/
module

public import Idealize.ShloMosaic.Lib.Pipeline.ValueKit
public import Idealize.ShloMosaic.Lib.StableHlo.RunRead
public import Idealize.ShloMosaic.Lib.Claim

@[expose] public section

noncomputable section

namespace Cert.Halves

open Idealize.ShloMosaic

/-- An array given by its entries. -/
def array {n w : ℕ} (f : Fin n → Fin w → EReal) : (⟨2, ![n, w]⟩ : Shape).Idx → EReal := fun y => f (y 0) (y 1)

theorem at_ix2 {n w : ℕ} (f : Fin n → Fin w → EReal) (p : Fin n) (l : Fin w) : array f (ix2 p l) = f p l := rfl

theorem ix2_of {n w : ℕ} (y : (⟨2, ![n, w]⟩ : Shape).Idx) : ∃ (p : Fin n) (l : Fin w), y = ix2 p l :=
  ⟨y 0, y 1, funext fun a => by fin_cases a <;> rfl⟩

variable {φ : EltTy} {n w W c : ℕ} {inb : ∀ a, (![0, c] : Fin 2 → ℕ) a + (![n, w] : Fin 2 → ℕ) a ≤ (![n, W] : Fin 2 → ℕ) a}
variable {d : (⟨2, ![n, w]⟩ : Shape).Idx → Elt Ideal φ} {L : List (View.Piece (Elt Ideal) (⟨2, ![n, W]⟩ : Shape) φ)} (p : Fin n)

theorem half_emb {j : Fin w} {l : Fin W} (h : l.val = c + j.val) :
    (ix2 p l : (⟨2, ![n, W]⟩ : Shape).Idx) = (Rect.unit ![0, c] ![n, w] inb : Rect (⟨2, ![n, W]⟩ : Shape)).emb (ix2 p j) := by
  funext b; apply Fin.ext
  match b with
  | ⟨0, _⟩ => show (p : ℕ) = 0 + 1 * (p : ℕ); omega
  | ⟨1, _⟩ => show (l : ℕ) = c + 1 * (j : ℕ); omega

/-- Inside the columns last written the buffer holds what was written. -/
theorem half_hit {j : Fin w} {l : Fin W} (h : l.val = c + j.val) :
    View.canon (⟨Rect.unit ![0, c] ![n, w] inb, d⟩ :: L) (ix2 p l) = d (ix2 p j) :=
  (congrArg (View.canon _) (half_emb p h)).trans (View.canon_cons_emb _ _ _ _)

/-- Outside them the buffer holds what was there. -/
theorem half_skip {l : Fin W} (h : l.val < c ∨ c + w ≤ l.val) :
    View.canon (⟨Rect.unit ![0, c] ![n, w] inb, d⟩ :: L) (ix2 p l) = View.canon L (ix2 p l) := by
  refine View.canon_cons_of_not_mem _ _ fun hm => ?_
  obtain ⟨i', hi', he'⟩ := (LoadRect.mem_set _).mp hm (1 : Fin 2)
  have hi' : i' < w := hi'
  have he' : (l : ℕ) = c + 1 * i' := he'
  omega

/-- Columns read back. -/
theorem half_read {sig : RefSig} {κ : Kind} {sp : Space} (v : View sig κ sp (⟨2, ![n, W]⟩ : Shape) φ) {j : Fin w} {l : Fin W} (h : l.val = c + j.val) :
    v.readCov L (Rect.unit ![0, c] ![n, w] inb : Rect (⟨2, ![n, W]⟩ : Shape)).toLoadRect (ix2 p j) = View.canon L (ix2 p l) := by
  rw [View.readCov_eq_canon']
  exact congrArg (View.canon L) (half_emb p h).symm

theorem half_ld (x : (⟨2, ![n, W]⟩ : Shape).Idx → Elt Ideal φ) {j : Fin w} {l : Fin W} (h : l.val = c + j.val) :
    View.ld (Val := Elt Ideal) (e' := φ) x (Rect.unit ![0, c] ![n, w] inb : Rect (⟨2, ![n, W]⟩ : Shape)) (ix2 p j) = x (ix2 p l) :=
  congrArg x (half_emb p h).symm

end Cert.Halves

end
-- ==== Proof.PostValue.lean ====
/- The output gate's backward call: what its blocks hold and what each grid point leaves, as functions of the arguments. -/
module

public import proofs.«01_k».proof.Proof.Gen.PostBwdIdeal.Value
public import proofs.«01_k».proof.Proof.Halves

@[expose] public section

set_option maxRecDepth 16384

noncomputable section

namespace Cert.PostValue

open Idealize.ShloMosaic Idealize.ShloMosaic.TcCoe Idealize.SL.Sem Cert.PostBwdIdeal Cert.PostBwdIdeal.Gen Cert.Halves

/-! ## The gradients, of the arguments -/

section Math
variable (dh : FVec Ideal S8704x1024 .f32) (o : FVec Ideal S8704x512 .f32) (gl : FVec Ideal S8704x2048 .f32) (bg : FVec Ideal S1x2048 .f32)
variable (w : FVec Ideal S512x1024 .f32) (wo : FVec Ideal S1024x1024 .f32)

/-- The gate. -/
def gate (r : Fin 8704) (l : Fin 2048) : EReal := Ideal.logistic (gl (ix2 r l) + bg (ix2 0 l))
/-- The cotangent of the mixed branches. -/
def dmix (r : Fin 8704) (j : Fin 1024) : EReal := ∑ k, dh (ix2 r k) * wo (ix2 j k)
/-- A branch: the attention's output times its weight. -/
def branch (r : Fin 8704) (j : Fin 1024) : EReal := ∑ k, o (ix2 r k) * w (ix2 k j)
/-- The gate's lane that multiplies lane `j` of the branch at lane offset `s`. -/
def lane (s : Fin 2) (j : Fin 1024) : Fin 2048 := ⟨s.val * 1024 + j.val, by omega⟩
/-- The cotangent of a branch. -/
def dbranch (s : Fin 2) (r : Fin 8704) (j : Fin 1024) : EReal := dmix dh wo r j * gate gl bg r (lane s j)
/-- The cotangent of the gate's argument. -/
def dgate (s : Fin 2) (r : Fin 8704) (j : Fin 1024) : EReal :=
  dmix dh wo r j * branch o w r j * gate gl bg r (lane s j) * (1 - gate gl bg r (lane s j))
/-- The cotangent of an attention's output. -/
def dout (s : Fin 2) (r : Fin 8704) (l : Fin 512) : EReal := ∑ j, dbranch dh gl bg wo s r j * w (ix2 l j)

end Math

/-! ## The blocks at a grid point -/

variable (m : (ℓ : Loc nD τ sig) → Buf (Elt Ideal) ℓ)

/-- The eight arguments. -/
abbrev a0 (c : Dev nD) : FVec Ideal S8704x1024 .f32 := m ((c : Thread nD τ).loc main_arg0)
abbrev a1 (c : Dev nD) : FVec Ideal S8704x512 .f32 := m ((c : Thread nD τ).loc main_arg1)
abbrev a2 (c : Dev nD) : FVec Ideal S8704x512 .f32 := m ((c : Thread nD τ).loc main_arg2)
abbrev a3 (c : Dev nD) : FVec Ideal S8704x2048 .f32 := m ((c : Thread nD τ).loc main_arg3)
abbrev a4 (c : Dev nD) : FVec Ideal S1x2048 .f32 := m ((c : Thread nD τ).loc main_arg4)
abbrev a5 (c : Dev nD) : FVec Ideal S512x1024 .f32 := m ((c : Thread nD τ).loc main_arg5)
abbrev a6 (c : Dev nD) : FVec Ideal S512x1024 .f32 := m ((c : Thread nD τ).loc main_arg6)
abbrev a7 (c : Dev nD) : FVec Ideal S1024x1024 .f32 := m ((c : Thread nD τ).loc main_arg7)

theorem idx : ∀ t : Fin cfg0.N, t.val < 17 ∧ win0_0.index t = ![t.val, 0] ∧ win0_1.index t = ![t.val, 0] ∧ win0_2.index t = ![t.val, 0] ∧ win0_3.index t = ![t.val, 1]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![0, 0] :=
  (by decide +kernel : ∀ t : Fin grid0.N, _)

/-- The array's row at row `p` of block `t`. -/
def row (t : Fin cfg0.N) (p : Fin 512) : Fin 8704 := ⟨t.val * 512 + p.val, by have := (idx t).1; omega⟩

section Blocks
variable (c : Dev nD) (t : Fin cfg0.N)

theorem blk0 (p : Fin 512) (l : Fin 1024) : iblk m c 0 t (ix2 p l) = a0 m c (ix2 (row t p) l) := by
  rw [row]; blk_ext [iblk, idx t]
theorem blk1 (p : Fin 512) (l : Fin 512) : iblk m c 1 t (ix2 p l) = a1 m c (ix2 (row t p) l) := by
  have e : iblk m c 1 t (ix2 p l) = V m c main_v2 (ix2 (row t p) l) := by rw [row]; blk_ext [iblk, idx t]
  rw [e]; entry_read; rfl
theorem blk2 (p : Fin 512) (l : Fin 512) : iblk m c 2 t (ix2 p l) = a2 m c (ix2 (row t p) l) := by
  have e : iblk m c 2 t (ix2 p l) = V m c main_v3 (ix2 (row t p) l) := by rw [row]; blk_ext [iblk, idx t]
  rw [e]; entry_read; rfl
/-- The gate's logits are the second half of the array the call takes. -/
theorem blk3 (p : Fin 512) (l : Fin 2048) : iblk m c 3 t (ix2 p l) = a3 m c (ix2 (row t p) l) := by
  have e : iblk m c 3 t (ix2 p l) = V m c main_v1 (ix2 (row t p) ⟨2048 + l.val, by omega⟩) := by rw [row]; blk_ext [iblk, idx t]
  rw [e]; entry_read; pointwise
theorem blk4 (l : Fin 2048) : iblk m c 4 t (ix2 0 l) = a4 m c (ix2 0 l) := by
  blk_ext [iblk, idx t]
theorem blk5 (p : Fin 512) (l : Fin 1024) : iblk m c 5 t (ix2 p l) = a5 m c (ix2 p l) := by
  have e : iblk m c 5 t (ix2 p l) = V m c main_v4 (ix2 p l) := by blk_ext [iblk, idx t]
  rw [e]; entry_read; rfl
theorem blk6 (p : Fin 512) (l : Fin 1024) : iblk m c 6 t (ix2 p l) = a6 m c (ix2 p l) := by
  have e : iblk m c 6 t (ix2 p l) = V m c main_v5 (ix2 p l) := by blk_ext [iblk, idx t]
  rw [e]; entry_read; rfl
theorem blk7 (p : Fin 1024) (l : Fin 1024) : iblk m c 7 t (ix2 p l) = a7 m c (ix2 p l) := by
  have e : iblk m c 7 t (ix2 p l) = V m c main_v6 (ix2 p l) := by blk_ext [iblk, idx t]
  rw [e]; entry_read; rfl

/-! ## The values the body computes at a grid point -/

theorem at_f (p : Fin 512) (j : Fin 1024) : k0_pay7 (iblk m c 3 t) (iblk m c 4 t) (iblk m c 0 t) (iblk m c 7 t) (ix2 p j)
    = dbranch (a0 m c) (a3 m c) (a4 m c) (a7 m c) 0 (row t p) j := by
  pointwise [k0_pay7, k0_pay5, k0_pay4, k0_pay3]
  simp only [blk0, blk3, blk4, blk7, dbranch, dmix, gate, lane, Fin.val_zero, Nat.zero_mul, Nat.zero_add]
theorem at_m (p : Fin 512) (j : Fin 1024) : k0_pay8 (iblk m c 3 t) (iblk m c 4 t) (iblk m c 0 t) (iblk m c 7 t) (ix2 p j)
    = dbranch (a0 m c) (a3 m c) (a4 m c) (a7 m c) 1 (row t p) j := by
  pointwise [k0_pay8, k0_pay6, k0_pay4, k0_pay3]
  simp only [blk0, blk3, blk4, blk7, dbranch, dmix, gate, lane, Fin.val_one, Nat.one_mul]
theorem at_gf (p : Fin 512) (j : Fin 1024) : k0_pay9 (iblk m c 3 t) (iblk m c 4 t) (iblk m c 0 t) (iblk m c 7 t) (iblk m c 1 t) (iblk m c 5 t) (ix2 p j)
    = dgate (a0 m c) (a1 m c) (a3 m c) (a4 m c) (a5 m c) (a7 m c) 0 (row t p) j := by
  pointwise [k0_pay9, k0_pay5, k0_pay4, k0_pay3]
  simp only [blk0, blk1, blk3, blk4, blk5, blk7, dgate, branch, dmix, gate, lane, Fin.val_zero, Nat.zero_mul, Nat.zero_add]
theorem at_gm (p : Fin 512) (j : Fin 1024) : k0_pay11 (k0_pay6 (iblk m c 3 t) (iblk m c 4 t)) (k0_pay10 (iblk m c 0 t) (iblk m c 7 t) (iblk m c 2 t) (iblk m c 6 t)) (ix2 p j)
    = dgate (a0 m c) (a2 m c) (a3 m c) (a4 m c) (a6 m c) (a7 m c) 1 (row t p) j := by
  pointwise [k0_pay11, k0_pay10, k0_pay6, k0_pay4, k0_pay3]
  simp only [blk0, blk2, blk3, blk4, blk6, blk7, dgate, branch, dmix, gate, lane, Fin.val_one, Nat.one_mul]
theorem at_of (p : Fin 512) (l : Fin 512) : k0_pay16 (k0_pay7 (iblk m c 3 t) (iblk m c 4 t) (iblk m c 0 t) (iblk m c 7 t)) (iblk m c 5 t) (ix2 p l)
    = dout (a0 m c) (a3 m c) (a4 m c) (a5 m c) (a7 m c) 0 (row t p) l := by
  pointwise [k0_pay16]
  simp only [at_f, blk5, dout]
theorem at_om (p : Fin 512) (l : Fin 512) : k0_pay1 (k0_pay8 (iblk m c 3 t) (iblk m c 4 t) (iblk m c 0 t) (iblk m c 7 t)) (iblk m c 6 t) (ix2 p l)
    = dout (a0 m c) (a3 m c) (a4 m c) (a6 m c) (a7 m c) 1 (row t p) l := by
  pointwise [k0_pay1]
  simp only [at_m, blk6, dout]

end Blocks

theorem zeros (l : Fin 2048) : View.canon (Val := Elt Ideal) (e := .f32) [⟨Rect.unit ![0, 0] ![1, 2048] inb_S1x2048_S1x2048_0_0, k0_pay2 (F := Ideal)⟩] (ix2 0 l) = (0 : EReal) := by
  have he : (ix2 0 l : S1x2048.Idx) = (Rect.unit ![0, 0] ![1, 2048] inb_S1x2048_S1x2048_0_0 : Rect S1x2048).emb (ix2 0 l) := by
    funext b; apply Fin.ext
    match b with
    | ⟨0, _⟩ => rfl
    | ⟨1, _⟩ => show (l : ℕ) = 0 + 1 * (l : ℕ); omega
  refine (congrArg (View.canon _) he).trans ((View.canon_cons_emb _ _ _ _).trans ?_)
  pointwise [k0_pay2]

/-- A column's sum over a block's rows is added to what the buffer held. -/
theorem add_col (d : FVec Ideal S512x1024 .f32) (x : FVec Ideal S1x1024 .f32) (j : Fin 1024) :
    k0_pay14 d x (ix2 0 j) = x (ix2 0 j) + ∑ p, d (ix2 p j) := by
  pointwise [k0_pay14]
theorem add_col' (u v : FVec Ideal S512x1024 .f32) (x : FVec Ideal S1x1024 .f32) (j : Fin 1024) :
    k0_pay15 u v x (ix2 0 j) = x (ix2 0 j) + ∑ p, k0_pay11 u v (ix2 p j) := by
  pointwise [k0_pay15]

section Left
variable (c : Dev nD) (t : Fin cfg0.N)

/-- The gate's gradient at lane `l`, of the half `l` lies in. -/
def dgl (dh : FVec Ideal S8704x1024 .f32) (o o' : FVec Ideal S8704x512 .f32) (gl : FVec Ideal S8704x2048 .f32) (bg : FVec Ideal S1x2048 .f32)
    (w w' : FVec Ideal S512x1024 .f32) (wo : FVec Ideal S1024x1024 .f32) (r : Fin 8704) (l : Fin 2048) : EReal :=
  if h : l.val < 1024 then dgate dh o gl bg w wo 0 r ⟨l.val, h⟩ else dgate dh o' gl bg w' wo 1 r ⟨l.val - 1024, by omega⟩

theorem left_gl (p : Fin 512) (l : Fin 2048) : (outsAt0 m c t.val t.isLt).1 (ix2 p l)
    = dgl (a0 m c) (a1 m c) (a2 m c) (a3 m c) (a4 m c) (a5 m c) (a6 m c) (a7 m c) (row t p) l := by
  have e : ∀ l : Fin 2048, View.canon (Val := Elt Ideal) (e := .bf16) [⟨Rect.unit ![0, 1024] ![512, 1024] inb_S512x2048_S512x1024_0_1024,
        k0_pay13 (k0_pay6 (iblk m c 3 t) (iblk m c 4 t)) (k0_pay10 (iblk m c 0 t) (iblk m c 7 t) (iblk m c 2 t) (iblk m c 6 t))⟩,
      ⟨Rect.unit ![0, 0] ![512, 1024] inb_S512x2048_S512x1024_0_0,
        k0_pay12 (k0_pay9 (iblk m c 3 t) (iblk m c 4 t) (iblk m c 0 t) (iblk m c 7 t) (iblk m c 1 t) (iblk m c 5 t))⟩] (ix2 p l)
      = dgl (a0 m c) (a1 m c) (a2 m c) (a3 m c) (a4 m c) (a5 m c) (a6 m c) (a7 m c) (row t p) l := by
    intro l
    rw [dgl]
    split
    · rename_i h
      exact (half_skip p (by omega)).trans ((half_hit p (j := ⟨l.val, h⟩) (by simp)).trans (at_gf m c t p _))
    · exact (half_hit p (j := ⟨l.val - 1024, by omega⟩) (by show l.val = 1024 + (l.val - 1024); omega)).trans (at_gm m c t p _)
  by_cases h : t.val % 17 = 0
  · rw [outsAt0_A m c t h]
    frame_out
    exact e l
  · rw [outsAt0_B m c t h]
    frame_out
    exact e l

theorem left_f : (outsAt0 m c t.val t.isLt).2.1 = k0_pay7 (iblk m c 3 t) (iblk m c 4 t) (iblk m c 0 t) (iblk m c 7 t) := by
  by_cases h : t.val % 17 = 0
  · rw [outsAt0_A m c t h]
    frame_out
  · rw [outsAt0_B m c t h]
    frame_out

theorem left_m : (outsAt0 m c t.val t.isLt).2.2.1 = k0_pay8 (iblk m c 3 t) (iblk m c 4 t) (iblk m c 0 t) (iblk m c 7 t) := by
  by_cases h : t.val % 17 = 0
  · rw [outsAt0_A m c t h]
    frame_out
  · rw [outsAt0_B m c t h]
    frame_out

theorem left_of : (outsAt0 m c t.val t.isLt).2.2.2.1 = k0_pay16 (k0_pay7 (iblk m c 3 t) (iblk m c 4 t) (iblk m c 0 t) (iblk m c 7 t)) (iblk m c 5 t) := by
  by_cases h : t.val % 17 = 0
  · rw [outsAt0_A m c t h]
    frame_out
  · rw [outsAt0_B m c t h]
    frame_out

theorem left_om : (outsAt0 m c t.val t.isLt).2.2.2.2.1 = k0_pay1 (k0_pay8 (iblk m c 3 t) (iblk m c 4 t) (iblk m c 0 t) (iblk m c 7 t)) (iblk m c 6 t) := by
  by_cases h : t.val % 17 = 0
  · rw [outsAt0_A m c t h]
    frame_out
  · rw [outsAt0_B m c t h]
    frame_out

/-- One grid point's part of the bias's gradient. -/
def part (l : Fin 2048) : EReal := ∑ p, dgl (a0 m c) (a1 m c) (a2 m c) (a3 m c) (a4 m c) (a5 m c) (a6 m c) (a7 m c) (row t p) l

theorem part_f {l : Fin 2048} (h : l.val < 1024) : ∑ p, k0_pay9 (iblk m c 3 t) (iblk m c 4 t) (iblk m c 0 t) (iblk m c 7 t) (iblk m c 1 t) (iblk m c 5 t) (ix2 p ⟨l.val, h⟩) = part m c t l := by
  simp only [at_gf, part, dgl, dif_pos h]
theorem part_m {l : Fin 2048} (h : ¬ l.val < 1024) : ∑ p, k0_pay11 (k0_pay6 (iblk m c 3 t) (iblk m c 4 t)) (k0_pay10 (iblk m c 0 t) (iblk m c 7 t) (iblk m c 2 t) (iblk m c 6 t)) (ix2 p ⟨l.val - 1024, by omega⟩) = part m c t l := by
  simp only [at_gm, part, dgl, dif_neg h]

theorem bias_first (h : t.val % 17 = 0) (l : Fin 2048) : (outsAt0 m c t.val t.isLt).2.2.2.2.2 (ix2 0 l) = 0 + part m c t l := by
  rw [outsAt0_A m c t h]
  frame_out
  by_cases hl : l.val < 1024
  · refine (half_skip 0 (by omega)).trans ((half_hit 0 (j := ⟨l.val, hl⟩) (by simp)).trans ((add_col _ _ _).trans (congrArg₂ (· + ·) ?_ (part_f m c t hl))))
    exact (half_read (l := l) 0 _ (j := ⟨l.val, hl⟩) (by simp)).trans (zeros l)
  · refine (half_hit 0 (j := ⟨l.val - 1024, by omega⟩) (by show l.val = 1024 + (l.val - 1024); omega)).trans ((add_col' _ _ _ _).trans (congrArg₂ (· + ·) ?_ (part_m m c t hl)))
    exact (half_read (l := l) 0 _ (j := ⟨l.val - 1024, by omega⟩) (by show l.val = 1024 + (l.val - 1024); omega)).trans ((half_skip 0 (by omega)).trans (zeros l))

theorem bias_next (h : ¬ t.val % 17 = 0) (l : Fin 2048) : (outsAt0 m c t.val t.isLt).2.2.2.2.2 (ix2 0 l)
    = (outsAt0 m c (t.val - 1) (Nat.lt_of_le_of_lt (Nat.sub_le _ _) t.isLt)).2.2.2.2.2 (ix2 0 l) + part m c t l := by
  rw [outsAt0_B m c t h]
  frame_out
  by_cases hl : l.val < 1024
  · refine (half_skip 0 (by omega)).trans ((half_hit 0 (j := ⟨l.val, hl⟩) (by simp)).trans ((add_col _ _ _).trans (congrArg₂ (· + ·) ?_ (part_f m c t hl))))
    exact half_ld (l := l) 0 _ (j := ⟨l.val, hl⟩) (by simp)
  · refine (half_hit 0 (j := ⟨l.val - 1024, by omega⟩) (by show l.val = 1024 + (l.val - 1024); omega)).trans ((add_col' _ _ _ _).trans (congrArg₂ (· + ·) ?_ (part_m m c t hl)))
    exact half_ld (l := l) 0 _ (j := ⟨l.val - 1024, by omega⟩) (by show l.val = 1024 + (l.val - 1024); omega)

end Left

end Cert.PostValue

end
-- ==== Proof.PostFinal.lean ====
/- The output gate's backward call: its result arrays. -/
module

public import proofs.«01_k».proof.Proof.PostValue

@[expose] public section

set_option maxRecDepth 16384

noncomputable section

namespace Cert.PostFinal

open Idealize.ShloMosaic Idealize.ShloMosaic.TcCoe Idealize.SL.Sem Cert.PostBwdIdeal Cert.PostBwdIdeal.Gen Cert.PostValue Cert.Halves

variable (m : (ℓ : Loc nD τ sig) → Buf (Elt Ideal) ℓ) (c : Dev nD)

/-- The gradient of the gate's logits. -/
theorem final_gl : (dats m 0 c).arrAt 8 cfg0.N = array (dgl (a0 m c) (a1 m c) (a2 m c) (a3 m c) (a4 m c) (a5 m c) (a6 m c) (a7 m c)) := by
  refine (dats m 0 c).arrAt_eq_of_covers 8 _ (by decide +kernel) fun t hf y => ?_
  blk_simp
  rw [after0_8]
  obtain ⟨p, l, rfl⟩ := ix2_of (n := 512) (w := 2048) y
  have he : ((cfg0.win 8).blk t).view.emb (ix2 p l) = ix2 (row t p) l := by rw [row]; blk_ext [idx t]
  rw [he]
  exact left_gl m c t p l

/-- The gradients of the two branches. -/
theorem final_f : (dats m 0 c).arrAt 9 cfg0.N = array (dbranch (a0 m c) (a3 m c) (a4 m c) (a7 m c) 0) := by
  refine (dats m 0 c).arrAt_eq_of_covers 9 _ (by decide +kernel) fun t hf y => ?_
  blk_simp
  rw [after0_9, left_f]
  obtain ⟨p, l, rfl⟩ := ix2_of (n := 512) (w := 1024) y
  have he : ((cfg0.win 9).blk t).view.emb (ix2 p l) = ix2 (row t p) l := by rw [row]; blk_ext [idx t]
  rw [he]
  exact at_f m c t p l
theorem final_m : (dats m 0 c).arrAt 10 cfg0.N = array (dbranch (a0 m c) (a3 m c) (a4 m c) (a7 m c) 1) := by
  refine (dats m 0 c).arrAt_eq_of_covers 10 _ (by decide +kernel) fun t hf y => ?_
  blk_simp
  rw [after0_10, left_m]
  obtain ⟨p, l, rfl⟩ := ix2_of (n := 512) (w := 1024) y
  have he : ((cfg0.win 10).blk t).view.emb (ix2 p l) = ix2 (row t p) l := by rw [row]; blk_ext [idx t]
  rw [he]
  exact at_m m c t p l

/-- The gradients of the two attentions' outputs. -/
theorem final_of : (dats m 0 c).arrAt 11 cfg0.N = array (dout (a0 m c) (a3 m c) (a4 m c) (a5 m c) (a7 m c) 0) := by
  refine (dats m 0 c).arrAt_eq_of_covers 11 _ (by decide +kernel) fun t hf y => ?_
  blk_simp
  rw [after0_11, left_of]
  obtain ⟨p, l, rfl⟩ := ix2_of (n := 512) (w := 512) y
  have he : ((cfg0.win 11).blk t).view.emb (ix2 p l) = ix2 (row t p) l := by rw [row]; blk_ext [idx t]
  rw [he]
  exact at_of m c t p l
theorem final_om : (dats m 0 c).arrAt 12 cfg0.N = array (dout (a0 m c) (a3 m c) (a4 m c) (a6 m c) (a7 m c) 1) := by
  refine (dats m 0 c).arrAt_eq_of_covers 12 _ (by decide +kernel) fun t hf y => ?_
  blk_simp
  rw [after0_12, left_om]
  obtain ⟨p, l, rfl⟩ := ix2_of (n := 512) (w := 512) y
  have he : ((cfg0.win 12).blk t).view.emb (ix2 p l) = ix2 (row t p) l := by rw [row]; blk_ext [idx t]
  rw [he]
  exact at_om m c t p l

/-- The bias's gradient: the column sums of the logits' gradient. -/
theorem final_bg : (dats m 0 c).arrAt 13 cfg0.N
    = array (n := 1) (w := 2048) fun _ l => ∑ r, dgl (a0 m c) (a1 m c) (a2 m c) (a3 m c) (a4 m c) (a5 m c) (a6 m c) (a7 m c) r l := by
  refine (dats m 0 c).arrAt_eq_of_covers 13 _ (by decide +kernel) fun t hf y => ?_
  blk_simp
  rw [after0_13]
  obtain ⟨p, l, rfl⟩ := ix2_of (n := 1) (w := 2048) y
  obtain rfl : p = 0 := Subsingleton.elim _ _
  have he : ((cfg0.win 13).blk t).view.emb (ix2 0 l) = ix2 0 l := by blk_ext [idx t]
  rw [he, at_ix2]
  have hs := Pipeline.eq_sum_fin_of_reset_step_apply_of_flush (M := EReal) (fun n h l => (outsAt0 m c n h).2.2.2.2.2 (ix2 0 l)) 17 (fun _ => 0) (part m c)
    (bias_first m c) (bias_next m c) t ((flush0_13 t).mp hf) l
  refine hs.trans ((zero_add _).trans ?_)
  have ht : t.val / 17 = 0 := by have := (idx t).1; omega
  refine Fin.sum_mul_add_congr fun s k hl => ?_
  unfold row
  simp only [ht, Nat.mul_zero, Nat.zero_add]

end Cert.PostFinal

end
-- ==== Proof.PostRef.lean ====
/- The reference of the output gate's backward call, read at an index. -/
module

public import proofs.«01_k».proof.Proof.PostFinal
public import proofs.«01_k».proof.Proof.Gen.PostBwdRefIdeal.Read

@[expose] public section

set_option maxRecDepth 16384

noncomputable section

namespace Cert.PostRef

open Idealize.ShloMosaic Idealize.ShloMosaic.TcCoe Idealize.SL.Sem Cert.PostBwdIdeal Cert.PostValue Cert.PostFinal Cert.Halves
open Cert.PostBwdRefIdeal.Read

variable (x0 : FVec Ideal S8704x1024 .f32) (x1 x2 : FVec Ideal S8704x512 .f32) (x3 : FVec Ideal S8704x2048 .f32) (x4 : FVec Ideal S1x2048 .f32)
variable (x5 x6 : FVec Ideal S512x1024 .f32) (x7 : FVec Ideal S1024x1024 .f32)

/-- The gate as the reference writes it. -/
theorem sigmoid (x : EReal) : Ideal.div 1 (1 + Ideal.exp (-x)) = Ideal.logistic x := rfl

theorem ref_f : val_main_v31 (F := Ideal) x0 x3 x4 x7 = array (dbranch x0 x3 x4 x7 0) := by
  rw [← val_main_v31_eq]
  funext y
  obtain ⟨p, l, rfl⟩ := ix2_of (n := 8704) (w := 1024) y
  rw [at_ix2]
  pointwise [dbranch, dmix, gate, lane]
  exact mul_comm _ _
theorem ref_m : val_main_v32 (F := Ideal) x0 x3 x4 x7 = array (dbranch x0 x3 x4 x7 1) := by
  rw [← val_main_v32_eq]
  funext y
  obtain ⟨p, l, rfl⟩ := ix2_of (n := 8704) (w := 1024) y
  rw [at_ix2]
  pointwise [dbranch, dmix, gate, lane]
  exact mul_comm _ _

/-- The attentions' gradients are products of the branches' gradients and the weights. -/
theorem ref_of : val_main_v33 (F := Ideal) x0 x3 x4 x5 x7 = array (dout x0 x3 x4 x5 x7 0) := by
  rw [← val_main_v33_eq]
  funext y
  obtain ⟨p, l, rfl⟩ := ix2_of (n := 8704) (w := 512) y
  rw [at_ix2]
  pointwise [dout, dbranch, dmix, gate, lane]
  exact Finset.sum_congr rfl fun j _ => congrArg (· * _) (mul_comm _ _)
theorem ref_om : val_main_v34 (F := Ideal) x0 x3 x4 x6 x7 = array (dout x0 x3 x4 x6 x7 1) := by
  rw [← val_main_v34_eq]
  funext y
  obtain ⟨p, l, rfl⟩ := ix2_of (n := 8704) (w := 512) y
  rw [at_ix2]
  pointwise [dout, dbranch, dmix, gate, lane]
  exact Finset.sum_congr rfl fun j _ => congrArg (· * _) (mul_comm _ _)

/-- The logits' gradient at one entry, before it is rounded. -/
theorem ref_gl_at (p : Fin 8704) (l : Fin 2048) : val_main_v25 (F := Ideal) x0 x1 x2 x3 x4 x5 x6 x7 (ix2 p l) = dgl x0 x1 x2 x3 x4 x5 x6 x7 p l := by
  pointwise [val_main_v25, val_main_v24, Cert.PostBwdRefIdeal.Value.fn_main_v24, val_main_v23, val_main_v21, val_main_v19, val_main_v0, val_main_v1, val_main_v12, val_main_v11, val_main_v10, val_main_cst_1, val_main_v9, val_main_v8, val_main_cst_0,
    val_main_v7, val_main_v6, val_main_cst, val_main_v5, val_main_v4, val_main_v3, val_main_v2]
  rw [dgl]
  by_cases h : l.val < 1024
  · rw [dif_pos h, dif_pos h]
    have hl : lane 0 ⟨l.val, h⟩ = l := Fin.ext (by simp [lane])
    rw [dgate, hl]
    exact (mul_assoc _ _ _).symm
  · rw [dif_neg h, dif_neg h]
    have hl : lane 1 ⟨l.val - 1024, by omega⟩ = l := Fin.ext (by simp only [lane, Fin.val_one]; omega)
    rw [dgate, hl]
    exact (mul_assoc _ _ _).symm

theorem ref_gl : val_main_v30 (F := Ideal) x0 x1 x2 x3 x4 x5 x6 x7 = array (dgl x0 x1 x2 x3 x4 x5 x6 x7) := by
  funext y
  obtain ⟨p, l, rfl⟩ := ix2_of (n := 8704) (w := 2048) y
  exact ref_gl_at x0 x1 x2 x3 x4 x5 x6 x7 p l
theorem ref_bg : val_main_v27 (F := Ideal) x0 x1 x2 x3 x4 x5 x6 x7 = array (n := 1) (w := 2048) fun _ l => ∑ r, dgl x0 x1 x2 x3 x4 x5 x6 x7 r l := by
  funext y
  obtain ⟨p, l, rfl⟩ := ix2_of (n := 1) (w := 2048) y
  rw [at_ix2]
  pointwise [val_main_v27, val_main_v26, val_main_cst_2]
  exact Finset.sum_congr rfl fun r _ => ref_gl_at x0 x1 x2 x3 x4 x5 x6 x7 r l

end Cert.PostRef

end
-- ==== Proof.PostClaim.lean ====
/- The value claim of the output gate's backward call. -/
module

public import proofs.«01_k».proof.Defs
public import proofs.«01_k».proof.Proof.PostRef

@[expose] public section

noncomputable section

namespace Cert.PostClaim

open Idealize.ShloMosaic Idealize.SL.Sem Cert.PostValue Cert.PostFinal Cert.Halves Cert.PostRef

/-- Over the extended reals the call's six results and the reference's are the same functions of the eight arguments, whatever they hold. -/
theorem algebraic : Cert.algebraic_PostBwdIdeal_PostBwdRefIdeal (hPostBwdIdeal := Cert.PostBwdIdeal.Gen.facts)
    (hPostBwdRefIdeal := Cert.PostBwdRefIdeal.Gen.facts) := by
  intro m g m' g' _ hag
  refine ⟨fun c => array (dgl (a0 m c) (a1 m c) (a2 m c) (a3 m c) (a4 m c) (a5 m c) (a6 m c) (a7 m c)),
    fun c => array (dbranch (a0 m c) (a3 m c) (a4 m c) (a7 m c) 0),
    fun c => array (dbranch (a0 m c) (a3 m c) (a4 m c) (a7 m c) 1),
    fun c => array (dout (a0 m c) (a3 m c) (a4 m c) (a5 m c) (a7 m c) 0),
    fun c => array (dout (a0 m c) (a3 m c) (a4 m c) (a6 m c) (a7 m c) 1),
    fun c => array (n := 1) (w := 2048) fun _ l => ∑ r, dgl (a0 m c) (a1 m c) (a2 m c) (a3 m c) (a4 m c) (a5 m c) (a6 m c) (a7 m c) r l, ?_, ?_⟩
  · refine (θ_run _ _ _).mono (fun _ h c => ?_) (Cert.PostBwdIdeal.Value.run_blocks m g)
    obtain ⟨e0, e1, e2, e3, e4, e5, e⟩ := h c
    exact ⟨e0.trans (final_gl m c), e1.trans (final_f m c), e2.trans (final_m m c), e3.trans (final_of m c), e4.trans (final_om m c), e5.trans (final_bg m c), e⟩
  · refine (θ_run _ _ _).mono (fun _ h c => ?_) (Cert.PostBwdRefIdeal.Value.run m' g')
    obtain ⟨e0, e1, e2, e3, e4, e5, e⟩ := h c
    obtain ⟨q0, q1, q2, q3, q4, q5, q6, q7⟩ := hag c
    rw [Cert.PostBwdRefIdeal.Read.val_main_v30_eq, q0, q1, q2, q3, q4, q5, q6, q7] at e0
    rw [Cert.PostBwdRefIdeal.Read.val_main_v31_eq, q0, q3, q4, q7] at e1
    rw [Cert.PostBwdRefIdeal.Read.val_main_v32_eq, q0, q3, q4, q7] at e2
    rw [Cert.PostBwdRefIdeal.Read.val_main_v33_eq, q0, q3, q4, q5, q7] at e3
    rw [Cert.PostBwdRefIdeal.Read.val_main_v34_eq, q0, q3, q4, q6, q7] at e4
    rw [Cert.PostBwdRefIdeal.Read.val_main_v27_eq, q0, q1, q2, q3, q4, q5, q6, q7] at e5
    exact ⟨e0.trans (ref_gl ..), e1.trans (ref_f ..), e2.trans (ref_m ..), e3.trans (ref_of ..), e4.trans (ref_om ..), e5.trans (ref_bg ..), e⟩

end Cert.PostClaim

end
-- ==== Proof.Attn.lean ====
/- Attention over one block of query rows, its forward and its gradients: the kernels' vectors at any number of rows and
   keys, and what they hold when every operand is finite. -/
module

public import Idealize.ShloMosaic.Lib.Pipeline.ValueKit
public import Idealize.ShloMosaic.Lib.MatmulPlain
public import Idealize.ShloMosaic.Lib.ValueLayoutCasts
public import Idealize.ShloMosaic.Lib.IdealHost

@[expose] public section

set_option maxRecDepth 16384

noncomputable section

namespace Cert.Attn

open Idealize.ShloMosaic
open scoped BigOperators

/-- A matrix shape. -/
abbrev Sh (m n : ℕ) : Shape := ⟨2, ![m, n]⟩
/-- A vector shape. -/
abbrev Sh1 (n : ℕ) : Shape := ⟨1, ![n]⟩

/-! ## Reading the layout operations at an index -/

theorem col_apply {m n : ℕ} (x : FVec Ideal (Sh m 1) .f32) (h' : (Sh m 1).Broadcasts (Sh m n)) (r : Fin m) (j : Fin n) :
    broadcastTo (Sh m n) x h' (ix2 r j) = x (ix2 r 0) :=
  broadcastTo_apply x h' _ _ fun a => by
    match a with
    | ⟨0, _⟩ =>
      show r.val = if m = 1 then 0 else r.val
      split_ifs with h
      · have := r.isLt; omega
      · rfl
    | ⟨1, _⟩ => rfl

theorem cast_col {m : ℕ} (x : FVec Ideal (Sh1 m) .f32) (h : (Sh1 m).ShapeCasts (Sh m 1)) (r : Fin m) :
    shapeCast (Sh m 1) x h (ix2 r 0) = x (ix1 r) := ValueIdx.shapeCast_a_a1_apply x h r 0

theorem red_lift {m n : ℕ} (h : (Sh m n).Reduces [1] (Sh1 m)) (r : Fin m) (j : Fin n) : h.lift (ix1 r) j = ix2 r j := by
  funext a; apply Fin.ext
  match a with
  | ⟨0, _⟩ => rfl
  | ⟨1, _⟩ => rfl

theorem red_lift0 {m n : ℕ} (h : (Sh m n).Reduces [0] (Sh1 n)) (r : Fin m) (j : Fin n) : h.lift (ix1 j) r = ix2 r j := by
  funext a; apply Fin.ext
  match a with
  | ⟨0, _⟩ => rfl
  | ⟨1, _⟩ => rfl

/-- The dimension numbers of `[K, M]ᵀ × [K, N]`. -/
def dotTN (K M N : ℕ) : DotDims (Sh K M) (Sh K N) (Sh M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem matmul_tn_apply {K M N : ℕ} {φ₁ φ₂ : FTy} (lhs : FVec Ideal (Sh K M) φ₁) (rhs : FVec Ideal (Sh K N) φ₂)
    (acc : FVec Ideal (Sh M N) .f32) (r : Fin M) (c : Fin N) :
    matmul (dotTN K M N) none lhs rhs acc (ix2 r c) = acc (ix2 r c) + ∑ k : Fin K, lhs (ix2 k r) * rhs (ix2 k c) := by
  refine (Ideal.matmul_apply₁ (dotTN K M N) rfl (K := K) rfl lhs rhs acc _).trans ?_
  refine congrArg (acc (ix2 r c) + ·) (Finset.sum_congr rfl fun k _ => congrArg₂ (· * ·) (congrArg lhs ?_) (congrArg rhs ?_))
  · funext a; apply Fin.ext
    match a with
    | ⟨0, _⟩ => rfl
    | ⟨1, _⟩ => rfl
  · funext a; apply Fin.ext
    match a with
    | ⟨0, _⟩ => rfl
    | ⟨1, _⟩ => rfl

/-! ## Sums and quotients of finite values -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a position, before normalisation: the exponential of its score, zero where it is masked. -/
def wt (A : Prop) [Decidable A] (g : ℝ) : ℝ := if A then Real.exp g else 0

/-- The largest of scores that are `-∞` where masked is finite when one position is not masked. -/
theorem max_finite {n : ℕ} (s : Fin n → EReal) (A : Fin n → Prop) [DecidablePred A] (g : Fin n → ℝ)
    (hs : ∀ j, s j = if A j then (g j : EReal) else ⊥) (hA : ∃ j, A j) :
    ∃ M : ℝ, (Finset.univ : Finset (Fin n)).fold max ⊥ s = (M : EReal) := by
  obtain ⟨j0, hj0⟩ := hA
  obtain ⟨i, -, hi⟩ := Finset.exists_mem_eq_sup (Finset.univ : Finset (Fin n)) ⟨j0, Finset.mem_univ _⟩ s
  have hle : s j0 ≤ s i := hi ▸ Finset.le_sup (Finset.mem_univ j0)
  have hAi : A i := by
    by_contra hn
    rw [hs j0, if_pos hj0, hs i, if_neg hn, le_bot_iff] at hle
    exact EReal.coe_ne_bot _ hle
  exact ⟨g i, (show Finset.univ.sup s = _ from hi.trans ((hs i).trans (if_pos hAi)))⟩

/-- One position's shifted exponential. -/
theorem exp_shift (A : Prop) [Decidable A] (g M : ℝ) (x : EReal) (hx : x = if A then (g : EReal) else ⊥) :
    Ideal.exp (x - (M : EReal)) = ((wt A g * Real.exp (-M) : ℝ) : EReal) := by
  unfold wt
  rw [hx]
  split_ifs
  · rw [← EReal.coe_sub, Ideal.exp_coe, ← Real.exp_add, sub_eq_add_neg]
  · rw [EReal.bot_sub]; simp

theorem wt_nonneg (A : Prop) [Decidable A] (g : ℝ) : 0 ≤ wt A g := by
  unfold wt; split_ifs
  · exact (Real.exp_pos g).le
  · exact le_refl 0

theorem sum_wt_pos {n : ℕ} (A : Fin n → Prop) [DecidablePred A] (g : Fin n → ℝ) (hA : ∃ j, A j) : 0 < ∑ j, wt (A j) (g j) := by
  obtain ⟨j0, hj0⟩ := hA
  exact Finset.sum_pos' (fun j _ => wt_nonneg _ _) ⟨j0, Finset.mem_univ _, by rw [wt, if_pos hj0]; exact Real.exp_pos _⟩

/-- The shifted weights over their sum are the weights over their sum. -/
theorem quot_shift (w W M : ℝ) (hW : 0 < W) : (w * Real.exp (-M)) * (1 / (W * Real.exp (-M))) = w / W := by
  have := Real.exp_pos (-M)
  field_simp

/-! ## The kernels' vectors -/

/-- The side conditions of a block of `m` query rows and `n` keys. -/
structure Facts (m n : ℕ) : Prop where
  red1 : (Sh m n).Reduces [1] (Sh1 m)
  red0 : (Sh m n).Reduces [0] (Sh1 n)
  sc1 : (Sh1 m).ShapeCasts (Sh m 1)
  sc0 : (Sh1 n).ShapeCasts (Sh 1 n)
  bc1 : (Sh m 1).Broadcasts (Sh m n)

section Vectors
variable {m n : ℕ} (h : Facts m n)

/-- A row's maximum on every lane. -/
def maxV (s : FVec Ideal (Sh m n) .f32) : FVec Ideal (Sh m n) .f32 :=
  broadcastTo (Sh m n) (shapeCast (Sh m 1) (multiReduction .maximumf [1] (Sh1 m) s 0xFF800000#32 h.red1 (.inl rfl) rfl) h.sc1) h.bc1
/-- A row's sum, as a column. -/
def sumV (s : FVec Ideal (Sh m n) .f32) : FVec Ideal (Sh m 1) .f32 :=
  shapeCast (Sh m 1) (multiReduction .add [1] (Sh1 m) s 0x00000000#32 h.red1 (.inl rfl) rfl) h.sc1
/-- The exponentials of the scores less their row's maximum. -/
def pV (s : FVec Ideal (Sh m n) .f32) : FVec Ideal (Sh m n) .f32 := exp (subf s (maxV h s))
/-- One over a row's sum, as a column. -/
def invV (s : FVec Ideal (Sh m n) .f32) : FVec Ideal (Sh m 1) .f32 := divf (broadcast (Sh m 1) (Scalar.ofBits .f32 0x3F800000#32)) (sumV h s)
/-- The attention weights. -/
def pnV (s : FVec Ideal (Sh m n) .f32) : FVec Ideal (Sh m n) .f32 := mulf (pV h s) (broadcastTo (Sh m n) (invV h (pV h s)) h.bc1)
/-- The weights' cotangents. -/
def dpV (doe : FVec Ideal (Sh m 128) .bf16) (v : FVec Ideal (Sh n 128) .bf16) : FVec Ideal (Sh m n) .f32 :=
  matmul (DotDims.transposedRhs m 128 n) none doe v (constant (Sh m n) .f32 0x00000000#32)
/-- The scores' cotangents. -/
def dsV (s : FVec Ideal (Sh m n) .f32) (doe : FVec Ideal (Sh m 128) .bf16) (v : FVec Ideal (Sh n 128) .bf16) : FVec Ideal (Sh m n) .f32 :=
  mulf (pnV h s) (subf (dpV doe v) (broadcastTo (Sh m n) (sumV h (mulf (pnV h s) (dpV doe v))) h.bc1))
/-- The queries' gradients. -/
def dqV (sc : Ideal .f32) (s : FVec Ideal (Sh m n) .f32) (doe : FVec Ideal (Sh m 128) .bf16) (v ke : FVec Ideal (Sh n 128) .bf16) :
    FVec Ideal (Sh m 128) .f32 :=
  mulf (matmul (DotDims.plain m n 128) none (truncf .bf16 (dsV h s doe v) (by decide)) ke (constant (Sh m 128) .f32 0x00000000#32))
    (broadcast (Sh m 128) sc)
/-- What the block adds to the keys' gradients. -/
def dkV (sc : Ideal .f32) (s : FVec Ideal (Sh m n) .f32) (doe : FVec Ideal (Sh m 128) .bf16) (v : FVec Ideal (Sh n 128) .bf16)
    (qe : FVec Ideal (Sh m 128) .bf16) : FVec Ideal (Sh n 128) .f32 :=
  mulf (matmul (dotTN m n 128) none (truncf .bf16 (dsV h s doe v) (by decide)) qe (constant (Sh n 128) .f32 0x00000000#32))
    (broadcast (Sh n 128) sc)
/-- What the block adds to the values' gradients. -/
def dvV (s : FVec Ideal (Sh m n) .f32) (doe : FVec Ideal (Sh m 128) .bf16) : FVec Ideal (Sh n 128) .f32 :=
  matmul (dotTN m n 128) none (truncf .bf16 (pnV h s) (by decide)) doe (constant (Sh n 128) .f32 0x00000000#32)
/-- The scores' cotangents summed over the block's rows. -/
def dcV (s : FVec Ideal (Sh m n) .f32) (doe : FVec Ideal (Sh m 128) .bf16) (v : FVec Ideal (Sh n 128) .bf16) : FVec Ideal (Sh 1 n) .f32 :=
  shapeCast (Sh 1 n) (multiReduction .add [0] (Sh1 n) (dsV h s doe v) 0x00000000#32 h.red0 (.inl rfl) rfl) h.sc0

variable {h}

theorem maxV_apply (s : FVec Ideal (Sh m n) .f32) (r : Fin m) (j : Fin n) :
    maxV h s (ix2 r j) = (Finset.univ : Finset (Fin n)).fold max ⊥ fun k => s (ix2 r k) := by
  unfold maxV
  refine (col_apply _ _ r j).trans ((cast_col _ _ r).trans ((Ideal.multiReduction_maximumf_single s _ h.red1 _ _ (ix1 r)).trans ?_))
  have e : (FloatOps.ofBits .f32 0xFF800000#32 : Ideal .f32) = ⊥ := by
    show Ideal.ofBits .f32 0xFF800000#32 = ⊥
    simp [Ideal.ofBits, Ideal.ieee]
  rw [e]
  exact congrArg (Finset.univ.fold max (⊥ : EReal)) (funext fun k => congrArg s (red_lift h.red1 r k))

theorem sumV_apply (s : FVec Ideal (Sh m n) .f32) (r : Fin m) : sumV h s (ix2 r 0) = ∑ k : Fin n, s (ix2 r k) := by
  unfold sumV
  refine (cast_col _ _ r).trans ((Ideal.multiReduction_add_single s _ h.red1 _ _ (ix1 r)).trans ?_)
  exact Finset.sum_congr rfl fun k _ => congrArg s (red_lift h.red1 r k)

theorem dpV_apply (doe : FVec Ideal (Sh m 128) .bf16) (v : FVec Ideal (Sh n 128) .bf16) (r : Fin m) (j : Fin n) :
    dpV doe v (ix2 r j) = ∑ l : Fin 128, doe (ix2 r l) * v (ix2 j l) := by
  unfold dpV
  refine (Ideal.matmul_transposedRhs_apply none doe v _ r j).trans ?_
  exact (congrArg (· + _) Ideal.ofBits_zero_f32).trans (zero_add _)

end Vectors

/-! ## What the vectors hold when every operand is finite

Positions are natural numbers below 2176: 16 meta positions, 112 pads, 2048 positions. -/

/-- Position `i` attends to position `j`: `j` is not after `i` and is not a pad. -/
def Allowed (i j : ℕ) : Prop := j ≤ i ∧ (j < 16 ∨ 128 ≤ j)
instance (i j : ℕ) : Decidable (Allowed i j) := by unfold Allowed; infer_instance

/-- The unnormalised weights of scores `g`. -/
def W (g : ℕ → ℕ → ℝ) (i j : ℕ) : ℝ := wt (Allowed i j) (g i j)
/-- The attention weights of scores `g`. -/
def P (g : ℕ → ℕ → ℝ) (i j : ℕ) : ℝ := W g i j / ∑ k ∈ Finset.range 2176, W g i k
/-- The weights' cotangents. -/
def D (o v : ℕ → ℕ → ℝ) (i j : ℕ) : ℝ := ∑ l : Fin 128, o i l * v j l
/-- The scores' cotangents: the gradient of the softmax. -/
def S (g o v : ℕ → ℕ → ℝ) (i j : ℕ) : ℝ := P g i j * (D o v i j - ∑ k ∈ Finset.range 2176, P g i k * D o v i k)

theorem W_zero {g : ℕ → ℕ → ℝ} {i j : ℕ} (h : ¬ Allowed i j) : W g i j = 0 := if_neg h
theorem P_zero {g : ℕ → ℕ → ℝ} {i j : ℕ} (h : ¬ Allowed i j) : P g i j = 0 := by unfold P; rw [W_zero h, zero_div]
theorem S_zero {g o v : ℕ → ℕ → ℝ} {i j : ℕ} (h : ¬ Allowed i j) : S g o v i j = 0 := by unfold S; rw [P_zero h, zero_mul]

/-- A sum over all positions of what is zero past position `i` is the sum over the first `n`, `n` past `i`. -/
theorem sum_keys (n i : ℕ) (hn : n ≤ 2176) (hi : i < n) (F : ℕ → ℝ) (hF : ∀ j, ¬ Allowed i j → F j = 0) :
    ∑ j : Fin n, F j = ∑ j ∈ Finset.range 2176, F j := by
  rw [Fin.sum_univ_eq_sum_range (fun j => F j) n]
  refine Finset.sum_subset (fun x hx => ?_) fun x _ hx => hF x fun hA => hx ?_
  · exact Finset.mem_range.2 (lt_of_lt_of_le (Finset.mem_range.1 hx) hn)
  · exact Finset.mem_range.2 (lt_of_le_of_lt hA.1 hi)

section Meaning
variable {m n : ℕ} {h : Facts m n} (r0 : ℕ) (hr : n = r0 + m) (hn : n ≤ 2176)
  {g q k v o : ℕ → ℕ → ℝ}
  {s : FVec Ideal (Sh m n) .f32} {qe doe : FVec Ideal (Sh m 128) .bf16} {ke ve : FVec Ideal (Sh n 128) .bf16}

/-- The block's scores are `g` at its rows, `-∞` where masked. -/
def Scores (s : FVec Ideal (Sh m n) .f32) (g : ℕ → ℕ → ℝ) : Prop :=
  ∀ (r : Fin m) (j : Fin n), s (ix2 r j) = if Allowed (r0 + r) j then ((g (r0 + r) j : ℝ) : EReal) else ⊥
/-- A matrix holds the finite values of `f` from row `a` on. -/
def Holds {a b : ℕ} {φ : FTy} (r0 : ℕ) (x : FVec Ideal (Sh a b) φ) (f : ℕ → ℕ → ℝ) : Prop :=
  ∀ (r : Fin a) (l : Fin b), x (ix2 r l) = ((f (r0 + r) l : ℝ) : EReal)

include hr hn in
theorem pn_holds (hs : Scores r0 s g) : Holds r0 (pnV h s) (P g) := by
  intro r j
  have hi : r0 + (r : ℕ) < n := by have := r.isLt; omega
  obtain ⟨M, hM⟩ := max_finite (fun k => s (ix2 r k)) (fun k : Fin n => Allowed (r0 + r) k) (fun k => g (r0 + r) k) (hs r)
    ⟨⟨0, by omega⟩, by unfold Allowed; exact ⟨Nat.zero_le _, Or.inl (by norm_num)⟩⟩
  have hW : 0 < ∑ k : Fin n, W g (r0 + r) k :=
    sum_wt_pos _ _ ⟨⟨0, by omega⟩, by unfold Allowed; exact ⟨Nat.zero_le _, Or.inl (by norm_num)⟩⟩
  have hp : ∀ k : Fin n, pV h s (ix2 r k) = ((W g (r0 + r) k * Real.exp (-M) : ℝ) : EReal) := fun k => by
    show Ideal.exp (s (ix2 r k) - maxV h s (ix2 r k)) = _
    rw [maxV_apply, hM]
    exact exp_shift _ _ M _ (hs r k)
  have hl : sumV h (pV h s) (ix2 r 0) = (((∑ k : Fin n, W g (r0 + r) k) * Real.exp (-M) : ℝ) : EReal) := by
    rw [sumV_apply, Finset.sum_congr rfl fun k _ => hp k, ← coe_sum, Finset.sum_mul]
  show pV h s (ix2 r j) * broadcastTo (Sh m n) (invV h (pV h s)) h.bc1 (ix2 r j) = _
  rw [col_apply]
  show pV h s (ix2 r j) * Ideal.div (Ideal.ofBits .f32 0x3F800000#32) (sumV h (pV h s) (ix2 r 0)) = _
  have hy : (∑ k : Fin n, W g (r0 + r) k) * Real.exp (-M) ≠ 0 := (mul_pos hW (Real.exp_pos _)).ne'
  rw [hl, hp, Ideal.ofBits_one_f32, Ideal.div_coe hy, one_mul, ← EReal.coe_mul, quot_shift _ _ _ hW, P,
    ← sum_keys n (r0 + r) hn hi (W g (r0 + r)) fun j hj => W_zero hj]

theorem dp_holds (ho : Holds r0 doe o) (hv : Holds 0 ve v) : Holds r0 (dpV doe ve) (D o v) := by
  intro r j
  rw [dpV_apply, D, coe_sum]
  refine Finset.sum_congr rfl fun l _ => ?_
  rw [ho r l, hv j l, ← EReal.coe_mul, Nat.zero_add]

include hr hn in
theorem ds_holds (hs : Scores r0 s g) (ho : Holds r0 doe o) (hv : Holds 0 ve v) : Holds r0 (dsV h s doe ve) (S g o v) := by
  intro r j
  have hi : r0 + (r : ℕ) < n := by have := r.isLt; omega
  have hd : sumV h (mulf (pnV h s) (dpV doe ve)) (ix2 r 0) = ((∑ k ∈ Finset.range 2176, P g (r0 + r) k * D o v (r0 + r) k : ℝ) : EReal) := by
    rw [sumV_apply, ← sum_keys n (r0 + r) hn hi (fun k => P g (r0 + r) k * D o v (r0 + r) k) fun k hk => by rw [P_zero hk, zero_mul], coe_sum]
    refine Finset.sum_congr rfl fun k _ => ?_
    show pnV h s (ix2 r k) * dpV doe ve (ix2 r k) = _
    rw [pn_holds r0 hr hn hs r k, dp_holds r0 ho hv r k, ← EReal.coe_mul]
  show pnV h s (ix2 r j) * (dpV doe ve (ix2 r j) - broadcastTo (Sh m n) _ h.bc1 (ix2 r j)) = _
  rw [col_apply, hd, pn_holds r0 hr hn hs r j, dp_holds r0 ho hv r j, ← EReal.coe_sub, ← EReal.coe_mul]
  rfl

include hr hn in
theorem dq_holds {sc : ℝ} (hs : Scores r0 s g) (ho : Holds r0 doe o) (hv : Holds 0 ve v) (hk : Holds 0 ke k) :
    Holds r0 (dqV h (sc : EReal) s doe ve ke) fun i l => (∑ j ∈ Finset.range 2176, S g o v i j * k j l) * sc := by
  intro r l
  have hi : r0 + (r : ℕ) < n := by have := r.isLt; omega
  have hd : matmul (DotDims.plain m n 128) none (truncf .bf16 (dsV h s doe ve) (by decide)) ke (constant (Sh m 128) .f32 0x00000000#32) (ix2 r l)
      = ((∑ j ∈ Finset.range 2176, S g o v (r0 + r) j * k j l : ℝ) : EReal) := by
    refine (Ideal.matmul_plain_apply none _ ke _ r l).trans ((congrArg (· + _) Ideal.ofBits_zero_f32).trans ((zero_add _).trans ?_))
    rw [← sum_keys n (r0 + r) hn hi (fun j => S g o v (r0 + r) j * k j l) fun j hj => by rw [S_zero hj, zero_mul], coe_sum]
    refine Finset.sum_congr rfl fun j _ => ?_
    refine (congrArg₂ (· * ·) (ds_holds (h := h) r0 hr hn hs ho hv r j) (hk j l)).trans ?_
    rw [← EReal.coe_mul, Nat.zero_add]
  exact (congrArg (· * (sc : EReal)) hd).trans (EReal.coe_mul _ _).symm

include hr hn in
theorem dk_holds {sc : ℝ} (hs : Scores r0 s g) (ho : Holds r0 doe o) (hv : Holds 0 ve v) (hq : Holds r0 qe q) :
    Holds 0 (dkV h (sc : EReal) s doe ve qe) fun j l => (∑ r : Fin m, S g o v (r0 + r) j * q (r0 + r) l) * sc := by
  intro j l
  have hd : matmul (dotTN m n 128) none (truncf .bf16 (dsV h s doe ve) (by decide)) qe (constant (Sh n 128) .f32 0x00000000#32) (ix2 j l)
      = ((∑ r : Fin m, S g o v (r0 + r) j * q (r0 + r) l : ℝ) : EReal) := by
    refine (matmul_tn_apply _ qe _ j l).trans ((congrArg (· + _) Ideal.ofBits_zero_f32).trans ((zero_add _).trans ?_))
    rw [coe_sum]
    refine Finset.sum_congr rfl fun r _ => ?_
    refine (congrArg₂ (· * ·) (ds_holds (h := h) r0 hr hn hs ho hv r j) (hq r l)).trans ?_
    rw [← EReal.coe_mul]
  rw [Nat.zero_add]
  exact (congrArg (· * (sc : EReal)) hd).trans (EReal.coe_mul _ _).symm

include hr hn in
theorem dv_holds (hs : Scores r0 s g) (ho : Holds r0 doe o) :
    Holds 0 (dvV h s doe) fun j l => ∑ r : Fin m, P g (r0 + r) j * o (r0 + r) l := by
  intro j l
  refine (matmul_tn_apply _ doe _ j l).trans ((congrArg (· + _) Ideal.ofBits_zero_f32).trans ((zero_add _).trans ?_))
  rw [coe_sum, Nat.zero_add]
  refine Finset.sum_congr rfl fun r _ => ?_
  refine (congrArg₂ (· * ·) (pn_holds (h := h) r0 hr hn hs r j) (ho r l)).trans ?_
  rw [← EReal.coe_mul]

include hr hn in
theorem dc_holds (hs : Scores r0 s g) (ho : Holds r0 doe o) (hv : Holds 0 ve v) (j : Fin n) :
    dcV h s doe ve (ix2 0 j) = ((∑ r : Fin m, S g o v (r0 + r) j : ℝ) : EReal) := by
  refine (ValueIdx.shapeCast_a_1a_apply _ _ 0 j).trans ((Ideal.multiReduction_add_single _ _ h.red0 _ _ (ix1 j)).trans ?_)
  rw [coe_sum]
  exact Finset.sum_congr rfl fun r _ => (congrArg (dsV h s doe ve) (red_lift0 h.red0 r j)).trans (ds_holds (h := h) r0 hr hn hs ho hv r j)

end Meaning

end Cert.Attn
end
-- ==== Proof.AttnBlock.lean ====
/- Attention kernels over a sweep of query blocks: the masks of a block's scores, the loads of a block's operands, and the
   buffers a sweep accumulates into, each at any size. -/
module

public import proofs.«01_k».proof.Proof.Attn
public import Idealize.ShloMosaic.Lib.WordCmp
public import Idealize.ShloMosaic.Lib.Pipeline.ReadBack
public import Idealize.ShloMosaic.Lib.Pipeline.RowLoads

@[expose] public section

set_option maxRecDepth 16384

noncomputable section

namespace Cert.Attn

open Idealize.ShloMosaic
open scoped BigOperators

/-! ## Selects on a coordinate -/

theorem sel_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [h, Scalar.select]

theorem sel_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [h, Scalar.select]

theorem sel_ge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [show IntOp.cmpi .sge (BitVec.ofNat 32 a) (BitVec.ofNat 32 b) = IntOp.cmpi .sle (BitVec.ofNat 32 b) (BitVec.ofNat 32 a) from rfl]
  exact sel_le b a hb ha x y

theorem sel_and_le_lt {α : Type} (a b c d : ℕ) (ha : a < 2 ^ 31) (hb : b < 2 ^ 31) (hc : c < 2 ^ 31) (hd : d < 2 ^ 31) (x y : α) :
    Scalar.select (IntOp.andi (IntOp.cmpi .sle (BitVec.ofNat 32 a) (BitVec.ofNat 32 b)) (IntOp.cmpi .slt (BitVec.ofNat 32 c) (BitVec.ofNat 32 d))) x y
      = if a ≤ b ∧ c < d then x else y := by
  rw [WordCmp.cmpi_sle_ofNat ha hb, WordCmp.cmpi_slt_ofNat hc hd]
  by_cases h : a ≤ b <;> by_cases h' : c < d <;> simp [h, h', Scalar.select, IntOp.andi]

/-! ## The masks -/

section Masks
variable (neg : Ideal .f32)

/-- The mask of the first block, 128 rows and keys: causal, and the meta keys only. -/
def mask0 (s : FVec Ideal (Sh 128 128) .f32) (h0 : (Sh 128 128).Iotas .tc 32 [0]) (h1 : (Sh 128 128).Iotas .tc 32 [1]) : FVec Ideal (Sh 128 128) .f32 :=
  select (andi (cmpi .sle (iota .tc (Sh 128 128) 32 [1] h1) (iota .tc (Sh 128 128) 32 [0] h0))
    (cmpi .slt (iota .tc (Sh 128 128) 32 [1] h1) (broadcast (Sh 128 128) 16#32))) s (broadcast (Sh 128 128) neg)
/-- The first 128 keys of a later block: the meta keys only. -/
def headV {n : ℕ} (s : FVec Ideal (Sh 256 n) .f32) (hs : (Sh 256 n).Slices ![0, 0] (Sh 256 128)) (h1 : (Sh 256 128).Iotas .tc 32 [1]) :
    FVec Ideal (Sh 256 128) .f32 :=
  select (cmpi .slt (iota .tc (Sh 256 128) 32 [1] h1) (broadcast (Sh 256 128) 16#32)) (extractStridedSlice (Sh 256 128) ![0, 0] s hs)
    (broadcast (Sh 256 128) neg)
/-- The last 256 keys of a later block: causal. -/
def diagV {n : ℕ} (r0 : ℕ) (s : FVec Ideal (Sh 256 n) .f32) (hs : (Sh 256 n).Slices ![0, r0] (Sh 256 256)) (h0 : (Sh 256 256).Iotas .tc 32 [0])
    (h1 : (Sh 256 256).Iotas .tc 32 [1]) : FVec Ideal (Sh 256 256) .f32 :=
  select (cmpi .sle (iota .tc (Sh 256 256) 32 [1] h1) (iota .tc (Sh 256 256) 32 [0] h0)) (extractStridedSlice (Sh 256 256) ![0, r0] s hs)
    (broadcast (Sh 256 256) neg)
/-- The mask of the second block. -/
def mask1 (s : FVec Ideal (Sh 256 384) .f32) (hs : (Sh 256 384).Slices ![0, 0] (Sh 256 128)) (hd : (Sh 256 384).Slices ![0, 128] (Sh 256 256))
    (h0 : (Sh 256 256).Iotas .tc 32 [0]) (h1 : (Sh 256 128).Iotas .tc 32 [1]) (h2 : (Sh 256 256).Iotas .tc 32 [1]) (hc : Shape.Concatenates [Sh 256 128, Sh 256 256] (Sh 256 384) 1) : FVec Ideal (Sh 256 384) .f32 :=
  concatenate (Sh 256 384) 1 [⟨Sh 256 128, headV neg s hs h1⟩, ⟨Sh 256 256, diagV neg 128 s hd h0 h2⟩] hc
/-- The mask of a later block: its middle keys are open. -/
def maskN {n : ℕ} (r0 w : ℕ) (s : FVec Ideal (Sh 256 n) .f32) (hs : (Sh 256 n).Slices ![0, 0] (Sh 256 128)) (hd : (Sh 256 n).Slices ![0, r0] (Sh 256 256))
    (h0 : (Sh 256 256).Iotas .tc 32 [0]) (h1 : (Sh 256 128).Iotas .tc 32 [1]) (h2 : (Sh 256 256).Iotas .tc 32 [1]) (hm : (Sh 256 n).Slices ![0, 128] (Sh 256 w))
    (hc : Shape.Concatenates [Sh 256 128, Sh 256 w, Sh 256 256] (Sh 256 n) 1) : FVec Ideal (Sh 256 n) .f32 :=
  concatenate (Sh 256 n) 1 [⟨Sh 256 128, headV neg s hs h1⟩, ⟨Sh 256 w, extractStridedSlice (Sh 256 w) ![0, 128] s hm⟩,
    ⟨Sh 256 256, diagV neg r0 s hd h0 h2⟩] hc

/-- Scores before their mask. -/
def Raw {m n : ℕ} (r0 : ℕ) (s : FVec Ideal (Sh m n) .f32) (g : ℕ → ℕ → ℝ) : Prop :=
  ∀ (r : Fin m) (j : Fin n), s (ix2 r j) = ((g (r0 + r) j : ℝ) : EReal)

variable {neg} (hn : neg = (⊥ : EReal)) {g : ℕ → ℕ → ℝ}
include hn

theorem mask0_scores {s : FVec Ideal (Sh 128 128) .f32} {h0 h1} (hs : Raw 0 s g) : Scores 0 (mask0 neg s h0 h1) g := by
  subst hn
  intro r j
  have hr := r.isLt
  have hj := j.isLt
  show Scalar.select (IntOp.andi (IntOp.cmpi .sle (BitVec.ofNat 32 (0 * 128 + j)) (BitVec.ofNat 32 (0 * 128 + r)))
    (IntOp.cmpi .slt (BitVec.ofNat 32 (0 * 128 + j)) (BitVec.ofNat 32 16))) (s (ix2 r j)) (⊥ : EReal) = _
  rw [sel_and_le_lt _ _ _ _ (by omega) (by omega) (by omega) (by norm_num), hs r j]
  refine if_congr ?_ rfl rfl
  unfold Allowed
  omega

theorem headV_apply {n : ℕ} (r0 : ℕ) (hr0 : 128 ≤ r0) (hn' : 128 ≤ n) {s : FVec Ideal (Sh 256 n) .f32} {hs h1} (hg : Raw r0 s g) (r : Fin 256) (j : Fin 128) :
    headV neg s hs h1 (ix2 r j) = if Allowed (r0 + r) j then ((g (r0 + r) j : ℝ) : EReal) else ⊥ := by
  subst hn
  have hj := j.isLt
  show Scalar.select (IntOp.cmpi .slt (BitVec.ofNat 32 (0 * 128 + j)) (BitVec.ofNat 32 16)) (extractStridedSlice (Sh 256 128) ![0, 0] s hs (ix2 r j)) (⊥ : EReal) = _
  rw [sel_lt _ _ (by omega) (by norm_num), extractStridedSlice_apply _ s hs (ix2 r j) (ix2 r ⟨j, by omega⟩) fun a => by
    match a with
    | ⟨0, _⟩ => exact (Nat.zero_add _).symm
    | ⟨1, _⟩ => exact (Nat.zero_add _).symm]
  rw [hg]
  refine if_congr ?_ rfl rfl
  unfold Allowed
  omega

theorem diagV_apply {n : ℕ} (r0 : ℕ) (hr0 : 128 ≤ r0) (hn' : n = r0 + 256) {s : FVec Ideal (Sh 256 n) .f32} {hs h0 h1} (hg : Raw r0 s g) (r : Fin 256) (j : Fin 256) :
    diagV neg r0 s hs h0 h1 (ix2 r j) = if Allowed (r0 + r) (r0 + j) then ((g (r0 + r) (r0 + j) : ℝ) : EReal) else ⊥ := by
  subst hn
  have hj := j.isLt
  have hr := r.isLt
  show Scalar.select (IntOp.cmpi .sle (BitVec.ofNat 32 (0 * 256 + j)) (BitVec.ofNat 32 (0 * 256 + r)))
    (extractStridedSlice (Sh 256 256) ![0, r0] s hs (ix2 r j)) (⊥ : EReal) = _
  rw [sel_le _ _ (by omega) (by omega), extractStridedSlice_apply _ s hs (ix2 r j) (ix2 r ⟨r0 + j, by omega⟩) fun a => by
    match a with
    | ⟨0, _⟩ => exact (Nat.zero_add _).symm
    | ⟨1, _⟩ => rfl]
  rw [hg]
  refine if_congr ?_ rfl rfl
  unfold Allowed
  omega

theorem mask1_scores {s : FVec Ideal (Sh 256 384) .f32} {hs hd h0 h1 h2 hc} (hg : Raw 128 s g) : Scores 128 (mask1 neg s hs hd h0 h1 h2 hc) g := by
  intro r j
  by_cases hj : (j : ℕ) < 128
  · refine (concatenate_apply_piece _ _ _ (ix2 r j) 0 (by simp) (Sh 256 128) (headV neg s hs h1) rfl rfl 0 rfl (ix2 r ⟨j, hj⟩) (fun b hb => ?_) ?_).trans
      (headV_apply hn 128 le_rfl (by norm_num) hg r ⟨j, hj⟩)
    · match b with
      | ⟨0, _⟩ => rfl
      | ⟨1, _⟩ => exact absurd rfl hb
    · exact Nat.zero_add _
  · have hj' := j.isLt
    have e : 128 + ((j : ℕ) - 128) = j := by omega
    refine (concatenate_apply_piece _ _ _ (ix2 r j) 1 (by simp) (Sh 256 256) (diagV neg 128 s hd h0 h2) rfl rfl 128 rfl (ix2 r ⟨j - 128, by omega⟩) (fun b hb => ?_) ?_).trans
      ((diagV_apply hn 128 le_rfl rfl hg r ⟨j - 128, by omega⟩).trans (by simp only [e]))
    · match b with
      | ⟨0, _⟩ => rfl
      | ⟨1, _⟩ => exact absurd rfl hb
    · exact e

theorem maskN_scores {n : ℕ} (r0 w : ℕ) (hw : r0 = 128 + w) (hn' : n = r0 + 256) {s : FVec Ideal (Sh 256 n) .f32} {hs hd h0 h1 h2 hm hc} (hg : Raw r0 s g) :
    Scores r0 (maskN neg r0 w s hs hd h0 h1 h2 hm hc) g := by
  intro r j
  have hr := r.isLt
  by_cases hj : (j : ℕ) < 128
  · refine (concatenate_apply_piece _ _ _ (ix2 r j) 0 (by simp) (Sh 256 128) (headV neg s hs h1) rfl rfl 0 rfl (ix2 r ⟨j, hj⟩) (fun b hb => ?_) ?_).trans
      (headV_apply hn r0 (by omega) (by omega) hg r ⟨j, hj⟩)
    · match b with
      | ⟨0, _⟩ => rfl
      | ⟨1, _⟩ => exact absurd rfl hb
    · exact Nat.zero_add _
  have hj' := j.isLt
  by_cases hj2 : (j : ℕ) < r0
  · refine (concatenate_apply_piece _ _ _ (ix2 r j) 1 (by simp) (Sh 256 w) (extractStridedSlice (Sh 256 w) ![0, 128] s hm) rfl rfl 128 rfl (ix2 r ⟨j - 128, by omega⟩) (fun b hb => ?_) ?_).trans
      ((extractStridedSlice_apply _ s hm _ (ix2 r j) fun a => ?_).trans ((hg r j).trans (if_pos ?_).symm))
    · match b with
      | ⟨0, _⟩ => rfl
      | ⟨1, _⟩ => exact absurd rfl hb
    · show 128 + ((j : ℕ) - 128) = j; omega
    · match a with
      | ⟨0, _⟩ => exact (Nat.zero_add _).symm
      | ⟨1, _⟩ => show (j : ℕ) = 128 + ((j : ℕ) - 128); omega
    · unfold Allowed; omega
  · have e : r0 + ((j : ℕ) - r0) = j := by omega
    refine (concatenate_apply_piece _ _ _ (ix2 r j) 2 (by simp) (Sh 256 256) (diagV neg r0 s hd h0 h2) rfl rfl r0 ?_ (ix2 r ⟨j - r0, by omega⟩) (fun b hb => ?_) ?_).trans
      ((diagV_apply hn r0 (by omega) hn' hg r ⟨j - r0, by omega⟩).trans (by simp only [e]))
    · show 128 + (w + 0) = r0; omega
    · match b with
      | ⟨0, _⟩ => rfl
      | ⟨1, _⟩ => exact absurd rfl hb
    · exact e

end Masks

/-! ## The lanes of one head of a pair -/

section Lanes
variable {m : ℕ} {φ : FTy} (z : Ideal φ) (x : FVec Ideal (Sh m 128) φ) (h1 : (Sh m 128).Iotas .tc 32 [1])

/-- The first head's lanes. -/
def lane0 : FVec Ideal (Sh m 128) φ :=
  select (cmpi .slt (iota .tc (Sh m 128) 32 [1] h1) (broadcast (Sh m 128) 64#32)) x (broadcast (Sh m 128) z)
/-- The second head's lanes. -/
def lane1 : FVec Ideal (Sh m 128) φ :=
  select (cmpi .sge (iota .tc (Sh m 128) 32 [1] h1) (broadcast (Sh m 128) 64#32)) x (broadcast (Sh m 128) z)

/-- Head `e`'s lanes of a pair: below 64 for `e = 0`, from 64 on for `e = 1`. -/
def laneOf (e l : ℕ) : Prop := if e = 0 then l < 64 else 64 ≤ l
instance (e l : ℕ) : Decidable (laneOf e l) := by unfold laneOf; infer_instance

variable {z x h1} {f : ℕ → ℕ → ℝ} {r0 : ℕ} (hz : z = (0 : EReal)) (hx : Holds r0 x f)
include hz hx

theorem lane0_holds : Holds r0 (lane0 z x h1) fun i l => if laneOf 0 l then f i l else 0 := by
  intro r l
  have hl := l.isLt
  show Scalar.select (IntOp.cmpi .slt (BitVec.ofNat 32 (0 * 128 + l)) (BitVec.ofNat 32 64)) (x (ix2 r l)) z = _
  rw [sel_lt _ _ (by omega) (by norm_num), hx r l, hz, Nat.zero_mul, Nat.zero_add]
  by_cases h : (l : ℕ) < 64 <;> simp [h, laneOf]

theorem lane1_holds : Holds r0 (lane1 z x h1) fun i l => if laneOf 1 l then f i l else 0 := by
  intro r l
  have hl := l.isLt
  show Scalar.select (IntOp.cmpi .sge (BitVec.ofNat 32 (0 * 128 + l)) (BitVec.ofNat 32 64)) (x (ix2 r l)) z = _
  rw [sel_ge _ _ (by omega) (by norm_num), hx r l, hz, Nat.zero_mul, Nat.zero_add]
  by_cases h : 64 ≤ (l : ℕ) <;> simp [h, laneOf]

end Lanes

/-! ## Boxes of rows -/

/-- `m` rows from row `r`, 128 lanes from lane `c`, lie in an `[N, w]` buffer. -/
abbrev InBox (N w r c m : ℕ) : Prop := ∀ b : Fin (Sh N w).rank, (![r, c] : Fin (Sh N w).rank → ℕ) b + (Sh m 128).size b ≤ (Sh N w).size b
/-- Those rows and lanes. -/
abbrev Box (N w r c m : ℕ) (inb : InBox N w r c m) : Rect (Sh N w) := Rect.unit (s := Sh N w) ![r, c] (Sh m 128).size inb
/-- A one-row array of rank 3. -/
abbrev Sh3 (n : ℕ) : Shape := ⟨3, ![1, 1, n]⟩
/-- The first `n` lanes of it lie in it. -/
abbrev InBox1 (N n : ℕ) : Prop := ∀ b : Fin (Sh3 N).rank, (![0, 0, 0] : Fin (Sh3 N).rank → ℕ) b + (Sh3 n).size b ≤ (Sh3 N).size b
/-- Those lanes. -/
abbrev Box1 (N n : ℕ) (inb : InBox1 N n) : Rect (Sh3 N) := Rect.unit (s := Sh3 N) ![0, 0, 0] (Sh3 n).size inb

/-! ## Loads -/

/-- A load of `m` rows from row `r0`, 128 lanes from lane `c`, holds those of the buffer. -/
theorem load_holds {sig : RefSig} {κ : Kind} {sp : Space} {N w m c r0 : ℕ} (a : Memref sig κ sp (Sh N w) .bf16) (ha : a.IsWhole)
    (x : FVec Ideal (Sh N w) .bf16) (inb : InBox N w r0 c m) (hc : (Box N w r0 c m inb).toLoadRect.shape.ShapeCasts (Sh m 128)) {f : ℕ → ℕ → ℝ}
    (hx : Holds 0 x f) :
    Holds (φ := .bf16) r0 (shapeCast (Sh m 128) (View.readAt (Elt Ideal) a.view (Box N w r0 c m inb).toLoadRect (ha.unread x)) hc)
      fun i l => f i (c + l) := by
  intro r l
  refine (shapeCast_apply _ hc (ix2 r l) (ix2 r l) rfl).trans ?_
  have i0 := inb 0
  have i1 := inb 1
  have hr := r.isLt
  have hl := l.isLt
  rw [View.readAt_eq_ld, ha.read_unread]
  refine (congrArg x (?_ : _ = ix2 ⟨r0 + r, lt_of_lt_of_le (Nat.add_lt_add_left hr r0) i0⟩ ⟨c + l, lt_of_lt_of_le (Nat.add_lt_add_left hl c) i1⟩)).trans ((hx _ _).trans (by rw [Nat.zero_add]))
  funext b; apply Fin.ext
  match b with
  | ⟨0, _⟩ => show r0 + 1 * (r : ℕ) = r0 + r; omega
  | ⟨1, _⟩ => show c + 1 * (l : ℕ) = c + l; omega

/-! ## Accumulators: each step adds to a leading block of rows -/

theorem emb_full {s : Shape} {off : Fin s.rank → ℕ} (inb : ∀ a, off a + s.size a ≤ s.size a) (z : s.Idx) :
    (Rect.unit off s.size inb).emb z = z :=
  funext fun a => Fin.ext (by
    show off a + 1 * (z a : ℕ) = z a
    have := inb a; omega)

/-- The pieces written leave the finite values of `F`. -/
def Leaves {N w : ℕ} (L : List (View.Piece (Elt Ideal) (Sh N w) .f32)) (F : ℕ → ℕ → ℝ) : Prop :=
  ∀ (j : Fin N) (l : Fin w), View.canon L (ix2 j l) = ((F j l : ℝ) : EReal)

theorem leaves_fill {N w : ℕ} (z : Ideal .f32) (hz : z = (0 : EReal)) (inb) :
    Leaves (N := N) (w := w) [⟨Rect.unit ![0, 0] (Sh N w).size inb, broadcast (Sh N w) z⟩] fun _ _ => 0 := by
  intro j l
  refine (congrArg (View.canon _) (emb_full inb (ix2 j l)).symm).trans ((View.canon_cons_emb _ _ _ _).trans hz)

/-- One accumulation: the first `n` rows, 128 lanes from lane `c`, read back, `d` added. -/
def addStep {sig : RefSig} {κ : Kind} {sp : Space} {N w : ℕ} (v : View sig κ sp (Sh N w) .f32) (n c : ℕ) (inb : InBox N w 0 c n)
    (hc : (Box N w 0 c n inb).toLoadRect.shape.ShapeCasts (Sh n 128)) (d : FVec Ideal (Sh n 128) .f32)
    (L : List (View.Piece (Elt Ideal) (Sh N w) .f32)) : List (View.Piece (Elt Ideal) (Sh N w) .f32) :=
  ⟨Box N w 0 c n inb, addf (shapeCast (Sh n 128) (v.readCov L (Box N w 0 c n inb).toLoadRect) hc) d⟩ :: L

theorem leaves_add {sig : RefSig} {κ : Kind} {sp : Space} {N w : ℕ} (v : View sig κ sp (Sh N w) .f32) {n c : ℕ} {inb : InBox N w 0 c n} {hc : (Box N w 0 c n inb).toLoadRect.shape.ShapeCasts (Sh n 128)} {d : FVec Ideal (Sh n 128) .f32}
    {L : List (View.Piece (Elt Ideal) (Sh N w) .f32)} {F f : ℕ → ℕ → ℝ} (hL : Leaves L F) (hd : Holds 0 d f) :
    Leaves (addStep v n c inb hc d L) fun j l => F j l + if j < n ∧ c ≤ l ∧ l < c + 128 then f j (l - c) else 0 := by
  intro j l
  by_cases h : (j : ℕ) < n ∧ c ≤ l ∧ (l : ℕ) < c + 128
  · obtain ⟨hj, hl, hl'⟩ := h
    have he : (ix2 j l : (Sh N w).Idx) = (Box N w 0 c n inb).emb (ix2 (⟨j, hj⟩ : Fin n) (⟨l - c, by omega⟩ : Fin 128)) := by
      funext b; apply Fin.ext
      match b with
      | ⟨0, _⟩ => show (j : ℕ) = 0 + 1 * (j : ℕ); omega
      | ⟨1, _⟩ => show (l : ℕ) = c + 1 * ((l : ℕ) - c); omega
    refine (congrArg (View.canon _) he).trans ((View.canon_cons_emb _ _ _ _).trans ?_)
    show shapeCast (Sh n 128) _ hc _ + d _ = _
    rw [shapeCast_apply _ hc (ix2 _ _) (ix2 (⟨j, hj⟩ : Fin n) (⟨l - c, by omega⟩ : Fin 128)) rfl, View.readCov_eq_canon']
    refine (congrArg₂ (· + ·) ((congrArg (View.canon L) he.symm).trans (hL j l)) (hd ⟨j, hj⟩ ⟨l - c, by omega⟩)).trans ?_
    beta_reduce; rw [if_pos ⟨hj, hl, hl'⟩, Nat.zero_add, EReal.coe_add]
  · refine (View.canon_cons_of_not_mem _ _ fun hm => h ?_).trans ((hL j l).trans (by beta_reduce; rw [if_neg h, add_zero]))
    obtain ⟨i, hi, he⟩ := (LoadRect.mem_set _).mp hm (0 : Fin 2)
    obtain ⟨i', hi', he'⟩ := (LoadRect.mem_set _).mp hm (1 : Fin 2)
    have hi : i < n := hi
    have hi' : i' < 128 := hi'
    have he : (j : ℕ) = 0 + 1 * i := he
    have he' : (l : ℕ) = c + 1 * i' := he'
    omega

/-- The same of a buffer of one row. -/
def Leaves1 {N : ℕ} (L : List (View.Piece (Elt Ideal) (Sh3 N) .f32)) (F : ℕ → ℝ) : Prop :=
  ∀ j : Fin N, View.canon L (ix3 0 0 j) = ((F j : ℝ) : EReal)

theorem leaves1_fill {N : ℕ} (z : Ideal .f32) (hz : z = (0 : EReal)) (inb) :
    Leaves1 (N := N) [⟨Rect.unit ![0, 0, 0] (Sh3 N).size inb, broadcast (Sh3 N) z⟩] fun _ => 0 := by
  intro j
  refine (congrArg (View.canon _) (emb_full inb (ix3 0 0 j)).symm).trans ((View.canon_cons_emb _ _ _ _).trans hz)

/-- One subtraction from the first `n` lanes. -/
def subStep {sig : RefSig} {κ : Kind} {sp : Space} {N : ℕ} (v : View sig κ sp (Sh3 N) .f32) (n : ℕ) (inb : InBox1 N n)
    (hc : (Box1 N n inb).toLoadRect.shape.ShapeCasts (Sh 1 n)) (hc' : (Sh 1 n).ShapeCasts (Sh3 n))
    (d : FVec Ideal (Sh 1 n) .f32) (L : List (View.Piece (Elt Ideal) (Sh3 N) .f32)) : List (View.Piece (Elt Ideal) (Sh3 N) .f32) :=
  ⟨Box1 N n inb,
    shapeCast (Sh3 n) (subf (shapeCast (Sh 1 n) (v.readCov L (Box1 N n inb).toLoadRect) hc) d) hc'⟩ :: L

theorem leaves1_sub {sig : RefSig} {κ : Kind} {sp : Space} {N : ℕ} (v : View sig κ sp (Sh3 N) .f32) {n : ℕ} {inb : InBox1 N n} {hc : (Box1 N n inb).toLoadRect.shape.ShapeCasts (Sh 1 n)} {hc' : (Sh 1 n).ShapeCasts (Sh3 n)} {d : FVec Ideal (Sh 1 n) .f32}
    {L : List (View.Piece (Elt Ideal) (Sh3 N) .f32)} {F f : ℕ → ℝ} (hL : Leaves1 L F) (hd : ∀ j : Fin n, d (ix2 0 j) = ((f j : ℝ) : EReal)) :
    Leaves1 (subStep v n inb hc hc' d L) fun j => F j - if j < n then f j else 0 := by
  intro j
  by_cases hj : (j : ℕ) < n
  · have he : (ix3 0 0 j : (Sh3 N).Idx) = (Box1 N n inb).emb (ix3 0 0 (⟨j, hj⟩ : Fin n)) := by
      funext b; apply Fin.ext
      match b with
      | ⟨0, _⟩ => rfl
      | ⟨1, _⟩ => rfl
      | ⟨2, _⟩ => show (j : ℕ) = 0 + 1 * (j : ℕ); omega
    refine (congrArg (View.canon _) he).trans ((View.canon_cons_emb _ _ _ _).trans ?_)
    refine (shapeCast_apply _ hc' _ (ix2 0 (⟨j, hj⟩ : Fin n)) ?_).trans ?_
    · rw [Shape.rowMajor_val_two, Shape.rowMajor_val_three]; rfl
    show shapeCast (Sh 1 n) _ hc _ - d _ = _
    rw [shapeCast_apply _ hc (ix2 0 (⟨j, hj⟩ : Fin n)) (ix3 0 0 (⟨j, hj⟩ : Fin n)) (by rw [Shape.rowMajor_val_two, Shape.rowMajor_val_three]; rfl), View.readCov_eq_canon']
    refine (congrArg₂ (· - ·) ((congrArg (View.canon L) he.symm).trans (hL j)) (hd ⟨j, hj⟩)).trans ?_
    beta_reduce; rw [if_pos hj, EReal.coe_sub]
  · refine (View.canon_cons_of_not_mem _ _ fun hm => hj ?_).trans ((hL j).trans (by beta_reduce; rw [if_neg hj, sub_zero]))
    obtain ⟨i, hi, he⟩ := (LoadRect.mem_set _).mp hm (2 : Fin 3)
    have hi : i < n := hi
    have he : (j : ℕ) = 0 + 1 * i := he
    omega

end Cert.Attn
end
-- ==== Proof.AttnSweep.lean ====
/- The sweep of a backward attention kernel over its nine query blocks: the blocks' geometry, the buffers the sweep
   accumulates into, and what they hold at its end. -/
module

public import proofs.«01_k».proof.Proof.AttnBlock

@[expose] public section

set_option maxRecDepth 16384

noncomputable section

namespace Cert.Attn

open Idealize.ShloMosaic
open scoped BigOperators

/-! ## The blocks: 128 meta and pad rows, then eight blocks of 256 -/

/-- Block `k`'s rows. -/
def mOf : ℕ → ℕ
  | 0 => 128
  | _ + 1 => 256
/-- Block `k`'s first row. -/
def r0 : ℕ → ℕ
  | 0 => 0
  | k + 1 => 256 * k + 128
/-- Block `k`'s keys: those up to its last row. -/
def nOf (k : ℕ) : ℕ := r0 k + mOf k

theorem r0_succ (k : ℕ) : r0 (k + 1) = nOf k := by
  cases k with
  | zero => rfl
  | succ k => show 256 * (k + 1) + 128 = 256 * k + 128 + 256; omega
theorem r0_two (k : ℕ) : r0 (k + 2) = 256 * (k + 1) + 128 := rfl
theorem nOf_two (k : ℕ) : nOf (k + 2) = r0 (k + 2) + 256 := rfl
theorem nOf_le {k : ℕ} (hk : k < 9) : nOf k ≤ 2176 := by
  rw [← r0_succ]; show 256 * k + 128 ≤ 2176; omega

theorem facts (m n : ℕ) : Facts m n where
  red1 := ⟨rfl, Nat.one_pos, fun b => by match b with | ⟨0, _⟩ => rfl⟩
  red0 := ⟨rfl, Nat.one_pos, fun b => by match b with | ⟨0, _⟩ => rfl⟩
  sc1 := by unfold Shape.ShapeCasts; simp [Shape.numel, Fin.prod_univ_succ]
  sc0 := by unfold Shape.ShapeCasts; simp [Shape.numel, Fin.prod_univ_succ]
  bc1 := ⟨le_rfl, fun a => by
    match a with
    | ⟨0, _⟩ => exact Or.inr fun _ => rfl
    | ⟨1, _⟩ => exact Or.inl rfl⟩

theorem iotas (m n : ℕ) (d : Fin (Sh m n).rank) : (Sh m n).Iotas .tc 32 [d] :=
  ⟨List.nodup_singleton d, fun _ => ⟨Or.inr rfl, le_rfl⟩, fun h => absurd rfl h⟩

theorem slices {m n a b p q : ℕ} (h0 : p + a ≤ m) (h1 : q + b ≤ n) : (Sh m n).Slices ![p, q] (Sh a b) :=
  ⟨rfl, fun x => by
    match x with
    | ⟨0, _⟩ => exact h0
    | ⟨1, _⟩ => exact h1⟩

theorem concats1 : Shape.Concatenates [Sh 256 128, Sh 256 256] (Sh 256 384) 1 := by decide

theorem concatsN {w n : ℕ} (h : 128 + (w + 256) = n) : Shape.Concatenates [Sh 256 128, Sh 256 w, Sh 256 256] (Sh 256 n) 1 := by
  refine ⟨by simp, fun s hs => ?_, h⟩
  simp only [List.mem_cons, List.not_mem_nil, or_false] at hs
  rcases hs with rfl | rfl | rfl <;> exact ⟨rfl, fun b hb => by
    match b with
    | ⟨0, _⟩ => rfl
    | ⟨1, _⟩ => exact absurd rfl hb⟩

/-- Block `k`'s mask. -/
def maskK (neg : Ideal .f32) : (k : ℕ) → FVec Ideal (Sh (mOf k) (nOf k)) .f32 → FVec Ideal (Sh (mOf k) (nOf k)) .f32
  | 0, s => mask0 neg s (iotas _ _ _) (iotas _ _ _)
  | 1, s => mask1 neg s (slices (by norm_num) (by norm_num)) (slices (by norm_num) (by norm_num)) (iotas _ _ _) (iotas _ _ _) (iotas _ _ _) concats1
  | k + 2, s => maskN (n := nOf (k + 2)) neg (r0 (k + 2)) (256 * (k + 1)) s (slices (by norm_num) (by have := r0_two k; have := nOf_two k; omega)) (slices (by norm_num) (by have := r0_two k; have := nOf_two k; omega))
      (iotas _ _ _) (iotas _ _ _) (iotas _ _ _) (slices (by norm_num) (by have := r0_two k; have := nOf_two k; omega)) (concatsN (by have := r0_two k; have := nOf_two k; omega))

theorem maskK_scores {neg : Ideal .f32} (hn : neg = (⊥ : EReal)) (k : ℕ) {s : FVec Ideal (Sh (mOf k) (nOf k)) .f32} {g : ℕ → ℕ → ℝ} (hs : Raw (r0 k) s g) :
    Scores (r0 k) (maskK neg k s) g := by
  match k with
  | 0 => exact mask0_scores hn hs
  | 1 => exact mask1_scores hn hs
  | k + 2 => exact maskN_scores hn _ _ (by have := r0_two k; omega) rfl hs

theorem inBox {N w r c m : ℕ} (h0 : r + m ≤ N) (h1 : c + 128 ≤ w) : InBox N w r c m := fun b => by
  match b with
  | ⟨0, _⟩ => exact h0
  | ⟨1, _⟩ => exact h1
theorem inBox1 {N n : ℕ} (h : n ≤ N) : InBox1 N n := fun b => by
  match b with
  | ⟨0, _⟩ => exact le_rfl
  | ⟨1, _⟩ => exact le_rfl
  | ⟨2, _⟩ => show 0 + n ≤ N; omega
theorem cast1 (n : ℕ) : (Sh3 n).ShapeCasts (Sh 1 n) := by unfold Shape.ShapeCasts; simp [Shape.numel, Fin.prod_univ_succ]
theorem cast3 (n : ℕ) : (Sh 1 n).ShapeCasts (Sh3 n) := by unfold Shape.ShapeCasts; simp [Shape.numel, Fin.prod_univ_succ]
theorem fullBox (N w : ℕ) : ∀ a : Fin (Sh N w).rank, (![0, 0] : Fin (Sh N w).rank → ℕ) a + (Sh N w).size a ≤ (Sh N w).size a := fun b => by
  match b with
  | ⟨0, _⟩ => exact (Nat.zero_add _).le
  | ⟨1, _⟩ => exact (Nat.zero_add _).le
theorem fullBox1 (N : ℕ) : ∀ a : Fin (Sh3 N).rank, (![0, 0, 0] : Fin (Sh3 N).rank → ℕ) a + (Sh3 N).size a ≤ (Sh3 N).size a := fun b => by
  match b with
  | ⟨0, _⟩ => exact le_rfl
  | ⟨1, _⟩ => exact le_rfl
  | ⟨2, _⟩ => exact (Nat.zero_add _).le

/-! ## The sweep's accumulators -/

section Sweep
variable {sig : RefSig} {κ : Kind} {sp : Space} {w : ℕ}
  (s : ℕ → (k : ℕ) → FVec Ideal (Sh (mOf k) (nOf k)) .f32) (qe doe : ℕ → (k : ℕ) → FVec Ideal (Sh (mOf k) 128) .bf16)
  (ke ve : ℕ → (k : ℕ) → FVec Ideal (Sh (nOf k) 128) .bf16) (sc z : Ideal .f32)

/-- A buffer of rows the sweep adds `d e k` to, for block `k`'s two heads `e` in turn, head `e`'s lanes from `c e` on. -/
def addSweep (v : View sig κ sp (Sh 2176 w) .f32) (c : ℕ → ℕ) (hc : ∀ e, e < 2 → c e + 128 ≤ w)
    (d : ℕ → (k : ℕ) → FVec Ideal (Sh (nOf k) 128) .f32) : (K : ℕ) → K ≤ 9 → List (View.Piece (Elt Ideal) (Sh 2176 w) .f32)
  | 0, _ => [⟨Rect.unit ![0, 0] (Sh 2176 w).size (fullBox 2176 w), broadcast (Sh 2176 w) z⟩]
  | k + 1, h =>
    addStep v (nOf k) (c 1) (inBox (by have := nOf_le h; omega) (hc 1 (by norm_num))) rfl (d 1 k)
      (addStep v (nOf k) (c 0) (inBox (by have := nOf_le h; omega) (hc 0 (by norm_num))) rfl (d 0 k) (addSweep v c hc d k (by omega)))

/-- A one-row buffer the sweep subtracts `d k` from. -/
def subSweep (v : View sig κ sp (Sh3 2176) .f32) (d : (k : ℕ) → FVec Ideal (Sh 1 (nOf k)) .f32) :
    (K : ℕ) → K ≤ 9 → List (View.Piece (Elt Ideal) (Sh3 2176) .f32)
  | 0, _ => [⟨Rect.unit ![0, 0, 0] (Sh3 2176).size (fullBox1 2176), broadcast (Sh3 2176) z⟩]
  | k + 1, h => subStep v (nOf k) (inBox1 (nOf_le h)) (cast1 _) (cast3 _) (d k) (subSweep v d k (by omega))

variable {z} (hz : z = (0 : EReal))
include hz

/-- If block `k`'s part is the sum over its rows of `T e`, which is zero off the causal triangle, the sweep leaves the sum over all rows. -/
theorem addSweep_leaves (v : View sig κ sp (Sh 2176 w) .f32) {c : ℕ → ℕ} {hc : ∀ e, e < 2 → c e + 128 ≤ w}
    {d : ℕ → (k : ℕ) → FVec Ideal (Sh (nOf k) 128) .f32} {T : ℕ → ℕ → ℕ → ℕ → ℝ} (hT : ∀ e i j l, i < j → T e i j l = 0)
    (hd : ∀ e k, e < 2 → k < 9 → Holds 0 (d e k) fun j l => ∑ r : Fin (mOf k), T e (r0 k + r) j l) (K : ℕ) (hK : K ≤ 9) :
    Leaves (addSweep z v c hc d K hK) fun j l => ∑ e ∈ Finset.range 2, if c e ≤ l ∧ l < c e + 128 then ∑ i ∈ Finset.range (r0 K), T e i j (l - c e) else 0 := by
  induction K with
  | zero => exact fun j l => (leaves_fill z hz _ j l).trans (by simp [r0])
  | succ k ih =>
    intro j l
    refine (leaves_add v (leaves_add v (ih (by omega)) (hd 0 k (by norm_num) hK)) (hd 1 k (by norm_num) hK) j l).trans (congrArg _ ?_)
    have key : ∀ e, (if c e ≤ (l : ℕ) ∧ (l : ℕ) < c e + 128 then ∑ i ∈ Finset.range (r0 (k + 1)), T e i j (l - c e) else 0)
        = (if c e ≤ (l : ℕ) ∧ (l : ℕ) < c e + 128 then ∑ i ∈ Finset.range (r0 k), T e i j (l - c e) else 0)
          + if (j : ℕ) < nOf k ∧ c e ≤ l ∧ (l : ℕ) < c e + 128 then ∑ r : Fin (mOf k), T e (r0 k + r) j (l - c e) else 0 := fun e => by
      by_cases hl : c e ≤ (l : ℕ) ∧ (l : ℕ) < c e + 128
      · rw [if_pos hl, if_pos hl, r0_succ, nOf, Finset.sum_range_add, Fin.sum_univ_eq_sum_range (fun r => T e (r0 k + r) j (l - c e)) (mOf k)]
        by_cases hj : (j : ℕ) < r0 k + mOf k
        · rw [if_pos ⟨hj, hl⟩]
        · rw [if_neg fun h => hj h.1]
          refine congrArg _ (Finset.sum_eq_zero fun r hr => hT _ _ _ _ ?_)
          have := Finset.mem_range.1 hr
          omega
      · rw [if_neg hl, if_neg hl, if_neg fun h => hl h.2, add_zero]
    simp only [Finset.sum_range_succ, Finset.sum_range_zero, zero_add, key]
    ring

theorem subSweep_leaves (v : View sig κ sp (Sh3 2176) .f32) {d : (k : ℕ) → FVec Ideal (Sh 1 (nOf k)) .f32} {T : ℕ → ℕ → ℝ} (hT : ∀ i j, i < j → T i j = 0)
    (hd : ∀ k, k < 9 → ∀ j : Fin (nOf k), d k (ix2 0 j) = ((∑ r : Fin (mOf k), T (r0 k + r) j : ℝ) : EReal)) (K : ℕ) (hK : K ≤ 9) :
    Leaves1 (subSweep z v d K hK) fun j => -∑ i ∈ Finset.range (r0 K), T i j := by
  induction K with
  | zero => exact fun j => (leaves1_fill z hz _ j).trans (by simp [r0])
  | succ k ih =>
    intro j
    refine (leaves1_sub v (f := fun j => ∑ r : Fin (mOf k), T (r0 k + r) j) (ih (by omega)) (hd k hK) j).trans (congrArg _ ?_)
    beta_reduce
    rw [r0_succ, nOf, Finset.sum_range_add, Fin.sum_univ_eq_sum_range (fun r => T (r0 k + r) j) (mOf k), neg_add, ← sub_eq_add_neg]
    refine congrArg _ ?_
    by_cases hj : (j : ℕ) < r0 k + mOf k
    · rw [if_pos hj]
    · rw [if_neg hj]
      refine (Finset.sum_eq_zero fun r hr => hT _ _ ?_).symm
      have := Finset.mem_range.1 hr
      omega

end Sweep

/-! ## Buffers written a block of rows at a time -/

/-- A buffer block `k`'s step writes rows of: `d e k` at the lanes from `c e` on, for the heads below `E`. -/
def rowSweep {w : ℕ} (c : ℕ) (hc : c + 128 ≤ w) (d : (k : ℕ) → FVec Ideal (Sh (mOf k) 128) .f32) :
    (K : ℕ) → K ≤ 9 → List (View.Piece (Elt Ideal) (Sh 2176 w) .f32)
  | 0, _ => []
  | k + 1, h => ⟨Box 2176 w (r0 k) c (mOf k) (inBox (nOf_le h) hc), d k⟩ :: rowSweep c hc d k (by omega)

theorem rowSweep_apply {w c : ℕ} {hc : c + 128 ≤ w} {d : (k : ℕ) → FVec Ideal (Sh (mOf k) 128) .f32} {f : ℕ → ℕ → ℝ}
    (hd : ∀ k, k < 9 → Holds (r0 k) (d k) f) (K : ℕ) (hK : K ≤ 9) (j : Fin 2176) (hj : (j : ℕ) < r0 K) (l : Fin w) (hl : c ≤ l ∧ (l : ℕ) < c + 128) :
    View.canon (rowSweep c hc d K hK) (ix2 j l) = ((f j (l - c) : ℝ) : EReal) := by
  induction K with
  | zero => exact absurd hj (Nat.not_lt_zero _)
  | succ k ih =>
    rw [r0_succ] at hj
    by_cases h : (j : ℕ) < r0 k
    · refine (View.canon_cons_of_not_mem _ _ fun hm => ?_).trans (ih (by omega) h)
      obtain ⟨i, hi, he⟩ := (LoadRect.mem_set _).mp hm (0 : Fin 2)
      have he : (j : ℕ) = r0 k + 1 * i := he
      omega
    · have hj' : (j : ℕ) - r0 k < mOf k := by unfold nOf at hj; omega
      have he : (ix2 j l : (Sh 2176 w).Idx) = (Box 2176 w (r0 k) c (mOf k) (inBox (nOf_le hK) hc)).emb (ix2 (⟨j - r0 k, hj'⟩ : Fin (mOf k)) (⟨l - c, by omega⟩ : Fin 128)) := by
        funext b; apply Fin.ext
        match b with
        | ⟨0, _⟩ => show (j : ℕ) = r0 k + 1 * ((j : ℕ) - r0 k); omega
        | ⟨1, _⟩ => show (l : ℕ) = c + 1 * ((l : ℕ) - c); omega
      refine (congrArg (View.canon _) he).trans ((View.canon_cons_emb _ _ _ _).trans ((hd k hK _ _).trans ?_))
      rw [show r0 k + ((j : ℕ) - r0 k) = j by omega]

end Cert.Attn
end
-- ==== Proof.AttnTok.lean ====
/- Attention over the tokens themselves: what the kernels' padded positions come to, and what one row of the reference's
   softmax and of its gradient holds when every operand is finite. -/
module

public import proofs.«01_k».proof.Proof.AttnSweep

@[expose] public section

set_option maxRecDepth 16384

noncomputable section

namespace Cert.Attn

open Idealize.ShloMosaic
open scoped BigOperators

/-! ## Tokens and positions: 112 empty positions follow the first 16 tokens -/

/-- A token's position. -/
def pos (n : ℕ) : ℕ := if n < 16 then n else n + 112
/-- The position of an index in a padded sequence, back to its token. -/
def tokOf (p : ℕ) : ℕ := if p < 16 then p else p - 112
/-- A function of tokens, at positions: zero at the empty ones. -/
def pad {M : Type} [Zero M] (f : ℕ → M) (p : ℕ) : M := if 16 ≤ p ∧ p < 128 then 0 else f (tokOf p)

theorem tok_pos (n : ℕ) : tokOf (pos n) = n := by unfold tokOf pos; split_ifs <;> omega
theorem pos_lt {n : ℕ} (h : n < 2064) : pos n < 2176 := by unfold pos; split_ifs <;> omega
theorem pos_out (n : ℕ) : ¬(16 ≤ pos n ∧ pos n < 128) := by unfold pos; split_ifs <;> omega
theorem pad_pos {M : Type} [Zero M] (f : ℕ → M) (n : ℕ) : pad f (pos n) = f n := by
  unfold pad; rw [if_neg (pos_out n), tok_pos]
theorem pad_in {M : Type} [Zero M] (f : ℕ → M) {p : ℕ} (h : 16 ≤ p ∧ p < 128) : pad f p = 0 := if_pos h
theorem pos_or {p : ℕ} (hp : p < 2176) : (16 ≤ p ∧ p < 128) ∨ ∃ n : Fin 2064, p = pos n := by
  by_cases h : 16 ≤ p ∧ p < 128
  · exact Or.inl h
  · refine Or.inr ⟨⟨tokOf p, ?_⟩, ?_⟩
    · unfold tokOf; split_ifs <;> omega
    · show p = pos (tokOf p)
      unfold pos tokOf; split_ifs <;> omega
theorem allowed_pos (n m : ℕ) : Allowed (pos n) (pos m) ↔ m ≤ n := by
  unfold Allowed pos; split_ifs <;> omega
theorem pad_off {i p : ℕ} (h : 16 ≤ p ∧ p < 128) : ¬ Allowed i p := fun hA => by
  rcases hA.2 with h' | h' <;> omega

/-- A sum over positions that is zero at the empty ones is one over tokens. -/
theorem sum_pos {M : Type} [AddCommMonoid M] (f : ℕ → M) (hf : ∀ p, 16 ≤ p ∧ p < 128 → f p = 0) :
    ∑ p ∈ Finset.range 2176, f p = ∑ n : Fin 2064, f (pos n) := by
  rw [Fin.sum_univ_eq_sum_range (fun n => f (pos n)) 2064,
    ← Finset.sum_image (s := Finset.range 2064) (g := pos) (f := f) (fun a _ b _ h => by
      rw [← tok_pos a, ← tok_pos b]; exact congrArg tokOf h)]
  refine (Finset.sum_subset (fun p hp => ?_) fun p hp hn => ?_).symm
  · obtain ⟨n, hn, rfl⟩ := Finset.mem_image.1 hp
    exact Finset.mem_range.2 (pos_lt (Finset.mem_range.1 hn))
  · rcases pos_or (Finset.mem_range.1 hp) with h | ⟨n, rfl⟩
    · exact hf p h
    · exact absurd (Finset.mem_image.2 ⟨n.val, Finset.mem_range.2 n.isLt, rfl⟩) hn

/-- The packing of a token's values, opened: zero at the empty positions. -/
theorem pad_ifs {f : ℕ → ℝ} {X : Fin 2064 → EReal} (hX : ∀ n : Fin 2064, X n = ((f n : ℝ) : EReal)) {p : ℕ} (h0 : p < 16 → p < 2064)
    (h1 : ¬ p < 16 → ¬ p - 16 < 112 → 16 + (p - 16 - 112) < 2064) :
    (if h : p < 16 then X ⟨p, h0 h⟩ else if h' : p - 16 < 112 then 0 else X ⟨16 + (p - 16 - 112), h1 h h'⟩) = ((pad f p : ℝ) : EReal) := by
  unfold pad tokOf
  by_cases h : p < 16
  · rw [dif_pos h, if_neg (by omega), if_pos h, hX]
  · by_cases h' : p - 16 < 112
    · rw [dif_neg h, dif_pos h', if_pos (by omega), EReal.coe_zero]
    · rw [dif_neg h, dif_neg h', if_neg (by omega), if_neg h, hX]
      exact congrArg (fun n => ((f n : ℝ) : EReal)) (show 16 + (p - 16 - 112) = p - 112 by omega)

/-! ## The attention of the tokens -/

/-- The unnormalised causal weights. -/
def WT (g : ℕ → ℕ → ℝ) (n m : ℕ) : ℝ := wt (m ≤ n) (g n m)
/-- The causal softmax. -/
def PT (g : ℕ → ℕ → ℝ) (n m : ℕ) : ℝ := WT g n m / ∑ k : Fin 2064, WT g n k
/-- The scores' gradient, of the weights' gradient `d`. -/
def ST (g d : ℕ → ℕ → ℝ) (n m : ℕ) : ℝ := PT g n m * (d n m - ∑ k : Fin 2064, PT g n k * d n k)

theorem sumWT_pos (g : ℕ → ℕ → ℝ) {n : ℕ} (hn : n < 2064) : 0 < ∑ k : Fin 2064, WT g n k :=
  sum_wt_pos (fun k : Fin 2064 => k.val ≤ n) (fun k => g n k) ⟨⟨n, hn⟩, le_rfl⟩

theorem sum_PT (g : ℕ → ℕ → ℝ) {n : ℕ} (hn : n < 2064) : ∑ k : Fin 2064, PT g n k = 1 := by
  unfold PT
  rw [← Finset.sum_div, div_self (sumWT_pos g hn).ne']

/-- The gradients of one query's scores add to zero. -/
theorem sum_ST (g d : ℕ → ℕ → ℝ) {n : ℕ} (hn : n < 2064) : ∑ k : Fin 2064, ST g d n k = 0 := by
  unfold ST
  simp only [mul_sub]
  rw [Finset.sum_sub_distrib, ← Finset.sum_mul, sum_PT g hn, one_mul, sub_self]

section Positions
variable {g gT : ℕ → ℕ → ℝ} (hg : ∀ n m : Fin 2064, g (pos n) (pos m) = gT n m)
include hg

theorem W_pos (n m : Fin 2064) : W g (pos n) (pos m) = WT gT n m := by
  unfold W WT wt
  rw [hg]
  exact if_congr (allowed_pos n m) rfl rfl

theorem P_pos (n m : Fin 2064) : P g (pos n) (pos m) = PT gT n m := by
  unfold P PT
  rw [W_pos hg, sum_pos _ fun p h => W_zero (pad_off h)]
  exact congrArg _ (Finset.sum_congr rfl fun k _ => W_pos hg n k)

theorem S_pos {o v dT : ℕ → ℕ → ℝ} (hD : ∀ n m : Fin 2064, D o v (pos n) (pos m) = dT n m) (n m : Fin 2064) :
    S g o v (pos n) (pos m) = ST gT dT n m := by
  unfold S ST
  rw [P_pos hg, hD, sum_pos _ fun p h => by rw [P_zero (pad_off h), zero_mul]]
  exact congrArg (fun x => PT gT n m * (dT n m - x)) (Finset.sum_congr rfl fun k _ => by rw [P_pos hg, hD])

end Positions

theorem D_pad {o v : ℕ → ℕ → ℝ} {p : ℕ} (h : ∀ l, o p l = 0) (j : ℕ) : D o v p j = 0 := by
  unfold D; simp [h]
theorem S_pad {g o v : ℕ → ℕ → ℝ} {p : ℕ} (h : ∀ l, o p l = 0) (j : ℕ) : S g o v p j = 0 := by
  unfold S; simp [D_pad h]

/-! ## One row of the reference -/

/-- A real quotient. -/
theorem div_real {x y : EReal} {a b : ℝ} (hx : x = (a : EReal)) (hy : y = (b : EReal)) (hb : b ≠ 0) : Ideal.div x y = ((a / b : ℝ) : EReal) := by
  rw [hx, hy, Ideal.div_coe hb, ← EReal.coe_mul, mul_one_div]

section Row
variable {s : Fin 2064 → EReal} {g : ℕ → ℕ → ℝ} {n : ℕ} (hn : n < 2064)
  (hs : ∀ j : Fin 2064, s j = if j.val ≤ n then ((g n j : ℝ) : EReal) else ⊥)
include hn hs

/-- The exponentials of one row's masked scores less their maximum are its weights, scaled by one factor. -/
theorem row_exp : ∃ a : ℝ, 0 < a ∧ ∀ j : Fin 2064,
    Ideal.exp (s j - max ⊥ ((Finset.univ : Finset (Fin 2064)).fold max ⊥ s)) = ((WT g n j * a : ℝ) : EReal) := by
  obtain ⟨M, hM⟩ := max_finite s (fun j : Fin 2064 => j.val ≤ n) (fun j => g n j) hs ⟨⟨n, hn⟩, le_rfl⟩
  refine ⟨Real.exp (-M), Real.exp_pos _, fun j => ?_⟩
  rw [hM, max_eq_right bot_le]
  exact exp_shift _ _ M (s j) (hs j)

end Row

section Softmax
variable {e : Fin 2064 → EReal} {g : ℕ → ℕ → ℝ} {n : ℕ} {a : ℝ} (hn : n < 2064) (ha : 0 < a)
  (he : ∀ j : Fin 2064, e j = ((WT g n j * a : ℝ) : EReal))
include hn ha he

theorem row_sum : ∑ j, e j = (((∑ k : Fin 2064, WT g n k) * a : ℝ) : EReal) := by
  rw [Finset.sum_mul, coe_sum]
  exact Finset.sum_congr rfl fun j _ => he j

/-- Each over their sum: the softmax. -/
theorem row_P (j : Fin 2064) : Ideal.div (e j) (∑ k, e k) = ((PT g n j : ℝ) : EReal) := by
  have hW := sumWT_pos g hn
  refine (div_real (he j) (row_sum hn ha he) (mul_pos hW ha).ne').trans (congrArg _ ?_)
  unfold PT
  exact mul_div_mul_right _ _ ha.ne'

/-- The gradient of the softmax, as the reference writes it. -/
theorem row_S {d : Fin 2064 → EReal} {dT : ℕ → ℕ → ℝ} (hd : ∀ j : Fin 2064, d j = ((dT n j : ℝ) : EReal)) (j : Fin 2064) :
    (Ideal.div (d j) (∑ k, e k) + -(∑ k, d k * Ideal.div 1 ((∑ k, e k) * ∑ k, e k) * e k)) * e j
      = ((ST g dT n j : ℝ) : EReal) := by
  have hW := sumWT_pos g hn
  have hWa := mul_pos hW ha
  rw [row_sum hn ha he, div_real (hd j) rfl hWa.ne',
    show Ideal.div 1 ((((∑ k : Fin 2064, WT g n k) * a : ℝ) : EReal) * (((∑ k : Fin 2064, WT g n k) * a : ℝ) : EReal))
      = ((1 / (((∑ k : Fin 2064, WT g n k) * a) * ((∑ k : Fin 2064, WT g n k) * a)) : ℝ) : EReal) from
      div_real (by simp) (EReal.coe_mul _ _).symm (mul_pos hWa hWa).ne',
    show (∑ k, d k * ((1 / (((∑ k : Fin 2064, WT g n k) * a) * ((∑ k : Fin 2064, WT g n k) * a)) : ℝ) : EReal) * e k)
      = ((∑ k : Fin 2064, dT n k * (1 / (((∑ k : Fin 2064, WT g n k) * a) * ((∑ k : Fin 2064, WT g n k) * a))) * (WT g n k * a) : ℝ) : EReal) from
      (Finset.sum_congr rfl fun k _ => by rw [hd k, he k, ← EReal.coe_mul, ← EReal.coe_mul]).trans (coe_sum _ _).symm,
    he j, ← EReal.coe_neg, ← EReal.coe_add, ← EReal.coe_mul]
  refine congrArg _ ?_
  unfold ST
  have e1 : ∑ k : Fin 2064, PT g n k * dT n k = (∑ k : Fin 2064, dT n k * WT g n k) / ∑ k : Fin 2064, WT g n k := by
    rw [Finset.sum_div]
    exact Finset.sum_congr rfl fun k _ => by unfold PT; ring
  have e2 : ∑ k : Fin 2064, dT n k * (1 / (((∑ k : Fin 2064, WT g n k) * a) * ((∑ k : Fin 2064, WT g n k) * a))) * (WT g n k * a)
      = (∑ k : Fin 2064, dT n k * WT g n k) * (a / (((∑ k : Fin 2064, WT g n k) * a) * ((∑ k : Fin 2064, WT g n k) * a))) := by
    generalize (∑ k : Fin 2064, WT g n k) * a = w
    rw [Finset.sum_mul]
    exact Finset.sum_congr rfl fun k _ => by ring
  rw [e1, e2]
  unfold PT
  have hW' := hW.ne'
  have ha' := ha.ne'
  field_simp
  ring

end Softmax

/-- The scores' shape. -/
abbrev ShS : Shape := ⟨4, ![4, 8, 2064, 2064]⟩
/-- The rows' shape. -/
abbrev ShR : Shape := ⟨3, ![4, 8, 2064]⟩

theorem lift_keys (hr : ShS.Reduces [3] ShR) (b : Fin 4) (h : Fin 8) (i j : Fin 2064) : hr.lift (ix3 b h i) j = ix4 b h i j := by
  funext a; apply Fin.ext
  match a with
  | ⟨0, _⟩ => rfl
  | ⟨1, _⟩ => rfl
  | ⟨2, _⟩ => rfl
  | ⟨3, _⟩ => rfl

/-- The reference's row maximum. -/
theorem max_keys {u : Shape} (x : FVec Ideal ShS .f32) (z : FVec Ideal u .f32) (hz : ∀ i, z i = (⊥ : EReal)) (h' : ShS.ReducesTo [3] ShR) (hu : 0 < u.numel)
    (b : Fin 4) (h : Fin 8) (i : Fin 2064) :
    Host.reduce (FloatOps.maximumf (F := Ideal) (φ := .f32)) x z h' hu (ix3 b h i)
      = (Finset.univ : Finset (Fin 2064)).fold max (⊥ : EReal) fun j => x (ix4 b h i j) := by
  have hr : ShS.Reduces [3] ShR := by decide
  refine (Host.reduce_eq_fold_single (FloatOps.maximumf (F := Ideal) (φ := .f32)) x z h' hr hu (ix3 b h i)).trans ?_
  rw [hz, show x ∘ hr.lift (ix3 b h i) = fun j => x (ix4 b h i j) from funext fun j => congrArg x (lift_keys hr b h i j)]
  rfl

/-! ## A head's 64 lanes of a pair's 128 -/

theorem sum_half (f : ℕ → ℝ) {e : ℕ} (he : e < 2) : (∑ l : Fin 128, if laneOf e l then f l else 0) = ∑ d : Fin 64, f (64 * e + d) := by
  rw [Fin.sum_univ_eq_sum_range (fun l => if laneOf e l then f l else 0) 128, Fin.sum_univ_eq_sum_range (fun d => f (64 * e + d)) 64,
    show (128 : ℕ) = 64 + 64 from rfl, Finset.sum_range_add]
  rcases (by omega : e = 0 ∨ e = 1) with rfl | rfl
  · rw [Finset.sum_congr rfl fun l hl => if_pos (show laneOf 0 l from Finset.mem_range.1 hl),
      Finset.sum_eq_zero (s := Finset.range 64) (f := fun l => if laneOf 0 (64 + l) then f (64 + l) else 0)
        fun l _ => if_neg (show ¬ laneOf 0 (64 + l) from fun h => absurd (show 64 + l < 64 from h) (by omega)), add_zero]
    exact Finset.sum_congr rfl fun l _ => by rw [Nat.mul_zero, Nat.zero_add]
  · rw [Finset.sum_eq_zero (s := Finset.range 64) (f := fun l => if laneOf 1 l then f l else 0)
        fun l hl => if_neg (show ¬ laneOf 1 l from fun h => absurd (show 64 ≤ l from h) (by have := Finset.mem_range.1 hl; omega)), zero_add]
    exact Finset.sum_congr rfl fun l _ => by rw [if_pos (show laneOf 1 (64 + l) from (Nat.le_add_right 64 l : 64 ≤ 64 + l)), Nat.mul_one]

/-! ## The finite values of an array -/

/-- A rank-4 array's values, zero outside it. -/
def T {a b c d : ℕ} (x : FVec Ideal ⟨4, ![a, b, c, d]⟩ .f32) (i j k l : ℕ) : ℝ :=
  if h : i < a ∧ j < b ∧ k < c ∧ l < d then EReal.toReal (x (ix4 ⟨i, h.1⟩ ⟨j, h.2.1⟩ ⟨k, h.2.2.1⟩ ⟨l, h.2.2.2⟩)) else 0
/-- A rank-3 array's values, zero outside it. -/
def T3 {a b c : ℕ} (x : FVec Ideal ⟨3, ![a, b, c]⟩ .f32) (i j k : ℕ) : ℝ :=
  if h : i < a ∧ j < b ∧ k < c then EReal.toReal (x (ix3 ⟨i, h.1⟩ ⟨j, h.2.1⟩ ⟨k, h.2.2⟩)) else 0
/-- Every element is finite. -/
def Fin' {s : Shape} (x : FVec Ideal s .f32) : Prop := ∀ i, x i = ((EReal.toReal (x i) : ℝ) : EReal)

theorem T_eq {a b c d : ℕ} {x : FVec Ideal ⟨4, ![a, b, c, d]⟩ .f32} (hx : Fin' x) (i : Fin a) (j : Fin b) (k : Fin c) (l : Fin d) :
    x (ix4 i j k l) = ((T x i j k l : ℝ) : EReal) := by
  unfold T; rw [dif_pos ⟨i.isLt, j.isLt, k.isLt, l.isLt⟩]; exact hx _
theorem T3_eq {a b c : ℕ} {x : FVec Ideal ⟨3, ![a, b, c]⟩ .f32} (hx : Fin' x) (i : Fin a) (j : Fin b) (k : Fin c) :
    x (ix3 i j k) = ((T3 x i j k : ℝ) : EReal) := by
  unfold T3; rw [dif_pos ⟨i.isLt, j.isLt, k.isLt⟩]; exact hx _

end Cert.Attn

end
-- ==== Proof.Rms.lean ====
/- The gradient through a root-mean-square norm of 1024 lanes, as the kernels and as `jax.vjp` write it. -/
module

public import proofs.«01_k».proof.Proof.AttnTok
public import Idealize.ShloMosaic.Lib.Pipeline.ValueKit
public import Idealize.ShloMosaic.Lib.StableHlo.RunRead
public import Idealize.ShloMosaic.Lib.Claim

@[expose] public section

set_option maxRecDepth 16384

noncomputable section

namespace Cert.Rms

open Idealize.ShloMosaic

/-! ## Real values -/

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul _ _).symm⟩
theorem IsReal.add {x y : EReal} (hx : IsReal x) (hy : IsReal y) : IsReal (x + y) := by
  obtain ⟨a, rfl⟩ := hx; obtain ⟨b, rfl⟩ := hy; exact ⟨a + b, (EReal.coe_add _ _).symm⟩
theorem IsReal.sub {x y : EReal} (hx : IsReal x) (hy : IsReal y) : IsReal (x - y) := by
  obtain ⟨a, rfl⟩ := hx; obtain ⟨b, rfl⟩ := hy; exact ⟨a - b, (EReal.coe_sub _ _).symm⟩
theorem IsReal.sum {ι : Type*} {s : Finset ι} {f : ι → EReal} (h : ∀ i, IsReal (f i)) : IsReal (∑ i ∈ s, f i) := by
  choose g hg using h
  exact ⟨∑ i ∈ s, g i, (Finset.sum_congr rfl fun i _ => hg i).trans (Attn.coe_sum s g).symm⟩
theorem IsReal.logistic {x : EReal} (hx : IsReal x) : IsReal (Ideal.logistic x) := by
  obtain ⟨a, rfl⟩ := hx; exact ⟨_, Ideal.logistic_coe a⟩
theorem isReal_of_fin {s : Shape} {x : FVec Ideal s .f32} (h : Attn.Fin' x) (i : s.Idx) : IsReal (x i) := ⟨_, h i⟩

/-! ## The words of the constants -/

theorem word_1024 : Ideal.ofBits .f32 0x44800000#32 = ((1024 : ℝ) : EReal) := by
  simp [Ideal.ofBits, Ideal.ieee, -EReal.coe_mul]; norm_num
theorem word_inv : Ideal.ofBits .f32 0x3A800000#32 = ((1 / 1024 : ℝ) : EReal) := by
  simp [Ideal.ofBits, Ideal.ieee, -EReal.coe_mul]; norm_num
theorem word_neg : Ideal.ofBits .f32 0xBF000000#32 = ((-1 / 2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_eps : Ideal.ofBits .f32 0x358637BD#32 = ((8796093 / 2 ^ 43 : ℝ) : EReal) := by
  simp [Ideal.ofBits, Ideal.ieee, -EReal.coe_mul]; norm_num

/-! ## The norm -/

/-- One over the root mean square of a row, as the kernels write it. -/
def inv (x : Fin 1024 → EReal) : EReal := Ideal.rsqrt ((∑ k, x k * x k) * Ideal.ofBits .f32 0x3A800000#32 + Ideal.ofBits .f32 0x358637BD#32)

/-- The gradient of a row at lane `j`, as the kernels write it: `u` is the cotangent times the gain. -/
def grad (x u : Fin 1024 → EReal) (j : Fin 1024) : EReal :=
  inv x * (u j - x j * inv x * ((∑ k, u k * (x k * inv x)) * Ideal.ofBits .f32 0x3A800000#32))

/-- The mean square of a row plus the small constant, as the reference writes it. -/
def meanSq (x : Fin 1024 → EReal) : EReal := Ideal.div (∑ k, x k * x k) (Ideal.ofBits .f32 0x44800000#32) + Ideal.ofBits .f32 0x358637BD#32

/-- The cotangent that reaches the mean square's lanes, as the reference writes it. -/
def back (x u : Fin 1024 → EReal) : EReal :=
  Ideal.div ((∑ k, x k * u k) * (Ideal.ofBits .f32 0xBF000000#32 * Ideal.div (Ideal.rsqrt (meanSq x)) (meanSq x))) (Ideal.ofBits .f32 0x44800000#32)

theorem div_1024 (y : EReal) : Ideal.div y (Ideal.ofBits .f32 0x44800000#32) = y * Ideal.ofBits .f32 0x3A800000#32 := by
  rw [word_1024, word_inv, Ideal.div_coe (by norm_num)]

/-- Both write one norm, whatever the row holds. -/
theorem rsqrt_meanSq (x : Fin 1024 → EReal) : Ideal.rsqrt (meanSq x) = inv x := by
  rw [meanSq, div_1024, inv]

/-- The mean square of a real row, plus the small constant, is positive. -/
theorem meanSq_coe (x : Fin 1024 → ℝ) : ∃ s : ℝ, 0 < s ∧ meanSq (fun k => (x k : EReal)) = (s : EReal) := by
  refine ⟨(∑ k, x k * x k) * (1 / 1024) + 8796093 / 2 ^ 43, ?_, ?_⟩
  · have := Finset.sum_nonneg (s := Finset.univ) fun k (_ : k ∈ Finset.univ) => mul_self_nonneg (x k)
    positivity
  · simp only [meanSq, div_1024, word_inv, word_eps, ← EReal.coe_mul, ← Attn.coe_sum, ← EReal.coe_add]

theorem inv_real {x : Fin 1024 → EReal} (hx : ∀ k, IsReal (x k)) : IsReal (inv x) := by
  choose a ha using hx
  obtain rfl : x = fun k => (a k : EReal) := funext ha
  obtain ⟨s, hs, e⟩ := meanSq_coe a
  rw [← rsqrt_meanSq, e, Ideal.rsqrt_coe, if_neg hs.not_gt, if_neg hs.ne']
  exact ⟨_, rfl⟩

/-- For a real row and a real cotangent the two forms of the gradient are equal. -/
theorem grad_ref {x u : Fin 1024 → EReal} (hx : ∀ k, IsReal (x k)) (hu : ∀ k, IsReal (u k)) (j : Fin 1024) :
    u j * inv x + x j * back x u + back x u * x j = grad x u j := by
  choose a ha using hx
  choose b hb using hu
  obtain rfl : x = fun k => (a k : EReal) := funext ha
  obtain rfl : u = fun k => (b k : EReal) := funext hb
  obtain ⟨s, hs, e⟩ := meanSq_coe a
  have hi : inv (fun k => (a k : EReal)) = (((Real.sqrt s)⁻¹ : ℝ) : EReal) := by
    rw [← rsqrt_meanSq, e, Ideal.rsqrt_coe, if_neg hs.not_gt, if_neg hs.ne']
  rw [back, grad, rsqrt_meanSq, hi, e, Ideal.div_coe hs.ne', div_1024]
  simp only [word_inv, word_neg, ← EReal.coe_mul, ← Attn.coe_sum, ← EReal.coe_add, ← EReal.coe_sub]
  have hr : 1 / s = (Real.sqrt s)⁻¹ * (Real.sqrt s)⁻¹ := by
    rw [← mul_inv, Real.mul_self_sqrt hs.le, one_div]
  have hsum : ∑ k, b k * (a k * (Real.sqrt s)⁻¹) = (∑ k, a k * b k) * (Real.sqrt s)⁻¹ := by
    rw [Finset.sum_mul]; exact Finset.sum_congr rfl fun k _ => by ring
  rw [hr, hsum]
  congr 1; ring

/-- The reference adds the two parts to what is already there in this order. -/
theorem grad_ref' {x u : Fin 1024 → EReal} (hx : ∀ k, IsReal (x k)) (hu : ∀ k, IsReal (u k)) (j : Fin 1024) :
    u j * inv x + x j * (∑ _k : Fin 1, back x u) + (∑ _k : Fin 1, back x u) * x j = grad x u j := by
  rw [Fin.sum_univ_one]; exact grad_ref hx hu j

end Cert.Rms

end
-- ==== Proof.FfnValue.lean ====
/- The feed-forward's backward call: what its blocks hold and what each grid point leaves, as functions of the arguments. -/
module

public import proofs.«01_k».proof.Proof.Rms
public import proofs.«01_k».proof.Proof.Gen.FfnBwdIdeal.Value

@[expose] public section

set_option maxRecDepth 16384

noncomputable section

namespace Cert.FfnValue

open Idealize.ShloMosaic Idealize.ShloMosaic.TcCoe Idealize.SL.Sem Cert.FfnBwdIdeal Cert.FfnBwdIdeal.Gen

/-! ## The gradients, of the arguments -/

section Math
variable (x d : FVec Ideal S8704x1024 .f32) (n : FVec Ideal S1x1024 .f32) (w : FVec Ideal S1024x5632 .f32) (wd : FVec Ideal S2816x1024 .f32)

/-- A row of the hidden state. -/
def hid (r : Fin 8704) : Fin 1024 → EReal := fun k => x (ix2 r k)
/-- The row over its root mean square. -/
def unit (r : Fin 8704) (k : Fin 1024) : EReal := x (ix2 r k) * Rms.inv (hid x r)
/-- The norm's output. -/
def normed (r : Fin 8704) (k : Fin 1024) : EReal := unit x r k * n (ix2 0 k)
/-- The first product, gates and values side by side. -/
def pre (r : Fin 8704) (l : Fin 5632) : EReal := ∑ k, normed x n r k * w (ix2 k l)
/-- The lane of the first product of half `s` and lane `j`. -/
def side (s : Fin 2) (j : Fin 2816) : Fin 5632 := ⟨s.val * 2816 + j.val, by omega⟩
/-- The sigmoid of the gate. -/
def sig' (r : Fin 8704) (j : Fin 2816) : EReal := Ideal.logistic (pre x n w r (side 0 j))
/-- The gate through its nonlinearity. -/
def silu (r : Fin 8704) (j : Fin 2816) : EReal := pre x n w r (side 0 j) * sig' x n w r j
/-- The second product's input. -/
def act (r : Fin 8704) (j : Fin 2816) : EReal := silu x n w r j * pre x n w r (side 1 j)
/-- Its cotangent. -/
def dact (r : Fin 8704) (j : Fin 2816) : EReal := ∑ k, Ideal.ofBits .f32 0x3F000000#32 * d (ix2 r k) * wd (ix2 j k)
/-- The cotangent of the gate. -/
def dgate (r : Fin 8704) (j : Fin 2816) : EReal :=
  dact d wd r j * pre x n w r (side 1 j) * (sig' x n w r j * (1 + pre x n w r (side 0 j) * (1 - sig' x n w r j)))
/-- The cotangent of the value the gate multiplies. -/
def dval (r : Fin 8704) (j : Fin 2816) : EReal := dact d wd r j * silu x n w r j
/-- Both, side by side. -/
def dpre (r : Fin 8704) (l : Fin 5632) : EReal :=
  if h : l.val < 2816 then dgate x d n w wd r ⟨l.val, h⟩ else dval x d n w wd r ⟨l.val - 2816, by omega⟩
/-- The cotangent of the norm's output. -/
def dnormed (r : Fin 8704) (k : Fin 1024) : EReal :=
  ∑ j, dgate x d n w wd r j * w (ix2 k (side 0 j)) + ∑ j, dval x d n w wd r j * w (ix2 k (side 1 j))
/-- A row's part of the gain's gradient. -/
def dgain (r : Fin 8704) (k : Fin 1024) : EReal := dnormed x d n w wd r k * unit x r k
/-- The gradient of the hidden state: what passes by the feed-forward, and what passes through it. -/
def dhid (r : Fin 8704) (k : Fin 1024) : EReal :=
  d (ix2 r k) + Rms.grad (hid x r) (fun k => dnormed x d n w wd r k * n (ix2 0 k)) k

end Math

/-! ## The blocks at a grid point -/

variable (m : (ℓ : Loc nD τ sig) → Buf (Elt Ideal) ℓ)

/-- The five arguments. -/
abbrev a0 (c : Dev nD) : FVec Ideal S8704x1024 .f32 := m ((c : Thread nD τ).loc main_arg0)
abbrev a1 (c : Dev nD) : FVec Ideal S8704x1024 .f32 := m ((c : Thread nD τ).loc main_arg1)
abbrev a2 (c : Dev nD) : FVec Ideal S1x1024 .f32 := m ((c : Thread nD τ).loc main_arg2)
abbrev a3 (c : Dev nD) : FVec Ideal S1024x5632 .f32 := m ((c : Thread nD τ).loc main_arg3)
abbrev a4 (c : Dev nD) : FVec Ideal S2816x1024 .f32 := m ((c : Thread nD τ).loc main_arg4)

theorem idx : ∀ t : Fin cfg0.N, t.val < 34 ∧ win0_0.index t = ![t.val, 0] ∧ win0_1.index t = ![t.val, 0] ∧ win0_2.index t = ![0, 0] ∧ win0_3.index t = ![0, 0]
    ∧ win0_4.index t = ![0, 1] ∧ win0_5.index t = ![0, 0] ∧ win0_6.index t = ![t.val, 0] ∧ win0_7.index t = ![t.val, 0]
    ∧ win0_8.index t = ![t.val, 0] ∧ win0_9.index t = ![t.val, 0] ∧ win0_10.index t = ![0, 0] :=
  (by decide +kernel : ∀ t : Fin grid0.N, _)

/-- The array's row at row `p` of block `t`. -/
def row (t : Fin cfg0.N) (p : Fin 256) : Fin 8704 := ⟨t.val * 256 + p.val, by have := (idx t).1; omega⟩

section Blocks
variable (c : Dev nD) (t : Fin cfg0.N)

theorem blk0 (p : Fin 256) (l : Fin 1024) : iblk m c 0 t (ix2 p l) = a0 m c (ix2 (row t p) l) := by
  rw [row]; blk_ext [iblk, idx t]
theorem blk1 (p : Fin 256) (l : Fin 1024) : iblk m c 1 t (ix2 p l) = a1 m c (ix2 (row t p) l) := by
  rw [row]; blk_ext [iblk, idx t]
theorem blk2 (l : Fin 1024) : iblk m c 2 t (ix2 0 l) = a2 m c (ix2 0 l) := by
  blk_ext [iblk, idx t]
theorem blk3 (p : Fin 1024) (l : Fin 2816) : iblk m c 3 t (ix2 p l) = a3 m c (ix2 p (side 0 l)) := by
  have e : iblk m c 3 t (ix2 p l) = V m c main_v0 (ix2 p (side 0 l)) := by rw [side]; blk_ext [iblk, idx t]
  rw [e]; entry_read; rfl
theorem blk4 (p : Fin 1024) (l : Fin 2816) : iblk m c 4 t (ix2 p l) = a3 m c (ix2 p (side 1 l)) := by
  have e : iblk m c 4 t (ix2 p l) = V m c main_v0 (ix2 p (side 1 l)) := by rw [side]; blk_ext [iblk, idx t]
  rw [e]; entry_read; rfl
theorem blk5 (p : Fin 2816) (l : Fin 1024) : iblk m c 5 t (ix2 p l) = a4 m c (ix2 p l) := by
  have e : iblk m c 5 t (ix2 p l) = V m c main_v1 (ix2 p l) := by blk_ext [iblk, idx t]
  rw [e]; entry_read; rfl

/-! ## The values the body computes at a grid point -/

/-- The gate's and the value's product, the gate's sigmoid and nonlinearity, and the cotangent of the second product's input, as the body's blocks. -/
abbrev G := k0_pay6 (iblk m c 0 t) (iblk m c 2 t) (iblk m c 3 t)
abbrev Q := k0_pay7 (iblk m c 0 t) (iblk m c 2 t) (iblk m c 4 t)
abbrev S := k0_pay8 (iblk m c 0 t) (iblk m c 2 t) (iblk m c 3 t)
abbrev Z := k0_pay9 (iblk m c 0 t) (iblk m c 2 t) (iblk m c 3 t)
abbrev A := k0_pay10 (iblk m c 1 t) (iblk m c 5 t)

theorem at_inv (p : Fin 256) : k0_pay3 (iblk m c 0 t) (ix2 p 0) = Rms.inv (hid (a0 m c) (row t p)) := by
  pointwise [k0_pay3]
  simp only [blk0, Rms.inv, hid]
theorem at_unit (p : Fin 256) (k : Fin 1024) : k0_pay4 (iblk m c 0 t) (ix2 p k) = unit (a0 m c) (row t p) k := by
  pointwise [k0_pay4]
  simp only [blk0, at_inv, unit]
theorem at_normed (p : Fin 256) (k : Fin 1024) : k0_pay5 (iblk m c 0 t) (iblk m c 2 t) (ix2 p k) = normed (a0 m c) (a2 m c) (row t p) k := by
  pointwise [k0_pay5]
  simp only [at_unit, blk2, normed]
theorem at_g (p : Fin 256) (j : Fin 2816) : G m c t (ix2 p j) = pre (a0 m c) (a2 m c) (a3 m c) (row t p) (side 0 j) := by
  pointwise [k0_pay6]
  simp only [at_normed, blk3, pre]
theorem at_q (p : Fin 256) (j : Fin 2816) : Q m c t (ix2 p j) = pre (a0 m c) (a2 m c) (a3 m c) (row t p) (side 1 j) := by
  pointwise [k0_pay7]
  simp only [at_normed, blk4, pre]
theorem at_s (p : Fin 256) (j : Fin 2816) : S m c t (ix2 p j) = sig' (a0 m c) (a2 m c) (a3 m c) (row t p) j := by
  pointwise [k0_pay8]
  exact congrArg Ideal.logistic (at_g m c t p j)
theorem at_z (p : Fin 256) (j : Fin 2816) : Z m c t (ix2 p j) = silu (a0 m c) (a2 m c) (a3 m c) (row t p) j := by
  pointwise [k0_pay9]
  exact congrArg₂ (· * ·) (at_g m c t p j) (at_s m c t p j)
theorem at_a (p : Fin 256) (j : Fin 2816) : A m c t (ix2 p j) = dact (a1 m c) (a4 m c) (row t p) j := by
  pointwise [k0_pay10]
  simp only [blk1, blk5, dact]
theorem at_act (p : Fin 256) (j : Fin 2816) : k0_pay11 (Q m c t) (Z m c t) (ix2 p j) = act (a0 m c) (a2 m c) (a3 m c) (row t p) j := by
  pointwise [k0_pay11]
  exact congrArg₂ (· * ·) (at_z m c t p j) (at_q m c t p j)
theorem at_dg (p : Fin 256) (j : Fin 2816) : k0_pay12 (G m c t) (Q m c t) (S m c t) (A m c t) (ix2 p j)
    = dgate (a0 m c) (a1 m c) (a2 m c) (a3 m c) (a4 m c) (row t p) j := by
  rw [dgate, ← at_a, ← at_q, ← at_s, ← at_g]
  generalize G m c t = g, Q m c t = q, S m c t = s, A m c t = a
  pointwise [k0_pay12]
theorem at_dv (p : Fin 256) (j : Fin 2816) : k0_pay13 (Z m c t) (A m c t) (ix2 p j)
    = dval (a0 m c) (a1 m c) (a2 m c) (a3 m c) (a4 m c) (row t p) j := by
  rw [dval, ← at_a, ← at_z]
  generalize Z m c t = z, A m c t = a
  pointwise [k0_pay13]

/-- The cotangent of the norm's output, as the body's block. -/
abbrev U := k0_pay14 (G m c t) (Q m c t) (S m c t) (Z m c t) (A m c t) (iblk m c 3 t) (iblk m c 4 t)

theorem at_du (p : Fin 256) (k : Fin 1024) : U m c t (ix2 p k)
    = dnormed (a0 m c) (a1 m c) (a2 m c) (a3 m c) (a4 m c) (row t p) k := by
  rw [dnormed]
  simp only [← at_dg, ← at_dv, ← blk3 m c t, ← blk4 m c t]
  unfold U
  generalize G m c t = g, Q m c t = q, S m c t = s, Z m c t = z, A m c t = a
  pointwise [k0_pay14]
theorem at_dh (p : Fin 256) (k : Fin 1024) : k0_pay1 (k0_pay3 (iblk m c 0 t)) (k0_pay4 (iblk m c 0 t)) (U m c t) (iblk m c 1 t) (k0_pay16 (iblk m c 2 t)) (ix2 p k)
    = dhid (a0 m c) (a1 m c) (a2 m c) (a3 m c) (a4 m c) (row t p) k := by
  have hu := at_du m c t p
  generalize U m c t = u at hu
  pointwise [k0_pay1, k0_pay16]
  simp only [hu, at_inv, at_unit, blk1, blk2, dhid, Rms.grad]
  rfl
/-- A block's part of the gain's gradient is added to what the buffer held. -/
theorem at_dn (y : FVec Ideal S1x1024 .f32) (k : Fin 1024) :
    k0_pay15 (k0_pay4 (iblk m c 0 t)) (G m c t) (Q m c t) (S m c t) (Z m c t) (A m c t) (iblk m c 3 t) (iblk m c 4 t) y (ix2 0 k)
      = y (ix2 0 k) + ∑ p, dgain (a0 m c) (a1 m c) (a2 m c) (a3 m c) (a4 m c) (row t p) k := by
  simp only [dgain, ← at_du, ← at_unit]
  unfold U
  generalize G m c t = g, Q m c t = q, S m c t = s, Z m c t = z, A m c t = a
  pointwise [k0_pay15]

end Blocks

end Cert.FfnValue

end
-- ==== Proof.FfnLeft.lean ====
/- The feed-forward's backward call: what each grid point leaves in its result blocks. -/
module

public import proofs.«01_k».proof.Proof.FfnValue
public import proofs.«01_k».proof.Proof.Halves

@[expose] public section

set_option maxRecDepth 16384

noncomputable section

namespace Cert.FfnLeft

open Idealize.ShloMosaic Idealize.ShloMosaic.TcCoe Idealize.SL.Sem Cert.FfnBwdIdeal Cert.FfnBwdIdeal.Gen Cert.FfnValue Cert.Halves

variable (m : (ℓ : Loc nD τ sig) → Buf (Elt Ideal) ℓ) (c : Dev nD) (t : Fin cfg0.N)

theorem left_dh : (outsAt0 m c t.val t.isLt).1
    = k0_pay1 (k0_pay3 (iblk m c 0 t)) (k0_pay4 (iblk m c 0 t)) (U m c t) (iblk m c 1 t) (k0_pay16 (iblk m c 2 t)) := by
  by_cases h : t.val % 34 = 0
  · rw [outsAt0_A m c t h]
    frame_out
  · rw [outsAt0_B m c t h]
    frame_out
theorem left_u : (outsAt0 m c t.val t.isLt).2.1 = k0_pay5 (iblk m c 0 t) (iblk m c 2 t) := by
  by_cases h : t.val % 34 = 0
  · rw [outsAt0_A m c t h]
    frame_out
  · rw [outsAt0_B m c t h]
    frame_out
theorem left_a : (outsAt0 m c t.val t.isLt).2.2.1 = k0_pay11 (Q m c t) (Z m c t) := by
  by_cases h : t.val % 34 = 0
  · rw [outsAt0_A m c t h]
    frame_out
  · rw [outsAt0_B m c t h]
    frame_out

/-- The two halves of the first product's cotangent. -/
theorem left_dpre (p : Fin 256) (l : Fin 5632) : (outsAt0 m c t.val t.isLt).2.2.2.1 (ix2 p l)
    = dpre (a0 m c) (a1 m c) (a2 m c) (a3 m c) (a4 m c) (row t p) l := by
  have e : ∀ l : Fin 5632, View.canon (Val := Elt Ideal) (e := .bf16) [⟨Rect.unit ![0, 2816] ![256, 2816] inb_S256x5632_S256x2816_0_2816, k0_pay13 (Z m c t) (A m c t)⟩,
      ⟨Rect.unit ![0, 0] ![256, 2816] inb_S256x5632_S256x2816_0_0, k0_pay12 (G m c t) (Q m c t) (S m c t) (A m c t)⟩] (ix2 p l)
      = dpre (a0 m c) (a1 m c) (a2 m c) (a3 m c) (a4 m c) (row t p) l := by
    intro l
    rw [dpre]
    split
    · rename_i h
      exact (half_skip p (by omega)).trans ((half_hit p (j := ⟨l.val, h⟩) (by simp)).trans (at_dg m c t p _))
    · exact (half_hit p (j := ⟨l.val - 2816, by omega⟩) (by show l.val = 2816 + (l.val - 2816); omega)).trans (at_dv m c t p _)
  by_cases h : t.val % 34 = 0
  · rw [outsAt0_A m c t h]
    frame_out
    exact e l
  · rw [outsAt0_B m c t h]
    frame_out
    exact e l

/-- One grid point's part of the gain's gradient. -/
def part (l : Fin 1024) : EReal := ∑ p, dgain (a0 m c) (a1 m c) (a2 m c) (a3 m c) (a4 m c) (row t p) l

theorem gain_first (h : t.val % 34 = 0) (l : Fin 1024) : (outsAt0 m c t.val t.isLt).2.2.2.2 (ix2 0 l) = 0 + part m c t l := by
  rw [outsAt0_A m c t h]
  frame_out
  refine (at_dn m c t _ l).trans (congrArg (· + _) ?_)
  pointwise [k0_pay2]

theorem gain_next (h : ¬ t.val % 34 = 0) (l : Fin 1024) : (outsAt0 m c t.val t.isLt).2.2.2.2 (ix2 0 l)
    = (outsAt0 m c (t.val - 1) (Nat.lt_of_le_of_lt (Nat.sub_le _ _) t.isLt)).2.2.2.2 (ix2 0 l) + part m c t l := by
  rw [outsAt0_B m c t h]
  frame_out
  exact at_dn m c t _ l

end Cert.FfnLeft

end
-- ==== Proof.FfnFinal.lean ====
/- The feed-forward's backward call: its result arrays. -/
module

public import proofs.«01_k».proof.Proof.FfnLeft

@[expose] public section

set_option maxRecDepth 16384

noncomputable section

namespace Cert.FfnFinal

open Idealize.ShloMosaic Idealize.ShloMosaic.TcCoe Idealize.SL.Sem Cert.FfnBwdIdeal Cert.FfnBwdIdeal.Gen Cert.FfnValue Cert.FfnLeft Cert.Halves

variable (m : (ℓ : Loc nD τ sig) → Buf (Elt Ideal) ℓ) (c : Dev nD)

/-- The gradient of the hidden state. -/
theorem final_dh : (dats m 0 c).arrAt 6 cfg0.N = array (dhid (a0 m c) (a1 m c) (a2 m c) (a3 m c) (a4 m c)) := by
  refine (dats m 0 c).arrAt_eq_of_covers 6 _ (by decide +kernel) fun t hf y => ?_
  blk_simp
  rw [after0_6, left_dh]
  obtain ⟨p, l, rfl⟩ := ix2_of (n := 256) (w := 1024) y
  have he : ((cfg0.win 6).blk t).view.emb (ix2 p l) = ix2 (row t p) l := by rw [row]; blk_ext [idx t]
  rw [he]
  exact at_dh m c t p l

/-- The norm's output, saved for the weights' gradients. -/
theorem final_u : (dats m 0 c).arrAt 7 cfg0.N = array (normed (a0 m c) (a2 m c)) := by
  refine (dats m 0 c).arrAt_eq_of_covers 7 _ (by decide +kernel) fun t hf y => ?_
  blk_simp
  rw [after0_7, left_u]
  obtain ⟨p, l, rfl⟩ := ix2_of (n := 256) (w := 1024) y
  have he : ((cfg0.win 7).blk t).view.emb (ix2 p l) = ix2 (row t p) l := by rw [row]; blk_ext [idx t]
  rw [he]
  exact at_normed m c t p l

/-- The second product's input, saved likewise. -/
theorem final_a : (dats m 0 c).arrAt 8 cfg0.N = array (act (a0 m c) (a2 m c) (a3 m c)) := by
  refine (dats m 0 c).arrAt_eq_of_covers 8 _ (by decide +kernel) fun t hf y => ?_
  blk_simp
  rw [after0_8, left_a]
  obtain ⟨p, l, rfl⟩ := ix2_of (n := 256) (w := 2816) y
  have he : ((cfg0.win 8).blk t).view.emb (ix2 p l) = ix2 (row t p) l := by rw [row]; blk_ext [idx t]
  rw [he]
  exact at_act m c t p l

/-- The cotangent of the first product. -/
theorem final_dpre : (dats m 0 c).arrAt 9 cfg0.N = array (dpre (a0 m c) (a1 m c) (a2 m c) (a3 m c) (a4 m c)) := by
  refine (dats m 0 c).arrAt_eq_of_covers 9 _ (by decide +kernel) fun t hf y => ?_
  blk_simp
  rw [after0_9]
  obtain ⟨p, l, rfl⟩ := ix2_of (n := 256) (w := 5632) y
  have he : ((cfg0.win 9).blk t).view.emb (ix2 p l) = ix2 (row t p) l := by rw [row]; blk_ext [idx t]
  rw [he]
  exact left_dpre m c t p l

/-- The gradient of the gain: the rows' parts added up. -/
theorem final_dn : (dats m 0 c).arrAt 10 cfg0.N
    = array (n := 1) (w := 1024) fun _ l => ∑ r, dgain (a0 m c) (a1 m c) (a2 m c) (a3 m c) (a4 m c) r l := by
  refine (dats m 0 c).arrAt_eq_of_covers 10 _ (by decide +kernel) fun t hf y => ?_
  blk_simp
  rw [after0_10]
  obtain ⟨p, l, rfl⟩ := ix2_of (n := 1) (w := 1024) y
  obtain rfl : p = 0 := Subsingleton.elim _ _
  have he : ((cfg0.win 10).blk t).view.emb (ix2 0 l) = ix2 0 l := by blk_ext [idx t]
  rw [he, at_ix2]
  have hs := Pipeline.eq_sum_fin_of_reset_step_apply_of_flush (M := EReal) (fun n h l => (outsAt0 m c n h).2.2.2.2 (ix2 0 l)) 34 (fun _ => 0) (part m c)
    (gain_first m c) (gain_next m c) t ((flush0_10 t).mp hf) l
  refine hs.trans ((zero_add _).trans ?_)
  have ht : t.val / 34 = 0 := by have := (idx t).1; omega
  refine Fin.sum_mul_add_congr fun s k hl => ?_
  unfold row
  simp only [ht, Nat.mul_zero, Nat.zero_add]

end Cert.FfnFinal

end
-- ==== Proof.FfnRef.lean ====
/- The reference of the feed-forward's backward call, read at an index. -/
module

public import proofs.«01_k».proof.Proof.FfnFinal
public import proofs.«01_k».proof.Proof.Gen.FfnBwdRefIdeal.Read

@[expose] public section

set_option maxRecDepth 16384

noncomputable section

namespace Cert.FfnRef

open Idealize.ShloMosaic Idealize.ShloMosaic.TcCoe Idealize.SL.Sem Cert.FfnBwdIdeal Cert.FfnValue Cert.Halves Cert.Rms
open Cert.FfnBwdRefIdeal.Read

variable (x0 x1 : FVec Ideal S8704x1024 .f32) (x2 : FVec Ideal S1x1024 .f32) (x3 : FVec Ideal S1024x5632 .f32) (x4 : FVec Ideal S2816x1024 .f32)

/-! ## What holds of every extended real -/

theorem ref_inv (p : Fin 8704) : val_main_v7 (F := Ideal) x0 (ix2 p 0) = Rms.inv (hid x0 p) := by
  rw [← rsqrt_meanSq]
  pointwise [val_main_v7, val_main_v6, val_main_v5, val_main_cst_1, val_main_v4, val_main_v3, val_main_cst_0, val_main_v2, val_main_v1, val_main_v0, val_main_cst, meanSq, hid]
theorem ref_back (p : Fin 8704) : val_main_v10 (F := Ideal) x0 (ix2 p 0)
    = Ideal.ofBits .f32 0xBF000000#32 * Ideal.div (Ideal.rsqrt (meanSq (hid x0 p))) (meanSq (hid x0 p)) := by
  pointwise [val_main_v10, val_main_v9, val_main_cst_2, val_main_v8, val_main_v7, val_main_v6, val_main_v5, val_main_cst_1, val_main_v4, val_main_v3, val_main_cst_0, val_main_v2, val_main_v1, val_main_v0, val_main_cst, meanSq, hid]
theorem ref_unit (p : Fin 8704) (k : Fin 1024) : val_main_v12 (F := Ideal) x0 (ix2 p k) = unit x0 p k := by
  pointwise [val_main_v12, val_main_v11]
  rw [ref_inv, unit]
theorem ref_normed (p : Fin 8704) (k : Fin 1024) : val_main_v14 (F := Ideal) x0 x2 (ix2 p k) = normed x0 x2 p k := by
  pointwise [val_main_v14, val_main_v13]
  rw [ref_unit, normed]
theorem ref_pre (p : Fin 8704) (l : Fin 5632) : val_main_v15 (F := Ideal) x0 x2 x3 (ix2 p l) = pre x0 x2 x3 p l := by
  pointwise [val_main_v15]
  simp only [ref_normed, pre]
theorem ref_g (p : Fin 8704) (j : Fin 2816) : val_main_v16 (F := Ideal) x0 x2 x3 (ix2 p j) = pre x0 x2 x3 p (side 0 j) := by
  pointwise [val_main_v16]
  exact (ref_pre x0 x2 x3 p _).trans (congrArg _ (Fin.ext (by simp [side])))
theorem ref_q (p : Fin 8704) (j : Fin 2816) : val_main_v17 (F := Ideal) x0 x2 x3 (ix2 p j) = pre x0 x2 x3 p (side 1 j) := by
  pointwise [val_main_v17]
  exact (ref_pre x0 x2 x3 p _).trans (congrArg _ (Fin.ext (by simp [side])))
theorem ref_sig (p : Fin 8704) (j : Fin 2816) : val_main_v18_2 (F := Ideal) x0 x2 x3 (ix2 p j) = sig' x0 x2 x3 p j := by
  rw [sig', ← ref_g]
  pointwise [val_main_v18_2, val_main_call0_v4, val_main_call0_cst_0, val_main_call0_v3, val_main_call0_v2, val_main_call0_cst, val_main_call0_v1, val_main_call0_v0]
  rfl
theorem ref_silu (p : Fin 8704) (j : Fin 2816) : val_main_v18_0 (F := Ideal) x0 x2 x3 (ix2 p j) = silu x0 x2 x3 p j := by
  rw [silu, ← ref_g, ← ref_sig]
  pointwise [val_main_v18_0]
theorem ref_slope (p : Fin 8704) (j : Fin 2816) : val_main_v18_1 (F := Ideal) x0 x2 x3 (ix2 p j) = sig' x0 x2 x3 p j * (1 - sig' x0 x2 x3 p j) := by
  rw [← ref_sig]
  pointwise [val_main_v18_1, val_main_call0_v7, val_main_call0_v6, val_main_call0_cst_1]
theorem ref_act (p : Fin 8704) (j : Fin 2816) : val_main_v19 (F := Ideal) x0 x2 x3 (ix2 p j) = act x0 x2 x3 p j := by
  rw [act, ← ref_silu, ← ref_q]
  pointwise [val_main_v19]
theorem ref_u : val_main_v51 (F := Ideal) x0 x2 = array (normed x0 x2) := by
  funext y
  obtain ⟨p, l, rfl⟩ := ix2_of (n := 8704) (w := 1024) y
  exact ref_normed x0 x2 p l
theorem ref_a : val_main_v52 (F := Ideal) x0 x2 x3 = array (act x0 x2 x3) := by
  funext y
  obtain ⟨p, l, rfl⟩ := ix2_of (n := 8704) (w := 2816) y
  exact ref_act x0 x2 x3 p l
theorem ref_dact (p : Fin 8704) (j : Fin 2816) : val_main_v25 (F := Ideal) x1 x4 (ix2 p j) = dact x1 x4 p j := by
  pointwise [val_main_v25, val_main_v24, val_main_v23, val_main_cst_4, dact]

/-! ## What holds of real arguments -/

variable {x0 x1 x2 x3 x4}
variable (h0 : Attn.Fin' x0) (h1 : Attn.Fin' x1) (h2 : Attn.Fin' x2) (h3 : Attn.Fin' x3) (h4 : Attn.Fin' x4)

include h0 in
theorem real_unit (p : Fin 8704) (k : Fin 1024) : IsReal (unit x0 p k) := (isReal_of_fin h0 _).mul (inv_real fun _ => isReal_of_fin h0 _)
include h0 h2 h3 in
theorem real_pre (p : Fin 8704) (l : Fin 5632) : IsReal (pre x0 x2 x3 p l) :=
  IsReal.sum fun _ => ((real_unit h0 p _).mul (isReal_of_fin h2 _)).mul (isReal_of_fin h3 _)
include h1 h4 in
theorem real_dact (p : Fin 8704) (j : Fin 2816) : IsReal (dact x1 x4 p j) :=
  IsReal.sum fun _ => (IsReal.mul ⟨_, word_half⟩ (isReal_of_fin h1 _)).mul (isReal_of_fin h4 _)

/-- The two forms of the nonlinearity's derivative agree on reals. -/
theorem slope {a q g s : EReal} (ha : IsReal a) (hq : IsReal q) (hg : IsReal g) (hs : IsReal s) :
    a * q * s + g * (a * q) * (s * (1 - s)) = a * q * (s * (1 + g * (1 - s))) := by
  obtain ⟨a, rfl⟩ := ha; obtain ⟨q, rfl⟩ := hq; obtain ⟨g, rfl⟩ := hg; obtain ⟨s, rfl⟩ := hs
  simp only [← EReal.coe_one, ← EReal.coe_mul, ← EReal.coe_sub, ← EReal.coe_add]
  congr 1; ring

include h0 h1 h2 h3 h4

theorem ref_dgate (p : Fin 8704) (j : Fin 2816) : val_main_v28 (F := Ideal) x0 x1 x2 x3 x4 (ix2 p j) = dgate x0 x1 x2 x3 x4 p j := by
  pointwise [val_main_v28, val_main_call1_v2, val_main_call1_v1, val_main_call1_v0, val_main_v27]
  simp only [ref_dact, ref_q, ref_sig, ref_g, ref_slope]
  exact slope (real_dact h1 h4 p j) (real_pre h0 h2 h3 p _) (real_pre h0 h2 h3 p _) (real_pre h0 h2 h3 p _).logistic

theorem ref_dpre (p : Fin 8704) (l : Fin 5632) : val_main_v29 (F := Ideal) x0 x1 x2 x3 x4 (ix2 p l) = dpre x0 x1 x2 x3 x4 p l := by
  pointwise [val_main_v29]
  rw [dpre]
  by_cases h : l.val < 2816
  · rw [dif_pos h, dif_pos h]
    exact ref_dgate h0 h1 h2 h3 h4 p _
  · rw [dif_neg h, dif_neg h]
    pointwise [val_main_v26]
    rw [ref_silu, ref_dact, dval]
    exact mul_comm _ _

theorem ref_dp : val_main_v53 (F := Ideal) x0 x1 x2 x3 x4 = array (dpre x0 x1 x2 x3 x4) := by
  funext y
  obtain ⟨p, l, rfl⟩ := ix2_of (n := 8704) (w := 5632) y
  exact ref_dpre h0 h1 h2 h3 h4 p l

omit h0 h1 h2 h3 h4 in
/-- A sum over both halves' lanes. -/
theorem sum_side (f : Fin 5632 → EReal) : ∑ l, f l = ∑ j, f (side 0 j) + ∑ j, f (side 1 j) := by
  refine (Fin.sum_univ_add (a := 2816) (b := 2816) f).trans (congrArg₂ (· + ·) ?_ ?_) <;>
    exact Finset.sum_congr rfl fun j _ => congrArg f (Fin.ext (by simp [side, Nat.add_comm]))

theorem ref_dnormed (p : Fin 8704) (k : Fin 1024) : val_main_v30 (F := Ideal) x0 x1 x2 x3 x4 (ix2 p k) = dnormed x0 x1 x2 x3 x4 p k := by
  pointwise [val_main_v30]
  simp only [ref_dpre h0 h1 h2 h3 h4]
  rw [sum_side, dnormed]
  refine congrArg₂ (· + ·) (Finset.sum_congr rfl fun j _ => congrArg (· * _) ?_) (Finset.sum_congr rfl fun j _ => congrArg (· * _) ?_)
  · rw [dpre, dif_pos (by simp [side])]
    exact congrArg _ (Fin.ext (by simp [side]))
  · rw [dpre, dif_neg (by simp [side])]
    exact congrArg _ (Fin.ext (by simp [side]))

theorem real_dnormed (p : Fin 8704) (k : Fin 1024) : IsReal (dnormed x0 x1 x2 x3 x4 p k) := by
  have hone : IsReal 1 := ⟨1, rfl⟩
  have hs : ∀ j, IsReal (sig' x0 x2 x3 p j) := fun j => (real_pre h0 h2 h3 p _).logistic
  exact (IsReal.sum fun j => (((real_dact h1 h4 p j).mul (real_pre h0 h2 h3 p _)).mul ((hs j).mul (hone.add ((real_pre h0 h2 h3 p _).mul (hone.sub (hs j)))))).mul (isReal_of_fin h3 _)).add
    (IsReal.sum fun j => ((real_dact h1 h4 p j).mul ((real_pre h0 h2 h3 p _).mul (hs j))).mul (isReal_of_fin h3 _))

theorem ref_dn : val_main_v33 (F := Ideal) x0 x1 x2 x3 x4 = array (n := 1) (w := 1024) fun _ l => ∑ r, dgain x0 x1 x2 x3 x4 r l := by
  funext y
  obtain ⟨p, l, rfl⟩ := ix2_of (n := 1) (w := 1024) y
  rw [at_ix2]
  pointwise [val_main_v33, val_main_v32, val_main_v31, val_main_cst_5]
  refine Finset.sum_congr rfl fun r _ => ?_
  rw [ref_unit, ref_dnormed h0 h1 h2 h3 h4, dgain]
  exact mul_comm _ _

theorem ref_dh : val_main_v50 (F := Ideal) x0 x1 x2 x3 x4 = array (dhid x0 x1 x2 x3 x4) := by
  funext y
  obtain ⟨p, l, rfl⟩ := ix2_of (n := 8704) (w := 1024) y
  rw [at_ix2, dhid, ← grad_ref' (x := hid x0 p) (u := fun k => dnormed x0 x1 x2 x3 x4 p k * x2 (ix2 0 k)) (fun _ => isReal_of_fin h0 _) (fun k => (real_dnormed h0 h1 h2 h3 h4 p k).mul (isReal_of_fin h2 _)) l]
  pointwise [val_main_v50, val_main_v49, val_main_v48, val_main_v47, val_main_v46, val_main_v45, val_main_v44, val_main_v43, val_main_v42, val_main_v41, val_main_v40, val_main_v39, val_main_v38,
    val_main_v37, val_main_v36, val_main_v35, val_main_v34, val_main_cst_8, val_main_cst_7, val_main_cst_6]
  simp only [ref_dnormed h0 h1 h2 h3 h4, ref_inv, back, ← ref_back, Fin.sum_univ_one]
  rfl

end Cert.FfnRef

end
-- ==== Proof.AttnFinite.lean ====
/- What the certificate's precondition says of one argument: its entries are finite. -/
module

public import proofs.«01_k».proof.Proof.AttnTok

@[expose] public section

noncomputable section

namespace Cert.Attn

open Idealize.ShloMosaic

/-- An array whose entries all have a magnitude below `+∞` has finite entries. -/
theorem fin_of_lt {s : Shape} {x : FVec Ideal s .f32} (hb : _)
    (h : cmpf .olt (Host.absf x) (broadcastInDim s ![] hb (constant (F := Ideal) ⟨0, ![]⟩ .f32 0x7F800000#32)) = fun _ => 1#1) : Fin' x := by
  intro i
  have hi := congrFun h i
  have hlt : max (x i) (-(x i)) < (⊤ : EReal) := by
    by_contra hn
    have e : (constant (F := Ideal) ⟨0, ![]⟩ .f32 0x7F800000#32) = fun _ => (⊤ : EReal) := by
      funext j
      show Ideal.ofBits .f32 0x7F800000#32 = (⊤ : EReal)
      simp [Ideal.ofBits, Ideal.ieee]
    rw [e] at hi
    have : BitVec.ofBool (decide (max (x i) (-(x i)) < (⊤ : EReal))) = 1#1 := hi
    rw [decide_eq_false hn] at this
    exact absurd this (by decide)
  refine (EReal.coe_toReal (fun h => ?_) (fun h => ?_)).symm <;> simp [h] at hlt

end Cert.Attn

end
-- ==== Proof.FfnClaim.lean ====
/- The value claim of the feed-forward's backward call. -/
module

public import proofs.«01_k».proof.Defs
public import proofs.«01_k».proof.Proof.FfnRef
public import proofs.«01_k».proof.Proof.AttnFinite
public import proofs.«01_k».proof.Proof.Gen.Pre_finite_ffn
public import proofs.«01_k».proof.Proof.Gen.FfnBwdRefIdeal.Run

@[expose] public section

noncomputable section

namespace Cert.FfnClaim

open Idealize.ShloMosaic Idealize.SL.Sem Cert.FfnValue Cert.FfnFinal Cert.FfnRef Cert.Halves

/-- Under the precondition every argument is finite, on every device. -/
theorem finite (m : (ℓ : Loc Cert.FfnBwdIdeal.nD Cert.FfnBwdIdeal.τ Cert.FfnBwdIdeal.sig) → Buf (Elt Ideal) ℓ)
    (h : Cert.Pre_FfnBwdIdeal_finite_ffn (hPre_finite_ffn := Cert.Pre_finite_ffn.Gen.facts) m) (c : Dev Cert.FfnBwdIdeal.nD) :
    Attn.Fin' (a0 m c) ∧ Attn.Fin' (a1 m c) ∧ Attn.Fin' (a2 m c) ∧ Attn.Fin' (a3 m c) ∧ Attn.Fin' (a4 m c) := by
  obtain ⟨h0, h1, h2, h3, h4⟩ := h c
  exact ⟨Attn.fin_of_lt _ h0, Attn.fin_of_lt _ h1, Attn.fin_of_lt _ h2, Attn.fin_of_lt _ h3, Attn.fin_of_lt _ h4⟩

/-- Over the extended reals the call's five results and the reference's are the same functions of the five finite arguments. -/
theorem algebraic : Cert.algebraic_FfnBwdIdeal_FfnBwdRefIdeal_pre_finite_ffn (hFfnBwdIdeal := Cert.FfnBwdIdeal.Gen.facts)
    (hFfnBwdRefIdeal := Cert.FfnBwdRefIdeal.Gen.facts) (hPre_finite_ffn := Cert.Pre_finite_ffn.Gen.facts) := by
  intro m g m' g' hpre hag
  refine ⟨fun c => array (dhid (a0 m c) (a1 m c) (a2 m c) (a3 m c) (a4 m c)),
    fun c => array (normed (a0 m c) (a2 m c)),
    fun c => array (act (a0 m c) (a2 m c) (a3 m c)),
    fun c => array (dpre (a0 m c) (a1 m c) (a2 m c) (a3 m c) (a4 m c)),
    fun c => array (n := 1) (w := 1024) fun _ l => ∑ r, dgain (a0 m c) (a1 m c) (a2 m c) (a3 m c) (a4 m c) r l, ?_, ?_⟩
  · refine (θ_run _ _ _).mono (fun _ h c => ?_) (Cert.FfnBwdIdeal.Value.run_blocks m g)
    obtain ⟨e0, e1, e2, e3, e4, e⟩ := h c
    exact ⟨e0.trans (final_dh m c), e1.trans (final_u m c), e2.trans (final_a m c), e3.trans (final_dpre m c), e4.trans (final_dn m c), e⟩
  · refine (θ_run _ _ _).mono (fun _ h c => ?_) (Cert.FfnBwdRefIdeal.Value.run m' g')
    obtain ⟨h0, h1, h2, h3, h4⟩ := finite m hpre c
    obtain ⟨e0, e1, e2, e3, e4, e⟩ := h c
    obtain ⟨q0, q1, q2, q3, q4⟩ := hag c
    rw [Cert.FfnBwdRefIdeal.Read.val_main_v50_eq, q0, q1, q2, q3, q4] at e0
    rw [Cert.FfnBwdRefIdeal.Read.val_main_v51_eq, q0, q2] at e1
    rw [Cert.FfnBwdRefIdeal.Read.val_main_v52_eq, q0, q2, q3] at e2
    rw [Cert.FfnBwdRefIdeal.Read.val_main_v53_eq, q0, q1, q2, q3, q4] at e3
    rw [Cert.FfnBwdRefIdeal.Read.val_main_v33_eq, q0, q1, q2, q3, q4] at e4
    exact ⟨e0.trans (ref_dh h0 h1 h2 h3 h4), e1.trans (ref_u _ _), e2.trans (ref_a _ _ _), e3.trans (ref_dp h0 h1 h2 h3 h4), e4.trans (ref_dn h0 h1 h2 h3 h4), e⟩

end Cert.FfnClaim

end
-- ==== Proof.InprojPack.lean ====
/- The input product's columns as the call takes them: moved to lane boundaries, with empty columns between. -/
module

public import proofs.«01_k».proof.Proof.Gen.InprojBwdIdeal.Value
public import Idealize.ShloMosaic.Lib.Pipeline.ValueKit
public import Idealize.ShloMosaic.Lib.StableHlo.RunRead
public import Idealize.ShloMosaic.Lib.Claim

@[expose] public section

set_option maxRecDepth 16384

noncomputable section

namespace Cert.InprojPack

open Idealize.ShloMosaic Idealize.ShloMosaic.TcCoe Idealize.SL.Sem Cert.InprojBwdIdeal Cert.InprojBwdIdeal.Gen

/-- A row of 4008 columns as 4096 lanes. -/
def packed (f : Fin 4008 → EReal) (l : Fin 4096) : EReal :=
  if h : l.val < 1536 then f ⟨l.val, by omega⟩ else if h : l.val < 1920 then f ⟨l.val + 8, by omega⟩ else if l.val < 1984 then 0
  else if h : l.val < 2016 then f ⟨l.val - 56, by omega⟩ else if h : l.val < 2024 then f ⟨l.val - 480, by omega⟩ else if l.val < 2048 then 0
  else f ⟨l.val - 88, by omega⟩

/-- The lane a column goes to. -/
def place (k : Fin 4008) : Fin 4096 :=
  ⟨if k.val < 1536 then k.val else if k.val < 1544 then k.val + 480 else if k.val < 1928 then k.val - 8 else if k.val < 1960 then k.val + 56 else k.val + 88,
    by split_ifs <;> omega⟩

/-- The product of two packed rows is the packed product. -/
theorem packed_mul (f g : Fin 4008 → EReal) (l : Fin 4096) : packed f l * packed g l = packed (fun k => f k * g k) l := by
  unfold packed
  split_ifs <;> first | rfl | exact mul_zero _

/-- A lane no column goes to holds zero, and a column's lane holds it. -/
theorem packed_at (f : Fin 4008 → EReal) {k : Fin 4008} {l : Fin 4096} (h : l.val = (place k).val) : packed f l = f k := by
  have e : k.val < 1536 ∧ l.val = k.val ∨ 1536 ≤ k.val ∧ k.val < 1544 ∧ l.val = k.val + 480 ∨ 1544 ≤ k.val ∧ k.val < 1928 ∧ l.val = k.val - 8
      ∨ 1928 ≤ k.val ∧ k.val < 1960 ∧ l.val = k.val + 56 ∨ 1960 ≤ k.val ∧ l.val = k.val + 88 := by
    rw [h]; unfold place; dsimp only; split_ifs <;> omega
  clear h
  unfold packed
  split_ifs <;> first | exact congrArg f (Fin.ext (by show _ = k.val; dsimp only; omega)) | (exfalso; omega)
theorem packed_gap (f : Fin 4008 → EReal) {l : Fin 4096} (h : ∀ k, place k ≠ l) : packed f l = 0 := by
  have hv : ∀ k, (place k).val ≠ l.val := fun k e => h k (Fin.ext e)
  unfold packed
  split_ifs with h1 h2 h3 h4 h5 h6
  · exact absurd (by unfold place; dsimp only; split_ifs <;> omega) (hv ⟨l.val, by omega⟩)
  · exact absurd (by unfold place; dsimp only; split_ifs <;> omega) (hv ⟨l.val + 8, by omega⟩)
  · rfl
  · exact absurd (by unfold place; dsimp only; split_ifs <;> omega) (hv ⟨l.val - 56, by omega⟩)
  · exact absurd (by unfold place; dsimp only; split_ifs <;> omega) (hv ⟨l.val - 480, by omega⟩)
  · rfl
  · exact absurd (by unfold place; dsimp only; split_ifs <;> omega) (hv ⟨l.val - 88, by omega⟩)

/-- Packing keeps a row's sum. -/
theorem packed_sum (f : Fin 4008 → EReal) : ∑ l, packed f l = ∑ k, f k := by
  refine (Fintype.sum_of_injective place (fun a b e => ?_) f (packed f) (fun l hl => packed_gap f fun k e => hl ⟨k, e⟩) fun k => (packed_at f rfl).symm).symm
  have e' := congrArg Fin.val e
  unfold place at e'
  dsimp only at e'
  apply Fin.ext
  split_ifs at e' <;> omega

/-- The two halves of packed rows, multiplied and summed, are the rows' product. -/
theorem packed_dot (f g : Fin 4008 → EReal) :
    ∑ l : Fin 2048, packed f ⟨l.val, by omega⟩ * packed g ⟨l.val, by omega⟩ + ∑ l : Fin 2048, packed f ⟨2048 + l.val, by omega⟩ * packed g ⟨2048 + l.val, by omega⟩
      = ∑ k, f k * g k := by
  rw [← packed_sum fun k => f k * g k]
  simp only [← packed_mul]
  exact (Fin.sum_univ_add (a := 2048) (b := 2048) fun l => packed f l * packed g l).symm

/-- The weight, its columns packed. -/
def wide (x : FVec Ideal S1024x4008 .f32) : FVec Ideal S1024x4096 .bf16 :=
  concatenate S1024x4096 1 [⟨S1024x1536, extractStridedSlice S1024x1536 ![0, 0] x slices_S1024x4008_S1024x1536_0_0⟩,
    ⟨S1024x256, extractStridedSlice S1024x256 ![0, 1544] x slices_S1024x4008_S1024x256_0_1544⟩,
    ⟨S1024x128, extractStridedSlice S1024x128 ![0, 1800] x slices_S1024x4008_S1024x128_0_1800⟩,
    ⟨S1024x128, concatenate S1024x128 1 [⟨S1024x64, broadcastInDim S1024x64 ![] bcast_S_S1024x64 (constant (F := Ideal) S_ .bf16 0x0000#16)⟩,
      ⟨S1024x32, extractStridedSlice S1024x32 ![0, 1928] x slices_S1024x4008_S1024x32_0_1928⟩,
      ⟨S1024x8, extractStridedSlice S1024x8 ![0, 1536] x slices_S1024x4008_S1024x8_0_1536⟩,
      ⟨S1024x24, broadcastInDim S1024x24 ![] bcast_S_S1024x24 (constant (F := Ideal) S_ .bf16 0x0000#16)⟩] concatenates_S1024x64_S1024x32_S1024x8_S1024x24_S1024x128_d1⟩,
    ⟨S1024x2048, extractStridedSlice S1024x2048 ![0, 1960] x slices_S1024x4008_S1024x2048_0_1960⟩] concatenates_S1024x1536_S1024x256_S1024x128_S1024x128_S1024x2048_S1024x4096_d1

theorem wide_apply (x : FVec Ideal S1024x4008 .f32) (p : Fin 1024) (l : Fin 4096) : wide x (ix2 p l) = packed (fun k => x (ix2 p k)) l := by
  rw [packed]
  pointwise [wide]
  have fin : ∀ {j k : Fin 4008}, j.val = k.val → x (ix2 p j) = x (ix2 p k) := fun h => congrArg x (congrArg (ix2 p) (Fin.ext h))
  by_cases h1 : l.val < 1536
  · rw [dif_pos h1, dif_pos h1]
  rw [dif_neg h1, dif_neg h1]
  by_cases h2 : l.val - 1536 < 256
  · rw [dif_pos h2, dif_pos (by omega)]; exact fin (by simp; omega)
  rw [dif_neg h2]
  by_cases h3 : l.val - 1536 - 256 < 128
  · rw [dif_pos h3, dif_pos (by omega)]; exact fin (by simp; omega)
  rw [dif_neg h3, dif_neg (by omega : ¬ l.val < 1920)]
  by_cases h4 : l.val - 1536 - 256 - 128 < 128
  · rw [dif_pos h4]
    by_cases h5 : l.val - 1536 - 256 - 128 < 64
    · rw [dif_pos h5, if_pos (by omega)]
    rw [dif_neg h5, if_neg (by omega : ¬ l.val < 1984)]
    by_cases h6 : l.val - 1536 - 256 - 128 - 64 < 32
    · rw [dif_pos h6, dif_pos (by omega)]; exact fin (by simp; omega)
    rw [dif_neg h6, dif_neg (by omega : ¬ l.val < 2016)]
    by_cases h7 : l.val - 1536 - 256 - 128 - 64 - 32 < 8
    · rw [dif_pos h7, dif_pos (by omega)]; exact fin (by simp; omega)
    rw [dif_neg h7, dif_neg (by omega : ¬ l.val < 2024), if_pos (by omega)]
  rw [dif_neg h4, if_neg (by omega : ¬ l.val < 1984), dif_neg (by omega : ¬ l.val < 2016), dif_neg (by omega : ¬ l.val < 2024), if_neg (by omega : ¬ l.val < 2048)]
  exact fin (by simp; omega)

/-- The cotangent, its columns packed. -/
def wideRows (x : FVec Ideal S8704x4008 .f32) : FVec Ideal S8704x4096 .f32 :=
  concatenate S8704x4096 1 [⟨S8704x1536, extractStridedSlice S8704x1536 ![0, 0] x slices_S8704x4008_S8704x1536_0_0⟩,
    ⟨S8704x256, extractStridedSlice S8704x256 ![0, 1544] x slices_S8704x4008_S8704x256_0_1544⟩,
    ⟨S8704x128, extractStridedSlice S8704x128 ![0, 1800] x slices_S8704x4008_S8704x128_0_1800⟩,
    ⟨S8704x128, concatenate S8704x128 1 [⟨S8704x64, broadcastInDim S8704x64 ![] bcast_S_S8704x64 (constant (F := Ideal) S_ .f32 0x00000000#32)⟩,
      ⟨S8704x32, extractStridedSlice S8704x32 ![0, 1928] x slices_S8704x4008_S8704x32_0_1928⟩,
      ⟨S8704x8, extractStridedSlice S8704x8 ![0, 1536] x slices_S8704x4008_S8704x8_0_1536⟩,
      ⟨S8704x24, broadcastInDim S8704x24 ![] bcast_S_S8704x24 (constant (F := Ideal) S_ .f32 0x00000000#32)⟩] concatenates_S8704x64_S8704x32_S8704x8_S8704x24_S8704x128_d1⟩,
    ⟨S8704x2048, extractStridedSlice S8704x2048 ![0, 1960] x slices_S8704x4008_S8704x2048_0_1960⟩] concatenates_S8704x1536_S8704x256_S8704x128_S8704x128_S8704x2048_S8704x4096_d1

theorem wideRows_apply (x : FVec Ideal S8704x4008 .f32) (p : Fin 8704) (l : Fin 4096) : wideRows x (ix2 p l) = packed (fun k => x (ix2 p k)) l := by
  rw [packed]
  pointwise [wideRows]
  have fin : ∀ {j k : Fin 4008}, j.val = k.val → x (ix2 p j) = x (ix2 p k) := fun h => congrArg x (congrArg (ix2 p) (Fin.ext h))
  by_cases h1 : l.val < 1536
  · rw [dif_pos h1, dif_pos h1]
  rw [dif_neg h1, dif_neg h1]
  by_cases h2 : l.val - 1536 < 256
  · rw [dif_pos h2, dif_pos (by omega)]; exact fin (by simp; omega)
  rw [dif_neg h2]
  by_cases h3 : l.val - 1536 - 256 < 128
  · rw [dif_pos h3, dif_pos (by omega)]; exact fin (by simp; omega)
  rw [dif_neg h3, dif_neg (by omega : ¬ l.val < 1920)]
  by_cases h4 : l.val - 1536 - 256 - 128 < 128
  · rw [dif_pos h4]
    by_cases h5 : l.val - 1536 - 256 - 128 < 64
    · rw [dif_pos h5, if_pos (by omega)]
    rw [dif_neg h5, if_neg (by omega : ¬ l.val < 1984)]
    by_cases h6 : l.val - 1536 - 256 - 128 - 64 < 32
    · rw [dif_pos h6, dif_pos (by omega)]; exact fin (by simp; omega)
    rw [dif_neg h6, dif_neg (by omega : ¬ l.val < 2016)]
    by_cases h7 : l.val - 1536 - 256 - 128 - 64 - 32 < 8
    · rw [dif_pos h7, dif_pos (by omega)]; exact fin (by simp; omega)
    rw [dif_neg h7, dif_neg (by omega : ¬ l.val < 2024), if_pos (by omega)]
  rw [dif_neg h4, if_neg (by omega : ¬ l.val < 1984), dif_neg (by omega : ¬ l.val < 2016), dif_neg (by omega : ¬ l.val < 2024), if_neg (by omega : ¬ l.val < 2048)]
  exact fin (by simp; omega)

end Cert.InprojPack

end
-- ==== Proof.InprojValue.lean ====
/- The input product's backward call: what its blocks hold and what each grid point leaves, as functions of the arguments. -/
module

public import proofs.«01_k».proof.Proof.Rms
public import proofs.«01_k».proof.Proof.Halves
public import proofs.«01_k».proof.Proof.InprojPack

@[expose] public section

set_option maxRecDepth 16384

noncomputable section

namespace Cert.InprojValue

open Idealize.ShloMosaic Idealize.ShloMosaic.TcCoe Idealize.SL.Sem Cert.InprojBwdIdeal Cert.InprojBwdIdeal.Gen Cert.InprojPack Cert.Halves

/-! ## The gradients, of the arguments -/

section Math
variable (x d : FVec Ideal S8704x1024 .f32) (dp : FVec Ideal S8704x4008 .f32) (n : FVec Ideal S1x1024 .f32) (w : FVec Ideal S1024x4008 .f32)

/-- A row of the hidden state. -/
def hid (r : Fin 8704) : Fin 1024 → EReal := fun k => x (ix2 r k)
/-- The row over its root mean square. -/
def unit (r : Fin 8704) (k : Fin 1024) : EReal := x (ix2 r k) * Rms.inv (hid x r)
/-- The cotangent of the norm's output. -/
def dnormed (r : Fin 8704) (k : Fin 1024) : EReal := ∑ j, dp (ix2 r j) * w (ix2 k j)
/-- A row's part of the gain's gradient. -/
def dgain (r : Fin 8704) (k : Fin 1024) : EReal := dnormed dp w r k * unit x r k
/-- The gradient of the hidden state: what passes by the product, and what passes through it. -/
def dhid (r : Fin 8704) (k : Fin 1024) : EReal :=
  d (ix2 r k) + Rms.grad (hid x r) (fun k => dnormed dp w r k * n (ix2 0 k)) k

end Math

/-! ## The blocks at a grid point -/

variable (m : (ℓ : Loc nD τ sig) → Buf (Elt Ideal) ℓ)

/-- The five arguments. -/
abbrev a0 (c : Dev nD) : FVec Ideal S8704x1024 .f32 := m ((c : Thread nD τ).loc main_arg0)
abbrev a1 (c : Dev nD) : FVec Ideal S8704x1024 .f32 := m ((c : Thread nD τ).loc main_arg1)
abbrev a2 (c : Dev nD) : FVec Ideal S8704x4008 .f32 := m ((c : Thread nD τ).loc main_arg2)
abbrev a3 (c : Dev nD) : FVec Ideal S1x1024 .f32 := m ((c : Thread nD τ).loc main_arg3)
abbrev a4 (c : Dev nD) : FVec Ideal S1024x4008 .f32 := m ((c : Thread nD τ).loc main_arg4)

/-- What the host prepares: the packed weight, and the two halves of the packed cotangent. -/
theorem entry_w (c : Dev nD) : V m c main_v10 = wide (a4 m c) := by
  show StableHlo.after hostOps0 _ _ = _
  simp only [hostOps0]
  after_results <;> rfl
theorem entry_lo (c : Dev nD) : V m c main_v22 = truncf .bf16 (extractStridedSlice S8704x2048 ![0, 0] (wideRows (a2 m c)) slices_S8704x4096_S8704x2048_0_0) bitsLt_bf16_f32 := by
  show StableHlo.after hostOps0 _ _ = _
  simp only [hostOps0]
  after_results <;> rfl
theorem entry_hi (c : Dev nD) : V m c main_v24 = truncf .bf16 (extractStridedSlice S8704x2048 ![0, 2048] (wideRows (a2 m c)) slices_S8704x4096_S8704x2048_0_2048) bitsLt_bf16_f32 := by
  show StableHlo.after hostOps0 _ _ = _
  simp only [hostOps0]
  after_results <;> rfl

theorem idx : ∀ t : Fin cfg0.N, t.val < 17 ∧ win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 1] ∧ win0_7.index t = ![t.val, 0] ∧ win0_8.index t = ![0, 0] :=
  (by decide +kernel : ∀ t : Fin grid0.N, _)

/-- The array's row at row `p` of block `t`. -/
def row (t : Fin cfg0.N) (p : Fin 512) : Fin 8704 := ⟨t.val * 512 + p.val, by have := (idx t).1; omega⟩

section Blocks
variable (c : Dev nD) (t : Fin cfg0.N)

theorem blk0 (p : Fin 512) (l : Fin 1024) : iblk m c 0 t (ix2 p l) = a0 m c (ix2 (row t p) l) := by
  rw [row]; blk_ext [iblk, idx t]
theorem blk1 (p : Fin 512) (l : Fin 1024) : iblk m c 1 t (ix2 p l) = a1 m c (ix2 (row t p) l) := by
  rw [row]; blk_ext [iblk, idx t]
theorem blk2 (p : Fin 512) (l : Fin 2048) : iblk m c 2 t (ix2 p l) = packed (fun k => a2 m c (ix2 (row t p) k)) ⟨l.val, by omega⟩ := by
  have e : iblk m c 2 t (ix2 p l) = V m c main_v22 (ix2 (row t p) l) := by rw [row]; blk_ext [iblk, idx t]
  rw [e, entry_lo, ← wideRows_apply]
  generalize wideRows (a2 m c) = y
  pointwise
theorem blk3 (p : Fin 512) (l : Fin 2048) : iblk m c 3 t (ix2 p l) = packed (fun k => a2 m c (ix2 (row t p) k)) ⟨2048 + l.val, by omega⟩ := by
  have e : iblk m c 3 t (ix2 p l) = V m c main_v24 (ix2 (row t p) l) := by rw [row]; blk_ext [iblk, idx t]
  rw [e, entry_hi, ← wideRows_apply]
  generalize wideRows (a2 m c) = y
  pointwise
theorem blk4 (l : Fin 1024) : iblk m c 4 t (ix2 0 l) = a3 m c (ix2 0 l) := by
  blk_ext [iblk, idx t]
theorem blk5 (p : Fin 1024) (l : Fin 2048) : iblk m c 5 t (ix2 p l) = packed (fun k => a4 m c (ix2 p k)) ⟨l.val, by omega⟩ := by
  have e : iblk m c 5 t (ix2 p l) = V m c main_v10 (ix2 p ⟨l.val, by omega⟩) := by blk_ext [iblk, idx t]
  rw [e, entry_w, wide_apply]
theorem blk6 (p : Fin 1024) (l : Fin 2048) : iblk m c 6 t (ix2 p l) = packed (fun k => a4 m c (ix2 p k)) ⟨2048 + l.val, by omega⟩ := by
  have e : iblk m c 6 t (ix2 p l) = V m c main_v10 (ix2 p ⟨2048 + l.val, by omega⟩) := by blk_ext [iblk, idx t]
  rw [e, entry_w, wide_apply]

/-! ## The values the body computes at a grid point -/

theorem at_inv (p : Fin 512) : k0_pay3 (iblk m c 0 t) (ix2 p 0) = Rms.inv (hid (a0 m c) (row t p)) := by
  pointwise [k0_pay3]
  simp only [blk0, Rms.inv, hid]
theorem at_unit (p : Fin 512) (k : Fin 1024) : k0_pay4 (iblk m c 0 t) (ix2 p k) = unit (a0 m c) (row t p) k := by
  pointwise [k0_pay4]
  simp only [blk0, at_inv, unit]

/-- The cotangent of the norm's output, as the body's block. -/
abbrev U := k0_pay5 (iblk m c 2 t) (iblk m c 5 t) (iblk m c 3 t) (iblk m c 6 t)

theorem at_du (p : Fin 512) (k : Fin 1024) : U m c t (ix2 p k) = dnormed (a2 m c) (a4 m c) (row t p) k := by
  rw [dnormed, ← packed_dot]
  pointwise [k0_pay5]
  simp only [blk2, blk3, blk5, blk6]
theorem at_dh (p : Fin 512) (k : Fin 1024) : k0_pay1 (k0_pay3 (iblk m c 0 t)) (k0_pay4 (iblk m c 0 t)) (U m c t) (iblk m c 1 t) (iblk m c 4 t) (ix2 p k)
    = dhid (a0 m c) (a1 m c) (a2 m c) (a3 m c) (a4 m c) (row t p) k := by
  have hu := at_du m c t p
  generalize U m c t = u at hu
  pointwise [k0_pay1]
  simp only [hu, at_inv, at_unit, blk1, blk4, dhid, Rms.grad]
  rfl
/-- A block's part of the gain's gradient is added to what the buffer held. -/
theorem at_dn (y : FVec Ideal S1x1024 .f32) (k : Fin 1024) :
    k0_pay6 (iblk m c 0 t) (iblk m c 2 t) (iblk m c 5 t) (iblk m c 3 t) (iblk m c 6 t) y (ix2 0 k)
      = y (ix2 0 k) + ∑ p, dgain (a0 m c) (a2 m c) (a4 m c) (row t p) k := by
  simp only [dgain, ← at_du, ← at_unit]
  unfold U
  pointwise [k0_pay6]

/-! ## What each grid point leaves -/

theorem left_dh : (outsAt0 m c t.val t.isLt).1
    = k0_pay1 (k0_pay3 (iblk m c 0 t)) (k0_pay4 (iblk m c 0 t)) (U m c t) (iblk m c 1 t) (iblk m c 4 t) := by
  by_cases h : t.val % 17 = 0
  · rw [outsAt0_A m c t h]
    frame_out
  · rw [outsAt0_B m c t h]
    frame_out

/-- One grid point's part of the gain's gradient. -/
def part (l : Fin 1024) : EReal := ∑ p, dgain (a0 m c) (a2 m c) (a4 m c) (row t p) l

theorem gain_first (h : t.val % 17 = 0) (l : Fin 1024) : (outsAt0 m c t.val t.isLt).2 (ix2 0 l) = 0 + part m c t l := by
  rw [outsAt0_A m c t h]
  frame_out
  refine (at_dn m c t _ l).trans (congrArg (· + _) ?_)
  pointwise [k0_pay2]

theorem gain_next (h : ¬ t.val % 17 = 0) (l : Fin 1024) : (outsAt0 m c t.val t.isLt).2 (ix2 0 l)
    = (outsAt0 m c (t.val - 1) (Nat.lt_of_le_of_lt (Nat.sub_le _ _) t.isLt)).2 (ix2 0 l) + part m c t l := by
  rw [outsAt0_B m c t h]
  frame_out
  exact at_dn m c t _ l

/-! ## The result arrays -/

/-- The gradient of the hidden state. -/
theorem final_dh : (dats m 0 c).arrAt 7 cfg0.N = array (dhid (a0 m c) (a1 m c) (a2 m c) (a3 m c) (a4 m c)) := by
  refine (dats m 0 c).arrAt_eq_of_covers 7 _ (by decide +kernel) fun t hf y => ?_
  blk_simp
  rw [after0_7, left_dh]
  obtain ⟨p, l, rfl⟩ := ix2_of (n := 512) (w := 1024) y
  have he : ((cfg0.win 7).blk t).view.emb (ix2 p l) = ix2 (row t p) l := by rw [row]; blk_ext [idx t]
  rw [he]
  exact at_dh m c t p l

/-- The gradient of the gain: the rows' parts added up. -/
theorem final_dn : (dats m 0 c).arrAt 8 cfg0.N = array (n := 1) (w := 1024) fun _ l => ∑ r, dgain (a0 m c) (a2 m c) (a4 m c) r l := by
  refine (dats m 0 c).arrAt_eq_of_covers 8 _ (by decide +kernel) fun t hf y => ?_
  blk_simp
  rw [after0_8]
  obtain ⟨p, l, rfl⟩ := ix2_of (n := 1) (w := 1024) y
  obtain rfl : p = 0 := Subsingleton.elim _ _
  have he : ((cfg0.win 8).blk t).view.emb (ix2 0 l) = ix2 0 l := by blk_ext [idx t]
  rw [he, at_ix2]
  have hs := Pipeline.eq_sum_fin_of_reset_step_apply_of_flush (M := EReal) (fun n h l => (outsAt0 m c n h).2 (ix2 0 l)) 17 (fun _ => 0) (part m c)
    (gain_first m c) (gain_next m c) t ((flush0_8 t).mp hf) l
  refine hs.trans ((zero_add _).trans ?_)
  have ht : t.val / 17 = 0 := by have := (idx t).1; omega
  refine Fin.sum_mul_add_congr fun s k hl => ?_
  unfold row
  simp only [ht, Nat.mul_zero, Nat.zero_add]

end Blocks

end Cert.InprojValue

end
-- ==== Proof.InprojRef.lean ====
/- The reference of the input product's backward call, read at an index. -/
module

public import proofs.«01_k».proof.Proof.InprojValue
public import proofs.«01_k».proof.Proof.Gen.InprojBwdRefIdeal.Read

@[expose] public section

set_option maxRecDepth 16384

noncomputable section

namespace Cert.InprojRef

open Idealize.ShloMosaic Idealize.ShloMosaic.TcCoe Idealize.SL.Sem Cert.InprojBwdIdeal Cert.InprojValue Cert.Halves Cert.Rms
open Cert.InprojBwdRefIdeal.Read

variable (x0 x1 : FVec Ideal S8704x1024 .f32) (x2 : FVec Ideal S8704x4008 .f32) (x3 : FVec Ideal S1x1024 .f32) (x4 : FVec Ideal S1024x4008 .f32)

/-! ## What holds of every extended real -/

theorem ref_inv (p : Fin 8704) : val_main_v7 (F := Ideal) x0 (ix2 p 0) = Rms.inv (hid x0 p) := by
  rw [← rsqrt_meanSq]
  pointwise [val_main_v7, val_main_v6, val_main_v5, val_main_cst_1, val_main_v4, val_main_v3, val_main_cst_0, val_main_v2, val_main_v1, val_main_v0, val_main_cst, meanSq, hid]
theorem ref_back (p : Fin 8704) : val_main_v10 (F := Ideal) x0 (ix2 p 0)
    = Ideal.ofBits .f32 0xBF000000#32 * Ideal.div (Ideal.rsqrt (meanSq (hid x0 p))) (meanSq (hid x0 p)) := by
  pointwise [val_main_v10, val_main_v9, val_main_cst_2, val_main_v8, val_main_v7, val_main_v6, val_main_v5, val_main_cst_1, val_main_v4, val_main_v3, val_main_cst_0, val_main_v2, val_main_v1, val_main_v0, val_main_cst, meanSq, hid]
theorem ref_unit (p : Fin 8704) (k : Fin 1024) : val_main_v12 (F := Ideal) x0 (ix2 p k) = unit x0 p k := by
  pointwise [val_main_v12, val_main_v11]
  rw [ref_inv, unit]
theorem ref_dnormed (p : Fin 8704) (k : Fin 1024) : val_main_v16 (F := Ideal) x2 x4 (ix2 p k) = dnormed x2 x4 p k := by
  pointwise [val_main_v16, dnormed]

theorem ref_dn : val_main_v19 (F := Ideal) x0 x2 x4 = array (n := 1) (w := 1024) fun _ l => ∑ r, dgain x0 x2 x4 r l := by
  funext y
  obtain ⟨p, l, rfl⟩ := ix2_of (n := 1) (w := 1024) y
  rw [at_ix2]
  pointwise [val_main_v19, val_main_v18, val_main_v17, val_main_cst_3]
  refine Finset.sum_congr rfl fun r _ => ?_
  rw [ref_unit, ref_dnormed, dgain]
  exact mul_comm _ _

/-! ## What holds of real arguments -/

variable {x0 x1 x2 x3 x4}
variable (h0 : Attn.Fin' x0) (h2 : Attn.Fin' x2) (h3 : Attn.Fin' x3) (h4 : Attn.Fin' x4)

include h0 h2 h3 h4 in
/-- The two forms of the norm's gradient agree; the residual's cotangent is added to both. -/
theorem ref_dh : val_main_v36 (F := Ideal) x0 x1 x2 x3 x4 = array (dhid x0 x1 x2 x3 x4) := by
  funext y
  obtain ⟨p, l, rfl⟩ := ix2_of (n := 8704) (w := 1024) y
  rw [at_ix2, dhid, ← grad_ref' (x := hid x0 p) (u := fun k => dnormed x2 x4 p k * x3 (ix2 0 k)) (fun _ => isReal_of_fin h0 _)
    (fun k => (IsReal.sum fun _ => (isReal_of_fin h2 _).mul (isReal_of_fin h4 _)).mul (isReal_of_fin h3 _)) l]
  pointwise [val_main_v36, val_main_v35, val_main_v34, val_main_v33, val_main_v32, val_main_v31, val_main_v30, val_main_v29, val_main_v28, val_main_v27, val_main_v26, val_main_v25, val_main_v24,
    val_main_v23, val_main_v22, val_main_v21, val_main_v20, val_main_cst_6, val_main_cst_5, val_main_cst_4]
  simp only [ref_dnormed, ref_inv, back, ← ref_back, Fin.sum_univ_one]
  rfl

end Cert.InprojRef

end
-- ==== Proof.InprojClaim.lean ====
/- The value claim of the input product's backward call. -/
module

public import proofs.«01_k».proof.Defs
public import proofs.«01_k».proof.Proof.InprojRef
public import proofs.«01_k».proof.Proof.AttnFinite
public import proofs.«01_k».proof.Proof.Gen.Pre_finite_inproj
public import proofs.«01_k».proof.Proof.Gen.InprojBwdRefIdeal.Run

@[expose] public section

noncomputable section

namespace Cert.InprojClaim

open Idealize.ShloMosaic Idealize.SL.Sem Cert.InprojValue Cert.InprojRef Cert.Halves

/-- Under the precondition every argument but the residual's cotangent is finite, on every device. -/
theorem finite (m : (ℓ : Loc Cert.InprojBwdIdeal.nD Cert.InprojBwdIdeal.τ Cert.InprojBwdIdeal.sig) → Buf (Elt Ideal) ℓ)
    (h : Cert.Pre_InprojBwdIdeal_finite_inproj (hPre_finite_inproj := Cert.Pre_finite_inproj.Gen.facts) m) (c : Dev Cert.InprojBwdIdeal.nD) :
    Attn.Fin' (a0 m c) ∧ Attn.Fin' (a2 m c) ∧ Attn.Fin' (a3 m c) ∧ Attn.Fin' (a4 m c) := by
  obtain ⟨h0, h2, h3, h4⟩ := h c
  exact ⟨Attn.fin_of_lt _ h0, Attn.fin_of_lt _ h2, Attn.fin_of_lt _ h3, Attn.fin_of_lt _ h4⟩

/-- Over the extended reals the call's two results and the reference's are the same functions of the five arguments. -/
theorem algebraic : Cert.algebraic_InprojBwdIdeal_InprojBwdRefIdeal_pre_finite_inproj (hInprojBwdIdeal := Cert.InprojBwdIdeal.Gen.facts)
    (hInprojBwdRefIdeal := Cert.InprojBwdRefIdeal.Gen.facts) (hPre_finite_inproj := Cert.Pre_finite_inproj.Gen.facts) := by
  intro m g m' g' hpre hag
  refine ⟨fun c => array (dhid (a0 m c) (a1 m c) (a2 m c) (a3 m c) (a4 m c)),
    fun c => array (n := 1) (w := 1024) fun _ l => ∑ r, dgain (a0 m c) (a2 m c) (a4 m c) r l, ?_, ?_⟩
  · refine (θ_run _ _ _).mono (fun _ h c => ?_) (Cert.InprojBwdIdeal.Value.run_blocks m g)
    obtain ⟨e0, e1, e⟩ := h c
    exact ⟨e0.trans (final_dh m c), e1.trans (final_dn m c), e⟩
  · refine (θ_run _ _ _).mono (fun _ h c => ?_) (Cert.InprojBwdRefIdeal.Value.run m' g')
    obtain ⟨h0, h2, h3, h4⟩ := finite m hpre c
    obtain ⟨e0, e1, e⟩ := h c
    obtain ⟨q0, q1, q2, q3, q4⟩ := hag c
    rw [Cert.InprojBwdRefIdeal.Read.val_main_v36_eq, q0, q1, q2, q3, q4] at e0
    rw [Cert.InprojBwdRefIdeal.Read.val_main_v19_eq, q0, q2, q4] at e1
    exact ⟨e0.trans (ref_dh h0 h2 h3 h4), e1.trans (ref_dn _ _ _), e⟩

end Cert.InprojClaim

end
-- ==== Proof.AttnLoad.lean ====
/- A backward attention kernel's operands: the rows and keys of one query block, and one head's lanes of a pair of heads. -/
module

public import proofs.«01_k».proof.Proof.AttnSweep

@[expose] public section

set_option maxRecDepth 16384

noncomputable section

namespace Cert.Attn

open Idealize.ShloMosaic
open scoped BigOperators

/-- The latent attention's scale of its scores, `1 / √96`. -/
def s96 : ℝ := (Real.sqrt 96)⁻¹

section Loads
variable {sig : RefSig} {w : ℕ} (c : ℕ) (hc : c + 128 ≤ w) (a : Memref sig .tc .vmem (Sh 2176 w) .bf16) (ha : a.IsWhole) (x : FVec Ideal (Sh 2176 w) .bf16)

/-- Block `k`'s rows of a buffer of rows, 128 lanes from lane `c`. -/
def rowsL (k : ℕ) : FVec Ideal (Sh (mOf k) 128) .bf16 :=
  if h : k < 9 then shapeCast (Sh (mOf k) 128) (View.readAt (Elt Ideal) a.view (Box 2176 w (r0 k) c (mOf k) (inBox (nOf_le h) hc)).toLoadRect (ha.unread x)) rfl
  else fun _ => 0
/-- Block `k`'s keys of a buffer of rows, those up to its last row, 128 lanes from lane `c`. -/
def keysL (k : ℕ) : FVec Ideal (Sh (nOf k) 128) .bf16 :=
  if h : k < 9 then shapeCast (Sh (nOf k) 128) (View.readAt (Elt Ideal) a.view (Box 2176 w 0 c (nOf k) (inBox (by have := nOf_le h; omega) hc)).toLoadRect (ha.unread x)) rfl
  else fun _ => 0

variable {c hc x} {f : ℕ → ℕ → ℝ} (hx : Holds 0 x f) {b : ℕ} (hb : b < 9)
include hx hb

theorem rows_holds : Holds (r0 b) (rowsL c hc a ha x b) fun i l => f i (c + l) := by
  unfold rowsL; rw [dif_pos hb]
  exact load_holds a ha x _ _ hx
theorem keys_holds : Holds 0 (keysL c hc a ha x b) fun i l => f i (c + l) := by
  unfold keysL; rw [dif_pos hb]
  exact load_holds a ha x _ _ hx

end Loads

section Loads0
variable {sig : RefSig} {w : ℕ} {hc : 0 + 128 ≤ w} (a : Memref sig .tc .vmem (Sh 2176 w) .bf16) (ha : a.IsWhole) {x : FVec Ideal (Sh 2176 w) .bf16}
  {f : ℕ → ℕ → ℝ} (hx : Holds 0 x f) {b : ℕ} (hb : b < 9)
include hx hb

theorem rows_holds0 : Holds (r0 b) (rowsL 0 hc a ha x b) f := fun r l =>
  (rows_holds a ha hx hb r l).trans (by beta_reduce; rw [Nat.zero_add])
theorem keys_holds0 : Holds 0 (keysL 0 hc a ha x b) f := fun r l =>
  (keys_holds a ha hx hb r l).trans (by beta_reduce; simp only [Nat.zero_add])

end Loads0

/-- Head `e`'s lanes. -/
def lane {m : ℕ} (e : ℕ) (x : FVec Ideal (Sh m 128) .bf16) : FVec Ideal (Sh m 128) .bf16 :=
  match e with
  | 0 => lane0 (Scalar.ofBits .bf16 0x0000#16) x (iotas _ _ _)
  | _ + 1 => lane1 (Scalar.ofBits .bf16 0x0000#16) x (iotas _ _ _)
/-- Head `e`'s part of a pair of heads' rows. -/
def half (f : ℕ → ℕ → ℝ) (e i l : ℕ) : ℝ := if laneOf e l then f i l else 0

theorem lane_holds {m r : ℕ} {x : FVec Ideal (Sh m 128) .bf16} {f : ℕ → ℕ → ℝ} (hx : Holds r x f) {e : ℕ} (he : e < 2) : Holds r (lane e x) (half f e) := by
  match e, he with
  | 0, _ => exact lane0_holds Ideal.ofBits_zero_bf16 hx
  | 1, _ => exact lane1_holds Ideal.ofBits_zero_bf16 hx

theorem off {i j : ℕ} (h : i < j) : ¬ Allowed i j := fun hA => absurd hA.1 (by omega)

/-! ## A buffer whose rows each block writes for two heads in turn -/

/-- Block `k` writes `d 0 k` at the lanes from `c 0` on, then `d 1 k` at those from `c 1` on. -/
def pairSweep {w : ℕ} (c : ℕ → ℕ) (hc : ∀ e, e < 2 → c e + 128 ≤ w) (d : ℕ → (k : ℕ) → FVec Ideal (Sh (mOf k) 128) .f32) :
    (K : ℕ) → K ≤ 9 → List (View.Piece (Elt Ideal) (Sh 2176 w) .f32)
  | 0, _ => []
  | k + 1, h => ⟨Box 2176 w (r0 k) (c 1) (mOf k) (inBox (nOf_le h) (hc 1 (by norm_num))), d 1 k⟩ ::
      ⟨Box 2176 w (r0 k) (c 0) (mOf k) (inBox (nOf_le h) (hc 0 (by norm_num))), d 0 k⟩ :: pairSweep c hc d k (by omega)

/-- A piece is not read where it does not lie. -/
theorem canon_skip {N w r c m : ℕ} {inb : InBox N w r c m} {d : FVec Ideal (Sh m 128) .f32} {L : List (View.Piece (Elt Ideal) (Sh N w) .f32)} {j : Fin N} {l : Fin w}
    (h : (j : ℕ) < r ∨ (l : ℕ) < c) : View.canon (⟨Box N w r c m inb, d⟩ :: L) (ix2 j l) = View.canon L (ix2 j l) := by
  refine View.canon_cons_of_not_mem _ _ fun hm => ?_
  rcases h with h | h
  · obtain ⟨i, hi, he⟩ := (LoadRect.mem_set _).mp hm (0 : Fin 2)
    have he : (j : ℕ) = r + 1 * i := he
    omega
  · obtain ⟨i, hi, he⟩ := (LoadRect.mem_set _).mp hm (1 : Fin 2)
    have he : (l : ℕ) = c + 1 * i := he
    omega
/-- A piece is read where it lies. -/
theorem canon_hit {N w r c m : ℕ} {inb : InBox N w r c m} {d : FVec Ideal (Sh m 128) .f32} {L : List (View.Piece (Elt Ideal) (Sh N w) .f32)} {f : ℕ → ℕ → ℝ} (hd : Holds r d f)
    {j : Fin N} {l : Fin w} (h0 : r ≤ (j : ℕ)) (h1 : (j : ℕ) < r + m) (h2 : c ≤ (l : ℕ)) (h3 : (l : ℕ) < c + 128) :
    View.canon (⟨Box N w r c m inb, d⟩ :: L) (ix2 j l) = ((f j (l - c) : ℝ) : EReal) := by
  have he : (ix2 j l : (Sh N w).Idx) = (Box N w r c m inb).emb (ix2 (⟨j - r, by omega⟩ : Fin m) (⟨l - c, by omega⟩ : Fin 128)) := by
    funext b; apply Fin.ext
    match b with
    | ⟨0, _⟩ => show (j : ℕ) = r + 1 * ((j : ℕ) - r); omega
    | ⟨1, _⟩ => show (l : ℕ) = c + 1 * ((l : ℕ) - c); omega
  refine (congrArg (View.canon _) he).trans ((View.canon_cons_emb _ _ _ _).trans ((hd _ _).trans ?_))
  show ((f (r + ((j : ℕ) - r)) ((l : ℕ) - c) : ℝ) : EReal) = _
  rw [show r + ((j : ℕ) - r) = j by omega]

theorem pairSweep_apply {w : ℕ} {c : ℕ → ℕ} {hc : ∀ e, e < 2 → c e + 128 ≤ w} {d : ℕ → (k : ℕ) → FVec Ideal (Sh (mOf k) 128) .f32} {f : ℕ → ℕ → ℕ → ℝ} (hcc : c 0 + 128 ≤ c 1)
    (hd : ∀ e k, e < 2 → k < 9 → Holds (r0 k) (d e k) (f e)) (K : ℕ) (hK : K ≤ 9) (j : Fin 2176) (hj : (j : ℕ) < r0 K) {e : ℕ} (he : e < 2) (l : Fin w) (hl : c e ≤ l ∧ (l : ℕ) < c e + 128) :
    View.canon (pairSweep c hc d K hK) (ix2 j l) = ((f e j (l - c e) : ℝ) : EReal) := by
  induction K with
  | zero => exact absurd hj (Nat.not_lt_zero _)
  | succ k ih =>
    rw [r0_succ] at hj
    unfold pairSweep
    by_cases h : (j : ℕ) < r0 k
    · exact (canon_skip (Or.inl h)).trans ((canon_skip (Or.inl h)).trans (ih (by omega) h))
    · unfold nOf at hj
      match e, he with
      | 0, _ => exact (canon_skip (Or.inr (by omega))).trans (canon_hit (hd 0 k (by norm_num) hK) (by omega) hj hl.1 hl.2)
      | 1, _ => exact canon_hit (hd 1 k (by norm_num) hK) (by omega) hj hl.1 hl.2

end Cert.Attn
end
-- ==== Proof.FoxValue.lean ====
/- The forget attention's backward kernel: what its sweep leaves in its five result buffers, of the blocks it is given. -/
module

public import proofs.«01_k».proof.Proof.AttnLoad
public import proofs.«01_k».proof.Proof.Gen.FoxBwdIdeal.Value

@[expose] public section

set_option maxRecDepth 16384

noncomputable section

namespace Cert.FoxValue

open Idealize.ShloMosaic Cert.Attn Cert.FoxBwdIdeal
open scoped BigOperators

/-! ## The operands of one query block -/

/-- The word the scores are scaled by, `1 / 8`. -/
def sc : Ideal .f32 := Scalar.ofBits .f32 0x3E000000#32
/-- The masked score. -/
def neg : Ideal .f32 := Named.named Cert.FoxBwdIdeal.κ "mask" 0xF149F2CA#32

/-- The column buffer's shape. -/
abbrev ShC (m : ℕ) : Shape := ⟨3, ![1, m, 1]⟩
/-- The pair's columns' shape. -/
abbrev ShP : Shape := ⟨3, ![1, 2176, 2]⟩

theorem inCol {r c m : ℕ} (h : r + m ≤ 2176) (hc : c < 2) : ∀ b : Fin ShP.rank, (![0, r, c] : Fin ShP.rank → ℕ) b + (ShC m).size b ≤ ShP.size b := fun b => by
  match b with
  | ⟨0, _⟩ => exact le_rfl
  | ⟨1, _⟩ => exact h
  | ⟨2, _⟩ => exact hc
theorem castCol (m : ℕ) : (ShC m).ShapeCasts (Sh m 1) := by unfold Shape.ShapeCasts; simp [Shape.numel, Fin.prod_univ_succ]
theorem bcRow (m n : ℕ) : (Sh 1 n).Broadcasts (Sh m n) := ⟨le_rfl, fun a => by
    match a with
    | ⟨0, _⟩ => exact Or.inl rfl
    | ⟨1, _⟩ => exact Or.inr fun _ => rfl⟩

/-- Block `k`'s rows of one head's running sum, as a column. -/
def colL {sg : RefSig} (a : Memref sg .tc .vmem ShP .f32) (ha : a.IsWhole) (x : FVec Ideal ShP .f32) (c : ℕ) (hc : c < 2) (k : ℕ) : FVec Ideal (Sh (mOf k) 1) .f32 :=
  if h : k < 9 then shapeCast (Sh (mOf k) 1) (View.readAt (Elt Ideal) a.view (Rect.unit (s := ShP) ![0, r0 k, c] (ShC (mOf k)).size (inCol (nOf_le h) hc)).toLoadRect (ha.unread x)) (castCol _)
  else fun _ => 0
/-- Block `k`'s keys of one head's running sum, as a row. -/
def rowL {sg : RefSig} (a : Memref sg .tc .vmem (Sh3 2176) .f32) (ha : a.IsWhole) (x : FVec Ideal (Sh3 2176) .f32) (k : ℕ) : FVec Ideal (Sh 1 (nOf k)) .f32 :=
  if h : k < 9 then shapeCast (Sh 1 (nOf k)) (View.readAt (Elt Ideal) a.view (Box1 2176 (nOf k) (inBox1 (nOf_le h))).toLoadRect (ha.unread x)) (cast1 _)
  else fun _ => 0

/-! ## The kernel's blocks -/

section Blocks
variable {sg : RefSig} (arg2 : Memref sg .tc .vmem S2176x128 .bf16) (harg2 : arg2.IsWhole) (arg3 : Memref sg .tc .vmem S2176x128 .bf16) (harg3 : arg3.IsWhole)
  (arg4 : Memref sg .tc .vmem S2176x128 .bf16) (harg4 : arg4.IsWhole) (arg5 : Memref sg .tc .vmem S2176x128 .bf16) (harg5 : arg5.IsWhole)
  (arg6 : Memref sg .tc .vmem S1x2176x2 .f32) (harg6 : arg6.IsWhole) (arg7 : Memref sg .tc .vmem S1x1x2176 .f32) (harg7 : arg7.IsWhole)
  (arg8 : Memref sg .tc .vmem S1x1x2176 .f32) (harg8 : arg8.IsWhole)
  (x0 x1 x2 x3 : FVec Ideal S2176x128 .bf16) (x4 : FVec Ideal S1x2176x2 .f32) (x5 x6 : FVec Ideal S1x1x2176 .f32)

/-- Head `e`'s queries of block `k`. -/
def qe (e k : ℕ) : FVec Ideal (Sh (mOf k) 128) .bf16 := lane e (rowsL 0 le_rfl arg2 harg2 x0 k)
/-- Head `e`'s cotangents. -/
def doe (e k : ℕ) : FVec Ideal (Sh (mOf k) 128) .bf16 := lane e (rowsL 0 le_rfl arg5 harg5 x3 k)
/-- Head `e`'s rows of the running sum. -/
def ct (e k : ℕ) : FVec Ideal (Sh (mOf k) 1) .f32 :=
  match e with
  | 0 => colL arg6 harg6 x4 0 (by norm_num) k
  | _ + 1 => colL arg6 harg6 x4 1 (by norm_num) k
/-- Head `e`'s keys of the running sum. -/
def cr (e k : ℕ) : FVec Ideal (Sh 1 (nOf k)) .f32 :=
  match e with
  | 0 => rowL arg7 harg7 x5 k
  | _ + 1 => rowL arg8 harg8 x6 k

/-- The scores before their mask. -/
def rawS (e k : ℕ) : FVec Ideal (Sh (mOf k) (nOf k)) .f32 :=
  subf (addf (mulf (matmul (DotDims.transposedRhs (mOf k) 128 (nOf k)) none (qe arg2 harg2 x0 e k) (keysL 0 le_rfl arg3 harg3 x1 k) (constant (Sh (mOf k) (nOf k)) .f32 0x00000000#32))
      (broadcast (Sh (mOf k) (nOf k)) sc)) (broadcastTo (Sh (mOf k) (nOf k)) (ct arg6 harg6 x4 e k) (facts _ _).bc1))
    (broadcastTo (Sh (mOf k) (nOf k)) (cr arg7 harg7 arg8 harg8 x5 x6 e k) (bcRow _ _))
/-- The scores. -/
def sS (e k : ℕ) : FVec Ideal (Sh (mOf k) (nOf k)) .f32 :=
  maskK neg k (rawS arg2 harg2 arg3 harg3 arg6 harg6 arg7 harg7 arg8 harg8 x0 x1 x4 x5 x6 e k)

/-- Head `e`'s part of block `k`'s queries' gradients. -/
def dqB (e k : ℕ) : FVec Ideal (Sh (mOf k) 128) .f32 :=
  dqV (facts _ _) sc (sS arg2 harg2 arg3 harg3 arg6 harg6 arg7 harg7 arg8 harg8 x0 x1 x4 x5 x6 e k) (doe arg5 harg5 x3 e k) (keysL 0 le_rfl arg4 harg4 x2 k) (keysL 0 le_rfl arg3 harg3 x1 k)
/-- Block `k`'s queries' gradients: each head's on its lanes. -/
def dqP (k : ℕ) : FVec Ideal (Sh (mOf k) 128) .f32 :=
  select (cmpi .slt (iota .tc (Sh (mOf k) 128) 32 [1] (iotas _ _ _)) (broadcast (Sh (mOf k) 128) 64#32))
    (dqB arg2 harg2 arg3 harg3 arg4 harg4 arg5 harg5 arg6 harg6 arg7 harg7 arg8 harg8 x0 x1 x2 x3 x4 x5 x6 0 k)
    (dqB arg2 harg2 arg3 harg3 arg4 harg4 arg5 harg5 arg6 harg6 arg7 harg7 arg8 harg8 x0 x1 x2 x3 x4 x5 x6 1 k)
/-- Head `e`'s part of the keys' gradients from block `k`. -/
def dkB (e k : ℕ) : FVec Ideal (Sh (nOf k) 128) .f32 :=
  dkV (facts _ _) sc (sS arg2 harg2 arg3 harg3 arg6 harg6 arg7 harg7 arg8 harg8 x0 x1 x4 x5 x6 e k) (doe arg5 harg5 x3 e k) (keysL 0 le_rfl arg4 harg4 x2 k) (qe arg2 harg2 x0 e k)
/-- Head `e`'s part of the values' gradients from block `k`. -/
def dvB (e k : ℕ) : FVec Ideal (Sh (nOf k) 128) .f32 :=
  dvV (facts _ _) (sS arg2 harg2 arg3 harg3 arg6 harg6 arg7 harg7 arg8 harg8 x0 x1 x4 x5 x6 e k) (doe arg5 harg5 x3 e k)
/-- Head `e`'s part of the running sum's gradients from block `k`. -/
def dcB (e k : ℕ) : FVec Ideal (Sh 1 (nOf k)) .f32 :=
  dcV (facts _ _) (sS arg2 harg2 arg3 harg3 arg6 harg6 arg7 harg7 arg8 harg8 x0 x1 x4 x5 x6 e k) (doe arg5 harg5 x3 e k) (keysL 0 le_rfl arg4 harg4 x2 k)

end Blocks

/-! ## The kernel's result buffers are those sweeps -/

section Tie
variable (arg2 : Memref sig .tc .vmem S2176x128 .bf16) (harg2 : arg2.IsWhole) (arg3 : Memref sig .tc .vmem S2176x128 .bf16) (harg3 : arg3.IsWhole)
  (arg4 : Memref sig .tc .vmem S2176x128 .bf16) (harg4 : arg4.IsWhole) (arg5 : Memref sig .tc .vmem S2176x128 .bf16) (harg5 : arg5.IsWhole)
  (arg6 : Memref sig .tc .vmem S1x2176x2 .f32) (harg6 : arg6.IsWhole) (arg7 : Memref sig .tc .vmem S1x1x2176 .f32) (harg7 : arg7.IsWhole)
  (arg8 : Memref sig .tc .vmem S1x1x2176 .f32) (harg8 : arg8.IsWhole)
  (x0 x1 x2 x3 : FVec Ideal S2176x128 .bf16) (x4 : FVec Ideal S1x2176x2 .f32) (x5 x6 : FVec Ideal S1x1x2176 .f32)
variable (c : Dev nD) (i : grid0.Coords) (arg9 : Memref sig .tc .vmem S2176x128 .f32) (harg9 : arg9.IsWhole) (arg10 : Memref sig .tc .vmem S2176x128 .f32) (harg10 : arg10.IsWhole)
  (arg11 : Memref sig .tc .vmem S2176x128 .f32) (harg11 : arg11.IsWhole) (arg12 : Memref sig .tc .vmem S1x1x2176 .f32) (harg12 : arg12.IsWhole)
  (arg13 : Memref sig .tc .vmem S1x1x2176 .f32) (harg13 : arg13.IsWhole)

local notation "RUN" => Gen.kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6

theorem tie_dq : (RUN).1 = rowSweep (w := 128) 0 le_rfl (dqP arg2 harg2 arg3 harg3 arg4 harg4 arg5 harg5 arg6 harg6 arg7 harg7 arg8 harg8 x0 x1 x2 x3 x4 x5 x6) 9 le_rfl := by
  sl_kernel_rfl
theorem tie_dk : (RUN).2.1 = addSweep (Scalar.ofBits .f32 0x00000000#32) arg10.view (fun _ => 0) (fun _ _ => le_rfl) (dkB arg2 harg2 arg3 harg3 arg4 harg4 arg5 harg5 arg6 harg6 arg7 harg7 arg8 harg8 x0 x1 x2 x3 x4 x5 x6) 9 le_rfl := by
  sl_kernel_rfl
theorem tie_dv : (RUN).2.2.1 = addSweep (Scalar.ofBits .f32 0x00000000#32) arg11.view (fun _ => 0) (fun _ _ => le_rfl) (dvB arg2 harg2 arg3 harg3 arg5 harg5 arg6 harg6 arg7 harg7 arg8 harg8 x0 x1 x3 x4 x5 x6) 9 le_rfl := by
  sl_kernel_rfl
theorem tie_dc0 : (RUN).2.2.2.1 = subSweep (Scalar.ofBits .f32 0x00000000#32) arg12.view (dcB arg2 harg2 arg3 harg3 arg4 harg4 arg5 harg5 arg6 harg6 arg7 harg7 arg8 harg8 x0 x1 x2 x3 x4 x5 x6 0) 9 le_rfl := by
  sl_kernel_rfl
theorem tie_dc1 : (RUN).2.2.2.2.1 = subSweep (Scalar.ofBits .f32 0x00000000#32) arg13.view (dcB arg2 harg2 arg3 harg3 arg4 harg4 arg5 harg5 arg6 harg6 arg7 harg7 arg8 harg8 x0 x1 x2 x3 x4 x5 x6 1) 9 le_rfl := by
  sl_kernel_rfl

end Tie

/-! ## What the parts hold -/

section Values
variable {sg : RefSig} (arg2 : Memref sg .tc .vmem S2176x128 .bf16) (harg2 : arg2.IsWhole) (arg3 : Memref sg .tc .vmem S2176x128 .bf16) (harg3 : arg3.IsWhole)
  (arg4 : Memref sg .tc .vmem S2176x128 .bf16) (harg4 : arg4.IsWhole) (arg5 : Memref sg .tc .vmem S2176x128 .bf16) (harg5 : arg5.IsWhole)
  (arg6 : Memref sg .tc .vmem S1x2176x2 .f32) (harg6 : arg6.IsWhole) (arg7 : Memref sg .tc .vmem S1x1x2176 .f32) (harg7 : arg7.IsWhole)
  (arg8 : Memref sg .tc .vmem S1x1x2176 .f32) (harg8 : arg8.IsWhole)
  (x0 x1 x2 x3 : FVec Ideal S2176x128 .bf16) (x4 : FVec Ideal S1x2176x2 .f32) (x5 x6 : FVec Ideal S1x1x2176 .f32)
variable {q k v o : ℕ → ℕ → ℝ} {c : ℕ → ℕ → ℝ}

/-- Head `e`'s scores. -/
def g (q k : ℕ → ℕ → ℝ) (c : ℕ → ℕ → ℝ) (e i j : ℕ) : ℝ := (∑ l : Fin 128, half q e i l * k j l) * (1 / 8) + c e i - c e j

theorem sc_eq : sc = ((1 / 8 : ℝ) : EReal) := by
  show Ideal.ofBits .f32 0x3E000000#32 = _
  simp [Ideal.ofBits, Ideal.ieee, -EReal.coe_mul]; norm_num
theorem zero_eq : (Scalar.ofBits .f32 0x00000000#32 : Ideal .f32) = (0 : EReal) := Ideal.ofBits_zero_f32
theorem neg_eq : neg = (⊥ : EReal) := rfl

theorem col_holds {sg : RefSig} (a : Memref sg .tc .vmem ShP .f32) (ha : a.IsWhole) {x : FVec Ideal ShP .f32} {d : ℕ} (hd : d < 2) {f : ℕ → ℝ} (hx : ∀ j, x (ix3 0 j ⟨d, hd⟩) = ((f j : ℝ) : EReal)) {b : ℕ} (hb : b < 9)
    (r : Fin (mOf b)) : colL a ha x d hd b (ix2 r 0) = ((f (r0 b + r) : ℝ) : EReal) := by
  have := nOf_le hb
  have hr := r.isLt
  have hrr : r0 b + (r : ℕ) < 2176 := by unfold nOf at this; omega
  unfold colL; rw [dif_pos hb]
  refine (shapeCast_apply _ _ _ (ix3 0 r 0) ?_).trans ?_
  · rw [Shape.rowMajor_val_two, Shape.rowMajor_val_three]; show (0 * mOf b + (r : ℕ)) * 1 + 0 = (r : ℕ) * 1 + 0; omega
  rw [View.readAt_eq_ld, ha.read_unread]
  refine (congrArg x (?_ : _ = ix3 0 ⟨r0 b + r, hrr⟩ ⟨d, hd⟩)).trans (hx _)
  funext y; apply Fin.ext
  match y with
  | ⟨0, _⟩ => rfl
  | ⟨1, _⟩ => show r0 b + 1 * (r : ℕ) = r0 b + r; omega
  | ⟨2, _⟩ => show d + 1 * 0 = d; omega
theorem row_holds {sg : RefSig} (a : Memref sg .tc .vmem (Sh3 2176) .f32) (ha : a.IsWhole) {x : FVec Ideal (Sh3 2176) .f32} {f : ℕ → ℝ} (hx : ∀ j, x (ix3 0 0 j) = ((f j : ℝ) : EReal)) {b : ℕ} (hb : b < 9)
    (j : Fin (nOf b)) : rowL a ha x b (ix2 0 j) = ((f j : ℝ) : EReal) := by
  have := nOf_le hb
  have hj := j.isLt
  unfold rowL; rw [dif_pos hb]
  refine (shapeCast_apply _ _ _ (ix3 0 0 j) ?_).trans ?_
  · rw [Shape.rowMajor_val_two, Shape.rowMajor_val_three]; rfl
  rw [View.readAt_eq_ld, ha.read_unread]
  refine (congrArg x (?_ : _ = ix3 0 0 ⟨j, by omega⟩)).trans (hx _)
  funext y; apply Fin.ext
  match y with
  | ⟨0, _⟩ => rfl
  | ⟨1, _⟩ => rfl
  | ⟨2, _⟩ => show 0 + 1 * (j : ℕ) = j; omega

variable {arg2 arg3 arg4 arg5 arg6 arg7 arg8 harg2 harg3 harg4 harg5 harg6 harg7 harg8 x0 x1 x2 x3 x4 x5 x6}
  (h0 : Holds 0 x0 q) (h1 : Holds 0 x1 k) (h2 : Holds 0 x2 v) (h3 : Holds 0 x3 o)
  (h4 : ∀ (j : Fin 2176) (e : Fin 2), x4 (ix3 0 j e) = ((c e j : ℝ) : EReal)) (h5 : ∀ j : Fin 2176, x5 (ix3 0 0 j) = ((c 0 j : ℝ) : EReal))
  (h6 : ∀ j : Fin 2176, x6 (ix3 0 0 j) = ((c 1 j : ℝ) : EReal)) {e b : ℕ} (he : e < 2) (hb : b < 9)

include h4 he hb in
theorem ct_holds (r : Fin (mOf b)) : ct arg6 harg6 x4 e b (ix2 r 0) = ((c e (r0 b + r) : ℝ) : EReal) := by
  match e, he with
  | 0, _ => exact col_holds arg6 harg6 (by norm_num) (fun j => h4 j 0) hb r
  | 1, _ => exact col_holds arg6 harg6 (by norm_num) (fun j => h4 j 1) hb r
include h5 h6 he hb in
theorem cr_holds (j : Fin (nOf b)) : cr arg7 harg7 arg8 harg8 x5 x6 e b (ix2 0 j) = ((c e j : ℝ) : EReal) := by
  match e, he with
  | 0, _ => exact row_holds arg7 harg7 h5 hb j
  | 1, _ => exact row_holds arg8 harg8 h6 hb j

include h0 h1 h4 h5 h6 he hb in
theorem s_scores : Scores (r0 b) (sS arg2 harg2 arg3 harg3 arg6 harg6 arg7 harg7 arg8 harg8 x0 x1 x4 x5 x6 e b) (g q k c e) := by
  refine maskK_scores neg_eq b fun r j => ?_
  have hm : matmul (DotDims.transposedRhs (mOf b) 128 (nOf b)) none (qe arg2 harg2 x0 e b) (keysL 0 le_rfl arg3 harg3 x1 b) (constant (Sh (mOf b) (nOf b)) .f32 0x00000000#32) (ix2 r j)
      = ((∑ l : Fin 128, half q e (r0 b + r) l * k j l : ℝ) : EReal) := by
    refine (dpV_apply _ _ r j).trans ?_
    rw [coe_sum]
    refine Finset.sum_congr rfl fun l _ => ?_
    rw [show qe arg2 harg2 x0 e b (ix2 r l) = _ from lane_holds (rows_holds0 arg2 harg2 h0 hb) he r l, keys_holds0 arg3 harg3 h1 hb j l, Nat.zero_add, EReal.coe_mul]
  have hc1 : broadcastTo (Sh (mOf b) (nOf b)) (ct arg6 harg6 x4 e b) (facts _ _).bc1 (ix2 r j) = ((c e (r0 b + r) : ℝ) : EReal) :=
    (col_apply _ _ r j).trans (ct_holds h4 he hb r)
  have hc2 : broadcastTo (Sh (mOf b) (nOf b)) (cr arg7 harg7 arg8 harg8 x5 x6 e b) (bcRow _ _) (ix2 r j) = ((c e j : ℝ) : EReal) :=
    (ValueIdx.broadcastTo_1b_ab_apply _ _ r j).trans (cr_holds h5 h6 he hb j)
  show matmul _ _ _ _ _ _ * sc + broadcastTo _ _ _ _ - broadcastTo _ _ _ _ = _
  rw [hm, hc1, hc2, sc_eq, ← EReal.coe_mul, ← EReal.coe_add, ← EReal.coe_sub]
  rfl

/-- Head `e`'s scores' gradients. -/
def SS (q k v o : ℕ → ℕ → ℝ) (c : ℕ → ℕ → ℝ) (e i j : ℕ) : ℝ := S (g q k c e) (half o e) v i j

include h0 h1 h2 h3 h4 h5 h6 he hb in
theorem dqB_holds : Holds (r0 b) (dqB arg2 harg2 arg3 harg3 arg4 harg4 arg5 harg5 arg6 harg6 arg7 harg7 arg8 harg8 x0 x1 x2 x3 x4 x5 x6 e b) fun i l => (∑ j ∈ Finset.range 2176, SS q k v o c e i j * k j l) * (1 / 8) := by
  unfold dqB; rw [sc_eq]
  exact dq_holds _ rfl (nOf_le hb) (s_scores h0 h1 h4 h5 h6 he hb) (lane_holds (rows_holds0 arg5 harg5 h3 hb) he) (keys_holds0 arg4 harg4 h2 hb) (keys_holds0 arg3 harg3 h1 hb)
include h0 h1 h2 h3 h4 h5 h6 hb in
theorem dqP_holds : Holds (r0 b) (dqP arg2 harg2 arg3 harg3 arg4 harg4 arg5 harg5 arg6 harg6 arg7 harg7 arg8 harg8 x0 x1 x2 x3 x4 x5 x6 b) fun i l => (∑ j ∈ Finset.range 2176, SS q k v o c (l / 64) i j * k j l) * (1 / 8) := by
  intro r l
  have hl := l.isLt
  show Scalar.select (IntOp.cmpi .slt (BitVec.ofNat 32 (0 * 128 + l)) (BitVec.ofNat 32 64)) (dqB arg2 harg2 arg3 harg3 arg4 harg4 arg5 harg5 arg6 harg6 arg7 harg7 arg8 harg8 x0 x1 x2 x3 x4 x5 x6 0 b (ix2 r l)) (dqB arg2 harg2 arg3 harg3 arg4 harg4 arg5 harg5 arg6 harg6 arg7 harg7 arg8 harg8 x0 x1 x2 x3 x4 x5 x6 1 b (ix2 r l)) = _
  rw [sel_lt _ _ (by omega) (by norm_num), dqB_holds h0 h1 h2 h3 h4 h5 h6 (by norm_num) hb r l, dqB_holds h0 h1 h2 h3 h4 h5 h6 (by norm_num) hb r l, Nat.zero_mul, Nat.zero_add]
  beta_reduce
  by_cases hh : (l : ℕ) < 64
  · rw [if_pos hh, show (l : ℕ) / 64 = 0 by omega]
  · rw [if_neg hh, show (l : ℕ) / 64 = 1 by omega]
include h0 h1 h2 h3 h4 h5 h6 he hb in
theorem dkB_holds : Holds 0 (dkB arg2 harg2 arg3 harg3 arg4 harg4 arg5 harg5 arg6 harg6 arg7 harg7 arg8 harg8 x0 x1 x2 x3 x4 x5 x6 e b) fun j l => ∑ r : Fin (mOf b), SS q k v o c e (r0 b + r) j * half q e (r0 b + r) l * (1 / 8) := by
  unfold dkB; rw [sc_eq]
  intro j l
  refine (dk_holds _ rfl (nOf_le hb) (s_scores h0 h1 h4 h5 h6 he hb) (lane_holds (rows_holds0 arg5 harg5 h3 hb) he) (keys_holds0 arg4 harg4 h2 hb) (lane_holds (rows_holds0 arg2 harg2 h0 hb) he) j l).trans ?_
  beta_reduce
  rw [Finset.sum_mul]; rfl
include h0 h1 h3 h4 h5 h6 he hb in
theorem dvB_holds : Holds 0 (dvB arg2 harg2 arg3 harg3 arg5 harg5 arg6 harg6 arg7 harg7 arg8 harg8 x0 x1 x3 x4 x5 x6 e b) fun j l => ∑ r : Fin (mOf b), P (g q k c e) (r0 b + r) j * half o e (r0 b + r) l :=
  dv_holds _ rfl (nOf_le hb) (s_scores h0 h1 h4 h5 h6 he hb) (lane_holds (rows_holds0 arg5 harg5 h3 hb) he)
include h0 h1 h2 h3 h4 h5 h6 he hb in
theorem dcB_holds (j : Fin (nOf b)) : dcB arg2 harg2 arg3 harg3 arg4 harg4 arg5 harg5 arg6 harg6 arg7 harg7 arg8 harg8 x0 x1 x2 x3 x4 x5 x6 e b (ix2 0 j) = ((∑ r : Fin (mOf b), SS q k v o c e (r0 b + r) j : ℝ) : EReal) :=
  dc_holds _ rfl (nOf_le hb) (s_scores h0 h1 h4 h5 h6 he hb) (lane_holds (rows_holds0 arg5 harg5 h3 hb) he) (keys_holds0 arg4 harg4 h2 hb) j

end Values

/-! ## What the kernel's run leaves -/

section Out
variable {arg2 : Memref sig .tc .vmem S2176x128 .bf16} {harg2 : arg2.IsWhole} {arg3 : Memref sig .tc .vmem S2176x128 .bf16} {harg3 : arg3.IsWhole}
  {arg4 : Memref sig .tc .vmem S2176x128 .bf16} {harg4 : arg4.IsWhole} {arg5 : Memref sig .tc .vmem S2176x128 .bf16} {harg5 : arg5.IsWhole}
  {arg6 : Memref sig .tc .vmem S1x2176x2 .f32} {harg6 : arg6.IsWhole} {arg7 : Memref sig .tc .vmem S1x1x2176 .f32} {harg7 : arg7.IsWhole}
  {arg8 : Memref sig .tc .vmem S1x1x2176 .f32} {harg8 : arg8.IsWhole}
  {x0 x1 x2 x3 : FVec Ideal S2176x128 .bf16} {x4 : FVec Ideal S1x2176x2 .f32} {x5 x6 : FVec Ideal S1x1x2176 .f32}
variable {q k v o : ℕ → ℕ → ℝ} {c : ℕ → ℕ → ℝ}
  (h0 : Holds 0 x0 q) (h1 : Holds 0 x1 k) (h2 : Holds 0 x2 v) (h3 : Holds 0 x3 o)
  (h4 : ∀ (j : Fin 2176) (e : Fin 2), x4 (ix3 0 j e) = ((c e j : ℝ) : EReal)) (h5 : ∀ j : Fin 2176, x5 (ix3 0 0 j) = ((c 0 j : ℝ) : EReal))
  (h6 : ∀ j : Fin 2176, x6 (ix3 0 0 j) = ((c 1 j : ℝ) : EReal))
variable (dd : Dev nD) (i : grid0.Coords) (arg9 : Memref sig .tc .vmem S2176x128 .f32) (harg9 : arg9.IsWhole) (arg10 : Memref sig .tc .vmem S2176x128 .f32) (harg10 : arg10.IsWhole)
  (arg11 : Memref sig .tc .vmem S2176x128 .f32) (harg11 : arg11.IsWhole) (arg12 : Memref sig .tc .vmem S1x1x2176 .f32) (harg12 : arg12.IsWhole)
  (arg13 : Memref sig .tc .vmem S1x1x2176 .f32) (harg13 : arg13.IsWhole)

local notation "OUT(" f ")" => f (F := Ideal) dd i arg2 harg2 arg3 harg3 arg4 harg4 arg5 harg5 arg6 harg6 arg7 harg7 arg8 harg8 arg9 harg9 arg10 harg10 arg11 harg11 arg12 harg12 arg13 harg13 x0 x1 x2 x3 x4 x5 x6

include h0 h1 h2 h3 h4 h5 h6

/-- The queries' gradients. -/
theorem out_dq (j : Fin 2176) (l : Fin 128) :
    OUT(Gen.out0_A_7) (ix2 j l) = (((∑ jj ∈ Finset.range 2176, SS q k v o c (l / 64) j jj * k jj l) * (1 / 8) : ℝ) : EReal) := by
  unfold Gen.out0_A_7
  rw [tie_dq]
  frame_out
  exact rowSweep_apply (fun b hb => dqP_holds h0 h1 h2 h3 h4 h5 h6 hb) 9 le_rfl j j.isLt l ⟨Nat.zero_le _, by have := l.isLt; omega⟩
/-- The keys' gradients. -/
theorem out_dk (j : Fin 2176) (l : Fin 128) :
    OUT(Gen.out0_A_8) (ix2 j l) = ((∑ e ∈ Finset.range 2, ∑ ii ∈ Finset.range 2176, SS q k v o c e ii j * half q e ii l * (1 / 8) : ℝ) : EReal) := by
  unfold Gen.out0_A_8
  rw [tie_dk]
  frame_out
  refine (addSweep_leaves zero_eq arg10.view (T := fun e i j l => SS q k v o c e i j * half q e i l * (1 / 8)) (fun e i j l h => by
    rw [SS, S_zero (off h), zero_mul, zero_mul]) (fun e b he hb => dkB_holds h0 h1 h2 h3 h4 h5 h6 he hb) 9 le_rfl j l).trans ?_
  simp only [Nat.zero_le, true_and, Nat.zero_add, l.isLt, if_true, Nat.sub_zero]; rfl
omit h2 in
/-- The values' gradients. -/
theorem out_dv (j : Fin 2176) (l : Fin 128) :
    OUT(Gen.out0_A_9) (ix2 j l) = ((∑ e ∈ Finset.range 2, ∑ ii ∈ Finset.range 2176, P (g q k c e) ii j * half o e ii l : ℝ) : EReal) := by
  unfold Gen.out0_A_9
  rw [tie_dv]
  frame_out
  refine (addSweep_leaves zero_eq arg11.view (T := fun e i j l => P (g q k c e) i j * half o e i l) (fun e i j l h => by
    rw [P_zero (off h), zero_mul]) (fun e b he hb => dvB_holds h0 h1 h3 h4 h5 h6 he hb) 9 le_rfl j l).trans ?_
  simp only [Nat.zero_le, true_and, Nat.zero_add, l.isLt, if_true, Nat.sub_zero]; rfl
/-- The first head's running sum's gradients. -/
theorem out_dc0 (j : Fin 2176) : OUT(Gen.out0_A_10) (ix3 0 0 j) = ((-∑ ii ∈ Finset.range 2176, SS q k v o c 0 ii j : ℝ) : EReal) := by
  unfold Gen.out0_A_10
  rw [tie_dc0]
  frame_out
  exact subSweep_leaves zero_eq arg12.view (fun i j h => S_zero (off h)) (fun b hb => dcB_holds h0 h1 h2 h3 h4 h5 h6 (by norm_num) hb) 9 le_rfl j
/-- The second head's. -/
theorem out_dc1 (j : Fin 2176) : OUT(Gen.out0_A_11) (ix3 0 0 j) = ((-∑ ii ∈ Finset.range 2176, SS q k v o c 1 ii j : ℝ) : EReal) := by
  unfold Gen.out0_A_11
  rw [tie_dc1]
  frame_out
  exact subSweep_leaves zero_eq arg13.view (fun i j h => S_zero (off h)) (fun b hb => dcB_holds h0 h1 h2 h3 h4 h5 h6 (by norm_num) hb) 9 le_rfl j

end Out

end Cert.FoxValue
end
-- ==== Proof.AttnPack.lean ====
/- Two heads' lanes side by side, and rows of heads packed by position. -/
module

public import proofs.«01_k».proof.Proof.AttnTok
public import proofs.«01_k».proof.Proof.AttnLoad

@[expose] public section

set_option maxRecDepth 16384

noncomputable section

namespace Cert.Attn

open Idealize.ShloMosaic
open scoped BigOperators

section Pair
variable {W : ℕ} (b hp : ℕ)

/-- A pair of heads' block of rows, 64 lanes a head, at positions. -/
def rowsB (x : FVec Ideal ⟨4, ![4, 8, 2064, 64]⟩ .f32) (p l : ℕ) : ℝ := pad (fun n => T x b ((hp * 128 + l) / 64) n ((hp * 128 + l) % 64)) p

theorem rowsB_pos (x) (n l : ℕ) : rowsB b hp x (pos n) l = T x b ((hp * 128 + l) / 64) n ((hp * 128 + l) % 64) := pad_pos _ n
theorem rowsB_in (x) {p : ℕ} (h : 16 ≤ p ∧ p < 128) (l : ℕ) : rowsB b hp x p l = 0 := pad_in _ h
theorem half_in (x) {p : ℕ} (h : 16 ≤ p ∧ p < 128) (e l : ℕ) : half (rowsB b hp x) e p l = 0 := by
  unfold half; rw [rowsB_in b hp x h, ite_self]

/-- A head's half of the pair's lanes carries the head's own product. -/
theorem dot_pos (x y) {e : ℕ} (he : e < 2) (n m : ℕ) :
    ∑ l : Fin 128, half (rowsB b hp x) e (pos n) l * rowsB b hp y (pos m) l = ∑ d : Fin 64, T x b (hp * 2 + e) n d * T y b (hp * 2 + e) m d := by
  refine (Finset.sum_congr rfl fun l _ => ?_).trans ((sum_half (fun l => rowsB b hp x (pos n) l * rowsB b hp y (pos m) l) he).trans
    (Finset.sum_congr rfl fun d _ => ?_))
  · unfold half; rw [ite_mul, zero_mul]
  · have hd := d.isLt
    rw [rowsB_pos, rowsB_pos, show (hp * 128 + (64 * e + d.val)) / 64 = hp * 2 + e by omega, show (hp * 128 + (64 * e + d.val)) % 64 = d.val by omega]

theorem lane_head {l : ℕ} (hl : l < 128) : l / 64 < 2 ∧ hp * 2 + l / 64 = (hp * 128 + l) / 64 ∧ l % 64 = (hp * 128 + l) % 64 := by omega

/-- Only a lane's own head adds to it. -/
theorem sum_heads {l : ℕ} (hl : l < 128) (x) (i : ℕ) :
    ∀ F : ℕ → ℝ → ℝ, (∀ e, F e 0 = 0) → ∑ e ∈ Finset.range 2, F e (half (rowsB b hp x) e i l) = F (l / 64) (rowsB b hp x i l) := by
  intro F hF
  rw [Finset.sum_eq_single (l / 64) (fun e he hne => ?_) fun hn => absurd (Finset.mem_range.2 (by omega)) hn]
  · unfold half
    rw [if_pos]
    unfold laneOf; split_ifs <;> omega
  · unfold half
    rw [if_neg, hF]
    have := Finset.mem_range.1 he
    unfold laneOf; split_ifs <;> omega

end Pair

/-! ## Rows of heads, packed by position -/

/-- Eight heads side by side on the lanes, `w` lanes each, packed by position. -/
def rowsOf {N : ℕ} (w : ℕ) (f : ℕ → ℕ → ℕ → ℕ → ℝ) : FVec Ideal ⟨2, ![8704, N]⟩ .f32 := fun y =>
  ((pad (fun n => f ((y 0).val / 2176) ((y 1).val / w) n ((y 1).val % w)) ((y 0).val % 2176) : ℝ) : EReal)

theorem rows_eq {N w w' : ℕ} {X : Fin 4 → Fin 8 → Fin 2064 → Fin w' → EReal} {f : ℕ → ℕ → ℕ → ℕ → ℝ} (hX : ∀ (b : Fin 4) (h : Fin 8) (n : Fin 2064) (d : Fin w'), X b h n d = ((f b h n d : ℝ) : EReal))
    (r : Fin 8704) (l : Fin N) (h1 : r.val / 2176 < 4) (h2 : l.val / w < 8) (h3 : l.val % w < w') (h4 : r.val % 2176 < 16 → r.val % 2176 < 2064)
    (h5 : ¬ r.val % 2176 < 16 → ¬ r.val % 2176 - 16 < 112 → 16 + (r.val % 2176 - 16 - 112) < 2064) :
    (if h : r.val % 2176 < 16 then X ⟨r.val / 2176, h1⟩ ⟨l.val / w, h2⟩ ⟨r.val % 2176, h4 h⟩ ⟨l.val % w, h3⟩
      else if h' : r.val % 2176 - 16 < 112 then 0
      else X ⟨r.val / 2176, h1⟩ ⟨l.val / w, h2⟩ ⟨16 + (r.val % 2176 - 16 - 112), h5 h h'⟩ ⟨l.val % w, h3⟩) = rowsOf w f (ix2 r l) :=
  pad_ifs (f := fun n => f (r.val / 2176) (l.val / w) n (l.val % w)) (X := fun n => X ⟨r.val / 2176, h1⟩ ⟨l.val / w, h2⟩ n ⟨l.val % w, h3⟩)
    (fun n => hX ⟨r.val / 2176, h1⟩ ⟨l.val / w, h2⟩ n ⟨l.val % w, h3⟩) h4 h5

theorem rowsOf_block {N w : ℕ} (f : ℕ → ℕ → ℕ → ℕ → ℝ) (b c : ℕ) (p : Fin 2176) (h1 : b * 2176 + p.val < 8704) (h2 : c < N) :
    rowsOf w f (ix2 (⟨b * 2176 + p.val, h1⟩ : Fin 8704) (⟨c, h2⟩ : Fin N)) = ((pad (fun n => f b (c / w) n (c % w)) p.val : ℝ) : EReal) := by
  have lp := p.isLt
  show ((pad (fun n => f ((b * 2176 + p.val) / 2176) (c / w) n (c % w)) ((b * 2176 + p.val) % 2176) : ℝ) : EReal) = _
  rw [show (b * 2176 + p.val) / 2176 = b by omega, show (b * 2176 + p.val) % 2176 = p.val by omega]

end Cert.Attn

end
-- ==== Proof.FoxRef.lean ====
/- The forget attention's gradients as the reference has them, of finite operands. -/
module

public import proofs.«01_k».proof.Proof.AttnPack
public import proofs.«01_k».proof.Proof.Gen.FoxBwdRefIdeal.Read
public import Idealize.ShloMosaic.Lib.Pointwise

@[expose] public section

set_option maxRecDepth 16384

noncomputable section

namespace Cert.FoxRef

open Idealize.ShloMosaic Cert.Attn Cert.FoxBwdRefIdeal Cert.FoxBwdRefIdeal.Read
open scoped BigOperators

/-- The arrays of rows per head. -/
abbrev X4 := FVec Ideal ⟨4, ![4, 8, 2064, 64]⟩ .f32
/-- The running sums. -/
abbrev X3 := FVec Ideal ⟨3, ![4, 8, 2064]⟩ .f32

section Real
variable (q k v : X4) (c : X3) (o : X4) (b h : ℕ)

/-- The scores of one head. -/
def gT (n m : ℕ) : ℝ := (∑ d : Fin 64, T q b h n d * T k b h m d) * (1 / 8) + T3 c b h n - T3 c b h m
/-- The weights' gradient. -/
def dT (n m : ℕ) : ℝ := ∑ d : Fin 64, T o b h n d * T v b h m d
/-- The scores' gradient. -/
def sT (n m : ℕ) : ℝ := Attn.ST (gT q k c b h) (dT v o b h) n m
/-- The queries' gradient. -/
def dqT (n d : ℕ) : ℝ := ∑ m : Fin 2064, sT q k v c o b h n m * (1 / 8) * T k b h m d
/-- The keys' gradient. -/
def dkT (m d : ℕ) : ℝ := ∑ n : Fin 2064, sT q k v c o b h n m * (1 / 8) * T q b h n d
/-- The values' gradient. -/
def dvT (m d : ℕ) : ℝ := ∑ n : Fin 2064, PT (gT q k c b h) n m * T o b h n d
/-- The running sums' gradient. -/
def dcT (m : ℕ) : ℝ := -∑ n : Fin 2064, sT q k v c o b h n m

end Real

theorem eighth : Ideal.ofBits .f32 0x3E000000#32 = ((1 / 8 : ℝ) : EReal) := by
  simp [Ideal.ofBits, Ideal.ieee, -EReal.coe_mul]; norm_num
theorem bot : Ideal.ofBits .f32 0xFF800000#32 = (⊥ : EReal) := by simp [Ideal.ofBits, Ideal.ieee]

section Stages
variable (x0 x1 x2 : X4) (x3 : X3) (x4 : X4) (b : Fin 4) (h : Fin 8)

theorem raw (i j : Fin 2064) : val_main_v8 (F := Ideal) x0 x1 x3 (ix4 b h i j)
    = (∑ d : Fin 64, x0 (ix4 b h i d) * x1 (ix4 b h j d)) * Ideal.ofBits .f32 0x3E000000#32 + x3 (ix3 b h i) - x3 (ix3 b h j) := by
  pointwise [val_main_v8, val_main_v7, val_main_v6, val_main_v5, val_main_v4, val_main_v3, val_main_v2, val_main_v1, val_main_v0, val_main_cst]

theorem maskRef (i j : Fin 2064) : val_main_v16_1 (F := Ideal) (ix4 b h i j) = if j.val ≤ i.val then 1#1 else 0#1 := by
  pointwise [val_main_v16_1, val_main_v15, val_main_v14, val_main_v13, val_main_v12, val_main_v11, val_main_v10, val_main_v9]
  have hi := i.isLt
  have hj := j.isLt
  rw [WordCmp.cmpi_sge_ofNat (by omega) (by omega)]
  split_ifs with hh <;> simp [hh]
theorem masked (i j : Fin 2064) : val_main_v16_0 (F := Ideal) x0 x1 x3 (ix4 b h i j)
    = if j.val ≤ i.val then val_main_v8 (F := Ideal) x0 x1 x3 (ix4 b h i j) else ⊥ := by
  unfold val_main_v16_0
  show Scalar.select (val_main_v16_1 (F := Ideal) (ix4 b h i j)) _ _ = _
  rw [maskRef]
  split_ifs
  · rfl
  · exact bot
theorem mx (i : Fin 2064) : val_main_v24 (F := Ideal) x0 x1 x3 (ix3 b h i)
    = max ⊥ ((Finset.univ : Finset (Fin 2064)).fold max ⊥ fun j => val_main_v16_0 (F := Ideal) x0 x1 x3 (ix4 b h i j)) := by
  have e : val_main_v17 (F := Ideal) x0 x1 x3 (ix3 b h i) = _ := max_keys (val_main_v16_0 (F := Ideal) x0 x1 x3) (val_main_cst_1 (F := Ideal)) (fun _ => bot) _ _ b h i
  rw [val_main_v24_apply, e]
  generalize (Finset.univ : Finset (Fin 2064)).fold max (⊥ : EReal) (fun j => val_main_v16_0 (F := Ideal) x0 x1 x3 (ix4 b h i j)) = z
  exact congrArg (fun y => max y z) bot
theorem ex (i j : Fin 2064) : val_main_v37 (F := Ideal) x0 x1 x3 (ix4 b h i j)
    = Ideal.exp (val_main_v16_0 (F := Ideal) x0 x1 x3 (ix4 b h i j) - val_main_v24 (F := Ideal) x0 x1 x3 (ix3 b h i)) := by
  pointwise [val_main_v37, val_main_v36, val_main_v35, val_main_v34]
theorem tot (i : Fin 2064) : val_main_v38 (F := Ideal) x0 x1 x3 (ix3 b h i) = ∑ j : Fin 2064, val_main_v37 (F := Ideal) x0 x1 x3 (ix4 b h i j) := by
  pointwise [val_main_v38, val_main_cst_9]
theorem wts (i j : Fin 2064) : val_main_v41 (F := Ideal) x0 x1 x3 (ix4 b h i j)
    = Ideal.div (val_main_v37 (F := Ideal) x0 x1 x3 (ix4 b h i j)) (val_main_v38 (F := Ideal) x0 x1 x3 (ix3 b h i)) := by
  pointwise [val_main_v41, val_main_v40, val_main_v39]
theorem dV (i j : Fin 2064) : val_main_v48 (F := Ideal) x2 x4 (ix4 b h i j) = ∑ d : Fin 64, x4 (ix4 b h i d) * x2 (ix4 b h j d) := by
  pointwise [val_main_v48]
theorem cor (i : Fin 2064) : val_main_v52 (F := Ideal) x0 x1 x2 x3 x4 (ix3 b h i)
    = ∑ j : Fin 2064, val_main_v48 (F := Ideal) x2 x4 (ix4 b h i j) * Ideal.div 1 (val_main_v38 (F := Ideal) x0 x1 x3 (ix3 b h i) * val_main_v38 (F := Ideal) x0 x1 x3 (ix3 b h i)) * val_main_v37 (F := Ideal) x0 x1 x3 (ix4 b h i j) := by
  pointwise [val_main_v52, val_main_v51, val_main_v50, val_main_v49, val_main_v44, val_main_v43, val_main_v42, val_main_v39, val_main_cst_11, val_main_cst_10]
theorem dsRef (i j : Fin 2064) : val_main_v60 (F := Ideal) x0 x1 x2 x3 x4 (ix4 b h i j)
    = (Ideal.div (val_main_v48 (F := Ideal) x2 x4 (ix4 b h i j)) (val_main_v38 (F := Ideal) x0 x1 x3 (ix3 b h i)) + -(val_main_v52 (F := Ideal) x0 x1 x2 x3 x4 (ix3 b h i)))
      * val_main_v37 (F := Ideal) x0 x1 x3 (ix4 b h i j) := by
  pointwise [val_main_v60, val_main_v59, val_main_v58, val_main_v57, val_main_v56, val_main_v55, val_main_v54, val_main_v53, val_main_v39, val_main_cst_12]
  rw [Fin.sum_univ_one]

theorem vsel (i j : Fin 2064) : val_main_v61 (F := Ideal) x0 x1 x2 x3 x4 (ix4 b h i j)
    = if j.val ≤ i.val then val_main_v60 (F := Ideal) x0 x1 x2 x3 x4 (ix4 b h i j) else 0 := by
  show Scalar.select (val_main_v16_1 (F := Ideal) (ix4 b h i j)) _ _ = _
  rw [maskRef]
  split_ifs
  · rfl
  · exact Ideal.ofBits_zero_f32
theorem dqRef (i : Fin 2064) (d : Fin 64) : val_main_v73 (F := Ideal) x0 x1 x2 x3 x4 (ix4 b h i d)
    = ∑ j : Fin 2064, val_main_v61 (F := Ideal) x0 x1 x2 x3 x4 (ix4 b h i j) * Ideal.ofBits .f32 0x3E000000#32 * x1 (ix4 b h j d) := by
  pointwise [val_main_v73, val_main_v71, val_main_v70, val_main_cst_17]
theorem dkRef (j : Fin 2064) (d : Fin 64) : val_main_v72 (F := Ideal) x0 x1 x2 x3 x4 (ix4 b h j d)
    = ∑ i : Fin 2064, val_main_v61 (F := Ideal) x0 x1 x2 x3 x4 (ix4 b h i j) * Ideal.ofBits .f32 0x3E000000#32 * x0 (ix4 b h i d) := by
  pointwise [val_main_v72, val_main_v71, val_main_v70, val_main_cst_17]
theorem dvRef (j : Fin 2064) (d : Fin 64) : val_main_v47 (F := Ideal) x0 x1 x3 x4 (ix4 b h j d)
    = ∑ i : Fin 2064, x4 (ix4 b h i d) * val_main_v41 (F := Ideal) x0 x1 x3 (ix4 b h i j) := by
  pointwise [val_main_v47, val_main_v46]
theorem dcRef (j : Fin 2064) : val_main_v69 (F := Ideal) x0 x1 x2 x3 x4 (ix3 b h j)
    = ∑ i : Fin 2064, -val_main_v61 (F := Ideal) x0 x1 x2 x3 x4 (ix4 b h i j) + ∑ i : Fin 2064, val_main_v61 (F := Ideal) x0 x1 x2 x3 x4 (ix4 b h j i) := by
  pointwise [val_main_v69, val_main_v68, val_main_v67, val_main_v66, val_main_v65, val_main_v64, val_main_v63, val_main_v62, val_main_cst_13, val_main_cst_14, val_main_cst_15, val_main_cst_16]
  rw [Fin.sum_univ_one, Fin.sum_univ_one]
end Stages

/-! ## Of finite operands -/

section Finite
variable {x0 x1 x2 : X4} {x3 : X3} {x4 : X4} (h0 : Fin' x0) (h1 : Fin' x1) (h2 : Fin' x2) (h3 : Fin' x3) (h4 : Fin' x4) (b : Fin 4) (h : Fin 8)

/-- A product of two heads' rows. -/
theorem coe_dot {x y : X4} (hx : Fin' x) (hy : Fin' y) (i j : Fin 2064) :
    ∑ d : Fin 64, x (ix4 b h i d) * y (ix4 b h j d) = ((∑ d : Fin 64, T x b h i d * T y b h j d : ℝ) : EReal) := by
  rw [coe_sum]
  exact Finset.sum_congr rfl fun d _ => by rw [T_eq hx, T_eq hy, ← EReal.coe_mul]

include h0 h1 h3 in
theorem scores (i j : Fin 2064) : val_main_v16_0 (F := Ideal) x0 x1 x3 (ix4 b h i j)
    = if j.val ≤ i.val then ((gT x0 x1 x3 b h i j : ℝ) : EReal) else ⊥ := by
  rw [masked, raw, coe_dot b h h0 h1, eighth, T3_eq h3, T3_eq h3, ← EReal.coe_mul, ← EReal.coe_add, ← EReal.coe_sub]
  rfl

include h0 h1 h3 in
theorem exps (i : Fin 2064) : ∃ a : ℝ, 0 < a ∧ ∀ j : Fin 2064,
    val_main_v37 (F := Ideal) x0 x1 x3 (ix4 b h i j) = ((WT (gT x0 x1 x3 b h) i j * a : ℝ) : EReal) := by
  obtain ⟨a, ha, he⟩ := row_exp (g := gT x0 x1 x3 b h) i.isLt (fun j => scores h0 h1 h3 b h i j)
  exact ⟨a, ha, fun j => by rw [ex, mx]; exact he j⟩

include h0 h1 h3 in
theorem weights (i j : Fin 2064) : val_main_v41 (F := Ideal) x0 x1 x3 (ix4 b h i j) = ((PT (gT x0 x1 x3 b h) i j : ℝ) : EReal) := by
  obtain ⟨a, ha, he⟩ := exps h0 h1 h3 b h i
  rw [wts, tot]
  exact row_P i.isLt ha he j

include h0 h1 h2 h3 h4 in
theorem grads (i j : Fin 2064) : val_main_v61 (F := Ideal) x0 x1 x2 x3 x4 (ix4 b h i j) = ((sT x0 x1 x2 x3 x4 b h i j : ℝ) : EReal) := by
  obtain ⟨a, ha, he⟩ := exps h0 h1 h3 b h i
  rw [vsel]
  split_ifs with hij
  · rw [dsRef, cor, tot]
    exact row_S i.isLt ha he (dT := dT x2 x4 b h) (fun j => (dV x2 x4 b h i j).trans (coe_dot b h h4 h2 i j)) j
  · unfold sT Attn.ST PT WT wt
    rw [if_neg hij, zero_div, zero_mul, EReal.coe_zero]

include h0 h1 h2 h3 h4 in
theorem dqV (i : Fin 2064) (d : Fin 64) : val_main_v73 (F := Ideal) x0 x1 x2 x3 x4 (ix4 b h i d) = ((dqT x0 x1 x2 x3 x4 b h i d : ℝ) : EReal) := by
  unfold dqT
  rw [dqRef, coe_sum]
  exact Finset.sum_congr rfl fun j _ => by rw [grads h0 h1 h2 h3 h4, eighth, T_eq h1, ← EReal.coe_mul, ← EReal.coe_mul]
include h0 h1 h2 h3 h4 in
theorem dkV (i : Fin 2064) (d : Fin 64) : val_main_v72 (F := Ideal) x0 x1 x2 x3 x4 (ix4 b h i d) = ((dkT x0 x1 x2 x3 x4 b h i d : ℝ) : EReal) := by
  unfold dkT
  rw [dkRef, coe_sum]
  exact Finset.sum_congr rfl fun j _ => by rw [grads h0 h1 h2 h3 h4, eighth, T_eq h0, ← EReal.coe_mul, ← EReal.coe_mul]
include h0 h1 h3 h4 in
theorem dvV (i : Fin 2064) (d : Fin 64) : val_main_v47 (F := Ideal) x0 x1 x3 x4 (ix4 b h i d) = ((dvT x0 x1 x3 x4 b h i d : ℝ) : EReal) := by
  unfold dvT
  rw [dvRef, coe_sum]
  exact Finset.sum_congr rfl fun j _ => by rw [weights h0 h1 h3, T_eq h4, ← EReal.coe_mul, mul_comm]
include h0 h1 h2 h3 h4 in
theorem dcV (i : Fin 2064) : val_main_v69 (F := Ideal) x0 x1 x2 x3 x4 (ix3 b h i) = ((dcT x0 x1 x2 x3 x4 b h i : ℝ) : EReal) := by
  have e : (∑ j : Fin 2064, val_main_v61 (F := Ideal) x0 x1 x2 x3 x4 (ix4 b h i j)) = 0 := by
    rw [Finset.sum_congr rfl fun j _ => grads h0 h1 h2 h3 h4 b h i j, ← coe_sum]
    exact (congrArg _ (sum_ST (gT x0 x1 x3 b h) (dT x2 x4 b h) i.isLt)).trans EReal.coe_zero
  unfold dcT
  rw [dcRef, e, add_zero, ← Finset.sum_neg_distrib, coe_sum]
  exact Finset.sum_congr rfl fun j _ => by rw [grads h0 h1 h2 h3 h4, ← EReal.coe_neg]

end Finite

/-! ## The results, packed -/

/-- One head of each pair, packed by position. -/
def pairOf (e : ℕ) (f : ℕ → ℕ → ℕ → ℝ) : FVec Ideal ⟨3, ![16, 1, 2176]⟩ .f32 := fun y =>
  ((pad (f ((y 0).val / 4) ((y 0).val % 4 * 2 + e)) (y 2).val : ℝ) : EReal)

theorem pair_eq {X : X3} {f : ℕ → ℕ → ℕ → ℝ} (hX : ∀ (b : Fin 4) (h : Fin 8) (n : Fin 2064), X (ix3 b h n) = ((f b h n : ℝ) : EReal))
    (e : ℕ) (hd : Fin 8) (r : Fin 16) (l : Fin 2176) (he : hd.val = r.val % 4 * 2 + e) (h1 : r.val / 4 < 4) (h4 : l.val < 16 → l.val < 2064)
    (h5 : ¬ l.val < 16 → ¬ l.val - 16 < 112 → 16 + (l.val - 16 - 112) < 2064) :
    (if h : l.val < 16 then X (ix3 ⟨r.val / 4, h1⟩ hd ⟨l.val, h4 h⟩)
      else if h' : l.val - 16 < 112 then 0
      else X (ix3 ⟨r.val / 4, h1⟩ hd ⟨16 + (l.val - 16 - 112), h5 h h'⟩)) = pairOf e f (ix3 r 0 l) :=
  pad_ifs (f := f (r.val / 4) (r.val % 4 * 2 + e)) (X := fun n => X (ix3 ⟨r.val / 4, h1⟩ hd n))
    (fun n => he ▸ hX ⟨r.val / 4, h1⟩ hd n) h4 h5

section Results
variable {x0 x1 x2 : X4} {x3 : X3} {x4 : X4} (h0 : Fin' x0) (h1 : Fin' x1) (h2 : Fin' x2) (h3 : Fin' x3) (h4 : Fin' x4)

include h0 h1 h2 h3 h4 in
theorem ref_dq : val_main_v85 (F := Ideal) x0 x1 x2 x3 x4 = rowsOf 64 (dqT x0 x1 x2 x3 x4) := by
  funext y
  idx_vars y
  pointwise [val_main_v85, val_main_v84, val_main_v83, val_main_v82, val_main_v81, val_main_v80, val_main_v79, val_main_cst_19]
  have l0 := y0.isLt
  have l1 := y1.isLt
  exact rows_eq (X := fun b h n d => val_main_v73 (F := Ideal) x0 x1 x2 x3 x4 (ix4 b h n d)) (dqV h0 h1 h2 h3 h4) y0 y1 (by omega) (by omega) (by omega) (by omega) (by omega)
include h0 h1 h2 h3 h4 in
theorem ref_dk : val_main_v92 (F := Ideal) x0 x1 x2 x3 x4 = rowsOf 64 (dkT x0 x1 x2 x3 x4) := by
  funext y
  idx_vars y
  pointwise [val_main_v92, val_main_v91, val_main_v90, val_main_v89, val_main_v88, val_main_v87, val_main_v86, val_main_cst_20]
  have l0 := y0.isLt
  have l1 := y1.isLt
  exact rows_eq (X := fun b h n d => val_main_v72 (F := Ideal) x0 x1 x2 x3 x4 (ix4 b h n d)) (dkV h0 h1 h2 h3 h4) y0 y1 (by omega) (by omega) (by omega) (by omega) (by omega)
include h0 h1 h3 h4 in
theorem ref_dv : val_main_v99 (F := Ideal) x0 x1 x3 x4 = rowsOf 64 (dvT x0 x1 x3 x4) := by
  funext y
  idx_vars y
  pointwise [val_main_v99, val_main_v98, val_main_v97, val_main_v96, val_main_v95, val_main_v94, val_main_v93, val_main_cst_21]
  have l0 := y0.isLt
  have l1 := y1.isLt
  exact rows_eq (X := fun b h n d => val_main_v47 (F := Ideal) x0 x1 x3 x4 (ix4 b h n d)) (dvV h0 h1 h3 h4) y0 y1 (by omega) (by omega) (by omega) (by omega) (by omega)
include h0 h1 h2 h3 h4 in
theorem ref_dc0 : val_main_v100 (F := Ideal) x0 x1 x2 x3 x4 = pairOf 0 (dcT x0 x1 x2 x3 x4) := by
  funext y
  idx_vars y
  obtain rfl : y1 = 0 := Subsingleton.elim _ _
  pointwise [val_main_v100, val_main_v78, val_main_v77, val_main_v76, val_main_v75, val_main_v74, val_main_cst_18]
  have l0 := y0.isLt
  have l2 := y2.isLt
  exact pair_eq (X := val_main_v69 (F := Ideal) x0 x1 x2 x3 x4) (dcV h0 h1 h2 h3 h4) 0 ⟨y0.val % 4 * 2, by omega⟩ y0 y2 rfl (by omega) (by omega) (by omega)
include h0 h1 h2 h3 h4 in
theorem ref_dc1 : val_main_v101 (F := Ideal) x0 x1 x2 x3 x4 = pairOf 1 (dcT x0 x1 x2 x3 x4) := by
  funext y
  idx_vars y
  obtain rfl : y1 = 0 := Subsingleton.elim _ _
  pointwise [val_main_v101, val_main_v78, val_main_v77, val_main_v76, val_main_v75, val_main_v74, val_main_cst_18]
  have l0 := y0.isLt
  have l2 := y2.isLt
  exact pair_eq (X := val_main_v69 (F := Ideal) x0 x1 x2 x3 x4) (dcV h0 h1 h2 h3 h4) 1 ⟨y0.val % 4 * 2 + 1, by omega⟩ y0 y2 rfl (by omega) (by omega) (by omega)

end Results

end Cert.FoxRef

end
-- ==== Proof.FoxTok.lean ====
/- The forget attention's backward kernel over tokens: what one pair of heads' block results come to. -/
module

public import proofs.«01_k».proof.Proof.FoxValue
public import proofs.«01_k».proof.Proof.FoxRef

@[expose] public section

set_option maxRecDepth 16384

noncomputable section

namespace Cert.FoxTok

open Idealize.ShloMosaic Cert.Attn
open Cert.FoxRef (X4 X3 gT dT sT dqT dkT dvT dcT)
open Cert.FoxValue (g SS)
open scoped BigOperators

variable (x0 x1 x2 : X4) (x3 : X3) (x4 : X4) (b hp : ℕ)

/-- One head's running sums, at positions. -/
def sumsB (x : X3) (e p : ℕ) : ℝ := pad (T3 x b (hp * 2 + e)) p

/-- The kernel's scores of the pair. -/
def gB (e : ℕ) : ℕ → ℕ → ℝ := g (rowsB b hp x0) (rowsB b hp x1) (sumsB b hp x3) e
/-- The kernel's score gradients of the pair. -/
def sB (e : ℕ) : ℕ → ℕ → ℝ := SS (rowsB b hp x0) (rowsB b hp x1) (rowsB b hp x2) (rowsB b hp x4) (sumsB b hp x3) e

theorem g_pos {e : ℕ} (he : e < 2) (n m : Fin 2064) : gB x0 x1 x3 b hp e (pos n) (pos m) = gT x0 x1 x3 b (hp * 2 + e) n m := by
  unfold gB g gT sumsB
  rw [dot_pos b hp x0 x1 he, pad_pos, pad_pos]

theorem s_pos {e : ℕ} (he : e < 2) (n m : Fin 2064) : sB x0 x1 x2 x3 x4 b hp e (pos n) (pos m) = sT x0 x1 x2 x3 x4 b (hp * 2 + e) n m :=
  S_pos (g_pos x0 x1 x3 b hp he) (o := half (rowsB b hp x4) e) (v := rowsB b hp x2) (dT := dT x2 x4 b (hp * 2 + e)) (fun n m => dot_pos b hp x4 x2 he n m) n m
theorem s_row {e p : ℕ} (h : 16 ≤ p ∧ p < 128) (j : ℕ) : sB x0 x1 x2 x3 x4 b hp e p j = 0 := S_pad (fun l => half_in b hp x4 h e l) j
theorem s_key {e p : ℕ} (h : 16 ≤ p ∧ p < 128) (i : ℕ) : sB x0 x1 x2 x3 x4 b hp e i p = 0 := S_zero (pad_off h)

theorem dq_block {p l : ℕ} (hp' : p < 2176) (hl : l < 128) :
    (∑ j ∈ Finset.range 2176, sB x0 x1 x2 x3 x4 b hp (l / 64) p j * rowsB b hp x1 j l) * (1 / 8)
      = pad (fun n => dqT x0 x1 x2 x3 x4 b ((hp * 128 + l) / 64) n ((hp * 128 + l) % 64)) p := by
  obtain ⟨h1, h2, -⟩ := lane_head hp hl
  rcases pos_or hp' with h | ⟨n, rfl⟩
  · rw [pad_in _ h, Finset.sum_eq_zero fun j _ => by rw [s_row x0 x1 x2 x3 x4 b hp h, zero_mul], zero_mul]
  · rw [pad_pos, sum_pos _ fun q h => by rw [s_key x0 x1 x2 x3 x4 b hp h, zero_mul], Finset.sum_mul]
    unfold dqT
    refine Finset.sum_congr rfl fun m _ => ?_
    rw [s_pos x0 x1 x2 x3 x4 b hp h1, rowsB_pos, h2]
    ring

theorem dk_block {p l : ℕ} (hp' : p < 2176) (hl : l < 128) :
    ∑ e ∈ Finset.range 2, ∑ i ∈ Finset.range 2176, sB x0 x1 x2 x3 x4 b hp e i p * half (rowsB b hp x0) e i l * (1 / 8)
      = pad (fun n => dkT x0 x1 x2 x3 x4 b ((hp * 128 + l) / 64) n ((hp * 128 + l) % 64)) p := by
  obtain ⟨h1, h2, -⟩ := lane_head hp hl
  rw [Finset.sum_comm, Finset.sum_congr rfl fun i _ => sum_heads b hp hl x0 i (fun e a => sB x0 x1 x2 x3 x4 b hp e i p * a * (1 / 8)) fun e => by ring]
  rcases pos_or hp' with h | ⟨n, rfl⟩
  · rw [pad_in _ h, Finset.sum_eq_zero fun j _ => by rw [s_key x0 x1 x2 x3 x4 b hp h, zero_mul, zero_mul]]
  · rw [pad_pos, sum_pos _ fun q h => by rw [s_row x0 x1 x2 x3 x4 b hp h, zero_mul, zero_mul]]
    unfold dkT
    refine Finset.sum_congr rfl fun m _ => ?_
    rw [s_pos x0 x1 x2 x3 x4 b hp h1, rowsB_pos, h2]
    ring

theorem dv_block {p l : ℕ} (hp' : p < 2176) (hl : l < 128) :
    ∑ e ∈ Finset.range 2, ∑ i ∈ Finset.range 2176, P (gB x0 x1 x3 b hp e) i p * half (rowsB b hp x4) e i l
      = pad (fun n => dvT x0 x1 x3 x4 b ((hp * 128 + l) / 64) n ((hp * 128 + l) % 64)) p := by
  obtain ⟨h1, h2, -⟩ := lane_head hp hl
  rw [Finset.sum_comm, Finset.sum_congr rfl fun i _ => sum_heads b hp hl x4 i (fun e a => P (gB x0 x1 x3 b hp e) i p * a) fun e => by ring]
  rcases pos_or hp' with h | ⟨n, rfl⟩
  · rw [pad_in _ h, Finset.sum_eq_zero fun j _ => by rw [P_zero (pad_off h), zero_mul]]
  · rw [pad_pos, sum_pos _ fun q h => by rw [rowsB_in b hp x4 h, mul_zero]]
    unfold dvT
    refine Finset.sum_congr rfl fun m _ => ?_
    rw [P_pos (g_pos x0 x1 x3 b hp h1), rowsB_pos, h2]

theorem dc_block {e p : ℕ} (he : e < 2) (hp' : p < 2176) :
    -∑ i ∈ Finset.range 2176, sB x0 x1 x2 x3 x4 b hp e i p = pad (dcT x0 x1 x2 x3 x4 b (hp * 2 + e)) p := by
  rcases pos_or hp' with h | ⟨n, rfl⟩
  · rw [pad_in _ h, Finset.sum_eq_zero fun j _ => s_key x0 x1 x2 x3 x4 b hp h j, neg_zero]
  · rw [pad_pos, sum_pos _ fun q h => s_row x0 x1 x2 x3 x4 b hp h _]
    unfold dcT
    exact congrArg _ (Finset.sum_congr rfl fun m _ => s_pos x0 x1 x2 x3 x4 b hp he m n)

end Cert.FoxTok

end
-- ==== Proof.FoxFinal.lean ====
/- The forget attention's backward call: its result arrays, of finite arguments. -/
module

public import proofs.«01_k».proof.Proof.FoxTok

@[expose] public section

set_option maxRecDepth 16384

noncomputable section

namespace Cert.FoxFinal

open Idealize.ShloMosaic Idealize.ShloMosaic.TcCoe Cert.Attn Cert.FoxBwdIdeal Cert.FoxBwdIdeal.Gen
open Cert.FoxRef (X4 X3 pairOf dqT dkT dvT dcT)
open Cert.FoxTok (sumsB)
open Idealize.ShloMosaic.Pipeline (Dat)

/-! ## What the launch reads -/

/-- Rows per head packed by position. -/
def packRows (x : X4) : FVec Ideal S8704x512 .bf16 :=
  truncf .bf16 (shapeCast S8704x512 (concatenate S4x2176x512 1
    [⟨S4x16x512, extractStridedSlice S4x16x512 ![0, 0, 0] (shapeCast S4x2064x512 (transpose S4x2064x8x64 [0, 2, 1, 3] x transposes_S4x8x2064x64_S4x2064x8x64_0_2_1_3) shapeCasts_S4x2064x8x64_S4x2064x512) slices_S4x2064x512_S4x16x512_0_0_0⟩,
     ⟨S4x112x512, broadcastInDim S4x112x512 ![] bcast_S_S4x112x512 (constant S_ .f32 0x00000000#32)⟩,
     ⟨S4x2048x512, extractStridedSlice S4x2048x512 ![0, 16, 0] (shapeCast S4x2064x512 (transpose S4x2064x8x64 [0, 2, 1, 3] x transposes_S4x8x2064x64_S4x2064x8x64_0_2_1_3) shapeCasts_S4x2064x8x64_S4x2064x512) slices_S4x2064x512_S4x2048x512_0_16_0⟩]
    concatenates_S4x16x512_S4x112x512_S4x2048x512_S4x2176x512_d1) shapeCasts_S4x2176x512_S8704x512) bitsLt_bf16_f32
/-- The running sums packed by position. -/
def packSums (x : X3) : FVec Ideal S32x2176 .f32 :=
  shapeCast S32x2176 (concatenate S4x8x2176 2
    [⟨S4x8x16, extractStridedSlice S4x8x16 ![0, 0, 0] x slices_S4x8x2064_S4x8x16_0_0_0⟩,
     ⟨S4x8x112, broadcastInDim S4x8x112 ![] bcast_S_S4x8x112 (constant S_ .f32 0x00000000#32)⟩,
     ⟨S4x8x2048, extractStridedSlice S4x8x2048 ![0, 0, 16] x slices_S4x8x2064_S4x8x2048_0_0_16⟩]
    concatenates_S4x8x16_S4x8x112_S4x8x2048_S4x8x2176_d2) shapeCasts_S4x8x2176_S32x2176
/-- The running sums, one pair's two columns side by side. -/
def sumCols (x : X3) : FVec Ideal S16x2176x2 .f32 :=
  shapeCast S16x2176x2 (transpose S4x4x2176x2 [0, 1, 3, 2] (shapeCast S4x4x2x2176 (packSums x) shapeCasts_S32x2176_S4x4x2x2176) transposes_S4x4x2x2176_S4x4x2176x2_0_1_3_2) shapeCasts_S4x4x2176x2_S16x2176x2
/-- The running sums, one row per head. -/
def sumRows (x : X3) : FVec Ideal S32x1x2176 .f32 := shapeCast S32x1x2176 (packSums x) shapeCasts_S32x2176_S32x1x2176

theorem packRows_apply {x : X4} (hx : Fin' x) (r : Fin 8704) (l : Fin 512) :
    packRows x (ix2 r l) = ((pad (fun n => T x (r.val / 2176) (l.val / 64) n (l.val % 64)) (r.val % 2176) : ℝ) : EReal) := by
  have l0 := r.isLt
  have l1 := l.isLt
  pointwise [packRows]
  exact rows_eq (X := fun b h n d => x (ix4 b h n d)) (T_eq hx) r l (by omega) (by omega) (by omega) (by omega) (by omega)

theorem sumCols_apply {x : X3} (hx : Fin' x) (r : Fin 16) (p : Fin 2176) (e : Fin 2) :
    sumCols x (ix3 r p e) = ((pad (T3 x (r.val / 4) (r.val % 4 * 2 + e.val)) p.val : ℝ) : EReal) := by
  have l0 := r.isLt
  have l1 := p.isLt
  have l2 := e.isLt
  pointwise [sumCols, packSums]
  exact pad_ifs (X := fun n => x (ix3 ⟨r.val / 4, by omega⟩ ⟨r.val % 4 * 2 + e.val, by omega⟩ n)) (fun n => T3_eq hx _ _ n) (by omega) (by omega)

theorem sumRows_apply {x : X3} (hx : Fin' x) (r : Fin 32) (p : Fin 2176) :
    sumRows x (ix3 r 0 p) = ((pad (T3 x (r.val / 8) (r.val % 8)) p.val : ℝ) : EReal) := by
  have l0 := r.isLt
  have l1 := p.isLt
  pointwise [sumRows, packSums]
  exact pad_ifs (X := fun n => x (ix3 ⟨r.val / 8, by omega⟩ ⟨r.val % 8, by omega⟩ n)) (fun n => T3_eq hx _ _ n) (by omega) (by omega)

variable (m : (ℓ : Loc nD τ sig) → Buf (Elt Ideal) ℓ)

/-- The five arguments. -/
abbrev a0 (c : Dev nD) : X4 := m ((c : Thread nD τ).loc main_arg0)
abbrev a1 (c : Dev nD) : X4 := m ((c : Thread nD τ).loc main_arg1)
abbrev a2 (c : Dev nD) : X4 := m ((c : Thread nD τ).loc main_arg2)
abbrev a3 (c : Dev nD) : X3 := m ((c : Thread nD τ).loc main_arg3)
abbrev a4 (c : Dev nD) : X4 := m ((c : Thread nD τ).loc main_arg4)

theorem entry_q (c : Dev nD) : V m c main_v16 = packRows (a0 m c) := by
  show StableHlo.after hostOps0 _ _ = _
  simp only [hostOps0]
  after_results <;> rfl
theorem entry_k (c : Dev nD) : V m c main_v24 = packRows (a1 m c) := by
  show StableHlo.after hostOps0 _ _ = _
  simp only [hostOps0]
  after_results <;> rfl
theorem entry_v (c : Dev nD) : V m c main_v32 = packRows (a2 m c) := by
  show StableHlo.after hostOps0 _ _ = _
  simp only [hostOps0]
  after_results <;> rfl
theorem entry_o (c : Dev nD) : V m c main_v40 = packRows (a4 m c) := by
  show StableHlo.after hostOps0 _ _ = _
  simp only [hostOps0]
  after_results <;> rfl
theorem entry_cols (c : Dev nD) : V m c main_v7 = sumCols (a3 m c) := by
  show StableHlo.after hostOps0 _ _ = _
  simp only [hostOps0]
  after_results <;> rfl
theorem entry_rows (c : Dev nD) : V m c main_v8 = sumRows (a3 m c) := by
  show StableHlo.after hostOps0 _ _ = _
  simp only [hostOps0]
  after_results <;> rfl

/-- Every window's block index at a grid point. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val, 0, 0]
    ∧ win0_5.index t = ![t.val * 2, 0, 0] ∧ win0_6.index t = ![t.val * 2 + 1, 0, 0] ∧ win0_7.index t = ![t.val / 4, t.val % 4]
    ∧ win0_8.index t = ![t.val / 4, t.val % 4] ∧ win0_9.index t = ![t.val / 4, t.val % 4] ∧ win0_10.index t = ![t.val, 0, 0]
    ∧ win0_11.index t = ![t.val, 0, 0] ∧ t.val < 16 :=
  (by decide +kernel : ∀ t : Fin grid0.N, _)

variable (c : Dev nD) (t : Fin cfg0.N)

theorem inRows : (∀ p : Fin 2176, t.val / 4 * 2176 + p.val < 8704) ∧ ∀ l : Fin 128, t.val % 4 * 128 + l.val < 512 := by
  obtain ⟨-, -, -, -, -, -, -, -, -, -, -, -, h⟩ := idx t
  exact ⟨fun p => by have := p.isLt; omega, fun l => by have := l.isLt; omega⟩

theorem blk_q (hx : Fin' (a0 m c)) : Holds (φ := .bf16) 0 (iblk m c 0 t) (rowsB (t.val / 4) (t.val % 4) (a0 m c)) := by
  obtain ⟨h1, h2⟩ := inRows t
  intro p l
  have lp := p.isLt
  have ll := l.isLt
  have e : iblk m c 0 t (ix2 p l) = V m c main_v16 (ix2 ⟨t.val / 4 * 2176 + p.val, h1 p⟩ ⟨t.val % 4 * 128 + l.val, h2 l⟩) := by
    blk_ext [iblk, idx t]
  rw [e, entry_q]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]
theorem blk_k (hx : Fin' (a1 m c)) : Holds (φ := .bf16) 0 (iblk m c 1 t) (rowsB (t.val / 4) (t.val % 4) (a1 m c)) := by
  obtain ⟨h1, h2⟩ := inRows t
  intro p l
  have lp := p.isLt
  have ll := l.isLt
  have e : iblk m c 1 t (ix2 p l) = V m c main_v24 (ix2 ⟨t.val / 4 * 2176 + p.val, h1 p⟩ ⟨t.val % 4 * 128 + l.val, h2 l⟩) := by
    blk_ext [iblk, idx t]
  rw [e, entry_k]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]
theorem blk_v (hx : Fin' (a2 m c)) : Holds (φ := .bf16) 0 (iblk m c 2 t) (rowsB (t.val / 4) (t.val % 4) (a2 m c)) := by
  obtain ⟨h1, h2⟩ := inRows t
  intro p l
  have lp := p.isLt
  have ll := l.isLt
  have e : iblk m c 2 t (ix2 p l) = V m c main_v32 (ix2 ⟨t.val / 4 * 2176 + p.val, h1 p⟩ ⟨t.val % 4 * 128 + l.val, h2 l⟩) := by
    blk_ext [iblk, idx t]
  rw [e, entry_v]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]
theorem blk_o (hx : Fin' (a4 m c)) : Holds (φ := .bf16) 0 (iblk m c 3 t) (rowsB (t.val / 4) (t.val % 4) (a4 m c)) := by
  obtain ⟨h1, h2⟩ := inRows t
  intro p l
  have lp := p.isLt
  have ll := l.isLt
  have e : iblk m c 3 t (ix2 p l) = V m c main_v40 (ix2 ⟨t.val / 4 * 2176 + p.val, h1 p⟩ ⟨t.val % 4 * 128 + l.val, h2 l⟩) := by
    blk_ext [iblk, idx t]
  rw [e, entry_o]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]

theorem blk_cols (hx : Fin' (a3 m c)) (p : Fin 2176) (e : Fin 2) : iblk m c 4 t (ix3 0 p e) = ((sumsB (t.val / 4) (t.val % 4) (a3 m c) e p : ℝ) : EReal) := by
  obtain ⟨-, -, -, -, -, -, -, -, -, -, -, -, h⟩ := idx t
  have e : iblk m c 4 t (ix3 0 p e) = V m c main_v7 (ix3 ⟨t.val, h⟩ p e) := by
    blk_ext [iblk, idx t]
  rw [e, entry_cols]
  exact sumCols_apply hx _ _ _
theorem blk_row0 (hx : Fin' (a3 m c)) (p : Fin 2176) : iblk m c 5 t (ix3 0 0 p) = ((sumsB (t.val / 4) (t.val % 4) (a3 m c) 0 p : ℝ) : EReal) := by
  obtain ⟨-, -, -, -, -, -, -, -, -, -, -, -, h⟩ := idx t
  have h' : t.val * 2 < 32 := by omega
  have e : iblk m c 5 t (ix3 0 0 p) = V m c main_v8 (ix3 ⟨t.val * 2, h'⟩ 0 p) := by
    blk_ext [iblk, idx t]
  rw [e, entry_rows]
  refine (sumRows_apply hx _ _).trans (congrArg _ ?_)
  unfold sumsB
  rw [show t.val * 2 / 8 = t.val / 4 by omega, show t.val * 2 % 8 = t.val % 4 * 2 + 0 by omega]
theorem blk_row1 (hx : Fin' (a3 m c)) (p : Fin 2176) : iblk m c 6 t (ix3 0 0 p) = ((sumsB (t.val / 4) (t.val % 4) (a3 m c) 1 p : ℝ) : EReal) := by
  obtain ⟨-, -, -, -, -, -, -, -, -, -, -, -, h⟩ := idx t
  have h' : t.val * 2 + 1 < 32 := by omega
  have e : iblk m c 6 t (ix3 0 0 p) = V m c main_v8 (ix3 ⟨t.val * 2 + 1, h'⟩ 0 p) := by
    blk_ext [iblk, idx t]
  rw [e, entry_rows]
  refine (sumRows_apply hx _ _).trans (congrArg _ ?_)
  unfold sumsB
  rw [show (t.val * 2 + 1) / 8 = t.val / 4 by omega, show (t.val * 2 + 1) % 8 = t.val % 4 * 2 + 1 by omega]

/-! ## The result arrays -/

section Finals
variable (h0 : Fin' (a0 m c)) (h1 : Fin' (a1 m c)) (h2 : Fin' (a2 m c)) (h3 : Fin' (a3 m c)) (h4 : Fin' (a4 m c))
include h0 h1 h2 h3 h4

theorem final_dq : (dats m 0 c).arrAt 7 cfg0.N = rowsOf 64 (dqT (a0 m c) (a1 m c) (a2 m c) (a3 m c) (a4 m c)) := by
  refine (dats m 0 c).arrAt_eq_of_covers 7 _ (by decide +kernel) fun t hf y => ?_
  blk_simp
  rw [after0_7]
  simp only [outsAt0]
  obtain ⟨p, l, rfl⟩ : ∃ (p : Fin 2176) (l : Fin 128), y = ix2 p l := ⟨y 0, y 1, funext fun a => by fin_cases a <;> rfl⟩
  have he : ((cfg0.win 7).blk t).view.emb (ix2 p l) = ix2 ⟨t.val / 4 * 2176 + p.val, (inRows t).1 p⟩ ⟨t.val % 4 * 128 + l.val, (inRows t).2 l⟩ := by
    blk_ext [idx t]
  rw [he, rowsOf_block, ← FoxTok.dq_block _ _ _ _ _ _ _ p.isLt l.isLt]
  exact FoxValue.out_dq (blk_q m c t h0) (blk_k m c t h1) (blk_v m c t h2) (blk_o m c t h4) (blk_cols m c t h3) (blk_row0 m c t h3) (blk_row1 m c t h3) _ _ _ _ _ _ _ _ _ _ _ _ p l
theorem final_dk : (dats m 0 c).arrAt 8 cfg0.N = rowsOf 64 (dkT (a0 m c) (a1 m c) (a2 m c) (a3 m c) (a4 m c)) := by
  refine (dats m 0 c).arrAt_eq_of_covers 8 _ (by decide +kernel) fun t hf y => ?_
  blk_simp
  rw [after0_8]
  simp only [outsAt0]
  obtain ⟨p, l, rfl⟩ : ∃ (p : Fin 2176) (l : Fin 128), y = ix2 p l := ⟨y 0, y 1, funext fun a => by fin_cases a <;> rfl⟩
  have he : ((cfg0.win 8).blk t).view.emb (ix2 p l) = ix2 ⟨t.val / 4 * 2176 + p.val, (inRows t).1 p⟩ ⟨t.val % 4 * 128 + l.val, (inRows t).2 l⟩ := by
    blk_ext [idx t]
  rw [he, rowsOf_block, ← FoxTok.dk_block _ _ _ _ _ _ _ p.isLt l.isLt]
  exact FoxValue.out_dk (blk_q m c t h0) (blk_k m c t h1) (blk_v m c t h2) (blk_o m c t h4) (blk_cols m c t h3) (blk_row0 m c t h3) (blk_row1 m c t h3) _ _ _ _ _ _ _ _ _ _ _ _ p l
omit h2 in
theorem final_dv : (dats m 0 c).arrAt 9 cfg0.N = rowsOf 64 (dvT (a0 m c) (a1 m c) (a3 m c) (a4 m c)) := by
  refine (dats m 0 c).arrAt_eq_of_covers 9 _ (by decide +kernel) fun t hf y => ?_
  blk_simp
  rw [after0_9]
  simp only [outsAt0]
  obtain ⟨p, l, rfl⟩ : ∃ (p : Fin 2176) (l : Fin 128), y = ix2 p l := ⟨y 0, y 1, funext fun a => by fin_cases a <;> rfl⟩
  have he : ((cfg0.win 9).blk t).view.emb (ix2 p l) = ix2 ⟨t.val / 4 * 2176 + p.val, (inRows t).1 p⟩ ⟨t.val % 4 * 128 + l.val, (inRows t).2 l⟩ := by
    blk_ext [idx t]
  rw [he, rowsOf_block, ← FoxTok.dv_block _ _ _ _ _ _ p.isLt l.isLt]
  exact FoxValue.out_dv (blk_q m c t h0) (blk_k m c t h1) (blk_o m c t h4) (blk_cols m c t h3) (blk_row0 m c t h3) (blk_row1 m c t h3) _ _ _ _ _ _ _ _ _ _ _ _ p l
theorem final_dc0 : (dats m 0 c).arrAt 10 cfg0.N = pairOf 0 (dcT (a0 m c) (a1 m c) (a2 m c) (a3 m c) (a4 m c)) := by
  refine (dats m 0 c).arrAt_eq_of_covers 10 _ (by decide +kernel) fun t hf y => ?_
  blk_simp
  rw [after0_10]
  simp only [outsAt0]
  obtain ⟨z, z', p, rfl⟩ : ∃ (z z' : Fin 1) (p : Fin 2176), y = ix3 z z' p := ⟨y 0, y 1, y 2, funext fun a => by fin_cases a <;> rfl⟩
  obtain rfl : z = 0 := Subsingleton.elim _ _
  obtain rfl : z' = 0 := Subsingleton.elim _ _
  have ht : t.val < 16 := (idx t).2.2.2.2.2.2.2.2.2.2.2.2
  have he : ((cfg0.win 10).blk t).view.emb (ix3 0 0 p) = ix3 ⟨t.val, ht⟩ 0 p := by
    blk_ext [idx t]
  rw [he]
  refine (FoxValue.out_dc0 (blk_q m c t h0) (blk_k m c t h1) (blk_v m c t h2) (blk_o m c t h4) (blk_cols m c t h3) (blk_row0 m c t h3) (blk_row1 m c t h3) _ _ _ _ _ _ _ _ _ _ _ _ p).trans (congrArg _ ?_)
  exact FoxTok.dc_block _ _ _ _ _ _ _ (by norm_num) p.isLt
theorem final_dc1 : (dats m 0 c).arrAt 11 cfg0.N = pairOf 1 (dcT (a0 m c) (a1 m c) (a2 m c) (a3 m c) (a4 m c)) := by
  refine (dats m 0 c).arrAt_eq_of_covers 11 _ (by decide +kernel) fun t hf y => ?_
  blk_simp
  rw [after0_11]
  simp only [outsAt0]
  obtain ⟨z, z', p, rfl⟩ : ∃ (z z' : Fin 1) (p : Fin 2176), y = ix3 z z' p := ⟨y 0, y 1, y 2, funext fun a => by fin_cases a <;> rfl⟩
  obtain rfl : z = 0 := Subsingleton.elim _ _
  obtain rfl : z' = 0 := Subsingleton.elim _ _
  have ht : t.val < 16 := (idx t).2.2.2.2.2.2.2.2.2.2.2.2
  have he : ((cfg0.win 11).blk t).view.emb (ix3 0 0 p) = ix3 ⟨t.val, ht⟩ 0 p := by
    blk_ext [idx t]
  rw [he]
  refine (FoxValue.out_dc1 (blk_q m c t h0) (blk_k m c t h1) (blk_v m c t h2) (blk_o m c t h4) (blk_cols m c t h3) (blk_row0 m c t h3) (blk_row1 m c t h3) _ _ _ _ _ _ _ _ _ _ _ _ p).trans (congrArg _ ?_)
  exact FoxTok.dc_block _ _ _ _ _ _ _ (by norm_num) p.isLt

end Finals

end Cert.FoxFinal

end
-- ==== Proof.FoxClaim.lean ====
/- The value claim of the forget-gate attention's backward call. -/
module

public import proofs.«01_k».proof.Defs
public import proofs.«01_k».proof.Proof.FoxFinal
public import proofs.«01_k».proof.Proof.FoxRef
public import proofs.«01_k».proof.Proof.AttnFinite
public import proofs.«01_k».proof.Proof.Gen.Pre_finite_fox
public import proofs.«01_k».proof.Proof.Gen.FoxBwdRefIdeal.Run
public import Idealize.ShloMosaic.Lib.Claim

@[expose] public section

noncomputable section

namespace Cert.FoxClaim

open Idealize.ShloMosaic Idealize.SL.Sem Cert.FoxFinal Cert.FoxRef

/-- Under the precondition every argument is finite, on every device. -/
theorem finite (m : (ℓ : Loc Cert.FoxBwdIdeal.nD Cert.FoxBwdIdeal.τ Cert.FoxBwdIdeal.sig) → Buf (Elt Ideal) ℓ)
    (h : Cert.Pre_FoxBwdIdeal_finite_fox (hPre_finite_fox := Cert.Pre_finite_fox.Gen.facts) m) (c : Dev Cert.FoxBwdIdeal.nD) :
    Attn.Fin' (a0 m c) ∧ Attn.Fin' (a1 m c) ∧ Attn.Fin' (a2 m c) ∧ Attn.Fin' (a3 m c) ∧ Attn.Fin' (a4 m c) := by
  obtain ⟨h0, h1, h2, h3, h4⟩ := h c
  exact ⟨Attn.fin_of_lt _ h0, Attn.fin_of_lt _ h1, Attn.fin_of_lt _ h2, Attn.fin_of_lt _ h3, Attn.fin_of_lt _ h4⟩

/-- Over the extended reals the call's five results and the reference's are the same functions of the five finite arguments. -/
theorem algebraic : Cert.algebraic_FoxBwdIdeal_FoxBwdRefIdeal_pre_finite_fox (hFoxBwdIdeal := Cert.FoxBwdIdeal.Gen.facts)
    (hFoxBwdRefIdeal := Cert.FoxBwdRefIdeal.Gen.facts) (hPre_finite_fox := Cert.Pre_finite_fox.Gen.facts) := by
  intro m g m' g' hpre hag
  refine ⟨fun c => Attn.rowsOf 64 (dqT (a0 m c) (a1 m c) (a2 m c) (a3 m c) (a4 m c)),
    fun c => Attn.rowsOf 64 (dkT (a0 m c) (a1 m c) (a2 m c) (a3 m c) (a4 m c)),
    fun c => Attn.rowsOf 64 (dvT (a0 m c) (a1 m c) (a3 m c) (a4 m c)),
    fun c => pairOf 0 (dcT (a0 m c) (a1 m c) (a2 m c) (a3 m c) (a4 m c)),
    fun c => pairOf 1 (dcT (a0 m c) (a1 m c) (a2 m c) (a3 m c) (a4 m c)), ?_, ?_⟩
  · refine (θ_run _ _ _).mono (fun _ h c => ?_) (Cert.FoxBwdIdeal.Value.run_blocks m g)
    obtain ⟨h0, h1, h2, h3, h4⟩ := finite m hpre c
    obtain ⟨e0, e1, e2, e3, e4, e⟩ := h c
    exact ⟨e0.trans (final_dq m c h0 h1 h2 h3 h4), e1.trans (final_dk m c h0 h1 h2 h3 h4), e2.trans (final_dv m c h0 h1 h3 h4),
      e3.trans (final_dc0 m c h0 h1 h2 h3 h4), e4.trans (final_dc1 m c h0 h1 h2 h3 h4), e⟩
  · refine (θ_run _ _ _).mono (fun _ h c => ?_) (Cert.FoxBwdRefIdeal.Value.run m' g')
    obtain ⟨h0, h1, h2, h3, h4⟩ := finite m hpre c
    obtain ⟨e0, e1, e2, e3, e4, e⟩ := h c
    obtain ⟨q0, q1, q2, q3, q4⟩ := hag c
    rw [Cert.FoxBwdRefIdeal.Read.val_main_v85_eq, q0, q1, q2, q3, q4] at e0
    rw [Cert.FoxBwdRefIdeal.Read.val_main_v92_eq, q0, q1, q2, q3, q4] at e1
    rw [Cert.FoxBwdRefIdeal.Read.val_main_v99_eq, q0, q1, q3, q4] at e2
    rw [Cert.FoxBwdRefIdeal.Read.val_main_v100_eq, q0, q1, q2, q3, q4] at e3
    rw [Cert.FoxBwdRefIdeal.Read.val_main_v101_eq, q0, q1, q2, q3, q4] at e4
    exact ⟨e0.trans (ref_dq h0 h1 h2 h3 h4), e1.trans (ref_dk h0 h1 h2 h3 h4), e2.trans (ref_dv h0 h1 h3 h4),
      e3.trans (ref_dc0 h0 h1 h2 h3 h4), e4.trans (ref_dc1 h0 h1 h2 h3 h4), e⟩

end Cert.FoxClaim

end
-- ==== Proof.MlaValue.lean ====
/- The latent attention's backward kernel: what its sweep leaves in its three result buffers, of the blocks it is given. -/
module

public import proofs.«01_k».proof.Proof.AttnLoad
public import proofs.«01_k».proof.Proof.Gen.MlaBwdIdeal.Value

@[expose] public section

set_option maxRecDepth 16384

noncomputable section

namespace Cert.MlaValue

open Idealize.ShloMosaic Cert.Attn Cert.MlaBwdIdeal
open scoped BigOperators

/-- The word the scores are scaled by. -/
def sc : Ideal .f32 := Named.named Cert.MlaBwdIdeal.κ "s" 0x3DD105EC#32
/-- The masked score. -/
def neg : Ideal .f32 := Named.named Cert.MlaBwdIdeal.κ "mask" 0xF149F2CA#32

/-- A head's first lane of a pair's 256. -/
def first (e : ℕ) : ℕ := 128 * e
theorem first_le (e : ℕ) (he : e < 2) : first e + 128 ≤ 256 := by unfold first; omega

/-! ## The kernel's blocks -/

section Blocks
variable {sg : RefSig} (arg2 : Memref sg .tc .vmem S2176x256 .bf16) (harg2 : arg2.IsWhole) (arg3 : Memref sg .tc .vmem S2176x256 .bf16) (harg3 : arg3.IsWhole)
  (arg4 : Memref sg .tc .vmem S2176x128 .bf16) (harg4 : arg4.IsWhole) (arg5 : Memref sg .tc .vmem S2176x128 .bf16) (harg5 : arg5.IsWhole)
  (x0 x1 : FVec Ideal S2176x256 .bf16) (x2 x3 : FVec Ideal S2176x128 .bf16)

/-- Head `e`'s queries of block `k`. -/
def qe (e k : ℕ) : FVec Ideal (Sh (mOf k) 128) .bf16 :=
  match e with
  | 0 => rowsL 0 (by norm_num) arg2 harg2 x0 k
  | _ + 1 => rowsL 128 (by norm_num) arg2 harg2 x0 k
/-- Head `e`'s keys. -/
def ke (e k : ℕ) : FVec Ideal (Sh (nOf k) 128) .bf16 :=
  match e with
  | 0 => keysL 0 (by norm_num) arg3 harg3 x1 k
  | _ + 1 => keysL 128 (by norm_num) arg3 harg3 x1 k
/-- Head `e`'s cotangents. -/
def doe (e k : ℕ) : FVec Ideal (Sh (mOf k) 128) .bf16 := lane e (rowsL 0 le_rfl arg5 harg5 x3 k)

/-- The scores. -/
def sS (e k : ℕ) : FVec Ideal (Sh (mOf k) (nOf k)) .f32 :=
  maskK neg k (mulf (matmul (DotDims.transposedRhs (mOf k) 128 (nOf k)) none (qe arg2 harg2 x0 e k) (ke arg3 harg3 x1 e k) (constant (Sh (mOf k) (nOf k)) .f32 0x00000000#32))
    (broadcast (Sh (mOf k) (nOf k)) sc))
/-- Head `e`'s part of block `k`'s queries' gradients. -/
def dqB (e k : ℕ) : FVec Ideal (Sh (mOf k) 128) .f32 :=
  dqV (facts _ _) sc (sS arg2 harg2 arg3 harg3 x0 x1 e k) (doe arg5 harg5 x3 e k) (keysL 0 le_rfl arg4 harg4 x2 k) (ke arg3 harg3 x1 e k)
/-- Head `e`'s part of the keys' gradients from block `k`. -/
def dkB (e k : ℕ) : FVec Ideal (Sh (nOf k) 128) .f32 :=
  dkV (facts _ _) sc (sS arg2 harg2 arg3 harg3 x0 x1 e k) (doe arg5 harg5 x3 e k) (keysL 0 le_rfl arg4 harg4 x2 k) (qe arg2 harg2 x0 e k)
/-- Head `e`'s part of the values' gradients from block `k`. -/
def dvB (e k : ℕ) : FVec Ideal (Sh (nOf k) 128) .f32 :=
  dvV (facts _ _) (sS arg2 harg2 arg3 harg3 x0 x1 e k) (doe arg5 harg5 x3 e k)

end Blocks

/-! ## The kernel's result buffers are those sweeps -/

section Tie
variable (arg2 : Memref sig .tc .vmem S2176x256 .bf16) (harg2 : arg2.IsWhole) (arg3 : Memref sig .tc .vmem S2176x256 .bf16) (harg3 : arg3.IsWhole)
  (arg4 : Memref sig .tc .vmem S2176x128 .bf16) (harg4 : arg4.IsWhole) (arg5 : Memref sig .tc .vmem S2176x128 .bf16) (harg5 : arg5.IsWhole)
  (x0 x1 : FVec Ideal S2176x256 .bf16) (x2 x3 : FVec Ideal S2176x128 .bf16)
variable (c : Dev nD) (i : grid0.Coords) (arg6 : Memref sig .tc .vmem S2176x256 .f32) (harg6 : arg6.IsWhole) (arg7 : Memref sig .tc .vmem S2176x256 .f32) (harg7 : arg7.IsWhole)
  (arg8 : Memref sig .tc .vmem S2176x128 .f32) (harg8 : arg8.IsWhole)

local notation "RUN" => Gen.kernelRun0_A (F := Ideal) c i arg2 harg2 arg3 harg3 arg4 harg4 arg5 harg5 arg6 harg6 arg7 harg7 arg8 harg8 x0 x1 x2 x3

theorem tie_dq : (RUN).1 = pairSweep (w := 256) first first_le (dqB arg2 harg2 arg3 harg3 arg4 harg4 arg5 harg5 x0 x1 x2 x3) 9 le_rfl := by
  sl_kernel_rfl
theorem tie_dk : (RUN).2.1 = addSweep (Scalar.ofBits .f32 0x00000000#32) arg7.view first first_le (dkB arg2 harg2 arg3 harg3 arg4 harg4 arg5 harg5 x0 x1 x2 x3) 9 le_rfl := by
  sl_kernel_rfl
theorem tie_dv : (RUN).2.2.1 = addSweep (Scalar.ofBits .f32 0x00000000#32) arg8.view (fun _ => 0) (fun _ _ => le_rfl) (dvB arg2 harg2 arg3 harg3 arg5 harg5 x0 x1 x3) 9 le_rfl := by
  sl_kernel_rfl

end Tie

/-! ## What the parts hold -/

section Values
variable {sg : RefSig} (arg2 : Memref sg .tc .vmem S2176x256 .bf16) (harg2 : arg2.IsWhole) (arg3 : Memref sg .tc .vmem S2176x256 .bf16) (harg3 : arg3.IsWhole)
  (arg4 : Memref sg .tc .vmem S2176x128 .bf16) (harg4 : arg4.IsWhole) (arg5 : Memref sg .tc .vmem S2176x128 .bf16) (harg5 : arg5.IsWhole)
  (x0 x1 : FVec Ideal S2176x256 .bf16) (x2 x3 : FVec Ideal S2176x128 .bf16)
variable {q k v o : ℕ → ℕ → ℝ}

/-- Head `e`'s scores. -/
def g (q k : ℕ → ℕ → ℝ) (e i j : ℕ) : ℝ := (∑ l : Fin 128, q i (first e + l) * k j (first e + l)) * s96
/-- Head `e`'s scores' gradients. -/
def SS (q k v o : ℕ → ℕ → ℝ) (e i j : ℕ) : ℝ := S (g q k e) (half o e) v i j

theorem sc_eq : sc = (s96 : EReal) := rfl
theorem zero_eq : (Scalar.ofBits .f32 0x00000000#32 : Ideal .f32) = (0 : EReal) := Ideal.ofBits_zero_f32
theorem neg_eq : neg = (⊥ : EReal) := rfl

variable {arg2 arg3 arg4 arg5 harg2 harg3 harg4 harg5 x0 x1 x2 x3}
  (h0 : Holds 0 x0 q) (h1 : Holds 0 x1 k) (h2 : Holds 0 x2 v) (h3 : Holds 0 x3 o) {e b : ℕ} (he : e < 2) (hb : b < 9)

include h0 he hb in
theorem qe_holds : Holds (r0 b) (qe arg2 harg2 x0 e b) fun i l => q i (first e + l) := by
  match e, he with
  | 0, _ => exact rows_holds (hc := by norm_num) arg2 harg2 h0 hb
  | 1, _ => exact rows_holds (hc := by norm_num) arg2 harg2 h0 hb
include h1 he hb in
theorem ke_holds : Holds 0 (ke arg3 harg3 x1 e b) fun i l => k i (first e + l) := by
  match e, he with
  | 0, _ => exact keys_holds (hc := by norm_num) arg3 harg3 h1 hb
  | 1, _ => exact keys_holds (hc := by norm_num) arg3 harg3 h1 hb

include h0 h1 he hb in
theorem s_scores : Scores (r0 b) (sS arg2 harg2 arg3 harg3 x0 x1 e b) (g q k e) := by
  refine maskK_scores neg_eq b fun r j => ?_
  have hm : matmul (DotDims.transposedRhs (mOf b) 128 (nOf b)) none (qe arg2 harg2 x0 e b) (ke arg3 harg3 x1 e b) (constant (Sh (mOf b) (nOf b)) .f32 0x00000000#32) (ix2 r j)
      = ((∑ l : Fin 128, q (r0 b + r) (first e + l) * k j (first e + l) : ℝ) : EReal) := by
    refine (dpV_apply _ _ r j).trans ?_
    rw [coe_sum]
    refine Finset.sum_congr rfl fun l _ => ?_
    rw [qe_holds h0 he hb r l, ke_holds h1 he hb j l, Nat.zero_add, EReal.coe_mul]
  show matmul _ _ _ _ _ _ * sc = _
  rw [hm, sc_eq, ← EReal.coe_mul]
  rfl

include h0 h1 h2 h3 he hb in
theorem dqB_holds : Holds (r0 b) (dqB arg2 harg2 arg3 harg3 arg4 harg4 arg5 harg5 x0 x1 x2 x3 e b) fun i l => (∑ j ∈ Finset.range 2176, SS q k v o e i j * k j (first e + l)) * s96 := by
  unfold dqB; rw [sc_eq]
  exact dq_holds _ rfl (nOf_le hb) (s_scores h0 h1 he hb) (lane_holds (rows_holds0 arg5 harg5 h3 hb) he) (keys_holds0 arg4 harg4 h2 hb) (ke_holds h1 he hb)
include h0 h1 h2 h3 he hb in
theorem dkB_holds : Holds 0 (dkB arg2 harg2 arg3 harg3 arg4 harg4 arg5 harg5 x0 x1 x2 x3 e b) fun j l => ∑ r : Fin (mOf b), SS q k v o e (r0 b + r) j * q (r0 b + r) (first e + l) * s96 := by
  unfold dkB; rw [sc_eq]
  intro j l
  refine (dk_holds _ rfl (nOf_le hb) (s_scores h0 h1 he hb) (lane_holds (rows_holds0 arg5 harg5 h3 hb) he) (keys_holds0 arg4 harg4 h2 hb) (qe_holds h0 he hb) j l).trans ?_
  beta_reduce
  rw [Finset.sum_mul]; rfl
include h0 h1 h3 he hb in
theorem dvB_holds : Holds 0 (dvB arg2 harg2 arg3 harg3 arg5 harg5 x0 x1 x3 e b) fun j l => ∑ r : Fin (mOf b), P (g q k e) (r0 b + r) j * half o e (r0 b + r) l :=
  dv_holds _ rfl (nOf_le hb) (s_scores h0 h1 he hb) (lane_holds (rows_holds0 arg5 harg5 h3 hb) he)

end Values

/-! ## What the kernel's run leaves -/

section Out
variable {arg2 : Memref sig .tc .vmem S2176x256 .bf16} {harg2 : arg2.IsWhole} {arg3 : Memref sig .tc .vmem S2176x256 .bf16} {harg3 : arg3.IsWhole}
  {arg4 : Memref sig .tc .vmem S2176x128 .bf16} {harg4 : arg4.IsWhole} {arg5 : Memref sig .tc .vmem S2176x128 .bf16} {harg5 : arg5.IsWhole}
  {x0 x1 : FVec Ideal S2176x256 .bf16} {x2 x3 : FVec Ideal S2176x128 .bf16}
variable {q k v o : ℕ → ℕ → ℝ}
  (h0 : Holds 0 x0 q) (h1 : Holds 0 x1 k) (h2 : Holds 0 x2 v) (h3 : Holds 0 x3 o)
variable (dd : Dev nD) (i : grid0.Coords) (arg6 : Memref sig .tc .vmem S2176x256 .f32) (harg6 : arg6.IsWhole) (arg7 : Memref sig .tc .vmem S2176x256 .f32) (harg7 : arg7.IsWhole)
  (arg8 : Memref sig .tc .vmem S2176x128 .f32) (harg8 : arg8.IsWhole)

local notation "OUT(" f ")" => f (F := Ideal) dd i arg2 harg2 arg3 harg3 arg4 harg4 arg5 harg5 arg6 harg6 arg7 harg7 arg8 harg8 x0 x1 x2 x3

include h0 h1 h2 h3

/-- The queries' gradients. -/
theorem out_dq (j : Fin 2176) (l : Fin 256) :
    OUT(Gen.out0_A_4) (ix2 j l) = (((∑ jj ∈ Finset.range 2176, SS q k v o (l / 128) j jj * k jj l) * s96 : ℝ) : EReal) := by
  unfold Gen.out0_A_4
  rw [tie_dq]
  frame_out
  have hl := l.isLt
  have hd : ∀ e b, e < 2 → b < 9 → Holds (r0 b) (dqB arg2 harg2 arg3 harg3 arg4 harg4 arg5 harg5 x0 x1 x2 x3 e b)
      fun i l => (∑ j ∈ Finset.range 2176, SS q k v o e i j * k j (first e + l)) * s96 := fun e b he hb => dqB_holds h0 h1 h2 h3 he hb
  have h01 : first 0 + 128 ≤ first 1 := by unfold first; omega
  have hj : (j : ℕ) < r0 9 := j.isLt
  have he : (l : ℕ) / 128 < 2 := by omega
  have hll : first ((l : ℕ) / 128) ≤ l ∧ (l : ℕ) < first ((l : ℕ) / 128) + 128 := ⟨by unfold first; omega, by unfold first; omega⟩
  refine (pairSweep_apply h01 hd 9 le_rfl j hj he l hll).trans ?_
  beta_reduce
  rw [show first ((l : ℕ) / 128) + ((l : ℕ) - first ((l : ℕ) / 128)) = l by unfold first; omega]
/-- The keys' gradients. -/
theorem out_dk (j : Fin 2176) (l : Fin 256) :
    OUT(Gen.out0_A_5) (ix2 j l) = ((∑ ii ∈ Finset.range 2176, SS q k v o (l / 128) ii j * q ii l * s96 : ℝ) : EReal) := by
  unfold Gen.out0_A_5
  rw [tie_dk]
  frame_out
  have hl := l.isLt
  refine (addSweep_leaves zero_eq arg7.view (T := fun e i j l => SS q k v o e i j * q i (first e + l) * s96) (fun e i j l h => by
    rw [SS, S_zero (off h), zero_mul, zero_mul]) (fun e b he hb => dkB_holds h0 h1 h2 h3 he hb) 9 le_rfl j l).trans (congrArg _ ?_)
  beta_reduce
  rw [Finset.sum_eq_single ((l : ℕ) / 128) (fun e he hne => if_neg fun h => hne (by unfold first at h; omega)) fun hn => absurd (Finset.mem_range.2 (by omega)) hn,
    if_pos ⟨by unfold first; omega, by unfold first; omega⟩]
  rw [show first ((l : ℕ) / 128) + ((l : ℕ) - first ((l : ℕ) / 128)) = l by unfold first; omega]
  rfl
omit h2 in
/-- The values' gradients. -/
theorem out_dv (j : Fin 2176) (l : Fin 128) :
    OUT(Gen.out0_A_6) (ix2 j l) = ((∑ e ∈ Finset.range 2, ∑ ii ∈ Finset.range 2176, P (g q k e) ii j * half o e ii l : ℝ) : EReal) := by
  unfold Gen.out0_A_6
  rw [tie_dv]
  frame_out
  refine (addSweep_leaves zero_eq arg8.view (T := fun e i j l => P (g q k e) i j * half o e i l) (fun e i j l h => by
    rw [P_zero (off h), zero_mul]) (fun e b he hb => dvB_holds h0 h1 h3 he hb) 9 le_rfl j l).trans ?_
  simp only [Nat.zero_le, true_and, Nat.zero_add, l.isLt, if_true, Nat.sub_zero]; rfl

end Out

end Cert.MlaValue
end
-- ==== Proof.MlaRef.lean ====
/- The latent attention's gradients as the reference has them, of finite operands. -/
module

public import proofs.«01_k».proof.Proof.AttnPack
public import proofs.«01_k».proof.Proof.Gen.MlaBwdRefIdeal.Read
public import Idealize.ShloMosaic.Lib.Pointwise

@[expose] public section

set_option maxRecDepth 16384

noncomputable section

namespace Cert.MlaRef

open Idealize.ShloMosaic Cert.Attn Cert.MlaBwdRefIdeal Cert.MlaBwdRefIdeal.Read
open scoped BigOperators

/-- The queries' and keys' rows per head. -/
abbrev Y4 := FVec Ideal ⟨4, ![4, 8, 2064, 96]⟩ .f32
/-- The values' rows per head. -/
abbrev X4 := FVec Ideal ⟨4, ![4, 8, 2064, 64]⟩ .f32

section Real
variable (q k : Y4) (v o : X4) (b h : ℕ)

/-- The scores of one head. -/
def gT (n m : ℕ) : ℝ := (∑ d : Fin 96, T q b h n d * T k b h m d) * s96
/-- The weights' gradient. -/
def dT (n m : ℕ) : ℝ := ∑ d : Fin 64, T o b h n d * T v b h m d
/-- The scores' gradient. -/
def sT (n m : ℕ) : ℝ := Attn.ST (gT q k b h) (dT v o b h) n m
/-- The queries' gradient. -/
def dqT (n d : ℕ) : ℝ := ∑ m : Fin 2064, sT q k v o b h n m * s96 * T k b h m d
/-- The keys' gradient. -/
def dkT (m d : ℕ) : ℝ := ∑ n : Fin 2064, sT q k v o b h n m * s96 * T q b h n d
/-- The values' gradient. -/
def dvT (m d : ℕ) : ℝ := ∑ n : Fin 2064, PT (gT q k b h) n m * T o b h n d

end Real

theorem bot : Ideal.ofBits .f32 0xFF800000#32 = (⊥ : EReal) := by simp [Ideal.ofBits, Ideal.ieee]
theorem ninetysix : Ideal.ofBits .f32 0x42C00000#32 = ((96 : ℝ) : EReal) := by
  simp [Ideal.ofBits, Ideal.ieee, -EReal.coe_mul]; norm_num
theorem zero_word : (FloatOps.sitofp .f32 0#32 : Ideal .f32) = ((0 : ℝ) : EReal) := by
  show (((0#32 : BitVec 32).toInt : ℝ) : EReal) = _
  norm_num
theorem scale (i) : val_main_v1 (F := Ideal) i = (s96 : EReal) := by
  show Ideal.rsqrt (Ideal.ofBits .f32 0x42C00000#32) = _
  rw [ninetysix, Ideal.rsqrt_coe, if_neg (by norm_num), if_neg (by norm_num)]
  rfl
/-- A rank-4 array's values outside it are zero. -/
theorem T_out (x : Y4) (b h n : ℕ) {d : ℕ} (hd : ¬ d < 96) : T x b h n d = 0 := by
  unfold Attn.T; rw [dif_neg fun hh => hd hh.2.2.2]

section Stages
variable (x0 x1 : Y4) (x2 x3 : X4) (b : Fin 4) (h : Fin 8)

theorem raw (i j : Fin 2064) : val_main_v3 (F := Ideal) x0 x1 (ix4 b h i j)
    = (∑ d : Fin 96, x0 (ix4 b h i d) * x1 (ix4 b h j d)) * (s96 : EReal) := by
  pointwise [val_main_v3, val_main_v2, val_main_v0]
  rw [scale]

theorem maskRef (i j : Fin 2064) : val_main_v11_1 (F := Ideal) (ix4 b h i j) = if j.val ≤ i.val then 1#1 else 0#1 := by
  pointwise [val_main_v11_1, val_main_v10, val_main_v9, val_main_v8, val_main_v7, val_main_v6, val_main_v5, val_main_v4]
  have hi := i.isLt
  have hj := j.isLt
  rw [WordCmp.cmpi_sge_ofNat (by omega) (by omega)]
  split_ifs with hh <;> simp [hh]
theorem masked (i j : Fin 2064) : val_main_v11_0 (F := Ideal) x0 x1 (ix4 b h i j)
    = if j.val ≤ i.val then val_main_v3 (F := Ideal) x0 x1 (ix4 b h i j) else ⊥ := by
  unfold val_main_v11_0
  show Scalar.select (val_main_v11_1 (F := Ideal) (ix4 b h i j)) _ _ = _
  rw [maskRef]
  split_ifs
  · rfl
  · exact bot
theorem mx (i : Fin 2064) : val_main_v19 (F := Ideal) x0 x1 (ix3 b h i)
    = max ⊥ ((Finset.univ : Finset (Fin 2064)).fold max ⊥ fun j => val_main_v11_0 (F := Ideal) x0 x1 (ix4 b h i j)) := by
  have e : val_main_v12 (F := Ideal) x0 x1 (ix3 b h i) = _ := max_keys (val_main_v11_0 (F := Ideal) x0 x1) (val_main_cst_1 (F := Ideal)) (fun _ => bot) _ _ b h i
  rw [val_main_v19_apply, e]
  generalize (Finset.univ : Finset (Fin 2064)).fold max (⊥ : EReal) (fun j => val_main_v11_0 (F := Ideal) x0 x1 (ix4 b h i j)) = z
  exact congrArg (fun y => max y z) bot
theorem ex (i j : Fin 2064) : val_main_v32 (F := Ideal) x0 x1 (ix4 b h i j)
    = Ideal.exp (val_main_v11_0 (F := Ideal) x0 x1 (ix4 b h i j) - val_main_v19 (F := Ideal) x0 x1 (ix3 b h i)) := by
  pointwise [val_main_v32, val_main_v31, val_main_v30, val_main_v29]
theorem tot (i : Fin 2064) : val_main_v33 (F := Ideal) x0 x1 (ix3 b h i) = ∑ j : Fin 2064, val_main_v32 (F := Ideal) x0 x1 (ix4 b h i j) := by
  pointwise [val_main_v33, val_main_cst_9]
theorem wts (i j : Fin 2064) : val_main_v36 (F := Ideal) x0 x1 (ix4 b h i j)
    = Ideal.div (val_main_v32 (F := Ideal) x0 x1 (ix4 b h i j)) (val_main_v33 (F := Ideal) x0 x1 (ix3 b h i)) := by
  pointwise [val_main_v36, val_main_v35, val_main_v34]
theorem dV (i j : Fin 2064) : val_main_v43 (F := Ideal) x2 x3 (ix4 b h i j) = ∑ d : Fin 64, x3 (ix4 b h i d) * x2 (ix4 b h j d) := by
  pointwise [val_main_v43]
theorem cor (i : Fin 2064) : val_main_v47 (F := Ideal) x0 x1 x2 x3 (ix3 b h i)
    = ∑ j : Fin 2064, val_main_v43 (F := Ideal) x2 x3 (ix4 b h i j) * Ideal.div 1 (val_main_v33 (F := Ideal) x0 x1 (ix3 b h i) * val_main_v33 (F := Ideal) x0 x1 (ix3 b h i)) * val_main_v32 (F := Ideal) x0 x1 (ix4 b h i j) := by
  pointwise [val_main_v47, val_main_v46, val_main_v45, val_main_v44, val_main_v39, val_main_v38, val_main_v37, val_main_v34, val_main_cst_11, val_main_cst_10]
theorem dsRef (i j : Fin 2064) : val_main_v55 (F := Ideal) x0 x1 x2 x3 (ix4 b h i j)
    = (Ideal.div (val_main_v43 (F := Ideal) x2 x3 (ix4 b h i j)) (val_main_v33 (F := Ideal) x0 x1 (ix3 b h i)) + -(val_main_v47 (F := Ideal) x0 x1 x2 x3 (ix3 b h i)))
      * val_main_v32 (F := Ideal) x0 x1 (ix4 b h i j) := by
  pointwise [val_main_v55, val_main_v54, val_main_v53, val_main_v52, val_main_v51, val_main_v50, val_main_v49, val_main_v48, val_main_v34, val_main_cst_12]
  rw [Fin.sum_univ_one]

theorem vsel (i j : Fin 2064) : val_main_v56 (F := Ideal) x0 x1 x2 x3 (ix4 b h i j)
    = if j.val ≤ i.val then val_main_v55 (F := Ideal) x0 x1 x2 x3 (ix4 b h i j) else 0 := by
  show Scalar.select (val_main_v11_1 (F := Ideal) (ix4 b h i j)) _ _ = _
  rw [maskRef]
  split_ifs
  · rfl
  · exact Ideal.ofBits_zero_f32
theorem dqRef (i : Fin 2064) (d : Fin 96) : val_main_v60 (F := Ideal) x0 x1 x2 x3 (ix4 b h i d)
    = ∑ j : Fin 2064, val_main_v56 (F := Ideal) x0 x1 x2 x3 (ix4 b h i j) * (s96 : EReal) * x1 (ix4 b h j d) := by
  pointwise [val_main_v60, val_main_v58, val_main_v57]
  simp only [scale]
theorem dkRef (j : Fin 2064) (d : Fin 96) : val_main_v59 (F := Ideal) x0 x1 x2 x3 (ix4 b h j d)
    = ∑ i : Fin 2064, val_main_v56 (F := Ideal) x0 x1 x2 x3 (ix4 b h i j) * (s96 : EReal) * x0 (ix4 b h i d) := by
  pointwise [val_main_v59, val_main_v58, val_main_v57]
  simp only [scale]
theorem dvRef (j : Fin 2064) (d : Fin 64) : val_main_v42 (F := Ideal) x0 x1 x3 (ix4 b h j d)
    = ∑ i : Fin 2064, x3 (ix4 b h i d) * val_main_v36 (F := Ideal) x0 x1 (ix4 b h i j) := by
  pointwise [val_main_v42, val_main_v41]
end Stages

/-! ## Of finite operands -/

section Finite
variable {x0 x1 : Y4} {x2 x3 : X4} (h0 : Fin' x0) (h1 : Fin' x1) (h2 : Fin' x2) (h3 : Fin' x3) (b : Fin 4) (h : Fin 8)

/-- A product of two heads' rows. -/
theorem coe_dot {w : ℕ} {x y : FVec Ideal ⟨4, ![4, 8, 2064, w]⟩ .f32} (hx : Fin' x) (hy : Fin' y) (i j : Fin 2064) :
    ∑ d : Fin w, x (ix4 b h i d) * y (ix4 b h j d) = ((∑ d : Fin w, T x b h i d * T y b h j d : ℝ) : EReal) := by
  rw [coe_sum]
  exact Finset.sum_congr rfl fun d _ => by rw [T_eq hx, T_eq hy, ← EReal.coe_mul]

include h0 h1 in
theorem scores (i j : Fin 2064) : val_main_v11_0 (F := Ideal) x0 x1 (ix4 b h i j)
    = if j.val ≤ i.val then ((gT x0 x1 b h i j : ℝ) : EReal) else ⊥ := by
  rw [masked, raw, coe_dot b h h0 h1, ← EReal.coe_mul]
  rfl

include h0 h1 in
theorem exps (i : Fin 2064) : ∃ a : ℝ, 0 < a ∧ ∀ j : Fin 2064,
    val_main_v32 (F := Ideal) x0 x1 (ix4 b h i j) = ((WT (gT x0 x1 b h) i j * a : ℝ) : EReal) := by
  obtain ⟨a, ha, he⟩ := row_exp (g := gT x0 x1 b h) i.isLt (fun j => scores h0 h1 b h i j)
  exact ⟨a, ha, fun j => by rw [ex, mx]; exact he j⟩

include h0 h1 in
theorem weights (i j : Fin 2064) : val_main_v36 (F := Ideal) x0 x1 (ix4 b h i j) = ((PT (gT x0 x1 b h) i j : ℝ) : EReal) := by
  obtain ⟨a, ha, he⟩ := exps h0 h1 b h i
  rw [wts, tot]
  exact row_P i.isLt ha he j

include h0 h1 h2 h3 in
theorem grads (i j : Fin 2064) : val_main_v56 (F := Ideal) x0 x1 x2 x3 (ix4 b h i j) = ((sT x0 x1 x2 x3 b h i j : ℝ) : EReal) := by
  obtain ⟨a, ha, he⟩ := exps h0 h1 b h i
  rw [vsel]
  split_ifs with hij
  · rw [dsRef, cor, tot]
    exact row_S i.isLt ha he (dT := dT x2 x3 b h) (fun j => (dV x2 x3 b h i j).trans (coe_dot b h h3 h2 i j)) j
  · unfold sT Attn.ST PT WT wt
    rw [if_neg hij, zero_div, zero_mul, EReal.coe_zero]

include h0 h1 h2 h3 in
theorem dqV (i : Fin 2064) (d : Fin 96) : val_main_v60 (F := Ideal) x0 x1 x2 x3 (ix4 b h i d) = ((dqT x0 x1 x2 x3 b h i d : ℝ) : EReal) := by
  unfold dqT
  rw [dqRef, coe_sum]
  exact Finset.sum_congr rfl fun j _ => by rw [grads h0 h1 h2 h3, T_eq h1, ← EReal.coe_mul, ← EReal.coe_mul]
include h0 h1 h2 h3 in
theorem dkV (i : Fin 2064) (d : Fin 96) : val_main_v59 (F := Ideal) x0 x1 x2 x3 (ix4 b h i d) = ((dkT x0 x1 x2 x3 b h i d : ℝ) : EReal) := by
  unfold dkT
  rw [dkRef, coe_sum]
  exact Finset.sum_congr rfl fun j _ => by rw [grads h0 h1 h2 h3, T_eq h0, ← EReal.coe_mul, ← EReal.coe_mul]
include h0 h1 h3 in
theorem dvV (i : Fin 2064) (d : Fin 64) : val_main_v42 (F := Ideal) x0 x1 x3 (ix4 b h i d) = ((dvT x0 x1 x3 b h i d : ℝ) : EReal) := by
  unfold dvT
  rw [dvRef, coe_sum]
  exact Finset.sum_congr rfl fun j _ => by rw [weights h0 h1, T_eq h3, ← EReal.coe_mul, mul_comm]

/-! ## The queries' and keys' gradients, 32 empty lanes after each head's 96 -/

theorem dqT_out (b h n : ℕ) {d : ℕ} (hd : ¬ d < 96) : dqT x0 x1 x2 x3 b h n d = 0 :=
  Finset.sum_eq_zero fun m _ => by rw [T_out _ _ _ _ hd, mul_zero]
theorem dkT_out (b h n : ℕ) {d : ℕ} (hd : ¬ d < 96) : dkT x0 x1 x2 x3 b h n d = 0 :=
  Finset.sum_eq_zero fun m _ => by rw [T_out _ _ _ _ hd, mul_zero]

include h0 h1 h2 h3 in
theorem dqP (i : Fin 2064) (d : Fin 128) : val_main_v61 (F := Ideal) x0 x1 x2 x3 (ix4 b h i d) = ((dqT x0 x1 x2 x3 b h i d : ℝ) : EReal) := by
  pointwise [val_main_v61, val_main_call2_v0, val_main_c]
  split_ifs with hd
  · exact dqV h0 h1 h2 h3 b h i ⟨d, hd⟩
  · rw [dqT_out b h i hd]
    exact zero_word
include h0 h1 h2 h3 in
theorem dkP (i : Fin 2064) (d : Fin 128) : val_main_v69 (F := Ideal) x0 x1 x2 x3 (ix4 b h i d) = ((dkT x0 x1 x2 x3 b h i d : ℝ) : EReal) := by
  pointwise [val_main_v69, val_main_call3_v0, val_main_c_14]
  split_ifs with hd
  · exact dkV h0 h1 h2 h3 b h i ⟨d, hd⟩
  · rw [dkT_out b h i hd]
    exact zero_word
include h0 h1 h3 in
theorem dvP (i : Fin 2064) (d : Fin 64) : val_main_v77 (F := Ideal) x0 x1 x3 (ix4 b h i d) = ((dvT x0 x1 x3 b h i d : ℝ) : EReal) := by
  pointwise [val_main_v77]
  exact dvV h0 h1 h3 b h i d

end Finite

/-! ## The results, packed -/

section Results
variable {x0 x1 : Y4} {x2 x3 : X4} (h0 : Fin' x0) (h1 : Fin' x1) (h2 : Fin' x2) (h3 : Fin' x3)

include h0 h1 h2 h3 in
theorem ref_dq : val_main_v68 (F := Ideal) x0 x1 x2 x3 = rowsOf 128 (dqT x0 x1 x2 x3) := by
  funext y
  idx_vars y
  pointwise [val_main_v68, val_main_v67, val_main_v66, val_main_v65, val_main_v64, val_main_v63, val_main_v62, val_main_cst_13]
  have l0 := y0.isLt
  have l1 := y1.isLt
  exact rows_eq (X := fun b h n d => val_main_v61 (F := Ideal) x0 x1 x2 x3 (ix4 b h n d)) (dqP h0 h1 h2 h3) y0 y1 (by omega) (by omega) (by omega) (by omega) (by omega)
include h0 h1 h2 h3 in
theorem ref_dk : val_main_v76 (F := Ideal) x0 x1 x2 x3 = rowsOf 128 (dkT x0 x1 x2 x3) := by
  funext y
  idx_vars y
  pointwise [val_main_v76, val_main_v75, val_main_v74, val_main_v73, val_main_v72, val_main_v71, val_main_v70, val_main_cst_15]
  have l0 := y0.isLt
  have l1 := y1.isLt
  exact rows_eq (X := fun b h n d => val_main_v69 (F := Ideal) x0 x1 x2 x3 (ix4 b h n d)) (dkP h0 h1 h2 h3) y0 y1 (by omega) (by omega) (by omega) (by omega) (by omega)
include h0 h1 h3 in
theorem ref_dv : val_main_v84 (F := Ideal) x0 x1 x3 = rowsOf 64 (dvT x0 x1 x3) := by
  funext y
  idx_vars y
  pointwise [val_main_v84, val_main_v83, val_main_v82, val_main_v81, val_main_v80, val_main_v79, val_main_v78, val_main_cst_17]
  have l0 := y0.isLt
  have l1 := y1.isLt
  exact rows_eq (X := fun b h n d => val_main_v77 (F := Ideal) x0 x1 x3 (ix4 b h n d)) (dvP h0 h1 h3) y0 y1 (by omega) (by omega) (by omega) (by omega) (by omega)

end Results

end Cert.MlaRef

end
-- ==== Proof.MlaTok.lean ====
/- The latent attention's backward kernel over tokens: what one pair of heads' block results come to. -/
module

public import proofs.«01_k».proof.Proof.MlaValue
public import proofs.«01_k».proof.Proof.MlaRef

@[expose] public section

set_option maxRecDepth 16384

noncomputable section

namespace Cert.MlaTok

open Idealize.ShloMosaic Cert.Attn
open Cert.MlaRef (X4 Y4 gT dT sT dqT dkT dvT)
open Cert.MlaValue (g SS first)
open scoped BigOperators

variable (x0 x1 : Y4) (x2 x3 : X4) (b hp : ℕ)

/-- The pair's block of queries or keys, 128 lanes a head, at positions. -/
def wideB (x : Y4) (p l : ℕ) : ℝ := Attn.pad (fun n => Attn.T x b ((hp * 256 + l) / 128) n ((hp * 256 + l) % 128)) p

/-- The kernel's scores of the pair. -/
def gB (e : ℕ) : ℕ → ℕ → ℝ := g (wideB b hp x0) (wideB b hp x1) e
/-- The kernel's score gradients of the pair. -/
def sB (e : ℕ) : ℕ → ℕ → ℝ := SS (wideB b hp x0) (wideB b hp x1) (rowsB b hp x2) (rowsB b hp x3) e

theorem wideB_pos (x : Y4) (n l : ℕ) : wideB b hp x (pos n) l = Attn.T x b ((hp * 256 + l) / 128) n ((hp * 256 + l) % 128) := pad_pos _ n

/-- A head's lanes, 32 of them empty, carry the head's own product. -/
theorem wide_dot (x y : Y4) (e n m : ℕ) :
    ∑ l : Fin 128, wideB b hp x (pos n) (first e + l) * wideB b hp y (pos m) (first e + l)
      = ∑ d : Fin 96, Attn.T x b (hp * 2 + e) n d * Attn.T y b (hp * 2 + e) m d := by
  have hl : ∀ l : Fin 128, wideB b hp x (pos n) (first e + l) * wideB b hp y (pos m) (first e + l)
      = Attn.T x b (hp * 2 + e) n l * Attn.T y b (hp * 2 + e) m l := fun l => by
    have := l.isLt
    unfold first
    rw [wideB_pos, wideB_pos, show (hp * 256 + (128 * e + l.val)) / 128 = hp * 2 + e by omega, show (hp * 256 + (128 * e + l.val)) % 128 = l.val by omega]
  rw [Finset.sum_congr rfl fun l _ => hl l, Fin.sum_univ_eq_sum_range (fun l => Attn.T x b (hp * 2 + e) n l * Attn.T y b (hp * 2 + e) m l) 128,
    Fin.sum_univ_eq_sum_range (fun l => Attn.T x b (hp * 2 + e) n l * Attn.T y b (hp * 2 + e) m l) 96]
  refine (Finset.sum_subset (fun l h => Finset.mem_range.2 (by have := Finset.mem_range.1 h; omega)) fun l _ h => ?_).symm
  rw [MlaRef.T_out x b _ _ fun hh => h (Finset.mem_range.2 hh), zero_mul]

theorem g_pos (e : ℕ) (n m : Fin 2064) : gB x0 x1 b hp e (pos n) (pos m) = gT x0 x1 b (hp * 2 + e) n m := by
  unfold gB g gT
  rw [wide_dot]

theorem s_pos {e : ℕ} (he : e < 2) (n m : Fin 2064) : sB x0 x1 x2 x3 b hp e (pos n) (pos m) = sT x0 x1 x2 x3 b (hp * 2 + e) n m :=
  S_pos (g_pos x0 x1 b hp e) (o := half (rowsB b hp x3) e) (v := rowsB b hp x2) (dT := dT x2 x3 b (hp * 2 + e)) (fun n m => dot_pos b hp x3 x2 he n m) n m
theorem s_row {e p : ℕ} (h : 16 ≤ p ∧ p < 128) (j : ℕ) : sB x0 x1 x2 x3 b hp e p j = 0 := S_pad (fun l => half_in b hp x3 h e l) j
theorem s_key {e p : ℕ} (h : 16 ≤ p ∧ p < 128) (i : ℕ) : sB x0 x1 x2 x3 b hp e i p = 0 := S_zero (pad_off h)

theorem wide_head {l : ℕ} (hl : l < 256) : l / 128 < 2 ∧ hp * 2 + l / 128 = (hp * 256 + l) / 128 := by omega

theorem dq_block {p l : ℕ} (hp' : p < 2176) (hl : l < 256) :
    (∑ j ∈ Finset.range 2176, sB x0 x1 x2 x3 b hp (l / 128) p j * wideB b hp x1 j l) * s96
      = Attn.pad (fun n => dqT x0 x1 x2 x3 b ((hp * 256 + l) / 128) n ((hp * 256 + l) % 128)) p := by
  obtain ⟨h1, h2⟩ := wide_head hp hl
  rcases pos_or hp' with h | ⟨n, rfl⟩
  · rw [pad_in _ h, Finset.sum_eq_zero fun j _ => by rw [s_row x0 x1 x2 x3 b hp h, zero_mul], zero_mul]
  · rw [pad_pos, sum_pos _ fun q h => by rw [s_key x0 x1 x2 x3 b hp h, zero_mul], Finset.sum_mul]
    unfold dqT
    refine Finset.sum_congr rfl fun m _ => ?_
    rw [s_pos x0 x1 x2 x3 b hp h1, wideB_pos, h2]
    ring

theorem dk_block {p l : ℕ} (hp' : p < 2176) (hl : l < 256) :
    ∑ i ∈ Finset.range 2176, sB x0 x1 x2 x3 b hp (l / 128) i p * wideB b hp x0 i l * s96
      = Attn.pad (fun n => dkT x0 x1 x2 x3 b ((hp * 256 + l) / 128) n ((hp * 256 + l) % 128)) p := by
  obtain ⟨h1, h2⟩ := wide_head hp hl
  rcases pos_or hp' with h | ⟨n, rfl⟩
  · rw [pad_in _ h, Finset.sum_eq_zero fun j _ => by rw [s_key x0 x1 x2 x3 b hp h, zero_mul, zero_mul]]
  · rw [pad_pos, sum_pos _ fun q h => by rw [s_row x0 x1 x2 x3 b hp h, zero_mul, zero_mul]]
    unfold dkT
    refine Finset.sum_congr rfl fun m _ => ?_
    rw [s_pos x0 x1 x2 x3 b hp h1, wideB_pos, h2]
    ring

theorem dv_block {p l : ℕ} (hp' : p < 2176) (hl : l < 128) :
    ∑ e ∈ Finset.range 2, ∑ i ∈ Finset.range 2176, P (gB x0 x1 b hp e) i p * half (rowsB b hp x3) e i l
      = Attn.pad (fun n => dvT x0 x1 x3 b ((hp * 128 + l) / 64) n ((hp * 128 + l) % 64)) p := by
  obtain ⟨h1, h2, -⟩ := lane_head hp hl
  rw [Finset.sum_comm, Finset.sum_congr rfl fun i _ => sum_heads b hp hl x3 i (fun e a => P (gB x0 x1 b hp e) i p * a) fun e => by ring]
  rcases pos_or hp' with h | ⟨n, rfl⟩
  · rw [pad_in _ h, Finset.sum_eq_zero fun j _ => by rw [P_zero (pad_off h), zero_mul]]
  · rw [pad_pos, sum_pos _ fun q h => by rw [rowsB_in b hp x3 h, mul_zero]]
    unfold dvT
    refine Finset.sum_congr rfl fun m _ => ?_
    rw [P_pos (g_pos x0 x1 b hp _), rowsB_pos, h2]

end Cert.MlaTok

end
-- ==== Proof.MlaFinal.lean ====
/- The latent attention's backward call: its result arrays, of finite arguments. -/
module

public import proofs.«01_k».proof.Proof.MlaTok
public import Idealize.ShloMosaic.Lib.StableHlo.RunRead

@[expose] public section

set_option maxRecDepth 16384

noncomputable section

namespace Cert.MlaFinal

open Idealize.ShloMosaic Idealize.ShloMosaic.TcCoe Cert.Attn Cert.MlaBwdIdeal Cert.MlaBwdIdeal.Gen
open Cert.MlaRef (X4 Y4 dqT dkT dvT)
open Cert.MlaTok (wideB)
open Idealize.ShloMosaic.Pipeline (Dat)

/-! ## What the launch reads -/

/-- The queries or keys, 32 empty lanes after each head. -/
def padY (x : Y4) (z : S_.Idx → BitVec 32) : FVec Ideal S4x8x2064x128 .f32 :=
  pad S4x8x2064x128 ![0, 0, 0, 0] ![0, 0, 0, 32] ![0, 0, 0, 0] x (sitofp .f32 z) pads_S4x8x2064x96_S4x8x2064x128_000_000_000_0320 h_S_
/-- Its rows with the heads side by side. -/
def rowY (p : FVec Ideal S4x8x2064x128 .f32) : FVec Ideal S4x2064x1024 .f32 :=
  shapeCast S4x2064x1024 (transpose S4x2064x8x128 [0, 2, 1, 3] p transposes_S4x8x2064x128_S4x2064x8x128_0_2_1_3) shapeCasts_S4x2064x8x128_S4x2064x1024
/-- Those rows with 112 empty positions after the first 16, as the kernel takes them. -/
def packY (p : FVec Ideal S4x8x2064x128 .f32) : FVec Ideal S8704x1024 .bf16 :=
  truncf .bf16 (shapeCast S8704x1024 (concatenate S4x2176x1024 1
    [⟨S4x16x1024, extractStridedSlice S4x16x1024 ![0, 0, 0] (rowY p) slices_S4x2064x1024_S4x16x1024_0_0_0⟩,
     ⟨S4x112x1024, broadcastInDim S4x112x1024 ![] bcast_S_S4x112x1024 (constant S_ .f32 0x00000000#32)⟩,
     ⟨S4x2048x1024, extractStridedSlice S4x2048x1024 ![0, 16, 0] (rowY p) slices_S4x2064x1024_S4x2048x1024_0_16_0⟩]
    concatenates_S4x16x1024_S4x112x1024_S4x2048x1024_S4x2176x1024_d1) shapeCasts_S4x2176x1024_S8704x1024) bitsLt_bf16_f32
/-- The values or cotangents, head beside head. -/
def padX (x : X4) (z : S_.Idx → BitVec 32) : FVec Ideal S4x8x2064x64 .f32 :=
  pad S4x8x2064x64 ![0, 0, 0, 0] ![0, 0, 0, 0] ![0, 0, 0, 0] x (sitofp .f32 z) pads_S4x8x2064x64_S4x8x2064x64_000_000_000_000 h_S_
/-- Its rows with the heads side by side. -/
def rowX (p : FVec Ideal S4x8x2064x64 .f32) : FVec Ideal S4x2064x512 .f32 :=
  shapeCast S4x2064x512 (transpose S4x2064x8x64 [0, 2, 1, 3] p transposes_S4x8x2064x64_S4x2064x8x64_0_2_1_3) shapeCasts_S4x2064x8x64_S4x2064x512
/-- Those rows with 112 empty positions after the first 16, as the kernel takes them. -/
def packX (p : FVec Ideal S4x8x2064x64 .f32) : FVec Ideal S8704x512 .bf16 :=
  truncf .bf16 (shapeCast S8704x512 (concatenate S4x2176x512 1
    [⟨S4x16x512, extractStridedSlice S4x16x512 ![0, 0, 0] (rowX p) slices_S4x2064x512_S4x16x512_0_0_0⟩,
     ⟨S4x112x512, broadcastInDim S4x112x512 ![] bcast_S_S4x112x512 (constant S_ .f32 0x00000000#32)⟩,
     ⟨S4x2048x512, extractStridedSlice S4x2048x512 ![0, 16, 0] (rowX p) slices_S4x2064x512_S4x2048x512_0_16_0⟩]
    concatenates_S4x16x512_S4x112x512_S4x2048x512_S4x2176x512_d1) shapeCasts_S4x2176x512_S8704x512) bitsLt_bf16_f32

theorem padY_apply {x : Y4} (hx : Fin' x) (b : Fin 4) (h : Fin 8) (n : Fin 2064) (d : Fin 128) :
    padY x (constantI S_ 32 0#32) (ix4 b h n d) = ((Attn.T x b h n d : ℝ) : EReal) := by
  pointwise [padY]
  split_ifs with hd
  · exact T_eq hx b h n ⟨d, hd⟩
  · rw [MlaRef.T_out x b h n hd]
    exact MlaRef.zero_word
theorem padX_apply {x : X4} (hx : Fin' x) (b : Fin 4) (h : Fin 8) (n : Fin 2064) (d : Fin 64) :
    padX x (constantI S_ 32 0#32) (ix4 b h n d) = ((Attn.T x b h n d : ℝ) : EReal) := by
  pointwise [padX]
  exact T_eq hx b h n d

theorem packY_apply {x : Y4} (hx : Fin' x) (r : Fin 8704) (l : Fin 1024) :
    packY (padY x (constantI S_ 32 0#32)) (ix2 r l) = rowsOf 128 (Attn.T x) (ix2 r l) := by
  have l0 := r.isLt
  have l1 := l.isLt
  pointwise [packY, rowY]
  exact rows_eq (w := 128) (X := fun b h n d => padY x (constantI S_ 32 0#32) (ix4 b h n d)) (padY_apply hx) r l (by omega) (by omega) (by omega) (by omega) (by omega)
theorem packX_apply {x : X4} (hx : Fin' x) (r : Fin 8704) (l : Fin 512) :
    packX (padX x (constantI S_ 32 0#32)) (ix2 r l) = rowsOf 64 (Attn.T x) (ix2 r l) := by
  have l0 := r.isLt
  have l1 := l.isLt
  pointwise [packX, rowX]
  exact rows_eq (w := 64) (X := fun b h n d => padX x (constantI S_ 32 0#32) (ix4 b h n d)) (padX_apply hx) r l (by omega) (by omega) (by omega) (by omega) (by omega)

variable (m : (ℓ : Loc nD τ sig) → Buf (Elt Ideal) ℓ)

/-- The four arguments. -/
abbrev a0 (c : Dev nD) : Y4 := m ((c : Thread nD τ).loc main_arg0)
abbrev a1 (c : Dev nD) : Y4 := m ((c : Thread nD τ).loc main_arg1)
abbrev a2 (c : Dev nD) : X4 := m ((c : Thread nD τ).loc main_arg2)
abbrev a3 (c : Dev nD) : X4 := m ((c : Thread nD τ).loc main_arg3)

/-! ## The host operations before the launch, one argument's at a time -/

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

section Segments
variable (W : Valuation τ sig (Elt Ideal)) {r : Ref sig .tc}

theorem keep0 (h : r ∉ [main_c]) : (StableHlo.after (hostOps0 (F := Ideal)) W) (Proc.devRef .tc r) = W (Proc.devRef .tc r) :=
  StableHlo.after_unwritten _ rfl h W
theorem keep1 (h : r ∉ [main_call0_v0, main_v0]) : (StableHlo.after (hostOps0_1 (F := Ideal)) W) (Proc.devRef .tc r) = W (Proc.devRef .tc r) :=
  StableHlo.after_unwritten _ rfl h W
theorem keep2 (h : r ∉ [main_v1, main_v2, main_v3, main_cst, main_v4, main_v5, main_v6, main_v7, main_v8, main_c_0]) : (StableHlo.after (hostOps0_2 (F := Ideal)) W) (Proc.devRef .tc r) = W (Proc.devRef .tc r) :=
  StableHlo.after_unwritten _ rfl h W
theorem keep3 (h : r ∉ [main_call1_v0, main_v9]) : (StableHlo.after (hostOps0_3 (F := Ideal)) W) (Proc.devRef .tc r) = W (Proc.devRef .tc r) :=
  StableHlo.after_unwritten _ rfl h W
theorem keep4 (h : r ∉ [main_v10, main_v11, main_v12, main_cst_1, main_v13, main_v14, main_v15, main_v16, main_v17, main_c_2]) : (StableHlo.after (hostOps0_4 (F := Ideal)) W) (Proc.devRef .tc r) = W (Proc.devRef .tc r) :=
  StableHlo.after_unwritten _ rfl h W
theorem keep5 (h : r ∉ [main_call2_v0, main_v18]) : (StableHlo.after (hostOps0_5 (F := Ideal)) W) (Proc.devRef .tc r) = W (Proc.devRef .tc r) :=
  StableHlo.after_unwritten _ rfl h W
theorem keep6 (h : r ∉ [main_v19, main_v20, main_v21, main_cst_3, main_v22, main_v23, main_v24, main_v25, main_v26, main_c_4]) : (StableHlo.after (hostOps0_6 (F := Ideal)) W) (Proc.devRef .tc r) = W (Proc.devRef .tc r) :=
  StableHlo.after_unwritten _ rfl h W
theorem keep7 (h : r ∉ [main_call3_v0, main_v27]) : (StableHlo.after (hostOps0_7 (F := Ideal)) W) (Proc.devRef .tc r) = W (Proc.devRef .tc r) :=
  StableHlo.after_unwritten _ rfl h W
theorem keep8 (h : r ∉ [main_v28, main_v29, main_v30, main_cst_5, main_v31, main_v32, main_v33, main_v34, main_v35]) : (StableHlo.after (hostOps0_8 (F := Ideal)) W) (Proc.devRef .tc r) = W (Proc.devRef .tc r) :=
  StableHlo.after_unwritten _ rfl h W
theorem zero0 : (StableHlo.after (hostOps0 (F := Ideal)) W) (Proc.devRef .tc main_c) = constantI S_ 32 0#32 := by
  simp only [hostOps0]
  after_results <;> rfl
theorem padded0 : (StableHlo.after (hostOps0_1 (F := Ideal)) W) (Proc.devRef .tc main_v0) = padY (W (Proc.devRef .tc main_arg0)) (W (Proc.devRef .tc main_c)) := by
  simp only [hostOps0_1]
  after_results <;> rfl
theorem packed0 : (StableHlo.after (hostOps0_2 (F := Ideal)) W) (Proc.devRef .tc main_v8) = packY (W (Proc.devRef .tc main_v0)) := by
  simp only [hostOps0_2]
  after_results <;> rfl
theorem zero1 : (StableHlo.after (hostOps0_2 (F := Ideal)) W) (Proc.devRef .tc main_c_0) = constantI S_ 32 0#32 := by
  simp only [hostOps0_2]
  after_results <;> rfl
theorem padded1 : (StableHlo.after (hostOps0_3 (F := Ideal)) W) (Proc.devRef .tc main_v9) = padY (W (Proc.devRef .tc main_arg1)) (W (Proc.devRef .tc main_c_0)) := by
  simp only [hostOps0_3]
  after_results <;> rfl
theorem packed1 : (StableHlo.after (hostOps0_4 (F := Ideal)) W) (Proc.devRef .tc main_v17) = packY (W (Proc.devRef .tc main_v9)) := by
  simp only [hostOps0_4]
  after_results <;> rfl
theorem zero2 : (StableHlo.after (hostOps0_4 (F := Ideal)) W) (Proc.devRef .tc main_c_2) = constantI S_ 32 0#32 := by
  simp only [hostOps0_4]
  after_results <;> rfl
theorem padded2 : (StableHlo.after (hostOps0_5 (F := Ideal)) W) (Proc.devRef .tc main_v18) = padX (W (Proc.devRef .tc main_arg2)) (W (Proc.devRef .tc main_c_2)) := by
  simp only [hostOps0_5]
  after_results <;> rfl
theorem packed2 : (StableHlo.after (hostOps0_6 (F := Ideal)) W) (Proc.devRef .tc main_v26) = packX (W (Proc.devRef .tc main_v18)) := by
  simp only [hostOps0_6]
  after_results <;> rfl
theorem zero3 : (StableHlo.after (hostOps0_6 (F := Ideal)) W) (Proc.devRef .tc main_c_4) = constantI S_ 32 0#32 := by
  simp only [hostOps0_6]
  after_results <;> rfl
theorem padded3 : (StableHlo.after (hostOps0_7 (F := Ideal)) W) (Proc.devRef .tc main_v27) = padX (W (Proc.devRef .tc main_arg3)) (W (Proc.devRef .tc main_c_4)) := by
  simp only [hostOps0_7]
  after_results <;> rfl
theorem packed3 : (StableHlo.after (hostOps0_8 (F := Ideal)) W) (Proc.devRef .tc main_v35) = packX (W (Proc.devRef .tc main_v27)) := by
  simp only [hostOps0_8]
  after_results <;> rfl

end Segments

theorem entry_q (c : Dev nD) : V m c main_v8 = packY (padY (a0 m c) (constantI S_ 32 0#32)) := by
  show StableHlo.after (List.flatten [hostOps0, hostOps0_1, hostOps0_2, hostOps0_3, hostOps0_4, hostOps0_5, hostOps0_6, hostOps0_7, hostOps0_8]) _ (Proc.devRef .tc main_v8) = _
  rw [List.flatten_cons, List.flatten_cons, List.flatten_cons, List.flatten_cons, List.flatten_cons, List.flatten_cons, List.flatten_cons, List.flatten_cons, List.flatten_cons, List.flatten_nil, List.append_nil,
    after_two, after_two, after_two, after_two, after_two, after_two, after_two, after_two]
  rw [keep8 _ (by decide), keep7 _ (by decide), keep6 _ (by decide), keep5 _ (by decide), keep4 _ (by decide), keep3 _ (by decide), packed0, padded0, zero0, keep0 _ (by decide)]
theorem entry_k (c : Dev nD) : V m c main_v17 = packY (padY (a1 m c) (constantI S_ 32 0#32)) := by
  show StableHlo.after (List.flatten [hostOps0, hostOps0_1, hostOps0_2, hostOps0_3, hostOps0_4, hostOps0_5, hostOps0_6, hostOps0_7, hostOps0_8]) _ (Proc.devRef .tc main_v17) = _
  rw [List.flatten_cons, List.flatten_cons, List.flatten_cons, List.flatten_cons, List.flatten_cons, List.flatten_cons, List.flatten_cons, List.flatten_cons, List.flatten_cons, List.flatten_nil, List.append_nil,
    after_two, after_two, after_two, after_two, after_two, after_two, after_two, after_two]
  rw [keep8 _ (by decide), keep7 _ (by decide), keep6 _ (by decide), keep5 _ (by decide), packed1, padded1, zero1, keep2 _ (by decide), keep1 _ (by decide), keep0 _ (by decide)]
theorem entry_v (c : Dev nD) : V m c main_v26 = packX (padX (a2 m c) (constantI S_ 32 0#32)) := by
  show StableHlo.after (List.flatten [hostOps0, hostOps0_1, hostOps0_2, hostOps0_3, hostOps0_4, hostOps0_5, hostOps0_6, hostOps0_7, hostOps0_8]) _ (Proc.devRef .tc main_v26) = _
  rw [List.flatten_cons, List.flatten_cons, List.flatten_cons, List.flatten_cons, List.flatten_cons, List.flatten_cons, List.flatten_cons, List.flatten_cons, List.flatten_cons, List.flatten_nil, List.append_nil,
    after_two, after_two, after_two, after_two, after_two, after_two, after_two, after_two]
  rw [keep8 _ (by decide), keep7 _ (by decide), packed2, padded2, zero2, keep4 _ (by decide), keep3 _ (by decide), keep2 _ (by decide), keep1 _ (by decide), keep0 _ (by decide)]
theorem entry_o (c : Dev nD) : V m c main_v35 = packX (padX (a3 m c) (constantI S_ 32 0#32)) := by
  show StableHlo.after (List.flatten [hostOps0, hostOps0_1, hostOps0_2, hostOps0_3, hostOps0_4, hostOps0_5, hostOps0_6, hostOps0_7, hostOps0_8]) _ (Proc.devRef .tc main_v35) = _
  rw [List.flatten_cons, List.flatten_cons, List.flatten_cons, List.flatten_cons, List.flatten_cons, List.flatten_cons, List.flatten_cons, List.flatten_cons, List.flatten_cons, List.flatten_nil, List.append_nil,
    after_two, after_two, after_two, after_two, after_two, after_two, after_two, after_two]
  rw [packed3, padded3, zero3, keep6 _ (by decide), keep5 _ (by decide), keep4 _ (by decide), keep3 _ (by decide), keep2 _ (by decide), keep1 _ (by decide), keep0 _ (by decide)]

/-- Every window's block index at a grid point. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]
    ∧ win0_5.index t = ![t.val / 4, t.val % 4] ∧ win0_6.index t = ![t.val / 4, t.val % 4] ∧ t.val < 16 :=
  (by decide +kernel : ∀ t : Fin grid0.N, _)

variable (c : Dev nD) (t : Fin cfg0.N)

theorem inRows : (∀ p : Fin 2176, t.val / 4 * 2176 + p.val < 8704) ∧ (∀ l : Fin 128, t.val % 4 * 128 + l.val < 512)
    ∧ ∀ l : Fin 256, t.val % 4 * 256 + l.val < 1024 := by
  obtain ⟨-, -, -, -, -, -, -, h⟩ := idx t
  exact ⟨fun p => by have := p.isLt; omega, fun l => by have := l.isLt; omega, fun l => by have := l.isLt; omega⟩

theorem blk_q (hx : Fin' (a0 m c)) : Holds (φ := .bf16) 0 (iblk m c 0 t) (wideB (t.val / 4) (t.val % 4) (a0 m c)) := by
  intro p l
  have e : iblk m c 0 t (ix2 p l) = V m c main_v8 (ix2 ⟨t.val / 4 * 2176 + p.val, (inRows t).1 p⟩ ⟨t.val % 4 * 256 + l.val, (inRows t).2.2 l⟩) := by
    blk_ext [iblk, idx t]
  rw [e, entry_q]
  refine (packY_apply hx _ _).trans ((rowsOf_block _ _ _ _ _ _).trans (congrArg _ ?_))
  unfold wideB
  simp only [Nat.zero_add]
theorem blk_k (hx : Fin' (a1 m c)) : Holds (φ := .bf16) 0 (iblk m c 1 t) (wideB (t.val / 4) (t.val % 4) (a1 m c)) := by
  intro p l
  have e : iblk m c 1 t (ix2 p l) = V m c main_v17 (ix2 ⟨t.val / 4 * 2176 + p.val, (inRows t).1 p⟩ ⟨t.val % 4 * 256 + l.val, (inRows t).2.2 l⟩) := by
    blk_ext [iblk, idx t]
  rw [e, entry_k]
  refine (packY_apply hx _ _).trans ((rowsOf_block _ _ _ _ _ _).trans (congrArg _ ?_))
  unfold wideB
  simp only [Nat.zero_add]
theorem blk_v (hx : Fin' (a2 m c)) : Holds (φ := .bf16) 0 (iblk m c 2 t) (rowsB (t.val / 4) (t.val % 4) (a2 m c)) := by
  intro p l
  have e : iblk m c 2 t (ix2 p l) = V m c main_v26 (ix2 ⟨t.val / 4 * 2176 + p.val, (inRows t).1 p⟩ ⟨t.val % 4 * 128 + l.val, (inRows t).2.1 l⟩) := by
    blk_ext [iblk, idx t]
  rw [e, entry_v]
  refine (packX_apply hx _ _).trans ((rowsOf_block _ _ _ _ _ _).trans (congrArg _ ?_))
  unfold rowsB
  simp only [Nat.zero_add]
theorem blk_o (hx : Fin' (a3 m c)) : Holds (φ := .bf16) 0 (iblk m c 3 t) (rowsB (t.val / 4) (t.val % 4) (a3 m c)) := by
  intro p l
  have e : iblk m c 3 t (ix2 p l) = V m c main_v35 (ix2 ⟨t.val / 4 * 2176 + p.val, (inRows t).1 p⟩ ⟨t.val % 4 * 128 + l.val, (inRows t).2.1 l⟩) := by
    blk_ext [iblk, idx t]
  rw [e, entry_o]
  refine (packX_apply hx _ _).trans ((rowsOf_block _ _ _ _ _ _).trans (congrArg _ ?_))
  unfold rowsB
  simp only [Nat.zero_add]

/-! ## The result arrays -/

section Finals
variable (h0 : Fin' (a0 m c)) (h1 : Fin' (a1 m c)) (h2 : Fin' (a2 m c)) (h3 : Fin' (a3 m c))
include h0 h1 h2 h3

theorem final_dq : (dats m 0 c).arrAt 4 cfg0.N = rowsOf 128 (dqT (a0 m c) (a1 m c) (a2 m c) (a3 m c)) := by
  refine (dats m 0 c).arrAt_eq_of_covers 4 _ (by decide +kernel) fun t hf y => ?_
  blk_simp
  rw [after0_4]
  simp only [outsAt0]
  obtain ⟨p, l, rfl⟩ : ∃ (p : Fin 2176) (l : Fin 256), y = ix2 p l := ⟨y 0, y 1, funext fun a => by fin_cases a <;> rfl⟩
  have he : ((cfg0.win 4).blk t).view.emb (ix2 p l) = ix2 ⟨t.val / 4 * 2176 + p.val, (inRows t).1 p⟩ ⟨t.val % 4 * 256 + l.val, (inRows t).2.2 l⟩ := by
    blk_ext [idx t]
  rw [he, rowsOf_block, ← MlaTok.dq_block _ _ _ _ _ _ p.isLt l.isLt]
  exact MlaValue.out_dq (blk_q m c t h0) (blk_k m c t h1) (blk_v m c t h2) (blk_o m c t h3) _ _ _ _ _ _ _ _ p l
theorem final_dk : (dats m 0 c).arrAt 5 cfg0.N = rowsOf 128 (dkT (a0 m c) (a1 m c) (a2 m c) (a3 m c)) := by
  refine (dats m 0 c).arrAt_eq_of_covers 5 _ (by decide +kernel) fun t hf y => ?_
  blk_simp
  rw [after0_5]
  simp only [outsAt0]
  obtain ⟨p, l, rfl⟩ : ∃ (p : Fin 2176) (l : Fin 256), y = ix2 p l := ⟨y 0, y 1, funext fun a => by fin_cases a <;> rfl⟩
  have he : ((cfg0.win 5).blk t).view.emb (ix2 p l) = ix2 ⟨t.val / 4 * 2176 + p.val, (inRows t).1 p⟩ ⟨t.val % 4 * 256 + l.val, (inRows t).2.2 l⟩ := by
    blk_ext [idx t]
  rw [he, rowsOf_block, ← MlaTok.dk_block _ _ _ _ _ _ p.isLt l.isLt]
  exact MlaValue.out_dk (blk_q m c t h0) (blk_k m c t h1) (blk_v m c t h2) (blk_o m c t h3) _ _ _ _ _ _ _ _ p l
omit h2 in
theorem final_dv : (dats m 0 c).arrAt 6 cfg0.N = rowsOf 64 (dvT (a0 m c) (a1 m c) (a3 m c)) := by
  refine (dats m 0 c).arrAt_eq_of_covers 6 _ (by decide +kernel) fun t hf y => ?_
  blk_simp
  rw [after0_6]
  simp only [outsAt0]
  obtain ⟨p, l, rfl⟩ : ∃ (p : Fin 2176) (l : Fin 128), y = ix2 p l := ⟨y 0, y 1, funext fun a => by fin_cases a <;> rfl⟩
  have he : ((cfg0.win 6).blk t).view.emb (ix2 p l) = ix2 ⟨t.val / 4 * 2176 + p.val, (inRows t).1 p⟩ ⟨t.val % 4 * 128 + l.val, (inRows t).2.1 l⟩ := by
    blk_ext [idx t]
  rw [he, rowsOf_block, ← MlaTok.dv_block _ _ _ _ _ p.isLt l.isLt]
  exact MlaValue.out_dv (blk_q m c t h0) (blk_k m c t h1) (blk_o m c t h3) _ _ _ _ _ _ _ _ p l

end Finals

end Cert.MlaFinal

end
-- ==== Proof.MlaClaim.lean ====
/- The value claim of the latent attention's backward call. -/
module

public import proofs.«01_k».proof.Defs
public import proofs.«01_k».proof.Proof.MlaFinal
public import proofs.«01_k».proof.Proof.MlaRef
public import proofs.«01_k».proof.Proof.AttnFinite
public import proofs.«01_k».proof.Proof.Gen.Pre_finite_mla
public import proofs.«01_k».proof.Proof.Gen.MlaBwdRefIdeal.Run
public import Idealize.ShloMosaic.Lib.Claim

@[expose] public section

noncomputable section

namespace Cert.MlaClaim

open Idealize.ShloMosaic Idealize.SL.Sem Cert.MlaFinal Cert.MlaRef

/-- Under the precondition every argument is finite, on every device. -/
theorem finite (m : (ℓ : Loc Cert.MlaBwdIdeal.nD Cert.MlaBwdIdeal.τ Cert.MlaBwdIdeal.sig) → Buf (Elt Ideal) ℓ)
    (h : Cert.Pre_MlaBwdIdeal_finite_mla (hPre_finite_mla := Cert.Pre_finite_mla.Gen.facts) m) (c : Dev Cert.MlaBwdIdeal.nD) :
    Attn.Fin' (a0 m c) ∧ Attn.Fin' (a1 m c) ∧ Attn.Fin' (a2 m c) ∧ Attn.Fin' (a3 m c) := by
  obtain ⟨h0, h1, h2, h3⟩ := h c
  exact ⟨Attn.fin_of_lt _ h0, Attn.fin_of_lt _ h1, Attn.fin_of_lt _ h2, Attn.fin_of_lt _ h3⟩

/-- Over the extended reals the call's three results and the reference's are the same functions of the four finite arguments. -/
theorem algebraic : Cert.algebraic_MlaBwdIdeal_MlaBwdRefIdeal_pre_finite_mla (hMlaBwdIdeal := Cert.MlaBwdIdeal.Gen.facts)
    (hMlaBwdRefIdeal := Cert.MlaBwdRefIdeal.Gen.facts) (hPre_finite_mla := Cert.Pre_finite_mla.Gen.facts) := by
  intro m g m' g' hpre hag
  refine ⟨fun c => Attn.rowsOf 128 (dqT (a0 m c) (a1 m c) (a2 m c) (a3 m c)),
    fun c => Attn.rowsOf 128 (dkT (a0 m c) (a1 m c) (a2 m c) (a3 m c)),
    fun c => Attn.rowsOf 64 (dvT (a0 m c) (a1 m c) (a3 m c)), ?_, ?_⟩
  · refine (θ_run _ _ _).mono (fun _ h c => ?_) (Cert.MlaBwdIdeal.Value.run_blocks m g)
    obtain ⟨h0, h1, h2, h3⟩ := finite m hpre c
    obtain ⟨e0, e1, e2, e⟩ := h c
    exact ⟨e0.trans (final_dq m c h0 h1 h2 h3), e1.trans (final_dk m c h0 h1 h2 h3), e2.trans (final_dv m c h0 h1 h3), e⟩
  · refine (θ_run _ _ _).mono (fun _ h c => ?_) (Cert.MlaBwdRefIdeal.Value.run m' g')
    obtain ⟨h0, h1, h2, h3⟩ := finite m hpre c
    obtain ⟨e0, e1, e2, e⟩ := h c
    obtain ⟨q0, q1, q2, q3⟩ := hag c
    rw [Cert.MlaBwdRefIdeal.Read.val_main_v68_eq, q0, q1, q2, q3] at e0
    rw [Cert.MlaBwdRefIdeal.Read.val_main_v76_eq, q0, q1, q2, q3] at e1
    rw [Cert.MlaBwdRefIdeal.Read.val_main_v84_eq, q0, q1, q3] at e2
    exact ⟨e0.trans (ref_dq h0 h1 h2 h3), e1.trans (ref_dk h0 h1 h2 h3), e2.trans (ref_dv h0 h1 h3), e⟩

end Cert.MlaClaim

end
-- ==== Proof.AttnOut.lean ====
/- The forward attention kernels' output of one query block, and the buffer the sweep over the blocks writes it to. -/
module

public import proofs.«01_k».proof.Proof.AttnLoad
public import proofs.«01_k».proof.Proof.AttnTok

@[expose] public section

set_option maxRecDepth 16384

noncomputable section

namespace Cert.Attn

open Idealize.ShloMosaic
open scoped BigOperators

/-! ## One head's output -/

section Vectors
variable {m n : ℕ} (h : Facts m n) (hb : (Sh m 1).Broadcasts (Sh m 128))

/-- The exponentials' product with the values, over the exponentials' sum. -/
def outV (s : FVec Ideal (Sh m n) .f32) (v : FVec Ideal (Sh n 128) .bf16) : FVec Ideal (Sh m 128) .f32 :=
  divf (matmul (DotDims.plain m n 128) none (truncf .bf16 (pV h s) (by decide)) v (constant (Sh m 128) .f32 0x00000000#32))
    (broadcastTo (Sh m 128) (sumV h (pV h s)) hb)

variable {h hb} {g v : ℕ → ℕ → ℝ} (r0 : ℕ) (hr : n = r0 + m) (hn : n ≤ 2176) {s : FVec Ideal (Sh m n) .f32} {ve : FVec Ideal (Sh n 128) .bf16}
include hr hn

/-- It holds the weights' product with the values. -/
theorem out_holds (hs : Scores r0 s g) (hv : Holds 0 ve v) : Holds r0 (outV h hb s ve) fun i l => ∑ j ∈ Finset.range 2176, P g i j * v j l := by
  intro r l
  have hi : r0 + (r : ℕ) < n := by have := r.isLt; omega
  have hA : ∃ k : Fin n, Allowed (r0 + r) k := ⟨⟨0, by omega⟩, by unfold Allowed; exact ⟨Nat.zero_le _, Or.inl (by norm_num)⟩⟩
  obtain ⟨M, hM⟩ := max_finite (fun k => s (ix2 r k)) (fun k : Fin n => Allowed (r0 + r) k) (fun k => g (r0 + r) k) (hs r) hA
  have hW : 0 < ∑ k : Fin n, W g (r0 + r) k := sum_wt_pos _ _ hA
  have hp : ∀ k : Fin n, pV h s (ix2 r k) = ((W g (r0 + r) k * Real.exp (-M) : ℝ) : EReal) := fun k => by
    show Ideal.exp (s (ix2 r k) - maxV h s (ix2 r k)) = _
    rw [maxV_apply, hM]
    exact exp_shift _ _ M _ (hs r k)
  have hl : broadcastTo (Sh m 128) (sumV h (pV h s)) hb (ix2 r l) = (((∑ k : Fin n, W g (r0 + r) k) * Real.exp (-M) : ℝ) : EReal) := by
    rw [col_apply, sumV_apply, Finset.sum_congr rfl fun k _ => hp k, ← coe_sum, Finset.sum_mul]
  have hd : matmul (DotDims.plain m n 128) none (truncf .bf16 (pV h s) (by decide)) ve (constant (Sh m 128) .f32 0x00000000#32) (ix2 r l)
      = ((∑ j : Fin n, W g (r0 + r) j * Real.exp (-M) * v j l : ℝ) : EReal) := by
    refine (Ideal.matmul_plain_apply none _ ve _ r l).trans ((congrArg (· + _) Ideal.ofBits_zero_f32).trans ((zero_add _).trans ?_))
    rw [coe_sum]
    refine Finset.sum_congr rfl fun j _ => ?_
    refine (congrArg₂ (· * ·) (hp j) (hv j l)).trans ?_
    rw [← EReal.coe_mul, Nat.zero_add]
  have hy : (∑ k : Fin n, W g (r0 + r) k) * Real.exp (-M) ≠ 0 := (mul_pos hW (Real.exp_pos _)).ne'
  refine (div_real hd hl hy).trans (congrArg _ ?_)
  beta_reduce
  rw [← sum_keys n (r0 + r) hn hi (fun j => P g (r0 + r) j * v j l) fun j hj => by rw [P_zero hj, zero_mul], Finset.sum_div]
  refine Finset.sum_congr rfl fun j _ => ?_
  rw [P, ← sum_keys n (r0 + r) hn hi (W g (r0 + r)) fun j hj => W_zero hj]
  have := (Real.exp_pos (-M)).ne'
  field_simp

end Vectors

theorem bcLane (m : ℕ) : (Sh m 1).Broadcasts (Sh m 128) := (facts m 128).bc1

/-! ## A pair of heads' output -/

/-- Each head's output on its lanes. -/
def pairV {m : ℕ} (a b : FVec Ideal (Sh m 128) .f32) : FVec Ideal (Sh m 128) .bf16 :=
  truncf .bf16 (select (cmpi .slt (iota .tc (Sh m 128) 32 [1] (iotas _ _ _)) (broadcast (Sh m 128) 64#32)) a b) (by decide)

theorem pair_holds {m r : ℕ} {d : ℕ → FVec Ideal (Sh m 128) .f32} {f : ℕ → ℕ → ℕ → ℝ} (hd : ∀ e, e < 2 → Holds r (d e) (f e)) :
    Holds r (pairV (d 0) (d 1)) fun i l => f (l / 64) i l := by
  intro i l
  have hl := l.isLt
  show Scalar.select (IntOp.cmpi .slt (BitVec.ofNat 32 (0 * 128 + l)) (BitVec.ofNat 32 64)) (d 0 (ix2 i l)) (d 1 (ix2 i l)) = _
  rw [sel_lt _ _ (by omega) (by norm_num), hd 0 (by norm_num) i l, hd 1 (by norm_num) i l, Nat.zero_mul, Nat.zero_add]
  beta_reduce
  by_cases hh : (l : ℕ) < 64
  · rw [if_pos hh, show (l : ℕ) / 64 = 0 by omega]
  · rw [if_neg hh, show (l : ℕ) / 64 = 1 by omega]

/-! ## The result's rows, a block at a time -/

/-- Block `k` writes its rows `d k`. -/
def outSweep (d : (k : ℕ) → FVec Ideal (Sh (mOf k) 128) .bf16) : (K : ℕ) → K ≤ 9 → List (View.Piece (Elt Ideal) (Sh 2176 128) .bf16)
  | 0, _ => []
  | k + 1, h => ⟨Box 2176 128 (r0 k) 0 (mOf k) (inBox (nOf_le h) le_rfl), d k⟩ :: outSweep d k (by omega)

theorem outSweep_apply {d : (k : ℕ) → FVec Ideal (Sh (mOf k) 128) .bf16} {f : ℕ → ℕ → ℝ} (hd : ∀ k, k < 9 → Holds (r0 k) (d k) f) (K : ℕ) (hK : K ≤ 9)
    (j : Fin 2176) (hj : (j : ℕ) < r0 K) (l : Fin 128) : View.canon (outSweep d K hK) (ix2 j l) = ((f j l : ℝ) : EReal) := by
  induction K with
  | zero => exact absurd hj (Nat.not_lt_zero _)
  | succ k ih =>
    rw [r0_succ] at hj
    by_cases h : (j : ℕ) < r0 k
    · refine (View.canon_cons_of_not_mem _ _ fun hm => ?_).trans (ih (by omega) h)
      obtain ⟨i, hi, he⟩ := (LoadRect.mem_set _).mp hm (0 : Fin 2)
      have he : (j : ℕ) = r0 k + 1 * i := he
      omega
    · have hj' : (j : ℕ) - r0 k < mOf k := by unfold nOf at hj; omega
      have he : (ix2 j l : (Sh 2176 128).Idx) = (Box 2176 128 (r0 k) 0 (mOf k) (inBox (nOf_le hK) le_rfl)).emb (ix2 (⟨j - r0 k, hj'⟩ : Fin (mOf k)) l) := by
        funext b; apply Fin.ext
        match b with
        | ⟨0, _⟩ => show (j : ℕ) = r0 k + 1 * ((j : ℕ) - r0 k); omega
        | ⟨1, _⟩ => show (l : ℕ) = 0 + 1 * (l : ℕ); omega
      refine (congrArg (View.canon _) he).trans ((View.canon_cons_emb _ _ _ _).trans ((hd k hK _ _).trans ?_))
      rw [show r0 k + ((j : ℕ) - r0 k) = j by omega]

/-! ## Over tokens -/

/-- The weights' product with the values at a token's position is the sum over the tokens up to it. -/
theorem out_pos {g v : ℕ → ℕ → ℝ} {gT vT : ℕ → ℕ → ℝ} (hg : ∀ n m : Fin 2064, g (pos n) (pos m) = gT n m) {l l' : ℕ} (hv : ∀ m : Fin 2064, v (pos m) l = vT m l') (n : Fin 2064) :
    ∑ j ∈ Finset.range 2176, P g (pos n) j * v j l = ∑ m : Fin 2064, PT gT n m * vT m l' := by
  rw [sum_pos _ fun q h => by rw [P_zero (pad_off h), zero_mul]]
  exact Finset.sum_congr rfl fun m _ => by rw [P_pos hg, hv]

end Cert.Attn
end
-- ==== Proof.MlafValue.lean ====
/- The latent attention's forward kernel: what its sweep leaves in its result buffer, of the blocks it is given. -/
module

public import proofs.«01_k».proof.Proof.AttnOut
public import proofs.«01_k».proof.Proof.MlaValue
public import proofs.«01_k».proof.Proof.Gen.MlaFwdIdeal.Frame

@[expose] public section

set_option maxRecDepth 16384

noncomputable section

namespace Cert.MlafValue

open Idealize.ShloMosaic Cert.Attn Cert.MlaFwdIdeal
open Cert.MlaValue (sS s_scores g)
open scoped BigOperators

variable (arg2 : Memref sig .tc .vmem S2176x256 .bf16) (harg2 : arg2.IsWhole) (arg3 : Memref sig .tc .vmem S2176x256 .bf16) (harg3 : arg3.IsWhole)
  (arg4 : Memref sig .tc .vmem S2176x128 .bf16) (harg4 : arg4.IsWhole)
  (x0 x1 : FVec Ideal S2176x256 .bf16) (x2 : FVec Ideal S2176x128 .bf16)

/-- Head `e`'s output of block `k`. -/
def oB (e k : ℕ) : FVec Ideal (Sh (mOf k) 128) .f32 :=
  outV (facts _ _) (bcLane _) (sS arg2 harg2 arg3 harg3 x0 x1 e k) (keysL 0 le_rfl arg4 harg4 x2 k)
/-- Both heads'. -/
def oP (k : ℕ) : FVec Ideal (Sh (mOf k) 128) .bf16 := pairV (oB arg2 harg2 arg3 harg3 arg4 harg4 x0 x1 x2 0 k) (oB arg2 harg2 arg3 harg3 arg4 harg4 x0 x1 x2 1 k)

variable (c : Dev nD) (i : grid0.Coords) (arg5 : Memref sig .tc .vmem S2176x128 .bf16) (harg5 : arg5.IsWhole)

theorem tie : (Gen.kernelRun0_A (F := Ideal) c i arg2 harg2 arg3 harg3 arg4 harg4 arg5 harg5 x0 x1 x2).1
    = outSweep (oP arg2 harg2 arg3 harg3 arg4 harg4 x0 x1 x2) 9 le_rfl := by
  sl_kernel_rfl

variable {arg2 arg3 arg4 harg2 harg3 harg4 x0 x1 x2} {q k v : ℕ → ℕ → ℝ} (h0 : Holds 0 x0 q) (h1 : Holds 0 x1 k) (h2 : Holds 0 x2 v)
include h0 h1 h2

theorem oB_holds {e b : ℕ} (he : e < 2) (hb : b < 9) : Holds (r0 b) (oB arg2 harg2 arg3 harg3 arg4 harg4 x0 x1 x2 e b)
    fun i l => ∑ j ∈ Finset.range 2176, P (g q k e) i j * v j l :=
  out_holds _ rfl (nOf_le hb) (s_scores h0 h1 he hb) (keys_holds0 arg4 harg4 h2 hb)

/-- The weights' product with the values, each head on its lanes. -/
theorem out (j : Fin 2176) (l : Fin 128) :
    Gen.out0_A_3 (F := Ideal) c i arg2 harg2 arg3 harg3 arg4 harg4 arg5 harg5 x0 x1 x2 (ix2 j l)
      = ((∑ jj ∈ Finset.range 2176, P (g q k (l / 64)) j jj * v jj l : ℝ) : EReal) := by
  unfold Gen.out0_A_3
  rw [tie]
  frame_out
  exact outSweep_apply (f := fun i l => ∑ jj ∈ Finset.range 2176, P (g q k (l / 64)) i jj * v jj l)
    (fun b hb => pair_holds fun e he => oB_holds h0 h1 h2 he hb) 9 le_rfl j j.isLt l

end Cert.MlafValue
end
-- ==== Proof.MlafRef.lean ====
/- The latent attention's output as the reference has it, of finite operands. -/
module

public import proofs.«01_k».proof.Proof.MlaRef
public import proofs.«01_k».proof.Proof.Gen.MlaFwdRefIdeal.Read

@[expose] public section

set_option maxRecDepth 16384

noncomputable section

namespace Cert.MlafRef

open Idealize.ShloMosaic Cert.Attn Cert.MlaFwdRefIdeal Cert.MlaFwdRefIdeal.Read
open Cert.MlaRef (X4 Y4 gT bot ninetysix coe_dot)
open scoped BigOperators

/-- One head's output. -/
def oT (q k : Y4) (v : X4) (b h n d : ℕ) : ℝ := ∑ m : Fin 2064, PT (gT q k b h) n m * Attn.T v b h m d
/-- The output, the heads side by side. -/
def outT (q k : Y4) (v : X4) : FVec Ideal ⟨3, ![4, 2064, 512]⟩ .bf16 := fun y => ((oT q k v (y 0).val ((y 2).val / 64) (y 1).val ((y 2).val % 64) : ℝ) : EReal)

theorem scale (i) : val_main_v1 (F := Ideal) i = (s96 : EReal) := by
  show Ideal.rsqrt (Ideal.ofBits .f32 0x42C00000#32) = _
  rw [ninetysix, Ideal.rsqrt_coe, if_neg (by norm_num), if_neg (by norm_num)]
  rfl

section Stages
variable (x0 x1 : Y4) (x2 : X4) (b : Fin 4) (h : Fin 8)

theorem raw (i j : Fin 2064) : val_main_v3 (F := Ideal) x0 x1 (ix4 b h i j)
    = (∑ d : Fin 96, x0 (ix4 b h i d) * x1 (ix4 b h j d)) * (s96 : EReal) := by
  pointwise [val_main_v3, val_main_v2, val_main_v0]
  rw [scale]
theorem masked (i j : Fin 2064) : val_main_v11 (F := Ideal) x0 x1 (ix4 b h i j)
    = if j.val ≤ i.val then val_main_v3 (F := Ideal) x0 x1 (ix4 b h i j) else ⊥ := by
  have hi := i.isLt
  have hj := j.isLt
  have e : val_main_call0_v1 (F := Ideal) (ix4 b h i j) = if j.val ≤ i.val then 1#1 else 0#1 := by
    pointwise [val_main_call0_v1, val_main_v10, val_main_v9, val_main_v8, val_main_v7, val_main_v6, val_main_v5, val_main_v4]
    rw [WordCmp.cmpi_sge_ofNat (by omega) (by omega)]
    split_ifs with hh <;> simp [hh]
  unfold val_main_v11
  show Scalar.select (val_main_call0_v1 (F := Ideal) (ix4 b h i j)) _ _ = _
  rw [e]
  split_ifs
  · rfl
  · exact bot
theorem mx (i : Fin 2064) : val_main_v14 (F := Ideal) x0 x1 (ix3 b h i)
    = max ⊥ ((Finset.univ : Finset (Fin 2064)).fold max ⊥ fun j => val_main_v11 (F := Ideal) x0 x1 (ix4 b h i j)) := by
  have e : val_main_v12 (F := Ideal) x0 x1 (ix3 b h i) = _ := max_keys (val_main_v11 (F := Ideal) x0 x1) (val_main_cst_1 (F := Ideal)) (fun _ => bot) _ _ b h i
  rw [val_main_v14_apply, e]
  generalize (Finset.univ : Finset (Fin 2064)).fold max (⊥ : EReal) (fun j => val_main_v11 (F := Ideal) x0 x1 (ix4 b h i j)) = z
  exact congrArg (fun y => max y z) bot
theorem ex (i j : Fin 2064) : val_main_v18 (F := Ideal) x0 x1 (ix4 b h i j)
    = Ideal.exp (val_main_v11 (F := Ideal) x0 x1 (ix4 b h i j) - val_main_v14 (F := Ideal) x0 x1 (ix3 b h i)) := by
  pointwise [val_main_v18, val_main_v17, val_main_v16, val_main_v15]
theorem wts (i j : Fin 2064) : val_main_v22 (F := Ideal) x0 x1 (ix4 b h i j)
    = Ideal.div (val_main_v18 (F := Ideal) x0 x1 (ix4 b h i j)) (∑ j : Fin 2064, val_main_v18 (F := Ideal) x0 x1 (ix4 b h i j)) := by
  pointwise [val_main_v22, val_main_v21, val_main_v20, val_main_v19, val_main_cst_3]
theorem oRef (i : Fin 2064) (d : Fin 64) : val_main_v23 (F := Ideal) x0 x1 x2 (ix4 b h i d)
    = ∑ j : Fin 2064, val_main_v22 (F := Ideal) x0 x1 (ix4 b h i j) * x2 (ix4 b h j d) := by
  pointwise [val_main_v23]

end Stages

section Finite
variable {x0 x1 : Y4} {x2 : X4} (h0 : Fin' x0) (h1 : Fin' x1) (h2 : Fin' x2)

include h0 h1 in
theorem weights (b : Fin 4) (h : Fin 8) (i j : Fin 2064) : val_main_v22 (F := Ideal) x0 x1 (ix4 b h i j) = ((PT (gT x0 x1 b h) i j : ℝ) : EReal) := by
  have hs : ∀ j : Fin 2064, val_main_v11 (F := Ideal) x0 x1 (ix4 b h i j) = if j.val ≤ i.val then ((gT x0 x1 b h i j : ℝ) : EReal) else ⊥ := fun j => by
    rw [masked, raw, coe_dot b h h0 h1, ← EReal.coe_mul]
    rfl
  obtain ⟨a, ha, he⟩ := row_exp (g := gT x0 x1 b h) i.isLt hs
  rw [wts]
  exact row_P i.isLt ha (fun j => by rw [ex, mx]; exact he j) j
include h0 h1 h2 in
theorem oV (b : Fin 4) (h : Fin 8) (i : Fin 2064) (d : Fin 64) : val_main_v23 (F := Ideal) x0 x1 x2 (ix4 b h i d) = ((oT x0 x1 x2 b h i d : ℝ) : EReal) := by
  unfold oT
  rw [oRef, coe_sum]
  exact Finset.sum_congr rfl fun j _ => by rw [weights h0 h1, T_eq h2, ← EReal.coe_mul]

include h0 h1 h2 in
/-- The reference's result. -/
theorem ref_o : val_main_v26 (F := Ideal) x0 x1 x2 = outT x0 x1 x2 := by
  funext y
  idx_vars y
  have l0 := y0.isLt
  have l1 := y1.isLt
  have l2 := y2.isLt
  pointwise [val_main_v26, val_main_v25, val_main_v24]
  exact oV h0 h1 h2 y0 ⟨y2.val / 64, by omega⟩ y1 ⟨y2.val % 64, by omega⟩

end Finite

end Cert.MlafRef
end
-- ==== Proof.AttnRead.lean ====
/- The attention output's rows, read out token by token after the forward call. -/
module

public import proofs.«01_k».proof.Proof.AttnTok
public import proofs.«01_k».proof.Proof.Gen.MlaFwdIdeal.Launch
public import Idealize.ShloMosaic.Lib.Pointwise

@[expose] public section

set_option maxRecDepth 16384

noncomputable section

namespace Cert.Attn

open Idealize.ShloMosaic Cert.MlaFwdIdeal Cert.MlaFwdIdeal.Gen

/-- The rows at a batch entry's positions `0 … 15` and `128 …`, the tokens'. -/
def readTok (f : FVec Ideal S8704x512 .bf16) : FVec Ideal S4x2064x512 .bf16 :=
  concatenate S4x2064x512 1
    [⟨S4x16x512, extractStridedSlice S4x16x512 ![0, 0, 0] (shapeCast S4x2176x512 f shapeCasts_S8704x512_S4x2176x512) slices_S4x2176x512_S4x16x512_0_0_0⟩,
     ⟨S4x2048x512, extractStridedSlice S4x2048x512 ![0, 128, 0] (shapeCast S4x2176x512 f shapeCasts_S8704x512_S4x2176x512) slices_S4x2176x512_S4x2048x512_0_128_0⟩]
    concatenates_S4x16x512_S4x2048x512_S4x2064x512_d1

/-- An array of rows by batch entry, position and lane. -/
def posRows (f : ℕ → ℕ → ℕ → ℝ) : FVec Ideal S8704x512 .bf16 := fun y => ((f ((y 0).val / 2176) ((y 0).val % 2176) (y 1).val : ℝ) : EReal)

theorem posRows_block (f : ℕ → ℕ → ℕ → ℝ) (b : ℕ) (p : Fin 2176) (l : ℕ) (h1 : b * 2176 + p.val < 8704) (h2 : l < 512) :
    posRows f (ix2 ⟨b * 2176 + p.val, h1⟩ ⟨l, h2⟩) = ((f b p l : ℝ) : EReal) := by
  have lp := p.isLt
  show ((f ((b * 2176 + p.val) / 2176) ((b * 2176 + p.val) % 2176) l : ℝ) : EReal) = _
  rw [show (b * 2176 + p.val) / 2176 = b by omega, show (b * 2176 + p.val) % 2176 = p.val by omega]

/-- A token's row is the one at its position. -/
theorem readTok_posRows (f : ℕ → ℕ → ℕ → ℝ) (b : Fin 4) (n : Fin 2064) (l : Fin 512) :
    readTok (posRows f) (ix3 b n l) = ((f b (pos n) l : ℝ) : EReal) := by
  have l0 := b.isLt
  have l1 := n.isLt
  have l2 := l.isLt
  pointwise [readTok]
  have h16 : ¬ n.val < 16 → posRows f (ix2 ⟨b.val * 2176 + (128 + (n.val - 16)), by omega⟩ l) = ((f b (n.val + 112) l : ℝ) : EReal) := fun h => by
    refine (posRows_block f b ⟨128 + (n - 16), by omega⟩ l (by show b.val * 2176 + (128 + (n.val - 16)) < 8704; omega) l2).trans ?_
    show ((f b (128 + (n.val - 16)) l : ℝ) : EReal) = _
    rw [show 128 + (n.val - 16) = n.val + 112 by omega]
  unfold pos
  split_ifs with h
  · exact posRows_block f b ⟨n, by omega⟩ l (by show b.val * 2176 + n.val < 8704; omega) l2
  all_goals exact h16 h

end Cert.Attn
end
-- ==== Proof.MlafFinal.lean ====
/- The latent attention's forward call: its result array, of finite arguments. -/
module

public import proofs.«01_k».proof.Proof.MlafValue
public import proofs.«01_k».proof.Proof.MlafRef
public import proofs.«01_k».proof.Proof.MlaFinal
public import proofs.«01_k».proof.Proof.AttnRead
public import Idealize.ShloMosaic.Lib.StableHlo.RunRead

@[expose] public section

set_option maxRecDepth 16384

noncomputable section

namespace Cert.MlafFinal

open Idealize.ShloMosaic Idealize.ShloMosaic.TcCoe Idealize.SL.Sem Cert.Attn Cert.MlaFwdIdeal Cert.MlaFwdIdeal.Gen
open Cert.MlaRef (X4 Y4)
open Cert.MlaFinal (padY packY padX packX padY_apply packY_apply padX_apply packX_apply)
open Cert.MlaTok (wideB gB g_pos)
open Cert.MlafRef (oT outT)

variable (m : (ℓ : Loc nD τ sig) → Buf (Elt Ideal) ℓ)

/-- The three arguments. -/
abbrev a0 (c : Dev nD) : Y4 := m ((c : Thread nD τ).loc main_arg0)
abbrev a1 (c : Dev nD) : Y4 := m ((c : Thread nD τ).loc main_arg1)
abbrev a2 (c : Dev nD) : X4 := m ((c : Thread nD τ).loc main_arg2)

/-! ## The host operations around the launch, one stretch at a time -/

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

section Segments
variable (W : Valuation τ sig (Elt Ideal)) {r : Ref sig .tc}

theorem keep0 (h : r ∉ [main_c]) : (StableHlo.after (hostOps0 (F := Ideal)) W) (Proc.devRef .tc r) = W (Proc.devRef .tc r) :=
  StableHlo.after_unwritten _ rfl h W
theorem keep1 (h : r ∉ [main_call0_v0, main_v0]) : (StableHlo.after (hostOps0_1 (F := Ideal)) W) (Proc.devRef .tc r) = W (Proc.devRef .tc r) :=
  StableHlo.after_unwritten _ rfl h W
theorem keep2 (h : r ∉ [main_v1, main_v2, main_v3, main_cst, main_v4, main_v5, main_v6, main_v7, main_v8, main_c_0]) : (StableHlo.after (hostOps0_2 (F := Ideal)) W) (Proc.devRef .tc r) = W (Proc.devRef .tc r) :=
  StableHlo.after_unwritten _ rfl h W
theorem keep3 (h : r ∉ [main_call1_v0, main_v9]) : (StableHlo.after (hostOps0_3 (F := Ideal)) W) (Proc.devRef .tc r) = W (Proc.devRef .tc r) :=
  StableHlo.after_unwritten _ rfl h W
theorem keep4 (h : r ∉ [main_v10, main_v11, main_v12, main_cst_1, main_v13, main_v14, main_v15, main_v16, main_v17, main_c_2]) : (StableHlo.after (hostOps0_4 (F := Ideal)) W) (Proc.devRef .tc r) = W (Proc.devRef .tc r) :=
  StableHlo.after_unwritten _ rfl h W
theorem keep5 (h : r ∉ [main_call2_v0, main_v18]) : (StableHlo.after (hostOps0_5 (F := Ideal)) W) (Proc.devRef .tc r) = W (Proc.devRef .tc r) :=
  StableHlo.after_unwritten _ rfl h W
theorem keep6 (h : r ∉ [main_v19, main_v20, main_v21, main_cst_3, main_v22, main_v23, main_v24, main_v25, main_v26]) : (StableHlo.after (hostOps0_6 (F := Ideal)) W) (Proc.devRef .tc r) = W (Proc.devRef .tc r) :=
  StableHlo.after_unwritten _ rfl h W
theorem zero0 : (StableHlo.after (hostOps0 (F := Ideal)) W) (Proc.devRef .tc main_c) = constantI S_ 32 0#32 := by
  simp only [hostOps0]
  after_results <;> rfl
theorem padded0 : (StableHlo.after (hostOps0_1 (F := Ideal)) W) (Proc.devRef .tc main_v0) = padY (W (Proc.devRef .tc main_arg0)) (W (Proc.devRef .tc main_c)) := by
  simp only [hostOps0_1]
  after_results <;> rfl
theorem packed0 : (StableHlo.after (hostOps0_2 (F := Ideal)) W) (Proc.devRef .tc main_v8) = packY (W (Proc.devRef .tc main_v0)) := by
  simp only [hostOps0_2]
  after_results <;> rfl
theorem zero1 : (StableHlo.after (hostOps0_2 (F := Ideal)) W) (Proc.devRef .tc main_c_0) = constantI S_ 32 0#32 := by
  simp only [hostOps0_2]
  after_results <;> rfl
theorem padded1 : (StableHlo.after (hostOps0_3 (F := Ideal)) W) (Proc.devRef .tc main_v9) = padY (W (Proc.devRef .tc main_arg1)) (W (Proc.devRef .tc main_c_0)) := by
  simp only [hostOps0_3]
  after_results <;> rfl
theorem packed1 : (StableHlo.after (hostOps0_4 (F := Ideal)) W) (Proc.devRef .tc main_v17) = packY (W (Proc.devRef .tc main_v9)) := by
  simp only [hostOps0_4]
  after_results <;> rfl
theorem zero2 : (StableHlo.after (hostOps0_4 (F := Ideal)) W) (Proc.devRef .tc main_c_2) = constantI S_ 32 0#32 := by
  simp only [hostOps0_4]
  after_results <;> rfl
theorem padded2 : (StableHlo.after (hostOps0_5 (F := Ideal)) W) (Proc.devRef .tc main_v18) = padX (W (Proc.devRef .tc main_arg2)) (W (Proc.devRef .tc main_c_2)) := by
  simp only [hostOps0_5]
  after_results <;> rfl
theorem packed2 : (StableHlo.after (hostOps0_6 (F := Ideal)) W) (Proc.devRef .tc main_v26) = packX (W (Proc.devRef .tc main_v18)) := by
  simp only [hostOps0_6]
  after_results <;> rfl
/-- After the launch the tokens' rows are read out. -/
theorem tokens : (StableHlo.after (hostOps1 (F := Ideal)) W) (Proc.devRef .tc main_v31) = readTok (W (Proc.devRef .tc main_v27)) := by
  simp only [hostOps1]
  after_results <;> rfl

end Segments

theorem entry_q (c : Dev nD) : V m c main_v8 = packY (padY (a0 m c) (constantI S_ 32 0#32)) := by
  show StableHlo.after (List.flatten [hostOps0, hostOps0_1, hostOps0_2, hostOps0_3, hostOps0_4, hostOps0_5, hostOps0_6]) _ (Proc.devRef .tc main_v8) = _
  rw [List.flatten_cons, List.flatten_cons, List.flatten_cons, List.flatten_cons, List.flatten_cons, List.flatten_cons, List.flatten_cons, List.flatten_nil, List.append_nil,
    after_two, after_two, after_two, after_two, after_two, after_two]
  rw [keep6 _ (by decide), keep5 _ (by decide), keep4 _ (by decide), keep3 _ (by decide), packed0, padded0, zero0, keep0 _ (by decide)]
theorem entry_k (c : Dev nD) : V m c main_v17 = packY (padY (a1 m c) (constantI S_ 32 0#32)) := by
  show StableHlo.after (List.flatten [hostOps0, hostOps0_1, hostOps0_2, hostOps0_3, hostOps0_4, hostOps0_5, hostOps0_6]) _ (Proc.devRef .tc main_v17) = _
  rw [List.flatten_cons, List.flatten_cons, List.flatten_cons, List.flatten_cons, List.flatten_cons, List.flatten_cons, List.flatten_cons, List.flatten_nil, List.append_nil,
    after_two, after_two, after_two, after_two, after_two, after_two]
  rw [keep6 _ (by decide), keep5 _ (by decide), packed1, padded1, zero1, keep2 _ (by decide), keep1 _ (by decide), keep0 _ (by decide)]
theorem entry_v (c : Dev nD) : V m c main_v26 = packX (padX (a2 m c) (constantI S_ 32 0#32)) := by
  show StableHlo.after (List.flatten [hostOps0, hostOps0_1, hostOps0_2, hostOps0_3, hostOps0_4, hostOps0_5, hostOps0_6]) _ (Proc.devRef .tc main_v26) = _
  rw [List.flatten_cons, List.flatten_cons, List.flatten_cons, List.flatten_cons, List.flatten_cons, List.flatten_cons, List.flatten_cons, List.flatten_nil, List.append_nil,
    after_two, after_two, after_two, after_two, after_two, after_two]
  rw [packed2, padded2, zero2, keep4 _ (by decide), keep3 _ (by decide), keep2 _ (by decide), keep1 _ (by decide), keep0 _ (by decide)]

/-- Every window's block index at a grid point. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4]
    ∧ t.val < 16 :=
  (by decide +kernel : ∀ t : Fin grid0.N, _)

variable (c : Dev nD) (t : Fin cfg0.N)

theorem inRows : (∀ p : Fin 2176, t.val / 4 * 2176 + p.val < 8704) ∧ (∀ l : Fin 128, t.val % 4 * 128 + l.val < 512)
    ∧ ∀ l : Fin 256, t.val % 4 * 256 + l.val < 1024 := by
  obtain ⟨-, -, -, -, h⟩ := idx t
  exact ⟨fun p => by have := p.isLt; omega, fun l => by have := l.isLt; omega, fun l => by have := l.isLt; omega⟩

theorem blk_q (hx : Fin' (a0 m c)) : Holds (φ := .bf16) 0 (iblk m c 0 t) (wideB (t.val / 4) (t.val % 4) (a0 m c)) := by
  intro p l
  have e : iblk m c 0 t (ix2 p l) = V m c main_v8 (ix2 ⟨t.val / 4 * 2176 + p.val, (inRows t).1 p⟩ ⟨t.val % 4 * 256 + l.val, (inRows t).2.2 l⟩) := by
    blk_ext [iblk, idx t]
  rw [e, entry_q]
  refine (packY_apply hx _ _).trans ((rowsOf_block _ _ _ _ _ _).trans (congrArg _ ?_))
  unfold wideB
  simp only [Nat.zero_add]
theorem blk_k (hx : Fin' (a1 m c)) : Holds (φ := .bf16) 0 (iblk m c 1 t) (wideB (t.val / 4) (t.val % 4) (a1 m c)) := by
  intro p l
  have e : iblk m c 1 t (ix2 p l) = V m c main_v17 (ix2 ⟨t.val / 4 * 2176 + p.val, (inRows t).1 p⟩ ⟨t.val % 4 * 256 + l.val, (inRows t).2.2 l⟩) := by
    blk_ext [iblk, idx t]
  rw [e, entry_k]
  refine (packY_apply hx _ _).trans ((rowsOf_block _ _ _ _ _ _).trans (congrArg _ ?_))
  unfold wideB
  simp only [Nat.zero_add]
theorem blk_v (hx : Fin' (a2 m c)) : Holds (φ := .bf16) 0 (iblk m c 2 t) (rowsB (t.val / 4) (t.val % 4) (a2 m c)) := by
  intro p l
  have e : iblk m c 2 t (ix2 p l) = V m c main_v26 (ix2 ⟨t.val / 4 * 2176 + p.val, (inRows t).1 p⟩ ⟨t.val % 4 * 128 + l.val, (inRows t).2.1 l⟩) := by
    blk_ext [iblk, idx t]
  rw [e, entry_v]
  refine (packX_apply hx _ _).trans ((rowsOf_block _ _ _ _ _ _).trans (congrArg _ ?_))
  unfold rowsB
  simp only [Nat.zero_add]
/-! ## The call's result -/

/-- One row of the call's result: its head's weights' product with the values, at the row's position. -/
def rowO (q k : Y4) (v : X4) (b p l : ℕ) : ℝ := ∑ j ∈ Finset.range 2176, P (gB q k b (l / 128) (l % 128 / 64)) p j * rowsB b (l / 128) v j (l % 128)

section Finals
variable (h0 : Fin' (a0 m c)) (h1 : Fin' (a1 m c)) (h2 : Fin' (a2 m c))
include h0 h1 h2

theorem final : (dats m 0 c).arrAt 3 cfg0.N = posRows (rowO (a0 m c) (a1 m c) (a2 m c)) := by
  refine (dats m 0 c).arrAt_eq_of_covers 3 _ (by decide +kernel) fun t hf y => ?_
  blk_simp
  rw [after0_3]
  simp only [outsAt0]
  obtain ⟨p, l, rfl⟩ : ∃ (p : Fin 2176) (l : Fin 128), y = ix2 p l := ⟨y 0, y 1, funext fun a => by fin_cases a <;> rfl⟩
  have he : ((cfg0.win 3).blk t).view.emb (ix2 p l) = ix2 ⟨t.val / 4 * 2176 + p.val, (inRows t).1 p⟩ ⟨t.val % 4 * 128 + l.val, (inRows t).2.1 l⟩ := by
    blk_ext [idx t]
  have hl := l.isLt
  rw [he, posRows_block]
  refine (MlafValue.out (h0 := blk_q m c t h0) (h1 := blk_k m c t h1) (h2 := blk_v m c t h2) (j := p) (l := l) ..).trans (congrArg _ ?_)
  unfold rowO
  rw [show (t.val % 4 * 128 + l.val) / 128 = t.val % 4 by omega, show (t.val % 4 * 128 + l.val) % 128 = l.val by omega]
  rfl

end Finals

/-- At a token's position the row is the token's output. -/
theorem rowO_pos (q k : Y4) (v : X4) (b : ℕ) (n : Fin 2064) (l : ℕ) : rowO q k v b (pos n) l = oT q k v b (l / 64) n (l % 64) := by
  unfold rowO oT
  rw [out_pos (gT := MlaRef.gT q k b (l / 128 * 2 + l % 128 / 64)) (vT := Attn.T v b (l / 64)) (l' := l % 64) (g_pos q k b _ _) (fun m => by
    rw [rowsB_pos, show (l / 128 * 128 + l % 128) / 64 = l / 64 by omega, show (l / 128 * 128 + l % 128) % 64 = l % 64 by omega]) n,
    show l / 128 * 2 + l % 128 / 64 = l / 64 by omega]

theorem read (q k : Y4) (v : X4) : readTok (posRows (rowO q k v)) = outT q k v := by
  funext y
  idx_vars y
  exact (readTok_posRows _ y0 y1 y2).trans (congrArg _ (rowO_pos q k v y0 y1 y2))

theorem arrays : Function.Injective (Pipeline.arrRef spec0) := by decide

/-- A run of finite arguments leaves the attention's output. -/
theorem run (ρ : Dev nD → PrngReg) (h0 : ∀ c, Fin' (a0 m c)) (h1 : ∀ c, Fin' (a1 m c)) (h2 : ∀ c, Fin' (a2 m c)) :
    θ_run defs (onTc (τ := τ) (main (F := Ideal))) ⟨m, fun _ => 0, ρ⟩ (fun r => ∀ c : Dev nD,
      r.2.mem ((c.tc : Thread nD τ).loc main_v31) = outT (a0 m c) (a1 m c) (a2 m c)) := by
  refine (θ_run _ _ _).mono (fun r h c => ?_) (run_main m ρ)
  refine ((h c).2 main_v31 (Pipeline.mem_restRefs_of main_v31 (by decide) (by decide))).trans ?_
  show StableHlo.after (List.flatten [hostOps1]) _ (Proc.devRef .tc main_v31) = _
  rw [List.flatten_cons, List.flatten_nil, List.append_nil, tokens]
  refine Eq.trans (congrArg readTok ?_) (read _ _ _)
  exact (Pipeline.withArrays_arr spec0 arrays c (V0 m c) (fun w => (dats m 0 c).arrAt w cfg0.N) 3).trans (final m c (h0 c) (h1 c) (h2 c))

end Cert.MlafFinal

end
-- ==== Proof.MlafClaim.lean ====
/- The value claim of the latent attention's forward call. -/
module

public import proofs.«01_k».proof.Defs
public import proofs.«01_k».proof.Proof.MlafFinal
public import proofs.«01_k».proof.Proof.AttnFinite
public import proofs.«01_k».proof.Proof.Gen.Pre_finite_mlaf
public import proofs.«01_k».proof.Proof.Gen.MlaFwdRefIdeal.Run
public import Idealize.ShloMosaic.Lib.Claim

@[expose] public section

noncomputable section

namespace Cert.MlafClaim

open Idealize.ShloMosaic Idealize.SL.Sem Cert.MlafFinal Cert.MlafRef

/-- Under the precondition every argument is finite, on every device. -/
theorem finite (m : (ℓ : Loc Cert.MlaFwdIdeal.nD Cert.MlaFwdIdeal.τ Cert.MlaFwdIdeal.sig) → Buf (Elt Ideal) ℓ)
    (h : Cert.Pre_MlaFwdIdeal_finite_mlaf (hPre_finite_mlaf := Cert.Pre_finite_mlaf.Gen.facts) m) (c : Dev Cert.MlaFwdIdeal.nD) :
    Attn.Fin' (a0 m c) ∧ Attn.Fin' (a1 m c) ∧ Attn.Fin' (a2 m c) := by
  obtain ⟨h0, h1, h2⟩ := h c
  exact ⟨Attn.fin_of_lt _ h0, Attn.fin_of_lt _ h1, Attn.fin_of_lt _ h2⟩

/-- Over the extended reals the call's output and the reference's are the same function of the three finite arguments. -/
theorem algebraic : Cert.algebraic_MlaFwdIdeal_MlaFwdRefIdeal_pre_finite_mlaf (hMlaFwdIdeal := Cert.MlaFwdIdeal.Gen.facts)
    (hMlaFwdRefIdeal := Cert.MlaFwdRefIdeal.Gen.facts) (hPre_finite_mlaf := Cert.Pre_finite_mlaf.Gen.facts) := by
  intro m g m' g' hpre hag
  refine ⟨fun c => outT (a0 m c) (a1 m c) (a2 m c), ?_, ?_⟩
  · refine (θ_run _ _ _).mono (fun _ h c => ⟨h.1 c, h.2 c⟩) (θ_run_and
      (run m g (fun c => (finite m hpre c).1) (fun c => (finite m hpre c).2.1) (fun c => (finite m hpre c).2.2)) (Cert.MlaFwdIdeal.Gen.unchanged m g))
  · refine (θ_run _ _ _).mono (fun _ h c => ?_) (Cert.MlaFwdRefIdeal.Value.run m' g')
    obtain ⟨h0, h1, h2⟩ := finite m hpre c
    obtain ⟨e0, e⟩ := h c
    obtain ⟨q0, q1, q2⟩ := hag c
    rw [Cert.MlaFwdRefIdeal.Read.val_main_v26_eq, q0, q1, q2] at e0
    exact ⟨e0.trans (ref_o h0 h1 h2), e⟩

end Cert.MlafClaim

end
-- ==== Proof.FoxfValue.lean ====
/- The forget attention's forward kernel: what its sweep leaves in its result buffer, of the blocks it is given. -/
module

public import proofs.«01_k».proof.Proof.AttnOut
public import proofs.«01_k».proof.Proof.FoxValue
public import proofs.«01_k».proof.Proof.Gen.FoxFwdIdeal.Frame

@[expose] public section

set_option maxRecDepth 16384

noncomputable section

namespace Cert.FoxfValue

open Idealize.ShloMosaic Cert.Attn Cert.FoxFwdIdeal
open Cert.FoxValue (sS s_scores g)
open scoped BigOperators

variable (arg2 : Memref sig .tc .vmem S2176x128 .bf16) (harg2 : arg2.IsWhole) (arg3 : Memref sig .tc .vmem S2176x128 .bf16) (harg3 : arg3.IsWhole)
  (arg4 : Memref sig .tc .vmem S2176x128 .bf16) (harg4 : arg4.IsWhole) (arg5 : Memref sig .tc .vmem S1x2176x2 .f32) (harg5 : arg5.IsWhole)
  (arg6 : Memref sig .tc .vmem S1x1x2176 .f32) (harg6 : arg6.IsWhole) (arg7 : Memref sig .tc .vmem S1x1x2176 .f32) (harg7 : arg7.IsWhole)
  (x0 x1 x2 : FVec Ideal S2176x128 .bf16) (x3 : FVec Ideal S1x2176x2 .f32) (x4 x5 : FVec Ideal S1x1x2176 .f32)

/-- Head `e`'s output of block `k`. -/
def oB (e k : ℕ) : FVec Ideal (Sh (mOf k) 128) .f32 :=
  outV (facts _ _) (bcLane _) (sS arg2 harg2 arg3 harg3 arg5 harg5 arg6 harg6 arg7 harg7 x0 x1 x3 x4 x5 e k) (keysL 0 le_rfl arg4 harg4 x2 k)
/-- Both heads'. -/
def oP (k : ℕ) : FVec Ideal (Sh (mOf k) 128) .bf16 :=
  pairV (oB arg2 harg2 arg3 harg3 arg4 harg4 arg5 harg5 arg6 harg6 arg7 harg7 x0 x1 x2 x3 x4 x5 0 k) (oB arg2 harg2 arg3 harg3 arg4 harg4 arg5 harg5 arg6 harg6 arg7 harg7 x0 x1 x2 x3 x4 x5 1 k)

variable (dd : Dev nD) (i : grid0.Coords) (arg8 : Memref sig .tc .vmem S2176x128 .bf16) (harg8 : arg8.IsWhole)

theorem tie : (Gen.kernelRun0_A (F := Ideal) dd i arg2 harg2 arg3 harg3 arg4 harg4 arg5 harg5 arg6 harg6 arg7 harg7 arg8 harg8 x0 x1 x2 x3 x4 x5).1
    = outSweep (oP arg2 harg2 arg3 harg3 arg4 harg4 arg5 harg5 arg6 harg6 arg7 harg7 x0 x1 x2 x3 x4 x5) 9 le_rfl := by
  sl_kernel_rfl

variable {arg2 arg3 arg4 arg5 arg6 arg7 harg2 harg3 harg4 harg5 harg6 harg7 x0 x1 x2 x3 x4 x5} {q k v c : ℕ → ℕ → ℝ} (h0 : Holds 0 x0 q) (h1 : Holds 0 x1 k) (h2 : Holds 0 x2 v)
  (h3 : ∀ (p : Fin 2176) (e : Fin 2), x3 (ix3 0 p e) = ((c e p : ℝ) : EReal)) (h4 : ∀ j : Fin 2176, x4 (ix3 0 0 j) = ((c 0 j : ℝ) : EReal))
  (h5 : ∀ j : Fin 2176, x5 (ix3 0 0 j) = ((c 1 j : ℝ) : EReal))
include h0 h1 h2 h3 h4 h5

theorem oB_holds {e b : ℕ} (he : e < 2) (hb : b < 9) : Holds (r0 b) (oB arg2 harg2 arg3 harg3 arg4 harg4 arg5 harg5 arg6 harg6 arg7 harg7 x0 x1 x2 x3 x4 x5 e b)
    fun i l => ∑ j ∈ Finset.range 2176, P (g q k c e) i j * v j l :=
  out_holds _ rfl (nOf_le hb) (s_scores h0 h1 h3 h4 h5 he hb) (keys_holds0 arg4 harg4 h2 hb)

/-- The weights' product with the values, each head on its lanes. -/
theorem out (j : Fin 2176) (l : Fin 128) :
    Gen.out0_A_6 (F := Ideal) dd i arg2 harg2 arg3 harg3 arg4 harg4 arg5 harg5 arg6 harg6 arg7 harg7 arg8 harg8 x0 x1 x2 x3 x4 x5 (ix2 j l)
      = ((∑ jj ∈ Finset.range 2176, P (g q k c (l / 64)) j jj * v jj l : ℝ) : EReal) := by
  unfold Gen.out0_A_6
  rw [tie]
  frame_out
  exact outSweep_apply (f := fun i l => ∑ jj ∈ Finset.range 2176, P (g q k c (l / 64)) i jj * v jj l)
    (fun b hb => pair_holds fun e he => oB_holds h0 h1 h2 h3 h4 h5 he hb) 9 le_rfl j j.isLt l

end Cert.FoxfValue
end
-- ==== Proof.FoxfRef.lean ====
/- The forget attention's output as the reference has it, of finite operands. -/
module

public import proofs.«01_k».proof.Proof.FoxRef
public import proofs.«01_k».proof.Proof.Gen.FoxFwdRefIdeal.Read

@[expose] public section

set_option maxRecDepth 16384

noncomputable section

namespace Cert.FoxfRef

open Idealize.ShloMosaic Cert.Attn Cert.FoxFwdRefIdeal Cert.FoxFwdRefIdeal.Read
open Cert.FoxRef (X4 X3 gT bot eighth coe_dot)
open scoped BigOperators

/-- One head's output. -/
def oT (q k v : X4) (c : X3) (b h n d : ℕ) : ℝ := ∑ m : Fin 2064, PT (gT q k c b h) n m * Attn.T v b h m d
/-- The output, the heads side by side. -/
def outT (q k v : X4) (c : X3) : FVec Ideal ⟨3, ![4, 2064, 512]⟩ .bf16 := fun y => ((oT q k v c (y 0).val ((y 2).val / 64) (y 1).val ((y 2).val % 64) : ℝ) : EReal)

section Stages
variable (x0 x1 x2 : X4) (x3 : X3) (b : Fin 4) (h : Fin 8)

theorem raw (i j : Fin 2064) : val_main_v8 (F := Ideal) x0 x1 x3 (ix4 b h i j)
    = (∑ d : Fin 64, x0 (ix4 b h i d) * x1 (ix4 b h j d)) * Ideal.ofBits .f32 0x3E000000#32 + x3 (ix3 b h i) - x3 (ix3 b h j) := by
  pointwise [val_main_v8, val_main_v7, val_main_v6, val_main_v5, val_main_v4, val_main_v3, val_main_v2, val_main_v1, val_main_v0, val_main_cst]
theorem masked (i j : Fin 2064) : val_main_v16 (F := Ideal) x0 x1 x3 (ix4 b h i j)
    = if j.val ≤ i.val then val_main_v8 (F := Ideal) x0 x1 x3 (ix4 b h i j) else ⊥ := by
  have hi := i.isLt
  have hj := j.isLt
  have e : val_main_call0_v1 (F := Ideal) (ix4 b h i j) = if j.val ≤ i.val then 1#1 else 0#1 := by
    pointwise [val_main_call0_v1, val_main_v15, val_main_v14, val_main_v13, val_main_v12, val_main_v11, val_main_v10, val_main_v9]
    rw [WordCmp.cmpi_sge_ofNat (by omega) (by omega)]
    split_ifs with hh <;> simp [hh]
  unfold val_main_v16
  show Scalar.select (val_main_call0_v1 (F := Ideal) (ix4 b h i j)) _ _ = _
  rw [e]
  split_ifs
  · rfl
  · exact bot
theorem mx (i : Fin 2064) : val_main_v19 (F := Ideal) x0 x1 x3 (ix3 b h i)
    = max ⊥ ((Finset.univ : Finset (Fin 2064)).fold max ⊥ fun j => val_main_v16 (F := Ideal) x0 x1 x3 (ix4 b h i j)) := by
  have e : val_main_v17 (F := Ideal) x0 x1 x3 (ix3 b h i) = _ := max_keys (val_main_v16 (F := Ideal) x0 x1 x3) (val_main_cst_1 (F := Ideal)) (fun _ => bot) _ _ b h i
  rw [val_main_v19_apply, e]
  generalize (Finset.univ : Finset (Fin 2064)).fold max (⊥ : EReal) (fun j => val_main_v16 (F := Ideal) x0 x1 x3 (ix4 b h i j)) = z
  exact congrArg (fun y => max y z) bot
theorem ex (i j : Fin 2064) : val_main_v23 (F := Ideal) x0 x1 x3 (ix4 b h i j)
    = Ideal.exp (val_main_v16 (F := Ideal) x0 x1 x3 (ix4 b h i j) - val_main_v19 (F := Ideal) x0 x1 x3 (ix3 b h i)) := by
  pointwise [val_main_v23, val_main_v22, val_main_v21, val_main_v20]
theorem wts (i j : Fin 2064) : val_main_v27 (F := Ideal) x0 x1 x3 (ix4 b h i j)
    = Ideal.div (val_main_v23 (F := Ideal) x0 x1 x3 (ix4 b h i j)) (∑ j : Fin 2064, val_main_v23 (F := Ideal) x0 x1 x3 (ix4 b h i j)) := by
  pointwise [val_main_v27, val_main_v26, val_main_v25, val_main_v24, val_main_cst_3]
theorem oRef (i : Fin 2064) (d : Fin 64) : val_main_v28 (F := Ideal) x0 x1 x2 x3 (ix4 b h i d)
    = ∑ j : Fin 2064, val_main_v27 (F := Ideal) x0 x1 x3 (ix4 b h i j) * x2 (ix4 b h j d) := by
  pointwise [val_main_v28]

end Stages

section Finite
variable {x0 x1 x2 : X4} {x3 : X3} (h0 : Fin' x0) (h1 : Fin' x1) (h2 : Fin' x2) (h3 : Fin' x3)

include h0 h1 h3 in
theorem weights (b : Fin 4) (h : Fin 8) (i j : Fin 2064) : val_main_v27 (F := Ideal) x0 x1 x3 (ix4 b h i j) = ((PT (gT x0 x1 x3 b h) i j : ℝ) : EReal) := by
  have hs : ∀ j : Fin 2064, val_main_v16 (F := Ideal) x0 x1 x3 (ix4 b h i j) = if j.val ≤ i.val then ((gT x0 x1 x3 b h i j : ℝ) : EReal) else ⊥ := fun j => by
    rw [masked, raw, coe_dot b h h0 h1, eighth, T3_eq h3, T3_eq h3, ← EReal.coe_mul, ← EReal.coe_add, ← EReal.coe_sub]
    rfl
  obtain ⟨a, ha, he⟩ := row_exp (g := gT x0 x1 x3 b h) i.isLt hs
  rw [wts]
  exact row_P i.isLt ha (fun j => by rw [ex, mx]; exact he j) j
include h0 h1 h2 h3 in
theorem oV (b : Fin 4) (h : Fin 8) (i : Fin 2064) (d : Fin 64) : val_main_v28 (F := Ideal) x0 x1 x2 x3 (ix4 b h i d) = ((oT x0 x1 x2 x3 b h i d : ℝ) : EReal) := by
  unfold oT
  rw [oRef, coe_sum]
  exact Finset.sum_congr rfl fun j _ => by rw [weights h0 h1 h3, T_eq h2, ← EReal.coe_mul]

include h0 h1 h2 h3 in
/-- The reference's result. -/
theorem ref_o : val_main_v31 (F := Ideal) x0 x1 x2 x3 = outT x0 x1 x2 x3 := by
  funext y
  idx_vars y
  have l0 := y0.isLt
  have l1 := y1.isLt
  have l2 := y2.isLt
  pointwise [val_main_v31, val_main_v30, val_main_v29]
  exact oV h0 h1 h2 h3 y0 ⟨y2.val / 64, by omega⟩ y1 ⟨y2.val % 64, by omega⟩

end Finite

end Cert.FoxfRef
end
-- ==== Proof.FoxfFinal.lean ====
/- The forget attention's forward call: its result array, of finite arguments. -/
module

public import proofs.«01_k».proof.Proof.FoxfValue
public import proofs.«01_k».proof.Proof.FoxfRef
public import proofs.«01_k».proof.Proof.FoxFinal
public import proofs.«01_k».proof.Proof.AttnRead

@[expose] public section

set_option maxRecDepth 16384

noncomputable section

namespace Cert.FoxfFinal

open Idealize.ShloMosaic Idealize.ShloMosaic.TcCoe Idealize.SL.Sem Cert.Attn Cert.FoxFwdIdeal Cert.FoxFwdIdeal.Gen
open Cert.FoxRef (X4 X3)
open Cert.FoxFinal (packRows sumCols sumRows packRows_apply sumCols_apply sumRows_apply)
open Cert.FoxTok (sumsB gB g_pos)
open Cert.FoxfRef (oT outT)

variable (m : (ℓ : Loc nD τ sig) → Buf (Elt Ideal) ℓ)

/-- The four arguments. -/
abbrev a0 (c : Dev nD) : X4 := m ((c : Thread nD τ).loc main_arg0)
abbrev a1 (c : Dev nD) : X4 := m ((c : Thread nD τ).loc main_arg1)
abbrev a2 (c : Dev nD) : X4 := m ((c : Thread nD τ).loc main_arg2)
abbrev a3 (c : Dev nD) : X3 := m ((c : Thread nD τ).loc main_arg3)

theorem entry_q (c : Dev nD) : V m c main_v16 = packRows (a0 m c) := by
  show StableHlo.after hostOps0 _ _ = _
  simp only [hostOps0]
  after_results <;> rfl
theorem entry_k (c : Dev nD) : V m c main_v24 = packRows (a1 m c) := by
  show StableHlo.after hostOps0 _ _ = _
  simp only [hostOps0]
  after_results <;> rfl
theorem entry_v (c : Dev nD) : V m c main_v32 = packRows (a2 m c) := by
  show StableHlo.after hostOps0 _ _ = _
  simp only [hostOps0]
  after_results <;> rfl
theorem entry_cols (c : Dev nD) : V m c main_v7 = sumCols (a3 m c) := by
  show StableHlo.after hostOps0 _ _ = _
  simp only [hostOps0]
  after_results <;> rfl
theorem entry_rows (c : Dev nD) : V m c main_v8 = sumRows (a3 m c) := by
  show StableHlo.after hostOps0 _ _ = _
  simp only [hostOps0]
  after_results <;> rfl

/-- After the launch the tokens' rows are read out. -/
theorem tokens (W : Valuation τ sig (Elt Ideal)) : (StableHlo.after (hostOps1 (F := Ideal)) W) (Proc.devRef .tc main_v37) = readTok (W (Proc.devRef .tc main_v33)) := by
  simp only [hostOps1]
  after_results <;> rfl

/-- Every window's block index at a grid point. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val, 0, 0] ∧ win0_4.index t = ![t.val * 2, 0, 0]
    ∧ win0_5.index t = ![t.val * 2 + 1, 0, 0] ∧ win0_6.index t = ![t.val / 4, t.val % 4] ∧ t.val < 16 :=
  (by decide +kernel : ∀ t : Fin grid0.N, _)

variable (c : Dev nD) (t : Fin cfg0.N)

theorem inRows : (∀ p : Fin 2176, t.val / 4 * 2176 + p.val < 8704) ∧ ∀ l : Fin 128, t.val % 4 * 128 + l.val < 512 := by
  obtain ⟨-, -, -, -, -, -, -, h⟩ := idx t
  exact ⟨fun p => by have := p.isLt; omega, fun l => by have := l.isLt; omega⟩

theorem blk_q (hx : Fin' (a0 m c)) : Holds (φ := .bf16) 0 (iblk m c 0 t) (rowsB (t.val / 4) (t.val % 4) (a0 m c)) := by
  obtain ⟨h1, h2⟩ := inRows t
  intro p l
  have lp := p.isLt
  have ll := l.isLt
  have e : iblk m c 0 t (ix2 p l) = V m c main_v16 (ix2 ⟨t.val / 4 * 2176 + p.val, h1 p⟩ ⟨t.val % 4 * 128 + l.val, h2 l⟩) := by
    blk_ext [iblk, idx t]
  rw [e, entry_q]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]
theorem blk_k (hx : Fin' (a1 m c)) : Holds (φ := .bf16) 0 (iblk m c 1 t) (rowsB (t.val / 4) (t.val % 4) (a1 m c)) := by
  obtain ⟨h1, h2⟩ := inRows t
  intro p l
  have lp := p.isLt
  have ll := l.isLt
  have e : iblk m c 1 t (ix2 p l) = V m c main_v24 (ix2 ⟨t.val / 4 * 2176 + p.val, h1 p⟩ ⟨t.val % 4 * 128 + l.val, h2 l⟩) := by
    blk_ext [iblk, idx t]
  rw [e, entry_k]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]
theorem blk_v (hx : Fin' (a2 m c)) : Holds (φ := .bf16) 0 (iblk m c 2 t) (rowsB (t.val / 4) (t.val % 4) (a2 m c)) := by
  obtain ⟨h1, h2⟩ := inRows t
  intro p l
  have lp := p.isLt
  have ll := l.isLt
  have e : iblk m c 2 t (ix2 p l) = V m c main_v32 (ix2 ⟨t.val / 4 * 2176 + p.val, h1 p⟩ ⟨t.val % 4 * 128 + l.val, h2 l⟩) := by
    blk_ext [iblk, idx t]
  rw [e, entry_v]
  refine (packRows_apply hx _ _).trans (congrArg _ ?_)
  unfold rowsB
  simp only [Nat.zero_add]
  rw [show (t.val / 4 * 2176 + p.val) / 2176 = t.val / 4 by omega, show (t.val / 4 * 2176 + p.val) % 2176 = p.val by omega]
theorem blk_cols (hx : Fin' (a3 m c)) (p : Fin 2176) (e : Fin 2) : iblk m c 3 t (ix3 0 p e) = ((sumsB (t.val / 4) (t.val % 4) (a3 m c) e p : ℝ) : EReal) := by
  obtain ⟨-, -, -, -, -, -, -, h⟩ := idx t
  have e : iblk m c 3 t (ix3 0 p e) = V m c main_v7 (ix3 ⟨t.val, h⟩ p e) := by
    blk_ext [iblk, idx t]
  rw [e, entry_cols]
  exact sumCols_apply hx _ _ _
theorem blk_row0 (hx : Fin' (a3 m c)) (p : Fin 2176) : iblk m c 4 t (ix3 0 0 p) = ((sumsB (t.val / 4) (t.val % 4) (a3 m c) 0 p : ℝ) : EReal) := by
  obtain ⟨-, -, -, -, -, -, -, h⟩ := idx t
  have h' : t.val * 2 < 32 := by omega
  have e : iblk m c 4 t (ix3 0 0 p) = V m c main_v8 (ix3 ⟨t.val * 2, h'⟩ 0 p) := by
    blk_ext [iblk, idx t]
  rw [e, entry_rows]
  refine (sumRows_apply hx _ _).trans (congrArg _ ?_)
  unfold sumsB
  rw [show t.val * 2 / 8 = t.val / 4 by omega, show t.val * 2 % 8 = t.val % 4 * 2 + 0 by omega]
theorem blk_row1 (hx : Fin' (a3 m c)) (p : Fin 2176) : iblk m c 5 t (ix3 0 0 p) = ((sumsB (t.val / 4) (t.val % 4) (a3 m c) 1 p : ℝ) : EReal) := by
  obtain ⟨-, -, -, -, -, -, -, h⟩ := idx t
  have h' : t.val * 2 + 1 < 32 := by omega
  have e : iblk m c 5 t (ix3 0 0 p) = V m c main_v8 (ix3 ⟨t.val * 2 + 1, h'⟩ 0 p) := by
    blk_ext [iblk, idx t]
  rw [e, entry_rows]
  refine (sumRows_apply hx _ _).trans (congrArg _ ?_)
  unfold sumsB
  rw [show (t.val * 2 + 1) / 8 = t.val / 4 by omega, show (t.val * 2 + 1) % 8 = t.val % 4 * 2 + 1 by omega]

/-! ## The call's result -/

/-- One row of the call's result: its head's weights' product with the values, at the row's position. -/
def rowO (q k v : X4) (c : X3) (b p l : ℕ) : ℝ := ∑ j ∈ Finset.range 2176, P (gB q k c b (l / 128) (l % 128 / 64)) p j * rowsB b (l / 128) v j (l % 128)

section Finals
variable (h0 : Fin' (a0 m c)) (h1 : Fin' (a1 m c)) (h2 : Fin' (a2 m c)) (h3 : Fin' (a3 m c))
include h0 h1 h2 h3

theorem final : (dats m 0 c).arrAt 6 cfg0.N = posRows (rowO (a0 m c) (a1 m c) (a2 m c) (a3 m c)) := by
  refine (dats m 0 c).arrAt_eq_of_covers 6 _ (by decide +kernel) fun t hf y => ?_
  blk_simp
  rw [after0_6]
  simp only [outsAt0]
  obtain ⟨p, l, rfl⟩ : ∃ (p : Fin 2176) (l : Fin 128), y = ix2 p l := ⟨y 0, y 1, funext fun a => by fin_cases a <;> rfl⟩
  have he : ((cfg0.win 6).blk t).view.emb (ix2 p l) = ix2 ⟨t.val / 4 * 2176 + p.val, (inRows t).1 p⟩ ⟨t.val % 4 * 128 + l.val, (inRows t).2 l⟩ := by
    blk_ext [idx t]
  have hl := l.isLt
  rw [he, posRows_block]
  refine (FoxfValue.out (h0 := blk_q m c t h0) (h1 := blk_k m c t h1) (h2 := blk_v m c t h2) (h3 := blk_cols m c t h3) (h4 := blk_row0 m c t h3) (h5 := blk_row1 m c t h3) (j := p) (l := l) ..).trans (congrArg _ ?_)
  unfold rowO
  rw [show (t.val % 4 * 128 + l.val) / 128 = t.val % 4 by omega, show (t.val % 4 * 128 + l.val) % 128 = l.val by omega]
  rfl

end Finals

/-- At a token's position the row is the token's output. -/
theorem rowO_pos (q k v : X4) (c : X3) (b : ℕ) (n : Fin 2064) (l : ℕ) : rowO q k v c b (pos n) l = oT q k v c b (l / 64) n (l % 64) := by
  unfold rowO oT
  rw [out_pos (gT := FoxRef.gT q k c b (l / 128 * 2 + l % 128 / 64)) (vT := Attn.T v b (l / 64)) (l' := l % 64) (g_pos q k c b _ (by omega)) (fun m => by
    rw [rowsB_pos, show (l / 128 * 128 + l % 128) / 64 = l / 64 by omega, show (l / 128 * 128 + l % 128) % 64 = l % 64 by omega]) n,
    show l / 128 * 2 + l % 128 / 64 = l / 64 by omega]

theorem read (q k v : X4) (c : X3) : readTok (posRows (rowO q k v c)) = outT q k v c := by
  funext y
  idx_vars y
  exact (readTok_posRows _ y0 y1 y2).trans (congrArg _ (rowO_pos q k v c y0 y1 y2))

/-- A run of finite arguments leaves the attention's output. -/
theorem run (ρ : Dev nD → PrngReg) (h0 : ∀ c, Fin' (a0 m c)) (h1 : ∀ c, Fin' (a1 m c)) (h2 : ∀ c, Fin' (a2 m c)) (h3 : ∀ c, Fin' (a3 m c)) :
    θ_run defs (onTc (τ := τ) (main (F := Ideal))) ⟨m, fun _ => 0, ρ⟩ (fun r => ∀ c : Dev nD,
      r.2.mem ((c.tc : Thread nD τ).loc main_v37) = outT (a0 m c) (a1 m c) (a2 m c) (a3 m c)) := by
  refine (θ_run _ _ _).mono (fun r h c => ?_) (run_main m ρ)
  refine ((h c).2 main_v37 (Pipeline.mem_restRefs_of main_v37 (by decide) (by decide))).trans ?_
  show StableHlo.after (List.flatten [hostOps1]) _ (Proc.devRef .tc main_v37) = _
  rw [List.flatten_cons, List.flatten_nil, List.append_nil, tokens]
  refine Eq.trans (congrArg readTok ?_) (read _ _ _ _)
  exact ((dats m 0 c).withArrays_arrAt sharedIn0 (V0 m c) (A_eq m c) 6).trans (final m c (h0 c) (h1 c) (h2 c) (h3 c))

end Cert.FoxfFinal

end
-- ==== Proof.FoxfClaim.lean ====
/- The value claim of the forget attention's forward call. -/
module

public import proofs.«01_k».proof.Defs
public import proofs.«01_k».proof.Proof.FoxfFinal
public import proofs.«01_k».proof.Proof.AttnFinite
public import proofs.«01_k».proof.Proof.Gen.Pre_finite_foxf
public import proofs.«01_k».proof.Proof.Gen.FoxFwdRefIdeal.Run
public import Idealize.ShloMosaic.Lib.Claim

@[expose] public section

noncomputable section

namespace Cert.FoxfClaim

open Idealize.ShloMosaic Idealize.SL.Sem Cert.FoxfFinal Cert.FoxfRef

/-- Under the precondition every argument is finite, on every device. -/
theorem finite (m : (ℓ : Loc Cert.FoxFwdIdeal.nD Cert.FoxFwdIdeal.τ Cert.FoxFwdIdeal.sig) → Buf (Elt Ideal) ℓ)
    (h : Cert.Pre_FoxFwdIdeal_finite_foxf (hPre_finite_foxf := Cert.Pre_finite_foxf.Gen.facts) m) (c : Dev Cert.FoxFwdIdeal.nD) :
    Attn.Fin' (a0 m c) ∧ Attn.Fin' (a1 m c) ∧ Attn.Fin' (a2 m c) ∧ Attn.Fin' (a3 m c) := by
  obtain ⟨h0, h1, h2, h3⟩ := h c
  exact ⟨Attn.fin_of_lt _ h0, Attn.fin_of_lt _ h1, Attn.fin_of_lt _ h2, Attn.fin_of_lt _ h3⟩

/-- Over the extended reals the call's output and the reference's are the same function of the four finite arguments. -/
theorem algebraic : Cert.algebraic_FoxFwdIdeal_FoxFwdRefIdeal_pre_finite_foxf (hFoxFwdIdeal := Cert.FoxFwdIdeal.Gen.facts)
    (hFoxFwdRefIdeal := Cert.FoxFwdRefIdeal.Gen.facts) (hPre_finite_foxf := Cert.Pre_finite_foxf.Gen.facts) := by
  intro m g m' g' hpre hag
  refine ⟨fun c => outT (a0 m c) (a1 m c) (a2 m c) (a3 m c), ?_, ?_⟩
  · refine (θ_run _ _ _).mono (fun _ h c => ⟨h.1 c, h.2 c⟩) (θ_run_and
      (run m g (fun c => (finite m hpre c).1) (fun c => (finite m hpre c).2.1) (fun c => (finite m hpre c).2.2.1) (fun c => (finite m hpre c).2.2.2)) (Cert.FoxFwdIdeal.Gen.unchanged m g))
  · refine (θ_run _ _ _).mono (fun _ h c => ?_) (Cert.FoxFwdRefIdeal.Value.run m' g')
    obtain ⟨h0, h1, h2, h3⟩ := finite m hpre c
    obtain ⟨e0, e⟩ := h c
    obtain ⟨q0, q1, q2, q3⟩ := hag c
    rw [Cert.FoxFwdRefIdeal.Read.val_main_v31_eq, q0, q1, q2, q3] at e0
    exact ⟨e0.trans (ref_o h0 h1 h2 h3), e⟩

end Cert.FoxfClaim

end
-- ==== Proof.PostfClaim.lean ====
/- The output gate's forward call: its two results and the reference's, as the same functions of the arguments; and the value claim. -/
module

public import proofs.«01_k».proof.Defs
public import proofs.«01_k».proof.Proof.PostValue
public import proofs.«01_k».proof.Proof.Gen.PostFwdIdeal.Value
public import proofs.«01_k».proof.Proof.Gen.PostFwdRefIdeal.Run
public import proofs.«01_k».proof.Proof.Gen.PostFwdRefIdeal.Read

@[expose] public section

set_option maxRecDepth 16384

noncomputable section

namespace Cert.PostfClaim

open Idealize.ShloMosaic Idealize.ShloMosaic.TcCoe Idealize.SL.Sem Cert.PostFwdIdeal Cert.PostFwdIdeal.Gen Cert.Halves
open Cert.PostValue (gate branch lane)
open Cert.PostFwdRefIdeal.Read

section Math
variable (h : FVec Ideal S8704x1024 .f32) (f o : FVec Ideal S8704x512 .f32) (gl : FVec Ideal S8704x2048 .f32) (bg : FVec Ideal S1x2048 .f32)
variable (wf w : FVec Ideal S512x1024 .f32) (wo : FVec Ideal S1024x1024 .f32)

/-- The two branches, each times its gate, added. -/
def mix (r : Fin 8704) (j : Fin 1024) : EReal := gate gl bg r (lane 0 j) * branch f wf r j + gate gl bg r (lane 1 j) * branch o w r j
/-- The hidden state plus the mixed branches' product. -/
def out (r : Fin 8704) (k : Fin 1024) : EReal := h (ix2 r k) + ∑ j, mix f o gl bg wf w r j * wo (ix2 j k)

end Math

/-! ## The call -/

section Call
variable (m : (ℓ : Loc nD τ sig) → Buf (Elt Ideal) ℓ)

/-- The eight arguments. -/
abbrev a0 (c : Dev nD) : FVec Ideal S8704x1024 .f32 := m ((c : Thread nD τ).loc main_arg0)
abbrev a1 (c : Dev nD) : FVec Ideal S8704x512 .f32 := m ((c : Thread nD τ).loc main_arg1)
abbrev a2 (c : Dev nD) : FVec Ideal S8704x512 .f32 := m ((c : Thread nD τ).loc main_arg2)
abbrev a3 (c : Dev nD) : FVec Ideal S8704x2048 .f32 := m ((c : Thread nD τ).loc main_arg3)
abbrev a4 (c : Dev nD) : FVec Ideal S1x2048 .f32 := m ((c : Thread nD τ).loc main_arg4)
abbrev a5 (c : Dev nD) : FVec Ideal S512x1024 .f32 := m ((c : Thread nD τ).loc main_arg5)
abbrev a6 (c : Dev nD) : FVec Ideal S512x1024 .f32 := m ((c : Thread nD τ).loc main_arg6)
abbrev a7 (c : Dev nD) : FVec Ideal S1024x1024 .f32 := m ((c : Thread nD τ).loc main_arg7)

theorem idx : ∀ t : Fin cfg0.N, t.val < 17 ∧ win0_0.index t = ![t.val, 0] ∧ win0_1.index t = ![t.val, 0] ∧ win0_2.index t = ![t.val, 0] ∧ win0_3.index t = ![t.val, 1]
    ∧ win0_4.index t = ![0, 0] ∧ win0_5.index t = ![0, 0] ∧ win0_6.index t = ![0, 0] ∧ win0_7.index t = ![0, 0] ∧ win0_8.index t = ![t.val, 0] ∧ win0_9.index t = ![t.val, 0] :=
  (by decide +kernel : ∀ t : Fin grid0.N, _)

/-- The array's row at row `p` of block `t`. -/
def row (t : Fin cfg0.N) (p : Fin 512) : Fin 8704 := ⟨t.val * 512 + p.val, by have := (idx t).1; omega⟩

variable (c : Dev nD) (t : Fin cfg0.N)

theorem blk0 (p : Fin 512) (l : Fin 1024) : iblk m c 0 t (ix2 p l) = a0 m c (ix2 (row t p) l) := by
  rw [row]; blk_ext [iblk, idx t]
theorem blk1 (p : Fin 512) (l : Fin 512) : iblk m c 1 t (ix2 p l) = a1 m c (ix2 (row t p) l) := by
  have e : iblk m c 1 t (ix2 p l) = V m c main_v2 (ix2 (row t p) l) := by rw [row]; blk_ext [iblk, idx t]
  rw [e]; entry_read; rfl
theorem blk2 (p : Fin 512) (l : Fin 512) : iblk m c 2 t (ix2 p l) = a2 m c (ix2 (row t p) l) := by
  have e : iblk m c 2 t (ix2 p l) = V m c main_v3 (ix2 (row t p) l) := by rw [row]; blk_ext [iblk, idx t]
  rw [e]; entry_read; rfl
theorem blk3 (p : Fin 512) (l : Fin 2048) : iblk m c 3 t (ix2 p l) = a3 m c (ix2 (row t p) l) := by
  have e : iblk m c 3 t (ix2 p l) = V m c main_v1 (ix2 (row t p) ⟨2048 + l.val, by omega⟩) := by rw [row]; blk_ext [iblk, idx t]
  rw [e]; entry_read; pointwise
theorem blk4 (l : Fin 2048) : iblk m c 4 t (ix2 0 l) = a4 m c (ix2 0 l) := by
  blk_ext [iblk, idx t]
theorem blk5 (p : Fin 512) (l : Fin 1024) : iblk m c 5 t (ix2 p l) = a5 m c (ix2 p l) := by
  have e : iblk m c 5 t (ix2 p l) = V m c main_v4 (ix2 p l) := by blk_ext [iblk, idx t]
  rw [e]; entry_read; rfl
theorem blk6 (p : Fin 512) (l : Fin 1024) : iblk m c 6 t (ix2 p l) = a6 m c (ix2 p l) := by
  have e : iblk m c 6 t (ix2 p l) = V m c main_v5 (ix2 p l) := by blk_ext [iblk, idx t]
  rw [e]; entry_read; rfl
theorem blk7 (p : Fin 1024) (l : Fin 1024) : iblk m c 7 t (ix2 p l) = a7 m c (ix2 p l) := by
  have e : iblk m c 7 t (ix2 p l) = V m c main_v6 (ix2 p l) := by blk_ext [iblk, idx t]
  rw [e]; entry_read; rfl

theorem at_mix (p : Fin 512) (j : Fin 1024) : k0_pay1 (iblk m c 3 t) (iblk m c 4 t) (iblk m c 1 t) (iblk m c 5 t) (iblk m c 2 t) (iblk m c 6 t) (ix2 p j)
    = mix (a1 m c) (a2 m c) (a3 m c) (a4 m c) (a5 m c) (a6 m c) (row t p) j := by
  pointwise [k0_pay1]
  simp only [blk1, blk2, blk3, blk4, blk5, blk6, mix, branch, gate, lane, Fin.val_zero, Fin.val_one, Nat.zero_mul, Nat.zero_add, Nat.one_mul]
theorem at_out (p : Fin 512) (k : Fin 1024) :
    k0_pay2 (iblk m c 3 t) (iblk m c 4 t) (iblk m c 1 t) (iblk m c 5 t) (iblk m c 2 t) (iblk m c 6 t) (iblk m c 0 t) (iblk m c 7 t) (ix2 p k)
      = out (a0 m c) (a1 m c) (a2 m c) (a3 m c) (a4 m c) (a5 m c) (a6 m c) (a7 m c) (row t p) k := by
  rw [out]
  simp only [← at_mix, ← blk7 m c t]
  rw [← blk0]
  pointwise [k0_pay2]

theorem final_out : (dats m 0 c).arrAt 8 cfg0.N = array (out (a0 m c) (a1 m c) (a2 m c) (a3 m c) (a4 m c) (a5 m c) (a6 m c) (a7 m c)) := by
  refine (dats m 0 c).arrAt_eq_of_covers 8 _ (by decide +kernel) fun t hf y => ?_
  blk_simp
  rw [after0_8]
  obtain ⟨p, l, rfl⟩ := ix2_of (n := 512) (w := 1024) y
  have he : ((cfg0.win 8).blk t).view.emb (ix2 p l) = ix2 (row t p) l := by rw [row]; blk_ext [idx t]
  rw [he]
  unfold out0_8
  frame_out
  exact at_out m c t p l
theorem final_mix : (dats m 0 c).arrAt 9 cfg0.N = array (mix (a1 m c) (a2 m c) (a3 m c) (a4 m c) (a5 m c) (a6 m c)) := by
  refine (dats m 0 c).arrAt_eq_of_covers 9 _ (by decide +kernel) fun t hf y => ?_
  blk_simp
  rw [after0_9]
  obtain ⟨p, l, rfl⟩ := ix2_of (n := 512) (w := 1024) y
  have he : ((cfg0.win 9).blk t).view.emb (ix2 p l) = ix2 (row t p) l := by rw [row]; blk_ext [idx t]
  rw [he]
  unfold out0_9
  frame_out
  exact at_mix m c t p l

end Call

/-! ## The reference -/

section Ref
variable (x0 : FVec Ideal S8704x1024 .f32) (x1 x2 : FVec Ideal S8704x512 .f32) (x3 : FVec Ideal S8704x2048 .f32) (x4 : FVec Ideal S1x2048 .f32)
variable (x5 x6 : FVec Ideal S512x1024 .f32) (x7 : FVec Ideal S1024x1024 .f32)

theorem ref_gate (p : Fin 8704) (l : Fin 2048) : val_main_v7 (F := Ideal) x3 x4 (ix2 p l) = gate x3 x4 p l := by
  pointwise [val_main_v7, val_main_v6, val_main_cst_0, val_main_v5, val_main_v4, val_main_cst, val_main_v3, val_main_v2, val_main_v1, val_main_v0]
  rfl
theorem ref_mix_at (p : Fin 8704) (j : Fin 1024) : val_main_v14 (F := Ideal) x1 x2 x3 x4 x5 x6 (ix2 p j) = mix x1 x2 x3 x4 x5 x6 p j := by
  pointwise [val_main_v14, val_main_v13, val_main_v12, val_main_v11, val_main_v10, val_main_v9, val_main_v8]
  simp only [ref_gate, mix, branch, lane, Fin.val_zero, Fin.val_one, Nat.zero_mul, Nat.zero_add, Nat.one_mul]
theorem ref_mix : val_main_v17 (F := Ideal) x1 x2 x3 x4 x5 x6 = array (mix x1 x2 x3 x4 x5 x6) := by
  funext y
  obtain ⟨p, l, rfl⟩ := ix2_of (n := 8704) (w := 1024) y
  exact ref_mix_at x1 x2 x3 x4 x5 x6 p l
theorem ref_out : val_main_v16 (F := Ideal) x0 x1 x2 x3 x4 x5 x6 x7 = array (out x0 x1 x2 x3 x4 x5 x6 x7) := by
  funext y
  obtain ⟨p, l, rfl⟩ := ix2_of (n := 8704) (w := 1024) y
  rw [at_ix2, out]
  simp only [← ref_mix_at]
  pointwise [val_main_v16, val_main_v15]

end Ref

/-- Over the extended reals the call's two results and the reference's are the same functions of the eight arguments. -/
theorem algebraic : Cert.algebraic_PostFwdIdeal_PostFwdRefIdeal (hPostFwdIdeal := Cert.PostFwdIdeal.Gen.facts) (hPostFwdRefIdeal := Cert.PostFwdRefIdeal.Gen.facts) := by
  intro m g m' g' _ hag
  refine ⟨fun c => array (out (a0 m c) (a1 m c) (a2 m c) (a3 m c) (a4 m c) (a5 m c) (a6 m c) (a7 m c)),
    fun c => array (mix (a1 m c) (a2 m c) (a3 m c) (a4 m c) (a5 m c) (a6 m c)), ?_, ?_⟩
  · refine (θ_run _ _ _).mono (fun _ h c => ?_) (Cert.PostFwdIdeal.Value.run_blocks m g)
    obtain ⟨e0, e1, e⟩ := h c
    exact ⟨e0.trans (final_out m c), e1.trans (final_mix m c), e⟩
  · refine (θ_run _ _ _).mono (fun _ h c => ?_) (Cert.PostFwdRefIdeal.Value.run m' g')
    obtain ⟨e0, e1, e⟩ := h c
    obtain ⟨q0, q1, q2, q3, q4, q5, q6, q7⟩ := hag c
    rw [Cert.PostFwdRefIdeal.Read.val_main_v16_eq, q0, q1, q2, q3, q4, q5, q6, q7] at e0
    rw [Cert.PostFwdRefIdeal.Read.val_main_v17_eq, q1, q2, q3, q4, q5, q6] at e1
    exact ⟨e0.trans (ref_out _ _ _ _ _ _ _ _), e1.trans (ref_mix _ _ _ _ _ _), e⟩

end Cert.PostfClaim

end
-- ==== Proof.FfnfClaim.lean ====
/- The feed-forward's forward call: its result and the reference's, as one function of the arguments; and the value claim. -/
module

public import proofs.«01_k».proof.Defs
public import proofs.«01_k».proof.Proof.FfnValue
public import proofs.«01_k».proof.Proof.Halves
public import proofs.«01_k».proof.Proof.Gen.FfnFwdIdeal.Value
public import proofs.«01_k».proof.Proof.Gen.FfnFwdRefIdeal.Run
public import proofs.«01_k».proof.Proof.Gen.FfnFwdRefIdeal.Read

@[expose] public section

set_option maxRecDepth 16384

noncomputable section

namespace Cert.FfnfClaim

open Idealize.ShloMosaic Idealize.ShloMosaic.TcCoe Idealize.SL.Sem Cert.FfnFwdIdeal Cert.FfnFwdIdeal.Gen Cert.Halves Cert.Rms
open Cert.FfnValue (hid unit normed pre side sig' silu act)
open Cert.FfnFwdRefIdeal.Read

/-- The hidden state plus half the feed-forward of it. -/
def out (x : FVec Ideal S8704x1024 .f32) (n : FVec Ideal S1x1024 .f32) (w : FVec Ideal S1024x5632 .f32) (wd : FVec Ideal S2816x1024 .f32) (r : Fin 8704) (k : Fin 1024) : EReal :=
  x (ix2 r k) + Ideal.ofBits .f32 0x3F000000#32 * ∑ j, act x n w r j * wd (ix2 j k)

/-! ## The call -/

section Call
variable (m : (ℓ : Loc nD τ sig) → Buf (Elt Ideal) ℓ)

/-- The four arguments. -/
abbrev a0 (c : Dev nD) : FVec Ideal S8704x1024 .f32 := m ((c : Thread nD τ).loc main_arg0)
abbrev a1 (c : Dev nD) : FVec Ideal S1x1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)

theorem idx : ∀ t : Fin cfg0.N, t.val < 17 ∧ win0_0.index t = ![t.val, 0] ∧ win0_1.index t = ![0, 0] ∧ win0_2.index t = ![0, 0] ∧ win0_3.index t = ![0, 1]
    ∧ win0_4.index t = ![0, 0] ∧ win0_5.index t = ![t.val, 0] :=
  (by decide +kernel : ∀ t : Fin grid0.N, _)

/-- The array's row at row `p` of block `t`. -/
def row (t : Fin cfg0.N) (p : Fin 512) : Fin 8704 := ⟨t.val * 512 + p.val, by have := (idx t).1; omega⟩

variable (c : Dev nD) (t : Fin cfg0.N)

theorem blk0 (p : Fin 512) (l : Fin 1024) : iblk m c 0 t (ix2 p l) = a0 m c (ix2 (row t p) l) := by
  rw [row]; blk_ext [iblk, idx t]
theorem blk1 (l : Fin 1024) : iblk m c 1 t (ix2 0 l) = a1 m c (ix2 0 l) := by
  blk_ext [iblk, idx t]
theorem blk2 (p : Fin 1024) (l : Fin 2816) : iblk m c 2 t (ix2 p l) = a2 m c (ix2 p (side 0 l)) := by
  have e : iblk m c 2 t (ix2 p l) = V m c main_v0 (ix2 p (side 0 l)) := by rw [side]; blk_ext [iblk, idx t]
  rw [e]; entry_read; rfl
theorem blk3 (p : Fin 1024) (l : Fin 2816) : iblk m c 3 t (ix2 p l) = a2 m c (ix2 p (side 1 l)) := by
  have e : iblk m c 3 t (ix2 p l) = V m c main_v0 (ix2 p (side 1 l)) := by rw [side]; blk_ext [iblk, idx t]
  rw [e]; entry_read; rfl
theorem blk4 (p : Fin 2816) (l : Fin 1024) : iblk m c 4 t (ix2 p l) = a3 m c (ix2 p l) := by
  have e : iblk m c 4 t (ix2 p l) = V m c main_v1 (ix2 p l) := by blk_ext [iblk, idx t]
  rw [e]; entry_read; rfl

theorem at_out (p : Fin 512) (l : Fin 1024) : k0_pay1 (iblk m c 0 t) (iblk m c 1 t) (iblk m c 2 t) (iblk m c 3 t) (iblk m c 4 t) (ix2 p l)
    = out (a0 m c) (a1 m c) (a2 m c) (a3 m c) (row t p) l := by
  pointwise [k0_pay1]
  simp only [blk0, blk1, blk2, blk3, blk4, out, act, silu, sig', pre, normed, unit, Rms.inv, hid]

theorem final_out : (dats m 0 c).arrAt 5 cfg0.N = array (out (a0 m c) (a1 m c) (a2 m c) (a3 m c)) := by
  refine (dats m 0 c).arrAt_eq_of_covers 5 _ (by decide +kernel) fun t hf y => ?_
  blk_simp
  rw [after0_5]
  obtain ⟨p, l, rfl⟩ := ix2_of (n := 512) (w := 1024) y
  have he : ((cfg0.win 5).blk t).view.emb (ix2 p l) = ix2 (row t p) l := by rw [row]; blk_ext [idx t]
  rw [he]
  unfold out0_5
  frame_out
  exact at_out m c t p l

end Call

/-! ## The reference -/

section Ref
variable (x0 : FVec Ideal S8704x1024 .f32) (x1 : FVec Ideal S1x1024 .f32) (x2 : FVec Ideal S1024x5632 .f32) (x3 : FVec Ideal S2816x1024 .f32)

theorem ref_inv (p : Fin 8704) : val_main_v7 (F := Ideal) x0 (ix2 p 0) = Rms.inv (hid x0 p) := by
  rw [← rsqrt_meanSq]
  pointwise [val_main_v7, val_main_v6, val_main_v5, val_main_cst_1, val_main_v4, val_main_v3, val_main_cst_0, val_main_v2, val_main_v1, val_main_v0, val_main_cst, meanSq, hid]
theorem ref_pre (p : Fin 8704) (l : Fin 5632) : val_main_v12 (F := Ideal) x0 x1 x2 (ix2 p l) = pre x0 x1 x2 p l := by
  pointwise [val_main_v12, val_main_v11, val_main_v10, val_main_v9, val_main_v8]
  simp only [ref_inv, pre, normed, unit]
theorem ref_half (p : Fin 8704) (j : Fin 2816) : val_main_v13 (F := Ideal) x0 x1 x2 (ix2 p j) = pre x0 x1 x2 p (side 0 j)
    ∧ val_main_v14 (F := Ideal) x0 x1 x2 (ix2 p j) = pre x0 x1 x2 p (side 1 j) := by
  constructor
  · pointwise [val_main_v13]
    exact (ref_pre x0 x1 x2 p _).trans (congrArg _ (Fin.ext (by simp [side])))
  · pointwise [val_main_v14]
    exact (ref_pre x0 x1 x2 p _).trans (congrArg _ (Fin.ext (by simp [side])))
theorem ref_out : val_main_v20 (F := Ideal) x0 x1 x2 x3 = array (out x0 x1 x2 x3) := by
  funext y
  obtain ⟨p, l, rfl⟩ := ix2_of (n := 8704) (w := 1024) y
  rw [at_ix2, out]
  simp only [act, silu, sig', ← (ref_half x0 x1 x2 _ _).1, ← (ref_half x0 x1 x2 _ _).2]
  pointwise [val_main_v20, val_main_v19, val_main_v18, val_main_cst_2, val_main_v17, val_main_v16, val_main_v15, val_main_call0_v5, val_main_call0_v4, val_main_call0_cst_0, val_main_call0_v3, val_main_call0_v2, val_main_call0_cst, val_main_call0_v1, val_main_call0_v0]
  rfl

end Ref

/-- Over the extended reals the call's result and the reference's are the same function of the four arguments. -/
theorem algebraic : Cert.algebraic_FfnFwdIdeal_FfnFwdRefIdeal (hFfnFwdIdeal := Cert.FfnFwdIdeal.Gen.facts) (hFfnFwdRefIdeal := Cert.FfnFwdRefIdeal.Gen.facts) := by
  intro m g m' g' _ hag
  refine ⟨fun c => array (out (a0 m c) (a1 m c) (a2 m c) (a3 m c)), ?_, ?_⟩
  · refine (θ_run _ _ _).mono (fun _ h c => ?_) (Cert.FfnFwdIdeal.Value.run_blocks m g)
    obtain ⟨e0, e⟩ := h c
    exact ⟨e0.trans (final_out m c), e⟩
  · refine (θ_run _ _ _).mono (fun _ h c => ?_) (Cert.FfnFwdRefIdeal.Value.run m' g')
    obtain ⟨e0, e⟩ := h c
    obtain ⟨q0, q1, q2, q3⟩ := hag c
    rw [Cert.FfnFwdRefIdeal.Read.val_main_v20_eq, q0, q1, q2, q3] at e0
    exact ⟨e0.trans (ref_out _ _ _ _), e⟩

end Cert.FfnfClaim

end
-- ==== Proof.InprojfClaim.lean ====
/- The input product's forward call: its two results and the reference's, as the same functions of the arguments; and the value claim. -/
module

public import proofs.«01_k».proof.Defs
public import proofs.«01_k».proof.Proof.InprojValue
public import proofs.«01_k».proof.Proof.Gen.InprojFwdIdeal.Value
public import proofs.«01_k».proof.Proof.Gen.InprojFwdRefIdeal.Run
public import proofs.«01_k».proof.Proof.Gen.InprojFwdRefIdeal.Read

@[expose] public section

set_option maxRecDepth 16384

noncomputable section

namespace Cert.InprojfClaim

open Idealize.ShloMosaic Idealize.ShloMosaic.TcCoe Idealize.SL.Sem Cert.InprojFwdIdeal Cert.InprojFwdIdeal.Gen Cert.InprojPack Cert.Halves
open Cert.InprojValue (hid unit)
open Cert.InprojFwdRefIdeal.Read

section Math
variable (x : FVec Ideal S8704x1024 .f32) (n : FVec Ideal S1x1024 .f32) (w : FVec Ideal S1024x4008 .f32)

/-- The norm's output. -/
def normed (r : Fin 8704) (k : Fin 1024) : EReal := unit x r k * n (ix2 0 k)
/-- Its product with the weight. -/
def proj (r : Fin 8704) (j : Fin 4008) : EReal := ∑ k, normed x n r k * w (ix2 k j)

/-- The product with the packed weight is the packed product. -/
theorem packed_proj (r : Fin 8704) (l : Fin 4096) : ∑ k, normed x n r k * packed (fun j => w (ix2 k j)) l = packed (proj x n w r) l := by
  unfold packed
  split_ifs <;> first | rfl | exact Finset.sum_eq_zero fun k _ => mul_zero _

end Math

/-! ## The call -/

section Call
variable (m : (ℓ : Loc nD τ sig) → Buf (Elt Ideal) ℓ)

/-- The three arguments. -/
abbrev a0 (c : Dev nD) : FVec Ideal S8704x1024 .f32 := m ((c : Thread nD τ).loc main_arg0)
abbrev a1 (c : Dev nD) : FVec Ideal S1x1024 .f32 := m ((c : Thread nD τ).loc main_arg1)
abbrev a2 (c : Dev nD) : FVec Ideal S1024x4008 .f32 := m ((c : Thread nD τ).loc main_arg2)

theorem entry_w (c : Dev nD) : V m c main_v10 = wide (a2 m c) := by
  show StableHlo.after hostOps0 _ _ = _
  simp only [hostOps0]
  after_results <;> rfl

theorem idx : ∀ t : Fin cfg0.N, t.val < 17 ∧ win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The array's row at row `p` of block `t`. -/
def row (t : Fin cfg0.N) (p : Fin 512) : Fin 8704 := ⟨t.val * 512 + p.val, by have := (idx t).1; omega⟩

variable (c : Dev nD) (t : Fin cfg0.N)

theorem blk0 (p : Fin 512) (l : Fin 1024) : iblk m c 0 t (ix2 p l) = a0 m c (ix2 (row t p) l) := by
  rw [row]; blk_ext [iblk, idx t]
theorem blk1 (l : Fin 1024) : iblk m c 1 t (ix2 0 l) = a1 m c (ix2 0 l) := by
  blk_ext [iblk, idx t]
theorem blk2 (p : Fin 1024) (l : Fin 4096) : iblk m c 2 t (ix2 p l) = packed (fun k => a2 m c (ix2 p k)) l := by
  have e : iblk m c 2 t (ix2 p l) = V m c main_v10 (ix2 p l) := by blk_ext [iblk, idx t]
  rw [e, entry_w, wide_apply]

theorem at_u (p : Fin 512) (k : Fin 1024) : k0_pay1 (iblk m c 0 t) (iblk m c 1 t) (ix2 p k) = normed (a0 m c) (a1 m c) (row t p) k := by
  pointwise [k0_pay1]
  simp only [blk0, blk1, normed, unit, Rms.inv, hid]
theorem at_proj (p : Fin 512) (l : Fin 4096) : k0_pay2 (iblk m c 0 t) (iblk m c 1 t) (iblk m c 2 t) (ix2 p l) = packed (proj (a0 m c) (a1 m c) (a2 m c) (row t p)) l := by
  rw [← packed_proj]
  simp only [← at_u, ← blk2 m c t]
  pointwise [k0_pay2]

theorem final_proj : (dats m 0 c).arrAt 3 cfg0.N = array fun r => packed (proj (a0 m c) (a1 m c) (a2 m c) r) := by
  refine (dats m 0 c).arrAt_eq_of_covers 3 _ (by decide +kernel) fun t hf y => ?_
  blk_simp
  rw [after0_3]
  obtain ⟨p, l, rfl⟩ := ix2_of (n := 512) (w := 4096) y
  have he : ((cfg0.win 3).blk t).view.emb (ix2 p l) = ix2 (row t p) l := by rw [row]; blk_ext [idx t]
  rw [he]
  unfold out0_3
  frame_out
  exact at_proj m c t p l
theorem final_u : (dats m 0 c).arrAt 4 cfg0.N = array (normed (a0 m c) (a1 m c)) := by
  refine (dats m 0 c).arrAt_eq_of_covers 4 _ (by decide +kernel) fun t hf y => ?_
  blk_simp
  rw [after0_4]
  obtain ⟨p, l, rfl⟩ := ix2_of (n := 512) (w := 1024) y
  have he : ((cfg0.win 4).blk t).view.emb (ix2 p l) = ix2 (row t p) l := by rw [row]; blk_ext [idx t]
  rw [he]
  unfold out0_4
  frame_out
  exact at_u m c t p l

end Call

/-! ## The reference -/

section Ref
variable (x0 : FVec Ideal S8704x1024 .f32) (x1 : FVec Ideal S1x1024 .f32) (x2 : FVec Ideal S1024x4008 .f32)

theorem ref_u_at (p : Fin 8704) (k : Fin 1024) : val_main_v11 (F := Ideal) x0 x1 (ix2 p k) = normed x0 x1 p k := by
  rw [normed, unit, ← Rms.rsqrt_meanSq]
  pointwise [val_main_v11, val_main_v10, val_main_v9, val_main_v8, val_main_v7, val_main_v6, val_main_v5, val_main_cst_1, val_main_v4, val_main_v3, val_main_cst_0, val_main_v2, val_main_v1, val_main_v0, val_main_cst, Rms.meanSq, hid]
theorem ref_u : val_main_v23 (F := Ideal) x0 x1 = array (normed x0 x1) := by
  funext y
  obtain ⟨p, l, rfl⟩ := ix2_of (n := 8704) (w := 1024) y
  exact ref_u_at x0 x1 p l
theorem ref_proj_at (p : Fin 8704) (j : Fin 4008) : val_main_v12 (F := Ideal) x0 x1 x2 (ix2 p j) = proj x0 x1 x2 p j := by
  simp only [proj, ← ref_u_at]
  pointwise [val_main_v12]
/-- The reference lays its product's columns out as the call does. -/
theorem ref_proj : val_main_v22 (F := Ideal) x0 x1 x2 = array fun r => packed (proj x0 x1 x2 r) := by
  funext y
  obtain ⟨p, l, rfl⟩ := ix2_of (n := 8704) (w := 4096) y
  rw [at_ix2]
  rw [show proj x0 x1 x2 p = fun k => val_main_v12 (F := Ideal) x0 x1 x2 (ix2 p k) from funext fun k => (ref_proj_at x0 x1 x2 p k).symm]
  exact wideRows_apply (val_main_v12 (F := Ideal) x0 x1 x2) p l

end Ref

/-- Over the extended reals the call's two results and the reference's are the same functions of the three arguments. -/
theorem algebraic : Cert.algebraic_InprojFwdIdeal_InprojFwdRefIdeal (hInprojFwdIdeal := Cert.InprojFwdIdeal.Gen.facts) (hInprojFwdRefIdeal := Cert.InprojFwdRefIdeal.Gen.facts) := by
  intro m g m' g' _ hag
  refine ⟨fun c => array fun r => packed (proj (a0 m c) (a1 m c) (a2 m c) r), fun c => array (normed (a0 m c) (a1 m c)), ?_, ?_⟩
  · refine (θ_run _ _ _).mono (fun _ h c => ?_) (Cert.InprojFwdIdeal.Value.run_blocks m g)
    obtain ⟨e0, e1, e⟩ := h c
    exact ⟨e0.trans (final_proj m c), e1.trans (final_u m c), e⟩
  · refine (θ_run _ _ _).mono (fun _ h c => ?_) (Cert.InprojFwdRefIdeal.Value.run m' g')
    obtain ⟨e0, e1, e⟩ := h c
    obtain ⟨q0, q1, q2⟩ := hag c
    rw [Cert.InprojFwdRefIdeal.Read.val_main_v22_eq, q0, q1, q2] at e0
    rw [Cert.InprojFwdRefIdeal.Read.val_main_v23_eq, q0, q1] at e1
    exact ⟨e0.trans (ref_proj _ _ _), e1.trans (ref_u _ _), e⟩

end Cert.InprojfClaim

end
-- ==== Proof.ScanfClaim.lean ====
/- The forward running sum of the log forget gates: what the call's launch leaves, what the reference computes, and that
   the two agree. -/
module

public import proofs.«01_k».proof.Defs
public import proofs.«01_k».proof.Proof.ScanValue
public import proofs.«01_k».proof.Proof.Gen.ScanFwdIdeal.Value
public import proofs.«01_k».proof.Proof.Gen.ScanFwdRefIdeal.Read
public import proofs.«01_k».proof.Proof.Gen.ScanFwdRefIdeal.Run
public import Idealize.ShloMosaic.Lib.Pipeline.ValueKit
public import Idealize.ShloMosaic.Lib.Claim

@[expose] public section

set_option maxRecDepth 16384

noncomputable section

namespace Cert.ScanfClaim

open Idealize.ShloMosaic Idealize.ShloMosaic.TcCoe Idealize.SL.Sem
open Idealize.ShloMosaic.Pipeline (Dat)
open Cert.ScanFwdIdeal Cert.ScanFwdIdeal.Gen
open Cert.ScanValue (lane clear clear_apply lanes cot pos pos_rows packRow packRow_apply lane_pack)

/-- One roll-and-add step of the kernel. -/
def step (w : BitVec 32) (x : FVec Ideal S32x2176 .f32) : FVec Ideal S32x2176 .f32 :=
  addf x (select (cmpi .sge lanes (broadcast S32x2176 w)) (dynamicRotate 1 w none x rotates_S32x2176_d1)
    (broadcast S32x2176 (Scalar.ofBits .f32 0x00000000#32)))

/-- `x` holds, up to each lane, the sum of the last `k` lanes of `g`. -/
def Holds (g : Fin 32 → ℕ → EReal) (k : ℕ) (x : FVec Ideal S32x2176 .f32) : Prop :=
  ∀ (r : Fin 32) (l : Fin 2176), x (ix2 r l) = ∑ j ∈ Finset.Ico (l.val + 1 - k) (l.val + 1), g r j

/-- One roll-and-add step: where `x` holds the sums of the last `k` lanes up to each lane, the step holds those of the
    last `2 k`. -/
theorem Holds.step {x : FVec Ideal S32x2176 .f32} {g : Fin 32 → ℕ → EReal} {k : ℕ} (hx : Holds g k x) (w : BitVec 32)
    (hw : w.toNat = k) (hk0 : 0 < k) (hk : k < 2176) : Holds g (2 * k) (step w x) := by
  intro r l
  unfold ScanfClaim.step lanes
  pointwise
  have hl := l.isLt
  have hwi : w.toInt = (w.toNat : Int) := BitVec.toInt_eq_toNat_of_lt (by omega)
  have hli : (BitVec.ofNat 32 l.val).toNat = l.val := by rw [BitVec.toNat_ofNat]; omega
  have hlti : (BitVec.ofNat 32 l.val).toInt = ((BitVec.ofNat 32 l.val).toNat : Int) := BitVec.toInt_eq_toNat_of_lt (by omega)
  rw [hx r l]
  show _ + (if (BitVec.ofBool (w.sle (BitVec.ofNat 32 l.val))) = 1 then _ else _) = _
  by_cases hc : k ≤ l.val
  · have : w.sle (BitVec.ofNat 32 l.val) = true := by
      rw [BitVec.sle, hlti, hwi, hli, hw]; simpa using by exact_mod_cast hc
    have e : (l.val + 2176 - w.toNat % 2176) % 2176 = l.val - k := by rw [hw]; omega
    rw [this, ← Finset.sum_Ico_consecutive _ (show l.val + 1 - 2 * k ≤ l.val + 1 - k by omega) (show l.val + 1 - k ≤ l.val + 1 by omega),
      add_comm]
    congr 1
    refine (if_pos (by decide)).trans ((congrArg (fun i => x (ix2 r i)) (Fin.ext e)).trans ((hx r ⟨l.val - k, by omega⟩).trans ?_))
    exact Finset.sum_congr (by show Finset.Ico (l.val - k + 1 - k) (l.val - k + 1) = _; congr 1 <;> omega) fun _ _ => rfl
  · have : w.sle (BitVec.ofNat 32 l.val) = false := by
      rw [BitVec.sle, hlti, hwi, hli, hw]; simp; omega
    rw [this, show l.val + 1 - 2 * k = l.val + 1 - k by omega]
    exact (congrArg (_ + ·) (if_neg (by decide))).trans (add_zero _)

/-- The call's body: clear the pad lanes, twelve doubling steps, clear. -/
theorem body_eq (x : Vec Ideal S32x2176 .f32) :
    k0_pay1 k0_pay2 (k0_pay5 lanes (k0_pay3 x) (k0_pay4 x)) (k0_pay6 lanes) (k0_pay7 lanes (k0_pay3 x) (k0_pay4 x))
      = clear (step 2048#32 (step 1024#32 (step 512#32 (step 256#32 (step 128#32 (step 64#32 (step 32#32
          (step 16#32 (step 8#32 (step 4#32 (step 2#32 (step 1#32 (clear (shapeCast S32x2176 x shapeCasts_S32x2176_S32x2176)))))))))))))) := by
  rfl

/-- What the body leaves, at an index: the pad lanes zero, elsewhere the sum of the lanes from the first to there. -/
theorem body_apply (x : Vec Ideal S32x2176 .f32) (r : Fin 32) (l : Fin 2176) :
    k0_pay1 k0_pay2 (k0_pay5 lanes (k0_pay3 x) (k0_pay4 x)) (k0_pay6 lanes) (k0_pay7 lanes (k0_pay3 x) (k0_pay4 x)) (ix2 r l)
      = if 16 ≤ l.val ∧ l.val < 128 then 0 else ∑ j ∈ Finset.range (l.val + 1), lane x r j := by
  rw [body_eq, clear_apply]
  have h0 : Holds (lane x) 1 (clear (shapeCast S32x2176 x shapeCasts_S32x2176_S32x2176)) := by
    intro r l
    rw [clear_apply, shapeCast_self, Nat.add_sub_cancel, Nat.Ico_succ_singleton, Finset.sum_singleton]
    unfold lane
    rw [dif_pos l.isLt]
  congr 1
  refine (((((((((((((h0.step 1#32 rfl (by omega) (by omega)).step 2#32 rfl (by omega) (by omega)).step 4#32 rfl
    (by omega) (by omega)).step 8#32 rfl (by omega) (by omega)).step 16#32 rfl (by omega) (by omega)).step 32#32
    rfl (by omega) (by omega)).step 64#32 rfl (by omega) (by omega)).step 128#32 rfl (by omega) (by omega)).step 256#32
    rfl (by omega) (by omega)).step 512#32 rfl (by omega) (by omega)).step 1024#32 rfl (by omega) (by omega)).step
    2048#32 rfl (by omega) (by omega)) r l).trans ?_
  have := l.isLt
  rw [show l.val + 1 - 2 * (2 * (2 * (2 * (2 * (2 * (2 * (2 * (2 * (2 * (2 * (2 * 1))))))))))) = 0 by omega, Finset.range_eq_Ico]

/-- The sum of the packed lanes up to a lane is the sum of the values up to the lane's position. -/
theorem sum_pack (g : ℕ → EReal) (l : ℕ) (hp : ¬(16 ≤ l ∧ l < 128)) :
    ∑ j ∈ Finset.range (l + 1), (if j < 16 then g j else if j < 128 then 0 else g (j - 112))
      = ∑ j ∈ Finset.range ((if l < 16 then l else l - 112) + 1), g j := by
  by_cases h1 : l < 16
  · rw [if_pos h1]
    exact Finset.sum_congr rfl fun j hj => if_pos (by have := Finset.mem_range.mp hj; omega)
  · rw [if_neg h1, Finset.range_eq_Ico, Finset.range_eq_Ico, ← Finset.sum_Ico_consecutive _ (Nat.zero_le 16) (show 16 ≤ l + 1 by omega),
      ← Finset.sum_Ico_consecutive _ (show 16 ≤ 128 by omega) (show 128 ≤ l + 1 by omega),
      ← Finset.sum_Ico_consecutive g (Nat.zero_le 16) (show 16 ≤ l - 112 + 1 by omega)]
    refine congrArg₂ (· + ·) ?_ ?_
    · exact Finset.sum_congr rfl fun j hj => if_pos (Finset.mem_Ico.mp hj).2
    · rw [show ∑ j ∈ Finset.Ico 16 128, (if j < 16 then g j else if j < 128 then 0 else g (j - 112)) = 0 from
        Finset.sum_eq_zero fun j hj => by
          have := Finset.mem_Ico.mp hj
          rw [if_neg (by omega), if_pos (by omega)], zero_add, show 128 = 16 + 112 from rfl,
        show l + 1 = l - 112 + 1 + 112 by omega, ← Finset.sum_Ico_add' _ 16 (l - 112 + 1) 112]
      refine Finset.sum_congr (by simp) fun j hj => ?_
      have := (Finset.mem_Ico.mp hj).1
      rw [if_neg (by omega), if_neg (by omega), Nat.add_sub_cancel]

/-- The result: the pad lanes zero, elsewhere the sum of the log gates from the first position to the lane's. -/
def G (x : Vec Ideal S4x8x2064 .f32) : Vec Ideal S32x2176 .f32 := fun y =>
  if 16 ≤ (y 1).val ∧ (y 1).val < 128 then 0
  else ∑ j ∈ Finset.range ((if (y 1).val < 16 then (y 1).val else (y 1).val - 112) + 1), cot x (y 0) j

variable (m : (ℓ : Loc nD τ sig) → Buf (Elt Ideal) ℓ)

/-- The array the launch reads: the log gates packed into rows of lanes. -/
theorem entry (c : Dev nD) : V m c main_v4
    = packRow (shapeCast S32x2064 (m ((c : Thread nD τ).loc main_arg0) : Vec Ideal S4x8x2064 .f32) shapeCasts_S4x8x2064_S32x2064) := by
  show StableHlo.after hostOps0 _ _ = _
  simp only [hostOps0]
  after_results <;> rfl

/-- The input window's one block starts at the array's origin. -/
theorem idx : win0_0.index t0_0 = ![0, 0] := by decide +kernel

/-- The one block the launch reads is its whole array. -/
theorem block (c : Dev nD) : iblk m c 0 t0_0 = V m c main_v4 := by
  blk_ext! [iblk, idx]

/-- The result array after the launch. -/
theorem final (c : Dev nD) : (dats m 0 c).arrAt 1 cfg0.N = G (m ((c : Thread nD τ).loc main_arg0)) := by
  refine (dats m 0 c).arrAt_eq_of_after_last 1 t0_0 (by decide +kernel) _ fun y => ?_
  blk_simp
  rw [after0_1]
  frame_out
  unfold k0_pay8 k0_pay9 k0_pay10
  frame_out
  rw [block m c, entry m c]
  obtain ⟨r, l, rfl⟩ : ∃ (r : Fin 32) (l : Fin 2176), y = ix2 r l := ⟨y 0, y 1, funext fun a => by fin_cases a <;> rfl⟩
  refine (body_apply _ r l).trans ?_
  show _ = if 16 ≤ l.val ∧ l.val < 128 then 0 else _
  by_cases hp : 16 ≤ l.val ∧ l.val < 128
  · rw [if_pos hp, if_pos hp]
  · rw [if_neg hp, if_neg hp]
    exact (Finset.sum_congr rfl fun j _ => lane_pack _ r j).trans (sum_pack _ l.val hp)

/-- The reference's running sum at an index. -/
theorem ref_sum (x : Vec Ideal S4x8x2064 .f32) (a : Fin 4) (b : Fin 8) (l : Fin 2064) :
    Cert.ScanFwdRefIdeal.Read.val_main_v0 (F := Ideal) x (ix3 a b l)
      = ∑ k : Fin 2064, if hk : 2063 ≤ l.val + k.val ∧ l.val + k.val - 2063 < 2064 then x (ix3 a b ⟨l.val + k.val - 2063, hk.2⟩) else 0 := by
  have hv : Cert.ScanFwdRefIdeal.Read.val_main_call0_call0_v0 (F := Ideal) (Shape.Idx.first Cert.ScanFwdRefIdeal.Gen.h_S_) = (0 : EReal) := by
    rw [Cert.ScanFwdRefIdeal.Read.val_main_call0_call0_v0_apply, Cert.ScanFwdRefIdeal.Read.val_main_call0_call0_cst_apply]
    pointwise
  have h := Cert.Scan.window_apply (P := 2063) (Q := 0) x
    (Cert.ScanFwdRefIdeal.Read.val_main_call0_call0_v0 (F := Ideal) (Shape.Idx.first Cert.ScanFwdRefIdeal.Gen.h_S_))
    Cert.ScanFwdRefIdeal.Gen.reduceWindows_S4x8x2064_S4x8x2064_w1s1p0_0_w1s1p0_0_w2064s1p2063_0 a b l
  unfold Cert.ScanFwdRefIdeal.Read.val_main_v0 Host.reduceWindowAdd
  refine Eq.trans ?_ (h.trans ?_)
  · with_reducible_and_instances rfl
  rw [hv, zero_add]

/-- The window's positions that meet the array are the positions up to the element's own. -/
theorem sum_window (g : ℕ → EReal) (q : ℕ) (hq : q < 2064) :
    ∑ k ∈ Finset.range 2064, (if 2063 ≤ q + k then g (q + k - 2063) else 0) = ∑ j ∈ Finset.range (q + 1), g j := by
  rw [Finset.range_eq_Ico, ← Finset.sum_Ico_consecutive _ (Nat.zero_le (2063 - q)) (show 2063 - q ≤ 2064 by omega),
    Finset.sum_eq_zero fun j hj => if_neg (by have := Finset.mem_Ico.mp hj; omega), zero_add, Finset.sum_Ico_eq_sum_range,
    show 2064 - (2063 - q) = q + 1 by omega]
  exact Finset.sum_congr rfl fun j _ => (if_pos (by omega)).trans (congrArg g (by omega))

/-- What the reference computes is the same function of the log gates. -/
theorem ref_eq (x : Vec Ideal S4x8x2064 .f32) : Cert.ScanFwdRefIdeal.Read.val_main_v5 (F := Ideal) x = G x := by
  have e : Cert.ScanFwdRefIdeal.Read.val_main_v5 (F := Ideal) x
      = packRow (shapeCast S32x2064 (Cert.ScanFwdRefIdeal.Read.val_main_v0 (F := Ideal) x) shapeCasts_S4x8x2064_S32x2064) := rfl
  rw [e]
  funext y
  obtain ⟨r, l, rfl⟩ : ∃ (r : Fin 32) (l : Fin 2176), y = ix2 r l := ⟨y 0, y 1, funext fun a => by fin_cases a <;> rfl⟩
  rw [packRow_apply]
  show _ = if 16 ≤ l.val ∧ l.val < 128 then 0 else _
  by_cases hp : 16 ≤ l.val ∧ l.val < 128
  · rw [if_pos hp, if_pos hp]
  · rw [if_neg hp, if_neg hp, pos_rows]
    have hl := l.isLt
    show _ = ∑ j ∈ Finset.range ((if l.val < 16 then l.val else l.val - 112) + 1), cot x r j
    generalize hq : (if l.val < 16 then l.val else l.val - 112) = q
    have hq' : q < 2064 := by rw [← hq]; split <;> omega
    refine (dif_pos hq').trans ((ref_sum x _ _ ⟨q, hq'⟩).trans ?_)
    rw [← sum_window (cot x r) q hq', ← Fin.sum_univ_eq_sum_range (fun k => if 2063 ≤ q + k then cot x r (q + k - 2063) else 0) 2064]
    refine Finset.sum_congr rfl fun k _ => ?_
    show (if hk : 2063 ≤ q + k.val ∧ q + k.val - 2063 < 2064 then _ else _) = _
    have hk := k.isLt
    by_cases h : 2063 ≤ q + k.val
    · have h' : q + k.val - 2063 < 2064 := by omega
      exact (dif_pos ⟨h, h'⟩).trans (Eq.trans (by unfold cot; rw [dif_pos h']) (if_pos h).symm)
    · exact (dif_neg fun h' => h h'.1).trans (if_neg h).symm

/-- Over the extended reals the call's result and the reference's are one function of the log gates. -/
theorem algebraic : Cert.algebraic_ScanFwdIdeal_ScanFwdRefIdeal (hScanFwdIdeal := Cert.ScanFwdIdeal.Gen.facts)
    (hScanFwdRefIdeal := Cert.ScanFwdRefIdeal.Gen.facts) := by
  intro m g m' g' _ hag
  refine ⟨fun c => G (m ((c.tc : Thread Cert.ScanFwdIdeal.nD Cert.ScanFwdIdeal.τ).loc Cert.ScanFwdIdeal.main_arg0)),
    (θ_run _ _ _).mono (fun _ h c => ⟨(h c).1.trans (final m c), (h c).2⟩) (Cert.ScanFwdIdeal.Value.run_blocks m g),
    (θ_run _ _ _).mono (fun _ h c => ⟨(h c).1.trans ((ref_eq _).trans (congrArg G (hag c))), (h c).2⟩)
      (Cert.ScanFwdRefIdeal.Value.run m' g')⟩

end Cert.ScanfClaim

end
-- ==== Proof.WgradClaim.lean ====
/- A weight's gradient, the product of the saved activations with the cotangent: what the call's launch leaves, what the
   reference computes, and that the two agree. -/
module

public import proofs.«01_k».proof.Defs
public import proofs.«01_k».proof.Proof.Halves
public import proofs.«01_k».proof.Proof.Gen.WgradIdeal.Value
public import proofs.«01_k».proof.Proof.Gen.WgradRefIdeal.Read
public import proofs.«01_k».proof.Proof.Gen.WgradRefIdeal.Run
public import Idealize.ShloMosaic.Lib.Pipeline.ValueKit
public import Idealize.ShloMosaic.Lib.Claim

@[expose] public section

set_option maxRecDepth 16384

noncomputable section

namespace Cert.WgradClaim

open Idealize.ShloMosaic Idealize.ShloMosaic.TcCoe Idealize.SL.Sem Cert.WgradIdeal Cert.WgradIdeal.Gen Cert.Halves
open Cert.WgradRefIdeal.Read

/-- Every index of a rank-3 array is given by its three coordinates. -/
theorem ix3_of {n p w : ℕ} (y : (⟨3, ![n, p, w]⟩ : Shape).Idx) : ∃ (a : Fin n) (b : Fin p) (l : Fin w), y = ix3 a b l :=
  ⟨y 0, y 1, y 2, funext fun a => by fin_cases a <;> rfl⟩

section Slabs
variable {φ : EltTy} {n p w c : ℕ} {inb : ∀ a, (![c, 0, 0] : Fin 3 → ℕ) a + (![1, p, w] : Fin 3 → ℕ) a ≤ (![n, p, w] : Fin 3 → ℕ) a}
variable {d : (⟨3, ![1, p, w]⟩ : Shape).Idx → Elt Ideal φ} {L : List (View.Piece (Elt Ideal) (⟨3, ![n, p, w]⟩ : Shape) φ)} (i : Fin p) (j : Fin w)

/-- In the slab last written the buffer holds what was written. -/
theorem slab_hit {s : Fin n} (h : s.val = c) :
    View.canon (⟨Rect.unit ![c, 0, 0] ![1, p, w] inb, d⟩ :: L) (ix3 s i j) = d (ix3 0 i j) := by
  have e : (ix3 s i j : (⟨3, ![n, p, w]⟩ : Shape).Idx) = (Rect.unit ![c, 0, 0] ![1, p, w] inb : Rect (⟨3, ![n, p, w]⟩ : Shape)).emb (ix3 0 i j) := by
    funext b; apply Fin.ext
    match b with
    | ⟨0, _⟩ => show (s : ℕ) = c + 1 * 0; omega
    | ⟨1, _⟩ => show (i : ℕ) = 0 + 1 * (i : ℕ); omega
    | ⟨2, _⟩ => show (j : ℕ) = 0 + 1 * (j : ℕ); omega
  exact (congrArg (View.canon _) e).trans (View.canon_cons_emb _ _ _ _)

/-- In another slab it holds what was there. -/
theorem slab_skip {s : Fin n} (h : s.val ≠ c) :
    View.canon (⟨Rect.unit ![c, 0, 0] ![1, p, w] inb, d⟩ :: L) (ix3 s i j) = View.canon L (ix3 s i j) := by
  refine View.canon_cons_of_not_mem _ _ fun hm => ?_
  obtain ⟨i', hi', he'⟩ := (LoadRect.mem_set _).mp hm (0 : Fin 3)
  have hi' : i' < 1 := hi'
  have he' : (s : ℕ) = c + 1 * i' := he'
  omega

end Slabs

/-- The weight's gradient, its columns in four groups of 1408: entry `(s, i, j)` sums over the tokens the activation `i`
    times the cotangent at column `1408 s + j`. -/
def G (u : FVec Ideal S8704x1024 .f32) (d : FVec Ideal S8704x5632 .f32) : FVec Ideal S4x1024x1408 .bf16 := fun y =>
  ∑ r : Fin 8704, u (ix2 r (y 1)) * d (ix2 r ⟨1408 * (y 0).val + (y 2).val, by
    have h0 : (y 0).val < 4 := (y 0).isLt
    have h2 : (y 2).val < 1408 := (y 2).isLt
    omega⟩)

section Call
variable (m : (ℓ : Loc nD τ sig) → Buf (Elt Ideal) ℓ)

/-- The two arguments. -/
abbrev a0 (c : Dev nD) : FVec Ideal S8704x1024 .f32 := m ((c : Thread nD τ).loc main_arg0)
abbrev a1 (c : Dev nD) : FVec Ideal S8704x5632 .f32 := m ((c : Thread nD τ).loc main_arg1)

theorem idx : ∀ t : Fin cfg0.N, t.val < 34 ∧ win0_0.index t = ![t.val % 17, 0] ∧ win0_1.index t = ![t.val % 17, t.val / 17] ∧ win0_2.index t = ![t.val / 17, 0, 0] :=
  (by decide +kernel : ∀ t : Fin grid0.N, _)

/-- The token at row `p` of block `t`. -/
def row (t : Fin cfg0.N) (p : Fin 512) : Fin 8704 := ⟨t.val % 17 * 512 + p.val, by have := (idx t).1; omega⟩
/-- The cotangent's column at column `j` of block `t`. -/
def col (t : Fin cfg0.N) (j : Fin 2816) : Fin 5632 := ⟨t.val / 17 * 2816 + j.val, by have := (idx t).1; omega⟩

variable (c : Dev nD) (t : Fin cfg0.N)

theorem blk0 (p : Fin 512) (l : Fin 1024) : iblk m c 0 t (ix2 p l) = a0 m c (ix2 (row t p) l) := by
  have e : iblk m c 0 t (ix2 p l) = V m c main_v0 (ix2 (row t p) l) := by rw [row]; blk_ext [iblk, idx t]
  rw [e]; entry_read; rfl
theorem blk1 (p : Fin 512) (l : Fin 2816) : iblk m c 1 t (ix2 p l) = a1 m c (ix2 (row t p) (col t l)) := by
  have e : iblk m c 1 t (ix2 p l) = V m c main_v1 (ix2 (row t p) (col t l)) := by rw [row, col]; blk_ext [iblk, idx t]
  rw [e]; entry_read; rfl

/-- One grid point's part of the product. -/
def part (y : S1024x2816.Idx) : EReal := ∑ p, a0 m c (ix2 (row t p) (y 0)) * a1 m c (ix2 (row t p) (col t (y 1)))

theorem at_acc (x : FVec Ideal S1024x2816 .f32) (y : S1024x2816.Idx) : k0_pay2 x (iblk m c 0 t) (iblk m c 1 t) y = x y + part m c t y := by
  obtain ⟨p, l, rfl⟩ := ix2_of (n := 1024) (w := 2816) y
  pointwise [k0_pay2]
  simp only [blk0, blk1, part]
  rfl

theorem acc_first (h : t.val % 17 = 0) (y : S1024x2816.Idx) : (outsAt0 m c t.val t.isLt).2 y = 0 + part m c t y := by
  rw [outsAt0_A m c t h (by omega)]
  frame_out
  refine (at_acc m c t _ y).trans (congrArg (· + _) ?_)
  pointwise [k0_pay1]

theorem acc_next (h : ¬ t.val % 17 = 0) (y : S1024x2816.Idx) : (outsAt0 m c t.val t.isLt).2 y
    = (outsAt0 m c (t.val - 1) (Nat.lt_of_le_of_lt (Nat.sub_le _ _) t.isLt)).2 y + part m c t y := by
  by_cases h1 : t.val % 17 = 16
  · rw [outsAt0_C m c t h h1]
    frame_out
    rw [(Memref.isWhole_whole _).read_unread]
    exact at_acc m c t _ y
  · rw [outsAt0_B m c t h h1]
    frame_out
    rw [(Memref.isWhole_whole _).read_unread]
    exact at_acc m c t _ y

/-- The last point of a run writes the accumulated product back, its columns in two groups. -/
theorem left (h : t.val % 17 = 16) (s : Fin 2) (i : Fin 1024) (j : Fin 1408) : (outsAt0 m c t.val t.isLt).1 (ix3 s i j)
    = (outsAt0 m c t.val t.isLt).2 (ix2 i ⟨1408 * s.val + j.val, by omega⟩) := by
  rw [outsAt0_C m c t (by omega) h]
  frame_out
  generalize k0_pay2 _ (iblk m c 0 t) (iblk m c 1 t) = x
  match s with
  | 0 =>
    refine (slab_skip (n := 2) (p := 1024) (w := 1408) (c := 1) i j (s := 0) Nat.zero_ne_one).trans
      ((slab_hit (n := 2) (p := 1024) (w := 1408) (c := 0) i j (s := 0) rfl).trans ?_)
    pointwise [k0_pay4, k0_pay3]
  | 1 =>
    refine (slab_hit (n := 2) (p := 1024) (w := 1408) (c := 1) i j (s := 1) rfl).trans ?_
    pointwise [k0_pay5, k0_pay3]

/-- The result array. -/
theorem final : (dats m 0 c).arrAt 2 cfg0.N = G (a0 m c) (a1 m c) := by
  refine (dats m 0 c).arrAt_eq_of_covers 2 _ (by decide +kernel) fun t hf y => ?_
  blk_simp
  rw [after0_2]
  obtain ⟨s, i, j, rfl⟩ := ix3_of (n := 2) (p := 1024) (w := 1408) y
  have ht := (idx t).1
  have h16 := (flush0_2 t).mp hf
  have he : ((cfg0.win 2).blk t).view.emb (ix3 s i j) = ix3 ⟨t.val / 17 * 2 + s.val, by omega⟩ i j := by blk_ext [idx t]
  rw [he, left m c t h16]
  have hs := Pipeline.eq_sum_fin_of_reset_step_apply_of_flush (M := EReal) (fun n h y => (outsAt0 m c n h).2 y) 17 (fun _ => 0) (part m c)
    (acc_first m c) (acc_next m c) t h16 (ix2 i ⟨1408 * s.val + j.val, by omega⟩)
  refine hs.trans ((zero_add _).trans ?_)
  refine Fin.sum_mul_add_congr fun q k hl => ?_
  unfold row col
  have er : (17 * (t.val / 17) + q.val) % 17 = q.val := by omega
  have ec : (17 * (t.val / 17) + q.val) / 17 = t.val / 17 := by omega
  simp only [er, ec]
  congr 3
  exact Fin.ext (by show t.val / 17 * 2816 + (1408 * s.val + j.val) = 1408 * (t.val / 17 * 2 + s.val) + j.val; omega)

end Call

/-- What the reference computes. -/
theorem ref (u : FVec Ideal S8704x1024 .f32) (d : FVec Ideal S8704x5632 .f32) : val_main_v6 (F := Ideal) u d = G u d := by
  funext y
  obtain ⟨s, i, j, rfl⟩ := ix3_of (n := 4) (p := 1024) (w := 1408) y
  pointwise [val_main_v6, val_main_v5, val_main_v4, val_main_v3, val_main_v2, G]
  exact Finset.sum_congr rfl fun r _ => (mul_comm _ _).trans (congrArg (fun l => u (ix2 r i) * d (ix2 r l)) (Fin.ext (by show s.val * 1408 + j.val = 1408 * s.val + j.val; omega)))

/-- Over the extended reals the call's result and the reference's are one function of the two arguments. -/
theorem algebraic : Cert.algebraic_WgradIdeal_WgradRefIdeal (hWgradIdeal := Cert.WgradIdeal.Gen.facts) (hWgradRefIdeal := Cert.WgradRefIdeal.Gen.facts) := by
  intro m g m' g' _ hag
  refine ⟨fun c => G (a0 m c) (a1 m c),
    (θ_run _ _ _).mono (fun _ h c => ⟨(h c).1.trans (final m c), (h c).2⟩) (Cert.WgradIdeal.Value.run_blocks m g), ?_⟩
  refine (θ_run _ _ _).mono (fun _ h c => ?_) (Cert.WgradRefIdeal.Value.run m' g')
  obtain ⟨e0, e⟩ := h c
  obtain ⟨q0, q1⟩ := hag c
  rw [Cert.WgradRefIdeal.Read.val_main_v6_eq, q0, q1] at e0
  exact ⟨e0.trans (ref _ _), e⟩

end Cert.WgradClaim

end
-- ==== Proof.PrepfMath.lean ====
/- The call that prepares both attentions' operands: what its results are of one row of its projection, and the values its
   kernel stores. -/
module

public import proofs.«01_k».proof.Defs
public import proofs.«01_k».proof.Proof.Rms
public import proofs.«01_k».proof.Proof.Halves
public import proofs.«01_k».proof.Proof.Gen.PrepFwdIdeal.Value
public import Idealize.ShloMosaic.Lib.Pipeline.ValueKit
public import Idealize.ShloMosaic.Lib.Claim

@[expose] public section

set_option maxRecDepth 16384

noncomputable section

namespace Cert.PrepfMath

open Idealize.ShloMosaic Idealize.ShloMosaic.TcCoe Idealize.SL.Sem Cert.PrepFwdIdeal Cert.PrepFwdIdeal.Gen Cert.Halves
open Cert.Rms (IsReal)
open scoped BigOperators

section Math

/-- A padded row: the token's row, or zeros at the 112 empty positions of its sequence. -/
def row (p : FVec Ideal S4x2064x1960 .f32) (r : Fin 8704) (j : Fin 1960) : EReal :=
  if h : r.val % 2176 < 16 then p (ix3 ⟨r.val / 2176, by omega⟩ ⟨r.val % 2176, by omega⟩ j)
  else if h' : r.val % 2176 - 16 < 112 then 0
  else p (ix3 ⟨r.val / 2176, by omega⟩ ⟨16 + (r.val % 2176 - 16 - 112), by omega⟩ j)

/-- A function of a row that is zero on the zero row is taken at tokens alone. -/
theorem row_ifs {p : FVec Ideal S4x2064x1960 .f32} {r : Fin 8704} (Φ : (Fin 1960 → EReal) → EReal) (h0 : Φ (fun _ => 0) = 0) {A B : EReal}
    (hA : ∀ h : r.val % 2176 < 16, A = Φ fun j => p (ix3 ⟨r.val / 2176, by omega⟩ ⟨r.val % 2176, by omega⟩ j))
    (hB : ∀ (_ : ¬ r.val % 2176 < 16) (_ : ¬ r.val % 2176 - 16 < 112), B = Φ fun j => p (ix3 ⟨r.val / 2176, by omega⟩ ⟨16 + (r.val % 2176 - 16 - 112), by omega⟩ j)) :
    (if r.val % 2176 < 16 then A else if r.val % 2176 - 16 < 112 then 0 else B) = Φ (row p r) := by
  unfold row
  split_ifs with h h'
  · exact hA h
  · exact h0.symm
  · exact hB h h'

/-- The call's order of a row's columns, with the empty ones. -/
def lay (f : Fin 1960 → EReal) (l : Fin 2048) : EReal :=
  if h : l.val < 1536 then f ⟨l.val, by omega⟩ else if h : l.val - 1536 < 256 then f ⟨1544 + (l.val - 1536), by omega⟩
  else if h : l.val - 1536 - 256 < 128 then f ⟨1800 + (l.val - 1536 - 256), by omega⟩ else if h : l.val - 1536 - 256 - 128 < 64 then 0
  else if h : l.val - 1536 - 256 - 128 - 64 < 32 then f ⟨1928 + (l.val - 1536 - 256 - 128 - 64), by omega⟩
  else if h : l.val - 1536 - 256 - 128 - 64 - 32 < 8 then f ⟨1536 + (l.val - 1536 - 256 - 128 - 64 - 32), by omega⟩ else 0

/-- The norm of one head's 64 columns, times its gain. -/
def headNorm (o : ℕ) (ho : o + 512 ≤ 1960) (g : FVec Ideal S1x64 .f32) (l : Fin 512) (f : Fin 1960 → EReal) : EReal :=
  f ⟨o + l.val, by omega⟩ * Ideal.rsqrt ((∑ d : Fin 64, f ⟨o + (64 * (l.val / 64) + d.val), by omega⟩ * f ⟨o + (64 * (l.val / 64) + d.val), by omega⟩) * Ideal.ofBits .f32 0x3C800000#32
    + Ideal.ofBits .f32 0x358637BD#32) * g (ix2 0 ⟨l.val % 64, by omega⟩)

/-- The norm of the 128 columns of the low-rank keys and values, times its gain. -/
def lowNorm (g : FVec Ideal S1x128 .f32) (f : Fin 1960 → EReal) (k : Fin 128) : EReal :=
  f ⟨1800 + k.val, by omega⟩ * Ideal.rsqrt ((∑ d : Fin 128, f ⟨1800 + d.val, by omega⟩ * f ⟨1800 + d.val, by omega⟩) * Ideal.ofBits .f32 0x3C000000#32
    + Ideal.ofBits .f32 0x358637BD#32) * g (ix2 0 k)

/-- The values of the latent attention. -/
def value (g : FVec Ideal S1x128 .f32) (w : FVec Ideal S128x1024 .f32) (l : Fin 512) (f : Fin 1960 → EReal) : EReal :=
  ∑ k, lowNorm g f k * w (ix2 k ⟨l.val / 64 * 128 + (64 + l.val % 64), by omega⟩)

/-- The log forget gate of a logit. -/
def logGate (z : EReal) : EReal := min z 0 - Ideal.log (1 + Ideal.exp (0 - max z (-z)))

/-- The log forget gate as the negative of a softplus. -/
theorem logGate_eq (z : EReal) : logGate z = -(max (-z) 0 + Ideal.log (1 + Ideal.exp (-(max (-z - 0) (-(-z - 0)))))) := by
  have hm : max (-z - 0) (-(-z - 0)) = max z (-z) := by rw [sub_zero, neg_neg, max_comm]
  have hr : ∃ a : ℝ, Ideal.log (1 + Ideal.exp (-(max z (-z)))) = a := by
    have key : ∀ r : ℝ, ∃ a : ℝ, Ideal.log (1 + Ideal.exp (r : EReal)) = a := fun r => ⟨Real.log (1 + Real.exp r), by
      show Ideal.log (1 + (Real.exp r : EReal)) = _
      rw [show (1 : EReal) + (Real.exp r : EReal) = ((1 + Real.exp r : ℝ) : EReal) by push_cast; rfl]
      exact if_neg (not_le.mpr (by positivity))⟩
    have bot : ∃ a : ℝ, Ideal.log (1 + Ideal.exp (⊥ : EReal)) = a := ⟨0, by
      show Ideal.log (1 + 0) = _
      rw [add_zero, show (1 : EReal) = ((1 : ℝ) : EReal) from rfl]
      exact (if_neg (not_le.mpr one_pos)).trans (by rw [Real.log_one])⟩
    induction z with
    | bot => simpa using bot
    | top => simpa using bot
    | coe r => rw [← EReal.coe_neg, show max (r : EReal) ((-r : ℝ) : EReal) = ((max r (-r) : ℝ) : EReal) from (EReal.coe_strictMono.monotone.map_max).symm, ← EReal.coe_neg]; exact key _
  obtain ⟨a, ha⟩ := hr
  rw [logGate, hm, zero_sub, ha, EReal.neg_add (Or.inr (EReal.coe_ne_top a)) (Or.inr (EReal.coe_ne_bot a)), sub_eq_add_neg, sub_eq_add_neg]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The split of a square into three parts adds nothing to its sum. -/
theorem split_sum {x : Fin 128 → EReal} (hx : ∀ k, IsReal (x k)) (o : Fin 128 → EReal) :
    ∑ k, x k * x k * o k + ∑ k, (x k * x k - x k * x k) * o k + ∑ k, (x k * x k - x k * x k - (x k * x k - x k * x k)) * o k = ∑ k, x k * x k * o k := by
  choose a ha using hx
  obtain rfl : x = fun k => (a k : EReal) := funext ha
  simp [← EReal.coe_mul, ← EReal.coe_sub]

/-- The sum over the 64 lanes of one half. -/
theorem sum_half (F : Fin 128 → EReal) (j : Fin 128) : (∑ k : Fin 128, if k.val / 64 = j.val / 64 then F k else 0) = ∑ d : Fin 64, F ⟨64 * (j.val / 64) + d.val, by omega⟩ := by
  rw [← Finset.sum_filter]
  refine (Finset.sum_bij (fun (d : Fin 64) _ => (⟨64 * (j.val / 64) + d.val, by omega⟩ : Fin 128)) (fun d _ => ?_) (fun a _ b _ e => ?_) (fun k hk => ?_) fun _ _ => rfl).symm
  · simp only [Finset.mem_filter, Finset.mem_univ, true_and]; omega
  · have := congrArg Fin.val e
    exact Fin.ext (by simpa using this)
  · simp only [Finset.mem_filter, Finset.mem_univ, true_and] at hk
    exact ⟨⟨k.val % 64, by omega⟩, Finset.mem_univ _, Fin.ext (by show 64 * (j.val / 64) + k.val % 64 = k.val; omega)⟩

end Math

/-! ## The call -/

/-- The matrix of halves. -/
theorem half_mat (k j : Fin 128) : k0_pay2 (F := Ideal) (ix2 k j) = if k.val / 64 = j.val / 64 then 1 else 0 := by
  pointwise [k0_pay2]
  have shr : ∀ k : Fin 128, IntOp.shrui .vector (BitVec.ofNat 32 k.val) 6#32 = BitVec.ofNat 32 (k.val / 64) := by decide +kernel
  rw [shr, shr, WordCmp.cmpi_eq_eq_toNat, BitVec.toNat_ofNat, BitVec.toNat_ofNat, Nat.mod_eq_of_lt (by omega), Nat.mod_eq_of_lt (by omega)]
  split_ifs with h <;> simp [h, Scalar.select]

/-- The matrix of ones. -/
theorem one_mat (k j : Fin 128) : k0_pay3 (F := Ideal) (ix2 k j) = 1 := by
  pointwise [k0_pay3]
  have shr : ∀ k : Fin 128, IntOp.shrui .vector (BitVec.ofNat 32 k.val) 7#32 = 0#32 := by decide +kernel
  rw [shr, shr]
  rfl

/-- The norm of one head pair's lanes that the kernel stores. -/
theorem norm_at (x : FVec Ideal S256x128 .f32) (g : FVec Ideal S1x128 .f32) (p : Fin 256) (j : Fin 128) (hx : ∀ k, IsReal (x (ix2 p k))) :
    k0_pay13 (k0_pay2 (F := Ideal)) x g (ix2 p j) = x (ix2 p j) * Ideal.rsqrt ((∑ d : Fin 64, x (ix2 p ⟨64 * (j.val / 64) + d.val, by omega⟩) * x (ix2 p ⟨64 * (j.val / 64) + d.val, by omega⟩))
      * Ideal.ofBits .f32 0x3C800000#32 + Ideal.ofBits .f32 0x358637BD#32) * g (ix2 0 j) := by
  have e : k0_pay13 (k0_pay2 (F := Ideal)) x g (ix2 p j) = x (ix2 p j) * Ideal.rsqrt ((∑ k, x (ix2 p k) * x (ix2 p k) * k0_pay2 (F := Ideal) (ix2 k j)
      + ∑ k, (x (ix2 p k) * x (ix2 p k) - x (ix2 p k) * x (ix2 p k)) * k0_pay2 (F := Ideal) (ix2 k j)
      + ∑ k, (x (ix2 p k) * x (ix2 p k) - x (ix2 p k) * x (ix2 p k) - (x (ix2 p k) * x (ix2 p k) - x (ix2 p k) * x (ix2 p k))) * k0_pay2 (F := Ideal) (ix2 k j))
      * Ideal.ofBits .f32 0x3C800000#32 + Ideal.ofBits .f32 0x358637BD#32) * g (ix2 0 j) := by pointwise [k0_pay13]
  rw [e, split_sum hx fun k => k0_pay2 (F := Ideal) (ix2 k j)]
  refine congrArg (fun z => x (ix2 p j) * Ideal.rsqrt (z * Ideal.ofBits .f32 0x3C800000#32 + Ideal.ofBits .f32 0x358637BD#32) * g (ix2 0 j)) ?_
  rw [← sum_half (fun k => x (ix2 p k) * x (ix2 p k)) j]
  exact Finset.sum_congr rfl fun k _ => by rw [half_mat]; split_ifs <;> simp

/-- The first pair of query heads is normalised as the second is. -/
theorem pay11 (o : FVec Ideal S128x128 .bf16) (x : FVec Ideal S256x128 .f32) (g : FVec Ideal S1x128 .f32) :
    k0_pay11 o (k0_pay5 x) g (k0_pay7 x) (k0_pay9 x) (k0_pay10 x) = k0_pay13 o x g := rfl
/-- The fourth pair of query heads is normalised as the second is. -/
theorem pay27 (o : FVec Ideal S128x128 .bf16) (x : FVec Ideal S256x128 .f32) (g : FVec Ideal S1x128 .f32) :
    k0_pay27 (k0_pay25 x) g (k0_pay26 o x) = k0_pay13 o x g := rfl
/-- The third pair of query heads is normalised as the second is. -/
theorem pay22 (o : FVec Ideal S128x128 .bf16) (x : FVec Ideal S256x128 .f32) (g : FVec Ideal S1x128 .f32) :
    k0_pay22 o x g = k0_pay13 o x g := rfl
/-- The fourth pair of key heads is normalised as the second pair of query heads is. -/
theorem pay28 (o : FVec Ideal S128x128 .bf16) (x : FVec Ideal S256x128 .f32) (g : FVec Ideal S1x128 .f32) :
    k0_pay28 o x g = k0_pay13 o x g := rfl
/-- The third pair of key heads is normalised as the second pair of query heads is. -/
theorem pay24 (o : FVec Ideal S128x128 .bf16) (x : FVec Ideal S256x128 .f32) (g : FVec Ideal S1x128 .f32) :
    k0_pay24 o (k0_pay23 x) g = k0_pay13 o x g := rfl
/-- The second pair of key heads is normalised as the second pair of query heads is. -/
theorem pay21 (o : FVec Ideal S128x128 .bf16) (x : FVec Ideal S256x128 .f32) (g : FVec Ideal S1x128 .f32) :
    k0_pay21 o (k0_pay14 x) g (k0_pay19 x) (k0_pay20 o x) = k0_pay13 o x g := rfl
/-- The first pair of key heads is normalised as the second pair of query heads is. -/
theorem pay12 (o : FVec Ideal S128x128 .bf16) (x : FVec Ideal S256x128 .f32) (g : FVec Ideal S1x128 .f32) :
    k0_pay12 o x g = k0_pay13 o x g := rfl

/-- The norm of the low-rank row that the kernel multiplies. -/
theorem low_at (x : FVec Ideal S256x128 .f32) (g : FVec Ideal S1x128 .f32) (p : Fin 256) (k : Fin 128) (hx : ∀ k, IsReal (x (ix2 p k))) :
    k0_pay39 (k0_pay3 (F := Ideal)) (k0_pay33 x) g (k0_pay35 x) (k0_pay36 x) (k0_pay37 x) (k0_pay38 x) (ix2 p k) = x (ix2 p k) * Ideal.rsqrt ((∑ d : Fin 128, x (ix2 p d) * x (ix2 p d))
      * Ideal.ofBits .f32 0x3C000000#32 + Ideal.ofBits .f32 0x358637BD#32) * g (ix2 0 k) := by
  have e : k0_pay39 (k0_pay3 (F := Ideal)) (k0_pay33 x) g (k0_pay35 x) (k0_pay36 x) (k0_pay37 x) (k0_pay38 x) (ix2 p k) = x (ix2 p k) * Ideal.rsqrt ((∑ d, x (ix2 p d) * x (ix2 p d) * k0_pay3 (F := Ideal) (ix2 d k)
      + ∑ d, (x (ix2 p d) * x (ix2 p d) - x (ix2 p d) * x (ix2 p d)) * k0_pay3 (F := Ideal) (ix2 d k)
      + ∑ d, (x (ix2 p d) * x (ix2 p d) - x (ix2 p d) * x (ix2 p d) - (x (ix2 p d) * x (ix2 p d) - x (ix2 p d) * x (ix2 p d))) * k0_pay3 (F := Ideal) (ix2 d k))
      * Ideal.ofBits .f32 0x3C000000#32 + Ideal.ofBits .f32 0x358637BD#32) * g (ix2 0 k) := by pointwise [k0_pay39, k0_pay33, k0_pay34, k0_pay35, k0_pay36, k0_pay37, k0_pay38]
  rw [e, split_sum hx fun d => k0_pay3 (F := Ideal) (ix2 d k)]
  simp only [one_mat, mul_one]

/-- The product the kernel stores. -/
theorem value_at (o : FVec Ideal S128x128 .bf16) (x x' : FVec Ideal S256x128 .f32) (g : FVec Ideal S1x128 .f32) (y y' : FVec Ideal S256x128 .bf16) (z : FVec Ideal S256x128 .f32) (w : FVec Ideal S128x512 .bf16) (p : Fin 256) (j : Fin 512) :
    k0_pay41 o x g y x' y' z w (ix2 p j) = ∑ k, k0_pay39 o x g y x' y' z (ix2 p k) * w (ix2 k j) := by
  pointwise [k0_pay41]
/-- The log gates the kernel stores. -/
theorem gate_at (x : FVec Ideal S256x128 .f32) (b : FVec Ideal S1x128 .f32) (p : Fin 256) (j : Fin 128) :
    k0_pay1 (k0_pay148 (k0_pay42 x) b) (k0_pay149 (F := Ideal)) (ix2 p j) = logGate (x (ix2 p j) + b (ix2 0 j)) := by
  pointwise [k0_pay1, k0_pay148, k0_pay42, k0_pay149]
  rfl

end Cert.PrepfMath

end
-- ==== Proof.PrepfEntry.lean ====
/- The call that prepares both attentions' operands: what each block of its arguments holds. -/
module

public import proofs.«01_k».proof.Defs
public import proofs.«01_k».proof.Proof.PrepfMath
public import proofs.«01_k».proof.Proof.Gen.PrepFwdIdeal.Value
public import Idealize.ShloMosaic.Lib.Pipeline.ValueKit
public import Idealize.ShloMosaic.Lib.Claim

@[expose] public section

set_option maxRecDepth 16384

noncomputable section

namespace Cert.PrepfEntry

open Idealize.ShloMosaic Idealize.ShloMosaic.TcCoe Idealize.SL.Sem Cert.PrepFwdIdeal Cert.PrepFwdIdeal.Gen Cert.Halves
open Cert.PrepfMath
open Cert.Rms (IsReal)
open scoped BigOperators

section Segments
variable (W : Valuation τ sig (Elt Ideal)) {r : Ref sig .tc}

/-- The first host operations write none but the buffers listed. -/
theorem keep0 (h : r ∉ [main_v0, main_v1, main_v2, main_v3, main_cst, main_v4, main_cst_0, main_v5, main_v6, main_v7, main_v8, main_v9, main_cst_1, main_v10, main_v11, main_v12, main_v13, main_v14, main_v15, main_cst_2, main_v16, main_v17, main_v18, main_v19, main_cst_3, main_v20, main_v21, main_cst_4, main_v22, main_v23, main_v24, main_cst_5, main_v25, main_v26, main_cst_6, main_v27, main_v28, main_v29, main_v30, main_v31, main_v32, main_v33, main_v34, main_v35, main_cst_7, main_v36, main_cst_8, main_v37, main_v38, main_cst_9, main_v39, main_v40, main_v41, main_v42, main_v43, main_v44, main_v45, main_v46, main_v47, main_v48, main_c]) : (StableHlo.after (hostOps0 (F := Ideal)) W) (Proc.devRef .tc r) = W (Proc.devRef .tc r) :=
  StableHlo.after_unwritten _ rfl h W
/-- So do the operations of the first call, -/
theorem keep1 (h : r ∉ [main_call0_v0, main_v49]) : (StableHlo.after (hostOps0_1 (F := Ideal)) W) (Proc.devRef .tc r) = W (Proc.devRef .tc r) :=
  StableHlo.after_unwritten _ rfl h W
/-- those after it, -/
theorem keep2 (h : r ∉ [main_v50, main_v51, main_v52, main_c_10]) : (StableHlo.after (hostOps0_2 (F := Ideal)) W) (Proc.devRef .tc r) = W (Proc.devRef .tc r) :=
  StableHlo.after_unwritten _ rfl h W
/-- those of the second call, -/
theorem keep3 (h : r ∉ [main_call1_v0, main_v53]) : (StableHlo.after (hostOps0_3 (F := Ideal)) W) (Proc.devRef .tc r) = W (Proc.devRef .tc r) :=
  StableHlo.after_unwritten _ rfl h W
/-- and those before the launch. -/
theorem keep4 (h : r ∉ [main_v54, main_v55, main_v56, main_v57, main_v58, main_v59, main_v60, main_v61, main_v62, main_cst_11, main_v63, main_cst_12, main_v64, main_v65, main_cst_13, main_v66, main_cst_14, main_v67, main_v68, main_cst_15, main_v69, main_cst_16, main_v70, main_v71, main_v72, main_v73, main_v74]) : (StableHlo.after (hostOps0_4 (F := Ideal)) W) (Proc.devRef .tc r) = W (Proc.devRef .tc r) :=
  StableHlo.after_unwritten _ rfl h W

end Segments

section Call
variable (m : (ℓ : Loc nD τ sig) → Buf (Elt Ideal) ℓ) (c : Dev nD)

/-- The arguments the claimed results depend on. -/
abbrev a0 : FVec Ideal S4x2064x1960 .f32 := m ((c : Thread nD τ).loc main_arg0)
abbrev a1 : FVec Ideal S1x8 .f32 := m ((c : Thread nD τ).loc main_arg1)
abbrev a2 : FVec Ideal S1x64 .f32 := m ((c : Thread nD τ).loc main_arg2)
abbrev a3 : FVec Ideal S1x64 .f32 := m ((c : Thread nD τ).loc main_arg3)
abbrev a6 : FVec Ideal S1x128 .f32 := m ((c : Thread nD τ).loc main_arg6)
abbrev a7 : FVec Ideal S128x1024 .f32 := m ((c : Thread nD τ).loc main_arg7)

/-- The packed rows, as the host lines compute them. -/
def wide (p : FVec Ideal S4x2064x1960 .f32) : FVec Ideal S4x2064x2048 .f32 :=
  concatenate S4x2064x2048 2 [⟨S4x2064x1536, extractStridedSlice S4x2064x1536 ![0, 0, 0] p slices_S4x2064x1960_S4x2064x1536_0_0_0⟩,
    ⟨S4x2064x256, extractStridedSlice S4x2064x256 ![0, 0, 1544] p slices_S4x2064x1960_S4x2064x256_0_0_1544⟩,
    ⟨S4x2064x128, extractStridedSlice S4x2064x128 ![0, 0, 1800] p slices_S4x2064x1960_S4x2064x128_0_0_1800⟩,
    ⟨S4x2064x128, concatenate S4x2064x128 2 [⟨S4x2064x64, broadcastInDim S4x2064x64 ![] bcast_S_S4x2064x64 (constant (F := Ideal) S_ .f32 0x00000000#32)⟩,
      ⟨S4x2064x32, extractStridedSlice S4x2064x32 ![0, 0, 1928] p slices_S4x2064x1960_S4x2064x32_0_0_1928⟩,
      ⟨S4x2064x8, extractStridedSlice S4x2064x8 ![0, 0, 1536] p slices_S4x2064x1960_S4x2064x8_0_0_1536⟩,
      ⟨S4x2064x24, broadcastInDim S4x2064x24 ![] bcast_S_S4x2064x24 (constant (F := Ideal) S_ .f32 0x00000000#32)⟩] concatenates_S4x2064x64_S4x2064x32_S4x2064x8_S4x2064x24_S4x2064x128_d2⟩]
    concatenates_S4x2064x1536_S4x2064x256_S4x2064x128_S4x2064x128_S4x2064x2048_d2

/-- A token's columns in that order. -/
theorem wide_apply (p : FVec Ideal S4x2064x1960 .f32) (b : Fin 4) (s : Fin 2064) (l : Fin 2048) : wide p (ix3 b s l) = lay (fun j => p (ix3 b s j)) l := by
  pointwise [wide, lay]

/-- The projection as the call reads it: the columns in its order, and 112 zero rows after the first sixteen of a sequence. -/
def rows (p : FVec Ideal S4x2064x1960 .f32) : FVec Ideal S8704x2048 .f32 :=
  let w := wide p
  shapeCast S8704x2048 (concatenate S4x2176x2048 1 [⟨S4x16x2048, extractStridedSlice S4x16x2048 ![0, 0, 0] w slices_S4x2064x2048_S4x16x2048_0_0_0⟩,
    ⟨S4x112x2048, broadcastInDim S4x112x2048 ![] bcast_S_S4x112x2048 (constant (F := Ideal) S_ .f32 0x00000000#32)⟩,
    ⟨S4x2048x2048, extractStridedSlice S4x2048x2048 ![0, 16, 0] w slices_S4x2064x2048_S4x2048x2048_0_16_0⟩] concatenates_S4x16x2048_S4x112x2048_S4x2048x2048_S4x2176x2048_d1) shapeCasts_S4x2176x2048_S8704x2048

/-- The host operations before the launch, call by call. -/
theorem entry (r : Ref sig .tc) : V m c r = StableHlo.after (hostOps0_4 (F := Ideal)) (StableHlo.after hostOps0_3 (StableHlo.after hostOps0_2 (StableHlo.after hostOps0_1
    (StableHlo.after hostOps0 fun b => m (c, b))))) (Proc.devRef .tc r) := by
  show StableHlo.after (List.flatten [hostOps0, hostOps0_1, hostOps0_2, hostOps0_3, hostOps0_4]) _ (Proc.devRef .tc r) = _
  rw [List.flatten_cons, List.flatten_cons, List.flatten_cons, List.flatten_cons, List.flatten_cons, List.flatten_nil, List.append_nil,
    StableHlo.after_append, StableHlo.after_append, StableHlo.after_append, StableHlo.after_append]
/-- The rows the launch reads. -/
theorem entry_rows : V m c main_v13 = rows (a0 m c) := by
  rw [entry, keep4 _ (by decide), keep3 _ (by decide), keep2 _ (by decide), keep1 _ (by decide)]
  simp only [hostOps0]
  after_results <;> rfl
/-- A buffer's last operations, from an argument. -/
theorem entry_gq : V m c main_v59 = shapeCast S1x128 (broadcastInDim S1x1x2x64 ![0, 1, 2, 3] bcast_S1x1x1x64_S1x1x2x64_0_1_2_3 (shapeCast S1x1x1x64 (a2 m c) shapeCasts_S1x64_S1x1x1x64)) shapeCasts_S1x1x2x64_S1x128 := by
  rw [entry]
  simp only [hostOps0_4]
  after_results <;> rfl
/-- The gain of the keys, twice side by side. -/
theorem entry_gk : V m c main_v62 = shapeCast S1x128 (broadcastInDim S1x1x2x64 ![0, 1, 2, 3] bcast_S1x1x1x64_S1x1x2x64_0_1_2_3 (shapeCast S1x1x1x64 (a3 m c) shapeCasts_S1x64_S1x1x1x64)) shapeCasts_S1x1x2x64_S1x128 := by
  rw [entry]
  simp only [hostOps0_4]
  after_results <;> rfl
/-- The gate's bias at its lanes, whatever the buffers before hold. -/
theorem bias_of (W : Valuation τ sig (Elt Ideal)) (b : FVec Ideal S1x8 .f32) (h : W (Proc.devRef .tc main_arg1) = b) :
    StableHlo.after (hostOps0_4 (F := Ideal)) W (Proc.devRef .tc main_v71) = concatenate S1x128 1 [⟨S1x96, broadcastInDim S1x96 ![] bcast_S_S1x96 (constant (F := Ideal) S_ .f32 0x00000000#32)⟩, ⟨S1x8, b⟩,
      ⟨S1x24, broadcastInDim S1x24 ![] bcast_S_S1x24 (constant (F := Ideal) S_ .f32 0x00000000#32)⟩] concatenates_S1x96_S1x8_S1x24_S1x128_d1 := by
  subst h
  simp only [hostOps0_4]
  after_results <;> rfl
/-- The gate's bias as the launch reads it. -/
theorem entry_bias : V m c main_v71 = concatenate S1x128 1 [⟨S1x96, broadcastInDim S1x96 ![] bcast_S_S1x96 (constant (F := Ideal) S_ .f32 0x00000000#32)⟩, ⟨S1x8, a1 m c⟩,
    ⟨S1x24, broadcastInDim S1x24 ![] bcast_S_S1x24 (constant (F := Ideal) S_ .f32 0x00000000#32)⟩] concatenates_S1x96_S1x8_S1x24_S1x128_d1 := by
  rw [entry]
  exact bias_of _ _ (by rw [keep3 _ (by decide), keep2 _ (by decide), keep1 _ (by decide), keep0 _ (by decide)])
/-- The value columns of the low-rank weight as the launch reads them. -/
theorem entry_w : V m c main_v74 = truncf (F := Ideal) .bf16 (shapeCast S128x512 (extractStridedSlice S128x8x64 ![0, 0, 64] (shapeCast S128x8x128 (a7 m c) shapeCasts_S128x1024_S128x8x128) slices_S128x8x128_S128x8x64_0_0_64) shapeCasts_S128x8x64_S128x512) bitsLt_bf16_f32 := by
  rw [entry]
  simp only [hostOps0_4]
  after_results
  rfl

/-- One entry of the rows the launch reads. -/
theorem rows_apply (p : FVec Ideal S4x2064x1960 .f32) (r : Fin 8704) (l : Fin 2048) : rows p (ix2 r l) = lay (row p r) l := by
  refine Eq.trans (b := if h : r.val % 2176 < 16 then wide p (ix3 ⟨r.val / 2176, by omega⟩ ⟨r.val % 2176, by omega⟩ l) else if h' : r.val % 2176 - 16 < 112 then 0
    else wide p (ix3 ⟨r.val / 2176, by omega⟩ ⟨16 + (r.val % 2176 - 16 - 112), by omega⟩ l)) ?_ ?_
  · pointwise [rows]
  · unfold row
    simp only [wide_apply]
    split_ifs
    · rfl
    · unfold lay; split_ifs <;> rfl
    · rfl
/-- The blocks each point of the grid takes. -/
theorem idx : ∀ t : Fin cfg0.N, t.val < 34 ∧ win0_0.index t = ![t.val, 0] ∧ win0_3.index t = ![0, 0] ∧ win0_4.index t = ![0, 0] ∧ win0_6.index t = ![0, 0] ∧ win0_9.index t = ![0, 0] ∧ win0_12.index t = ![0, 0]
    ∧ win0_13.index t = ![t.val, 0] ∧ win0_14.index t = ![t.val, 0] ∧ win0_15.index t = ![t.val, 0] ∧ win0_18.index t = ![t.val, 0] ∧ win0_19.index t = ![t.val, 0] :=
  (by decide +kernel : ∀ t : Fin grid0.N, _)

variable (t : Fin cfg0.N)

/-- The array's row at row `p` of block `t`. -/
def at_ (p : Fin 256) : Fin 8704 := ⟨t.val * 256 + p.val, by have := (idx t).1; omega⟩

/-- The block of rows. -/
theorem blk0 (p : Fin 256) (l : Fin 2048) : iblk m c 0 t (ix2 p l) = lay (row (a0 m c) (at_ t p)) l := by
  have e : iblk m c 0 t (ix2 p l) = V m c main_v13 (ix2 (at_ t p) l) := by rw [at_]; blk_ext [iblk, idx t]
  rw [e, entry_rows, rows_apply]
/-- The block of the queries' gain. -/
theorem blk3 (l : Fin 128) : iblk m c 3 t (ix2 0 l) = a2 m c (ix2 0 ⟨l.val % 64, by omega⟩) := by
  have e : iblk m c 3 t (ix2 0 l) = V m c main_v59 (ix2 0 l) := by blk_ext [iblk, idx t]
  rw [e, entry_gq]
  pointwise []
/-- The block of the keys' gain. -/
theorem blk4 (l : Fin 128) : iblk m c 4 t (ix2 0 l) = a3 m c (ix2 0 ⟨l.val % 64, by omega⟩) := by
  have e : iblk m c 4 t (ix2 0 l) = V m c main_v62 (ix2 0 l) := by blk_ext [iblk, idx t]
  rw [e, entry_gk]
  pointwise []
/-- The block of the low-rank gain. -/
theorem blk6 (l : Fin 128) : iblk m c 6 t (ix2 0 l) = a6 m c (ix2 0 l) := by
  blk_ext [iblk, idx t]
/-- The bias on the gates' lanes. -/
def bias (b : FVec Ideal S1x8 .f32) (l : Fin 128) : EReal := if h : l.val < 96 then 0 else if h : l.val - 96 < 8 then b (ix2 0 ⟨l.val - 96, by omega⟩) else 0
/-- The block of the bias. -/
theorem blk9 (l : Fin 128) : iblk m c 9 t (ix2 0 l) = bias (a1 m c) l := by
  have e : iblk m c 9 t (ix2 0 l) = V m c main_v71 (ix2 0 l) := by blk_ext [iblk, idx t]
  rw [e, entry_bias, bias]
  pointwise []
/-- The block of the low-rank weight. -/
theorem blk12 (k : Fin 128) (l : Fin 512) : iblk m c 12 t (ix2 k l) = a7 m c (ix2 k ⟨l.val / 64 * 128 + (64 + l.val % 64), by omega⟩) := by
  have e : iblk m c 12 t (ix2 k l) = V m c main_v74 (ix2 k l) := by blk_ext [iblk, idx t]
  rw [e, entry_w]
  pointwise []

end Call

end Cert.PrepfEntry

end
-- ==== Proof.PrepfFinal.lean ====
/- The call that prepares both attentions' operands: five of its results after the launch. -/
module

public import proofs.«01_k».proof.Defs
public import proofs.«01_k».proof.Proof.PrepfEntry
public import proofs.«01_k».proof.Proof.Halves
public import Idealize.ShloMosaic.Lib.Pipeline.ValueKit

@[expose] public section

set_option maxRecDepth 16384

noncomputable section

namespace Cert.PrepfFinal

open Idealize.ShloMosaic Idealize.ShloMosaic.TcCoe Idealize.SL.Sem Cert.PrepFwdIdeal Cert.PrepFwdIdeal.Gen Cert.Halves Cert.PrepfMath Cert.PrepfEntry
open Cert.Rms (IsReal)
open scoped BigOperators

/-- The normalised heads whose columns start at `o`. -/
def headsT (o : ℕ) (ho : o + 512 ≤ 1960) (p : FVec Ideal S4x2064x1960 .f32) (g : FVec Ideal S1x64 .f32) : FVec Ideal S8704x512 .bf16 :=
  array fun r l => headNorm o ho g l (row p r)

/-- The forgetting attention's values. -/
def plainT (p : FVec Ideal S4x2064x1960 .f32) : FVec Ideal S8704x512 .bf16 := array fun r l => row p r ⟨1024 + l.val, by omega⟩

/-- The latent attention's values. -/
def valueT (p : FVec Ideal S4x2064x1960 .f32) (g : FVec Ideal S1x128 .f32) (w : FVec Ideal S128x1024 .f32) : FVec Ideal S8704x512 .bf16 :=
  array fun r l => value g w l (row p r)

/-- The log forget gates, in a row of 128 lanes. -/
def gateT (p : FVec Ideal S4x2064x1960 .f32) (b : FVec Ideal S1x8 .f32) : FVec Ideal S8704x128 .f32 :=
  array fun r l => logGate (lay (row p r) ⟨1920 + l.val, by omega⟩ + bias b l)

/-- A finite projection has finite padded rows. -/
theorem row_real {p : FVec Ideal S4x2064x1960 .f32} (hp : ∀ i, IsReal (p i)) (r : Fin 8704) (j : Fin 1960) : IsReal (row p r j) := by
  unfold row
  split_ifs
  · exact hp _
  · exact ⟨0, rfl⟩
  · exact hp _

/-- The first 1536 columns keep their order. -/
theorem lay_lo (f : Fin 1960 → EReal) {l : Fin 2048} (h : l.val < 1536) : lay f l = f ⟨l.val, by omega⟩ := dif_pos h

/-- The low-rank columns in the call's order. -/
theorem lay_low (f : Fin 1960 → EReal) (k : Fin 128) : lay f ⟨1792 + k.val, by omega⟩ = f ⟨1800 + k.val, by omega⟩ := by
  unfold lay
  have h1 : ¬ 1792 + k.val < 1536 := by omega
  have h2 : ¬ 1792 + k.val - 1536 < 256 := by omega
  have h3 : 1792 + k.val - 1536 - 256 < 128 := by omega
  rw [dif_neg h1, dif_neg h2, dif_pos h3]
  exact congrArg f (Fin.ext (by show 1800 + (1792 + k.val - 1536 - 256) = 1800 + k.val; omega))

/-- One stored piece of normalised heads. -/
theorem piece {X : FVec Ideal S256x128 .f32} {G : FVec Ideal S1x128 .f32} {f : Fin 1960 → EReal} {g : FVec Ideal S1x64 .f32} {o : ℕ} {q : ℕ} {p : Fin 256} {j : Fin 128} {l : Fin 512}
    (ho : o + 512 ≤ 1960) (hq : q < 4) (hr : ∀ n, IsReal (f n)) (hX : ∀ k : Fin 128, X (ix2 p k) = f ⟨o + (q * 128 + k.val), by omega⟩)
    (hG : ∀ k : Fin 128, G (ix2 0 k) = g (ix2 0 ⟨k.val % 64, by omega⟩)) (hl : l.val = q * 128 + j.val) :
    k0_pay13 (k0_pay2 (F := Ideal)) X G (ix2 p j) = headNorm o ho g l f := by
  have hj := j.isLt
  rw [norm_at X G p j fun k => by rw [hX]; exact hr _]
  unfold headNorm
  have e1 : X (ix2 p j) = f ⟨o + l.val, by omega⟩ := (hX j).trans (congrArg f (Fin.ext (by show o + (q * 128 + j.val) = o + l.val; omega)))
  have e2 : ∀ d : Fin 64, X (ix2 p ⟨64 * (j.val / 64) + d.val, by omega⟩) = f ⟨o + (64 * (l.val / 64) + d.val), by omega⟩ := fun d =>
    (hX _).trans (congrArg f (Fin.ext (by show o + (q * 128 + (64 * (j.val / 64) + d.val)) = o + (64 * (l.val / 64) + d.val); omega)))
  have e3 : G (ix2 0 j) = g (ix2 0 ⟨l.val % 64, by omega⟩) := (hG j).trans (congrArg (fun n => g (ix2 0 n)) (Fin.ext (by show j.val % 64 = l.val % 64; omega)))
  rw [e1, e3]
  simp only [e2]

variable (m : (ℓ : Loc nD τ sig) → Buf (Elt Ideal) ℓ) (c : Dev nD) (t : Fin cfg0.N)

/-- A piece of 128 columns of the block of rows. -/
theorem cols {o : ℕ} {inb : ∀ a, (![0, o] : Fin 2 → ℕ) a + (![256, 128] : Fin 2 → ℕ) a ≤ (![256, 2048] : Fin 2 → ℕ) a} (p : Fin 256) (k : Fin 128) (h : o + k.val < 2048) :
    View.ld (Val := Elt Ideal) (e' := .f32) (iblk m c 0 t) (Rect.unit ![0, o] ![256, 128] inb : Rect S256x2048) (ix2 p k) = lay (row (a0 m c) (at_ t p)) ⟨o + k.val, h⟩ :=
  (half_ld (n := 256) (w := 128) (W := 2048) (c := o) p (iblk m c 0 t) (l := ⟨o + k.val, h⟩) rfl).trans (blk0 m c t p _)

/-- A pair of heads in the block of rows. -/
theorem heads_cols {o q s : ℕ} {inb : ∀ a, (![0, s] : Fin 2 → ℕ) a + (![256, 128] : Fin 2 → ℕ) a ≤ (![256, 2048] : Fin 2 → ℕ) a} (p : Fin 256) (k : Fin 128) (hs : s = o + q * 128) (h : o + (q * 128 + k.val) < 1536) :
    View.ld (Val := Elt Ideal) (e' := .f32) (iblk m c 0 t) (Rect.unit ![0, s] ![256, 128] inb : Rect S256x2048) (ix2 p k) = row (a0 m c) (at_ t p) ⟨o + (q * 128 + k.val), by omega⟩ := by
  rw [cols m c t p k (by omega), lay_lo _ (by show s + k.val < 1536; omega)]
  exact congrArg _ (Fin.ext (by show s + k.val = o + (q * 128 + k.val); omega))

/-- The queries' gain, read. -/
theorem gain_q (k : Fin 128) : View.ld (Val := Elt Ideal) (e' := .f32) (iblk m c 3 t) r0_1 (ix2 0 k) = a2 m c (ix2 0 ⟨k.val % 64, by omega⟩) :=
  (half_ld (n := 1) (w := 128) (W := 128) (c := 0) 0 (iblk m c 3 t) (l := k) (by omega)).trans (blk3 m c t k)
/-- The keys' gain, read. -/
theorem gain_k (k : Fin 128) : View.ld (Val := Elt Ideal) (e' := .f32) (iblk m c 4 t) r0_1 (ix2 0 k) = a3 m c (ix2 0 ⟨k.val % 64, by omega⟩) :=
  (half_ld (n := 1) (w := 128) (W := 128) (c := 0) 0 (iblk m c 4 t) (l := k) (by omega)).trans (blk4 m c t k)

/-- The queries after the launch. -/
theorem final_q (hp : ∀ i, IsReal (a0 m c i)) : (dats m 0 c).arrAt 13 cfg0.N = headsT 0 (by omega) (a0 m c) (a2 m c) := by
  refine (dats m 0 c).arrAt_eq_of_covers 13 _ (by decide +kernel) fun t hf y => ?_
  blk_simp
  rw [after0_13]
  obtain ⟨p, l, rfl⟩ := ix2_of (n := 256) (w := 512) y
  have he : ((cfg0.win 13).blk t).view.emb (ix2 p l) = ix2 (at_ t p) l := by blk_ext [idx t, at_]
  have hr := row_real hp (at_ t p)
  rw [he, headsT, at_ix2]
  unfold out0_13
  by_cases h3 : 384 ≤ l.val
  · refine (half_hit (n := 256) (w := 128) (W := 512) (c := 384) p (j := ⟨l.val - 384, by omega⟩) (by show l.val = 384 + (l.val - 384); omega)).trans ?_
    exact (congrFun (pay27 _ _ _) _).trans (piece (q := 3) _ (by omega) hr (fun k => heads_cols m c t p k (by rfl) (by omega)) (gain_q m c t) (by show l.val = 3 * 128 + (l.val - 384); omega))
  refine (half_skip (n := 256) (w := 128) (W := 512) (c := 384) p (by omega)).trans ?_
  by_cases h2 : 256 ≤ l.val
  · refine (half_hit (n := 256) (w := 128) (W := 512) (c := 256) p (j := ⟨l.val - 256, by omega⟩) (by show l.val = 256 + (l.val - 256); omega)).trans ?_
    exact (congrFun (pay22 _ _ _) _).trans (piece (q := 2) _ (by omega) hr (fun k => heads_cols m c t p k (by rfl) (by omega)) (gain_q m c t) (by show l.val = 2 * 128 + (l.val - 256); omega))
  refine (half_skip (n := 256) (w := 128) (W := 512) (c := 256) p (by omega)).trans ?_
  by_cases h1 : 128 ≤ l.val
  · refine (half_hit (n := 256) (w := 128) (W := 512) (c := 128) p (j := ⟨l.val - 128, by omega⟩) (by show l.val = 128 + (l.val - 128); omega)).trans ?_
    exact piece (q := 1) _ (by omega) hr (fun k => heads_cols m c t p k (by rfl) (by omega)) (gain_q m c t) (by show l.val = 1 * 128 + (l.val - 128); omega)
  refine (half_skip (n := 256) (w := 128) (W := 512) (c := 128) p (by omega)).trans ?_
  refine (half_hit (n := 256) (w := 128) (W := 512) (c := 0) p (j := ⟨l.val, by omega⟩) (by show l.val = 0 + l.val; omega)).trans ?_
  exact (congrFun (pay11 _ _ _) _).trans (piece (q := 0) _ (by omega) hr (fun k => heads_cols m c t p k (by rfl) (by omega)) (gain_q m c t) (by show l.val = 0 * 128 + l.val; omega))

/-- The keys after the launch. -/
theorem final_k (hp : ∀ i, IsReal (a0 m c i)) : (dats m 0 c).arrAt 14 cfg0.N = headsT 512 (by omega) (a0 m c) (a3 m c) := by
  refine (dats m 0 c).arrAt_eq_of_covers 14 _ (by decide +kernel) fun t hf y => ?_
  blk_simp
  rw [after0_14]
  obtain ⟨p, l, rfl⟩ := ix2_of (n := 256) (w := 512) y
  have he : ((cfg0.win 14).blk t).view.emb (ix2 p l) = ix2 (at_ t p) l := by blk_ext [idx t, at_]
  have hr := row_real hp (at_ t p)
  rw [he, headsT, at_ix2]
  unfold out0_14
  by_cases h3 : 384 ≤ l.val
  · refine (half_hit (n := 256) (w := 128) (W := 512) (c := 384) p (j := ⟨l.val - 384, by omega⟩) (by show l.val = 384 + (l.val - 384); omega)).trans ?_
    exact (congrFun (pay28 _ _ _) _).trans (piece (q := 3) _ (by omega) hr (fun k => heads_cols m c t p k (by rfl) (by omega)) (gain_k m c t) (by show l.val = 3 * 128 + (l.val - 384); omega))
  refine (half_skip (n := 256) (w := 128) (W := 512) (c := 384) p (by omega)).trans ?_
  by_cases h2 : 256 ≤ l.val
  · refine (half_hit (n := 256) (w := 128) (W := 512) (c := 256) p (j := ⟨l.val - 256, by omega⟩) (by show l.val = 256 + (l.val - 256); omega)).trans ?_
    exact (congrFun (pay24 _ _ _) _).trans (piece (q := 2) _ (by omega) hr (fun k => heads_cols m c t p k (by rfl) (by omega)) (gain_k m c t) (by show l.val = 2 * 128 + (l.val - 256); omega))
  refine (half_skip (n := 256) (w := 128) (W := 512) (c := 256) p (by omega)).trans ?_
  by_cases h1 : 128 ≤ l.val
  · refine (half_hit (n := 256) (w := 128) (W := 512) (c := 128) p (j := ⟨l.val - 128, by omega⟩) (by show l.val = 128 + (l.val - 128); omega)).trans ?_
    exact (congrFun (pay21 _ _ _) _).trans (piece (q := 1) _ (by omega) hr (fun k => heads_cols m c t p k (by rfl) (by omega)) (gain_k m c t) (by show l.val = 1 * 128 + (l.val - 128); omega))
  refine (half_skip (n := 256) (w := 128) (W := 512) (c := 128) p (by omega)).trans ?_
  refine (half_hit (n := 256) (w := 128) (W := 512) (c := 0) p (j := ⟨l.val, by omega⟩) (by show l.val = 0 + l.val; omega)).trans ?_
  exact (congrFun (pay12 _ _ _) _).trans (piece (q := 0) _ (by omega) hr (fun k => heads_cols m c t p k (by rfl) (by omega)) (gain_k m c t) (by show l.val = 0 * 128 + l.val; omega))

/-- The values are stored as they are read. -/
theorem plain_at (x : Vec Ideal S256x512 .f32) (p : Fin 256) (l : Fin 512) : (k0_pay29 (F := Ideal) x : Vec Ideal S256x512 .bf16) (ix2 p l) = (x (ix2 p l) : EReal) := by pointwise [k0_pay29]

/-- The forgetting attention's values after the launch. -/
theorem final_v : (dats m 0 c).arrAt 15 cfg0.N = plainT (a0 m c) := by
  refine (dats m 0 c).arrAt_eq_of_covers 15 _ (by decide +kernel) fun t hf y => ?_
  blk_simp
  rw [after0_15]
  obtain ⟨p, l, rfl⟩ := ix2_of (n := 256) (w := 512) y
  have he : ((cfg0.win 15).blk t).view.emb (ix2 p l) = ix2 (at_ t p) l := by blk_ext [idx t, at_]
  rw [he, plainT, at_ix2]
  unfold out0_15
  refine (half_hit (n := 256) (w := 512) (W := 512) (c := 0) p (j := l) (by omega)).trans ?_
  refine (plain_at _ p l).trans ?_
  refine (half_ld (n := 256) (w := 512) (W := 2048) (c := 1024) p (iblk m c 0 t) (l := ⟨1024 + l.val, by omega⟩) rfl).trans ?_
  rw [blk0]
  exact lay_lo _ (by show 1024 + l.val < 1536; omega)

/-- The latent attention's values after the launch. -/
theorem final_vm (hp : ∀ i, IsReal (a0 m c i)) : (dats m 0 c).arrAt 18 cfg0.N = valueT (a0 m c) (a6 m c) (a7 m c) := by
  refine (dats m 0 c).arrAt_eq_of_covers 18 _ (by decide +kernel) fun t hf y => ?_
  blk_simp
  rw [after0_18]
  obtain ⟨p, l, rfl⟩ := ix2_of (n := 256) (w := 512) y
  have he : ((cfg0.win 18).blk t).view.emb (ix2 p l) = ix2 (at_ t p) l := by blk_ext [idx t, at_]
  rw [he, valueT, at_ix2]
  unfold out0_18
  refine (half_hit (n := 256) (w := 512) (W := 512) (c := 0) p (j := l) (by omega)).trans ?_
  refine (value_at ..).trans (Finset.sum_congr rfl fun k _ => ?_)
  have hx : ∀ d : Fin 128, View.ld (Val := Elt Ideal) (e' := .f32) (iblk m c 0 t) r0_19 (ix2 p d) = row (a0 m c) (at_ t p) ⟨1800 + d.val, by omega⟩ := fun d =>
    (cols m c t p d (by omega)).trans (lay_low _ d)
  refine congrArg₂ _ ((low_at (View.ld (Val := Elt Ideal) (e' := .f32) (iblk m c 0 t) r0_19) (View.ld (Val := Elt Ideal) (e' := .f32) (iblk m c 6 t) r0_1) p k fun d => by rw [hx]; exact row_real hp _ _).trans ?_) ?_
  · have hg : View.ld (Val := Elt Ideal) (e' := .f32) (iblk m c 6 t) r0_1 (ix2 0 k) = a6 m c (ix2 0 k) :=
      (half_ld (n := 1) (w := 128) (W := 128) (c := 0) 0 (iblk m c 6 t) (l := k) (by omega)).trans (blk6 m c t k)
    unfold lowNorm
    simp only [hx, hg]
  · exact (half_ld (n := 128) (w := 512) (W := 512) (c := 0) k (iblk m c 12 t) (l := l) (by omega)).trans (blk12 m c t k l)

/-- The log forget gates after the launch. -/
theorem final_g : (dats m 0 c).arrAt 19 cfg0.N = gateT (a0 m c) (a1 m c) := by
  refine (dats m 0 c).arrAt_eq_of_covers 19 _ (by decide +kernel) fun t hf y => ?_
  blk_simp
  rw [after0_19]
  obtain ⟨p, l, rfl⟩ := ix2_of (n := 256) (w := 128) y
  have he : ((cfg0.win 19).blk t).view.emb (ix2 p l) = ix2 (at_ t p) l := by blk_ext [idx t, at_]
  rw [he, gateT, at_ix2]
  unfold out0_19
  refine (half_hit (n := 256) (w := 128) (W := 128) (c := 0) p (j := l) (by omega)).trans ((gate_at _ _ p l).trans (congrArg logGate (congrArg₂ _ (cols m c t p l (by omega)) ?_)))
  exact (half_ld (n := 1) (w := 128) (W := 128) (c := 0) 0 (iblk m c 9 t) (l := l) (by omega)).trans (blk9 m c t l)

end Cert.PrepfFinal

end
-- ==== Proof.PrepfRef.lean ====
/- The reference of the call that prepares both attentions' operands: its five results. -/
module

public import proofs.«01_k».proof.Defs
public import proofs.«01_k».proof.Proof.PrepfFinal
public import proofs.«01_k».proof.Proof.Gen.PrepFwdRefIdeal.Read
public import Idealize.ShloMosaic.Lib.Claim

@[expose] public section

set_option maxRecDepth 16384

noncomputable section

namespace Cert.PrepfRef

open Idealize.ShloMosaic Idealize.ShloMosaic.TcCoe Idealize.SL.Sem Cert.PrepFwdIdeal Cert.PrepFwdRefIdeal.Read Cert.Halves Cert.PrepfMath Cert.PrepfEntry Cert.PrepfFinal
open scoped BigOperators

/-- Rows of tokens, with the empty ones put between. -/
theorem padded {p : FVec Ideal S4x2064x1960 .f32} {r : Fin 8704} {F : Fin 4 → Fin 2064 → EReal} (Φ : (Fin 1960 → EReal) → EReal) (h0 : Φ (fun _ => 0) = 0)
    (hF : ∀ b s, F b s = Φ fun j => p (ix3 b s j)) :
    (if h : r.val % 2176 < 16 then F ⟨r.val / 2176, by omega⟩ ⟨r.val % 2176, by omega⟩ else if h' : r.val % 2176 - 16 < 112 then 0
      else F ⟨r.val / 2176, by omega⟩ ⟨16 + (r.val % 2176 - 16 - 112), by omega⟩) = Φ (row p r) := by
  unfold row
  split_ifs
  · exact hF _ _
  · exact h0.symm
  · exact hF _ _

variable (p : FVec Ideal S4x2064x1960 .f32)

/-- The mean over 64. -/
theorem div_64 (y : EReal) : Ideal.div y (Ideal.ofBits .f32 0x42800000#32) = y * Ideal.ofBits .f32 0x3C800000#32 := by
  rw [show Ideal.ofBits .f32 0x42800000#32 = ((64 : ℝ) : EReal) by simp [Ideal.ofBits, Ideal.ieee, -EReal.coe_mul]; norm_num,
    show Ideal.ofBits .f32 0x3C800000#32 = ((1 / 64 : ℝ) : EReal) by simp [Ideal.ofBits, Ideal.ieee, -EReal.coe_mul]; norm_num, Ideal.div_coe (by norm_num)]

/-- The mean over 128. -/
theorem div_128 (y : EReal) : Ideal.div y (Ideal.ofBits .f32 0x43000000#32) = y * Ideal.ofBits .f32 0x3C000000#32 := by
  rw [show Ideal.ofBits .f32 0x43000000#32 = ((128 : ℝ) : EReal) by simp [Ideal.ofBits, Ideal.ieee, -EReal.coe_mul]; norm_num,
    show Ideal.ofBits .f32 0x3C000000#32 = ((1 / 128 : ℝ) : EReal) by simp [Ideal.ofBits, Ideal.ieee, -EReal.coe_mul]; norm_num, Ideal.div_coe (by norm_num)]

/-- The norm of a zero row. -/
theorem head_zero (o : ℕ) (ho : o + 512 ≤ 1960) (g : FVec Ideal S1x64 .f32) (l : Fin 512) : headNorm o ho g l (fun _ => 0) = 0 := by
  unfold headNorm; rw [zero_mul, zero_mul]

/-- The values of a zero row. -/
theorem value_zero (g : FVec Ideal S1x128 .f32) (w : FVec Ideal S128x1024 .f32) (l : Fin 512) : value g w l (fun _ => 0) = 0 := by
  unfold value lowNorm
  exact Finset.sum_eq_zero fun k _ => by rw [zero_mul, zero_mul, zero_mul]

/-- A token's queries in the reference. -/
theorem tok_q (g : FVec Ideal S1x64 .f32) (b : Fin 4) (s : Fin 2064) (l : Fin 512) : val_main_v69 (F := Ideal) p g (ix3 b s l) = headNorm 0 (by omega) g l fun j => p (ix3 b s j) := by
  pointwise [val_main_v69, val_main_v68, val_main_v21, val_main_v20, val_main_v19, val_main_v18, val_main_v17, val_main_v16, val_main_v15, val_main_v14, val_main_v13, val_main_v12, val_main_v11, val_main_v10, val_main_v9, val_main_v8, val_main_v7, val_main_v0, val_main_cst, val_main_cst_0, val_main_cst_1]
  rw [div_64]
  unfold headNorm
  have e1 : ∀ h, p (ix3 b s ⟨l.val, h⟩) = p (ix3 b s ⟨0 + l.val, by omega⟩) := fun h => congrArg (fun n => p (ix3 b s n)) (Fin.ext (by show l.val = 0 + l.val; omega))
  have e2 : ∀ (d : Fin 64) h, p (ix3 b s ⟨l.val / 64 * 64 + d.val, h⟩) = p (ix3 b s ⟨0 + (64 * (l.val / 64) + d.val), by omega⟩) := fun d h =>
    congrArg (fun n => p (ix3 b s n)) (Fin.ext (by show l.val / 64 * 64 + d.val = 0 + (64 * (l.val / 64) + d.val); omega))
  simp only [e1, e2]

/-- A token's keys. -/
theorem tok_k (g : FVec Ideal S1x64 .f32) (b : Fin 4) (s : Fin 2064) (l : Fin 512) : val_main_v77 (F := Ideal) p g (ix3 b s l) = headNorm 512 (by omega) g l fun j => p (ix3 b s j) := by
  pointwise [val_main_v77, val_main_v76, val_main_v36, val_main_v35, val_main_v34, val_main_v33, val_main_v32, val_main_v31, val_main_v30, val_main_v29, val_main_v28, val_main_v27, val_main_v26, val_main_v25, val_main_v24, val_main_v23, val_main_v22, val_main_v1, val_main_cst_2, val_main_cst_3, val_main_cst_4]
  rw [div_64]
  unfold headNorm
  have e2 : ∀ (d : Fin 64) h, p (ix3 b s ⟨512 + (l.val / 64 * 64 + d.val), h⟩) = p (ix3 b s ⟨512 + (64 * (l.val / 64) + d.val), by omega⟩) := fun d h =>
    congrArg (fun n => p (ix3 b s n)) (Fin.ext (by show 512 + (l.val / 64 * 64 + d.val) = 512 + (64 * (l.val / 64) + d.val); omega))
  simp only [e2]

/-- A token's values of the latent attention. -/
theorem tok_m (g : FVec Ideal S1x128 .f32) (w : FVec Ideal S128x1024 .f32) (b : Fin 4) (s : Fin 2064) (l : Fin 512) : val_main_v95 (F := Ideal) p g w (ix3 b s l) = value g w l fun j => p (ix3 b s j) := by
  pointwise [val_main_v95, val_main_v94, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v5, val_main_cst_9, val_main_cst_10, val_main_cst_11]
  rw [div_128]
  rfl

/-- A token's values of the forgetting attention. -/
theorem tok_v (b : Fin 4) (s : Fin 2064) (l : Fin 512) : val_main_v87 (F := Ideal) p (ix3 b s l) = p (ix3 b s ⟨1024 + l.val, by omega⟩) := by
  pointwise [val_main_v87, val_main_v86, val_main_v85, val_main_v84, val_main_v2]

/-- A token's last lanes. -/
theorem tok_g (b : Fin 4) (s : Fin 2064) (l : Fin 128) : val_main_v39 (F := Ideal) p (ix3 b s l) = lay (fun j => p (ix3 b s j)) ⟨1920 + l.val, by omega⟩ := by
  pointwise [val_main_v39, val_main_v38, val_main_v37, val_main_v6, val_main_v3, val_main_cst_5]
  have hl := l.isLt
  unfold lay
  have h1 : ¬ 1920 + l.val < 1536 := by omega
  have h2 : ¬ 1920 + l.val - 1536 < 256 := by omega
  have h3 : ¬ 1920 + l.val - 1536 - 256 < 128 := by omega
  have e : 1920 + l.val - 1536 - 256 - 128 = l.val := by omega
  simp only [h1, h2, h3, e, dif_neg, not_false_eq_true]

/-- The reference's queries. -/
theorem ref_q (g : FVec Ideal S1x64 .f32) : val_main_v75 (F := Ideal) p g = headsT 0 (by omega) p g := by
  funext y
  obtain ⟨r, l, rfl⟩ := ix2_of (n := 8704) (w := 512) y
  rw [headsT, at_ix2]
  refine Eq.trans ?_ (padded (F := fun b s => val_main_v69 (F := Ideal) p g (ix3 b s l)) (headNorm 0 (by omega) g l) (head_zero _ _ _ _) fun b s => tok_q p g b s l)
  pointwise [val_main_v75, val_main_v74, val_main_v73, val_main_v72, val_main_v71, val_main_v70, val_main_cst_12]

/-- The reference's keys. -/
theorem ref_k (g : FVec Ideal S1x64 .f32) : val_main_v83 (F := Ideal) p g = headsT 512 (by omega) p g := by
  funext y
  obtain ⟨r, l, rfl⟩ := ix2_of (n := 8704) (w := 512) y
  rw [headsT, at_ix2]
  refine Eq.trans ?_ (padded (F := fun b s => val_main_v77 (F := Ideal) p g (ix3 b s l)) (headNorm 512 (by omega) g l) (head_zero _ _ _ _) fun b s => tok_k p g b s l)
  pointwise [val_main_v83, val_main_v82, val_main_v81, val_main_v80, val_main_v79, val_main_v78, val_main_cst_13]

/-- The reference's values of the forgetting attention. -/
theorem ref_v : val_main_v93 (F := Ideal) p = plainT p := by
  funext y
  obtain ⟨r, l, rfl⟩ := ix2_of (n := 8704) (w := 512) y
  rw [plainT, at_ix2]
  refine Eq.trans ?_ (padded (F := fun b s => val_main_v87 (F := Ideal) p (ix3 b s l)) (fun f => f ⟨1024 + l.val, by omega⟩) rfl fun b s => tok_v p b s l)
  pointwise [val_main_v93, val_main_v92, val_main_v91, val_main_v90, val_main_v89, val_main_v88, val_main_cst_14]

/-- The reference's values of the latent attention. -/
theorem ref_m (g : FVec Ideal S1x128 .f32) (w : FVec Ideal S128x1024 .f32) : val_main_v101 (F := Ideal) p g w = valueT p g w := by
  funext y
  obtain ⟨r, l, rfl⟩ := ix2_of (n := 8704) (w := 512) y
  rw [valueT, at_ix2]
  refine Eq.trans ?_ (padded (F := fun b s => val_main_v95 (F := Ideal) p g w (ix3 b s l)) (value g w l) (value_zero _ _ _) fun b s => tok_m p g w b s l)
  pointwise [val_main_v101, val_main_v100, val_main_v99, val_main_v98, val_main_v97, val_main_v96, val_main_cst_15]

/-- The reference's last lanes. -/
theorem tail_g (r : Fin 8704) (l : Fin 128) : val_main_v44 (F := Ideal) p (ix2 r l) = lay (row p r) ⟨1920 + l.val, by omega⟩ := by
  refine Eq.trans ?_ (padded (F := fun b s => val_main_v39 (F := Ideal) p (ix3 b s l)) (fun f => lay f ⟨1920 + l.val, by omega⟩) (by unfold lay; split_ifs <;> rfl) fun b s => tok_g p b s l)
  pointwise [val_main_v44, val_main_v43, val_main_v42, val_main_v41, val_main_v40, val_main_cst_6]

/-- The reference's bias. -/
theorem bias_g (b : FVec Ideal S1x8 .f32) (r : Fin 8704) (l : Fin 128) : val_main_v48 (F := Ideal) b (ix2 r l) = bias b l := by
  pointwise [val_main_v48, val_main_v47, val_main_v46, val_main_v45, val_main_cst_7, val_main_cst_8, bias]

/-- The reference's log forget gates. -/
theorem ref_g (b : FVec Ideal S1x8 .f32) : val_main_v50 (F := Ideal) p b = gateT p b := by
  funext y
  obtain ⟨r, l, rfl⟩ := ix2_of (n := 8704) (w := 128) y
  rw [gateT, at_ix2, logGate_eq, ← tail_g, ← bias_g b r l]
  pointwise [val_main_v50, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v49]
  rw [if_neg (fun h => h rfl)]
  rfl

end Cert.PrepfRef

end
-- ==== Proof.PrepfClaim.lean ====
/- The value claim of the call that prepares both attentions' operands, for five of its results. -/
module

public import proofs.«01_k».proof.Defs
public import proofs.«01_k».proof.Proof.PrepfFinal
public import proofs.«01_k».proof.Proof.PrepfRef
public import proofs.«01_k».proof.Proof.AttnFinite
public import proofs.«01_k».proof.Proof.Gen.Pre_finite_prepf
public import proofs.«01_k».proof.Proof.Gen.PrepFwdRefIdeal.Run
public import Idealize.ShloMosaic.Lib.Claim

@[expose] public section

noncomputable section

namespace Cert.PrepfClaim

open Idealize.ShloMosaic Idealize.SL.Sem Cert.PrepfEntry Cert.PrepfFinal Cert.PrepfRef
open Cert.Rms (IsReal)

/-- Under the precondition the projected rows are finite, on every device. -/
theorem finite (m : (ℓ : Loc Cert.PrepFwdIdeal.nD Cert.PrepFwdIdeal.τ Cert.PrepFwdIdeal.sig) → Buf (Elt Ideal) ℓ)
    (h : Cert.Pre_PrepFwdIdeal_finite_prepf (hPre_finite_prepf := Cert.Pre_finite_prepf.Gen.facts) m) (c : Dev Cert.PrepFwdIdeal.nD) : ∀ i, IsReal (a0 m c i) :=
  fun i => ⟨_, Attn.fin_of_lt _ (h c) i⟩

/-- Over the extended reals both programs leave the same normalised queries and keys, the same values of both attentions and
    the same log forget gates, for finite projected rows. -/
theorem algebraic : Cert.algebraic_PrepFwdIdeal_PrepFwdRefIdeal_pre_finite_prepf (hPrepFwdIdeal := Cert.PrepFwdIdeal.Gen.facts)
    (hPrepFwdRefIdeal := Cert.PrepFwdRefIdeal.Gen.facts) (hPre_finite_prepf := Cert.Pre_finite_prepf.Gen.facts) := by
  intro m g m' g' hpre hag
  refine ⟨fun c => headsT 0 (by omega) (a0 m c) (a2 m c), fun c => headsT 512 (by omega) (a0 m c) (a3 m c), fun c => plainT (a0 m c),
    fun c => valueT (a0 m c) (a6 m c) (a7 m c), fun c => gateT (a0 m c) (a1 m c), ?_, ?_⟩
  · refine (θ_run _ _ _).mono (fun _ h c => ?_) (Cert.PrepFwdIdeal.Value.run_blocks m g)
    obtain ⟨e0, e1, e2, _, _, e3, e4, e⟩ := h c
    have hp := finite m hpre c
    exact ⟨e0.trans (final_q m c hp), e1.trans (final_k m c hp), e2.trans (final_v m c), e3.trans (final_vm m c hp), e4.trans (final_g m c), e⟩
  · refine (θ_run _ _ _).mono (fun _ h c => ?_) (Cert.PrepFwdRefIdeal.Value.run m' g')
    obtain ⟨e0, e1, e2, e3, e4, e⟩ := h c
    obtain ⟨q0, q1, q2, q3, _, _, q6, q7, _, _⟩ := hag c
    rw [Cert.PrepFwdRefIdeal.Read.val_main_v75_eq, q0, q2] at e0
    rw [Cert.PrepFwdRefIdeal.Read.val_main_v83_eq, q0, q3] at e1
    rw [Cert.PrepFwdRefIdeal.Read.val_main_v93_eq, q0] at e2
    rw [Cert.PrepFwdRefIdeal.Read.val_main_v101_eq, q0, q6, q7] at e3
    rw [Cert.PrepFwdRefIdeal.Read.val_main_v50_eq, q0, q1] at e4
    exact ⟨e0.trans (ref_q _ _), e1.trans (ref_k _ _), e2.trans (ref_v _), e3.trans (ref_m _ _ _), e4.trans (ref_g _ _), e⟩

end Cert.PrepfClaim

end
-- ==== Proof.lean ====
module

public import proofs.«01_k».proof.Defs
public import proofs.«01_k».proof.Proof.Gen.ScanBwd.Frame
public import proofs.«01_k».proof.Proof.Gen.ScanBwdIdeal.Frame
public import proofs.«01_k».proof.Proof.Gen.ScanBwdRefIdeal.Run
public import proofs.«01_k».proof.Proof.Gen.ScanBwdIdeal.Value
public import proofs.«01_k».proof.Proof.Gen.ScanBwdRefIdeal.Read
public import proofs.«01_k».proof.Proof.ScanClaim
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadIdeal.Value
public import proofs.«01_k».proof.Proof.Gen.LossHeadRefIdeal.Read
public import proofs.«01_k».proof.Proof.LossClaim
public import proofs.«01_k».proof.Proof.Gen.PostBwd.Frame
public import proofs.«01_k».proof.Proof.Gen.PostBwdIdeal.Frame
public import proofs.«01_k».proof.Proof.Gen.PostBwdRefIdeal.Run
public import proofs.«01_k».proof.Proof.Gen.PostBwdIdeal.Value
public import proofs.«01_k».proof.Proof.Gen.PostBwdRefIdeal.Read
public import proofs.«01_k».proof.Proof.PostClaim
public import proofs.«01_k».proof.Proof.Gen.FfnBwd.Frame
public import proofs.«01_k».proof.Proof.Gen.FfnBwdIdeal.Frame
public import proofs.«01_k».proof.Proof.Gen.FfnBwdRefIdeal.Run
public import proofs.«01_k».proof.Proof.Gen.FfnBwdIdeal.Value
public import proofs.«01_k».proof.Proof.Gen.FfnBwdRefIdeal.Read
public import proofs.«01_k».proof.Proof.FfnClaim
public import proofs.«01_k».proof.Proof.Gen.InprojBwd.Frame
public import proofs.«01_k».proof.Proof.Gen.InprojBwdIdeal.Frame
public import proofs.«01_k».proof.Proof.Gen.InprojBwdRefIdeal.Run
public import proofs.«01_k».proof.Proof.Gen.InprojBwdIdeal.Value
public import proofs.«01_k».proof.Proof.Gen.InprojBwdRefIdeal.Read
public import proofs.«01_k».proof.Proof.InprojClaim
public import proofs.«01_k».proof.Proof.Gen.FoxBwd.Frame
public import proofs.«01_k».proof.Proof.Gen.FoxBwdIdeal.Frame
public import proofs.«01_k».proof.Proof.Gen.FoxBwdRefIdeal.Run
public import proofs.«01_k».proof.Proof.Gen.FoxBwdIdeal.Value
public import proofs.«01_k».proof.Proof.Gen.FoxBwdRefIdeal.Read
public import proofs.«01_k».proof.Proof.FoxClaim
public import proofs.«01_k».proof.Proof.Gen.MlaBwd.Frame
public import proofs.«01_k».proof.Proof.Gen.MlaBwdIdeal.Frame
public import proofs.«01_k».proof.Proof.Gen.MlaBwdRefIdeal.Run
public import proofs.«01_k».proof.Proof.Gen.MlaBwdIdeal.Value
public import proofs.«01_k».proof.Proof.Gen.MlaBwdRefIdeal.Read
public import proofs.«01_k».proof.Proof.MlaClaim
public import proofs.«01_k».proof.Proof.Gen.MlaFwd.Frame
public import proofs.«01_k».proof.Proof.Gen.MlaFwdIdeal.Frame
public import proofs.«01_k».proof.Proof.Gen.MlaFwdRefIdeal.Run
public import proofs.«01_k».proof.Proof.Gen.MlaFwdRefIdeal.Read
public import proofs.«01_k».proof.Proof.MlafClaim
public import proofs.«01_k».proof.Proof.Gen.FoxFwd.Frame
public import proofs.«01_k».proof.Proof.Gen.FoxFwdIdeal.Frame
public import proofs.«01_k».proof.Proof.Gen.FoxFwdRefIdeal.Run
public import proofs.«01_k».proof.Proof.Gen.FoxFwdRefIdeal.Read
public import proofs.«01_k».proof.Proof.FoxfClaim
public import proofs.«01_k».proof.Proof.Gen.PostFwd.Frame
public import proofs.«01_k».proof.Proof.Gen.PostFwdIdeal.Frame
public import proofs.«01_k».proof.Proof.Gen.PostFwdRefIdeal.Run
public import proofs.«01_k».proof.Proof.Gen.PostFwdIdeal.Value
public import proofs.«01_k».proof.Proof.Gen.PostFwdRefIdeal.Read
public import proofs.«01_k».proof.Proof.PostfClaim
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.Gen.FfnFwdIdeal.Value
public import proofs.«01_k».proof.Proof.Gen.FfnFwdRefIdeal.Read
public import proofs.«01_k».proof.Proof.FfnfClaim
public import proofs.«01_k».proof.Proof.Gen.InprojFwd.Frame
public import proofs.«01_k».proof.Proof.Gen.InprojFwdIdeal.Frame
public import proofs.«01_k».proof.Proof.Gen.InprojFwdRefIdeal.Run
public import proofs.«01_k».proof.Proof.Gen.InprojFwdIdeal.Value
public import proofs.«01_k».proof.Proof.Gen.InprojFwdRefIdeal.Read
public import proofs.«01_k».proof.Proof.InprojfClaim
public import proofs.«01_k».proof.Proof.Gen.ScanFwd.Frame
public import proofs.«01_k».proof.Proof.Gen.ScanFwdIdeal.Frame
public import proofs.«01_k».proof.Proof.Gen.ScanFwdRefIdeal.Run
public import proofs.«01_k».proof.Proof.Gen.ScanFwdIdeal.Value
public import proofs.«01_k».proof.Proof.Gen.ScanFwdRefIdeal.Read
public import proofs.«01_k».proof.Proof.ScanfClaim
public import proofs.«01_k».proof.Proof.Gen.Wgrad.Frame
public import proofs.«01_k».proof.Proof.Gen.WgradIdeal.Frame
public import proofs.«01_k».proof.Proof.Gen.WgradRefIdeal.Run
public import proofs.«01_k».proof.Proof.Gen.WgradIdeal.Value
public import proofs.«01_k».proof.Proof.Gen.WgradRefIdeal.Read
public import proofs.«01_k».proof.Proof.WgradClaim
public import proofs.«01_k».proof.Proof.Gen.PrepFwd.Frame
public import proofs.«01_k».proof.Proof.Gen.PrepFwdIdeal.Frame
public import proofs.«01_k».proof.Proof.Gen.PrepFwdRefIdeal.Run
public import proofs.«01_k».proof.Proof.Gen.PrepFwdIdeal.Value
public import proofs.«01_k».proof.Proof.Gen.PrepFwdRefIdeal.Read
public import proofs.«01_k».proof.Proof.PrepfClaim
public import Idealize.ShloMosaic.Adequacy
public import Idealize.ShloMosaic.Init

@[expose] public section

noncomputable section

namespace Cert.Proof

open Idealize.ShloMosaic Idealize.SL.Sem

/-- The frame of `ScanBwdRefIdeal`: its run keeps the arguments, and it declares no semaphore. -/
theorem frame_scan : Cert.quiescent_ScanBwdRefIdeal (hScanBwdRefIdeal := Cert.ScanBwdRefIdeal.Gen.facts) := fun m ρ _ =>
  (θ_run Cert.ScanBwdRefIdeal.defs _ _).mono (fun r h => ⟨fun c => (h c).2,
      sem_eq_zero_of_no_sems (by decide) r.2⟩)
    (Cert.ScanBwdRefIdeal.Value.run (F := Ideal) m ρ)

/-- The frame of `LossHeadRefIdeal`: its run keeps the arguments, and it declares no semaphore. -/
theorem frame_loss : Cert.quiescent_LossHeadRefIdeal (hLossHeadRefIdeal := Cert.LossHeadRefIdeal.Gen.facts) := fun m ρ _ =>
  (θ_run Cert.LossHeadRefIdeal.defs _ _).mono (fun r h => ⟨fun c => (h c).2.2,
      sem_eq_zero_of_no_sems (by decide) r.2⟩)
    (Cert.LossHeadRefIdeal.Value.run (F := Ideal) m ρ)

/-- The frame of `PostBwdRefIdeal`: its run keeps the arguments, and it declares no semaphore. -/
theorem frame_post : Cert.quiescent_PostBwdRefIdeal (hPostBwdRefIdeal := Cert.PostBwdRefIdeal.Gen.facts) := fun m ρ _ =>
  (θ_run Cert.PostBwdRefIdeal.defs _ _).mono (fun r h => ⟨fun c => (h c).2.2.2.2.2.2,
      sem_eq_zero_of_no_sems (by decide) r.2⟩)
    (Cert.PostBwdRefIdeal.Value.run (F := Ideal) m ρ)

/-- The frame of `FfnBwdRefIdeal`: its run keeps the arguments, and it declares no semaphore. -/
theorem frame_ffn : Cert.quiescent_FfnBwdRefIdeal (hFfnBwdRefIdeal := Cert.FfnBwdRefIdeal.Gen.facts) := fun m ρ _ =>
  (θ_run Cert.FfnBwdRefIdeal.defs _ _).mono (fun r h => ⟨fun c => (h c).2.2.2.2.2,
      sem_eq_zero_of_no_sems (by decide) r.2⟩)
    (Cert.FfnBwdRefIdeal.Value.run (F := Ideal) m ρ)

/-- The frame of `InprojBwdRefIdeal`: its run keeps the arguments, and it declares no semaphore. -/
theorem frame_inproj : Cert.quiescent_InprojBwdRefIdeal (hInprojBwdRefIdeal := Cert.InprojBwdRefIdeal.Gen.facts) := fun m ρ _ =>
  (θ_run Cert.InprojBwdRefIdeal.defs _ _).mono (fun r h => ⟨fun c => (h c).2.2,
      sem_eq_zero_of_no_sems (by decide) r.2⟩)
    (Cert.InprojBwdRefIdeal.Value.run (F := Ideal) m ρ)

/-- The frame of `FoxBwdRefIdeal`: its run keeps the arguments, and it declares no semaphore. -/
theorem frame_fox : Cert.quiescent_FoxBwdRefIdeal (hFoxBwdRefIdeal := Cert.FoxBwdRefIdeal.Gen.facts) := fun m ρ _ =>
  (θ_run Cert.FoxBwdRefIdeal.defs _ _).mono (fun r h => ⟨fun c => (h c).2.2.2.2.2,
      sem_eq_zero_of_no_sems (by decide) r.2⟩)
    (Cert.FoxBwdRefIdeal.Value.run (F := Ideal) m ρ)

/-- The frame of `MlaBwdRefIdeal`: its run keeps the arguments, and it declares no semaphore. -/
theorem frame_mla : Cert.quiescent_MlaBwdRefIdeal (hMlaBwdRefIdeal := Cert.MlaBwdRefIdeal.Gen.facts) := fun m ρ _ =>
  (θ_run Cert.MlaBwdRefIdeal.defs _ _).mono (fun r h => ⟨fun c => (h c).2.2.2,
      sem_eq_zero_of_no_sems (by decide) r.2⟩)
    (Cert.MlaBwdRefIdeal.Value.run (F := Ideal) m ρ)

/-- The frame of `MlaFwdRefIdeal`: its run keeps the arguments, and it declares no semaphore. -/
theorem frame_mlaf : Cert.quiescent_MlaFwdRefIdeal (hMlaFwdRefIdeal := Cert.MlaFwdRefIdeal.Gen.facts) := fun m ρ _ =>
  (θ_run Cert.MlaFwdRefIdeal.defs _ _).mono (fun r h => ⟨fun c => (h c).2,
      sem_eq_zero_of_no_sems (by decide) r.2⟩)
    (Cert.MlaFwdRefIdeal.Value.run (F := Ideal) m ρ)

/-- The frame of `FoxFwdRefIdeal`: its run keeps the arguments, and it declares no semaphore. -/
theorem frame_foxf : Cert.quiescent_FoxFwdRefIdeal (hFoxFwdRefIdeal := Cert.FoxFwdRefIdeal.Gen.facts) := fun m ρ _ =>
  (θ_run Cert.FoxFwdRefIdeal.defs _ _).mono (fun r h => ⟨fun c => (h c).2,
      sem_eq_zero_of_no_sems (by decide) r.2⟩)
    (Cert.FoxFwdRefIdeal.Value.run (F := Ideal) m ρ)

/-- The frame of `PostFwdRefIdeal`: its run keeps the arguments, and it declares no semaphore. -/
theorem frame_postf : Cert.quiescent_PostFwdRefIdeal (hPostFwdRefIdeal := Cert.PostFwdRefIdeal.Gen.facts) := fun m ρ _ =>
  (θ_run Cert.PostFwdRefIdeal.defs _ _).mono (fun r h => ⟨fun c => (h c).2.2,
      sem_eq_zero_of_no_sems (by decide) r.2⟩)
    (Cert.PostFwdRefIdeal.Value.run (F := Ideal) m ρ)

/-- The frame of `FfnFwdRefIdeal`: its run keeps the arguments, and it declares no semaphore. -/
theorem frame_ffnf : Cert.quiescent_FfnFwdRefIdeal (hFfnFwdRefIdeal := Cert.FfnFwdRefIdeal.Gen.facts) := fun m ρ _ =>
  (θ_run Cert.FfnFwdRefIdeal.defs _ _).mono (fun r h => ⟨fun c => (h c).2,
      sem_eq_zero_of_no_sems (by decide) r.2⟩)
    (Cert.FfnFwdRefIdeal.Value.run (F := Ideal) m ρ)

/-- The frame of `InprojFwdRefIdeal`: its run keeps the arguments, and it declares no semaphore. -/
theorem frame_inprojf : Cert.quiescent_InprojFwdRefIdeal (hInprojFwdRefIdeal := Cert.InprojFwdRefIdeal.Gen.facts) := fun m ρ _ =>
  (θ_run Cert.InprojFwdRefIdeal.defs _ _).mono (fun r h => ⟨fun c => (h c).2.2,
      sem_eq_zero_of_no_sems (by decide) r.2⟩)
    (Cert.InprojFwdRefIdeal.Value.run (F := Ideal) m ρ)

/-- The frame of `ScanFwdRefIdeal`: its run keeps the arguments, and it declares no semaphore. -/
theorem frame_scanf : Cert.quiescent_ScanFwdRefIdeal (hScanFwdRefIdeal := Cert.ScanFwdRefIdeal.Gen.facts) := fun m ρ _ =>
  (θ_run Cert.ScanFwdRefIdeal.defs _ _).mono (fun r h => ⟨fun c => (h c).2,
      sem_eq_zero_of_no_sems (by decide) r.2⟩)
    (Cert.ScanFwdRefIdeal.Value.run (F := Ideal) m ρ)

/-- The frame of `WgradRefIdeal`: its run keeps the arguments, and it declares no semaphore. -/
theorem frame_wgrad : Cert.quiescent_WgradRefIdeal (hWgradRefIdeal := Cert.WgradRefIdeal.Gen.facts) := fun m ρ _ =>
  (θ_run Cert.WgradRefIdeal.defs _ _).mono (fun r h => ⟨fun c => (h c).2,
      sem_eq_zero_of_no_sems (by decide) r.2⟩)
    (Cert.WgradRefIdeal.Value.run (F := Ideal) m ρ)

/-- The frame of `PrepFwdRefIdeal`: its run keeps the arguments, and it declares no semaphore. -/
theorem frame_prepf : Cert.quiescent_PrepFwdRefIdeal (hPrepFwdRefIdeal := Cert.PrepFwdRefIdeal.Gen.facts) := fun m ρ _ =>
  (θ_run Cert.PrepFwdRefIdeal.defs _ _).mono (fun r h => ⟨fun c => (h c).2.2.2.2.2,
      sem_eq_zero_of_no_sems (by decide) r.2⟩)
    (Cert.PrepFwdRefIdeal.Value.run (F := Ideal) m ρ)

/-- The mask constant of `FoxBwdIdeal` is the value the table names, `-∞`. -/
theorem preserves_fox : Cert.preserves_FoxBwd_FoxBwdIdeal :=
  IdealRules.named_const.statement Cert.FoxBwdIdeal.κ "mask" .f32 0xF149F2CA#32 ⊥ rfl

/-- The mask constant and the scale of `MlaBwdIdeal` are the values the table names, `-∞` and `1 / √96`. -/
theorem preserves_mla : Cert.preserves_MlaBwd_MlaBwdIdeal :=
  ⟨IdealRules.named_const.statement _ _ _ _ _ rfl, IdealRules.named_const.statement _ _ _ _ _ rfl⟩

/-- The mask constant and the scale of `MlaFwdIdeal` are the values the table names, `-∞` and `1 / √96`. -/
theorem preserves_mlaf : Cert.preserves_MlaFwd_MlaFwdIdeal :=
  ⟨IdealRules.named_const.statement _ _ _ _ _ rfl, IdealRules.named_const.statement _ _ _ _ _ rfl⟩

/-- The mask constant of `FoxFwdIdeal` is the value the table names, `-∞`. -/
theorem preserves_foxf : Cert.preserves_FoxFwd_FoxFwdIdeal :=
  IdealRules.named_const.statement Cert.FoxFwdIdeal.κ "mask" .f32 0xF149F2CA#32 ⊥ rfl

/-- Everything the certificate claims. -/
theorem claim : Cert.Claim := ⟨Cert.ScanBwd.Gen.facts, Cert.ScanBwdIdeal.Gen.facts, Cert.ScanBwdRefIdeal.Gen.facts, Cert.LossHead.Gen.facts, Cert.LossHeadIdeal.Gen.facts, Cert.LossHeadRefIdeal.Gen.facts, Cert.PostBwd.Gen.facts, Cert.PostBwdIdeal.Gen.facts, Cert.PostBwdRefIdeal.Gen.facts, Cert.FfnBwd.Gen.facts, Cert.FfnBwdIdeal.Gen.facts, Cert.FfnBwdRefIdeal.Gen.facts, Cert.InprojBwd.Gen.facts, Cert.InprojBwdIdeal.Gen.facts, Cert.InprojBwdRefIdeal.Gen.facts, Cert.FoxBwd.Gen.facts, Cert.FoxBwdIdeal.Gen.facts, Cert.FoxBwdRefIdeal.Gen.facts, Cert.MlaBwd.Gen.facts, Cert.MlaBwdIdeal.Gen.facts, Cert.MlaBwdRefIdeal.Gen.facts, Cert.MlaFwd.Gen.facts, Cert.MlaFwdIdeal.Gen.facts, Cert.MlaFwdRefIdeal.Gen.facts, Cert.FoxFwd.Gen.facts, Cert.FoxFwdIdeal.Gen.facts, Cert.FoxFwdRefIdeal.Gen.facts, Cert.PostFwd.Gen.facts, Cert.PostFwdIdeal.Gen.facts, Cert.PostFwdRefIdeal.Gen.facts, Cert.FfnFwd.Gen.facts, Cert.FfnFwdIdeal.Gen.facts, Cert.FfnFwdRefIdeal.Gen.facts, Cert.InprojFwd.Gen.facts, Cert.InprojFwdIdeal.Gen.facts, Cert.InprojFwdRefIdeal.Gen.facts, Cert.ScanFwd.Gen.facts, Cert.ScanFwdIdeal.Gen.facts, Cert.ScanFwdRefIdeal.Gen.facts, Cert.Wgrad.Gen.facts, Cert.WgradIdeal.Gen.facts, Cert.WgradRefIdeal.Gen.facts, Cert.PrepFwd.Gen.facts, Cert.PrepFwdIdeal.Gen.facts, Cert.PrepFwdRefIdeal.Gen.facts, Cert.Pre_finite_ffn.Gen.facts, Cert.Pre_finite_inproj.Gen.facts, Cert.Pre_finite_fox.Gen.facts, Cert.Pre_finite_mla.Gen.facts, Cert.Pre_finite_mlaf.Gen.facts, Cert.Pre_finite_foxf.Gen.facts, Cert.Pre_finite_prepf.Gen.facts,
  fun m ρ _ => Cert.ScanBwd.Gen.frame m ρ,
  fun m ρ _ => Cert.ScanBwdIdeal.Gen.frame m ρ,
  frame_scan,
  fun m ρ _ => Cert.LossHead.Gen.frame m ρ,
  fun m ρ _ => Cert.LossHeadIdeal.Gen.frame m ρ,
  frame_loss,
  fun m ρ _ => Cert.PostBwd.Gen.frame m ρ,
  fun m ρ _ => Cert.PostBwdIdeal.Gen.frame m ρ,
  frame_post,
  fun m ρ _ => Cert.FfnBwd.Gen.frame m ρ,
  fun m ρ _ => Cert.FfnBwdIdeal.Gen.frame m ρ,
  fun m ρ _ => Cert.FfnBwdIdeal.Gen.frame m ρ,
  frame_ffn,
  fun m ρ _ => frame_ffn m ρ trivial,
  fun m ρ _ => Cert.InprojBwd.Gen.frame m ρ,
  fun m ρ _ => Cert.InprojBwdIdeal.Gen.frame m ρ,
  fun m ρ _ => Cert.InprojBwdIdeal.Gen.frame m ρ,
  frame_inproj,
  fun m ρ _ => frame_inproj m ρ trivial,
  fun m ρ _ => Cert.FoxBwd.Gen.frame m ρ,
  fun m ρ _ => Cert.FoxBwdIdeal.Gen.frame m ρ,
  fun m ρ _ => Cert.FoxBwdIdeal.Gen.frame m ρ,
  frame_fox,
  fun m ρ _ => frame_fox m ρ trivial,
  fun m ρ _ => Cert.MlaBwd.Gen.frame m ρ,
  fun m ρ _ => Cert.MlaBwdIdeal.Gen.frame m ρ,
  fun m ρ _ => Cert.MlaBwdIdeal.Gen.frame m ρ,
  frame_mla,
  fun m ρ _ => frame_mla m ρ trivial,
  fun m ρ _ => Cert.MlaFwd.Gen.frame m ρ,
  fun m ρ _ => Cert.MlaFwdIdeal.Gen.frame m ρ,
  fun m ρ _ => Cert.MlaFwdIdeal.Gen.frame m ρ,
  frame_mlaf,
  fun m ρ _ => frame_mlaf m ρ trivial,
  fun m ρ _ => Cert.FoxFwd.Gen.frame m ρ,
  fun m ρ _ => Cert.FoxFwdIdeal.Gen.frame m ρ,
  fun m ρ _ => Cert.FoxFwdIdeal.Gen.frame m ρ,
  frame_foxf,
  fun m ρ _ => frame_foxf m ρ trivial,
  fun m ρ _ => Cert.PostFwd.Gen.frame m ρ,
  fun m ρ _ => Cert.PostFwdIdeal.Gen.frame m ρ,
  frame_postf,
  fun m ρ _ => Cert.FfnFwd.Gen.frame m ρ,
  fun m ρ _ => Cert.FfnFwdIdeal.Gen.frame m ρ,
  frame_ffnf,
  fun m ρ _ => Cert.InprojFwd.Gen.frame m ρ,
  fun m ρ _ => Cert.InprojFwdIdeal.Gen.frame m ρ,
  frame_inprojf,
  fun m ρ _ => Cert.ScanFwd.Gen.frame m ρ,
  fun m ρ _ => Cert.ScanFwdIdeal.Gen.frame m ρ,
  frame_scanf,
  fun m ρ _ => Cert.Wgrad.Gen.frame m ρ,
  fun m ρ _ => Cert.WgradIdeal.Gen.frame m ρ,
  frame_wgrad,
  fun m ρ _ => Cert.PrepFwd.Gen.frame m ρ,
  fun m ρ _ => Cert.PrepFwdIdeal.Gen.frame m ρ,
  fun m ρ _ => Cert.PrepFwdIdeal.Gen.frame m ρ,
  frame_prepf,
  fun m ρ _ => frame_prepf m ρ trivial,
  trivial, Cert.ScanClaim.algebraic,
  trivial, Cert.LossClaim.algebraic,
  trivial, Cert.PostClaim.algebraic,
  trivial, Cert.FfnClaim.algebraic,
  trivial, Cert.InprojClaim.algebraic,
  preserves_fox, Cert.FoxClaim.algebraic,
  preserves_mla, Cert.MlaClaim.algebraic,
  preserves_mlaf, Cert.MlafClaim.algebraic,
  preserves_foxf, Cert.FoxfClaim.algebraic,
  trivial, Cert.PostfClaim.algebraic,
  trivial, Cert.FfnfClaim.algebraic,
  trivial, Cert.InprojfClaim.algebraic,
  trivial, Cert.ScanfClaim.algebraic,
  trivial, Cert.WgradClaim.algebraic,
  trivial, Cert.PrepfClaim.algebraic⟩

end Cert.Proof

end
